-- ==== Defs.lean ====
def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_finite [hPre_pool_finite : Cert.Pre_pool_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_finite.fn (F := Ideal) (m ((c.tc : Thread Cert.PoolBwdIdeal.nD Cert.PoolBwdIdeal.τ).loc Cert.PoolBwdIdeal.main_arg0))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_MmBwd (m : (ℓ : Loc Cert.MmBwd.nD Cert.MmBwd.τ Cert.MmBwd.sig) → Buf (Elt Bits) ℓ) : Prop :=
  True

def Pre_MmBwdIdeal (m : (ℓ : Loc Cert.MmBwdIdeal.nD Cert.MmBwdIdeal.τ Cert.MmBwdIdeal.sig) → Buf (Elt Ideal) ℓ) : Prop :=
  True

def Pre_MmBwdRefIdeal (m : (ℓ : Loc Cert.MmBwdRefIdeal.nD Cert.MmBwdRefIdeal.τ Cert.MmBwdRefIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxRefIdeal (m : (ℓ : Loc Cert.AInDxRefIdeal.nD Cert.AInDxRefIdeal.τ Cert.AInDxRefIdeal.sig) → Buf (Elt Ideal) ℓ) : Prop :=
  True

def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwRefIdeal (m : (ℓ : Loc Cert.AInDwRefIdeal.nD Cert.AInDwRefIdeal.τ Cert.AInDwRefIdeal.sig) → Buf (Elt Ideal) ℓ) : Prop :=
  True

def Pre_GrpDx (m : (ℓ : Loc Cert.GrpDx.nD Cert.GrpDx.τ Cert.GrpDx.sig) → Buf (Elt Bits) ℓ) : Prop :=
  True

def Pre_GrpDxIdeal (m : (ℓ : Loc Cert.GrpDxIdeal.nD Cert.GrpDxIdeal.τ Cert.GrpDxIdeal.sig) → Buf (Elt Ideal) ℓ) : Prop :=
  True

def Pre_GrpDxRefIdeal (m : (ℓ : Loc Cert.GrpDxRefIdeal.nD Cert.GrpDxRefIdeal.τ Cert.GrpDxRefIdeal.sig) → Buf (Elt Ideal) ℓ) : Prop :=
  True

def Pre_GrpDw (m : (ℓ : Loc Cert.GrpDw.nD Cert.GrpDw.τ Cert.GrpDw.sig) → Buf (Elt Bits) ℓ) : Prop :=
  True

def Pre_GrpDwIdeal (m : (ℓ : Loc Cert.GrpDwIdeal.nD Cert.GrpDwIdeal.τ Cert.GrpDwIdeal.sig) → Buf (Elt Ideal) ℓ) : Prop :=
  True

def Pre_GrpDwRefIdeal (m : (ℓ : Loc Cert.GrpDwRefIdeal.nD Cert.GrpDwRefIdeal.τ Cert.GrpDwRefIdeal.sig) → Buf (Elt Ideal) ℓ) : Prop :=
  True

def Pre_ScaleBwd (m : (ℓ : Loc Cert.ScaleBwd.nD Cert.ScaleBwd.τ Cert.ScaleBwd.sig) → Buf (Elt Bits) ℓ) : Prop :=
  True

def Pre_ScaleBwdIdeal (m : (ℓ : Loc Cert.ScaleBwdIdeal.nD Cert.ScaleBwdIdeal.τ Cert.ScaleBwdIdeal.sig) → Buf (Elt Ideal) ℓ) : Prop :=
  True

def Pre_ScaleBwdRefIdeal (m : (ℓ : Loc Cert.ScaleBwdRefIdeal.nD Cert.ScaleBwdRefIdeal.τ Cert.ScaleBwdRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_Grp (m : (ℓ : Loc Cert.Grp.nD Cert.Grp.τ Cert.Grp.sig) → Buf (Elt Bits) ℓ) : Prop :=
  True

def Pre_GrpIdeal (m : (ℓ : Loc Cert.GrpIdeal.nD Cert.GrpIdeal.τ Cert.GrpIdeal.sig) → Buf (Elt Ideal) ℓ) : Prop :=
  True

def Pre_GrpRefIdeal (m : (ℓ : Loc Cert.GrpRefIdeal.nD Cert.GrpRefIdeal.τ Cert.GrpRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGrp (m : (ℓ : Loc Cert.AdamGrp.nD Cert.AdamGrp.τ Cert.AdamGrp.sig) → Buf (Elt Bits) ℓ) : Prop :=
  True

def Pre_AdamGrpIdeal (m : (ℓ : Loc Cert.AdamGrpIdeal.nD Cert.AdamGrpIdeal.τ Cert.AdamGrpIdeal.sig) → Buf (Elt Ideal) ℓ) : Prop :=
  True

def Pre_AdamGrpRefIdeal (m : (ℓ : Loc Cert.AdamGrpRefIdeal.nD Cert.AdamGrpRefIdeal.τ Cert.AdamGrpRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamMlp1 (m : (ℓ : Loc Cert.AdamMlp1.nD Cert.AdamMlp1.τ Cert.AdamMlp1.sig) → Buf (Elt Bits) ℓ) : Prop :=
  True

def Pre_AdamMlp1Ideal (m : (ℓ : Loc Cert.AdamMlp1Ideal.nD Cert.AdamMlp1Ideal.τ Cert.AdamMlp1Ideal.sig) → Buf (Elt Ideal) ℓ) : Prop :=
  True

def Pre_AdamMlp1RefIdeal (m : (ℓ : Loc Cert.AdamMlp1RefIdeal.nD Cert.AdamMlp1RefIdeal.τ Cert.AdamMlp1RefIdeal.sig) → Buf (Elt Ideal) ℓ) : Prop :=
  True

def Pre_AdamPack (m : (ℓ : Loc Cert.AdamPack.nD Cert.AdamPack.τ Cert.AdamPack.sig) → Buf (Elt Bits) ℓ) : Prop :=
  True

def Pre_AdamPackIdeal (m : (ℓ : Loc Cert.AdamPackIdeal.nD Cert.AdamPackIdeal.τ Cert.AdamPackIdeal.sig) → Buf (Elt Ideal) ℓ) : Prop :=
  True

def Pre_AdamPackRefIdeal (m : (ℓ : Loc Cert.AdamPackRefIdeal.nD Cert.AdamPackRefIdeal.τ Cert.AdamPackRefIdeal.sig) → Buf (Elt Ideal) ℓ) : Prop :=
  True

def Pre_SumUnpack (m : (ℓ : Loc Cert.SumUnpack.nD Cert.SumUnpack.τ Cert.SumUnpack.sig) → Buf (Elt Bits) ℓ) : Prop :=
  True

def Pre_SumUnpackIdeal (m : (ℓ : Loc Cert.SumUnpackIdeal.nD Cert.SumUnpackIdeal.τ Cert.SumUnpackIdeal.sig) → Buf (Elt Ideal) ℓ) : Prop :=
  True

def Pre_SumUnpackRefIdeal (m : (ℓ : Loc Cert.SumUnpackRefIdeal.nD Cert.SumUnpackRefIdeal.τ Cert.SumUnpackRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_norm_finite [hPre_norm_finite : Cert.Pre_norm_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_norm_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_norm_finite [hPre_norm_finite : Cert.Pre_norm_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_norm_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_loss_finite [hPre_loss_finite : Cert.Pre_loss_finite.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_loss_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))) = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_loss_finite [hPre_loss_finite : Cert.Pre_loss_finite.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_loss_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_finite [hPre_pool_finite : Cert.Pre_pool_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_finite [hPre_pool_finite : Cert.Pre_pool_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_finite.fn (F := Ideal) (m ((c.tc : Thread Cert.PoolFwdRefIdeal.nD Cert.PoolFwdRefIdeal.τ).loc Cert.PoolFwdRefIdeal.main_arg0))) = (fun _ => 1#1)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ r.2.sem = fun _ => 0)

def quiescent_PoolBwdIdeal_pre_pool_finite [hPoolBwdIdeal : Cert.PoolBwdIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_MmBwd [hMmBwd : Cert.MmBwd.Facts] : Prop :=
  ∀ (m : (ℓ : Loc Cert.MmBwd.nD Cert.MmBwd.τ Cert.MmBwd.sig) → Buf (Elt Bits) ℓ) (g : Dev Cert.MmBwd.nD → PrngReg), Pre_MmBwd m →
    θ_run (Cert.MmBwd.defs (F := Bits)) (onTc (τ := Cert.MmBwd.τ) (Cert.MmBwd.main (F := Bits))) ⟨m, fun _ => 0, g⟩ (fun r => (∀ c : Dev Cert.MmBwd.nD,
      r.2.mem ((c.tc : Thread Cert.MmBwd.nD Cert.MmBwd.τ).loc Cert.MmBwd.main_arg0) = m ((c.tc : Thread Cert.MmBwd.nD Cert.MmBwd.τ).loc Cert.MmBwd.main_arg0)
      ∧ r.2.mem ((c.tc : Thread Cert.MmBwd.nD Cert.MmBwd.τ).loc Cert.MmBwd.main_arg1) = m ((c.tc : Thread Cert.MmBwd.nD Cert.MmBwd.τ).loc Cert.MmBwd.main_arg1)
      ∧ r.2.mem ((c.tc : Thread Cert.MmBwd.nD Cert.MmBwd.τ).loc Cert.MmBwd.main_arg2) = m ((c.tc : Thread Cert.MmBwd.nD Cert.MmBwd.τ).loc Cert.MmBwd.main_arg2))
      ∧ r.2.sem = fun _ => 0)

def quiescent_MmBwdIdeal [hMmBwdIdeal : Cert.MmBwdIdeal.Facts] : Prop :=
  ∀ (m : (ℓ : Loc Cert.MmBwdIdeal.nD Cert.MmBwdIdeal.τ Cert.MmBwdIdeal.sig) → Buf (Elt Ideal) ℓ) (g : Dev Cert.MmBwdIdeal.nD → PrngReg), Pre_MmBwdIdeal m →
    θ_run (Cert.MmBwdIdeal.defs (F := Ideal)) (onTc (τ := Cert.MmBwdIdeal.τ) (Cert.MmBwdIdeal.main (F := Ideal))) ⟨m, fun _ => 0, g⟩ (fun r => (∀ c : Dev Cert.MmBwdIdeal.nD,
      r.2.mem ((c.tc : Thread Cert.MmBwdIdeal.nD Cert.MmBwdIdeal.τ).loc Cert.MmBwdIdeal.main_arg0) = m ((c.tc : Thread Cert.MmBwdIdeal.nD Cert.MmBwdIdeal.τ).loc Cert.MmBwdIdeal.main_arg0)
      ∧ r.2.mem ((c.tc : Thread Cert.MmBwdIdeal.nD Cert.MmBwdIdeal.τ).loc Cert.MmBwdIdeal.main_arg1) = m ((c.tc : Thread Cert.MmBwdIdeal.nD Cert.MmBwdIdeal.τ).loc Cert.MmBwdIdeal.main_arg1)
      ∧ r.2.mem ((c.tc : Thread Cert.MmBwdIdeal.nD Cert.MmBwdIdeal.τ).loc Cert.MmBwdIdeal.main_arg2) = m ((c.tc : Thread Cert.MmBwdIdeal.nD Cert.MmBwdIdeal.τ).loc Cert.MmBwdIdeal.main_arg2))
      ∧ r.2.sem = fun _ => 0)

def quiescent_MmBwdRefIdeal [hMmBwdRefIdeal : Cert.MmBwdRefIdeal.Facts] : Prop :=
  ∀ (m : (ℓ : Loc Cert.MmBwdRefIdeal.nD Cert.MmBwdRefIdeal.τ Cert.MmBwdRefIdeal.sig) → Buf (Elt Ideal) ℓ) (g : Dev Cert.MmBwdRefIdeal.nD → PrngReg), Pre_MmBwdRefIdeal m →
    θ_run (Cert.MmBwdRefIdeal.defs (F := Ideal)) (onTc (τ := Cert.MmBwdRefIdeal.τ) (Cert.MmBwdRefIdeal.main (F := Ideal))) ⟨m, fun _ => 0, g⟩ (fun r => (∀ c : Dev Cert.MmBwdRefIdeal.nD,
      r.2.mem ((c.tc : Thread Cert.MmBwdRefIdeal.nD Cert.MmBwdRefIdeal.τ).loc Cert.MmBwdRefIdeal.main_arg0) = m ((c.tc : Thread Cert.MmBwdRefIdeal.nD Cert.MmBwdRefIdeal.τ).loc Cert.MmBwdRefIdeal.main_arg0)
      ∧ r.2.mem ((c.tc : Thread Cert.MmBwdRefIdeal.nD Cert.MmBwdRefIdeal.τ).loc Cert.MmBwdRefIdeal.main_arg1) = m ((c.tc : Thread Cert.MmBwdRefIdeal.nD Cert.MmBwdRefIdeal.τ).loc Cert.MmBwdRefIdeal.main_arg1)
      ∧ r.2.mem ((c.tc : Thread Cert.MmBwdRefIdeal.nD Cert.MmBwdRefIdeal.τ).loc Cert.MmBwdRefIdeal.main_arg2) = m ((c.tc : Thread Cert.MmBwdRefIdeal.nD Cert.MmBwdRefIdeal.τ).loc Cert.MmBwdRefIdeal.main_arg2))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ r.2.sem = fun _ => 0)

def quiescent_AInDxRefIdeal [hAInDxRefIdeal : Cert.AInDxRefIdeal.Facts] : Prop :=
  ∀ (m : (ℓ : Loc Cert.AInDxRefIdeal.nD Cert.AInDxRefIdeal.τ Cert.AInDxRefIdeal.sig) → Buf (Elt Ideal) ℓ) (g : Dev Cert.AInDxRefIdeal.nD → PrngReg), Pre_AInDxRefIdeal m →
    θ_run (Cert.AInDxRefIdeal.defs (F := Ideal)) (onTc (τ := Cert.AInDxRefIdeal.τ) (Cert.AInDxRefIdeal.main (F := Ideal))) ⟨m, fun _ => 0, g⟩ (fun r => (∀ c : Dev Cert.AInDxRefIdeal.nD,
      r.2.mem ((c.tc : Thread Cert.AInDxRefIdeal.nD Cert.AInDxRefIdeal.τ).loc Cert.AInDxRefIdeal.main_arg0) = m ((c.tc : Thread Cert.AInDxRefIdeal.nD Cert.AInDxRefIdeal.τ).loc Cert.AInDxRefIdeal.main_arg0)
      ∧ r.2.mem ((c.tc : Thread Cert.AInDxRefIdeal.nD Cert.AInDxRefIdeal.τ).loc Cert.AInDxRefIdeal.main_arg1) = m ((c.tc : Thread Cert.AInDxRefIdeal.nD Cert.AInDxRefIdeal.τ).loc Cert.AInDxRefIdeal.main_arg1))
      ∧ r.2.sem = fun _ => 0)

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ r.2.sem = fun _ => 0)

def quiescent_AInDwRefIdeal [hAInDwRefIdeal : Cert.AInDwRefIdeal.Facts] : Prop :=
  ∀ (m : (ℓ : Loc Cert.AInDwRefIdeal.nD Cert.AInDwRefIdeal.τ Cert.AInDwRefIdeal.sig) → Buf (Elt Ideal) ℓ) (g : Dev Cert.AInDwRefIdeal.nD → PrngReg), Pre_AInDwRefIdeal m →
    θ_run (Cert.AInDwRefIdeal.defs (F := Ideal)) (onTc (τ := Cert.AInDwRefIdeal.τ) (Cert.AInDwRefIdeal.main (F := Ideal))) ⟨m, fun _ => 0, g⟩ (fun r => (∀ c : Dev Cert.AInDwRefIdeal.nD,
      r.2.mem ((c.tc : Thread Cert.AInDwRefIdeal.nD Cert.AInDwRefIdeal.τ).loc Cert.AInDwRefIdeal.main_arg0) = m ((c.tc : Thread Cert.AInDwRefIdeal.nD Cert.AInDwRefIdeal.τ).loc Cert.AInDwRefIdeal.main_arg0)
      ∧ r.2.mem ((c.tc : Thread Cert.AInDwRefIdeal.nD Cert.AInDwRefIdeal.τ).loc Cert.AInDwRefIdeal.main_arg1) = m ((c.tc : Thread Cert.AInDwRefIdeal.nD Cert.AInDwRefIdeal.τ).loc Cert.AInDwRefIdeal.main_arg1))
      ∧ r.2.sem = fun _ => 0)

def quiescent_GrpDx [hGrpDx : Cert.GrpDx.Facts] : Prop :=
  ∀ (m : (ℓ : Loc Cert.GrpDx.nD Cert.GrpDx.τ Cert.GrpDx.sig) → Buf (Elt Bits) ℓ) (g : Dev Cert.GrpDx.nD → PrngReg), Pre_GrpDx m →
    θ_run (Cert.GrpDx.defs (F := Bits)) (onTc (τ := Cert.GrpDx.τ) (Cert.GrpDx.main (F := Bits))) ⟨m, fun _ => 0, g⟩ (fun r => (∀ c : Dev Cert.GrpDx.nD,
      r.2.mem ((c.tc : Thread Cert.GrpDx.nD Cert.GrpDx.τ).loc Cert.GrpDx.main_arg0) = m ((c.tc : Thread Cert.GrpDx.nD Cert.GrpDx.τ).loc Cert.GrpDx.main_arg0)
      ∧ r.2.mem ((c.tc : Thread Cert.GrpDx.nD Cert.GrpDx.τ).loc Cert.GrpDx.main_arg1) = m ((c.tc : Thread Cert.GrpDx.nD Cert.GrpDx.τ).loc Cert.GrpDx.main_arg1))
      ∧ r.2.sem = fun _ => 0)

def quiescent_GrpDxIdeal [hGrpDxIdeal : Cert.GrpDxIdeal.Facts] : Prop :=
  ∀ (m : (ℓ : Loc Cert.GrpDxIdeal.nD Cert.GrpDxIdeal.τ Cert.GrpDxIdeal.sig) → Buf (Elt Ideal) ℓ) (g : Dev Cert.GrpDxIdeal.nD → PrngReg), Pre_GrpDxIdeal m →
    θ_run (Cert.GrpDxIdeal.defs (F := Ideal)) (onTc (τ := Cert.GrpDxIdeal.τ) (Cert.GrpDxIdeal.main (F := Ideal))) ⟨m, fun _ => 0, g⟩ (fun r => (∀ c : Dev Cert.GrpDxIdeal.nD,
      r.2.mem ((c.tc : Thread Cert.GrpDxIdeal.nD Cert.GrpDxIdeal.τ).loc Cert.GrpDxIdeal.main_arg0) = m ((c.tc : Thread Cert.GrpDxIdeal.nD Cert.GrpDxIdeal.τ).loc Cert.GrpDxIdeal.main_arg0)
      ∧ r.2.mem ((c.tc : Thread Cert.GrpDxIdeal.nD Cert.GrpDxIdeal.τ).loc Cert.GrpDxIdeal.main_arg1) = m ((c.tc : Thread Cert.GrpDxIdeal.nD Cert.GrpDxIdeal.τ).loc Cert.GrpDxIdeal.main_arg1))
      ∧ r.2.sem = fun _ => 0)

def quiescent_GrpDxRefIdeal [hGrpDxRefIdeal : Cert.GrpDxRefIdeal.Facts] : Prop :=
  ∀ (m : (ℓ : Loc Cert.GrpDxRefIdeal.nD Cert.GrpDxRefIdeal.τ Cert.GrpDxRefIdeal.sig) → Buf (Elt Ideal) ℓ) (g : Dev Cert.GrpDxRefIdeal.nD → PrngReg), Pre_GrpDxRefIdeal m →
    θ_run (Cert.GrpDxRefIdeal.defs (F := Ideal)) (onTc (τ := Cert.GrpDxRefIdeal.τ) (Cert.GrpDxRefIdeal.main (F := Ideal))) ⟨m, fun _ => 0, g⟩ (fun r => (∀ c : Dev Cert.GrpDxRefIdeal.nD,
      r.2.mem ((c.tc : Thread Cert.GrpDxRefIdeal.nD Cert.GrpDxRefIdeal.τ).loc Cert.GrpDxRefIdeal.main_arg0) = m ((c.tc : Thread Cert.GrpDxRefIdeal.nD Cert.GrpDxRefIdeal.τ).loc Cert.GrpDxRefIdeal.main_arg0)
      ∧ r.2.mem ((c.tc : Thread Cert.GrpDxRefIdeal.nD Cert.GrpDxRefIdeal.τ).loc Cert.GrpDxRefIdeal.main_arg1) = m ((c.tc : Thread Cert.GrpDxRefIdeal.nD Cert.GrpDxRefIdeal.τ).loc Cert.GrpDxRefIdeal.main_arg1))
      ∧ r.2.sem = fun _ => 0)

def quiescent_GrpDw [hGrpDw : Cert.GrpDw.Facts] : Prop :=
  ∀ (m : (ℓ : Loc Cert.GrpDw.nD Cert.GrpDw.τ Cert.GrpDw.sig) → Buf (Elt Bits) ℓ) (g : Dev Cert.GrpDw.nD → PrngReg), Pre_GrpDw m →
    θ_run (Cert.GrpDw.defs (F := Bits)) (onTc (τ := Cert.GrpDw.τ) (Cert.GrpDw.main (F := Bits))) ⟨m, fun _ => 0, g⟩ (fun r => (∀ c : Dev Cert.GrpDw.nD,
      r.2.mem ((c.tc : Thread Cert.GrpDw.nD Cert.GrpDw.τ).loc Cert.GrpDw.main_arg0) = m ((c.tc : Thread Cert.GrpDw.nD Cert.GrpDw.τ).loc Cert.GrpDw.main_arg0)
      ∧ r.2.mem ((c.tc : Thread Cert.GrpDw.nD Cert.GrpDw.τ).loc Cert.GrpDw.main_arg1) = m ((c.tc : Thread Cert.GrpDw.nD Cert.GrpDw.τ).loc Cert.GrpDw.main_arg1))
      ∧ r.2.sem = fun _ => 0)

def quiescent_GrpDwIdeal [hGrpDwIdeal : Cert.GrpDwIdeal.Facts] : Prop :=
  ∀ (m : (ℓ : Loc Cert.GrpDwIdeal.nD Cert.GrpDwIdeal.τ Cert.GrpDwIdeal.sig) → Buf (Elt Ideal) ℓ) (g : Dev Cert.GrpDwIdeal.nD → PrngReg), Pre_GrpDwIdeal m →
    θ_run (Cert.GrpDwIdeal.defs (F := Ideal)) (onTc (τ := Cert.GrpDwIdeal.τ) (Cert.GrpDwIdeal.main (F := Ideal))) ⟨m, fun _ => 0, g⟩ (fun r => (∀ c : Dev Cert.GrpDwIdeal.nD,
      r.2.mem ((c.tc : Thread Cert.GrpDwIdeal.nD Cert.GrpDwIdeal.τ).loc Cert.GrpDwIdeal.main_arg0) = m ((c.tc : Thread Cert.GrpDwIdeal.nD Cert.GrpDwIdeal.τ).loc Cert.GrpDwIdeal.main_arg0)
      ∧ r.2.mem ((c.tc : Thread Cert.GrpDwIdeal.nD Cert.GrpDwIdeal.τ).loc Cert.GrpDwIdeal.main_arg1) = m ((c.tc : Thread Cert.GrpDwIdeal.nD Cert.GrpDwIdeal.τ).loc Cert.GrpDwIdeal.main_arg1))
      ∧ r.2.sem = fun _ => 0)

def quiescent_GrpDwRefIdeal [hGrpDwRefIdeal : Cert.GrpDwRefIdeal.Facts] : Prop :=
  ∀ (m : (ℓ : Loc Cert.GrpDwRefIdeal.nD Cert.GrpDwRefIdeal.τ Cert.GrpDwRefIdeal.sig) → Buf (Elt Ideal) ℓ) (g : Dev Cert.GrpDwRefIdeal.nD → PrngReg), Pre_GrpDwRefIdeal m →
    θ_run (Cert.GrpDwRefIdeal.defs (F := Ideal)) (onTc (τ := Cert.GrpDwRefIdeal.τ) (Cert.GrpDwRefIdeal.main (F := Ideal))) ⟨m, fun _ => 0, g⟩ (fun r => (∀ c : Dev Cert.GrpDwRefIdeal.nD,
      r.2.mem ((c.tc : Thread Cert.GrpDwRefIdeal.nD Cert.GrpDwRefIdeal.τ).loc Cert.GrpDwRefIdeal.main_arg0) = m ((c.tc : Thread Cert.GrpDwRefIdeal.nD Cert.GrpDwRefIdeal.τ).loc Cert.GrpDwRefIdeal.main_arg0)
      ∧ r.2.mem ((c.tc : Thread Cert.GrpDwRefIdeal.nD Cert.GrpDwRefIdeal.τ).loc Cert.GrpDwRefIdeal.main_arg1) = m ((c.tc : Thread Cert.GrpDwRefIdeal.nD Cert.GrpDwRefIdeal.τ).loc Cert.GrpDwRefIdeal.main_arg1))
      ∧ r.2.sem = fun _ => 0)

def quiescent_ScaleBwd [hScaleBwd : Cert.ScaleBwd.Facts] : Prop :=
  ∀ (m : (ℓ : Loc Cert.ScaleBwd.nD Cert.ScaleBwd.τ Cert.ScaleBwd.sig) → Buf (Elt Bits) ℓ) (g : Dev Cert.ScaleBwd.nD → PrngReg), Pre_ScaleBwd m →
    θ_run (Cert.ScaleBwd.defs (F := Bits)) (onTc (τ := Cert.ScaleBwd.τ) (Cert.ScaleBwd.main (F := Bits))) ⟨m, fun _ => 0, g⟩ (fun r => (∀ c : Dev Cert.ScaleBwd.nD,
      r.2.mem ((c.tc : Thread Cert.ScaleBwd.nD Cert.ScaleBwd.τ).loc Cert.ScaleBwd.main_arg0) = m ((c.tc : Thread Cert.ScaleBwd.nD Cert.ScaleBwd.τ).loc Cert.ScaleBwd.main_arg0)
      ∧ r.2.mem ((c.tc : Thread Cert.ScaleBwd.nD Cert.ScaleBwd.τ).loc Cert.ScaleBwd.main_arg1) = m ((c.tc : Thread Cert.ScaleBwd.nD Cert.ScaleBwd.τ).loc Cert.ScaleBwd.main_arg1)
      ∧ r.2.mem ((c.tc : Thread Cert.ScaleBwd.nD Cert.ScaleBwd.τ).loc Cert.ScaleBwd.main_arg2) = m ((c.tc : Thread Cert.ScaleBwd.nD Cert.ScaleBwd.τ).loc Cert.ScaleBwd.main_arg2))
      ∧ r.2.sem = fun _ => 0)

def quiescent_ScaleBwdIdeal [hScaleBwdIdeal : Cert.ScaleBwdIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg), Pre_ScaleBwdIdeal m →
    θ_run (Cert.ScaleBwdIdeal.defs (F := Ideal)) (onTc (τ := Cert.ScaleBwdIdeal.τ) (Cert.ScaleBwdIdeal.main (F := Ideal))) ⟨m, fun _ => 0, g⟩ (fun r => (∀ c : Dev Cert.ScaleBwdIdeal.nD,
      r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
      ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
      ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ r.2.sem = fun _ => 0)

def quiescent_ScaleBwdRefIdeal [hScaleBwdRefIdeal : Cert.ScaleBwdRefIdeal.Facts] : Prop :=
  ∀ (m : (ℓ : Loc Cert.ScaleBwdRefIdeal.nD Cert.ScaleBwdRefIdeal.τ Cert.ScaleBwdRefIdeal.sig) → Buf (Elt Ideal) ℓ) (g : Dev Cert.ScaleBwdRefIdeal.nD → PrngReg), Pre_ScaleBwdRefIdeal m →
    θ_run (Cert.ScaleBwdRefIdeal.defs (F := Ideal)) (onTc (τ := Cert.ScaleBwdRefIdeal.τ) (Cert.ScaleBwdRefIdeal.main (F := Ideal))) ⟨m, fun _ => 0, g⟩ (fun r => (∀ c : Dev Cert.ScaleBwdRefIdeal.nD,
      r.2.mem ((c.tc : Thread Cert.ScaleBwdRefIdeal.nD Cert.ScaleBwdRefIdeal.τ).loc Cert.ScaleBwdRefIdeal.main_arg0) = m ((c.tc : Thread Cert.ScaleBwdRefIdeal.nD Cert.ScaleBwdRefIdeal.τ).loc Cert.ScaleBwdRefIdeal.main_arg0)
      ∧ r.2.mem ((c.tc : Thread Cert.ScaleBwdRefIdeal.nD Cert.ScaleBwdRefIdeal.τ).loc Cert.ScaleBwdRefIdeal.main_arg1) = m ((c.tc : Thread Cert.ScaleBwdRefIdeal.nD Cert.ScaleBwdRefIdeal.τ).loc Cert.ScaleBwdRefIdeal.main_arg1)
      ∧ r.2.mem ((c.tc : Thread Cert.ScaleBwdRefIdeal.nD Cert.ScaleBwdRefIdeal.τ).loc Cert.ScaleBwdRefIdeal.main_arg2) = m ((c.tc : Thread Cert.ScaleBwdRefIdeal.nD Cert.ScaleBwdRefIdeal.τ).loc Cert.ScaleBwdRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1)
      ∧ r.2.mem ((c.tc : Thread Cert.Down1RefIdeal.nD Cert.Down1RefIdeal.τ).loc Cert.Down1RefIdeal.main_arg2) = m ((c.tc : Thread Cert.Down1RefIdeal.nD Cert.Down1RefIdeal.τ).loc Cert.Down1RefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1))
      ∧ r.2.sem = fun _ => 0)

def quiescent_Grp [hGrp : Cert.Grp.Facts] : Prop :=
  ∀ (m : (ℓ : Loc Cert.Grp.nD Cert.Grp.τ Cert.Grp.sig) → Buf (Elt Bits) ℓ) (g : Dev Cert.Grp.nD → PrngReg), Pre_Grp m →
    θ_run (Cert.Grp.defs (F := Bits)) (onTc (τ := Cert.Grp.τ) (Cert.Grp.main (F := Bits))) ⟨m, fun _ => 0, g⟩ (fun r => (∀ c : Dev Cert.Grp.nD,
      r.2.mem ((c.tc : Thread Cert.Grp.nD Cert.Grp.τ).loc Cert.Grp.main_arg0) = m ((c.tc : Thread Cert.Grp.nD Cert.Grp.τ).loc Cert.Grp.main_arg0)
      ∧ r.2.mem ((c.tc : Thread Cert.Grp.nD Cert.Grp.τ).loc Cert.Grp.main_arg1) = m ((c.tc : Thread Cert.Grp.nD Cert.Grp.τ).loc Cert.Grp.main_arg1)
      ∧ r.2.mem ((c.tc : Thread Cert.Grp.nD Cert.Grp.τ).loc Cert.Grp.main_arg2) = m ((c.tc : Thread Cert.Grp.nD Cert.Grp.τ).loc Cert.Grp.main_arg2))
      ∧ r.2.sem = fun _ => 0)

def quiescent_GrpIdeal [hGrpIdeal : Cert.GrpIdeal.Facts] : Prop :=
  ∀ (m : (ℓ : Loc Cert.GrpIdeal.nD Cert.GrpIdeal.τ Cert.GrpIdeal.sig) → Buf (Elt Ideal) ℓ) (g : Dev Cert.GrpIdeal.nD → PrngReg), Pre_GrpIdeal m →
    θ_run (Cert.GrpIdeal.defs (F := Ideal)) (onTc (τ := Cert.GrpIdeal.τ) (Cert.GrpIdeal.main (F := Ideal))) ⟨m, fun _ => 0, g⟩ (fun r => (∀ c : Dev Cert.GrpIdeal.nD,
      r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
      ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
      ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2))
      ∧ r.2.sem = fun _ => 0)

def quiescent_GrpRefIdeal [hGrpRefIdeal : Cert.GrpRefIdeal.Facts] : Prop :=
  ∀ (m : (ℓ : Loc Cert.GrpRefIdeal.nD Cert.GrpRefIdeal.τ Cert.GrpRefIdeal.sig) → Buf (Elt Ideal) ℓ) (g : Dev Cert.GrpRefIdeal.nD → PrngReg), Pre_GrpRefIdeal m →
    θ_run (Cert.GrpRefIdeal.defs (F := Ideal)) (onTc (τ := Cert.GrpRefIdeal.τ) (Cert.GrpRefIdeal.main (F := Ideal))) ⟨m, fun _ => 0, g⟩ (fun r => (∀ c : Dev Cert.GrpRefIdeal.nD,
      r.2.mem ((c.tc : Thread Cert.GrpRefIdeal.nD Cert.GrpRefIdeal.τ).loc Cert.GrpRefIdeal.main_arg0) = m ((c.tc : Thread Cert.GrpRefIdeal.nD Cert.GrpRefIdeal.τ).loc Cert.GrpRefIdeal.main_arg0)
      ∧ r.2.mem ((c.tc : Thread Cert.GrpRefIdeal.nD Cert.GrpRefIdeal.τ).loc Cert.GrpRefIdeal.main_arg1) = m ((c.tc : Thread Cert.GrpRefIdeal.nD Cert.GrpRefIdeal.τ).loc Cert.GrpRefIdeal.main_arg1)
      ∧ r.2.mem ((c.tc : Thread Cert.GrpRefIdeal.nD Cert.GrpRefIdeal.τ).loc Cert.GrpRefIdeal.main_arg2) = m ((c.tc : Thread Cert.GrpRefIdeal.nD Cert.GrpRefIdeal.τ).loc Cert.GrpRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGrp [hAdamGrp : Cert.AdamGrp.Facts] : Prop :=
  ∀ (m : (ℓ : Loc Cert.AdamGrp.nD Cert.AdamGrp.τ Cert.AdamGrp.sig) → Buf (Elt Bits) ℓ) (g : Dev Cert.AdamGrp.nD → PrngReg), Pre_AdamGrp m →
    θ_run (Cert.AdamGrp.defs (F := Bits)) (onTc (τ := Cert.AdamGrp.τ) (Cert.AdamGrp.main (F := Bits))) ⟨m, fun _ => 0, g⟩ (fun r => (∀ c : Dev Cert.AdamGrp.nD,
      r.2.mem ((c.tc : Thread Cert.AdamGrp.nD Cert.AdamGrp.τ).loc Cert.AdamGrp.main_arg0) = m ((c.tc : Thread Cert.AdamGrp.nD Cert.AdamGrp.τ).loc Cert.AdamGrp.main_arg0)
      ∧ r.2.mem ((c.tc : Thread Cert.AdamGrp.nD Cert.AdamGrp.τ).loc Cert.AdamGrp.main_arg1) = m ((c.tc : Thread Cert.AdamGrp.nD Cert.AdamGrp.τ).loc Cert.AdamGrp.main_arg1)
      ∧ r.2.mem ((c.tc : Thread Cert.AdamGrp.nD Cert.AdamGrp.τ).loc Cert.AdamGrp.main_arg2) = m ((c.tc : Thread Cert.AdamGrp.nD Cert.AdamGrp.τ).loc Cert.AdamGrp.main_arg2)
      ∧ r.2.mem ((c.tc : Thread Cert.AdamGrp.nD Cert.AdamGrp.τ).loc Cert.AdamGrp.main_arg3) = m ((c.tc : Thread Cert.AdamGrp.nD Cert.AdamGrp.τ).loc Cert.AdamGrp.main_arg3))
      ∧ r.2.sem = fun _ => 0)

def quiescent_AdamGrpIdeal [hAdamGrpIdeal : Cert.AdamGrpIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg), Pre_AdamGrpIdeal m →
    θ_run (Cert.AdamGrpIdeal.defs (F := Ideal)) (onTc (τ := Cert.AdamGrpIdeal.τ) (Cert.AdamGrpIdeal.main (F := Ideal))) ⟨m, fun _ => 0, g⟩ (fun r => (∀ c : Dev Cert.AdamGrpIdeal.nD,
      r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
      ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
      ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
      ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3))
      ∧ r.2.sem = fun _ => 0)

def quiescent_AdamGrpRefIdeal [hAdamGrpRefIdeal : Cert.AdamGrpRefIdeal.Facts] : Prop :=
  ∀ (m : (ℓ : Loc Cert.AdamGrpRefIdeal.nD Cert.AdamGrpRefIdeal.τ Cert.AdamGrpRefIdeal.sig) → Buf (Elt Ideal) ℓ) (g : Dev Cert.AdamGrpRefIdeal.nD → PrngReg), Pre_AdamGrpRefIdeal m →
    θ_run (Cert.AdamGrpRefIdeal.defs (F := Ideal)) (onTc (τ := Cert.AdamGrpRefIdeal.τ) (Cert.AdamGrpRefIdeal.main (F := Ideal))) ⟨m, fun _ => 0, g⟩ (fun r => (∀ c : Dev Cert.AdamGrpRefIdeal.nD,
      r.2.mem ((c.tc : Thread Cert.AdamGrpRefIdeal.nD Cert.AdamGrpRefIdeal.τ).loc Cert.AdamGrpRefIdeal.main_arg0) = m ((c.tc : Thread Cert.AdamGrpRefIdeal.nD Cert.AdamGrpRefIdeal.τ).loc Cert.AdamGrpRefIdeal.main_arg0)
      ∧ r.2.mem ((c.tc : Thread Cert.AdamGrpRefIdeal.nD Cert.AdamGrpRefIdeal.τ).loc Cert.AdamGrpRefIdeal.main_arg1) = m ((c.tc : Thread Cert.AdamGrpRefIdeal.nD Cert.AdamGrpRefIdeal.τ).loc Cert.AdamGrpRefIdeal.main_arg1)
      ∧ r.2.mem ((c.tc : Thread Cert.AdamGrpRefIdeal.nD Cert.AdamGrpRefIdeal.τ).loc Cert.AdamGrpRefIdeal.main_arg2) = m ((c.tc : Thread Cert.AdamGrpRefIdeal.nD Cert.AdamGrpRefIdeal.τ).loc Cert.AdamGrpRefIdeal.main_arg2)
      ∧ r.2.mem ((c.tc : Thread Cert.AdamGrpRefIdeal.nD Cert.AdamGrpRefIdeal.τ).loc Cert.AdamGrpRefIdeal.main_arg3) = m ((c.tc : Thread Cert.AdamGrpRefIdeal.nD Cert.AdamGrpRefIdeal.τ).loc Cert.AdamGrpRefIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3)
      ∧ r.2.mem ((c.tc : Thread Cert.AdamMlp.nD Cert.AdamMlp.τ).loc Cert.AdamMlp.main_arg4) = m ((c.tc : Thread Cert.AdamMlp.nD Cert.AdamMlp.τ).loc Cert.AdamMlp.main_arg4)
      ∧ r.2.mem ((c.tc : Thread Cert.AdamMlp.nD Cert.AdamMlp.τ).loc Cert.AdamMlp.main_arg5) = m ((c.tc : Thread Cert.AdamMlp.nD Cert.AdamMlp.τ).loc Cert.AdamMlp.main_arg5)
      ∧ r.2.mem ((c.tc : Thread Cert.AdamMlp.nD Cert.AdamMlp.τ).loc Cert.AdamMlp.main_arg6) = m ((c.tc : Thread Cert.AdamMlp.nD Cert.AdamMlp.τ).loc Cert.AdamMlp.main_arg6)
      ∧ r.2.mem ((c.tc : Thread Cert.AdamMlp.nD Cert.AdamMlp.τ).loc Cert.AdamMlp.main_arg7) = m ((c.tc : Thread Cert.AdamMlp.nD Cert.AdamMlp.τ).loc Cert.AdamMlp.main_arg7))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
      ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
      ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
      ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
      ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3)
      ∧ r.2.mem ((c.tc : Thread Cert.AdamMlpRefIdeal.nD Cert.AdamMlpRefIdeal.τ).loc Cert.AdamMlpRefIdeal.main_arg4) = m ((c.tc : Thread Cert.AdamMlpRefIdeal.nD Cert.AdamMlpRefIdeal.τ).loc Cert.AdamMlpRefIdeal.main_arg4)
      ∧ r.2.mem ((c.tc : Thread Cert.AdamMlpRefIdeal.nD Cert.AdamMlpRefIdeal.τ).loc Cert.AdamMlpRefIdeal.main_arg5) = m ((c.tc : Thread Cert.AdamMlpRefIdeal.nD Cert.AdamMlpRefIdeal.τ).loc Cert.AdamMlpRefIdeal.main_arg5)
      ∧ r.2.mem ((c.tc : Thread Cert.AdamMlpRefIdeal.nD Cert.AdamMlpRefIdeal.τ).loc Cert.AdamMlpRefIdeal.main_arg6) = m ((c.tc : Thread Cert.AdamMlpRefIdeal.nD Cert.AdamMlpRefIdeal.τ).loc Cert.AdamMlpRefIdeal.main_arg6)
      ∧ r.2.mem ((c.tc : Thread Cert.AdamMlpRefIdeal.nD Cert.AdamMlpRefIdeal.τ).loc Cert.AdamMlpRefIdeal.main_arg7) = m ((c.tc : Thread Cert.AdamMlpRefIdeal.nD Cert.AdamMlpRefIdeal.τ).loc Cert.AdamMlpRefIdeal.main_arg7))
      ∧ r.2.sem = fun _ => 0)

def quiescent_AdamMlp1 [hAdamMlp1 : Cert.AdamMlp1.Facts] : Prop :=
  ∀ (m : (ℓ : Loc Cert.AdamMlp1.nD Cert.AdamMlp1.τ Cert.AdamMlp1.sig) → Buf (Elt Bits) ℓ) (g : Dev Cert.AdamMlp1.nD → PrngReg), Pre_AdamMlp1 m →
    θ_run (Cert.AdamMlp1.defs (F := Bits)) (onTc (τ := Cert.AdamMlp1.τ) (Cert.AdamMlp1.main (F := Bits))) ⟨m, fun _ => 0, g⟩ (fun r => (∀ c : Dev Cert.AdamMlp1.nD,
      r.2.mem ((c.tc : Thread Cert.AdamMlp1.nD Cert.AdamMlp1.τ).loc Cert.AdamMlp1.main_arg0) = m ((c.tc : Thread Cert.AdamMlp1.nD Cert.AdamMlp1.τ).loc Cert.AdamMlp1.main_arg0)
      ∧ r.2.mem ((c.tc : Thread Cert.AdamMlp1.nD Cert.AdamMlp1.τ).loc Cert.AdamMlp1.main_arg1) = m ((c.tc : Thread Cert.AdamMlp1.nD Cert.AdamMlp1.τ).loc Cert.AdamMlp1.main_arg1)
      ∧ r.2.mem ((c.tc : Thread Cert.AdamMlp1.nD Cert.AdamMlp1.τ).loc Cert.AdamMlp1.main_arg2) = m ((c.tc : Thread Cert.AdamMlp1.nD Cert.AdamMlp1.τ).loc Cert.AdamMlp1.main_arg2)
      ∧ r.2.mem ((c.tc : Thread Cert.AdamMlp1.nD Cert.AdamMlp1.τ).loc Cert.AdamMlp1.main_arg3) = m ((c.tc : Thread Cert.AdamMlp1.nD Cert.AdamMlp1.τ).loc Cert.AdamMlp1.main_arg3))
      ∧ r.2.sem = fun _ => 0)

def quiescent_AdamMlp1Ideal [hAdamMlp1Ideal : Cert.AdamMlp1Ideal.Facts] : Prop :=
  ∀ (m : (ℓ : Loc Cert.AdamMlp1Ideal.nD Cert.AdamMlp1Ideal.τ Cert.AdamMlp1Ideal.sig) → Buf (Elt Ideal) ℓ) (g : Dev Cert.AdamMlp1Ideal.nD → PrngReg), Pre_AdamMlp1Ideal m →
    θ_run (Cert.AdamMlp1Ideal.defs (F := Ideal)) (onTc (τ := Cert.AdamMlp1Ideal.τ) (Cert.AdamMlp1Ideal.main (F := Ideal))) ⟨m, fun _ => 0, g⟩ (fun r => (∀ c : Dev Cert.AdamMlp1Ideal.nD,
      r.2.mem ((c.tc : Thread Cert.AdamMlp1Ideal.nD Cert.AdamMlp1Ideal.τ).loc Cert.AdamMlp1Ideal.main_arg0) = m ((c.tc : Thread Cert.AdamMlp1Ideal.nD Cert.AdamMlp1Ideal.τ).loc Cert.AdamMlp1Ideal.main_arg0)
      ∧ r.2.mem ((c.tc : Thread Cert.AdamMlp1Ideal.nD Cert.AdamMlp1Ideal.τ).loc Cert.AdamMlp1Ideal.main_arg1) = m ((c.tc : Thread Cert.AdamMlp1Ideal.nD Cert.AdamMlp1Ideal.τ).loc Cert.AdamMlp1Ideal.main_arg1)
      ∧ r.2.mem ((c.tc : Thread Cert.AdamMlp1Ideal.nD Cert.AdamMlp1Ideal.τ).loc Cert.AdamMlp1Ideal.main_arg2) = m ((c.tc : Thread Cert.AdamMlp1Ideal.nD Cert.AdamMlp1Ideal.τ).loc Cert.AdamMlp1Ideal.main_arg2)
      ∧ r.2.mem ((c.tc : Thread Cert.AdamMlp1Ideal.nD Cert.AdamMlp1Ideal.τ).loc Cert.AdamMlp1Ideal.main_arg3) = m ((c.tc : Thread Cert.AdamMlp1Ideal.nD Cert.AdamMlp1Ideal.τ).loc Cert.AdamMlp1Ideal.main_arg3))
      ∧ r.2.sem = fun _ => 0)

def quiescent_AdamMlp1RefIdeal [hAdamMlp1RefIdeal : Cert.AdamMlp1RefIdeal.Facts] : Prop :=
  ∀ (m : (ℓ : Loc Cert.AdamMlp1RefIdeal.nD Cert.AdamMlp1RefIdeal.τ Cert.AdamMlp1RefIdeal.sig) → Buf (Elt Ideal) ℓ) (g : Dev Cert.AdamMlp1RefIdeal.nD → PrngReg), Pre_AdamMlp1RefIdeal m →
    θ_run (Cert.AdamMlp1RefIdeal.defs (F := Ideal)) (onTc (τ := Cert.AdamMlp1RefIdeal.τ) (Cert.AdamMlp1RefIdeal.main (F := Ideal))) ⟨m, fun _ => 0, g⟩ (fun r => (∀ c : Dev Cert.AdamMlp1RefIdeal.nD,
      r.2.mem ((c.tc : Thread Cert.AdamMlp1RefIdeal.nD Cert.AdamMlp1RefIdeal.τ).loc Cert.AdamMlp1RefIdeal.main_arg0) = m ((c.tc : Thread Cert.AdamMlp1RefIdeal.nD Cert.AdamMlp1RefIdeal.τ).loc Cert.AdamMlp1RefIdeal.main_arg0)
      ∧ r.2.mem ((c.tc : Thread Cert.AdamMlp1RefIdeal.nD Cert.AdamMlp1RefIdeal.τ).loc Cert.AdamMlp1RefIdeal.main_arg1) = m ((c.tc : Thread Cert.AdamMlp1RefIdeal.nD Cert.AdamMlp1RefIdeal.τ).loc Cert.AdamMlp1RefIdeal.main_arg1)
      ∧ r.2.mem ((c.tc : Thread Cert.AdamMlp1RefIdeal.nD Cert.AdamMlp1RefIdeal.τ).loc Cert.AdamMlp1RefIdeal.main_arg2) = m ((c.tc : Thread Cert.AdamMlp1RefIdeal.nD Cert.AdamMlp1RefIdeal.τ).loc Cert.AdamMlp1RefIdeal.main_arg2)
      ∧ r.2.mem ((c.tc : Thread Cert.AdamMlp1RefIdeal.nD Cert.AdamMlp1RefIdeal.τ).loc Cert.AdamMlp1RefIdeal.main_arg3) = m ((c.tc : Thread Cert.AdamMlp1RefIdeal.nD Cert.AdamMlp1RefIdeal.τ).loc Cert.AdamMlp1RefIdeal.main_arg3))
      ∧ r.2.sem = fun _ => 0)

def quiescent_AdamPack [hAdamPack : Cert.AdamPack.Facts] : Prop :=
  ∀ (m : (ℓ : Loc Cert.AdamPack.nD Cert.AdamPack.τ Cert.AdamPack.sig) → Buf (Elt Bits) ℓ) (g : Dev Cert.AdamPack.nD → PrngReg), Pre_AdamPack m →
    θ_run (Cert.AdamPack.defs (F := Bits)) (onTc (τ := Cert.AdamPack.τ) (Cert.AdamPack.main (F := Bits))) ⟨m, fun _ => 0, g⟩ (fun r => (∀ c : Dev Cert.AdamPack.nD,
      r.2.mem ((c.tc : Thread Cert.AdamPack.nD Cert.AdamPack.τ).loc Cert.AdamPack.main_arg0) = m ((c.tc : Thread Cert.AdamPack.nD Cert.AdamPack.τ).loc Cert.AdamPack.main_arg0)
      ∧ r.2.mem ((c.tc : Thread Cert.AdamPack.nD Cert.AdamPack.τ).loc Cert.AdamPack.main_arg1) = m ((c.tc : Thread Cert.AdamPack.nD Cert.AdamPack.τ).loc Cert.AdamPack.main_arg1)
      ∧ r.2.mem ((c.tc : Thread Cert.AdamPack.nD Cert.AdamPack.τ).loc Cert.AdamPack.main_arg2) = m ((c.tc : Thread Cert.AdamPack.nD Cert.AdamPack.τ).loc Cert.AdamPack.main_arg2)
      ∧ r.2.mem ((c.tc : Thread Cert.AdamPack.nD Cert.AdamPack.τ).loc Cert.AdamPack.main_arg3) = m ((c.tc : Thread Cert.AdamPack.nD Cert.AdamPack.τ).loc Cert.AdamPack.main_arg3)
      ∧ r.2.mem ((c.tc : Thread Cert.AdamPack.nD Cert.AdamPack.τ).loc Cert.AdamPack.main_arg4) = m ((c.tc : Thread Cert.AdamPack.nD Cert.AdamPack.τ).loc Cert.AdamPack.main_arg4)
      ∧ r.2.mem ((c.tc : Thread Cert.AdamPack.nD Cert.AdamPack.τ).loc Cert.AdamPack.main_arg5) = m ((c.tc : Thread Cert.AdamPack.nD Cert.AdamPack.τ).loc Cert.AdamPack.main_arg5)
      ∧ r.2.mem ((c.tc : Thread Cert.AdamPack.nD Cert.AdamPack.τ).loc Cert.AdamPack.main_arg6) = m ((c.tc : Thread Cert.AdamPack.nD Cert.AdamPack.τ).loc Cert.AdamPack.main_arg6)
      ∧ r.2.mem ((c.tc : Thread Cert.AdamPack.nD Cert.AdamPack.τ).loc Cert.AdamPack.main_arg7) = m ((c.tc : Thread Cert.AdamPack.nD Cert.AdamPack.τ).loc Cert.AdamPack.main_arg7)
      ∧ r.2.mem ((c.tc : Thread Cert.AdamPack.nD Cert.AdamPack.τ).loc Cert.AdamPack.main_arg8) = m ((c.tc : Thread Cert.AdamPack.nD Cert.AdamPack.τ).loc Cert.AdamPack.main_arg8)
      ∧ r.2.mem ((c.tc : Thread Cert.AdamPack.nD Cert.AdamPack.τ).loc Cert.AdamPack.main_arg9) = m ((c.tc : Thread Cert.AdamPack.nD Cert.AdamPack.τ).loc Cert.AdamPack.main_arg9)
      ∧ r.2.mem ((c.tc : Thread Cert.AdamPack.nD Cert.AdamPack.τ).loc Cert.AdamPack.main_arg10) = m ((c.tc : Thread Cert.AdamPack.nD Cert.AdamPack.τ).loc Cert.AdamPack.main_arg10)
      ∧ r.2.mem ((c.tc : Thread Cert.AdamPack.nD Cert.AdamPack.τ).loc Cert.AdamPack.main_arg11) = m ((c.tc : Thread Cert.AdamPack.nD Cert.AdamPack.τ).loc Cert.AdamPack.main_arg11)
      ∧ r.2.mem ((c.tc : Thread Cert.AdamPack.nD Cert.AdamPack.τ).loc Cert.AdamPack.main_arg12) = m ((c.tc : Thread Cert.AdamPack.nD Cert.AdamPack.τ).loc Cert.AdamPack.main_arg12)
      ∧ r.2.mem ((c.tc : Thread Cert.AdamPack.nD Cert.AdamPack.τ).loc Cert.AdamPack.main_arg13) = m ((c.tc : Thread Cert.AdamPack.nD Cert.AdamPack.τ).loc Cert.AdamPack.main_arg13)
      ∧ r.2.mem ((c.tc : Thread Cert.AdamPack.nD Cert.AdamPack.τ).loc Cert.AdamPack.main_arg14) = m ((c.tc : Thread Cert.AdamPack.nD Cert.AdamPack.τ).loc Cert.AdamPack.main_arg14)
      ∧ r.2.mem ((c.tc : Thread Cert.AdamPack.nD Cert.AdamPack.τ).loc Cert.AdamPack.main_arg15) = m ((c.tc : Thread Cert.AdamPack.nD Cert.AdamPack.τ).loc Cert.AdamPack.main_arg15)
      ∧ r.2.mem ((c.tc : Thread Cert.AdamPack.nD Cert.AdamPack.τ).loc Cert.AdamPack.main_arg16) = m ((c.tc : Thread Cert.AdamPack.nD Cert.AdamPack.τ).loc Cert.AdamPack.main_arg16)
      ∧ r.2.mem ((c.tc : Thread Cert.AdamPack.nD Cert.AdamPack.τ).loc Cert.AdamPack.main_arg17) = m ((c.tc : Thread Cert.AdamPack.nD Cert.AdamPack.τ).loc Cert.AdamPack.main_arg17)
      ∧ r.2.mem ((c.tc : Thread Cert.AdamPack.nD Cert.AdamPack.τ).loc Cert.AdamPack.main_arg18) = m ((c.tc : Thread Cert.AdamPack.nD Cert.AdamPack.τ).loc Cert.AdamPack.main_arg18)
      ∧ r.2.mem ((c.tc : Thread Cert.AdamPack.nD Cert.AdamPack.τ).loc Cert.AdamPack.main_arg19) = m ((c.tc : Thread Cert.AdamPack.nD Cert.AdamPack.τ).loc Cert.AdamPack.main_arg19)
      ∧ r.2.mem ((c.tc : Thread Cert.AdamPack.nD Cert.AdamPack.τ).loc Cert.AdamPack.main_arg20) = m ((c.tc : Thread Cert.AdamPack.nD Cert.AdamPack.τ).loc Cert.AdamPack.main_arg20)
      ∧ r.2.mem ((c.tc : Thread Cert.AdamPack.nD Cert.AdamPack.τ).loc Cert.AdamPack.main_arg21) = m ((c.tc : Thread Cert.AdamPack.nD Cert.AdamPack.τ).loc Cert.AdamPack.main_arg21)
      ∧ r.2.mem ((c.tc : Thread Cert.AdamPack.nD Cert.AdamPack.τ).loc Cert.AdamPack.main_arg22) = m ((c.tc : Thread Cert.AdamPack.nD Cert.AdamPack.τ).loc Cert.AdamPack.main_arg22)
      ∧ r.2.mem ((c.tc : Thread Cert.AdamPack.nD Cert.AdamPack.τ).loc Cert.AdamPack.main_arg23) = m ((c.tc : Thread Cert.AdamPack.nD Cert.AdamPack.τ).loc Cert.AdamPack.main_arg23)
      ∧ r.2.mem ((c.tc : Thread Cert.AdamPack.nD Cert.AdamPack.τ).loc Cert.AdamPack.main_arg24) = m ((c.tc : Thread Cert.AdamPack.nD Cert.AdamPack.τ).loc Cert.AdamPack.main_arg24)
      ∧ r.2.mem ((c.tc : Thread Cert.AdamPack.nD Cert.AdamPack.τ).loc Cert.AdamPack.main_arg25) = m ((c.tc : Thread Cert.AdamPack.nD Cert.AdamPack.τ).loc Cert.AdamPack.main_arg25)
      ∧ r.2.mem ((c.tc : Thread Cert.AdamPack.nD Cert.AdamPack.τ).loc Cert.AdamPack.main_arg26) = m ((c.tc : Thread Cert.AdamPack.nD Cert.AdamPack.τ).loc Cert.AdamPack.main_arg26)
      ∧ r.2.mem ((c.tc : Thread Cert.AdamPack.nD Cert.AdamPack.τ).loc Cert.AdamPack.main_arg27) = m ((c.tc : Thread Cert.AdamPack.nD Cert.AdamPack.τ).loc Cert.AdamPack.main_arg27)
      ∧ r.2.mem ((c.tc : Thread Cert.AdamPack.nD Cert.AdamPack.τ).loc Cert.AdamPack.main_arg28) = m ((c.tc : Thread Cert.AdamPack.nD Cert.AdamPack.τ).loc Cert.AdamPack.main_arg28)
      ∧ r.2.mem ((c.tc : Thread Cert.AdamPack.nD Cert.AdamPack.τ).loc Cert.AdamPack.main_arg29) = m ((c.tc : Thread Cert.AdamPack.nD Cert.AdamPack.τ).loc Cert.AdamPack.main_arg29)
      ∧ r.2.mem ((c.tc : Thread Cert.AdamPack.nD Cert.AdamPack.τ).loc Cert.AdamPack.main_arg30) = m ((c.tc : Thread Cert.AdamPack.nD Cert.AdamPack.τ).loc Cert.AdamPack.main_arg30)
      ∧ r.2.mem ((c.tc : Thread Cert.AdamPack.nD Cert.AdamPack.τ).loc Cert.AdamPack.main_arg31) = m ((c.tc : Thread Cert.AdamPack.nD Cert.AdamPack.τ).loc Cert.AdamPack.main_arg31))
      ∧ r.2.sem = fun _ => 0)

def quiescent_AdamPackIdeal [hAdamPackIdeal : Cert.AdamPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg), Pre_AdamPackIdeal m →
    θ_run (Cert.AdamPackIdeal.defs (F := Ideal)) (onTc (τ := Cert.AdamPackIdeal.τ) (Cert.AdamPackIdeal.main (F := Ideal))) ⟨m, fun _ => 0, g⟩ (fun r => (∀ c : Dev Cert.AdamPackIdeal.nD,
      r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
      ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
      ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
      ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3)
      ∧ r.2.mem ((c.tc : Thread Cert.AdamPackIdeal.nD Cert.AdamPackIdeal.τ).loc Cert.AdamPackIdeal.main_arg4) = m ((c.tc : Thread Cert.AdamPackIdeal.nD Cert.AdamPackIdeal.τ).loc Cert.AdamPackIdeal.main_arg4)
      ∧ r.2.mem ((c.tc : Thread Cert.AdamPackIdeal.nD Cert.AdamPackIdeal.τ).loc Cert.AdamPackIdeal.main_arg5) = m ((c.tc : Thread Cert.AdamPackIdeal.nD Cert.AdamPackIdeal.τ).loc Cert.AdamPackIdeal.main_arg5)
      ∧ r.2.mem ((c.tc : Thread Cert.AdamPackIdeal.nD Cert.AdamPackIdeal.τ).loc Cert.AdamPackIdeal.main_arg6) = m ((c.tc : Thread Cert.AdamPackIdeal.nD Cert.AdamPackIdeal.τ).loc Cert.AdamPackIdeal.main_arg6)
      ∧ r.2.mem ((c.tc : Thread Cert.AdamPackIdeal.nD Cert.AdamPackIdeal.τ).loc Cert.AdamPackIdeal.main_arg7) = m ((c.tc : Thread Cert.AdamPackIdeal.nD Cert.AdamPackIdeal.τ).loc Cert.AdamPackIdeal.main_arg7)
      ∧ r.2.mem ((c.tc : Thread Cert.AdamPackIdeal.nD Cert.AdamPackIdeal.τ).loc Cert.AdamPackIdeal.main_arg8) = m ((c.tc : Thread Cert.AdamPackIdeal.nD Cert.AdamPackIdeal.τ).loc Cert.AdamPackIdeal.main_arg8)
      ∧ r.2.mem ((c.tc : Thread Cert.AdamPackIdeal.nD Cert.AdamPackIdeal.τ).loc Cert.AdamPackIdeal.main_arg9) = m ((c.tc : Thread Cert.AdamPackIdeal.nD Cert.AdamPackIdeal.τ).loc Cert.AdamPackIdeal.main_arg9)
      ∧ r.2.mem ((c.tc : Thread Cert.AdamPackIdeal.nD Cert.AdamPackIdeal.τ).loc Cert.AdamPackIdeal.main_arg10) = m ((c.tc : Thread Cert.AdamPackIdeal.nD Cert.AdamPackIdeal.τ).loc Cert.AdamPackIdeal.main_arg10)
      ∧ r.2.mem ((c.tc : Thread Cert.AdamPackIdeal.nD Cert.AdamPackIdeal.τ).loc Cert.AdamPackIdeal.main_arg11) = m ((c.tc : Thread Cert.AdamPackIdeal.nD Cert.AdamPackIdeal.τ).loc Cert.AdamPackIdeal.main_arg11)
      ∧ r.2.mem ((c.tc : Thread Cert.AdamPackIdeal.nD Cert.AdamPackIdeal.τ).loc Cert.AdamPackIdeal.main_arg12) = m ((c.tc : Thread Cert.AdamPackIdeal.nD Cert.AdamPackIdeal.τ).loc Cert.AdamPackIdeal.main_arg12)
      ∧ r.2.mem ((c.tc : Thread Cert.AdamPackIdeal.nD Cert.AdamPackIdeal.τ).loc Cert.AdamPackIdeal.main_arg13) = m ((c.tc : Thread Cert.AdamPackIdeal.nD Cert.AdamPackIdeal.τ).loc Cert.AdamPackIdeal.main_arg13)
      ∧ r.2.mem ((c.tc : Thread Cert.AdamPackIdeal.nD Cert.AdamPackIdeal.τ).loc Cert.AdamPackIdeal.main_arg14) = m ((c.tc : Thread Cert.AdamPackIdeal.nD Cert.AdamPackIdeal.τ).loc Cert.AdamPackIdeal.main_arg14)
      ∧ r.2.mem ((c.tc : Thread Cert.AdamPackIdeal.nD Cert.AdamPackIdeal.τ).loc Cert.AdamPackIdeal.main_arg15) = m ((c.tc : Thread Cert.AdamPackIdeal.nD Cert.AdamPackIdeal.τ).loc Cert.AdamPackIdeal.main_arg15)
      ∧ r.2.mem ((c.tc : Thread Cert.AdamPackIdeal.nD Cert.AdamPackIdeal.τ).loc Cert.AdamPackIdeal.main_arg16) = m ((c.tc : Thread Cert.AdamPackIdeal.nD Cert.AdamPackIdeal.τ).loc Cert.AdamPackIdeal.main_arg16)
      ∧ r.2.mem ((c.tc : Thread Cert.AdamPackIdeal.nD Cert.AdamPackIdeal.τ).loc Cert.AdamPackIdeal.main_arg17) = m ((c.tc : Thread Cert.AdamPackIdeal.nD Cert.AdamPackIdeal.τ).loc Cert.AdamPackIdeal.main_arg17)
      ∧ r.2.mem ((c.tc : Thread Cert.AdamPackIdeal.nD Cert.AdamPackIdeal.τ).loc Cert.AdamPackIdeal.main_arg18) = m ((c.tc : Thread Cert.AdamPackIdeal.nD Cert.AdamPackIdeal.τ).loc Cert.AdamPackIdeal.main_arg18)
      ∧ r.2.mem ((c.tc : Thread Cert.AdamPackIdeal.nD Cert.AdamPackIdeal.τ).loc Cert.AdamPackIdeal.main_arg19) = m ((c.tc : Thread Cert.AdamPackIdeal.nD Cert.AdamPackIdeal.τ).loc Cert.AdamPackIdeal.main_arg19)
      ∧ r.2.mem ((c.tc : Thread Cert.AdamPackIdeal.nD Cert.AdamPackIdeal.τ).loc Cert.AdamPackIdeal.main_arg20) = m ((c.tc : Thread Cert.AdamPackIdeal.nD Cert.AdamPackIdeal.τ).loc Cert.AdamPackIdeal.main_arg20)
      ∧ r.2.mem ((c.tc : Thread Cert.AdamPackIdeal.nD Cert.AdamPackIdeal.τ).loc Cert.AdamPackIdeal.main_arg21) = m ((c.tc : Thread Cert.AdamPackIdeal.nD Cert.AdamPackIdeal.τ).loc Cert.AdamPackIdeal.main_arg21)
      ∧ r.2.mem ((c.tc : Thread Cert.AdamPackIdeal.nD Cert.AdamPackIdeal.τ).loc Cert.AdamPackIdeal.main_arg22) = m ((c.tc : Thread Cert.AdamPackIdeal.nD Cert.AdamPackIdeal.τ).loc Cert.AdamPackIdeal.main_arg22)
      ∧ r.2.mem ((c.tc : Thread Cert.AdamPackIdeal.nD Cert.AdamPackIdeal.τ).loc Cert.AdamPackIdeal.main_arg23) = m ((c.tc : Thread Cert.AdamPackIdeal.nD Cert.AdamPackIdeal.τ).loc Cert.AdamPackIdeal.main_arg23)
      ∧ r.2.mem ((c.tc : Thread Cert.AdamPackIdeal.nD Cert.AdamPackIdeal.τ).loc Cert.AdamPackIdeal.main_arg24) = m ((c.tc : Thread Cert.AdamPackIdeal.nD Cert.AdamPackIdeal.τ).loc Cert.AdamPackIdeal.main_arg24)
      ∧ r.2.mem ((c.tc : Thread Cert.AdamPackIdeal.nD Cert.AdamPackIdeal.τ).loc Cert.AdamPackIdeal.main_arg25) = m ((c.tc : Thread Cert.AdamPackIdeal.nD Cert.AdamPackIdeal.τ).loc Cert.AdamPackIdeal.main_arg25)
      ∧ r.2.mem ((c.tc : Thread Cert.AdamPackIdeal.nD Cert.AdamPackIdeal.τ).loc Cert.AdamPackIdeal.main_arg26) = m ((c.tc : Thread Cert.AdamPackIdeal.nD Cert.AdamPackIdeal.τ).loc Cert.AdamPackIdeal.main_arg26)
      ∧ r.2.mem ((c.tc : Thread Cert.AdamPackIdeal.nD Cert.AdamPackIdeal.τ).loc Cert.AdamPackIdeal.main_arg27) = m ((c.tc : Thread Cert.AdamPackIdeal.nD Cert.AdamPackIdeal.τ).loc Cert.AdamPackIdeal.main_arg27)
      ∧ r.2.mem ((c.tc : Thread Cert.AdamPackIdeal.nD Cert.AdamPackIdeal.τ).loc Cert.AdamPackIdeal.main_arg28) = m ((c.tc : Thread Cert.AdamPackIdeal.nD Cert.AdamPackIdeal.τ).loc Cert.AdamPackIdeal.main_arg28)
      ∧ r.2.mem ((c.tc : Thread Cert.AdamPackIdeal.nD Cert.AdamPackIdeal.τ).loc Cert.AdamPackIdeal.main_arg29) = m ((c.tc : Thread Cert.AdamPackIdeal.nD Cert.AdamPackIdeal.τ).loc Cert.AdamPackIdeal.main_arg29)
      ∧ r.2.mem ((c.tc : Thread Cert.AdamPackIdeal.nD Cert.AdamPackIdeal.τ).loc Cert.AdamPackIdeal.main_arg30) = m ((c.tc : Thread Cert.AdamPackIdeal.nD Cert.AdamPackIdeal.τ).loc Cert.AdamPackIdeal.main_arg30)
      ∧ r.2.mem ((c.tc : Thread Cert.AdamPackIdeal.nD Cert.AdamPackIdeal.τ).loc Cert.AdamPackIdeal.main_arg31) = m ((c.tc : Thread Cert.AdamPackIdeal.nD Cert.AdamPackIdeal.τ).loc Cert.AdamPackIdeal.main_arg31))
      ∧ r.2.sem = fun _ => 0)

def quiescent_AdamPackRefIdeal [hAdamPackRefIdeal : Cert.AdamPackRefIdeal.Facts] : Prop :=
  ∀ (m : (ℓ : Loc Cert.AdamPackRefIdeal.nD Cert.AdamPackRefIdeal.τ Cert.AdamPackRefIdeal.sig) → Buf (Elt Ideal) ℓ) (g : Dev Cert.AdamPackRefIdeal.nD → PrngReg), Pre_AdamPackRefIdeal m →
    θ_run (Cert.AdamPackRefIdeal.defs (F := Ideal)) (onTc (τ := Cert.AdamPackRefIdeal.τ) (Cert.AdamPackRefIdeal.main (F := Ideal))) ⟨m, fun _ => 0, g⟩ (fun r => (∀ c : Dev Cert.AdamPackRefIdeal.nD,
      r.2.mem ((c.tc : Thread Cert.AdamPackRefIdeal.nD Cert.AdamPackRefIdeal.τ).loc Cert.AdamPackRefIdeal.main_arg0) = m ((c.tc : Thread Cert.AdamPackRefIdeal.nD Cert.AdamPackRefIdeal.τ).loc Cert.AdamPackRefIdeal.main_arg0)
      ∧ r.2.mem ((c.tc : Thread Cert.AdamPackRefIdeal.nD Cert.AdamPackRefIdeal.τ).loc Cert.AdamPackRefIdeal.main_arg1) = m ((c.tc : Thread Cert.AdamPackRefIdeal.nD Cert.AdamPackRefIdeal.τ).loc Cert.AdamPackRefIdeal.main_arg1)
      ∧ r.2.mem ((c.tc : Thread Cert.AdamPackRefIdeal.nD Cert.AdamPackRefIdeal.τ).loc Cert.AdamPackRefIdeal.main_arg2) = m ((c.tc : Thread Cert.AdamPackRefIdeal.nD Cert.AdamPackRefIdeal.τ).loc Cert.AdamPackRefIdeal.main_arg2)
      ∧ r.2.mem ((c.tc : Thread Cert.AdamPackRefIdeal.nD Cert.AdamPackRefIdeal.τ).loc Cert.AdamPackRefIdeal.main_arg3) = m ((c.tc : Thread Cert.AdamPackRefIdeal.nD Cert.AdamPackRefIdeal.τ).loc Cert.AdamPackRefIdeal.main_arg3)
      ∧ r.2.mem ((c.tc : Thread Cert.AdamPackRefIdeal.nD Cert.AdamPackRefIdeal.τ).loc Cert.AdamPackRefIdeal.main_arg4) = m ((c.tc : Thread Cert.AdamPackRefIdeal.nD Cert.AdamPackRefIdeal.τ).loc Cert.AdamPackRefIdeal.main_arg4)
      ∧ r.2.mem ((c.tc : Thread Cert.AdamPackRefIdeal.nD Cert.AdamPackRefIdeal.τ).loc Cert.AdamPackRefIdeal.main_arg5) = m ((c.tc : Thread Cert.AdamPackRefIdeal.nD Cert.AdamPackRefIdeal.τ).loc Cert.AdamPackRefIdeal.main_arg5)
      ∧ r.2.mem ((c.tc : Thread Cert.AdamPackRefIdeal.nD Cert.AdamPackRefIdeal.τ).loc Cert.AdamPackRefIdeal.main_arg6) = m ((c.tc : Thread Cert.AdamPackRefIdeal.nD Cert.AdamPackRefIdeal.τ).loc Cert.AdamPackRefIdeal.main_arg6)
      ∧ r.2.mem ((c.tc : Thread Cert.AdamPackRefIdeal.nD Cert.AdamPackRefIdeal.τ).loc Cert.AdamPackRefIdeal.main_arg7) = m ((c.tc : Thread Cert.AdamPackRefIdeal.nD Cert.AdamPackRefIdeal.τ).loc Cert.AdamPackRefIdeal.main_arg7)
      ∧ r.2.mem ((c.tc : Thread Cert.AdamPackRefIdeal.nD Cert.AdamPackRefIdeal.τ).loc Cert.AdamPackRefIdeal.main_arg8) = m ((c.tc : Thread Cert.AdamPackRefIdeal.nD Cert.AdamPackRefIdeal.τ).loc Cert.AdamPackRefIdeal.main_arg8)
      ∧ r.2.mem ((c.tc : Thread Cert.AdamPackRefIdeal.nD Cert.AdamPackRefIdeal.τ).loc Cert.AdamPackRefIdeal.main_arg9) = m ((c.tc : Thread Cert.AdamPackRefIdeal.nD Cert.AdamPackRefIdeal.τ).loc Cert.AdamPackRefIdeal.main_arg9)
      ∧ r.2.mem ((c.tc : Thread Cert.AdamPackRefIdeal.nD Cert.AdamPackRefIdeal.τ).loc Cert.AdamPackRefIdeal.main_arg10) = m ((c.tc : Thread Cert.AdamPackRefIdeal.nD Cert.AdamPackRefIdeal.τ).loc Cert.AdamPackRefIdeal.main_arg10)
      ∧ r.2.mem ((c.tc : Thread Cert.AdamPackRefIdeal.nD Cert.AdamPackRefIdeal.τ).loc Cert.AdamPackRefIdeal.main_arg11) = m ((c.tc : Thread Cert.AdamPackRefIdeal.nD Cert.AdamPackRefIdeal.τ).loc Cert.AdamPackRefIdeal.main_arg11)
      ∧ r.2.mem ((c.tc : Thread Cert.AdamPackRefIdeal.nD Cert.AdamPackRefIdeal.τ).loc Cert.AdamPackRefIdeal.main_arg12) = m ((c.tc : Thread Cert.AdamPackRefIdeal.nD Cert.AdamPackRefIdeal.τ).loc Cert.AdamPackRefIdeal.main_arg12)
      ∧ r.2.mem ((c.tc : Thread Cert.AdamPackRefIdeal.nD Cert.AdamPackRefIdeal.τ).loc Cert.AdamPackRefIdeal.main_arg13) = m ((c.tc : Thread Cert.AdamPackRefIdeal.nD Cert.AdamPackRefIdeal.τ).loc Cert.AdamPackRefIdeal.main_arg13)
      ∧ r.2.mem ((c.tc : Thread Cert.AdamPackRefIdeal.nD Cert.AdamPackRefIdeal.τ).loc Cert.AdamPackRefIdeal.main_arg14) = m ((c.tc : Thread Cert.AdamPackRefIdeal.nD Cert.AdamPackRefIdeal.τ).loc Cert.AdamPackRefIdeal.main_arg14)
      ∧ r.2.mem ((c.tc : Thread Cert.AdamPackRefIdeal.nD Cert.AdamPackRefIdeal.τ).loc Cert.AdamPackRefIdeal.main_arg15) = m ((c.tc : Thread Cert.AdamPackRefIdeal.nD Cert.AdamPackRefIdeal.τ).loc Cert.AdamPackRefIdeal.main_arg15)
      ∧ r.2.mem ((c.tc : Thread Cert.AdamPackRefIdeal.nD Cert.AdamPackRefIdeal.τ).loc Cert.AdamPackRefIdeal.main_arg16) = m ((c.tc : Thread Cert.AdamPackRefIdeal.nD Cert.AdamPackRefIdeal.τ).loc Cert.AdamPackRefIdeal.main_arg16)
      ∧ r.2.mem ((c.tc : Thread Cert.AdamPackRefIdeal.nD Cert.AdamPackRefIdeal.τ).loc Cert.AdamPackRefIdeal.main_arg17) = m ((c.tc : Thread Cert.AdamPackRefIdeal.nD Cert.AdamPackRefIdeal.τ).loc Cert.AdamPackRefIdeal.main_arg17)
      ∧ r.2.mem ((c.tc : Thread Cert.AdamPackRefIdeal.nD Cert.AdamPackRefIdeal.τ).loc Cert.AdamPackRefIdeal.main_arg18) = m ((c.tc : Thread Cert.AdamPackRefIdeal.nD Cert.AdamPackRefIdeal.τ).loc Cert.AdamPackRefIdeal.main_arg18)
      ∧ r.2.mem ((c.tc : Thread Cert.AdamPackRefIdeal.nD Cert.AdamPackRefIdeal.τ).loc Cert.AdamPackRefIdeal.main_arg19) = m ((c.tc : Thread Cert.AdamPackRefIdeal.nD Cert.AdamPackRefIdeal.τ).loc Cert.AdamPackRefIdeal.main_arg19)
      ∧ r.2.mem ((c.tc : Thread Cert.AdamPackRefIdeal.nD Cert.AdamPackRefIdeal.τ).loc Cert.AdamPackRefIdeal.main_arg20) = m ((c.tc : Thread Cert.AdamPackRefIdeal.nD Cert.AdamPackRefIdeal.τ).loc Cert.AdamPackRefIdeal.main_arg20)
      ∧ r.2.mem ((c.tc : Thread Cert.AdamPackRefIdeal.nD Cert.AdamPackRefIdeal.τ).loc Cert.AdamPackRefIdeal.main_arg21) = m ((c.tc : Thread Cert.AdamPackRefIdeal.nD Cert.AdamPackRefIdeal.τ).loc Cert.AdamPackRefIdeal.main_arg21)
      ∧ r.2.mem ((c.tc : Thread Cert.AdamPackRefIdeal.nD Cert.AdamPackRefIdeal.τ).loc Cert.AdamPackRefIdeal.main_arg22) = m ((c.tc : Thread Cert.AdamPackRefIdeal.nD Cert.AdamPackRefIdeal.τ).loc Cert.AdamPackRefIdeal.main_arg22)
      ∧ r.2.mem ((c.tc : Thread Cert.AdamPackRefIdeal.nD Cert.AdamPackRefIdeal.τ).loc Cert.AdamPackRefIdeal.main_arg23) = m ((c.tc : Thread Cert.AdamPackRefIdeal.nD Cert.AdamPackRefIdeal.τ).loc Cert.AdamPackRefIdeal.main_arg23)
      ∧ r.2.mem ((c.tc : Thread Cert.AdamPackRefIdeal.nD Cert.AdamPackRefIdeal.τ).loc Cert.AdamPackRefIdeal.main_arg24) = m ((c.tc : Thread Cert.AdamPackRefIdeal.nD Cert.AdamPackRefIdeal.τ).loc Cert.AdamPackRefIdeal.main_arg24)
      ∧ r.2.mem ((c.tc : Thread Cert.AdamPackRefIdeal.nD Cert.AdamPackRefIdeal.τ).loc Cert.AdamPackRefIdeal.main_arg25) = m ((c.tc : Thread Cert.AdamPackRefIdeal.nD Cert.AdamPackRefIdeal.τ).loc Cert.AdamPackRefIdeal.main_arg25)
      ∧ r.2.mem ((c.tc : Thread Cert.AdamPackRefIdeal.nD Cert.AdamPackRefIdeal.τ).loc Cert.AdamPackRefIdeal.main_arg26) = m ((c.tc : Thread Cert.AdamPackRefIdeal.nD Cert.AdamPackRefIdeal.τ).loc Cert.AdamPackRefIdeal.main_arg26)
      ∧ r.2.mem ((c.tc : Thread Cert.AdamPackRefIdeal.nD Cert.AdamPackRefIdeal.τ).loc Cert.AdamPackRefIdeal.main_arg27) = m ((c.tc : Thread Cert.AdamPackRefIdeal.nD Cert.AdamPackRefIdeal.τ).loc Cert.AdamPackRefIdeal.main_arg27)
      ∧ r.2.mem ((c.tc : Thread Cert.AdamPackRefIdeal.nD Cert.AdamPackRefIdeal.τ).loc Cert.AdamPackRefIdeal.main_arg28) = m ((c.tc : Thread Cert.AdamPackRefIdeal.nD Cert.AdamPackRefIdeal.τ).loc Cert.AdamPackRefIdeal.main_arg28)
      ∧ r.2.mem ((c.tc : Thread Cert.AdamPackRefIdeal.nD Cert.AdamPackRefIdeal.τ).loc Cert.AdamPackRefIdeal.main_arg29) = m ((c.tc : Thread Cert.AdamPackRefIdeal.nD Cert.AdamPackRefIdeal.τ).loc Cert.AdamPackRefIdeal.main_arg29)
      ∧ r.2.mem ((c.tc : Thread Cert.AdamPackRefIdeal.nD Cert.AdamPackRefIdeal.τ).loc Cert.AdamPackRefIdeal.main_arg30) = m ((c.tc : Thread Cert.AdamPackRefIdeal.nD Cert.AdamPackRefIdeal.τ).loc Cert.AdamPackRefIdeal.main_arg30)
      ∧ r.2.mem ((c.tc : Thread Cert.AdamPackRefIdeal.nD Cert.AdamPackRefIdeal.τ).loc Cert.AdamPackRefIdeal.main_arg31) = m ((c.tc : Thread Cert.AdamPackRefIdeal.nD Cert.AdamPackRefIdeal.τ).loc Cert.AdamPackRefIdeal.main_arg31))
      ∧ r.2.sem = fun _ => 0)

def quiescent_SumUnpack [hSumUnpack : Cert.SumUnpack.Facts] : Prop :=
  ∀ (m : (ℓ : Loc Cert.SumUnpack.nD Cert.SumUnpack.τ Cert.SumUnpack.sig) → Buf (Elt Bits) ℓ) (g : Dev Cert.SumUnpack.nD → PrngReg), Pre_SumUnpack m →
    θ_run (Cert.SumUnpack.defs (F := Bits)) (onTc (τ := Cert.SumUnpack.τ) (Cert.SumUnpack.main (F := Bits))) ⟨m, fun _ => 0, g⟩ (fun r => (∀ c : Dev Cert.SumUnpack.nD,
      r.2.mem ((c.tc : Thread Cert.SumUnpack.nD Cert.SumUnpack.τ).loc Cert.SumUnpack.main_arg0) = m ((c.tc : Thread Cert.SumUnpack.nD Cert.SumUnpack.τ).loc Cert.SumUnpack.main_arg0))
      ∧ r.2.sem = fun _ => 0)

def quiescent_SumUnpackIdeal [hSumUnpackIdeal : Cert.SumUnpackIdeal.Facts] : Prop :=
  ∀ (m : (ℓ : Loc Cert.SumUnpackIdeal.nD Cert.SumUnpackIdeal.τ Cert.SumUnpackIdeal.sig) → Buf (Elt Ideal) ℓ) (g : Dev Cert.SumUnpackIdeal.nD → PrngReg), Pre_SumUnpackIdeal m →
    θ_run (Cert.SumUnpackIdeal.defs (F := Ideal)) (onTc (τ := Cert.SumUnpackIdeal.τ) (Cert.SumUnpackIdeal.main (F := Ideal))) ⟨m, fun _ => 0, g⟩ (fun r => (∀ c : Dev Cert.SumUnpackIdeal.nD,
      r.2.mem ((c.tc : Thread Cert.SumUnpackIdeal.nD Cert.SumUnpackIdeal.τ).loc Cert.SumUnpackIdeal.main_arg0) = m ((c.tc : Thread Cert.SumUnpackIdeal.nD Cert.SumUnpackIdeal.τ).loc Cert.SumUnpackIdeal.main_arg0))
      ∧ r.2.sem = fun _ => 0)

def quiescent_SumUnpackRefIdeal [hSumUnpackRefIdeal : Cert.SumUnpackRefIdeal.Facts] : Prop :=
  ∀ (m : (ℓ : Loc Cert.SumUnpackRefIdeal.nD Cert.SumUnpackRefIdeal.τ Cert.SumUnpackRefIdeal.sig) → Buf (Elt Ideal) ℓ) (g : Dev Cert.SumUnpackRefIdeal.nD → PrngReg), Pre_SumUnpackRefIdeal m →
    θ_run (Cert.SumUnpackRefIdeal.defs (F := Ideal)) (onTc (τ := Cert.SumUnpackRefIdeal.τ) (Cert.SumUnpackRefIdeal.main (F := Ideal))) ⟨m, fun _ => 0, g⟩ (fun r => (∀ c : Dev Cert.SumUnpackRefIdeal.nD,
      r.2.mem ((c.tc : Thread Cert.SumUnpackRefIdeal.nD Cert.SumUnpackRefIdeal.τ).loc Cert.SumUnpackRefIdeal.main_arg0) = m ((c.tc : Thread Cert.SumUnpackRefIdeal.nD Cert.SumUnpackRefIdeal.τ).loc Cert.SumUnpackRefIdeal.main_arg0))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_norm_finite [hRmsBwdIdeal : Cert.RmsBwdIdeal.Facts] [hPre_norm_finite : Cert.Pre_norm_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_norm_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_norm_finite [hRmsBwdRefIdeal : Cert.RmsBwdRefIdeal.Facts] [hPre_norm_finite : Cert.Pre_norm_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_norm_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossIdeal_pre_loss_finite [hDownLossIdeal : Cert.DownLossIdeal.Facts] [hPre_loss_finite : Cert.Pre_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_loss_finite m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_DownLossRefIdeal_pre_loss_finite [hDownLossRefIdeal : Cert.DownLossRefIdeal.Facts] [hPre_loss_finite : Cert.Pre_loss_finite.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_loss_finite m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_pool_finite [hPoolFwdIdeal : Cert.PoolFwdIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_pool_finite [hPoolFwdRefIdeal : Cert.PoolFwdRefIdeal.Facts] [hPre_pool_finite : Cert.Pre_pool_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def preserves_GateBwd_GateBwdIdeal : Prop :=
  IdealRules.named_const.Statement Cert.GateBwdIdeal.κ "sqrt_half" .f32 0x3F3504F3#32 (((Real.sqrt 2)⁻¹ : ℝ) : EReal)
  ∧ IdealRules.named_const.Statement Cert.GateBwdIdeal.κ "inv_sqrt_two_pi" .f32 0x3ECC422A#32 (((Real.sqrt (2 * Real.pi))⁻¹ : ℝ) : EReal)

def algebraic_GateBwdIdeal_GateRefIdeal_pre_gate_finite [hGateBwdIdeal : Cert.GateBwdIdeal.Facts] [hGateRefIdeal : Cert.GateRefIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal_gate_finite m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)
      ∧ m' ((c.tc : Thread Cert.GateRefIdeal.nD Cert.GateRefIdeal.τ).loc Cert.GateRefIdeal.main_arg3) = m ((c.tc : Thread Cert.GateBwdIdeal.nD Cert.GateBwdIdeal.τ).loc Cert.GateBwdIdeal.main_arg3)
      ∧ m' ((c.tc : Thread Cert.GateRefIdeal.nD Cert.GateRefIdeal.τ).loc Cert.GateRefIdeal.main_arg4) = m ((c.tc : Thread Cert.GateBwdIdeal.nD Cert.GateBwdIdeal.τ).loc Cert.GateBwdIdeal.main_arg4)
      ∧ m' ((c.tc : Thread Cert.GateRefIdeal.nD Cert.GateRefIdeal.τ).loc Cert.GateRefIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)) (v2 : (c : Dev Cert.GateBwdIdeal.nD) → Buf (Elt Ideal) ((c.tc : Thread Cert.GateBwdIdeal.nD Cert.GateBwdIdeal.τ).loc Cert.GateBwdIdeal.main_v1_2)) (v3 : (c : Dev Cert.GateBwdIdeal.nD) → Buf (Elt Ideal) ((c.tc : Thread Cert.GateBwdIdeal.nD Cert.GateBwdIdeal.τ).loc Cert.GateBwdIdeal.main_v1_3)) (v4 : (c : Dev Cert.GateBwdIdeal.nD) → Buf (Elt Ideal) ((c.tc : Thread Cert.GateBwdIdeal.nD Cert.GateBwdIdeal.τ).loc Cert.GateBwdIdeal.main_v1_4)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_v1_2) = v2 c
          ∧ r.2.mem ((c.tc : Thread Cert.GateBwdIdeal.nD Cert.GateBwdIdeal.τ).loc Cert.GateBwdIdeal.main_v1_3) = v3 c
          ∧ r.2.mem ((c.tc : Thread Cert.GateBwdIdeal.nD Cert.GateBwdIdeal.τ).loc Cert.GateBwdIdeal.main_v1_4) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v112) = v0 c
          ∧ r.2.mem ((c.tc : Thread Cert.GateRefIdeal.nD Cert.GateRefIdeal.τ).loc Cert.GateRefIdeal.main_v79) = v1 c
          ∧ r.2.mem ((c.tc : Thread Cert.GateRefIdeal.nD Cert.GateRefIdeal.τ).loc Cert.GateRefIdeal.main_v113) = v2 c
          ∧ r.2.mem ((c.tc : Thread Cert.GateRefIdeal.nD Cert.GateRefIdeal.τ).loc Cert.GateRefIdeal.main_v85) = v3 c
          ∧ r.2.mem ((c.tc : Thread Cert.GateRefIdeal.nD Cert.GateRefIdeal.τ).loc Cert.GateRefIdeal.main_v82) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_PoolBwd_PoolBwdIdeal : Prop :=
  True

def algebraic_PoolBwdIdeal_PoolRefIdeal_pre_pool_finite [hPoolBwdIdeal : Cert.PoolBwdIdeal.Facts] [hPoolRefIdeal : Cert.PoolRefIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_pool_finite m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)) →
    ∃ (v0 : (c : Dev Cert.PoolBwdIdeal.nD) → Buf (Elt Ideal) ((c.tc : Thread Cert.PoolBwdIdeal.nD Cert.PoolBwdIdeal.τ).loc Cert.PoolBwdIdeal.main_v0)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0) = v0 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v157) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v16) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_MmBwd_MmBwdIdeal : Prop :=
  True

def algebraic_MmBwdIdeal_MmBwdRefIdeal [hMmBwdIdeal : Cert.MmBwdIdeal.Facts] [hMmBwdRefIdeal : Cert.MmBwdRefIdeal.Facts] : Prop :=
  ∀ (m : (ℓ : Loc Cert.MmBwdIdeal.nD Cert.MmBwdIdeal.τ Cert.MmBwdIdeal.sig) → Buf (Elt Ideal) ℓ) (g : Dev Cert.MmBwdIdeal.nD → PrngReg)
    (m' : (ℓ : Loc Cert.MmBwdRefIdeal.nD Cert.MmBwdRefIdeal.τ Cert.MmBwdRefIdeal.sig) → Buf (Elt Ideal) ℓ) (g' : Dev Cert.MmBwdRefIdeal.nD → PrngReg), Pre_MmBwdIdeal m →
    (∀ c : Dev Cert.MmBwdIdeal.nD,
      m' ((c.tc : Thread Cert.MmBwdRefIdeal.nD Cert.MmBwdRefIdeal.τ).loc Cert.MmBwdRefIdeal.main_arg0) = m ((c.tc : Thread Cert.MmBwdIdeal.nD Cert.MmBwdIdeal.τ).loc Cert.MmBwdIdeal.main_arg0)
      ∧ m' ((c.tc : Thread Cert.MmBwdRefIdeal.nD Cert.MmBwdRefIdeal.τ).loc Cert.MmBwdRefIdeal.main_arg1) = m ((c.tc : Thread Cert.MmBwdIdeal.nD Cert.MmBwdIdeal.τ).loc Cert.MmBwdIdeal.main_arg1)
      ∧ m' ((c.tc : Thread Cert.MmBwdRefIdeal.nD Cert.MmBwdRefIdeal.τ).loc Cert.MmBwdRefIdeal.main_arg2) = m ((c.tc : Thread Cert.MmBwdIdeal.nD Cert.MmBwdIdeal.τ).loc Cert.MmBwdIdeal.main_arg2)) →
    ∃ (v0 : (c : Dev Cert.MmBwdIdeal.nD) → Buf (Elt Ideal) ((c.tc : Thread Cert.MmBwdIdeal.nD Cert.MmBwdIdeal.τ).loc Cert.MmBwdIdeal.main_v0_0)) (v1 : (c : Dev Cert.MmBwdIdeal.nD) → Buf (Elt Ideal) ((c.tc : Thread Cert.MmBwdIdeal.nD Cert.MmBwdIdeal.τ).loc Cert.MmBwdIdeal.main_v0_1)),
      θ_run (Cert.MmBwdIdeal.defs (F := Ideal)) (onTc (τ := Cert.MmBwdIdeal.τ) (Cert.MmBwdIdeal.main (F := Ideal))) ⟨m, fun _ => 0, g⟩ (fun r => ∀ c : Dev Cert.MmBwdIdeal.nD,
          r.2.mem ((c.tc : Thread Cert.MmBwdIdeal.nD Cert.MmBwdIdeal.τ).loc Cert.MmBwdIdeal.main_v0_0) = v0 c
          ∧ r.2.mem ((c.tc : Thread Cert.MmBwdIdeal.nD Cert.MmBwdIdeal.τ).loc Cert.MmBwdIdeal.main_v0_1) = v1 c
          ∧ r.2.mem ((c.tc : Thread Cert.MmBwdIdeal.nD Cert.MmBwdIdeal.τ).loc Cert.MmBwdIdeal.main_arg0) = m ((c.tc : Thread Cert.MmBwdIdeal.nD Cert.MmBwdIdeal.τ).loc Cert.MmBwdIdeal.main_arg0)
          ∧ r.2.mem ((c.tc : Thread Cert.MmBwdIdeal.nD Cert.MmBwdIdeal.τ).loc Cert.MmBwdIdeal.main_arg1) = m ((c.tc : Thread Cert.MmBwdIdeal.nD Cert.MmBwdIdeal.τ).loc Cert.MmBwdIdeal.main_arg1)
          ∧ r.2.mem ((c.tc : Thread Cert.MmBwdIdeal.nD Cert.MmBwdIdeal.τ).loc Cert.MmBwdIdeal.main_arg2) = m ((c.tc : Thread Cert.MmBwdIdeal.nD Cert.MmBwdIdeal.τ).loc Cert.MmBwdIdeal.main_arg2))
      ∧ θ_run (Cert.MmBwdRefIdeal.defs (F := Ideal)) (onTc (τ := Cert.MmBwdRefIdeal.τ) (Cert.MmBwdRefIdeal.main (F := Ideal))) ⟨m', fun _ => 0, g'⟩ (fun r => ∀ c : Dev Cert.MmBwdRefIdeal.nD,
          r.2.mem ((c.tc : Thread Cert.MmBwdRefIdeal.nD Cert.MmBwdRefIdeal.τ).loc Cert.MmBwdRefIdeal.main_v8) = v0 c
          ∧ r.2.mem ((c.tc : Thread Cert.MmBwdRefIdeal.nD Cert.MmBwdRefIdeal.τ).loc Cert.MmBwdRefIdeal.main_v10) = v1 c
          ∧ r.2.mem ((c.tc : Thread Cert.MmBwdRefIdeal.nD Cert.MmBwdRefIdeal.τ).loc Cert.MmBwdRefIdeal.main_arg0) = m' ((c.tc : Thread Cert.MmBwdRefIdeal.nD Cert.MmBwdRefIdeal.τ).loc Cert.MmBwdRefIdeal.main_arg0)
          ∧ r.2.mem ((c.tc : Thread Cert.MmBwdRefIdeal.nD Cert.MmBwdRefIdeal.τ).loc Cert.MmBwdRefIdeal.main_arg1) = m' ((c.tc : Thread Cert.MmBwdRefIdeal.nD Cert.MmBwdRefIdeal.τ).loc Cert.MmBwdRefIdeal.main_arg1)
          ∧ r.2.mem ((c.tc : Thread Cert.MmBwdRefIdeal.nD Cert.MmBwdRefIdeal.τ).loc Cert.MmBwdRefIdeal.main_arg2) = m' ((c.tc : Thread Cert.MmBwdRefIdeal.nD Cert.MmBwdRefIdeal.τ).loc Cert.MmBwdRefIdeal.main_arg2))

def preserves_AInDx_AInDxIdeal : Prop :=
  True

def algebraic_AInDxIdeal_AInDxRefIdeal [hAInDxIdeal : Cert.AInDxIdeal.Facts] [hAInDxRefIdeal : Cert.AInDxRefIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxRefIdeal.nD Cert.AInDxRefIdeal.τ Cert.AInDxRefIdeal.sig) → Buf (Elt Ideal) ℓ) (g' : Dev Cert.AInDxRefIdeal.nD → PrngReg), Pre_AInDxIdeal m →
    (∀ c : Dev Cert.AInDxIdeal.nD,
      m' ((c.tc : Thread Cert.AInDxRefIdeal.nD Cert.AInDxRefIdeal.τ).loc Cert.AInDxRefIdeal.main_arg0) = m ((c.tc : Thread Cert.AInDxIdeal.nD Cert.AInDxIdeal.τ).loc Cert.AInDxIdeal.main_arg0)
      ∧ m' ((c.tc : Thread Cert.AInDxRefIdeal.nD Cert.AInDxRefIdeal.τ).loc Cert.AInDxRefIdeal.main_arg1) = m ((c.tc : Thread Cert.AInDxIdeal.nD Cert.AInDxIdeal.τ).loc Cert.AInDxIdeal.main_arg1)) →
    ∃ (v0 : (c : Dev Cert.AInDxIdeal.nD) → Buf (Elt Ideal) ((c.tc : Thread Cert.AInDxIdeal.nD Cert.AInDxIdeal.τ).loc Cert.AInDxIdeal.main_v0)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v0) = v0 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1))
      ∧ θ_run (Cert.AInDxRefIdeal.defs (F := Ideal)) (onTc (τ := Cert.AInDxRefIdeal.τ) (Cert.AInDxRefIdeal.main (F := Ideal))) ⟨m', fun _ => 0, g'⟩ (fun r => ∀ c : Dev Cert.AInDxRefIdeal.nD,
          r.2.mem ((c.tc : Thread Cert.AInDxRefIdeal.nD Cert.AInDxRefIdeal.τ).loc Cert.AInDxRefIdeal.main_v7) = v0 c
          ∧ r.2.mem ((c.tc : Thread Cert.AInDxRefIdeal.nD Cert.AInDxRefIdeal.τ).loc Cert.AInDxRefIdeal.main_arg0) = m' ((c.tc : Thread Cert.AInDxRefIdeal.nD Cert.AInDxRefIdeal.τ).loc Cert.AInDxRefIdeal.main_arg0)
          ∧ r.2.mem ((c.tc : Thread Cert.AInDxRefIdeal.nD Cert.AInDxRefIdeal.τ).loc Cert.AInDxRefIdeal.main_arg1) = m' ((c.tc : Thread Cert.AInDxRefIdeal.nD Cert.AInDxRefIdeal.τ).loc Cert.AInDxRefIdeal.main_arg1))

def preserves_AInDw_AInDwIdeal : Prop :=
  True

def algebraic_AInDwIdeal_AInDwRefIdeal [hAInDwIdeal : Cert.AInDwIdeal.Facts] [hAInDwRefIdeal : Cert.AInDwRefIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwRefIdeal.nD Cert.AInDwRefIdeal.τ Cert.AInDwRefIdeal.sig) → Buf (Elt Ideal) ℓ) (g' : Dev Cert.AInDwRefIdeal.nD → PrngReg), Pre_AInDwIdeal m →
    (∀ c : Dev Cert.AInDwIdeal.nD,
      m' ((c.tc : Thread Cert.AInDwRefIdeal.nD Cert.AInDwRefIdeal.τ).loc Cert.AInDwRefIdeal.main_arg0) = m ((c.tc : Thread Cert.AInDwIdeal.nD Cert.AInDwIdeal.τ).loc Cert.AInDwIdeal.main_arg0)
      ∧ m' ((c.tc : Thread Cert.AInDwRefIdeal.nD Cert.AInDwRefIdeal.τ).loc Cert.AInDwRefIdeal.main_arg1) = m ((c.tc : Thread Cert.AInDwIdeal.nD Cert.AInDwIdeal.τ).loc Cert.AInDwIdeal.main_arg1)) →
    ∃ (v0 : (c : Dev Cert.AInDwIdeal.nD) → Buf (Elt Ideal) ((c.tc : Thread Cert.AInDwIdeal.nD Cert.AInDwIdeal.τ).loc Cert.AInDwIdeal.main_v0)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v0) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1))
      ∧ θ_run (Cert.AInDwRefIdeal.defs (F := Ideal)) (onTc (τ := Cert.AInDwRefIdeal.τ) (Cert.AInDwRefIdeal.main (F := Ideal))) ⟨m', fun _ => 0, g'⟩ (fun r => ∀ c : Dev Cert.AInDwRefIdeal.nD,
          r.2.mem ((c.tc : Thread Cert.AInDwRefIdeal.nD Cert.AInDwRefIdeal.τ).loc Cert.AInDwRefIdeal.main_v9) = v0 c
          ∧ r.2.mem ((c.tc : Thread Cert.AInDwRefIdeal.nD Cert.AInDwRefIdeal.τ).loc Cert.AInDwRefIdeal.main_arg0) = m' ((c.tc : Thread Cert.AInDwRefIdeal.nD Cert.AInDwRefIdeal.τ).loc Cert.AInDwRefIdeal.main_arg0)
          ∧ r.2.mem ((c.tc : Thread Cert.AInDwRefIdeal.nD Cert.AInDwRefIdeal.τ).loc Cert.AInDwRefIdeal.main_arg1) = m' ((c.tc : Thread Cert.AInDwRefIdeal.nD Cert.AInDwRefIdeal.τ).loc Cert.AInDwRefIdeal.main_arg1))

def preserves_GrpDx_GrpDxIdeal : Prop :=
  True

def algebraic_GrpDxIdeal_GrpDxRefIdeal [hGrpDxIdeal : Cert.GrpDxIdeal.Facts] [hGrpDxRefIdeal : Cert.GrpDxRefIdeal.Facts] : Prop :=
  ∀ (m : (ℓ : Loc Cert.GrpDxIdeal.nD Cert.GrpDxIdeal.τ Cert.GrpDxIdeal.sig) → Buf (Elt Ideal) ℓ) (g : Dev Cert.GrpDxIdeal.nD → PrngReg)
    (m' : (ℓ : Loc Cert.GrpDxRefIdeal.nD Cert.GrpDxRefIdeal.τ Cert.GrpDxRefIdeal.sig) → Buf (Elt Ideal) ℓ) (g' : Dev Cert.GrpDxRefIdeal.nD → PrngReg), Pre_GrpDxIdeal m →
    (∀ c : Dev Cert.GrpDxIdeal.nD,
      m' ((c.tc : Thread Cert.GrpDxRefIdeal.nD Cert.GrpDxRefIdeal.τ).loc Cert.GrpDxRefIdeal.main_arg0) = m ((c.tc : Thread Cert.GrpDxIdeal.nD Cert.GrpDxIdeal.τ).loc Cert.GrpDxIdeal.main_arg0)
      ∧ m' ((c.tc : Thread Cert.GrpDxRefIdeal.nD Cert.GrpDxRefIdeal.τ).loc Cert.GrpDxRefIdeal.main_arg1) = m ((c.tc : Thread Cert.GrpDxIdeal.nD Cert.GrpDxIdeal.τ).loc Cert.GrpDxIdeal.main_arg1)) →
    ∃ (v0 : (c : Dev Cert.GrpDxIdeal.nD) → Buf (Elt Ideal) ((c.tc : Thread Cert.GrpDxIdeal.nD Cert.GrpDxIdeal.τ).loc Cert.GrpDxIdeal.main_v0)),
      θ_run (Cert.GrpDxIdeal.defs (F := Ideal)) (onTc (τ := Cert.GrpDxIdeal.τ) (Cert.GrpDxIdeal.main (F := Ideal))) ⟨m, fun _ => 0, g⟩ (fun r => ∀ c : Dev Cert.GrpDxIdeal.nD,
          r.2.mem ((c.tc : Thread Cert.GrpDxIdeal.nD Cert.GrpDxIdeal.τ).loc Cert.GrpDxIdeal.main_v0) = v0 c
          ∧ r.2.mem ((c.tc : Thread Cert.GrpDxIdeal.nD Cert.GrpDxIdeal.τ).loc Cert.GrpDxIdeal.main_arg0) = m ((c.tc : Thread Cert.GrpDxIdeal.nD Cert.GrpDxIdeal.τ).loc Cert.GrpDxIdeal.main_arg0)
          ∧ r.2.mem ((c.tc : Thread Cert.GrpDxIdeal.nD Cert.GrpDxIdeal.τ).loc Cert.GrpDxIdeal.main_arg1) = m ((c.tc : Thread Cert.GrpDxIdeal.nD Cert.GrpDxIdeal.τ).loc Cert.GrpDxIdeal.main_arg1))
      ∧ θ_run (Cert.GrpDxRefIdeal.defs (F := Ideal)) (onTc (τ := Cert.GrpDxRefIdeal.τ) (Cert.GrpDxRefIdeal.main (F := Ideal))) ⟨m', fun _ => 0, g'⟩ (fun r => ∀ c : Dev Cert.GrpDxRefIdeal.nD,
          r.2.mem ((c.tc : Thread Cert.GrpDxRefIdeal.nD Cert.GrpDxRefIdeal.τ).loc Cert.GrpDxRefIdeal.main_v13) = v0 c
          ∧ r.2.mem ((c.tc : Thread Cert.GrpDxRefIdeal.nD Cert.GrpDxRefIdeal.τ).loc Cert.GrpDxRefIdeal.main_arg0) = m' ((c.tc : Thread Cert.GrpDxRefIdeal.nD Cert.GrpDxRefIdeal.τ).loc Cert.GrpDxRefIdeal.main_arg0)
          ∧ r.2.mem ((c.tc : Thread Cert.GrpDxRefIdeal.nD Cert.GrpDxRefIdeal.τ).loc Cert.GrpDxRefIdeal.main_arg1) = m' ((c.tc : Thread Cert.GrpDxRefIdeal.nD Cert.GrpDxRefIdeal.τ).loc Cert.GrpDxRefIdeal.main_arg1))

def preserves_GrpDw_GrpDwIdeal : Prop :=
  True

def algebraic_GrpDwIdeal_GrpDwRefIdeal [hGrpDwIdeal : Cert.GrpDwIdeal.Facts] [hGrpDwRefIdeal : Cert.GrpDwRefIdeal.Facts] : Prop :=
  ∀ (m : (ℓ : Loc Cert.GrpDwIdeal.nD Cert.GrpDwIdeal.τ Cert.GrpDwIdeal.sig) → Buf (Elt Ideal) ℓ) (g : Dev Cert.GrpDwIdeal.nD → PrngReg)
    (m' : (ℓ : Loc Cert.GrpDwRefIdeal.nD Cert.GrpDwRefIdeal.τ Cert.GrpDwRefIdeal.sig) → Buf (Elt Ideal) ℓ) (g' : Dev Cert.GrpDwRefIdeal.nD → PrngReg), Pre_GrpDwIdeal m →
    (∀ c : Dev Cert.GrpDwIdeal.nD,
      m' ((c.tc : Thread Cert.GrpDwRefIdeal.nD Cert.GrpDwRefIdeal.τ).loc Cert.GrpDwRefIdeal.main_arg0) = m ((c.tc : Thread Cert.GrpDwIdeal.nD Cert.GrpDwIdeal.τ).loc Cert.GrpDwIdeal.main_arg0)
      ∧ m' ((c.tc : Thread Cert.GrpDwRefIdeal.nD Cert.GrpDwRefIdeal.τ).loc Cert.GrpDwRefIdeal.main_arg1) = m ((c.tc : Thread Cert.GrpDwIdeal.nD Cert.GrpDwIdeal.τ).loc Cert.GrpDwIdeal.main_arg1)) →
    ∃ (v0 : (c : Dev Cert.GrpDwIdeal.nD) → Buf (Elt Ideal) ((c.tc : Thread Cert.GrpDwIdeal.nD Cert.GrpDwIdeal.τ).loc Cert.GrpDwIdeal.main_v0)),
      θ_run (Cert.GrpDwIdeal.defs (F := Ideal)) (onTc (τ := Cert.GrpDwIdeal.τ) (Cert.GrpDwIdeal.main (F := Ideal))) ⟨m, fun _ => 0, g⟩ (fun r => ∀ c : Dev Cert.GrpDwIdeal.nD,
          r.2.mem ((c.tc : Thread Cert.GrpDwIdeal.nD Cert.GrpDwIdeal.τ).loc Cert.GrpDwIdeal.main_v0) = v0 c
          ∧ r.2.mem ((c.tc : Thread Cert.GrpDwIdeal.nD Cert.GrpDwIdeal.τ).loc Cert.GrpDwIdeal.main_arg0) = m ((c.tc : Thread Cert.GrpDwIdeal.nD Cert.GrpDwIdeal.τ).loc Cert.GrpDwIdeal.main_arg0)
          ∧ r.2.mem ((c.tc : Thread Cert.GrpDwIdeal.nD Cert.GrpDwIdeal.τ).loc Cert.GrpDwIdeal.main_arg1) = m ((c.tc : Thread Cert.GrpDwIdeal.nD Cert.GrpDwIdeal.τ).loc Cert.GrpDwIdeal.main_arg1))
      ∧ θ_run (Cert.GrpDwRefIdeal.defs (F := Ideal)) (onTc (τ := Cert.GrpDwRefIdeal.τ) (Cert.GrpDwRefIdeal.main (F := Ideal))) ⟨m', fun _ => 0, g'⟩ (fun r => ∀ c : Dev Cert.GrpDwRefIdeal.nD,
          r.2.mem ((c.tc : Thread Cert.GrpDwRefIdeal.nD Cert.GrpDwRefIdeal.τ).loc Cert.GrpDwRefIdeal.main_v13) = v0 c
          ∧ r.2.mem ((c.tc : Thread Cert.GrpDwRefIdeal.nD Cert.GrpDwRefIdeal.τ).loc Cert.GrpDwRefIdeal.main_arg0) = m' ((c.tc : Thread Cert.GrpDwRefIdeal.nD Cert.GrpDwRefIdeal.τ).loc Cert.GrpDwRefIdeal.main_arg0)
          ∧ r.2.mem ((c.tc : Thread Cert.GrpDwRefIdeal.nD Cert.GrpDwRefIdeal.τ).loc Cert.GrpDwRefIdeal.main_arg1) = m' ((c.tc : Thread Cert.GrpDwRefIdeal.nD Cert.GrpDwRefIdeal.τ).loc Cert.GrpDwRefIdeal.main_arg1))

def preserves_ScaleBwd_ScaleBwdIdeal : Prop :=
  True

def algebraic_ScaleBwdIdeal_ScaleBwdRefIdeal [hScaleBwdIdeal : Cert.ScaleBwdIdeal.Facts] [hScaleBwdRefIdeal : Cert.ScaleBwdRefIdeal.Facts] : Prop :=
  ∀ (m : (ℓ : Loc Cert.ScaleBwdIdeal.nD Cert.ScaleBwdIdeal.τ Cert.ScaleBwdIdeal.sig) → Buf (Elt Ideal) ℓ) (g : Dev Cert.ScaleBwdIdeal.nD → PrngReg)
    (m' : (ℓ : Loc Cert.ScaleBwdRefIdeal.nD Cert.ScaleBwdRefIdeal.τ Cert.ScaleBwdRefIdeal.sig) → Buf (Elt Ideal) ℓ) (g' : Dev Cert.ScaleBwdRefIdeal.nD → PrngReg), Pre_ScaleBwdIdeal m →
    (∀ c : Dev Cert.ScaleBwdIdeal.nD,
      m' ((c.tc : Thread Cert.ScaleBwdRefIdeal.nD Cert.ScaleBwdRefIdeal.τ).loc Cert.ScaleBwdRefIdeal.main_arg0) = m ((c.tc : Thread Cert.ScaleBwdIdeal.nD Cert.ScaleBwdIdeal.τ).loc Cert.ScaleBwdIdeal.main_arg0)
      ∧ m' ((c.tc : Thread Cert.ScaleBwdRefIdeal.nD Cert.ScaleBwdRefIdeal.τ).loc Cert.ScaleBwdRefIdeal.main_arg1) = m ((c.tc : Thread Cert.ScaleBwdIdeal.nD Cert.ScaleBwdIdeal.τ).loc Cert.ScaleBwdIdeal.main_arg1)
      ∧ m' ((c.tc : Thread Cert.ScaleBwdRefIdeal.nD Cert.ScaleBwdRefIdeal.τ).loc Cert.ScaleBwdRefIdeal.main_arg2) = m ((c.tc : Thread Cert.ScaleBwdIdeal.nD Cert.ScaleBwdIdeal.τ).loc Cert.ScaleBwdIdeal.main_arg2)) →
    ∃ (v0 : (c : Dev Cert.ScaleBwdIdeal.nD) → Buf (Elt Ideal) ((c.tc : Thread Cert.ScaleBwdIdeal.nD Cert.ScaleBwdIdeal.τ).loc Cert.ScaleBwdIdeal.main_v0_0)) (v1 : (c : Dev Cert.ScaleBwdIdeal.nD) → Buf (Elt Ideal) ((c.tc : Thread Cert.ScaleBwdIdeal.nD Cert.ScaleBwdIdeal.τ).loc Cert.ScaleBwdIdeal.main_v0_1)),
      θ_run (Cert.ScaleBwdIdeal.defs (F := Ideal)) (onTc (τ := Cert.ScaleBwdIdeal.τ) (Cert.ScaleBwdIdeal.main (F := Ideal))) ⟨m, fun _ => 0, g⟩ (fun r => ∀ c : Dev Cert.ScaleBwdIdeal.nD,
          r.2.mem ((c.tc : Thread Cert.ScaleBwdIdeal.nD Cert.ScaleBwdIdeal.τ).loc Cert.ScaleBwdIdeal.main_v0_0) = v0 c
          ∧ r.2.mem ((c.tc : Thread Cert.ScaleBwdIdeal.nD Cert.ScaleBwdIdeal.τ).loc Cert.ScaleBwdIdeal.main_v0_1) = v1 c
          ∧ r.2.mem ((c.tc : Thread Cert.ScaleBwdIdeal.nD Cert.ScaleBwdIdeal.τ).loc Cert.ScaleBwdIdeal.main_arg0) = m ((c.tc : Thread Cert.ScaleBwdIdeal.nD Cert.ScaleBwdIdeal.τ).loc Cert.ScaleBwdIdeal.main_arg0)
          ∧ r.2.mem ((c.tc : Thread Cert.ScaleBwdIdeal.nD Cert.ScaleBwdIdeal.τ).loc Cert.ScaleBwdIdeal.main_arg1) = m ((c.tc : Thread Cert.ScaleBwdIdeal.nD Cert.ScaleBwdIdeal.τ).loc Cert.ScaleBwdIdeal.main_arg1)
          ∧ r.2.mem ((c.tc : Thread Cert.ScaleBwdIdeal.nD Cert.ScaleBwdIdeal.τ).loc Cert.ScaleBwdIdeal.main_arg2) = m ((c.tc : Thread Cert.ScaleBwdIdeal.nD Cert.ScaleBwdIdeal.τ).loc Cert.ScaleBwdIdeal.main_arg2))
      ∧ θ_run (Cert.ScaleBwdRefIdeal.defs (F := Ideal)) (onTc (τ := Cert.ScaleBwdRefIdeal.τ) (Cert.ScaleBwdRefIdeal.main (F := Ideal))) ⟨m', fun _ => 0, g'⟩ (fun r => ∀ c : Dev Cert.ScaleBwdRefIdeal.nD,
          r.2.mem ((c.tc : Thread Cert.ScaleBwdRefIdeal.nD Cert.ScaleBwdRefIdeal.τ).loc Cert.ScaleBwdRefIdeal.main_v7) = v0 c
          ∧ r.2.mem ((c.tc : Thread Cert.ScaleBwdRefIdeal.nD Cert.ScaleBwdRefIdeal.τ).loc Cert.ScaleBwdRefIdeal.main_v4) = v1 c
          ∧ r.2.mem ((c.tc : Thread Cert.ScaleBwdRefIdeal.nD Cert.ScaleBwdRefIdeal.τ).loc Cert.ScaleBwdRefIdeal.main_arg0) = m' ((c.tc : Thread Cert.ScaleBwdRefIdeal.nD Cert.ScaleBwdRefIdeal.τ).loc Cert.ScaleBwdRefIdeal.main_arg0)
          ∧ r.2.mem ((c.tc : Thread Cert.ScaleBwdRefIdeal.nD Cert.ScaleBwdRefIdeal.τ).loc Cert.ScaleBwdRefIdeal.main_arg1) = m' ((c.tc : Thread Cert.ScaleBwdRefIdeal.nD Cert.ScaleBwdRefIdeal.τ).loc Cert.ScaleBwdRefIdeal.main_arg1)
          ∧ r.2.mem ((c.tc : Thread Cert.ScaleBwdRefIdeal.nD Cert.ScaleBwdRefIdeal.τ).loc Cert.ScaleBwdRefIdeal.main_arg2) = m' ((c.tc : Thread Cert.ScaleBwdRefIdeal.nD Cert.ScaleBwdRefIdeal.τ).loc Cert.ScaleBwdRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)) →
    ∃ (v0 : (c : Dev Cert.Down0Ideal.nD) → Buf (Elt Ideal) ((c.tc : Thread Cert.Down0Ideal.nD Cert.Down0Ideal.τ).loc Cert.Down0Ideal.main_v0)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v13) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)
      ∧ m' ((c.tc : Thread Cert.Down1RefIdeal.nD Cert.Down1RefIdeal.τ).loc Cert.Down1RefIdeal.main_arg2) = m ((c.tc : Thread Cert.Down1Ideal.nD Cert.Down1Ideal.τ).loc Cert.Down1Ideal.main_arg2)) →
    ∃ (v0 : (c : Dev Cert.Down1Ideal.nD) → Buf (Elt Ideal) ((c.tc : Thread Cert.Down1Ideal.nD Cert.Down1Ideal.τ).loc Cert.Down1Ideal.main_v0)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v0) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v13) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1)
          ∧ r.2.mem ((c.tc : Thread Cert.Down1RefIdeal.nD Cert.Down1RefIdeal.τ).loc Cert.Down1RefIdeal.main_arg2) = m' ((c.tc : Thread Cert.Down1RefIdeal.nD Cert.Down1RefIdeal.τ).loc Cert.Down1RefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v5) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v0)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v0) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v4) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1))

def preserves_Grp_GrpIdeal : Prop :=
  True

def algebraic_GrpIdeal_GrpRefIdeal [hGrpIdeal : Cert.GrpIdeal.Facts] [hGrpRefIdeal : Cert.GrpRefIdeal.Facts] : Prop :=
  ∀ (m : (ℓ : Loc Cert.GrpIdeal.nD Cert.GrpIdeal.τ Cert.GrpIdeal.sig) → Buf (Elt Ideal) ℓ) (g : Dev Cert.GrpIdeal.nD → PrngReg)
    (m' : (ℓ : Loc Cert.GrpRefIdeal.nD Cert.GrpRefIdeal.τ Cert.GrpRefIdeal.sig) → Buf (Elt Ideal) ℓ) (g' : Dev Cert.GrpRefIdeal.nD → PrngReg), Pre_GrpIdeal m →
    (∀ c : Dev Cert.GrpIdeal.nD,
      m' ((c.tc : Thread Cert.GrpRefIdeal.nD Cert.GrpRefIdeal.τ).loc Cert.GrpRefIdeal.main_arg0) = m ((c.tc : Thread Cert.GrpIdeal.nD Cert.GrpIdeal.τ).loc Cert.GrpIdeal.main_arg0)
      ∧ m' ((c.tc : Thread Cert.GrpRefIdeal.nD Cert.GrpRefIdeal.τ).loc Cert.GrpRefIdeal.main_arg1) = m ((c.tc : Thread Cert.GrpIdeal.nD Cert.GrpIdeal.τ).loc Cert.GrpIdeal.main_arg1)
      ∧ m' ((c.tc : Thread Cert.GrpRefIdeal.nD Cert.GrpRefIdeal.τ).loc Cert.GrpRefIdeal.main_arg2) = m ((c.tc : Thread Cert.GrpIdeal.nD Cert.GrpIdeal.τ).loc Cert.GrpIdeal.main_arg2)) →
    ∃ (v0 : (c : Dev Cert.GrpIdeal.nD) → Buf (Elt Ideal) ((c.tc : Thread Cert.GrpIdeal.nD Cert.GrpIdeal.τ).loc Cert.GrpIdeal.main_v0_0)) (v1 : (c : Dev Cert.GrpIdeal.nD) → Buf (Elt Ideal) ((c.tc : Thread Cert.GrpIdeal.nD Cert.GrpIdeal.τ).loc Cert.GrpIdeal.main_v0_1)),
      θ_run (Cert.GrpIdeal.defs (F := Ideal)) (onTc (τ := Cert.GrpIdeal.τ) (Cert.GrpIdeal.main (F := Ideal))) ⟨m, fun _ => 0, g⟩ (fun r => ∀ c : Dev Cert.GrpIdeal.nD,
          r.2.mem ((c.tc : Thread Cert.GrpIdeal.nD Cert.GrpIdeal.τ).loc Cert.GrpIdeal.main_v0_0) = v0 c
          ∧ r.2.mem ((c.tc : Thread Cert.GrpIdeal.nD Cert.GrpIdeal.τ).loc Cert.GrpIdeal.main_v0_1) = v1 c
          ∧ r.2.mem ((c.tc : Thread Cert.GrpIdeal.nD Cert.GrpIdeal.τ).loc Cert.GrpIdeal.main_arg0) = m ((c.tc : Thread Cert.GrpIdeal.nD Cert.GrpIdeal.τ).loc Cert.GrpIdeal.main_arg0)
          ∧ r.2.mem ((c.tc : Thread Cert.GrpIdeal.nD Cert.GrpIdeal.τ).loc Cert.GrpIdeal.main_arg1) = m ((c.tc : Thread Cert.GrpIdeal.nD Cert.GrpIdeal.τ).loc Cert.GrpIdeal.main_arg1)
          ∧ r.2.mem ((c.tc : Thread Cert.GrpIdeal.nD Cert.GrpIdeal.τ).loc Cert.GrpIdeal.main_arg2) = m ((c.tc : Thread Cert.GrpIdeal.nD Cert.GrpIdeal.τ).loc Cert.GrpIdeal.main_arg2))
      ∧ θ_run (Cert.GrpRefIdeal.defs (F := Ideal)) (onTc (τ := Cert.GrpRefIdeal.τ) (Cert.GrpRefIdeal.main (F := Ideal))) ⟨m', fun _ => 0, g'⟩ (fun r => ∀ c : Dev Cert.GrpRefIdeal.nD,
          r.2.mem ((c.tc : Thread Cert.GrpRefIdeal.nD Cert.GrpRefIdeal.τ).loc Cert.GrpRefIdeal.main_v7) = v0 c
          ∧ r.2.mem ((c.tc : Thread Cert.GrpRefIdeal.nD Cert.GrpRefIdeal.τ).loc Cert.GrpRefIdeal.main_v10) = v1 c
          ∧ r.2.mem ((c.tc : Thread Cert.GrpRefIdeal.nD Cert.GrpRefIdeal.τ).loc Cert.GrpRefIdeal.main_arg0) = m' ((c.tc : Thread Cert.GrpRefIdeal.nD Cert.GrpRefIdeal.τ).loc Cert.GrpRefIdeal.main_arg0)
          ∧ r.2.mem ((c.tc : Thread Cert.GrpRefIdeal.nD Cert.GrpRefIdeal.τ).loc Cert.GrpRefIdeal.main_arg1) = m' ((c.tc : Thread Cert.GrpRefIdeal.nD Cert.GrpRefIdeal.τ).loc Cert.GrpRefIdeal.main_arg1)
          ∧ r.2.mem ((c.tc : Thread Cert.GrpRefIdeal.nD Cert.GrpRefIdeal.τ).loc Cert.GrpRefIdeal.main_arg2) = m' ((c.tc : Thread Cert.GrpRefIdeal.nD Cert.GrpRefIdeal.τ).loc Cert.GrpRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGrp_AdamGrpIdeal : Prop :=
  True

def algebraic_AdamGrpIdeal_AdamGrpRefIdeal [hAdamGrpIdeal : Cert.AdamGrpIdeal.Facts] [hAdamGrpRefIdeal : Cert.AdamGrpRefIdeal.Facts] : Prop :=
  ∀ (m : (ℓ : Loc Cert.AdamGrpIdeal.nD Cert.AdamGrpIdeal.τ Cert.AdamGrpIdeal.sig) → Buf (Elt Ideal) ℓ) (g : Dev Cert.AdamGrpIdeal.nD → PrngReg)
    (m' : (ℓ : Loc Cert.AdamGrpRefIdeal.nD Cert.AdamGrpRefIdeal.τ Cert.AdamGrpRefIdeal.sig) → Buf (Elt Ideal) ℓ) (g' : Dev Cert.AdamGrpRefIdeal.nD → PrngReg), Pre_AdamGrpIdeal m →
    (∀ c : Dev Cert.AdamGrpIdeal.nD,
      m' ((c.tc : Thread Cert.AdamGrpRefIdeal.nD Cert.AdamGrpRefIdeal.τ).loc Cert.AdamGrpRefIdeal.main_arg0) = m ((c.tc : Thread Cert.AdamGrpIdeal.nD Cert.AdamGrpIdeal.τ).loc Cert.AdamGrpIdeal.main_arg0)
      ∧ m' ((c.tc : Thread Cert.AdamGrpRefIdeal.nD Cert.AdamGrpRefIdeal.τ).loc Cert.AdamGrpRefIdeal.main_arg1) = m ((c.tc : Thread Cert.AdamGrpIdeal.nD Cert.AdamGrpIdeal.τ).loc Cert.AdamGrpIdeal.main_arg1)
      ∧ m' ((c.tc : Thread Cert.AdamGrpRefIdeal.nD Cert.AdamGrpRefIdeal.τ).loc Cert.AdamGrpRefIdeal.main_arg2) = m ((c.tc : Thread Cert.AdamGrpIdeal.nD Cert.AdamGrpIdeal.τ).loc Cert.AdamGrpIdeal.main_arg2)
      ∧ m' ((c.tc : Thread Cert.AdamGrpRefIdeal.nD Cert.AdamGrpRefIdeal.τ).loc Cert.AdamGrpRefIdeal.main_arg3) = m ((c.tc : Thread Cert.AdamGrpIdeal.nD Cert.AdamGrpIdeal.τ).loc Cert.AdamGrpIdeal.main_arg3)) →
    ∃ (v0 : (c : Dev Cert.AdamGrpIdeal.nD) → Buf (Elt Ideal) ((c.tc : Thread Cert.AdamGrpIdeal.nD Cert.AdamGrpIdeal.τ).loc Cert.AdamGrpIdeal.main_v0_0)) (v1 : (c : Dev Cert.AdamGrpIdeal.nD) → Buf (Elt Ideal) ((c.tc : Thread Cert.AdamGrpIdeal.nD Cert.AdamGrpIdeal.τ).loc Cert.AdamGrpIdeal.main_v0_1)) (v2 : (c : Dev Cert.AdamGrpIdeal.nD) → Buf (Elt Ideal) ((c.tc : Thread Cert.AdamGrpIdeal.nD Cert.AdamGrpIdeal.τ).loc Cert.AdamGrpIdeal.main_v0_2)) (v3 : (c : Dev Cert.AdamGrpIdeal.nD) → Buf (Elt Ideal) ((c.tc : Thread Cert.AdamGrpIdeal.nD Cert.AdamGrpIdeal.τ).loc Cert.AdamGrpIdeal.main_v0_3)),
      θ_run (Cert.AdamGrpIdeal.defs (F := Ideal)) (onTc (τ := Cert.AdamGrpIdeal.τ) (Cert.AdamGrpIdeal.main (F := Ideal))) ⟨m, fun _ => 0, g⟩ (fun r => ∀ c : Dev Cert.AdamGrpIdeal.nD,
          r.2.mem ((c.tc : Thread Cert.AdamGrpIdeal.nD Cert.AdamGrpIdeal.τ).loc Cert.AdamGrpIdeal.main_v0_0) = v0 c
          ∧ r.2.mem ((c.tc : Thread Cert.AdamGrpIdeal.nD Cert.AdamGrpIdeal.τ).loc Cert.AdamGrpIdeal.main_v0_1) = v1 c
          ∧ r.2.mem ((c.tc : Thread Cert.AdamGrpIdeal.nD Cert.AdamGrpIdeal.τ).loc Cert.AdamGrpIdeal.main_v0_2) = v2 c
          ∧ r.2.mem ((c.tc : Thread Cert.AdamGrpIdeal.nD Cert.AdamGrpIdeal.τ).loc Cert.AdamGrpIdeal.main_v0_3) = v3 c
          ∧ r.2.mem ((c.tc : Thread Cert.AdamGrpIdeal.nD Cert.AdamGrpIdeal.τ).loc Cert.AdamGrpIdeal.main_arg0) = m ((c.tc : Thread Cert.AdamGrpIdeal.nD Cert.AdamGrpIdeal.τ).loc Cert.AdamGrpIdeal.main_arg0)
          ∧ r.2.mem ((c.tc : Thread Cert.AdamGrpIdeal.nD Cert.AdamGrpIdeal.τ).loc Cert.AdamGrpIdeal.main_arg1) = m ((c.tc : Thread Cert.AdamGrpIdeal.nD Cert.AdamGrpIdeal.τ).loc Cert.AdamGrpIdeal.main_arg1)
          ∧ r.2.mem ((c.tc : Thread Cert.AdamGrpIdeal.nD Cert.AdamGrpIdeal.τ).loc Cert.AdamGrpIdeal.main_arg2) = m ((c.tc : Thread Cert.AdamGrpIdeal.nD Cert.AdamGrpIdeal.τ).loc Cert.AdamGrpIdeal.main_arg2)
          ∧ r.2.mem ((c.tc : Thread Cert.AdamGrpIdeal.nD Cert.AdamGrpIdeal.τ).loc Cert.AdamGrpIdeal.main_arg3) = m ((c.tc : Thread Cert.AdamGrpIdeal.nD Cert.AdamGrpIdeal.τ).loc Cert.AdamGrpIdeal.main_arg3))
      ∧ θ_run (Cert.AdamGrpRefIdeal.defs (F := Ideal)) (onTc (τ := Cert.AdamGrpRefIdeal.τ) (Cert.AdamGrpRefIdeal.main (F := Ideal))) ⟨m', fun _ => 0, g'⟩ (fun r => ∀ c : Dev Cert.AdamGrpRefIdeal.nD,
          r.2.mem ((c.tc : Thread Cert.AdamGrpRefIdeal.nD Cert.AdamGrpRefIdeal.τ).loc Cert.AdamGrpRefIdeal.main_v1) = v0 c
          ∧ r.2.mem ((c.tc : Thread Cert.AdamGrpRefIdeal.nD Cert.AdamGrpRefIdeal.τ).loc Cert.AdamGrpRefIdeal.main_v25) = v1 c
          ∧ r.2.mem ((c.tc : Thread Cert.AdamGrpRefIdeal.nD Cert.AdamGrpRefIdeal.τ).loc Cert.AdamGrpRefIdeal.main_v6) = v2 c
          ∧ r.2.mem ((c.tc : Thread Cert.AdamGrpRefIdeal.nD Cert.AdamGrpRefIdeal.τ).loc Cert.AdamGrpRefIdeal.main_v12) = v3 c
          ∧ r.2.mem ((c.tc : Thread Cert.AdamGrpRefIdeal.nD Cert.AdamGrpRefIdeal.τ).loc Cert.AdamGrpRefIdeal.main_arg0) = m' ((c.tc : Thread Cert.AdamGrpRefIdeal.nD Cert.AdamGrpRefIdeal.τ).loc Cert.AdamGrpRefIdeal.main_arg0)
          ∧ r.2.mem ((c.tc : Thread Cert.AdamGrpRefIdeal.nD Cert.AdamGrpRefIdeal.τ).loc Cert.AdamGrpRefIdeal.main_arg1) = m' ((c.tc : Thread Cert.AdamGrpRefIdeal.nD Cert.AdamGrpRefIdeal.τ).loc Cert.AdamGrpRefIdeal.main_arg1)
          ∧ r.2.mem ((c.tc : Thread Cert.AdamGrpRefIdeal.nD Cert.AdamGrpRefIdeal.τ).loc Cert.AdamGrpRefIdeal.main_arg2) = m' ((c.tc : Thread Cert.AdamGrpRefIdeal.nD Cert.AdamGrpRefIdeal.τ).loc Cert.AdamGrpRefIdeal.main_arg2)
          ∧ r.2.mem ((c.tc : Thread Cert.AdamGrpRefIdeal.nD Cert.AdamGrpRefIdeal.τ).loc Cert.AdamGrpRefIdeal.main_arg3) = m' ((c.tc : Thread Cert.AdamGrpRefIdeal.nD Cert.AdamGrpRefIdeal.τ).loc Cert.AdamGrpRefIdeal.main_arg3))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)
      ∧ m' ((c.tc : Thread Cert.AdamMlpRefIdeal.nD Cert.AdamMlpRefIdeal.τ).loc Cert.AdamMlpRefIdeal.main_arg4) = m ((c.tc : Thread Cert.AdamMlpIdeal.nD Cert.AdamMlpIdeal.τ).loc Cert.AdamMlpIdeal.main_arg4)
      ∧ m' ((c.tc : Thread Cert.AdamMlpRefIdeal.nD Cert.AdamMlpRefIdeal.τ).loc Cert.AdamMlpRefIdeal.main_arg5) = m ((c.tc : Thread Cert.AdamMlpIdeal.nD Cert.AdamMlpIdeal.τ).loc Cert.AdamMlpIdeal.main_arg5)
      ∧ m' ((c.tc : Thread Cert.AdamMlpRefIdeal.nD Cert.AdamMlpRefIdeal.τ).loc Cert.AdamMlpRefIdeal.main_arg6) = m ((c.tc : Thread Cert.AdamMlpIdeal.nD Cert.AdamMlpIdeal.τ).loc Cert.AdamMlpIdeal.main_arg6)
      ∧ m' ((c.tc : Thread Cert.AdamMlpRefIdeal.nD Cert.AdamMlpRefIdeal.τ).loc Cert.AdamMlpRefIdeal.main_arg7) = m ((c.tc : Thread Cert.AdamMlpIdeal.nD Cert.AdamMlpIdeal.τ).loc Cert.AdamMlpIdeal.main_arg7)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
          ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
          ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
          ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
          ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v30) = v0 c
          ∧ r.2.mem ((c.tc : Thread Cert.AdamMlpRefIdeal.nD Cert.AdamMlpRefIdeal.τ).loc Cert.AdamMlpRefIdeal.main_v32) = v1 c
          ∧ r.2.mem ((c.tc : Thread Cert.AdamMlpRefIdeal.nD Cert.AdamMlpRefIdeal.τ).loc Cert.AdamMlpRefIdeal.main_v34) = v2 c
          ∧ r.2.mem ((c.tc : Thread Cert.AdamMlpRefIdeal.nD Cert.AdamMlpRefIdeal.τ).loc Cert.AdamMlpRefIdeal.main_v36) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3)
          ∧ r.2.mem ((c.tc : Thread Cert.AdamMlpRefIdeal.nD Cert.AdamMlpRefIdeal.τ).loc Cert.AdamMlpRefIdeal.main_arg4) = m' ((c.tc : Thread Cert.AdamMlpRefIdeal.nD Cert.AdamMlpRefIdeal.τ).loc Cert.AdamMlpRefIdeal.main_arg4)
          ∧ r.2.mem ((c.tc : Thread Cert.AdamMlpRefIdeal.nD Cert.AdamMlpRefIdeal.τ).loc Cert.AdamMlpRefIdeal.main_arg5) = m' ((c.tc : Thread Cert.AdamMlpRefIdeal.nD Cert.AdamMlpRefIdeal.τ).loc Cert.AdamMlpRefIdeal.main_arg5)
          ∧ r.2.mem ((c.tc : Thread Cert.AdamMlpRefIdeal.nD Cert.AdamMlpRefIdeal.τ).loc Cert.AdamMlpRefIdeal.main_arg6) = m' ((c.tc : Thread Cert.AdamMlpRefIdeal.nD Cert.AdamMlpRefIdeal.τ).loc Cert.AdamMlpRefIdeal.main_arg6)
          ∧ r.2.mem ((c.tc : Thread Cert.AdamMlpRefIdeal.nD Cert.AdamMlpRefIdeal.τ).loc Cert.AdamMlpRefIdeal.main_arg7) = m' ((c.tc : Thread Cert.AdamMlpRefIdeal.nD Cert.AdamMlpRefIdeal.τ).loc Cert.AdamMlpRefIdeal.main_arg7))

def preserves_AdamMlp1_AdamMlp1Ideal : Prop :=
  True

def algebraic_AdamMlp1Ideal_AdamMlp1RefIdeal [hAdamMlp1Ideal : Cert.AdamMlp1Ideal.Facts] [hAdamMlp1RefIdeal : Cert.AdamMlp1RefIdeal.Facts] : Prop :=
  ∀ (m : (ℓ : Loc Cert.AdamMlp1Ideal.nD Cert.AdamMlp1Ideal.τ Cert.AdamMlp1Ideal.sig) → Buf (Elt Ideal) ℓ) (g : Dev Cert.AdamMlp1Ideal.nD → PrngReg)
    (m' : (ℓ : Loc Cert.AdamMlp1RefIdeal.nD Cert.AdamMlp1RefIdeal.τ Cert.AdamMlp1RefIdeal.sig) → Buf (Elt Ideal) ℓ) (g' : Dev Cert.AdamMlp1RefIdeal.nD → PrngReg), Pre_AdamMlp1Ideal m →
    (∀ c : Dev Cert.AdamMlp1Ideal.nD,
      m' ((c.tc : Thread Cert.AdamMlp1RefIdeal.nD Cert.AdamMlp1RefIdeal.τ).loc Cert.AdamMlp1RefIdeal.main_arg0) = m ((c.tc : Thread Cert.AdamMlp1Ideal.nD Cert.AdamMlp1Ideal.τ).loc Cert.AdamMlp1Ideal.main_arg0)
      ∧ m' ((c.tc : Thread Cert.AdamMlp1RefIdeal.nD Cert.AdamMlp1RefIdeal.τ).loc Cert.AdamMlp1RefIdeal.main_arg1) = m ((c.tc : Thread Cert.AdamMlp1Ideal.nD Cert.AdamMlp1Ideal.τ).loc Cert.AdamMlp1Ideal.main_arg1)
      ∧ m' ((c.tc : Thread Cert.AdamMlp1RefIdeal.nD Cert.AdamMlp1RefIdeal.τ).loc Cert.AdamMlp1RefIdeal.main_arg2) = m ((c.tc : Thread Cert.AdamMlp1Ideal.nD Cert.AdamMlp1Ideal.τ).loc Cert.AdamMlp1Ideal.main_arg2)
      ∧ m' ((c.tc : Thread Cert.AdamMlp1RefIdeal.nD Cert.AdamMlp1RefIdeal.τ).loc Cert.AdamMlp1RefIdeal.main_arg3) = m ((c.tc : Thread Cert.AdamMlp1Ideal.nD Cert.AdamMlp1Ideal.τ).loc Cert.AdamMlp1Ideal.main_arg3)) →
    ∃ (v0 : (c : Dev Cert.AdamMlp1Ideal.nD) → Buf (Elt Ideal) ((c.tc : Thread Cert.AdamMlp1Ideal.nD Cert.AdamMlp1Ideal.τ).loc Cert.AdamMlp1Ideal.main_v1)) (v1 : (c : Dev Cert.AdamMlp1Ideal.nD) → Buf (Elt Ideal) ((c.tc : Thread Cert.AdamMlp1Ideal.nD Cert.AdamMlp1Ideal.τ).loc Cert.AdamMlp1Ideal.main_v2)) (v2 : (c : Dev Cert.AdamMlp1Ideal.nD) → Buf (Elt Ideal) ((c.tc : Thread Cert.AdamMlp1Ideal.nD Cert.AdamMlp1Ideal.τ).loc Cert.AdamMlp1Ideal.main_v3)) (v3 : (c : Dev Cert.AdamMlp1Ideal.nD) → Buf (Elt Ideal) ((c.tc : Thread Cert.AdamMlp1Ideal.nD Cert.AdamMlp1Ideal.τ).loc Cert.AdamMlp1Ideal.main_v4)),
      θ_run (Cert.AdamMlp1Ideal.defs (F := Ideal)) (onTc (τ := Cert.AdamMlp1Ideal.τ) (Cert.AdamMlp1Ideal.main (F := Ideal))) ⟨m, fun _ => 0, g⟩ (fun r => ∀ c : Dev Cert.AdamMlp1Ideal.nD,
          r.2.mem ((c.tc : Thread Cert.AdamMlp1Ideal.nD Cert.AdamMlp1Ideal.τ).loc Cert.AdamMlp1Ideal.main_v1) = v0 c
          ∧ r.2.mem ((c.tc : Thread Cert.AdamMlp1Ideal.nD Cert.AdamMlp1Ideal.τ).loc Cert.AdamMlp1Ideal.main_v2) = v1 c
          ∧ r.2.mem ((c.tc : Thread Cert.AdamMlp1Ideal.nD Cert.AdamMlp1Ideal.τ).loc Cert.AdamMlp1Ideal.main_v3) = v2 c
          ∧ r.2.mem ((c.tc : Thread Cert.AdamMlp1Ideal.nD Cert.AdamMlp1Ideal.τ).loc Cert.AdamMlp1Ideal.main_v4) = v3 c
          ∧ r.2.mem ((c.tc : Thread Cert.AdamMlp1Ideal.nD Cert.AdamMlp1Ideal.τ).loc Cert.AdamMlp1Ideal.main_arg0) = m ((c.tc : Thread Cert.AdamMlp1Ideal.nD Cert.AdamMlp1Ideal.τ).loc Cert.AdamMlp1Ideal.main_arg0)
          ∧ r.2.mem ((c.tc : Thread Cert.AdamMlp1Ideal.nD Cert.AdamMlp1Ideal.τ).loc Cert.AdamMlp1Ideal.main_arg1) = m ((c.tc : Thread Cert.AdamMlp1Ideal.nD Cert.AdamMlp1Ideal.τ).loc Cert.AdamMlp1Ideal.main_arg1)
          ∧ r.2.mem ((c.tc : Thread Cert.AdamMlp1Ideal.nD Cert.AdamMlp1Ideal.τ).loc Cert.AdamMlp1Ideal.main_arg2) = m ((c.tc : Thread Cert.AdamMlp1Ideal.nD Cert.AdamMlp1Ideal.τ).loc Cert.AdamMlp1Ideal.main_arg2)
          ∧ r.2.mem ((c.tc : Thread Cert.AdamMlp1Ideal.nD Cert.AdamMlp1Ideal.τ).loc Cert.AdamMlp1Ideal.main_arg3) = m ((c.tc : Thread Cert.AdamMlp1Ideal.nD Cert.AdamMlp1Ideal.τ).loc Cert.AdamMlp1Ideal.main_arg3))
      ∧ θ_run (Cert.AdamMlp1RefIdeal.defs (F := Ideal)) (onTc (τ := Cert.AdamMlp1RefIdeal.τ) (Cert.AdamMlp1RefIdeal.main (F := Ideal))) ⟨m', fun _ => 0, g'⟩ (fun r => ∀ c : Dev Cert.AdamMlp1RefIdeal.nD,
          r.2.mem ((c.tc : Thread Cert.AdamMlp1RefIdeal.nD Cert.AdamMlp1RefIdeal.τ).loc Cert.AdamMlp1RefIdeal.main_v4) = v0 c
          ∧ r.2.mem ((c.tc : Thread Cert.AdamMlp1RefIdeal.nD Cert.AdamMlp1RefIdeal.τ).loc Cert.AdamMlp1RefIdeal.main_v28) = v1 c
          ∧ r.2.mem ((c.tc : Thread Cert.AdamMlp1RefIdeal.nD Cert.AdamMlp1RefIdeal.τ).loc Cert.AdamMlp1RefIdeal.main_v9) = v2 c
          ∧ r.2.mem ((c.tc : Thread Cert.AdamMlp1RefIdeal.nD Cert.AdamMlp1RefIdeal.τ).loc Cert.AdamMlp1RefIdeal.main_v15) = v3 c
          ∧ r.2.mem ((c.tc : Thread Cert.AdamMlp1RefIdeal.nD Cert.AdamMlp1RefIdeal.τ).loc Cert.AdamMlp1RefIdeal.main_arg0) = m' ((c.tc : Thread Cert.AdamMlp1RefIdeal.nD Cert.AdamMlp1RefIdeal.τ).loc Cert.AdamMlp1RefIdeal.main_arg0)
          ∧ r.2.mem ((c.tc : Thread Cert.AdamMlp1RefIdeal.nD Cert.AdamMlp1RefIdeal.τ).loc Cert.AdamMlp1RefIdeal.main_arg1) = m' ((c.tc : Thread Cert.AdamMlp1RefIdeal.nD Cert.AdamMlp1RefIdeal.τ).loc Cert.AdamMlp1RefIdeal.main_arg1)
          ∧ r.2.mem ((c.tc : Thread Cert.AdamMlp1RefIdeal.nD Cert.AdamMlp1RefIdeal.τ).loc Cert.AdamMlp1RefIdeal.main_arg2) = m' ((c.tc : Thread Cert.AdamMlp1RefIdeal.nD Cert.AdamMlp1RefIdeal.τ).loc Cert.AdamMlp1RefIdeal.main_arg2)
          ∧ r.2.mem ((c.tc : Thread Cert.AdamMlp1RefIdeal.nD Cert.AdamMlp1RefIdeal.τ).loc Cert.AdamMlp1RefIdeal.main_arg3) = m' ((c.tc : Thread Cert.AdamMlp1RefIdeal.nD Cert.AdamMlp1RefIdeal.τ).loc Cert.AdamMlp1RefIdeal.main_arg3))

def preserves_AdamPack_AdamPackIdeal : Prop :=
  True

def algebraic_AdamPackIdeal_AdamPackRefIdeal [hAdamPackIdeal : Cert.AdamPackIdeal.Facts] [hAdamPackRefIdeal : Cert.AdamPackRefIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg)
    (m' : (ℓ : Loc Cert.AdamPackRefIdeal.nD Cert.AdamPackRefIdeal.τ Cert.AdamPackRefIdeal.sig) → Buf (Elt Ideal) ℓ) (g' : Dev Cert.AdamPackRefIdeal.nD → PrngReg), Pre_AdamPackIdeal m →
    (∀ c : Dev Cert.AdamPackIdeal.nD,
      m' ((c.tc : Thread Cert.AdamPackRefIdeal.nD Cert.AdamPackRefIdeal.τ).loc Cert.AdamPackRefIdeal.main_arg0) = m ((c.tc : Thread Cert.AdamPackIdeal.nD Cert.AdamPackIdeal.τ).loc Cert.AdamPackIdeal.main_arg0)
      ∧ m' ((c.tc : Thread Cert.AdamPackRefIdeal.nD Cert.AdamPackRefIdeal.τ).loc Cert.AdamPackRefIdeal.main_arg1) = m ((c.tc : Thread Cert.AdamPackIdeal.nD Cert.AdamPackIdeal.τ).loc Cert.AdamPackIdeal.main_arg1)
      ∧ m' ((c.tc : Thread Cert.AdamPackRefIdeal.nD Cert.AdamPackRefIdeal.τ).loc Cert.AdamPackRefIdeal.main_arg2) = m ((c.tc : Thread Cert.AdamPackIdeal.nD Cert.AdamPackIdeal.τ).loc Cert.AdamPackIdeal.main_arg2)
      ∧ m' ((c.tc : Thread Cert.AdamPackRefIdeal.nD Cert.AdamPackRefIdeal.τ).loc Cert.AdamPackRefIdeal.main_arg3) = m ((c.tc : Thread Cert.AdamPackIdeal.nD Cert.AdamPackIdeal.τ).loc Cert.AdamPackIdeal.main_arg3)
      ∧ m' ((c.tc : Thread Cert.AdamPackRefIdeal.nD Cert.AdamPackRefIdeal.τ).loc Cert.AdamPackRefIdeal.main_arg4) = m ((c.tc : Thread Cert.AdamPackIdeal.nD Cert.AdamPackIdeal.τ).loc Cert.AdamPackIdeal.main_arg4)
      ∧ m' ((c.tc : Thread Cert.AdamPackRefIdeal.nD Cert.AdamPackRefIdeal.τ).loc Cert.AdamPackRefIdeal.main_arg5) = m ((c.tc : Thread Cert.AdamPackIdeal.nD Cert.AdamPackIdeal.τ).loc Cert.AdamPackIdeal.main_arg5)
      ∧ m' ((c.tc : Thread Cert.AdamPackRefIdeal.nD Cert.AdamPackRefIdeal.τ).loc Cert.AdamPackRefIdeal.main_arg6) = m ((c.tc : Thread Cert.AdamPackIdeal.nD Cert.AdamPackIdeal.τ).loc Cert.AdamPackIdeal.main_arg6)
      ∧ m' ((c.tc : Thread Cert.AdamPackRefIdeal.nD Cert.AdamPackRefIdeal.τ).loc Cert.AdamPackRefIdeal.main_arg7) = m ((c.tc : Thread Cert.AdamPackIdeal.nD Cert.AdamPackIdeal.τ).loc Cert.AdamPackIdeal.main_arg7)
      ∧ m' ((c.tc : Thread Cert.AdamPackRefIdeal.nD Cert.AdamPackRefIdeal.τ).loc Cert.AdamPackRefIdeal.main_arg8) = m ((c.tc : Thread Cert.AdamPackIdeal.nD Cert.AdamPackIdeal.τ).loc Cert.AdamPackIdeal.main_arg8)
      ∧ m' ((c.tc : Thread Cert.AdamPackRefIdeal.nD Cert.AdamPackRefIdeal.τ).loc Cert.AdamPackRefIdeal.main_arg9) = m ((c.tc : Thread Cert.AdamPackIdeal.nD Cert.AdamPackIdeal.τ).loc Cert.AdamPackIdeal.main_arg9)
      ∧ m' ((c.tc : Thread Cert.AdamPackRefIdeal.nD Cert.AdamPackRefIdeal.τ).loc Cert.AdamPackRefIdeal.main_arg10) = m ((c.tc : Thread Cert.AdamPackIdeal.nD Cert.AdamPackIdeal.τ).loc Cert.AdamPackIdeal.main_arg10)
      ∧ m' ((c.tc : Thread Cert.AdamPackRefIdeal.nD Cert.AdamPackRefIdeal.τ).loc Cert.AdamPackRefIdeal.main_arg11) = m ((c.tc : Thread Cert.AdamPackIdeal.nD Cert.AdamPackIdeal.τ).loc Cert.AdamPackIdeal.main_arg11)
      ∧ m' ((c.tc : Thread Cert.AdamPackRefIdeal.nD Cert.AdamPackRefIdeal.τ).loc Cert.AdamPackRefIdeal.main_arg12) = m ((c.tc : Thread Cert.AdamPackIdeal.nD Cert.AdamPackIdeal.τ).loc Cert.AdamPackIdeal.main_arg12)
      ∧ m' ((c.tc : Thread Cert.AdamPackRefIdeal.nD Cert.AdamPackRefIdeal.τ).loc Cert.AdamPackRefIdeal.main_arg13) = m ((c.tc : Thread Cert.AdamPackIdeal.nD Cert.AdamPackIdeal.τ).loc Cert.AdamPackIdeal.main_arg13)
      ∧ m' ((c.tc : Thread Cert.AdamPackRefIdeal.nD Cert.AdamPackRefIdeal.τ).loc Cert.AdamPackRefIdeal.main_arg14) = m ((c.tc : Thread Cert.AdamPackIdeal.nD Cert.AdamPackIdeal.τ).loc Cert.AdamPackIdeal.main_arg14)
      ∧ m' ((c.tc : Thread Cert.AdamPackRefIdeal.nD Cert.AdamPackRefIdeal.τ).loc Cert.AdamPackRefIdeal.main_arg15) = m ((c.tc : Thread Cert.AdamPackIdeal.nD Cert.AdamPackIdeal.τ).loc Cert.AdamPackIdeal.main_arg15)
      ∧ m' ((c.tc : Thread Cert.AdamPackRefIdeal.nD Cert.AdamPackRefIdeal.τ).loc Cert.AdamPackRefIdeal.main_arg16) = m ((c.tc : Thread Cert.AdamPackIdeal.nD Cert.AdamPackIdeal.τ).loc Cert.AdamPackIdeal.main_arg16)
      ∧ m' ((c.tc : Thread Cert.AdamPackRefIdeal.nD Cert.AdamPackRefIdeal.τ).loc Cert.AdamPackRefIdeal.main_arg17) = m ((c.tc : Thread Cert.AdamPackIdeal.nD Cert.AdamPackIdeal.τ).loc Cert.AdamPackIdeal.main_arg17)
      ∧ m' ((c.tc : Thread Cert.AdamPackRefIdeal.nD Cert.AdamPackRefIdeal.τ).loc Cert.AdamPackRefIdeal.main_arg18) = m ((c.tc : Thread Cert.AdamPackIdeal.nD Cert.AdamPackIdeal.τ).loc Cert.AdamPackIdeal.main_arg18)
      ∧ m' ((c.tc : Thread Cert.AdamPackRefIdeal.nD Cert.AdamPackRefIdeal.τ).loc Cert.AdamPackRefIdeal.main_arg19) = m ((c.tc : Thread Cert.AdamPackIdeal.nD Cert.AdamPackIdeal.τ).loc Cert.AdamPackIdeal.main_arg19)
      ∧ m' ((c.tc : Thread Cert.AdamPackRefIdeal.nD Cert.AdamPackRefIdeal.τ).loc Cert.AdamPackRefIdeal.main_arg20) = m ((c.tc : Thread Cert.AdamPackIdeal.nD Cert.AdamPackIdeal.τ).loc Cert.AdamPackIdeal.main_arg20)
      ∧ m' ((c.tc : Thread Cert.AdamPackRefIdeal.nD Cert.AdamPackRefIdeal.τ).loc Cert.AdamPackRefIdeal.main_arg21) = m ((c.tc : Thread Cert.AdamPackIdeal.nD Cert.AdamPackIdeal.τ).loc Cert.AdamPackIdeal.main_arg21)
      ∧ m' ((c.tc : Thread Cert.AdamPackRefIdeal.nD Cert.AdamPackRefIdeal.τ).loc Cert.AdamPackRefIdeal.main_arg22) = m ((c.tc : Thread Cert.AdamPackIdeal.nD Cert.AdamPackIdeal.τ).loc Cert.AdamPackIdeal.main_arg22)
      ∧ m' ((c.tc : Thread Cert.AdamPackRefIdeal.nD Cert.AdamPackRefIdeal.τ).loc Cert.AdamPackRefIdeal.main_arg23) = m ((c.tc : Thread Cert.AdamPackIdeal.nD Cert.AdamPackIdeal.τ).loc Cert.AdamPackIdeal.main_arg23)
      ∧ m' ((c.tc : Thread Cert.AdamPackRefIdeal.nD Cert.AdamPackRefIdeal.τ).loc Cert.AdamPackRefIdeal.main_arg24) = m ((c.tc : Thread Cert.AdamPackIdeal.nD Cert.AdamPackIdeal.τ).loc Cert.AdamPackIdeal.main_arg24)
      ∧ m' ((c.tc : Thread Cert.AdamPackRefIdeal.nD Cert.AdamPackRefIdeal.τ).loc Cert.AdamPackRefIdeal.main_arg25) = m ((c.tc : Thread Cert.AdamPackIdeal.nD Cert.AdamPackIdeal.τ).loc Cert.AdamPackIdeal.main_arg25)
      ∧ m' ((c.tc : Thread Cert.AdamPackRefIdeal.nD Cert.AdamPackRefIdeal.τ).loc Cert.AdamPackRefIdeal.main_arg26) = m ((c.tc : Thread Cert.AdamPackIdeal.nD Cert.AdamPackIdeal.τ).loc Cert.AdamPackIdeal.main_arg26)
      ∧ m' ((c.tc : Thread Cert.AdamPackRefIdeal.nD Cert.AdamPackRefIdeal.τ).loc Cert.AdamPackRefIdeal.main_arg27) = m ((c.tc : Thread Cert.AdamPackIdeal.nD Cert.AdamPackIdeal.τ).loc Cert.AdamPackIdeal.main_arg27)
      ∧ m' ((c.tc : Thread Cert.AdamPackRefIdeal.nD Cert.AdamPackRefIdeal.τ).loc Cert.AdamPackRefIdeal.main_arg28) = m ((c.tc : Thread Cert.AdamPackIdeal.nD Cert.AdamPackIdeal.τ).loc Cert.AdamPackIdeal.main_arg28)
      ∧ m' ((c.tc : Thread Cert.AdamPackRefIdeal.nD Cert.AdamPackRefIdeal.τ).loc Cert.AdamPackRefIdeal.main_arg29) = m ((c.tc : Thread Cert.AdamPackIdeal.nD Cert.AdamPackIdeal.τ).loc Cert.AdamPackIdeal.main_arg29)
      ∧ m' ((c.tc : Thread Cert.AdamPackRefIdeal.nD Cert.AdamPackRefIdeal.τ).loc Cert.AdamPackRefIdeal.main_arg30) = m ((c.tc : Thread Cert.AdamPackIdeal.nD Cert.AdamPackIdeal.τ).loc Cert.AdamPackIdeal.main_arg30)
      ∧ m' ((c.tc : Thread Cert.AdamPackRefIdeal.nD Cert.AdamPackRefIdeal.τ).loc Cert.AdamPackRefIdeal.main_arg31) = m ((c.tc : Thread Cert.AdamPackIdeal.nD Cert.AdamPackIdeal.τ).loc Cert.AdamPackIdeal.main_arg31)) →
    ∃ (v0 : (c : Dev Cert.AdamPackIdeal.nD) → Buf (Elt Ideal) ((c.tc : Thread Cert.AdamPackIdeal.nD Cert.AdamPackIdeal.τ).loc Cert.AdamPackIdeal.main_v71)) (v1 : (c : Dev Cert.AdamPackIdeal.nD) → Buf (Elt Ideal) ((c.tc : Thread Cert.AdamPackIdeal.nD Cert.AdamPackIdeal.τ).loc Cert.AdamPackIdeal.main_v74)) (v2 : (c : Dev Cert.AdamPackIdeal.nD) → Buf (Elt Ideal) ((c.tc : Thread Cert.AdamPackIdeal.nD Cert.AdamPackIdeal.τ).loc Cert.AdamPackIdeal.main_v77)) (v3 : (c : Dev Cert.AdamPackIdeal.nD) → Buf (Elt Ideal) ((c.tc : Thread Cert.AdamPackIdeal.nD Cert.AdamPackIdeal.τ).loc Cert.AdamPackIdeal.main_v80)) (v4 : (c : Dev Cert.AdamPackIdeal.nD) → Buf (Elt Ideal) ((c.tc : Thread Cert.AdamPackIdeal.nD Cert.AdamPackIdeal.τ).loc Cert.AdamPackIdeal.main_v84)) (v5 : (c : Dev Cert.AdamPackIdeal.nD) → Buf (Elt Ideal) ((c.tc : Thread Cert.AdamPackIdeal.nD Cert.AdamPackIdeal.τ).loc Cert.AdamPackIdeal.main_v87)) (v6 : (c : Dev Cert.AdamPackIdeal.nD) → Buf (Elt Ideal) ((c.tc : Thread Cert.AdamPackIdeal.nD Cert.AdamPackIdeal.τ).loc Cert.AdamPackIdeal.main_v90)) (v7 : (c : Dev Cert.AdamPackIdeal.nD) → Buf (Elt Ideal) ((c.tc : Thread Cert.AdamPackIdeal.nD Cert.AdamPackIdeal.τ).loc Cert.AdamPackIdeal.main_v92)) (v8 : (c : Dev Cert.AdamPackIdeal.nD) → Buf (Elt Ideal) ((c.tc : Thread Cert.AdamPackIdeal.nD Cert.AdamPackIdeal.τ).loc Cert.AdamPackIdeal.main_v95)) (v9 : (c : Dev Cert.AdamPackIdeal.nD) → Buf (Elt Ideal) ((c.tc : Thread Cert.AdamPackIdeal.nD Cert.AdamPackIdeal.τ).loc Cert.AdamPackIdeal.main_v98)) (v10 : (c : Dev Cert.AdamPackIdeal.nD) → Buf (Elt Ideal) ((c.tc : Thread Cert.AdamPackIdeal.nD Cert.AdamPackIdeal.τ).loc Cert.AdamPackIdeal.main_v101)) (v11 : (c : Dev Cert.AdamPackIdeal.nD) → Buf (Elt Ideal) ((c.tc : Thread Cert.AdamPackIdeal.nD Cert.AdamPackIdeal.τ).loc Cert.AdamPackIdeal.main_v104)) (v12 : (c : Dev Cert.AdamPackIdeal.nD) → Buf (Elt Ideal) ((c.tc : Thread Cert.AdamPackIdeal.nD Cert.AdamPackIdeal.τ).loc Cert.AdamPackIdeal.main_v108)) (v13 : (c : Dev Cert.AdamPackIdeal.nD) → Buf (Elt Ideal) ((c.tc : Thread Cert.AdamPackIdeal.nD Cert.AdamPackIdeal.τ).loc Cert.AdamPackIdeal.main_v111)) (v14 : (c : Dev Cert.AdamPackIdeal.nD) → Buf (Elt Ideal) ((c.tc : Thread Cert.AdamPackIdeal.nD Cert.AdamPackIdeal.τ).loc Cert.AdamPackIdeal.main_v114)) (v15 : (c : Dev Cert.AdamPackIdeal.nD) → Buf (Elt Ideal) ((c.tc : Thread Cert.AdamPackIdeal.nD Cert.AdamPackIdeal.τ).loc Cert.AdamPackIdeal.main_v116)) (v16 : (c : Dev Cert.AdamPackIdeal.nD) → Buf (Elt Ideal) ((c.tc : Thread Cert.AdamPackIdeal.nD Cert.AdamPackIdeal.τ).loc Cert.AdamPackIdeal.main_v119)) (v17 : (c : Dev Cert.AdamPackIdeal.nD) → Buf (Elt Ideal) ((c.tc : Thread Cert.AdamPackIdeal.nD Cert.AdamPackIdeal.τ).loc Cert.AdamPackIdeal.main_v122)) (v18 : (c : Dev Cert.AdamPackIdeal.nD) → Buf (Elt Ideal) ((c.tc : Thread Cert.AdamPackIdeal.nD Cert.AdamPackIdeal.τ).loc Cert.AdamPackIdeal.main_v125)) (v19 : (c : Dev Cert.AdamPackIdeal.nD) → Buf (Elt Ideal) ((c.tc : Thread Cert.AdamPackIdeal.nD Cert.AdamPackIdeal.τ).loc Cert.AdamPackIdeal.main_v128)) (v20 : (c : Dev Cert.AdamPackIdeal.nD) → Buf (Elt Ideal) ((c.tc : Thread Cert.AdamPackIdeal.nD Cert.AdamPackIdeal.τ).loc Cert.AdamPackIdeal.main_v132)) (v21 : (c : Dev Cert.AdamPackIdeal.nD) → Buf (Elt Ideal) ((c.tc : Thread Cert.AdamPackIdeal.nD Cert.AdamPackIdeal.τ).loc Cert.AdamPackIdeal.main_v135)) (v22 : (c : Dev Cert.AdamPackIdeal.nD) → Buf (Elt Ideal) ((c.tc : Thread Cert.AdamPackIdeal.nD Cert.AdamPackIdeal.τ).loc Cert.AdamPackIdeal.main_v138)) (v23 : (c : Dev Cert.AdamPackIdeal.nD) → Buf (Elt Ideal) ((c.tc : Thread Cert.AdamPackIdeal.nD Cert.AdamPackIdeal.τ).loc Cert.AdamPackIdeal.main_v140)),
      θ_run (Cert.AdamPackIdeal.defs (F := Ideal)) (onTc (τ := Cert.AdamPackIdeal.τ) (Cert.AdamPackIdeal.main (F := Ideal))) ⟨m, fun _ => 0, g⟩ (fun r => ∀ c : Dev Cert.AdamPackIdeal.nD,
          r.2.mem ((c.tc : Thread Cert.AdamPackIdeal.nD Cert.AdamPackIdeal.τ).loc Cert.AdamPackIdeal.main_v71) = v0 c
          ∧ r.2.mem ((c.tc : Thread Cert.AdamPackIdeal.nD Cert.AdamPackIdeal.τ).loc Cert.AdamPackIdeal.main_v74) = v1 c
          ∧ r.2.mem ((c.tc : Thread Cert.AdamPackIdeal.nD Cert.AdamPackIdeal.τ).loc Cert.AdamPackIdeal.main_v77) = v2 c
          ∧ r.2.mem ((c.tc : Thread Cert.AdamPackIdeal.nD Cert.AdamPackIdeal.τ).loc Cert.AdamPackIdeal.main_v80) = v3 c
          ∧ r.2.mem ((c.tc : Thread Cert.AdamPackIdeal.nD Cert.AdamPackIdeal.τ).loc Cert.AdamPackIdeal.main_v84) = v4 c
          ∧ r.2.mem ((c.tc : Thread Cert.AdamPackIdeal.nD Cert.AdamPackIdeal.τ).loc Cert.AdamPackIdeal.main_v87) = v5 c
          ∧ r.2.mem ((c.tc : Thread Cert.AdamPackIdeal.nD Cert.AdamPackIdeal.τ).loc Cert.AdamPackIdeal.main_v90) = v6 c
          ∧ r.2.mem ((c.tc : Thread Cert.AdamPackIdeal.nD Cert.AdamPackIdeal.τ).loc Cert.AdamPackIdeal.main_v92) = v7 c
          ∧ r.2.mem ((c.tc : Thread Cert.AdamPackIdeal.nD Cert.AdamPackIdeal.τ).loc Cert.AdamPackIdeal.main_v95) = v8 c
          ∧ r.2.mem ((c.tc : Thread Cert.AdamPackIdeal.nD Cert.AdamPackIdeal.τ).loc Cert.AdamPackIdeal.main_v98) = v9 c
          ∧ r.2.mem ((c.tc : Thread Cert.AdamPackIdeal.nD Cert.AdamPackIdeal.τ).loc Cert.AdamPackIdeal.main_v101) = v10 c
          ∧ r.2.mem ((c.tc : Thread Cert.AdamPackIdeal.nD Cert.AdamPackIdeal.τ).loc Cert.AdamPackIdeal.main_v104) = v11 c
          ∧ r.2.mem ((c.tc : Thread Cert.AdamPackIdeal.nD Cert.AdamPackIdeal.τ).loc Cert.AdamPackIdeal.main_v108) = v12 c
          ∧ r.2.mem ((c.tc : Thread Cert.AdamPackIdeal.nD Cert.AdamPackIdeal.τ).loc Cert.AdamPackIdeal.main_v111) = v13 c
          ∧ r.2.mem ((c.tc : Thread Cert.AdamPackIdeal.nD Cert.AdamPackIdeal.τ).loc Cert.AdamPackIdeal.main_v114) = v14 c
          ∧ r.2.mem ((c.tc : Thread Cert.AdamPackIdeal.nD Cert.AdamPackIdeal.τ).loc Cert.AdamPackIdeal.main_v116) = v15 c
          ∧ r.2.mem ((c.tc : Thread Cert.AdamPackIdeal.nD Cert.AdamPackIdeal.τ).loc Cert.AdamPackIdeal.main_v119) = v16 c
          ∧ r.2.mem ((c.tc : Thread Cert.AdamPackIdeal.nD Cert.AdamPackIdeal.τ).loc Cert.AdamPackIdeal.main_v122) = v17 c
          ∧ r.2.mem ((c.tc : Thread Cert.AdamPackIdeal.nD Cert.AdamPackIdeal.τ).loc Cert.AdamPackIdeal.main_v125) = v18 c
          ∧ r.2.mem ((c.tc : Thread Cert.AdamPackIdeal.nD Cert.AdamPackIdeal.τ).loc Cert.AdamPackIdeal.main_v128) = v19 c
          ∧ r.2.mem ((c.tc : Thread Cert.AdamPackIdeal.nD Cert.AdamPackIdeal.τ).loc Cert.AdamPackIdeal.main_v132) = v20 c
          ∧ r.2.mem ((c.tc : Thread Cert.AdamPackIdeal.nD Cert.AdamPackIdeal.τ).loc Cert.AdamPackIdeal.main_v135) = v21 c
          ∧ r.2.mem ((c.tc : Thread Cert.AdamPackIdeal.nD Cert.AdamPackIdeal.τ).loc Cert.AdamPackIdeal.main_v138) = v22 c
          ∧ r.2.mem ((c.tc : Thread Cert.AdamPackIdeal.nD Cert.AdamPackIdeal.τ).loc Cert.AdamPackIdeal.main_v140) = v23 c
          ∧ r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
          ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
          ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
          ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3)
          ∧ r.2.mem ((c.tc : Thread Cert.AdamPackIdeal.nD Cert.AdamPackIdeal.τ).loc Cert.AdamPackIdeal.main_arg4) = m ((c.tc : Thread Cert.AdamPackIdeal.nD Cert.AdamPackIdeal.τ).loc Cert.AdamPackIdeal.main_arg4)
          ∧ r.2.mem ((c.tc : Thread Cert.AdamPackIdeal.nD Cert.AdamPackIdeal.τ).loc Cert.AdamPackIdeal.main_arg5) = m ((c.tc : Thread Cert.AdamPackIdeal.nD Cert.AdamPackIdeal.τ).loc Cert.AdamPackIdeal.main_arg5)
          ∧ r.2.mem ((c.tc : Thread Cert.AdamPackIdeal.nD Cert.AdamPackIdeal.τ).loc Cert.AdamPackIdeal.main_arg6) = m ((c.tc : Thread Cert.AdamPackIdeal.nD Cert.AdamPackIdeal.τ).loc Cert.AdamPackIdeal.main_arg6)
          ∧ r.2.mem ((c.tc : Thread Cert.AdamPackIdeal.nD Cert.AdamPackIdeal.τ).loc Cert.AdamPackIdeal.main_arg7) = m ((c.tc : Thread Cert.AdamPackIdeal.nD Cert.AdamPackIdeal.τ).loc Cert.AdamPackIdeal.main_arg7)
          ∧ r.2.mem ((c.tc : Thread Cert.AdamPackIdeal.nD Cert.AdamPackIdeal.τ).loc Cert.AdamPackIdeal.main_arg8) = m ((c.tc : Thread Cert.AdamPackIdeal.nD Cert.AdamPackIdeal.τ).loc Cert.AdamPackIdeal.main_arg8)
          ∧ r.2.mem ((c.tc : Thread Cert.AdamPackIdeal.nD Cert.AdamPackIdeal.τ).loc Cert.AdamPackIdeal.main_arg9) = m ((c.tc : Thread Cert.AdamPackIdeal.nD Cert.AdamPackIdeal.τ).loc Cert.AdamPackIdeal.main_arg9)
          ∧ r.2.mem ((c.tc : Thread Cert.AdamPackIdeal.nD Cert.AdamPackIdeal.τ).loc Cert.AdamPackIdeal.main_arg10) = m ((c.tc : Thread Cert.AdamPackIdeal.nD Cert.AdamPackIdeal.τ).loc Cert.AdamPackIdeal.main_arg10)
          ∧ r.2.mem ((c.tc : Thread Cert.AdamPackIdeal.nD Cert.AdamPackIdeal.τ).loc Cert.AdamPackIdeal.main_arg11) = m ((c.tc : Thread Cert.AdamPackIdeal.nD Cert.AdamPackIdeal.τ).loc Cert.AdamPackIdeal.main_arg11)
          ∧ r.2.mem ((c.tc : Thread Cert.AdamPackIdeal.nD Cert.AdamPackIdeal.τ).loc Cert.AdamPackIdeal.main_arg12) = m ((c.tc : Thread Cert.AdamPackIdeal.nD Cert.AdamPackIdeal.τ).loc Cert.AdamPackIdeal.main_arg12)
          ∧ r.2.mem ((c.tc : Thread Cert.AdamPackIdeal.nD Cert.AdamPackIdeal.τ).loc Cert.AdamPackIdeal.main_arg13) = m ((c.tc : Thread Cert.AdamPackIdeal.nD Cert.AdamPackIdeal.τ).loc Cert.AdamPackIdeal.main_arg13)
          ∧ r.2.mem ((c.tc : Thread Cert.AdamPackIdeal.nD Cert.AdamPackIdeal.τ).loc Cert.AdamPackIdeal.main_arg14) = m ((c.tc : Thread Cert.AdamPackIdeal.nD Cert.AdamPackIdeal.τ).loc Cert.AdamPackIdeal.main_arg14)
          ∧ r.2.mem ((c.tc : Thread Cert.AdamPackIdeal.nD Cert.AdamPackIdeal.τ).loc Cert.AdamPackIdeal.main_arg15) = m ((c.tc : Thread Cert.AdamPackIdeal.nD Cert.AdamPackIdeal.τ).loc Cert.AdamPackIdeal.main_arg15)
          ∧ r.2.mem ((c.tc : Thread Cert.AdamPackIdeal.nD Cert.AdamPackIdeal.τ).loc Cert.AdamPackIdeal.main_arg16) = m ((c.tc : Thread Cert.AdamPackIdeal.nD Cert.AdamPackIdeal.τ).loc Cert.AdamPackIdeal.main_arg16)
          ∧ r.2.mem ((c.tc : Thread Cert.AdamPackIdeal.nD Cert.AdamPackIdeal.τ).loc Cert.AdamPackIdeal.main_arg17) = m ((c.tc : Thread Cert.AdamPackIdeal.nD Cert.AdamPackIdeal.τ).loc Cert.AdamPackIdeal.main_arg17)
          ∧ r.2.mem ((c.tc : Thread Cert.AdamPackIdeal.nD Cert.AdamPackIdeal.τ).loc Cert.AdamPackIdeal.main_arg18) = m ((c.tc : Thread Cert.AdamPackIdeal.nD Cert.AdamPackIdeal.τ).loc Cert.AdamPackIdeal.main_arg18)
          ∧ r.2.mem ((c.tc : Thread Cert.AdamPackIdeal.nD Cert.AdamPackIdeal.τ).loc Cert.AdamPackIdeal.main_arg19) = m ((c.tc : Thread Cert.AdamPackIdeal.nD Cert.AdamPackIdeal.τ).loc Cert.AdamPackIdeal.main_arg19)
          ∧ r.2.mem ((c.tc : Thread Cert.AdamPackIdeal.nD Cert.AdamPackIdeal.τ).loc Cert.AdamPackIdeal.main_arg20) = m ((c.tc : Thread Cert.AdamPackIdeal.nD Cert.AdamPackIdeal.τ).loc Cert.AdamPackIdeal.main_arg20)
          ∧ r.2.mem ((c.tc : Thread Cert.AdamPackIdeal.nD Cert.AdamPackIdeal.τ).loc Cert.AdamPackIdeal.main_arg21) = m ((c.tc : Thread Cert.AdamPackIdeal.nD Cert.AdamPackIdeal.τ).loc Cert.AdamPackIdeal.main_arg21)
          ∧ r.2.mem ((c.tc : Thread Cert.AdamPackIdeal.nD Cert.AdamPackIdeal.τ).loc Cert.AdamPackIdeal.main_arg22) = m ((c.tc : Thread Cert.AdamPackIdeal.nD Cert.AdamPackIdeal.τ).loc Cert.AdamPackIdeal.main_arg22)
          ∧ r.2.mem ((c.tc : Thread Cert.AdamPackIdeal.nD Cert.AdamPackIdeal.τ).loc Cert.AdamPackIdeal.main_arg23) = m ((c.tc : Thread Cert.AdamPackIdeal.nD Cert.AdamPackIdeal.τ).loc Cert.AdamPackIdeal.main_arg23)
          ∧ r.2.mem ((c.tc : Thread Cert.AdamPackIdeal.nD Cert.AdamPackIdeal.τ).loc Cert.AdamPackIdeal.main_arg24) = m ((c.tc : Thread Cert.AdamPackIdeal.nD Cert.AdamPackIdeal.τ).loc Cert.AdamPackIdeal.main_arg24)
          ∧ r.2.mem ((c.tc : Thread Cert.AdamPackIdeal.nD Cert.AdamPackIdeal.τ).loc Cert.AdamPackIdeal.main_arg25) = m ((c.tc : Thread Cert.AdamPackIdeal.nD Cert.AdamPackIdeal.τ).loc Cert.AdamPackIdeal.main_arg25)
          ∧ r.2.mem ((c.tc : Thread Cert.AdamPackIdeal.nD Cert.AdamPackIdeal.τ).loc Cert.AdamPackIdeal.main_arg26) = m ((c.tc : Thread Cert.AdamPackIdeal.nD Cert.AdamPackIdeal.τ).loc Cert.AdamPackIdeal.main_arg26)
          ∧ r.2.mem ((c.tc : Thread Cert.AdamPackIdeal.nD Cert.AdamPackIdeal.τ).loc Cert.AdamPackIdeal.main_arg27) = m ((c.tc : Thread Cert.AdamPackIdeal.nD Cert.AdamPackIdeal.τ).loc Cert.AdamPackIdeal.main_arg27)
          ∧ r.2.mem ((c.tc : Thread Cert.AdamPackIdeal.nD Cert.AdamPackIdeal.τ).loc Cert.AdamPackIdeal.main_arg28) = m ((c.tc : Thread Cert.AdamPackIdeal.nD Cert.AdamPackIdeal.τ).loc Cert.AdamPackIdeal.main_arg28)
          ∧ r.2.mem ((c.tc : Thread Cert.AdamPackIdeal.nD Cert.AdamPackIdeal.τ).loc Cert.AdamPackIdeal.main_arg29) = m ((c.tc : Thread Cert.AdamPackIdeal.nD Cert.AdamPackIdeal.τ).loc Cert.AdamPackIdeal.main_arg29)
          ∧ r.2.mem ((c.tc : Thread Cert.AdamPackIdeal.nD Cert.AdamPackIdeal.τ).loc Cert.AdamPackIdeal.main_arg30) = m ((c.tc : Thread Cert.AdamPackIdeal.nD Cert.AdamPackIdeal.τ).loc Cert.AdamPackIdeal.main_arg30)
          ∧ r.2.mem ((c.tc : Thread Cert.AdamPackIdeal.nD Cert.AdamPackIdeal.τ).loc Cert.AdamPackIdeal.main_arg31) = m ((c.tc : Thread Cert.AdamPackIdeal.nD Cert.AdamPackIdeal.τ).loc Cert.AdamPackIdeal.main_arg31))
      ∧ θ_run (Cert.AdamPackRefIdeal.defs (F := Ideal)) (onTc (τ := Cert.AdamPackRefIdeal.τ) (Cert.AdamPackRefIdeal.main (F := Ideal))) ⟨m', fun _ => 0, g'⟩ (fun r => ∀ c : Dev Cert.AdamPackRefIdeal.nD,
          r.2.mem ((c.tc : Thread Cert.AdamPackRefIdeal.nD Cert.AdamPackRefIdeal.τ).loc Cert.AdamPackRefIdeal.main_v23) = v0 c
          ∧ r.2.mem ((c.tc : Thread Cert.AdamPackRefIdeal.nD Cert.AdamPackRefIdeal.τ).loc Cert.AdamPackRefIdeal.main_v47) = v1 c
          ∧ r.2.mem ((c.tc : Thread Cert.AdamPackRefIdeal.nD Cert.AdamPackRefIdeal.τ).loc Cert.AdamPackRefIdeal.main_v71) = v2 c
          ∧ r.2.mem ((c.tc : Thread Cert.AdamPackRefIdeal.nD Cert.AdamPackRefIdeal.τ).loc Cert.AdamPackRefIdeal.main_v95) = v3 c
          ∧ r.2.mem ((c.tc : Thread Cert.AdamPackRefIdeal.nD Cert.AdamPackRefIdeal.τ).loc Cert.AdamPackRefIdeal.main_v119) = v4 c
          ∧ r.2.mem ((c.tc : Thread Cert.AdamPackRefIdeal.nD Cert.AdamPackRefIdeal.τ).loc Cert.AdamPackRefIdeal.main_v143) = v5 c
          ∧ r.2.mem ((c.tc : Thread Cert.AdamPackRefIdeal.nD Cert.AdamPackRefIdeal.τ).loc Cert.AdamPackRefIdeal.main_v167) = v6 c
          ∧ r.2.mem ((c.tc : Thread Cert.AdamPackRefIdeal.nD Cert.AdamPackRefIdeal.τ).loc Cert.AdamPackRefIdeal.main_v191) = v7 c
          ∧ r.2.mem ((c.tc : Thread Cert.AdamPackRefIdeal.nD Cert.AdamPackRefIdeal.τ).loc Cert.AdamPackRefIdeal.main_v4) = v8 c
          ∧ r.2.mem ((c.tc : Thread Cert.AdamPackRefIdeal.nD Cert.AdamPackRefIdeal.τ).loc Cert.AdamPackRefIdeal.main_v28) = v9 c
          ∧ r.2.mem ((c.tc : Thread Cert.AdamPackRefIdeal.nD Cert.AdamPackRefIdeal.τ).loc Cert.AdamPackRefIdeal.main_v52) = v10 c
          ∧ r.2.mem ((c.tc : Thread Cert.AdamPackRefIdeal.nD Cert.AdamPackRefIdeal.τ).loc Cert.AdamPackRefIdeal.main_v76) = v11 c
          ∧ r.2.mem ((c.tc : Thread Cert.AdamPackRefIdeal.nD Cert.AdamPackRefIdeal.τ).loc Cert.AdamPackRefIdeal.main_v100) = v12 c
          ∧ r.2.mem ((c.tc : Thread Cert.AdamPackRefIdeal.nD Cert.AdamPackRefIdeal.τ).loc Cert.AdamPackRefIdeal.main_v124) = v13 c
          ∧ r.2.mem ((c.tc : Thread Cert.AdamPackRefIdeal.nD Cert.AdamPackRefIdeal.τ).loc Cert.AdamPackRefIdeal.main_v148) = v14 c
          ∧ r.2.mem ((c.tc : Thread Cert.AdamPackRefIdeal.nD Cert.AdamPackRefIdeal.τ).loc Cert.AdamPackRefIdeal.main_v172) = v15 c
          ∧ r.2.mem ((c.tc : Thread Cert.AdamPackRefIdeal.nD Cert.AdamPackRefIdeal.τ).loc Cert.AdamPackRefIdeal.main_v10) = v16 c
          ∧ r.2.mem ((c.tc : Thread Cert.AdamPackRefIdeal.nD Cert.AdamPackRefIdeal.τ).loc Cert.AdamPackRefIdeal.main_v34) = v17 c
          ∧ r.2.mem ((c.tc : Thread Cert.AdamPackRefIdeal.nD Cert.AdamPackRefIdeal.τ).loc Cert.AdamPackRefIdeal.main_v58) = v18 c
          ∧ r.2.mem ((c.tc : Thread Cert.AdamPackRefIdeal.nD Cert.AdamPackRefIdeal.τ).loc Cert.AdamPackRefIdeal.main_v82) = v19 c
          ∧ r.2.mem ((c.tc : Thread Cert.AdamPackRefIdeal.nD Cert.AdamPackRefIdeal.τ).loc Cert.AdamPackRefIdeal.main_v106) = v20 c
          ∧ r.2.mem ((c.tc : Thread Cert.AdamPackRefIdeal.nD Cert.AdamPackRefIdeal.τ).loc Cert.AdamPackRefIdeal.main_v130) = v21 c
          ∧ r.2.mem ((c.tc : Thread Cert.AdamPackRefIdeal.nD Cert.AdamPackRefIdeal.τ).loc Cert.AdamPackRefIdeal.main_v154) = v22 c
          ∧ r.2.mem ((c.tc : Thread Cert.AdamPackRefIdeal.nD Cert.AdamPackRefIdeal.τ).loc Cert.AdamPackRefIdeal.main_v178) = v23 c
          ∧ r.2.mem ((c.tc : Thread Cert.AdamPackRefIdeal.nD Cert.AdamPackRefIdeal.τ).loc Cert.AdamPackRefIdeal.main_arg0) = m' ((c.tc : Thread Cert.AdamPackRefIdeal.nD Cert.AdamPackRefIdeal.τ).loc Cert.AdamPackRefIdeal.main_arg0)
          ∧ r.2.mem ((c.tc : Thread Cert.AdamPackRefIdeal.nD Cert.AdamPackRefIdeal.τ).loc Cert.AdamPackRefIdeal.main_arg1) = m' ((c.tc : Thread Cert.AdamPackRefIdeal.nD Cert.AdamPackRefIdeal.τ).loc Cert.AdamPackRefIdeal.main_arg1)
          ∧ r.2.mem ((c.tc : Thread Cert.AdamPackRefIdeal.nD Cert.AdamPackRefIdeal.τ).loc Cert.AdamPackRefIdeal.main_arg2) = m' ((c.tc : Thread Cert.AdamPackRefIdeal.nD Cert.AdamPackRefIdeal.τ).loc Cert.AdamPackRefIdeal.main_arg2)
          ∧ r.2.mem ((c.tc : Thread Cert.AdamPackRefIdeal.nD Cert.AdamPackRefIdeal.τ).loc Cert.AdamPackRefIdeal.main_arg3) = m' ((c.tc : Thread Cert.AdamPackRefIdeal.nD Cert.AdamPackRefIdeal.τ).loc Cert.AdamPackRefIdeal.main_arg3)
          ∧ r.2.mem ((c.tc : Thread Cert.AdamPackRefIdeal.nD Cert.AdamPackRefIdeal.τ).loc Cert.AdamPackRefIdeal.main_arg4) = m' ((c.tc : Thread Cert.AdamPackRefIdeal.nD Cert.AdamPackRefIdeal.τ).loc Cert.AdamPackRefIdeal.main_arg4)
          ∧ r.2.mem ((c.tc : Thread Cert.AdamPackRefIdeal.nD Cert.AdamPackRefIdeal.τ).loc Cert.AdamPackRefIdeal.main_arg5) = m' ((c.tc : Thread Cert.AdamPackRefIdeal.nD Cert.AdamPackRefIdeal.τ).loc Cert.AdamPackRefIdeal.main_arg5)
          ∧ r.2.mem ((c.tc : Thread Cert.AdamPackRefIdeal.nD Cert.AdamPackRefIdeal.τ).loc Cert.AdamPackRefIdeal.main_arg6) = m' ((c.tc : Thread Cert.AdamPackRefIdeal.nD Cert.AdamPackRefIdeal.τ).loc Cert.AdamPackRefIdeal.main_arg6)
          ∧ r.2.mem ((c.tc : Thread Cert.AdamPackRefIdeal.nD Cert.AdamPackRefIdeal.τ).loc Cert.AdamPackRefIdeal.main_arg7) = m' ((c.tc : Thread Cert.AdamPackRefIdeal.nD Cert.AdamPackRefIdeal.τ).loc Cert.AdamPackRefIdeal.main_arg7)
          ∧ r.2.mem ((c.tc : Thread Cert.AdamPackRefIdeal.nD Cert.AdamPackRefIdeal.τ).loc Cert.AdamPackRefIdeal.main_arg8) = m' ((c.tc : Thread Cert.AdamPackRefIdeal.nD Cert.AdamPackRefIdeal.τ).loc Cert.AdamPackRefIdeal.main_arg8)
          ∧ r.2.mem ((c.tc : Thread Cert.AdamPackRefIdeal.nD Cert.AdamPackRefIdeal.τ).loc Cert.AdamPackRefIdeal.main_arg9) = m' ((c.tc : Thread Cert.AdamPackRefIdeal.nD Cert.AdamPackRefIdeal.τ).loc Cert.AdamPackRefIdeal.main_arg9)
          ∧ r.2.mem ((c.tc : Thread Cert.AdamPackRefIdeal.nD Cert.AdamPackRefIdeal.τ).loc Cert.AdamPackRefIdeal.main_arg10) = m' ((c.tc : Thread Cert.AdamPackRefIdeal.nD Cert.AdamPackRefIdeal.τ).loc Cert.AdamPackRefIdeal.main_arg10)
          ∧ r.2.mem ((c.tc : Thread Cert.AdamPackRefIdeal.nD Cert.AdamPackRefIdeal.τ).loc Cert.AdamPackRefIdeal.main_arg11) = m' ((c.tc : Thread Cert.AdamPackRefIdeal.nD Cert.AdamPackRefIdeal.τ).loc Cert.AdamPackRefIdeal.main_arg11)
          ∧ r.2.mem ((c.tc : Thread Cert.AdamPackRefIdeal.nD Cert.AdamPackRefIdeal.τ).loc Cert.AdamPackRefIdeal.main_arg12) = m' ((c.tc : Thread Cert.AdamPackRefIdeal.nD Cert.AdamPackRefIdeal.τ).loc Cert.AdamPackRefIdeal.main_arg12)
          ∧ r.2.mem ((c.tc : Thread Cert.AdamPackRefIdeal.nD Cert.AdamPackRefIdeal.τ).loc Cert.AdamPackRefIdeal.main_arg13) = m' ((c.tc : Thread Cert.AdamPackRefIdeal.nD Cert.AdamPackRefIdeal.τ).loc Cert.AdamPackRefIdeal.main_arg13)
          ∧ r.2.mem ((c.tc : Thread Cert.AdamPackRefIdeal.nD Cert.AdamPackRefIdeal.τ).loc Cert.AdamPackRefIdeal.main_arg14) = m' ((c.tc : Thread Cert.AdamPackRefIdeal.nD Cert.AdamPackRefIdeal.τ).loc Cert.AdamPackRefIdeal.main_arg14)
          ∧ r.2.mem ((c.tc : Thread Cert.AdamPackRefIdeal.nD Cert.AdamPackRefIdeal.τ).loc Cert.AdamPackRefIdeal.main_arg15) = m' ((c.tc : Thread Cert.AdamPackRefIdeal.nD Cert.AdamPackRefIdeal.τ).loc Cert.AdamPackRefIdeal.main_arg15)
          ∧ r.2.mem ((c.tc : Thread Cert.AdamPackRefIdeal.nD Cert.AdamPackRefIdeal.τ).loc Cert.AdamPackRefIdeal.main_arg16) = m' ((c.tc : Thread Cert.AdamPackRefIdeal.nD Cert.AdamPackRefIdeal.τ).loc Cert.AdamPackRefIdeal.main_arg16)
          ∧ r.2.mem ((c.tc : Thread Cert.AdamPackRefIdeal.nD Cert.AdamPackRefIdeal.τ).loc Cert.AdamPackRefIdeal.main_arg17) = m' ((c.tc : Thread Cert.AdamPackRefIdeal.nD Cert.AdamPackRefIdeal.τ).loc Cert.AdamPackRefIdeal.main_arg17)
          ∧ r.2.mem ((c.tc : Thread Cert.AdamPackRefIdeal.nD Cert.AdamPackRefIdeal.τ).loc Cert.AdamPackRefIdeal.main_arg18) = m' ((c.tc : Thread Cert.AdamPackRefIdeal.nD Cert.AdamPackRefIdeal.τ).loc Cert.AdamPackRefIdeal.main_arg18)
          ∧ r.2.mem ((c.tc : Thread Cert.AdamPackRefIdeal.nD Cert.AdamPackRefIdeal.τ).loc Cert.AdamPackRefIdeal.main_arg19) = m' ((c.tc : Thread Cert.AdamPackRefIdeal.nD Cert.AdamPackRefIdeal.τ).loc Cert.AdamPackRefIdeal.main_arg19)
          ∧ r.2.mem ((c.tc : Thread Cert.AdamPackRefIdeal.nD Cert.AdamPackRefIdeal.τ).loc Cert.AdamPackRefIdeal.main_arg20) = m' ((c.tc : Thread Cert.AdamPackRefIdeal.nD Cert.AdamPackRefIdeal.τ).loc Cert.AdamPackRefIdeal.main_arg20)
          ∧ r.2.mem ((c.tc : Thread Cert.AdamPackRefIdeal.nD Cert.AdamPackRefIdeal.τ).loc Cert.AdamPackRefIdeal.main_arg21) = m' ((c.tc : Thread Cert.AdamPackRefIdeal.nD Cert.AdamPackRefIdeal.τ).loc Cert.AdamPackRefIdeal.main_arg21)
          ∧ r.2.mem ((c.tc : Thread Cert.AdamPackRefIdeal.nD Cert.AdamPackRefIdeal.τ).loc Cert.AdamPackRefIdeal.main_arg22) = m' ((c.tc : Thread Cert.AdamPackRefIdeal.nD Cert.AdamPackRefIdeal.τ).loc Cert.AdamPackRefIdeal.main_arg22)
          ∧ r.2.mem ((c.tc : Thread Cert.AdamPackRefIdeal.nD Cert.AdamPackRefIdeal.τ).loc Cert.AdamPackRefIdeal.main_arg23) = m' ((c.tc : Thread Cert.AdamPackRefIdeal.nD Cert.AdamPackRefIdeal.τ).loc Cert.AdamPackRefIdeal.main_arg23)
          ∧ r.2.mem ((c.tc : Thread Cert.AdamPackRefIdeal.nD Cert.AdamPackRefIdeal.τ).loc Cert.AdamPackRefIdeal.main_arg24) = m' ((c.tc : Thread Cert.AdamPackRefIdeal.nD Cert.AdamPackRefIdeal.τ).loc Cert.AdamPackRefIdeal.main_arg24)
          ∧ r.2.mem ((c.tc : Thread Cert.AdamPackRefIdeal.nD Cert.AdamPackRefIdeal.τ).loc Cert.AdamPackRefIdeal.main_arg25) = m' ((c.tc : Thread Cert.AdamPackRefIdeal.nD Cert.AdamPackRefIdeal.τ).loc Cert.AdamPackRefIdeal.main_arg25)
          ∧ r.2.mem ((c.tc : Thread Cert.AdamPackRefIdeal.nD Cert.AdamPackRefIdeal.τ).loc Cert.AdamPackRefIdeal.main_arg26) = m' ((c.tc : Thread Cert.AdamPackRefIdeal.nD Cert.AdamPackRefIdeal.τ).loc Cert.AdamPackRefIdeal.main_arg26)
          ∧ r.2.mem ((c.tc : Thread Cert.AdamPackRefIdeal.nD Cert.AdamPackRefIdeal.τ).loc Cert.AdamPackRefIdeal.main_arg27) = m' ((c.tc : Thread Cert.AdamPackRefIdeal.nD Cert.AdamPackRefIdeal.τ).loc Cert.AdamPackRefIdeal.main_arg27)
          ∧ r.2.mem ((c.tc : Thread Cert.AdamPackRefIdeal.nD Cert.AdamPackRefIdeal.τ).loc Cert.AdamPackRefIdeal.main_arg28) = m' ((c.tc : Thread Cert.AdamPackRefIdeal.nD Cert.AdamPackRefIdeal.τ).loc Cert.AdamPackRefIdeal.main_arg28)
          ∧ r.2.mem ((c.tc : Thread Cert.AdamPackRefIdeal.nD Cert.AdamPackRefIdeal.τ).loc Cert.AdamPackRefIdeal.main_arg29) = m' ((c.tc : Thread Cert.AdamPackRefIdeal.nD Cert.AdamPackRefIdeal.τ).loc Cert.AdamPackRefIdeal.main_arg29)
          ∧ r.2.mem ((c.tc : Thread Cert.AdamPackRefIdeal.nD Cert.AdamPackRefIdeal.τ).loc Cert.AdamPackRefIdeal.main_arg30) = m' ((c.tc : Thread Cert.AdamPackRefIdeal.nD Cert.AdamPackRefIdeal.τ).loc Cert.AdamPackRefIdeal.main_arg30)
          ∧ r.2.mem ((c.tc : Thread Cert.AdamPackRefIdeal.nD Cert.AdamPackRefIdeal.τ).loc Cert.AdamPackRefIdeal.main_arg31) = m' ((c.tc : Thread Cert.AdamPackRefIdeal.nD Cert.AdamPackRefIdeal.τ).loc Cert.AdamPackRefIdeal.main_arg31))

def preserves_SumUnpack_SumUnpackIdeal : Prop :=
  True

def algebraic_SumUnpackIdeal_SumUnpackRefIdeal [hSumUnpackIdeal : Cert.SumUnpackIdeal.Facts] [hSumUnpackRefIdeal : Cert.SumUnpackRefIdeal.Facts] : Prop :=
  ∀ (m : (ℓ : Loc Cert.SumUnpackIdeal.nD Cert.SumUnpackIdeal.τ Cert.SumUnpackIdeal.sig) → Buf (Elt Ideal) ℓ) (g : Dev Cert.SumUnpackIdeal.nD → PrngReg)
    (m' : (ℓ : Loc Cert.SumUnpackRefIdeal.nD Cert.SumUnpackRefIdeal.τ Cert.SumUnpackRefIdeal.sig) → Buf (Elt Ideal) ℓ) (g' : Dev Cert.SumUnpackRefIdeal.nD → PrngReg), Pre_SumUnpackIdeal m →
    (∀ c : Dev Cert.SumUnpackIdeal.nD,
      m' ((c.tc : Thread Cert.SumUnpackRefIdeal.nD Cert.SumUnpackRefIdeal.τ).loc Cert.SumUnpackRefIdeal.main_arg0) = m ((c.tc : Thread Cert.SumUnpackIdeal.nD Cert.SumUnpackIdeal.τ).loc Cert.SumUnpackIdeal.main_arg0)) →
    ∃ (v0 : (c : Dev Cert.SumUnpackIdeal.nD) → Buf (Elt Ideal) ((c.tc : Thread Cert.SumUnpackIdeal.nD Cert.SumUnpackIdeal.τ).loc Cert.SumUnpackIdeal.main_v3)) (v1 : (c : Dev Cert.SumUnpackIdeal.nD) → Buf (Elt Ideal) ((c.tc : Thread Cert.SumUnpackIdeal.nD Cert.SumUnpackIdeal.τ).loc Cert.SumUnpackIdeal.main_v6)) (v2 : (c : Dev Cert.SumUnpackIdeal.nD) → Buf (Elt Ideal) ((c.tc : Thread Cert.SumUnpackIdeal.nD Cert.SumUnpackIdeal.τ).loc Cert.SumUnpackIdeal.main_v9)) (v3 : (c : Dev Cert.SumUnpackIdeal.nD) → Buf (Elt Ideal) ((c.tc : Thread Cert.SumUnpackIdeal.nD Cert.SumUnpackIdeal.τ).loc Cert.SumUnpackIdeal.main_v12)) (v4 : (c : Dev Cert.SumUnpackIdeal.nD) → Buf (Elt Ideal) ((c.tc : Thread Cert.SumUnpackIdeal.nD Cert.SumUnpackIdeal.τ).loc Cert.SumUnpackIdeal.main_v15)) (v5 : (c : Dev Cert.SumUnpackIdeal.nD) → Buf (Elt Ideal) ((c.tc : Thread Cert.SumUnpackIdeal.nD Cert.SumUnpackIdeal.τ).loc Cert.SumUnpackIdeal.main_v18)) (v6 : (c : Dev Cert.SumUnpackIdeal.nD) → Buf (Elt Ideal) ((c.tc : Thread Cert.SumUnpackIdeal.nD Cert.SumUnpackIdeal.τ).loc Cert.SumUnpackIdeal.main_v21)) (v7 : (c : Dev Cert.SumUnpackIdeal.nD) → Buf (Elt Ideal) ((c.tc : Thread Cert.SumUnpackIdeal.nD Cert.SumUnpackIdeal.τ).loc Cert.SumUnpackIdeal.main_v23)),
      θ_run (Cert.SumUnpackIdeal.defs (F := Ideal)) (onTc (τ := Cert.SumUnpackIdeal.τ) (Cert.SumUnpackIdeal.main (F := Ideal))) ⟨m, fun _ => 0, g⟩ (fun r => ∀ c : Dev Cert.SumUnpackIdeal.nD,
          r.2.mem ((c.tc : Thread Cert.SumUnpackIdeal.nD Cert.SumUnpackIdeal.τ).loc Cert.SumUnpackIdeal.main_v3) = v0 c
          ∧ r.2.mem ((c.tc : Thread Cert.SumUnpackIdeal.nD Cert.SumUnpackIdeal.τ).loc Cert.SumUnpackIdeal.main_v6) = v1 c
          ∧ r.2.mem ((c.tc : Thread Cert.SumUnpackIdeal.nD Cert.SumUnpackIdeal.τ).loc Cert.SumUnpackIdeal.main_v9) = v2 c
          ∧ r.2.mem ((c.tc : Thread Cert.SumUnpackIdeal.nD Cert.SumUnpackIdeal.τ).loc Cert.SumUnpackIdeal.main_v12) = v3 c
          ∧ r.2.mem ((c.tc : Thread Cert.SumUnpackIdeal.nD Cert.SumUnpackIdeal.τ).loc Cert.SumUnpackIdeal.main_v15) = v4 c
          ∧ r.2.mem ((c.tc : Thread Cert.SumUnpackIdeal.nD Cert.SumUnpackIdeal.τ).loc Cert.SumUnpackIdeal.main_v18) = v5 c
          ∧ r.2.mem ((c.tc : Thread Cert.SumUnpackIdeal.nD Cert.SumUnpackIdeal.τ).loc Cert.SumUnpackIdeal.main_v21) = v6 c
          ∧ r.2.mem ((c.tc : Thread Cert.SumUnpackIdeal.nD Cert.SumUnpackIdeal.τ).loc Cert.SumUnpackIdeal.main_v23) = v7 c
          ∧ r.2.mem ((c.tc : Thread Cert.SumUnpackIdeal.nD Cert.SumUnpackIdeal.τ).loc Cert.SumUnpackIdeal.main_arg0) = m ((c.tc : Thread Cert.SumUnpackIdeal.nD Cert.SumUnpackIdeal.τ).loc Cert.SumUnpackIdeal.main_arg0))
      ∧ θ_run (Cert.SumUnpackRefIdeal.defs (F := Ideal)) (onTc (τ := Cert.SumUnpackRefIdeal.τ) (Cert.SumUnpackRefIdeal.main (F := Ideal))) ⟨m', fun _ => 0, g'⟩ (fun r => ∀ c : Dev Cert.SumUnpackRefIdeal.nD,
          r.2.mem ((c.tc : Thread Cert.SumUnpackRefIdeal.nD Cert.SumUnpackRefIdeal.τ).loc Cert.SumUnpackRefIdeal.main_v2) = v0 c
          ∧ r.2.mem ((c.tc : Thread Cert.SumUnpackRefIdeal.nD Cert.SumUnpackRefIdeal.τ).loc Cert.SumUnpackRefIdeal.main_v5) = v1 c
          ∧ r.2.mem ((c.tc : Thread Cert.SumUnpackRefIdeal.nD Cert.SumUnpackRefIdeal.τ).loc Cert.SumUnpackRefIdeal.main_v8) = v2 c
          ∧ r.2.mem ((c.tc : Thread Cert.SumUnpackRefIdeal.nD Cert.SumUnpackRefIdeal.τ).loc Cert.SumUnpackRefIdeal.main_v11) = v3 c
          ∧ r.2.mem ((c.tc : Thread Cert.SumUnpackRefIdeal.nD Cert.SumUnpackRefIdeal.τ).loc Cert.SumUnpackRefIdeal.main_v14) = v4 c
          ∧ r.2.mem ((c.tc : Thread Cert.SumUnpackRefIdeal.nD Cert.SumUnpackRefIdeal.τ).loc Cert.SumUnpackRefIdeal.main_v17) = v5 c
          ∧ r.2.mem ((c.tc : Thread Cert.SumUnpackRefIdeal.nD Cert.SumUnpackRefIdeal.τ).loc Cert.SumUnpackRefIdeal.main_v20) = v6 c
          ∧ r.2.mem ((c.tc : Thread Cert.SumUnpackRefIdeal.nD Cert.SumUnpackRefIdeal.τ).loc Cert.SumUnpackRefIdeal.main_v23) = v7 c
          ∧ r.2.mem ((c.tc : Thread Cert.SumUnpackRefIdeal.nD Cert.SumUnpackRefIdeal.τ).loc Cert.SumUnpackRefIdeal.main_arg0) = m' ((c.tc : Thread Cert.SumUnpackRefIdeal.nD Cert.SumUnpackRefIdeal.τ).loc Cert.SumUnpackRefIdeal.main_arg0))

def preserves_GateFwd_GateFwdIdeal : Prop :=
  IdealRules.named_const.Statement Cert.GateFwdIdeal.κ "sqrt_half" .f32 0x3F3504F3#32 (((Real.sqrt 2)⁻¹ : ℝ) : EReal)

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v1) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v45) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_RmsBwd_RmsBwdIdeal : Prop :=
  True

def algebraic_RmsBwdIdeal_RmsBwdRefIdeal_pre_norm_finite [hRmsBwdIdeal : Cert.RmsBwdIdeal.Facts] [hRmsBwdRefIdeal : Cert.RmsBwdRefIdeal.Facts] [hPre_norm_finite : Cert.Pre_norm_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_norm_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v35) = v1 c
          ∧ r.2.mem ((c.tc : Thread Cert.RmsBwdRefIdeal.nD Cert.RmsBwdRefIdeal.τ).loc Cert.RmsBwdRefIdeal.main_v17) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_DownLoss_DownLossIdeal : Prop :=
  True

def algebraic_DownLossIdeal_DownLossRefIdeal_pre_loss_finite [hDownLossIdeal : Cert.DownLossIdeal.Facts] [hDownLossRefIdeal : Cert.DownLossRefIdeal.Facts] [hPre_loss_finite : Cert.Pre_loss_finite.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_loss_finite m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v62) = v0 c
          ∧ r.2.mem ((c.tc : Thread Cert.DownLossRefIdeal.nD Cert.DownLossRefIdeal.τ).loc Cert.DownLossRefIdeal.main_v63) = v1 c
          ∧ r.2.mem ((c.tc : Thread Cert.DownLossRefIdeal.nD Cert.DownLossRefIdeal.τ).loc Cert.DownLossRefIdeal.main_v46) = v2 c
          ∧ r.2.mem ((c.tc : Thread Cert.DownLossRefIdeal.nD Cert.DownLossRefIdeal.τ).loc Cert.DownLossRefIdeal.main_v64) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_PoolFwd_PoolFwdIdeal : Prop :=
  True

def algebraic_PoolFwdIdeal_PoolFwdRefIdeal_pre_pool_finite [hPoolFwdIdeal : Cert.PoolFwdIdeal.Facts] [hPoolFwdRefIdeal : Cert.PoolFwdRefIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v83) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def Claim : Prop :=
  ∃ (hGateBwd : Cert.GateBwd.Facts) (hGateBwdIdeal : Cert.GateBwdIdeal.Facts) (hGateRefIdeal : Cert.GateRefIdeal.Facts) (hPoolBwd : Cert.PoolBwd.Facts) (hPoolBwdIdeal : Cert.PoolBwdIdeal.Facts) (hPoolRefIdeal : Cert.PoolRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hMmBwd : Cert.MmBwd.Facts) (hMmBwdIdeal : Cert.MmBwdIdeal.Facts) (hMmBwdRefIdeal : Cert.MmBwdRefIdeal.Facts) (hAInDx : Cert.AInDx.Facts) (hAInDxIdeal : Cert.AInDxIdeal.Facts) (hAInDxRefIdeal : Cert.AInDxRefIdeal.Facts) (hAInDw : Cert.AInDw.Facts) (hAInDwIdeal : Cert.AInDwIdeal.Facts) (hAInDwRefIdeal : Cert.AInDwRefIdeal.Facts) (hGrpDx : Cert.GrpDx.Facts) (hGrpDxIdeal : Cert.GrpDxIdeal.Facts) (hGrpDxRefIdeal : Cert.GrpDxRefIdeal.Facts) (hGrpDw : Cert.GrpDw.Facts) (hGrpDwIdeal : Cert.GrpDwIdeal.Facts) (hGrpDwRefIdeal : Cert.GrpDwRefIdeal.Facts) (hScaleBwd : Cert.ScaleBwd.Facts) (hScaleBwdIdeal : Cert.ScaleBwdIdeal.Facts) (hScaleBwdRefIdeal : Cert.ScaleBwdRefIdeal.Facts) (hUp : Cert.Up.Facts) (hUpIdeal : Cert.UpIdeal.Facts) (hUpRefIdeal : Cert.UpRefIdeal.Facts) (hDown0 : Cert.Down0.Facts) (hDown0Ideal : Cert.Down0Ideal.Facts) (hDown0RefIdeal : Cert.Down0RefIdeal.Facts) (hDown1 : Cert.Down1.Facts) (hDown1Ideal : Cert.Down1Ideal.Facts) (hDown1RefIdeal : Cert.Down1RefIdeal.Facts) (hAIn : Cert.AIn.Facts) (hAInIdeal : Cert.AInIdeal.Facts) (hAInRefIdeal : Cert.AInRefIdeal.Facts) (hMixOut : Cert.MixOut.Facts) (hMixOutIdeal : Cert.MixOutIdeal.Facts) (hMixOutRefIdeal : Cert.MixOutRefIdeal.Facts) (hBIn : Cert.BIn.Facts) (hBInIdeal : Cert.BInIdeal.Facts) (hBInRefIdeal : Cert.BInRefIdeal.Facts) (hGrp : Cert.Grp.Facts) (hGrpIdeal : Cert.GrpIdeal.Facts) (hGrpRefIdeal : Cert.GrpRefIdeal.Facts) (hRmsFwd : Cert.RmsFwd.Facts) (hRmsFwdIdeal : Cert.RmsFwdIdeal.Facts) (hRmsFwdRefIdeal : Cert.RmsFwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGrp : Cert.AdamGrp.Facts) (hAdamGrpIdeal : Cert.AdamGrpIdeal.Facts) (hAdamGrpRefIdeal : Cert.AdamGrpRefIdeal.Facts) (hAdamMlp : Cert.AdamMlp.Facts) (hAdamMlpIdeal : Cert.AdamMlpIdeal.Facts) (hAdamMlpRefIdeal : Cert.AdamMlpRefIdeal.Facts) (hAdamMlp1 : Cert.AdamMlp1.Facts) (hAdamMlp1Ideal : Cert.AdamMlp1Ideal.Facts) (hAdamMlp1RefIdeal : Cert.AdamMlp1RefIdeal.Facts) (hAdamPack : Cert.AdamPack.Facts) (hAdamPackIdeal : Cert.AdamPackIdeal.Facts) (hAdamPackRefIdeal : Cert.AdamPackRefIdeal.Facts) (hSumUnpack : Cert.SumUnpack.Facts) (hSumUnpackIdeal : Cert.SumUnpackIdeal.Facts) (hSumUnpackRefIdeal : Cert.SumUnpackRefIdeal.Facts) (hGateFwd : Cert.GateFwd.Facts) (hGateFwdIdeal : Cert.GateFwdIdeal.Facts) (hGateFwdRefIdeal : Cert.GateFwdRefIdeal.Facts) (hRmsBwd : Cert.RmsBwd.Facts) (hRmsBwdIdeal : Cert.RmsBwdIdeal.Facts) (hRmsBwdRefIdeal : Cert.RmsBwdRefIdeal.Facts) (hDownLoss : Cert.DownLoss.Facts) (hDownLossIdeal : Cert.DownLossIdeal.Facts) (hDownLossRefIdeal : Cert.DownLossRefIdeal.Facts) (hPoolFwd : Cert.PoolFwd.Facts) (hPoolFwdIdeal : Cert.PoolFwdIdeal.Facts) (hPoolFwdRefIdeal : Cert.PoolFwdRefIdeal.Facts) (hPre_gate_finite : Cert.Pre_gate_finite.Facts) (hPre_pool_finite : Cert.Pre_pool_finite.Facts) (hPre_norm_finite : Cert.Pre_norm_finite.Facts) (hPre_loss_finite : Cert.Pre_loss_finite.Facts),
    quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_PoolBwd (hPoolBwd := hPoolBwd)
    ∧ quiescent_PoolBwdIdeal (hPoolBwdIdeal := hPoolBwdIdeal)
    ∧ quiescent_PoolBwdIdeal_pre_pool_finite (hPoolBwdIdeal := hPoolBwdIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_MmBwd (hMmBwd := hMmBwd)
    ∧ quiescent_MmBwdIdeal (hMmBwdIdeal := hMmBwdIdeal)
    ∧ quiescent_MmBwdRefIdeal (hMmBwdRefIdeal := hMmBwdRefIdeal)
    ∧ quiescent_AInDx (hAInDx := hAInDx)
    ∧ quiescent_AInDxIdeal (hAInDxIdeal := hAInDxIdeal)
    ∧ quiescent_AInDxRefIdeal (hAInDxRefIdeal := hAInDxRefIdeal)
    ∧ quiescent_AInDw (hAInDw := hAInDw)
    ∧ quiescent_AInDwIdeal (hAInDwIdeal := hAInDwIdeal)
    ∧ quiescent_AInDwRefIdeal (hAInDwRefIdeal := hAInDwRefIdeal)
    ∧ quiescent_GrpDx (hGrpDx := hGrpDx)
    ∧ quiescent_GrpDxIdeal (hGrpDxIdeal := hGrpDxIdeal)
    ∧ quiescent_GrpDxRefIdeal (hGrpDxRefIdeal := hGrpDxRefIdeal)
    ∧ quiescent_GrpDw (hGrpDw := hGrpDw)
    ∧ quiescent_GrpDwIdeal (hGrpDwIdeal := hGrpDwIdeal)
    ∧ quiescent_GrpDwRefIdeal (hGrpDwRefIdeal := hGrpDwRefIdeal)
    ∧ quiescent_ScaleBwd (hScaleBwd := hScaleBwd)
    ∧ quiescent_ScaleBwdIdeal (hScaleBwdIdeal := hScaleBwdIdeal)
    ∧ quiescent_ScaleBwdRefIdeal (hScaleBwdRefIdeal := hScaleBwdRefIdeal)
    ∧ quiescent_Up (hUp := hUp)
    ∧ quiescent_UpIdeal (hUpIdeal := hUpIdeal)
    ∧ quiescent_UpRefIdeal (hUpRefIdeal := hUpRefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_AIn (hAIn := hAIn)
    ∧ quiescent_AInIdeal (hAInIdeal := hAInIdeal)
    ∧ quiescent_AInRefIdeal (hAInRefIdeal := hAInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_BIn (hBIn := hBIn)
    ∧ quiescent_BInIdeal (hBInIdeal := hBInIdeal)
    ∧ quiescent_BInRefIdeal (hBInRefIdeal := hBInRefIdeal)
    ∧ quiescent_Grp (hGrp := hGrp)
    ∧ quiescent_GrpIdeal (hGrpIdeal := hGrpIdeal)
    ∧ quiescent_GrpRefIdeal (hGrpRefIdeal := hGrpRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGrp (hAdamGrp := hAdamGrp)
    ∧ quiescent_AdamGrpIdeal (hAdamGrpIdeal := hAdamGrpIdeal)
    ∧ quiescent_AdamGrpRefIdeal (hAdamGrpRefIdeal := hAdamGrpRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamMlp1 (hAdamMlp1 := hAdamMlp1)
    ∧ quiescent_AdamMlp1Ideal (hAdamMlp1Ideal := hAdamMlp1Ideal)
    ∧ quiescent_AdamMlp1RefIdeal (hAdamMlp1RefIdeal := hAdamMlp1RefIdeal)
    ∧ quiescent_AdamPack (hAdamPack := hAdamPack)
    ∧ quiescent_AdamPackIdeal (hAdamPackIdeal := hAdamPackIdeal)
    ∧ quiescent_AdamPackRefIdeal (hAdamPackRefIdeal := hAdamPackRefIdeal)
    ∧ quiescent_SumUnpack (hSumUnpack := hSumUnpack)
    ∧ quiescent_SumUnpackIdeal (hSumUnpackIdeal := hSumUnpackIdeal)
    ∧ quiescent_SumUnpackRefIdeal (hSumUnpackRefIdeal := hSumUnpackRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_RmsBwd (hRmsBwd := hRmsBwd)
    ∧ quiescent_RmsBwdIdeal (hRmsBwdIdeal := hRmsBwdIdeal)
    ∧ quiescent_RmsBwdIdeal_pre_norm_finite (hRmsBwdIdeal := hRmsBwdIdeal) (hPre_norm_finite := hPre_norm_finite)
    ∧ quiescent_RmsBwdRefIdeal (hRmsBwdRefIdeal := hRmsBwdRefIdeal)
    ∧ quiescent_RmsBwdRefIdeal_pre_norm_finite (hRmsBwdRefIdeal := hRmsBwdRefIdeal) (hPre_norm_finite := hPre_norm_finite)
    ∧ quiescent_DownLoss (hDownLoss := hDownLoss)
    ∧ quiescent_DownLossIdeal (hDownLossIdeal := hDownLossIdeal)
    ∧ quiescent_DownLossIdeal_pre_loss_finite (hDownLossIdeal := hDownLossIdeal) (hPre_loss_finite := hPre_loss_finite)
    ∧ quiescent_DownLossRefIdeal (hDownLossRefIdeal := hDownLossRefIdeal)
    ∧ quiescent_DownLossRefIdeal_pre_loss_finite (hDownLossRefIdeal := hDownLossRefIdeal) (hPre_loss_finite := hPre_loss_finite)
    ∧ quiescent_PoolFwd (hPoolFwd := hPoolFwd)
    ∧ quiescent_PoolFwdIdeal (hPoolFwdIdeal := hPoolFwdIdeal)
    ∧ quiescent_PoolFwdIdeal_pre_pool_finite (hPoolFwdIdeal := hPoolFwdIdeal) (hPre_pool_finite := hPre_pool_finite)
    ∧ quiescent_PoolFwdRefIdeal (hPoolFwdRefIdeal := hPoolFwdRefIdeal)
    ∧ quiescent_PoolFwdRefIdeal_pre_pool_finite (hPoolFwdRefIdeal := hPoolFwdRefIdeal) (hPre_pool_finite := hPre_pool_finite)
    ∧ preserves_GateBwd_GateBwdIdeal
    ∧ algebraic_GateBwdIdeal_GateRefIdeal_pre_gate_finite (hGateBwdIdeal := hGateBwdIdeal) (hGateRefIdeal := hGateRefIdeal) (hPre_gate_finite := hPre_gate_finite)
    ∧ preserves_PoolBwd_PoolBwdIdeal
    ∧ algebraic_PoolBwdIdeal_PoolRefIdeal_pre_pool_finite (hPoolBwdIdeal := hPoolBwdIdeal) (hPoolRefIdeal := hPoolRefIdeal) (hPre_pool_finite := hPre_pool_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_MmBwd_MmBwdIdeal
    ∧ algebraic_MmBwdIdeal_MmBwdRefIdeal (hMmBwdIdeal := hMmBwdIdeal) (hMmBwdRefIdeal := hMmBwdRefIdeal)
    ∧ preserves_AInDx_AInDxIdeal
    ∧ algebraic_AInDxIdeal_AInDxRefIdeal (hAInDxIdeal := hAInDxIdeal) (hAInDxRefIdeal := hAInDxRefIdeal)
    ∧ preserves_AInDw_AInDwIdeal
    ∧ algebraic_AInDwIdeal_AInDwRefIdeal (hAInDwIdeal := hAInDwIdeal) (hAInDwRefIdeal := hAInDwRefIdeal)
    ∧ preserves_GrpDx_GrpDxIdeal
    ∧ algebraic_GrpDxIdeal_GrpDxRefIdeal (hGrpDxIdeal := hGrpDxIdeal) (hGrpDxRefIdeal := hGrpDxRefIdeal)
    ∧ preserves_GrpDw_GrpDwIdeal
    ∧ algebraic_GrpDwIdeal_GrpDwRefIdeal (hGrpDwIdeal := hGrpDwIdeal) (hGrpDwRefIdeal := hGrpDwRefIdeal)
    ∧ preserves_ScaleBwd_ScaleBwdIdeal
    ∧ algebraic_ScaleBwdIdeal_ScaleBwdRefIdeal (hScaleBwdIdeal := hScaleBwdIdeal) (hScaleBwdRefIdeal := hScaleBwdRefIdeal)
    ∧ preserves_Up_UpIdeal
    ∧ algebraic_UpIdeal_UpRefIdeal (hUpIdeal := hUpIdeal) (hUpRefIdeal := hUpRefIdeal)
    ∧ preserves_Down0_Down0Ideal
    ∧ algebraic_Down0Ideal_Down0RefIdeal (hDown0Ideal := hDown0Ideal) (hDown0RefIdeal := hDown0RefIdeal)
    ∧ preserves_Down1_Down1Ideal
    ∧ algebraic_Down1Ideal_Down1RefIdeal (hDown1Ideal := hDown1Ideal) (hDown1RefIdeal := hDown1RefIdeal)
    ∧ preserves_AIn_AInIdeal
    ∧ algebraic_AInIdeal_AInRefIdeal (hAInIdeal := hAInIdeal) (hAInRefIdeal := hAInRefIdeal)
    ∧ preserves_MixOut_MixOutIdeal
    ∧ algebraic_MixOutIdeal_MixOutRefIdeal (hMixOutIdeal := hMixOutIdeal) (hMixOutRefIdeal := hMixOutRefIdeal)
    ∧ preserves_BIn_BInIdeal
    ∧ algebraic_BInIdeal_BInRefIdeal (hBInIdeal := hBInIdeal) (hBInRefIdeal := hBInRefIdeal)
    ∧ preserves_Grp_GrpIdeal
    ∧ algebraic_GrpIdeal_GrpRefIdeal (hGrpIdeal := hGrpIdeal) (hGrpRefIdeal := hGrpRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGrp_AdamGrpIdeal
    ∧ algebraic_AdamGrpIdeal_AdamGrpRefIdeal (hAdamGrpIdeal := hAdamGrpIdeal) (hAdamGrpRefIdeal := hAdamGrpRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamMlp1_AdamMlp1Ideal
    ∧ algebraic_AdamMlp1Ideal_AdamMlp1RefIdeal (hAdamMlp1Ideal := hAdamMlp1Ideal) (hAdamMlp1RefIdeal := hAdamMlp1RefIdeal)
    ∧ preserves_AdamPack_AdamPackIdeal
    ∧ algebraic_AdamPackIdeal_AdamPackRefIdeal (hAdamPackIdeal := hAdamPackIdeal) (hAdamPackRefIdeal := hAdamPackRefIdeal)
    ∧ preserves_SumUnpack_SumUnpackIdeal
    ∧ algebraic_SumUnpackIdeal_SumUnpackRefIdeal (hSumUnpackIdeal := hSumUnpackIdeal) (hSumUnpackRefIdeal := hSumUnpackRefIdeal)
    ∧ preserves_GateFwd_GateFwdIdeal
    ∧ algebraic_GateFwdIdeal_GateFwdRefIdeal (hGateFwdIdeal := hGateFwdIdeal) (hGateFwdRefIdeal := hGateFwdRefIdeal)
    ∧ preserves_RmsBwd_RmsBwdIdeal
    ∧ algebraic_RmsBwdIdeal_RmsBwdRefIdeal_pre_norm_finite (hRmsBwdIdeal := hRmsBwdIdeal) (hRmsBwdRefIdeal := hRmsBwdRefIdeal) (hPre_norm_finite := hPre_norm_finite)
    ∧ preserves_DownLoss_DownLossIdeal
    ∧ algebraic_DownLossIdeal_DownLossRefIdeal_pre_loss_finite (hDownLossIdeal := hDownLossIdeal) (hDownLossRefIdeal := hDownLossRefIdeal) (hPre_loss_finite := hPre_loss_finite)
    ∧ preserves_PoolFwd_PoolFwdIdeal
    ∧ algebraic_PoolFwdIdeal_PoolFwdRefIdeal_pre_pool_finite (hPoolFwdIdeal := hPoolFwdIdeal) (hPoolFwdRefIdeal := hPoolFwdRefIdeal) (hPre_pool_finite := hPre_pool_finite)
-- ==== Pre_gate_finite.lean ====
abbrev S2048x4096 : Shape := ⟨2, ![2048, 4096]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2048x4096 .f32) (main_arg1 : FVec F S2048x2048 .f32) (main_arg2 : FVec F S1x2048 .f32) (main_arg3 : FVec F S1x2048 .f32) (main_arg4 : FVec F S8x128x128 .f32) (main_arg5 : FVec F S8x128 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Pre_loss_finite.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S2048x2048 .f32) (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  let main_v21 : FVec F S2048x2048 .f32 := Host.absf main_arg4
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_c_7 : IVec S_ 1 := constantI S_ 1 1#1
  let main_v24 : IVec S_ 1 := (fun x v => Host.reduce IntOp.andi x v reducesTo_S2048x2048_S_d0_1 h_S_) main_v23 main_c_7
  let main_v25 : IVec S_ 1 := andi main_v20 main_v24
  main_v25

def fn {F : FTy → Type} [FloatOps F] (main_arg0 : FVec F S2048x8192 .bf16) (main_arg1 : FVec F S4x1x2048x2048 .bf16) (main_arg2 : FVec F S2048x2048 .f32) (main_arg3 : FVec F S1x2048 .f32) (main_arg4 : FVec F S2048x2048 .f32) : IVec S_ 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_c : IVec S_ 1 := constantI S_ 1 1#1
  let main_v4 : IVec S_ 1 := (fun x v => Host.reduce IntOp.andi x v reducesTo_S2048x8192_S_d0_1 h_S_) main_v3 main_c
  let main_v5 : FVec F S4x1x2048x2048 .f32 := (extf .f32 · bitsLt_bf16_f32) main_arg1
  let main_v6 : FVec F S4x1x2048x2048 .f32 := Host.absf main_v5
  let main_cst_0 : FVec F S_ .f32 := constant S_ .f32 0x7F800000#32
  let main_v7 : FVec F S4x1x2048x2048 .f32 := broadcastInDim S4x1x2048x2048 ![] bcast_S_S4x1x2048x2048 main_cst_0
  let main_v8 : IVec S4x1x2048x2048 1 := cmpf .olt main_v6 main_v7
  let main_c_1 : IVec S_ 1 := constantI S_ 1 1#1
  let main_v9 : IVec S_ 1 := (fun x v => Host.reduce IntOp.andi x v reducesTo_S4x1x2048x2048_S_d0_1_2_3 h_S_) main_v8 main_c_1
  let main_v10 : IVec S_ 1 := andi main_v4 main_v9
  let main_v11 : FVec F S2048x2048 .f32 := Host.absf main_arg2
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  let main_v16 : FVec F S1x2048 .f32 := Host.absf main_arg3
  let main_cst_4 : FVec F S_ .f32 := constant S_ .f32 0x7F800000#32
  fn_part1 (F := F) main_arg4 main_v15 main_v16 main_cst_4
-- ==== Pre_norm_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S1x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_pool_finite.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== GateBwd.lean ====
abbrev S2048x4096 : Shape := ⟨2, ![2048, 4096]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S2048x4096, .bf16⟩
  | .hbm, ⟨8, _⟩ => ⟨S8x128x128, .f32⟩
  | .hbm, ⟨9, _⟩ => ⟨S128x8, .f32⟩
  | .hbm, ⟨10, _⟩ => ⟨S1x2048, .f32⟩
  | .hbm, ⟨11, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | .local _ .vmem, ⟨15, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateBwdIdeal.lean ====
variable {F : FTy → Type} [FloatOps F] [Named F]
def κ : String → Option EReal := fun
  | "inv_sqrt_two_pi" => some (((Real.sqrt (2 * Real.pi))⁻¹ : ℝ) : EReal)
  | "sqrt_half" => some (((Real.sqrt 2)⁻¹ : ℝ) : EReal)
  | _ => none
-- ==== GateRefIdeal.lean ====
abbrev S2048x4096 : Shape := ⟨2, ![2048, 4096]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 154
  | .vmem => 0
  | .smem => 0
  | _ => 0

abbrev hbmTy0_0 (i : Nat) : BufTy := match i % 128 with
  | 0 => ⟨S2048x4096, .f32⟩
  | 1 => ⟨S2048x2048, .f32⟩
  | 2 => ⟨S1x2048, .f32⟩
  | 3 => ⟨S1x2048, .f32⟩
  | 4 => ⟨S8x128x128, .f32⟩
  | 5 => ⟨S8x128, .f32⟩
  | 6 => ⟨S_, .f32⟩
  | 7 => ⟨S_, .f32⟩
  | 8 => ⟨S2048x4096, .f32⟩
  | 9 => ⟨S2048x4096, .f32⟩
  | 10 => ⟨S2048x4096, .f32⟩
  | 11 => ⟨S_, .f32⟩
  | 12 => ⟨S2048x4096, .f32⟩
  | 13 => ⟨S2048x4096, .f32⟩
  | 14 => ⟨S_, .f32⟩
  | 15 => ⟨S2048x4096, .f32⟩
  | 16 => ⟨S2048x4096, .f32⟩
  | 17 => ⟨S2048x4096, .f32⟩
  | 18 => ⟨S_, .f32⟩
  | 19 => ⟨S_, .f32⟩
  | 20 => ⟨S2048x4096, .f32⟩
  | 21 => ⟨S2048x4096, .f32⟩
  | 22 => ⟨S2048x4096, .f32⟩
  | 23 => ⟨S_, .f32⟩
  | 24 => ⟨S2048x4096, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .f32⟩
  | 32 => ⟨S2048x4096, .f32⟩
  | 33 => ⟨S2048x4096, .f32⟩
  | 34 => ⟨S_, .f32⟩
  | 35 => ⟨S_, .f32⟩
  | 36 => ⟨S_, .f32⟩
  | 37 => ⟨S_, .f32⟩
  | 38 => ⟨S_, .f32⟩
  | 39 => ⟨S2048x4096, .f32⟩
  | 40 => ⟨S2048x4096, .f32⟩
  | 41 => ⟨S2048x4096, .f32⟩
  | 42 => ⟨S2048x4096, .f32⟩
  | 43 => ⟨S2048x2048, .f32⟩
  | 44 => ⟨S2048x2048, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S2048x2048, .f32⟩
  | 52 => ⟨S2048x2048, .f32⟩
  | 53 => ⟨S2048x2048, .f32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x2048, .f32⟩
  | 69 => ⟨S2048x2048, .f32⟩
  | 70 => ⟨S2048x2048, .f32⟩
  | 71 => ⟨S2048x2048, .f32⟩
  | 72 => ⟨S2048x2048, .f32⟩
  | 73 => ⟨S2048x2048, .f32⟩
  | 74 => ⟨S16x128x8x256, .f32⟩
  | 75 => ⟨S_, .f32⟩
  | 76 => ⟨S128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .f32⟩
  | 84 => ⟨S128x128, .f32⟩
  | 85 => ⟨S128x128, .f32⟩
  | 86 => ⟨S1x128x128, .f32⟩
  | 87 => ⟨S8x128x128, .f32⟩
  | 88 => ⟨S8x128x128, .f32⟩
  | 89 => ⟨S8x16x256x128, .f32⟩
  | 90 => ⟨S16x128x8x256, .f32⟩
  | 91 => ⟨S128x8, .f32⟩
  | 92 => ⟨S1x128x8x1, .f32⟩
  | 93 => ⟨S16x128x8x256, .f32⟩
  | 94 => ⟨S16x128x8x256, .f32⟩
  | 95 => ⟨S2048x2048, .f32⟩
  | 96 => ⟨S2048x2048, .f32⟩
  | 97 => ⟨S2048x2048, .f32⟩
  | 98 => ⟨S2048x2048, .f32⟩
  | 99 => ⟨S16x128x8x256, .f32⟩
  | 100 => ⟨S_, .f32⟩
  | 101 => ⟨S128x8, .f32⟩
  | 102 => ⟨S1x128x8x1, .f32⟩
  | 103 => ⟨S_, .f32⟩
  | 104 => ⟨S128x8, .f32⟩
  | 105 => ⟨S8x128, .f32⟩
  | 106 => ⟨S8x16x256x128, .f32⟩
  | 107 => ⟨S8x128x128, .f32⟩
  | 108 => ⟨S8x16x256x128, .f32⟩
  | 109 => ⟨S16x128x8x256, .f32⟩
  | 110 => ⟨S8x128x128, .f32⟩
  | 111 => ⟨S8x128x128, .f32⟩
  | 112 => ⟨S2048x2048, .f32⟩
  | 113 => ⟨S_, .f32⟩
  | 114 => ⟨S2048, .f32⟩
  | 115 => ⟨S1x2048, .f32⟩
  | 116 => ⟨S2048x2048, .f32⟩
  | 117 => ⟨S_, .f32⟩
  | 118 => ⟨S2048, .f32⟩
  | 119 => ⟨S1x2048, .f32⟩
  | 120 => ⟨S2048x2048, .f32⟩
  | 121 => ⟨S2048x2048, .f32⟩
  | 122 => ⟨S2048x2048, .f32⟩
  | 123 => ⟨S_, .f32⟩
  | 124 => ⟨S2048, .f32⟩
  | 125 => ⟨S2048x1, .f32⟩
  | 126 => ⟨S2048x2048, .f32⟩
  | 127 => ⟨S2048x2048, .f32⟩
  | _ => ⟨S2048x4096, .f32⟩

abbrev hbmTy0_1 (i : Nat) : BufTy := match i % 128 with
  | 0 => ⟨S2048x1, .f32⟩
  | 1 => ⟨S_, .f32⟩
  | 2 => ⟨S2048x1, .f32⟩
  | 3 => ⟨S2048x1, .f32⟩
  | 4 => ⟨S_, .f32⟩
  | 5 => ⟨S2048, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048, .f32⟩
  | 20 => ⟨S2048x2048, .f32⟩
  | 21 => ⟨S2048x2048, .f32⟩
  | 22 => ⟨S2048x4096, .f32⟩
  | 23 => ⟨S2048x4096, .f32⟩
  | 24 => ⟨S2048x4096, .bf16⟩
  | 25 => ⟨S128x8, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩

abbrev nD : Nat := 1
abbrev τ : Topo := Topo.v7x

variable {F : FTy → Type} [FloatOps F]
-- ==== PoolBwd.lean ====
abbrev S2048x2048 : Shape := ⟨2, ![2048, 2048]⟩
abbrev S2048x256 : Shape := ⟨2, ![2048, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PoolRefIdeal.lean ====
abbrev S2048x2048 : Shape := ⟨2, ![2048, 2048]⟩
abbrev S_ : Shape := ⟨0, ![]⟩
abbrev S2048x4x512 : Shape := ⟨3, ![2048, 4, 512]⟩
abbrev S2048x1x512 : Shape := ⟨3, ![2048, 1, 512]⟩
abbrev S2048x512 : Shape := ⟨2, ![2048, 512]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 204
  | .vmem => 0
  | .smem => 0
  | _ => 0

abbrev hbmTy0_0 (i : Nat) : BufTy := match i % 128 with
  | 0 => ⟨S2048x2048, .f32⟩
  | 1 => ⟨S_, .f32⟩
  | 2 => ⟨S2048x2048, .f32⟩
  | 3 => ⟨S2048x4x512, .f32⟩
  | 4 => ⟨S2048x1x512, .f32⟩
  | 5 => ⟨S2048x512, .f32⟩
  | 6 => ⟨S_, .f32⟩
  | 7 => ⟨S_, .f32⟩
  | 8 => ⟨S2048x512, .f32⟩
  | 9 => ⟨S_, .f32⟩
  | 10 => ⟨S2x512, .f32⟩
  | 11 => ⟨S2046x512, .f32⟩
  | 12 => ⟨S2048x512, .f32⟩
  | 13 => ⟨S_, .f32⟩
  | 14 => ⟨S2x512, .f32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .f32⟩
  | 23 => ⟨S2048x512, .f32⟩
  | 24 => ⟨S2048x1, .f32⟩
  | 25 => ⟨S2048x512, .f32⟩
  | 26 => ⟨S2048x512, .f32⟩
  | 27 => ⟨S2048x1x512, .f32⟩
  | 28 => ⟨S2048x512, .f32⟩
  | 29 => ⟨S2048x512, .f32⟩
  | 30 => ⟨S2048x1x512, .f32⟩
  | 31 => ⟨S2048x512, .f32⟩
  | 32 => ⟨S_, .f32⟩
  | 33 => ⟨S_, .f32⟩
  | 34 => ⟨S2048x512, .f32⟩
  | 35 => ⟨S_, .f32⟩
  | 36 => ⟨S4x512, .f32⟩
  | 37 => ⟨S2044x512, .f32⟩
  | 38 => ⟨S2048x512, .f32⟩
  | 39 => ⟨S_, .f32⟩
  | 40 => ⟨S4x512, .f32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S2048, .f32⟩
  | 49 => ⟨S2048x512, .f32⟩
  | 50 => ⟨S2048x1, .f32⟩
  | 51 => ⟨S2048x512, .f32⟩
  | 52 => ⟨S2048x512, .f32⟩
  | 53 => ⟨S2048x1x512, .f32⟩
  | 54 => ⟨S2048x512, .f32⟩
  | 55 => ⟨S2048x512, .f32⟩
  | 56 => ⟨S2048x1x512, .f32⟩
  | 57 => ⟨S2048x512, .f32⟩
  | 58 => ⟨S_, .f32⟩
  | 59 => ⟨S_, .f32⟩
  | 60 => ⟨S2048x512, .f32⟩
  | 61 => ⟨S_, .f32⟩
  | 62 => ⟨S8x512, .f32⟩
  | 63 => ⟨S2040x512, .f32⟩
  | 64 => ⟨S2048x512, .f32⟩
  | 65 => ⟨S_, .f32⟩
  | 66 => ⟨S8x512, .f32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S2048x512, .f32⟩
  | 76 => ⟨S2048x1, .f32⟩
  | 77 => ⟨S2048x512, .f32⟩
  | 78 => ⟨S2048x512, .f32⟩
  | 79 => ⟨S2048x1x512, .f32⟩
  | 80 => ⟨S2048x512, .f32⟩
  | 81 => ⟨S2048x512, .f32⟩
  | 82 => ⟨S2048x1x512, .f32⟩
  | 83 => ⟨S2048x512, .f32⟩
  | 84 => ⟨S_, .f32⟩
  | 85 => ⟨S_, .f32⟩
  | 86 => ⟨S2048x512, .f32⟩
  | 87 => ⟨S_, .f32⟩
  | 88 => ⟨S16x512, .f32⟩
  | 89 => ⟨S2032x512, .f32⟩
  | 90 => ⟨S2048x512, .f32⟩
  | 91 => ⟨S_, .f32⟩
  | 92 => ⟨S16x512, .f32⟩
  | 93 => ⟨S2048, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S2048, .f32⟩
  | 101 => ⟨S2048x512, .f32⟩
  | 102 => ⟨S2048x1, .f32⟩
  | 103 => ⟨S2048x512, .f32⟩
  | 104 => ⟨S2048x512, .f32⟩
  | 105 => ⟨S2048x1x512, .f32⟩
  | 106 => ⟨S2048x512, .f32⟩
  | 107 => ⟨S2048x512, .f32⟩
  | 108 => ⟨S2048x1x512, .f32⟩
  | 109 => ⟨S2048x1x512, .f32⟩
  | 110 => ⟨S2048x1x512, .f32⟩
  | 111 => ⟨S2048x1x512, .f32⟩
  | 112 => ⟨S2048x4x512, .f32⟩
  | 113 => ⟨S2048x2048, .f32⟩
  | 114 => ⟨S2048x4x512, .f32⟩
  | 115 => ⟨S2048x1x512, .f32⟩
  | 116 => ⟨S2048x512, .f32⟩
  | 117 => ⟨S2048x1x512, .f32⟩
  | 118 => ⟨S2048x512, .f32⟩
  | 119 => ⟨S2048x1x512, .f32⟩
  | 120 => ⟨S2048x512, .f32⟩
  | 121 => ⟨S2048x1x512, .f32⟩
  | 122 => ⟨S2048x512, .f32⟩
  | 123 => ⟨S2048x512, .f32⟩
  | 124 => ⟨S2048x1x512, .f32⟩
  | 125 => ⟨S_, .f32⟩
  | 126 => ⟨S2048x4x512, .f32⟩
  | 127 => ⟨S2048x512, .f32⟩
  | _ => ⟨S2048x2048, .f32⟩

abbrev hbmTy0_1 (i : Nat) : BufTy := match i % 128 with
  | 0 => ⟨S2048x512, .f32⟩
  | 1 => ⟨S2048x512, .f32⟩
  | 2 => ⟨S16x512, .f32⟩
  | 3 => ⟨S2032x512, .f32⟩
  | 4 => ⟨S_, .f32⟩
  | 5 => ⟨S2048x512, .f32⟩
  | 6 => ⟨S2048x512, .f32⟩
  | 7 => ⟨S_, .f32⟩
  | 8 => ⟨S_, .f32⟩
  | 9 => ⟨S2048x512, .f32⟩
  | 10 => ⟨S2048x1x512, .f32⟩
  | 11 => ⟨S_, .f32⟩
  | 12 => ⟨S2048x4x512, .f32⟩
  | 13 => ⟨S2048x4x512, .f32⟩
  | 14 => ⟨S2048x512, .f32⟩
  | 15 => ⟨S2048x1x512, .f32⟩
  | 16 => ⟨S_, .f32⟩
  | 17 => ⟨S2048x4x512, .f32⟩
  | 18 => ⟨S2048x4x512, .f32⟩
  | 19 => ⟨S2048x512, .f32⟩
  | 20 => ⟨S2048x512, .f32⟩
  | 21 => ⟨S2048x512, .f32⟩
  | 22 => ⟨S8x512, .f32⟩
  | 23 => ⟨S2040x512, .f32⟩
  | 24 => ⟨S_, .f32⟩
  | 25 => ⟨S2048x512, .f32⟩
  | 26 => ⟨S2048x512, .f32⟩
  | 27 => ⟨S_, .f32⟩
  | 28 => ⟨S_, .f32⟩
  | 29 => ⟨S2048x512, .f32⟩
  | 30 => ⟨S2048x1x512, .f32⟩
  | 31 => ⟨S_, .f32⟩
  | 32 => ⟨S2048x4x512, .f32⟩
  | 33 => ⟨S2048x4x512, .f32⟩
  | 34 => ⟨S2048x512, .f32⟩
  | 35 => ⟨S2048x1x512, .f32⟩
  | 36 => ⟨S_, .f32⟩
  | 37 => ⟨S2048x4x512, .f32⟩
  | 38 => ⟨S2048x4x512, .f32⟩
  | 39 => ⟨S2048x512, .f32⟩
  | 40 => ⟨S2048x512, .f32⟩
  | 41 => ⟨S2048x512, .f32⟩
  | 42 => ⟨S4x512, .f32⟩
  | 43 => ⟨S2044x512, .f32⟩
  | 44 => ⟨S_, .f32⟩
  | 45 => ⟨S2048x512, .f32⟩
  | 46 => ⟨S2048x512, .f32⟩
  | 47 => ⟨S_, .f32⟩
  | 48 => ⟨S_, .f32⟩
  | 49 => ⟨S2048x512, .f32⟩
  | 50 => ⟨S2048x1x512, .f32⟩
  | 51 => ⟨S_, .f32⟩
  | 52 => ⟨S2048x4x512, .f32⟩
  | 53 => ⟨S2048x4x512, .f32⟩
  | 54 => ⟨S2048x512, .f32⟩
  | 55 => ⟨S2048x1x512, .f32⟩
  | 56 => ⟨S_, .f32⟩
  | 57 => ⟨S2048x4x512, .f32⟩
  | 58 => ⟨S2048x4x512, .f32⟩
  | 59 => ⟨S2048x512, .f32⟩
  | 60 => ⟨S2048x512, .f32⟩
  | 61 => ⟨S2048x512, .f32⟩
  | 62 => ⟨S2x512, .f32⟩
  | 63 => ⟨S2046x512, .f32⟩
  | 64 => ⟨S_, .f32⟩
  | 65 => ⟨S2048x512, .f32⟩
  | 66 => ⟨S2048x512, .f32⟩
  | 67 => ⟨S_, .f32⟩
  | 68 => ⟨S_, .f32⟩
  | 69 => ⟨S2048x512, .f32⟩
  | 70 => ⟨S2048x1x512, .f32⟩
  | 71 => ⟨S_, .f32⟩
  | 72 => ⟨S2048x4x512, .f32⟩
  | 73 => ⟨S2048x4x512, .f32⟩
  | 74 => ⟨S2048x2048, .f32⟩
  | 75 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_call0_cst : Ref sig .tc := ⟨.hbm, 32, rfl⟩
abbrev main_call1_call0_v0 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call2_call0_cst : Ref sig .tc := ⟨.hbm, 58, rfl⟩
abbrev main_call2_call0_v0 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call3_call0_cst : Ref sig .tc := ⟨.hbm, 84, rfl⟩
abbrev main_call3_call0_v0 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_15 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_16 : Ref sig .tc := ⟨.hbm, 132, rfl⟩
abbrev main_v105 : Ref sig .tc := ⟨.hbm, 133, rfl⟩
abbrev main_v106 : Ref sig .tc := ⟨.hbm, 134, rfl⟩
abbrev main_call4_call0_cst : Ref sig .tc := ⟨.hbm, 135, rfl⟩
abbrev main_call4_call0_v0 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_19 : Ref sig .tc := ⟨.hbm, 152, rfl⟩
abbrev main_v120 : Ref sig .tc := ⟨.hbm, 153, rfl⟩
abbrev main_v121 : Ref sig .tc := ⟨.hbm, 154, rfl⟩
abbrev main_call5_call0_cst : Ref sig .tc := ⟨.hbm, 155, rfl⟩
abbrev main_call5_call0_v0 : Ref sig .tc := ⟨.hbm, 156, rfl⟩
abbrev main_v122 : Ref sig .tc := ⟨.hbm, 157, rfl⟩
abbrev main_v123 : Ref sig .tc := ⟨.hbm, 158, rfl⟩
abbrev main_cst_20 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_21 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_call6_call0_cst : Ref sig .tc := ⟨.hbm, 175, rfl⟩
abbrev main_call6_call0_v0 : Ref sig .tc := ⟨.hbm, 176, rfl⟩
abbrev main_v137 : Ref sig .tc := ⟨.hbm, 177, rfl⟩
abbrev main_v138 : Ref sig .tc := ⟨.hbm, 178, rfl⟩
abbrev main_cst_23 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_24 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_25 : Ref sig .tc := ⟨.hbm, 192, rfl⟩
abbrev main_v150 : Ref sig .tc := ⟨.hbm, 193, rfl⟩
abbrev main_v151 : Ref sig .tc := ⟨.hbm, 194, rfl⟩
abbrev main_call7_call0_cst : Ref sig .tc := ⟨.hbm, 195, rfl⟩
abbrev main_call7_call0_v0 : Ref sig .tc := ⟨.hbm, 196, rfl⟩
abbrev main_v152 : Ref sig .tc := ⟨.hbm, 197, rfl⟩
abbrev main_v153 : Ref sig .tc := ⟨.hbm, 198, rfl⟩
abbrev main_cst_26 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩

abbrev nD : Nat := 1
abbrev τ : Topo := Topo.v7x

variable {F : FTy → Type} [FloatOps F]
-- ==== DownDx.lean ====
abbrev S2048x2048 : Shape := ⟨2, ![2048, 2048]⟩
abbrev S4x1x2048x2048 : Shape := ⟨4, ![4, 1, 2048, 2048]⟩
abbrev S2048x8192 : Shape := ⟨2, ![2048, 8192]⟩
abbrev S_ : Shape := ⟨0, ![]⟩
abbrev S1x1x512x2048 : Shape := ⟨4, ![1, 1, 512, 2048]⟩
abbrev S2048x512 : Shape := ⟨2, ![2048, 512]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S2048x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== DownDxRefIdeal.lean ====
abbrev S2048x2048 : Shape := ⟨2, ![2048, 2048]⟩
abbrev S4x1x2048x2048 : Shape := ⟨4, ![4, 1, 2048, 2048]⟩
abbrev S2048x8192 : Shape := ⟨2, ![2048, 8192]⟩
abbrev S_ : Shape := ⟨0, ![]⟩
abbrev S4x2048x2048 : Shape := ⟨3, ![4, 2048, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S4x2048x2048, .bf16⟩
  | .hbm, ⟨13, _⟩ => ⟨S8192x2048, .bf16⟩
  | .hbm, ⟨14, _⟩ => ⟨S8192x2048, .f32⟩
  | .hbm, ⟨15, _⟩ => ⟨S2048x2048, .f32⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DownDw.lean ====
abbrev S2048x2048 : Shape := ⟨2, ![2048, 2048]⟩
abbrev S2048x8192 : Shape := ⟨2, ![2048, 8192]⟩
abbrev S_ : Shape := ⟨0, ![]⟩
abbrev S4x1x2048x2048 : Shape := ⟨4, ![4, 1, 2048, 2048]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S4x1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1x1x1024x2048, .bf16⟩
  | .local _ .vmem, ⟨4, _⟩ => ⟨S1x1x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DownDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S4x1x2048x2048 : Shape := ⟨4, ![4, 1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S4x1x2048x2048, .f32⟩
  | .hbm, ⟨13, _⟩ => ⟨S4x1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpDx.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpDxRefIdeal.lean ====
abbrev S2048x8192 : Shape := ⟨2, ![2048, 8192]⟩
abbrev S4x1x2048x2048 : Shape := ⟨4, ![4, 1, 2048, 2048]⟩
abbrev S_ : Shape := ⟨0, ![]⟩
abbrev S2048x2048 : Shape := ⟨2, ![2048, 2048]⟩
abbrev S4x2048x2048 : Shape := ⟨3, ![4, 2048, 2048]⟩
abbrev S2048x4x2048 : Shape := ⟨3, ![2048, 4, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S_, .f32⟩
  | .hbm, ⟨3, _⟩ => ⟨S2048x2048, .f32⟩
  | .hbm, ⟨4, _⟩ => ⟨S4x2048x2048, .bf16⟩
  | .hbm, ⟨5, _⟩ => ⟨S2048x4x2048, .bf16⟩
  | .hbm, ⟨6, _⟩ => ⟨S2048x8192, .bf16⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDw.lean ====
abbrev S2048x2048 : Shape := ⟨2, ![2048, 2048]⟩
abbrev S2048x8192 : Shape := ⟨2, ![2048, 8192]⟩
abbrev S4x1x2048x2048 : Shape := ⟨4, ![4, 1, 2048, 2048]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x1024x2048, .bf16⟩
  | .local _ .vmem, ⟨5, _⟩ => ⟨S1x1x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== UpDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x1x2048x2048, .f32⟩
  | .hbm, ⟨12, _⟩ => ⟨S4x1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MmBwd.lean ====
abbrev S2048x2048 : Shape := ⟨2, ![2048, 2048]⟩
abbrev S4x1x512x2048 : Shape := ⟨4, ![4, 1, 512, 2048]⟩
abbrev S1x1x512x2048 : Shape := ⟨4, ![1, 1, 512, 2048]⟩
abbrev S2048x512 : Shape := ⟨2, ![2048, 512]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .bf16⟩
  | .hbm, ⟨3, _⟩ => ⟨S2048x2048, .f32⟩
  | .hbm, ⟨4, _⟩ => ⟨S4x1x512x2048, .bf16⟩
  | .local _ .vmem, ⟨0, _⟩ => ⟨S2048x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | .local _ .vmem, ⟨6, _⟩ => ⟨S2048x512, .f32⟩
  | .local _ .vmem, ⟨7, _⟩ => ⟨S1x1x512x2048, .bf16⟩
  | .local _ .vmem, ⟨8, _⟩ => ⟨S1x1x512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MmBwdRefIdeal.lean ====
abbrev S2048x2048 : Shape := ⟨2, ![2048, 2048]⟩
abbrev S4x1x512x2048 : Shape := ⟨4, ![4, 1, 512, 2048]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .bf16⟩
  | .hbm, ⟨3, _⟩ => ⟨S2048x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S4x1x512x2048, .f32⟩
  | .hbm, ⟨13, _⟩ => ⟨S4x1x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== AInDx.lean ====
abbrev S2048x4096 : Shape := ⟨2, ![2048, 4096]⟩
abbrev S4x1x2048x1024 : Shape := ⟨4, ![4, 1, 2048, 1024]⟩
abbrev S2048x2048 : Shape := ⟨2, ![2048, 2048]⟩
abbrev S1024x4096 : Shape := ⟨2, ![1024, 4096]⟩
abbrev S4x1x512x1024 : Shape := ⟨4, ![4, 1, 512, 1024]⟩
abbrev S1024x512 : Shape := ⟨2, ![1024, 512]⟩
abbrev S1024x1024 : Shape := ⟨2, ![1024, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4x1x2048x1024, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1x512x1024, .bf16⟩
  | .local _ .vmem, ⟨3, _⟩ => ⟨S4x1x512x1024, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, arg2.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AInDxRefIdeal.lean ====
abbrev S2048x4096 : Shape := ⟨2, ![2048, 4096]⟩
abbrev S4x1x2048x1024 : Shape := ⟨4, ![4, 1, 2048, 1024]⟩
abbrev S_ : Shape := ⟨0, ![]⟩
abbrev S2048x2048 : Shape := ⟨2, ![2048, 2048]⟩
abbrev S4x2048x1024 : Shape := ⟨3, ![4, 2048, 1024]⟩
abbrev S2048x4x1024 : Shape := ⟨3, ![2048, 4, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x1x2048x1024, .bf16⟩
  | .hbm, ⟨2, _⟩ => ⟨S_, .f32⟩
  | .hbm, ⟨3, _⟩ => ⟨S2048x2048, .f32⟩
  | .hbm, ⟨4, _⟩ => ⟨S4x2048x1024, .bf16⟩
  | .hbm, ⟨5, _⟩ => ⟨S2048x4x1024, .bf16⟩
  | .hbm, ⟨6, _⟩ => ⟨S2048x4096, .bf16⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AInDw.lean ====
abbrev S2048x2048 : Shape := ⟨2, ![2048, 2048]⟩
abbrev S2048x4096 : Shape := ⟨2, ![2048, 4096]⟩
abbrev S4x1x2048x1024 : Shape := ⟨4, ![4, 1, 2048, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== AInDwRefIdeal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x1x2048x1024, .f32⟩
  | .hbm, ⟨12, _⟩ => ⟨S4x1x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GrpDx.lean ====
abbrev S2048x2048 : Shape := ⟨2, ![2048, 2048]⟩
abbrev S4x4x128x512 : Shape := ⟨4, ![4, 4, 128, 512]⟩
abbrev S2048x512 : Shape := ⟨2, ![2048, 512]⟩
abbrev S4x1x128x512 : Shape := ⟨4, ![4, 1, 128, 512]⟩
abbrev S4x128x512 : Shape := ⟨3, ![4, 128, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x4x128x512, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S2048x512, .f32⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg0.toNat, c0_i32_0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GrpDxRefIdeal.lean ====
abbrev S2048x2048 : Shape := ⟨2, ![2048, 2048]⟩
abbrev S4x4x128x512 : Shape := ⟨4, ![4, 4, 128, 512]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x128x512, .bf16⟩
  | .hbm, ⟨2, _⟩ => ⟨S_, .f32⟩
  | .hbm, ⟨3, _⟩ => ⟨S2048x2048, .f32⟩
  | .hbm, ⟨4, _⟩ => ⟨S4x4x128x512, .bf16⟩
  | .hbm, ⟨5, _⟩ => ⟨S4x512x512, .bf16⟩
  | .hbm, ⟨6, _⟩ => ⟨S4x512x512, .f32⟩
  | .hbm, ⟨7, _⟩ => ⟨S2048x4x512, .f32⟩
  | .hbm, ⟨8, _⟩ => ⟨S4x512x2048, .f32⟩
  | .hbm, ⟨9, _⟩ => ⟨S2048x4x512, .f32⟩
  | .hbm, ⟨10, _⟩ => ⟨S2048x2048, .f32⟩
  | .hbm, ⟨11, _⟩ => ⟨S2048x2048, .f32⟩
  | .hbm, ⟨12, _⟩ => ⟨S2048x4x512, .f32⟩
  | .hbm, ⟨13, _⟩ => ⟨S4x512x2048, .f32⟩
  | .hbm, ⟨14, _⟩ => ⟨S4x2048x512, .f32⟩
  | .hbm, ⟨15, _⟩ => ⟨S2048x4x512, .f32⟩
  | .hbm, ⟨16, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GrpDw.lean ====
abbrev S2048x2048 : Shape := ⟨2, ![2048, 2048]⟩
abbrev S4x4x128x512 : Shape := ⟨4, ![4, 4, 128, 512]⟩
abbrev S2048x512 : Shape := ⟨2, ![2048, 512]⟩
abbrev S4x1x128x512 : Shape := ⟨4, ![4, 1, 128, 512]⟩
abbrev S512x512 : Shape := ⟨2, ![512, 512]⟩
abbrev S4x128x512 : Shape := ⟨3, ![4, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x4x128x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x1x128x512, .bf16⟩
  | .local _ .vmem, ⟨5, _⟩ => ⟨S4x1x128x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S4x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GrpDwRefIdeal.lean ====
abbrev S2048x2048 : Shape := ⟨2, ![2048, 2048]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩
abbrev S4x4x128x512 : Shape := ⟨4, ![4, 4, 128, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S4x512x512, .f32⟩
  | .hbm, ⟨4, _⟩ => ⟨S2048x2048, .f32⟩
  | .hbm, ⟨5, _⟩ => ⟨S2048x4x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x512x512, .f32⟩
  | .hbm, ⟨13, _⟩ => ⟨S4x512x512, .f32⟩
  | .hbm, ⟨14, _⟩ => ⟨S4x4x128x512, .f32⟩
  | .hbm, ⟨15, _⟩ => ⟨S4x4x128x512, .f32⟩
  | .hbm, ⟨16, _⟩ => ⟨S4x4x128x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== ScaleBwd.lean ====
abbrev S2048x2048 : Shape := ⟨2, ![2048, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S2048x2048 : Shape := ⟨2, ![2048, 2048]⟩
abbrev S4x1x2048x2048 : Shape := ⟨4, ![4, 1, 2048, 2048]⟩
abbrev S2048x8192 : Shape := ⟨2, ![2048, 8192]⟩
abbrev S1x1x2048x512 : Shape := ⟨4, ![1, 1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x2048, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== UpRefIdeal.lean ====
abbrev S2048x2048 : Shape := ⟨2, ![2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x2048, .bf16⟩
  | .hbm, ⟨2, _⟩ => ⟨S2048x2048, .f32⟩
  | .hbm, ⟨3, _⟩ => ⟨S4x2048x2048, .bf16⟩
  | .hbm, ⟨4, _⟩ => ⟨S2048x4x2048, .bf16⟩
  | .hbm, ⟨5, _⟩ => ⟨S2048x8192, .bf16⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S2048x8192, .bf16⟩
  | .hbm, ⟨12, _⟩ => ⟨S2048x8192, .f32⟩
  | .hbm, ⟨13, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Down0.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c0_i32_11 : BitVec 32 := 0#32
  let v28 : BitVec 32 := Scalar.addi v27 c0_i32_11
  let c4_i32 : BitVec 32 := 4#32
  let v29 : BitVec 32 := Scalar.muli v16 c4_i32
  let c2_i32_12 : BitVec 32 := 2#32
  let v30 : BitVec 32 := Scalar.divsi arg3 c2_i32_12
  let c0_i32_13 : BitVec 32 := 0#32
  let v31 : BitVec 1 := Scalar.cmpi .sgt arg3 c0_i32_13
  let v32 : BitVec 32 := Scalar.extui v31
  let c0_i32_14 : BitVec 32 := 0#32
  let v33 : BitVec 1 := Scalar.cmpi .slt arg3 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi arg3 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c2_i32_19 : BitVec 32 := 2#32
  let c0_i32_20 : BitVec 32 := 0#32
  let v47 : BitVec 1 := Scalar.cmpi .eq c2_i32_19 c0_i32_20
  let c1_i32_21 : BitVec 32 := 1#32
  let v48 : BitVec 32 := Scalar.select v47 c1_i32_21 c2_i32_19
  let v49 : BitVec 32 := Scalar.remsi arg3 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let c2_i32_25 : BitVec 32 := 2#32
  let v57 : BitVec 32 := Scalar.muli v56 c2_i32_25
  let c0_i32_26 : BitVec 32 := 0#32
  let v58 : BitVec 32 := Scalar.addi v57 c0_i32_26
  let v59 : BitVec 32 := Scalar.addi v29 v58
  let c0_i32_27 : BitVec 32 := 0#32
  ![arg1.toNat, v59.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c0_i32_11 : BitVec 32 := 0#32
  let v28 : BitVec 32 := Scalar.addi v27 c0_i32_11
  let c2_i32_12 : BitVec 32 := 2#32
  let v29 : BitVec 32 := Scalar.divsi arg3 c2_i32_12
  let c0_i32_13 : BitVec 32 := 0#32
  let v30 : BitVec 1 := Scalar.cmpi .sgt arg3 c0_i32_13
  let v31 : BitVec 32 := Scalar.extui v30
  let c0_i32_14 : BitVec 32 := 0#32
  let v32 : BitVec 1 := Scalar.cmpi .slt arg3 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi arg3 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c2_i32_19 : BitVec 32 := 2#32
  let c0_i32_20 : BitVec 32 := 0#32
  let v46 : BitVec 1 := Scalar.cmpi .eq c2_i32_19 c0_i32_20
  let c1_i32_21 : BitVec 32 := 1#32
  let v47 : BitVec 32 := Scalar.select v46 c1_i32_21 c2_i32_19
  let v48 : BitVec 32 := Scalar.remsi arg3 v47
  let c0_i32_22 : BitVec 32 := 0#32
  let v49 : BitVec 1 := Scalar.cmpi .ne v48 c0_i32_22
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let v53 : BitVec 1 := Scalar.andi v52 v49
  let v54 : BitVec 32 := Scalar.addi v48 v47
  let v55 : BitVec 32 := Scalar.select v53 v54 v48
  let c2_i32_25 : BitVec 32 := 2#32
  let v56 : BitVec 32 := Scalar.muli v55 c2_i32_25
  let c0_i32_26 : BitVec 32 := 0#32
  let v57 : BitVec 32 := Scalar.addi v56 c0_i32_26
  let c0_i32_27 : BitVec 32 := 0#32
  let c0_i32_28 : BitVec 32 := 0#32
  ![v16.toNat, c0_i32_27.toNat, v57.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Down0RefIdeal.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S2048x4096 : Shape := ⟨2, ![2048, 4096]⟩
abbrev S4x2048x2048 : Shape := ⟨3, ![4, 2048, 2048]⟩
abbrev S8192x2048 : Shape := ⟨2, ![8192, 2048]⟩
abbrev S8x2x512x2048 : Shape := ⟨4, ![8, 2, 512, 2048]⟩
abbrev S8x1x512x2048 : Shape := ⟨4, ![8, 1, 512, 2048]⟩
abbrev S8x512x2048 : Shape := ⟨3, ![8, 512, 2048]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S2048x8192, .f32⟩
  | .hbm, ⟨4, _⟩ => ⟨S2048x8x2x512, .f32⟩
  | .hbm, ⟨5, _⟩ => ⟨S2048x8x1x512, .f32⟩
  | .hbm, ⟨6, _⟩ => ⟨S2048x8x512, .f32⟩
  | .hbm, ⟨7, _⟩ => ⟨S2048x4096, .f32⟩
  | .hbm, ⟨8, _⟩ => ⟨S4x2048x2048, .bf16⟩
  | .hbm, ⟨9, _⟩ => ⟨S8192x2048, .bf16⟩
  | .hbm, ⟨10, _⟩ => ⟨S8192x2048, .f32⟩
  | .hbm, ⟨11, _⟩ => ⟨S8x2x512x2048, .f32⟩
  | .hbm, ⟨12, _⟩ => ⟨S8x1x512x2048, .f32⟩
  | .hbm, ⟨13, _⟩ => ⟨S8x512x2048, .f32⟩
  | .hbm, ⟨14, _⟩ => ⟨S4096x2048, .f32⟩
  | .hbm, ⟨15, _⟩ => ⟨S2048x2048, .f32⟩
  | .hbm, ⟨16, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Down1.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c1_i32_11 : BitVec 32 := 1#32
  let v28 : BitVec 32 := Scalar.addi v27 c1_i32_11
  let c4_i32 : BitVec 32 := 4#32
  let v29 : BitVec 32 := Scalar.muli v16 c4_i32
  let c2_i32_12 : BitVec 32 := 2#32
  let v30 : BitVec 32 := Scalar.divsi arg3 c2_i32_12
  let c0_i32_13 : BitVec 32 := 0#32
  let v31 : BitVec 1 := Scalar.cmpi .sgt arg3 c0_i32_13
  let v32 : BitVec 32 := Scalar.extui v31
  let c0_i32_14 : BitVec 32 := 0#32
  let v33 : BitVec 1 := Scalar.cmpi .slt arg3 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi arg3 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c2_i32_19 : BitVec 32 := 2#32
  let c0_i32_20 : BitVec 32 := 0#32
  let v47 : BitVec 1 := Scalar.cmpi .eq c2_i32_19 c0_i32_20
  let c1_i32_21 : BitVec 32 := 1#32
  let v48 : BitVec 32 := Scalar.select v47 c1_i32_21 c2_i32_19
  let v49 : BitVec 32 := Scalar.remsi arg3 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let c2_i32_25 : BitVec 32 := 2#32
  let v57 : BitVec 32 := Scalar.muli v56 c2_i32_25
  let c1_i32_26 : BitVec 32 := 1#32
  let v58 : BitVec 32 := Scalar.addi v57 c1_i32_26
  let v59 : BitVec 32 := Scalar.addi v29 v58
  let c0_i32_27 : BitVec 32 := 0#32
  ![arg1.toNat, v59.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c1_i32_11 : BitVec 32 := 1#32
  let v28 : BitVec 32 := Scalar.addi v27 c1_i32_11
  let c2_i32_12 : BitVec 32 := 2#32
  let v29 : BitVec 32 := Scalar.divsi arg3 c2_i32_12
  let c0_i32_13 : BitVec 32 := 0#32
  let v30 : BitVec 1 := Scalar.cmpi .sgt arg3 c0_i32_13
  let v31 : BitVec 32 := Scalar.extui v30
  let c0_i32_14 : BitVec 32 := 0#32
  let v32 : BitVec 1 := Scalar.cmpi .slt arg3 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi arg3 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c2_i32_19 : BitVec 32 := 2#32
  let c0_i32_20 : BitVec 32 := 0#32
  let v46 : BitVec 1 := Scalar.cmpi .eq c2_i32_19 c0_i32_20
  let c1_i32_21 : BitVec 32 := 1#32
  let v47 : BitVec 32 := Scalar.select v46 c1_i32_21 c2_i32_19
  let v48 : BitVec 32 := Scalar.remsi arg3 v47
  let c0_i32_22 : BitVec 32 := 0#32
  let v49 : BitVec 1 := Scalar.cmpi .ne v48 c0_i32_22
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let v53 : BitVec 1 := Scalar.andi v52 v49
  let v54 : BitVec 32 := Scalar.addi v48 v47
  let v55 : BitVec 32 := Scalar.select v53 v54 v48
  let c2_i32_25 : BitVec 32 := 2#32
  let v56 : BitVec 32 := Scalar.muli v55 c2_i32_25
  let c1_i32_26 : BitVec 32 := 1#32
  let v57 : BitVec 32 := Scalar.addi v56 c1_i32_26
  let c0_i32_27 : BitVec 32 := 0#32
  let c0_i32_28 : BitVec 32 := 0#32
  ![v16.toNat, c0_i32_27.toNat, v57.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Down1RefIdeal.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S2048x4096 : Shape := ⟨2, ![2048, 4096]⟩
abbrev S4x2048x2048 : Shape := ⟨3, ![4, 2048, 2048]⟩
abbrev S8192x2048 : Shape := ⟨2, ![8192, 2048]⟩
abbrev S8x2x512x2048 : Shape := ⟨4, ![8, 2, 512, 2048]⟩
abbrev S8x1x512x2048 : Shape := ⟨4, ![8, 1, 512, 2048]⟩
abbrev S8x512x2048 : Shape := ⟨3, ![8, 512, 2048]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S2048x8192, .f32⟩
  | .hbm, ⟨4, _⟩ => ⟨S2048x8x2x512, .f32⟩
  | .hbm, ⟨5, _⟩ => ⟨S2048x8x1x512, .f32⟩
  | .hbm, ⟨6, _⟩ => ⟨S2048x8x512, .f32⟩
  | .hbm, ⟨7, _⟩ => ⟨S2048x4096, .f32⟩
  | .hbm, ⟨8, _⟩ => ⟨S4x2048x2048, .bf16⟩
  | .hbm, ⟨9, _⟩ => ⟨S8192x2048, .bf16⟩
  | .hbm, ⟨10, _⟩ => ⟨S8192x2048, .f32⟩
  | .hbm, ⟨11, _⟩ => ⟨S8x2x512x2048, .f32⟩
  | .hbm, ⟨12, _⟩ => ⟨S8x1x512x2048, .f32⟩
  | .hbm, ⟨13, _⟩ => ⟨S8x512x2048, .f32⟩
  | .hbm, ⟨14, _⟩ => ⟨S4096x2048, .f32⟩
  | .hbm, ⟨15, _⟩ => ⟨S2048x2048, .f32⟩
  | .hbm, ⟨16, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== AIn.lean ====
abbrev S2048x2048 : Shape := ⟨2, ![2048, 2048]⟩
abbrev S4x1x2048x1024 : Shape := ⟨4, ![4, 1, 2048, 1024]⟩
abbrev S2048x4096 : Shape := ⟨2, ![2048, 4096]⟩
abbrev S1x1x2048x512 : Shape := ⟨4, ![1, 1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x1024, .bf16⟩
  | .hbm, ⟨2, _⟩ => ⟨S2048x4096, .f32⟩
  | .local _ .vmem, ⟨0, _⟩ => ⟨S2048x2048, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== AInRefIdeal.lean ====
abbrev S2048x2048 : Shape := ⟨2, ![2048, 2048]⟩
abbrev S4x1x2048x1024 : Shape := ⟨4, ![4, 1, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x2048x1024, .bf16⟩
  | .hbm, ⟨2, _⟩ => ⟨S2048x2048, .f32⟩
  | .hbm, ⟨3, _⟩ => ⟨S4x2048x1024, .bf16⟩
  | .hbm, ⟨4, _⟩ => ⟨S2048x4x1024, .bf16⟩
  | .hbm, ⟨5, _⟩ => ⟨S2048x4096, .bf16⟩
  | .hbm, ⟨6, _⟩ => ⟨S2048x4096, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MixOut.lean ====
abbrev S2048x2048 : Shape := ⟨2, ![2048, 2048]⟩
abbrev S4x1x512x2048 : Shape := ⟨4, ![4, 1, 512, 2048]⟩
abbrev S4x1x512x512 : Shape := ⟨4, ![4, 1, 512, 512]⟩
abbrev S2048x512 : Shape := ⟨2, ![2048, 512]⟩
abbrev S4x512x512 : Shape := ⟨3, ![4, 512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S4x1x512x512, .bf16⟩
  | .local _ .vmem, ⟨2, _⟩ => ⟨S4x1x512x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MixOutRefIdeal.lean ====
abbrev S2048x2048 : Shape := ⟨2, ![2048, 2048]⟩
abbrev S4x1x512x2048 : Shape := ⟨4, ![4, 1, 512, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .f32⟩
  | .hbm, ⟨3, _⟩ => ⟨S2048x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BIn.lean ====
abbrev S2048x2048 : Shape := ⟨2, ![2048, 2048]⟩
abbrev S4x1x512x2048 : Shape := ⟨4, ![4, 1, 512, 2048]⟩
abbrev S4x1x512x512 : Shape := ⟨4, ![4, 1, 512, 512]⟩
abbrev S2048x512 : Shape := ⟨2, ![2048, 512]⟩
abbrev S4x512x512 : Shape := ⟨3, ![4, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .f32⟩
  | .local _ .vmem, ⟨0, _⟩ => ⟨S2048x2048, .bf16⟩
  | .local _ .vmem, ⟨1, _⟩ => ⟨S4x1x512x512, .bf16⟩
  | .local _ .vmem, ⟨2, _⟩ => ⟨S4x1x512x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BInRefIdeal.lean ====
abbrev S2048x2048 : Shape := ⟨2, ![2048, 2048]⟩
abbrev S4x1x512x2048 : Shape := ⟨4, ![4, 1, 512, 2048]⟩
abbrev S4x512x2048 : Shape := ⟨3, ![4, 512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1x512x2048, .bf16⟩
  | .hbm, ⟨2, _⟩ => ⟨S2048x2048, .f32⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Grp.lean ====
abbrev S2048x2048 : Shape := ⟨2, ![2048, 2048]⟩
abbrev S4x4x128x512 : Shape := ⟨4, ![4, 4, 128, 512]⟩
abbrev S1x2048 : Shape := ⟨2, ![1, 2048]⟩
abbrev S2048x512 : Shape := ⟨2, ![2048, 512]⟩
abbrev S4x1x128x512 : Shape := ⟨4, ![4, 1, 128, 512]⟩
abbrev S1x512 : Shape := ⟨2, ![1, 512]⟩
abbrev S4x128x512 : Shape := ⟨3, ![4, 128, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S4x4x128x512, .bf16⟩
  | .hbm, ⟨2, _⟩ => ⟨S1x2048, .f32⟩
  | .hbm, ⟨3, _⟩ => ⟨S2048x2048, .f32⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== GrpRefIdeal.lean ====
abbrev S2048x2048 : Shape := ⟨2, ![2048, 2048]⟩
abbrev S4x4x128x512 : Shape := ⟨4, ![4, 4, 128, 512]⟩
abbrev S1x2048 : Shape := ⟨2, ![1, 2048]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x4x128x512, .bf16⟩
  | .hbm, ⟨2, _⟩ => ⟨S1x2048, .f32⟩
  | .hbm, ⟨3, _⟩ => ⟨S2048x2048, .f32⟩
  | .hbm, ⟨4, _⟩ => ⟨S4x4x128x512, .bf16⟩
  | .hbm, ⟨5, _⟩ => ⟨S4x512x512, .bf16⟩
  | .hbm, ⟨6, _⟩ => ⟨S4x512x512, .f32⟩
  | .hbm, ⟨7, _⟩ => ⟨S2048x4x512, .f32⟩
  | .hbm, ⟨8, _⟩ => ⟨S4x512x2048, .f32⟩
  | .hbm, ⟨9, _⟩ => ⟨S2048x4x512, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== RmsFwd.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdamIn.lean ====
abbrev S1x2048x1024 : Shape := ⟨3, ![1, 2048, 1024]⟩
abbrev S4x1x2048x1024 : Shape := ⟨4, ![4, 1, 2048, 1024]⟩
abbrev S1x256x1024 : Shape := ⟨3, ![1, 256, 1024]⟩
abbrev S4x1x256x1024 : Shape := ⟨4, ![4, 1, 256, 1024]⟩
abbrev S1x1x256x1024 : Shape := ⟨4, ![1, 1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S4x1x2048x1024, .bf16⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S4x1x256x1024, .bf16⟩
  | .local _ .vmem, ⟨7, _⟩ => ⟨S4x1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1x2048x1024 : Shape := ⟨3, ![1, 2048, 1024]⟩
abbrev S4x1x2048x1024 : Shape := ⟨4, ![4, 1, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S4x1x2048x1024, .bf16⟩
  | .hbm, ⟨4, _⟩ => ⟨S4x1x2048x1024, .f32⟩
  | .hbm, ⟨5, _⟩ => ⟨S_, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S_, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S1x512x2048 : Shape := ⟨3, ![1, 512, 2048]⟩
abbrev S4x1x512x2048 : Shape := ⟨4, ![4, 1, 512, 2048]⟩
abbrev S1x256x2048 : Shape := ⟨3, ![1, 256, 2048]⟩
abbrev S4x1x256x2048 : Shape := ⟨4, ![4, 1, 256, 2048]⟩
abbrev S1x1x256x2048 : Shape := ⟨4, ![1, 1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x1x512x2048, .bf16⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S4x1x256x2048, .bf16⟩
  | .local _ .vmem, ⟨7, _⟩ => ⟨S4x1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S1x512x2048 : Shape := ⟨3, ![1, 512, 2048]⟩
abbrev S4x1x512x2048 : Shape := ⟨4, ![4, 1, 512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x1x512x2048, .bf16⟩
  | .hbm, ⟨4, _⟩ => ⟨S4x1x512x2048, .f32⟩
  | .hbm, ⟨5, _⟩ => ⟨S_, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S_, .f32⟩
  | .hbm, ⟨11, _⟩ => ⟨S1x512x2048, .f32⟩
  | .hbm, ⟨12, _⟩ => ⟨S1x512x2048, .f32⟩
  | .hbm, ⟨13, _⟩ => ⟨S1x512x2048, .f32⟩
  | .hbm, ⟨14, _⟩ => ⟨S_, .f32⟩
  | .hbm, ⟨15, _⟩ => ⟨S1x512x2048, .f32⟩
  | .hbm, ⟨16, _⟩ => ⟨S1x512x2048, .f32⟩
  | .hbm, ⟨17, _⟩ => ⟨S1x512x2048, .f32⟩
  | .hbm, ⟨18, _⟩ => ⟨S_, .f32⟩
  | .hbm, ⟨19, _⟩ => ⟨S1x512x2048, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S_, .f32⟩
  | .hbm, ⟨26, _⟩ => ⟨S1x512x2048, .f32⟩
  | .hbm, ⟨27, _⟩ => ⟨S1x512x2048, .f32⟩
  | .hbm, ⟨28, _⟩ => ⟨S1x512x2048, .f32⟩
  | .hbm, ⟨29, _⟩ => ⟨S_, .f32⟩
  | .hbm, ⟨30, _⟩ => ⟨S1x512x2048, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGrp.lean ====
abbrev S4x128x512 : Shape := ⟨3, ![4, 128, 512]⟩
abbrev S4x4x128x512 : Shape := ⟨4, ![4, 4, 128, 512]⟩
abbrev S1x128x512 : Shape := ⟨3, ![1, 128, 512]⟩
abbrev S4x1x128x512 : Shape := ⟨4, ![4, 1, 128, 512]⟩
abbrev S1x1x128x512 : Shape := ⟨4, ![1, 1, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x4x128x512, .bf16⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S4x1x128x512, .bf16⟩
  | .local _ .vmem, ⟨7, _⟩ => ⟨S4x1x128x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGrpRefIdeal.lean ====
abbrev S4x128x512 : Shape := ⟨3, ![4, 128, 512]⟩
abbrev S4x4x128x512 : Shape := ⟨4, ![4, 4, 128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x4x128x512, .bf16⟩
  | .hbm, ⟨4, _⟩ => ⟨S4x4x128x512, .f32⟩
  | .hbm, ⟨5, _⟩ => ⟨S_, .f32⟩
  | .hbm, ⟨6, _⟩ => ⟨S4x128x512, .f32⟩
  | .hbm, ⟨7, _⟩ => ⟨S_, .f32⟩
  | .hbm, ⟨8, _⟩ => ⟨S4x128x512, .f32⟩
  | .hbm, ⟨9, _⟩ => ⟨S4x128x512, .f32⟩
  | .hbm, ⟨10, _⟩ => ⟨S_, .f32⟩
  | .hbm, ⟨11, _⟩ => ⟨S4x128x512, .f32⟩
  | .hbm, ⟨12, _⟩ => ⟨S4x128x512, .f32⟩
  | .hbm, ⟨13, _⟩ => ⟨S4x128x512, .f32⟩
  | .hbm, ⟨14, _⟩ => ⟨S_, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S_, .f32⟩
  | .hbm, ⟨19, _⟩ => ⟨S4x128x512, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S_, .f32⟩
  | .hbm, ⟨26, _⟩ => ⟨S4x128x512, .f32⟩
  | .hbm, ⟨27, _⟩ => ⟨S4x128x512, .f32⟩
  | .hbm, ⟨28, _⟩ => ⟨S4x128x512, .f32⟩
  | .hbm, ⟨29, _⟩ => ⟨S_, .f32⟩
  | .hbm, ⟨30, _⟩ => ⟨S4x128x512, .f32⟩
  | .hbm, ⟨31, _⟩ => ⟨S4x128x512, .f32⟩
  | .hbm, ⟨32, _⟩ => ⟨S4x128x512, .f32⟩
  | .hbm, ⟨33, _⟩ => ⟨S_, .f32⟩
  | .hbm, ⟨34, _⟩ => ⟨S4x128x512, .f32⟩
  | .hbm, ⟨35, _⟩ => ⟨S4x128x512, .f32⟩
  | .hbm, ⟨36, _⟩ => ⟨S4x128x512, .f32⟩
  | .hbm, ⟨37, _⟩ => ⟨S_, .f32⟩
  | .hbm, ⟨38, _⟩ => ⟨S4x128x512, .f32⟩
  | .hbm, ⟨39, _⟩ => ⟨S4x128x512, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMlp.lean ====
abbrev S2x2048x2048 : Shape := ⟨3, ![2, 2048, 2048]⟩
abbrev S4x1x2048x2048 : Shape := ⟨4, ![4, 1, 2048, 2048]⟩
abbrev S1x256x2048 : Shape := ⟨3, ![1, 256, 2048]⟩
abbrev S4x1x256x2048 : Shape := ⟨4, ![4, 1, 256, 2048]⟩
abbrev S1x1x256x2048 : Shape := ⟨4, ![1, 1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S4x1x256x2048, .bf16⟩
  | .local _ .vmem, ⟨7, _⟩ => ⟨S4x1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMlpRefIdeal.lean ====
abbrev S2x2048x2048 : Shape := ⟨3, ![2, 2048, 2048]⟩
abbrev S4x1x2048x2048 : Shape := ⟨4, ![4, 1, 2048, 2048]⟩
abbrev S1x2048x2048 : Shape := ⟨3, ![1, 2048, 2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S4x1x2048x2048, .f32⟩
  | .hbm, ⟨12, _⟩ => ⟨S_, .f32⟩
  | .hbm, ⟨13, _⟩ => ⟨S1x2048x2048, .f32⟩
  | .hbm, ⟨14, _⟩ => ⟨S_, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S_, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S_, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S_, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048x2048, .f32⟩
  | .hbm, ⟨46, _⟩ => ⟨S1x2048x2048, .f32⟩
  | .hbm, ⟨47, _⟩ => ⟨S1x2048x2048, .f32⟩
  | .hbm, ⟨48, _⟩ => ⟨S2x2048x2048, .f32⟩
  | .hbm, ⟨49, _⟩ => ⟨S1x2048x2048, .f32⟩
  | .hbm, ⟨50, _⟩ => ⟨S2x2048x2048, .f32⟩
  | .hbm, ⟨51, _⟩ => ⟨S1x2048x2048, .f32⟩
  | .hbm, ⟨52, _⟩ => ⟨S2x2048x2048, .f32⟩
  | .hbm, ⟨53, _⟩ => ⟨S1x2048x2048, .f32⟩
  | .hbm, ⟨54, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamMlp1.lean ====
abbrev S2x2048x2048 : Shape := ⟨3, ![2, 2048, 2048]⟩
abbrev S4x1x2048x2048 : Shape := ⟨4, ![4, 1, 2048, 2048]⟩
abbrev S1x256x2048 : Shape := ⟨3, ![1, 256, 2048]⟩
abbrev S4x1x256x2048 : Shape := ⟨4, ![4, 1, 256, 2048]⟩
abbrev S1x1x256x2048 : Shape := ⟨4, ![1, 1, 256, 2048]⟩
abbrev S256x2048 : Shape := ⟨2, ![256, 2048]⟩
abbrev S1x2048x2048 : Shape := ⟨3, ![1, 2048, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S4x1x256x2048, .bf16⟩
  | .local _ .vmem, ⟨7, _⟩ => ⟨S4x1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMlp1RefIdeal.lean ====
abbrev S2x2048x2048 : Shape := ⟨3, ![2, 2048, 2048]⟩
abbrev S4x1x2048x2048 : Shape := ⟨4, ![4, 1, 2048, 2048]⟩
abbrev S1x2048x2048 : Shape := ⟨3, ![1, 2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S4x1x2048x2048, .f32⟩
  | .hbm, ⟨8, _⟩ => ⟨S_, .f32⟩
  | .hbm, ⟨9, _⟩ => ⟨S1x2048x2048, .f32⟩
  | .hbm, ⟨10, _⟩ => ⟨S_, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S_, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S_, .f32⟩
  | .hbm, ⟨41, _⟩ => ⟨S1x2048x2048, .f32⟩
  | .hbm, ⟨42, _⟩ => ⟨S1x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamPack.lean ====
abbrev S1x2048 : Shape := ⟨2, ![1, 2048]⟩
abbrev S1x8x128x128 : Shape := ⟨4, ![1, 8, 128, 128]⟩
abbrev S1x8x128 : Shape := ⟨3, ![1, 8, 128]⟩
abbrev S1x512 : Shape := ⟨2, ![1, 512]⟩
abbrev S2x2048 : Shape := ⟨2, ![2, 2048]⟩
abbrev S2048 : Shape := ⟨1, ![2048]⟩
abbrev S16x128 : Shape := ⟨2, ![16, 128]⟩
abbrev S131072 : Shape := ⟨1, ![131072]⟩
abbrev S1024x128 : Shape := ⟨2, ![1024, 128]⟩
abbrev S1024 : Shape := ⟨1, ![1024]⟩
abbrev S8x128 : Shape := ⟨2, ![8, 128]⟩
abbrev S512 : Shape := ⟨1, ![512]⟩
abbrev S_ : Shape := ⟨0, ![]⟩
abbrev S4096 : Shape := ⟨1, ![4096]⟩
abbrev S32x128 : Shape := ⟨2, ![32, 128]⟩
abbrev S1152x128 : Shape := ⟨2, ![1152, 128]⟩

abbrev nBuf : Space → Nat
  | .hbm => 183
  | .vmem => 7
  | .smem => 0
  | _ => 0

abbrev hbmTy0_0 (i : Nat) : BufTy := match i % 128 with
  | 0 => ⟨S1x2048, .f32⟩
  | 1 => ⟨S1x2048, .f32⟩
  | 2 => ⟨S1x8x128x128, .f32⟩
  | 3 => ⟨S1x8x128, .f32⟩
  | 4 => ⟨S1x512, .f32⟩
  | 5 => ⟨S2x2048, .f32⟩
  | 6 => ⟨S2x2048, .f32⟩
  | 7 => ⟨S2048, .f32⟩
  | 8 => ⟨S1x2048, .f32⟩
  | 9 => ⟨S1x2048, .f32⟩
  | 10 => ⟨S1x8x128x128, .f32⟩
  | 11 => ⟨S1x8x128, .f32⟩
  | 12 => ⟨S1x512, .f32⟩
  | 13 => ⟨S2x2048, .f32⟩
  | 14 => ⟨S2x2048, .f32⟩
  | 15 => ⟨S2048, .f32⟩
  | 16 => ⟨S1x2048, .f32⟩
  | 17 => ⟨S1x2048, .f32⟩
  | 18 => ⟨S1x8x128x128, .f32⟩
  | 19 => ⟨S1x8x128, .f32⟩
  | 20 => ⟨S1x512, .f32⟩
  | 21 => ⟨S2x2048, .f32⟩
  | 22 => ⟨S2x2048, .f32⟩
  | 23 => ⟨S2048, .f32⟩
  | 24 => ⟨S1x2048, .f32⟩
  | 25 => ⟨S1x2048, .f32⟩
  | 26 => ⟨S1x8x128x128, .f32⟩
  | 27 => ⟨S1x8x128, .f32⟩
  | 28 => ⟨S1x512, .f32⟩
  | 29 => ⟨S2x2048, .f32⟩
  | 30 => ⟨S2x2048, .f32⟩
  | 31 => ⟨S2048, .f32⟩
  | 32 => ⟨S2048, .f32⟩
  | 33 => ⟨S16x128, .f32⟩
  | 34 => ⟨S2048, .f32⟩
  | 35 => ⟨S16x128, .f32⟩
  | 36 => ⟨S131072, .f32⟩
  | 37 => ⟨S1024x128, .f32⟩
  | 38 => ⟨S1024, .f32⟩
  | 39 => ⟨S8x128, .f32⟩
  | 40 => ⟨S512, .f32⟩
  | 41 => ⟨S_, .i32⟩
  | 42 => ⟨S_, .f32⟩
  | 43 => ⟨S1024, .f32⟩
  | 44 => ⟨S8x128, .f32⟩
  | 45 => ⟨S4096, .f32⟩
  | 46 => ⟨S32x128, .f32⟩
  | 47 => ⟨S4096, .f32⟩
  | 48 => ⟨S32x128, .f32⟩
  | 49 => ⟨S16x128, .f32⟩
  | 50 => ⟨S1152x128, .f32⟩
  | 51 => ⟨S2048, .f32⟩
  | 52 => ⟨S16x128, .f32⟩
  | 53 => ⟨S2048, .f32⟩
  | 54 => ⟨S16x128, .f32⟩
  | 55 => ⟨S131072, .f32⟩
  | 56 => ⟨S1024x128, .f32⟩
  | 57 => ⟨S1024, .f32⟩
  | 58 => ⟨S8x128, .f32⟩
  | 59 => ⟨S512, .f32⟩
  | 60 => ⟨S_, .i32⟩
  | 61 => ⟨S_, .f32⟩
  | 62 => ⟨S1024, .f32⟩
  | 63 => ⟨S8x128, .f32⟩
  | 64 => ⟨S4096, .f32⟩
  | 65 => ⟨S32x128, .f32⟩
  | 66 => ⟨S4096, .f32⟩
  | 67 => ⟨S32x128, .f32⟩
  | 68 => ⟨S16x128, .f32⟩
  | 69 => ⟨S1152x128, .f32⟩
  | 70 => ⟨S2048, .f32⟩
  | 71 => ⟨S16x128, .f32⟩
  | 72 => ⟨S2048, .f32⟩
  | 73 => ⟨S16x128, .f32⟩
  | 74 => ⟨S131072, .f32⟩
  | 75 => ⟨S1024x128, .f32⟩
  | 76 => ⟨S1024, .f32⟩
  | 77 => ⟨S8x128, .f32⟩
  | 78 => ⟨S512, .f32⟩
  | 79 => ⟨S_, .i32⟩
  | 80 => ⟨S_, .f32⟩
  | 81 => ⟨S1024, .f32⟩
  | 82 => ⟨S8x128, .f32⟩
  | 83 => ⟨S4096, .f32⟩
  | 84 => ⟨S32x128, .f32⟩
  | 85 => ⟨S4096, .f32⟩
  | 86 => ⟨S32x128, .f32⟩
  | 87 => ⟨S16x128, .f32⟩
  | 88 => ⟨S1152x128, .f32⟩
  | 89 => ⟨S2048, .f32⟩
  | 90 => ⟨S16x128, .f32⟩
  | 91 => ⟨S2048, .f32⟩
  | 92 => ⟨S16x128, .f32⟩
  | 93 => ⟨S131072, .f32⟩
  | 94 => ⟨S1024x128, .f32⟩
  | 95 => ⟨S1024, .f32⟩
  | 96 => ⟨S8x128, .f32⟩
  | 97 => ⟨S512, .f32⟩
  | 98 => ⟨S_, .i32⟩
  | 99 => ⟨S_, .f32⟩
  | 100 => ⟨S1024, .f32⟩
  | 101 => ⟨S8x128, .f32⟩
  | 102 => ⟨S4096, .f32⟩
  | 103 => ⟨S32x128, .f32⟩
  | 104 => ⟨S4096, .f32⟩
  | 105 => ⟨S32x128, .f32⟩
  | 106 => ⟨S16x128, .f32⟩
  | 107 => ⟨S1152x128, .f32⟩
  | 108 => ⟨S1152x128, .f32⟩
  | 109 => ⟨S1152x128, .f32⟩
  | 110 => ⟨S1152x128, .f32⟩
  | 111 => ⟨S16x128, .f32⟩
  | 112 => ⟨S2048, .f32⟩
  | 113 => ⟨S1x2048, .f32⟩
  | 114 => ⟨S16x128, .f32⟩
  | 115 => ⟨S2048, .f32⟩
  | 116 => ⟨S1x2048, .f32⟩
  | 117 => ⟨S1024x128, .f32⟩
  | 118 => ⟨S131072, .f32⟩
  | 119 => ⟨S1x8x128x128, .f32⟩
  | 120 => ⟨S8x128, .f32⟩
  | 121 => ⟨S1024, .f32⟩
  | 122 => ⟨S1x8x128, .f32⟩
  | 123 => ⟨S8x128, .f32⟩
  | 124 => ⟨S1024, .f32⟩
  | 125 => ⟨S512, .f32⟩
  | 126 => ⟨S1x512, .f32⟩
  | 127 => ⟨S32x128, .f32⟩
  | _ => ⟨S1x2048, .f32⟩

abbrev hbmTy0_1 (i : Nat) : BufTy := match i % 128 with
  | 0 => ⟨S4096, .f32⟩
  | 1 => ⟨S2x2048, .f32⟩
  | 2 => ⟨S32x128, .f32⟩
  | 3 => ⟨S4096, .f32⟩
  | 4 => ⟨S2x2048, .f32⟩
  | 5 => ⟨S16x128, .f32⟩
  | 6 => ⟨S2048, .f32⟩
  | 7 => ⟨S16x128, .f32⟩
  | 8 => ⟨S2048, .f32⟩
  | 9 => ⟨S1x2048, .f32⟩
  | 10 => ⟨S16x128, .f32⟩
  | 11 => ⟨S2048, .f32⟩
  | 12 => ⟨S1x2048, .f32⟩
  | 13 => ⟨S1024x128, .f32⟩
  | 14 => ⟨S131072, .f32⟩
  | 15 => ⟨S1x8x128x128, .f32⟩
  | 16 => ⟨S8x128, .f32⟩
  | 17 => ⟨S1024, .f32⟩
  | 18 => ⟨S1x8x128, .f32⟩
  | 19 => ⟨S8x128, .f32⟩
  | 20 => ⟨S1024, .f32⟩
  | 21 => ⟨S512, .f32⟩
  | 22 => ⟨S1x512, .f32⟩
  | 23 => ⟨S32x128, .f32⟩
  | 24 => ⟨S4096, .f32⟩
  | 25 => ⟨S2x2048, .f32⟩
  | 26 => ⟨S32x128, .f32⟩
  | 27 => ⟨S4096, .f32⟩
  | 28 => ⟨S2x2048, .f32⟩
  | 29 => ⟨S16x128, .f32⟩
  | 30 => ⟨S2048, .f32⟩
  | 31 => ⟨S16x128, .f32⟩
  | 32 => ⟨S2048, .f32⟩
  | 33 => ⟨S1x2048, .f32⟩
  | 34 => ⟨S16x128, .f32⟩
  | 35 => ⟨S2048, .f32⟩
  | 36 => ⟨S1x2048, .f32⟩
  | 37 => ⟨S1024x128, .f32⟩
  | 38 => ⟨S131072, .f32⟩
  | 39 => ⟨S1x8x128x128, .f32⟩
  | 40 => ⟨S8x128, .f32⟩
  | 41 => ⟨S1024, .f32⟩
  | 42 => ⟨S1x8x128, .f32⟩
  | 43 => ⟨S8x128, .f32⟩
  | 44 => ⟨S1024, .f32⟩
  | 45 => ⟨S512, .f32⟩
  | 46 => ⟨S1x512, .f32⟩
  | 47 => ⟨S32x128, .f32⟩
  | 48 => ⟨S4096, .f32⟩
  | 49 => ⟨S2x2048, .f32⟩
  | 50 => ⟨S32x128, .f32⟩
  | 51 => ⟨S4096, .f32⟩
  | 52 => ⟨S2x2048, .f32⟩
  | 53 => ⟨S16x128, .f32⟩
  | 54 => ⟨S2048, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | .local _ .vmem, ⟨0, _⟩ => ⟨S1152x128, .f32⟩
  | .local _ .vmem, ⟨1, _⟩ => ⟨S1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c : Ref sig .tc := ⟨.hbm, 41, rfl⟩
abbrev main_call0_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_0 : Ref sig .tc := ⟨.hbm, 60, rfl⟩
abbrev main_call1_v0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_1 : Ref sig .tc := ⟨.hbm, 79, rfl⟩
abbrev main_call2_v0 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_2 : Ref sig .tc := ⟨.hbm, 98, rfl⟩
abbrev main_call3_v0 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68_0 : Ref sig .tc := ⟨.hbm, 108, rfl⟩
abbrev main_v68_1 : Ref sig .tc := ⟨.hbm, 109, rfl⟩
abbrev main_v68_2 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPackRefIdeal.lean ====
abbrev S1x2048 : Shape := ⟨2, ![1, 2048]⟩
abbrev S1x8x128x128 : Shape := ⟨4, ![1, 8, 128, 128]⟩
abbrev S1x8x128 : Shape := ⟨3, ![1, 8, 128]⟩
abbrev S1x512 : Shape := ⟨2, ![1, 512]⟩
abbrev S2x2048 : Shape := ⟨2, ![2, 2048]⟩
abbrev S2048 : Shape := ⟨1, ![2048]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1x2048, .f32⟩
  | 1 => ⟨S1x2048, .f32⟩
  | 2 => ⟨S1x8x128x128, .f32⟩
  | 3 => ⟨S1x8x128, .f32⟩
  | 4 => ⟨S1x512, .f32⟩
  | 5 => ⟨S2x2048, .f32⟩
  | 6 => ⟨S2x2048, .f32⟩
  | 7 => ⟨S2048, .f32⟩
  | 8 => ⟨S1x2048, .f32⟩
  | 9 => ⟨S1x2048, .f32⟩
  | 10 => ⟨S1x8x128x128, .f32⟩
  | 11 => ⟨S1x8x128, .f32⟩
  | 12 => ⟨S1x512, .f32⟩
  | 13 => ⟨S2x2048, .f32⟩
  | 14 => ⟨S2x2048, .f32⟩
  | 15 => ⟨S2048, .f32⟩
  | 16 => ⟨S1x2048, .f32⟩
  | 17 => ⟨S1x2048, .f32⟩
  | 18 => ⟨S1x8x128x128, .f32⟩
  | 19 => ⟨S1x8x128, .f32⟩
  | 20 => ⟨S1x512, .f32⟩
  | 21 => ⟨S2x2048, .f32⟩
  | 22 => ⟨S2x2048, .f32⟩
  | 23 => ⟨S2048, .f32⟩
  | 24 => ⟨S1x2048, .f32⟩
  | 25 => ⟨S1x2048, .f32⟩
  | 26 => ⟨S1x8x128x128, .f32⟩
  | 27 => ⟨S1x8x128, .f32⟩
  | 28 => ⟨S1x512, .f32⟩
  | 29 => ⟨S2x2048, .f32⟩
  | 30 => ⟨S2x2048, .f32⟩
  | 31 => ⟨S2048, .f32⟩
  | 32 => ⟨S_, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S1x8x128x128, .f32⟩
  | 100 => ⟨S1x8x128x128, .f32⟩
  | 101 => ⟨S_, .f32⟩
  | 102 => ⟨S1x8x128x128, .f32⟩
  | 103 => ⟨S1x8x128x128, .f32⟩
  | 104 => ⟨S1x8x128x128, .f32⟩
  | 105 => ⟨S_, .f32⟩
  | 106 => ⟨S1x8x128x128, .f32⟩
  | 107 => ⟨S1x8x128x128, .f32⟩
  | 108 => ⟨S1x8x128x128, .f32⟩
  | 109 => ⟨S_, .f32⟩
  | 110 => ⟨S1x8x128x128, .f32⟩
  | 111 => ⟨S1x8x128x128, .f32⟩
  | 112 => ⟨S1x8x128x128, .f32⟩
  | 113 => ⟨S_, .f32⟩
  | 114 => ⟨S1x8x128x128, .f32⟩
  | 115 => ⟨S1x8x128x128, .f32⟩
  | 116 => ⟨S_, .f32⟩
  | 117 => ⟨S1x8x128x128, .f32⟩
  | 118 => ⟨S1x8x128x128, .f32⟩
  | 119 => ⟨S1x8x128x128, .f32⟩
  | 120 => ⟨S_, .f32⟩
  | 121 => ⟨S1x8x128x128, .f32⟩
  | 122 => ⟨S1x8x128x128, .f32⟩
  | 123 => ⟨S1x8x128x128, .f32⟩
  | 124 => ⟨S_, .f32⟩
  | 125 => ⟨S1x8x128x128, .f32⟩
  | 126 => ⟨S1x8x128x128, .f32⟩
  | 127 => ⟨S1x8x128x128, .f32⟩
  | _ => ⟨S1x2048, .f32⟩

abbrev hbmTy0_1 (i : Nat) : BufTy := match i % 128 with
  | 0 => ⟨S_, .f32⟩
  | 1 => ⟨S1x8x128x128, .f32⟩
  | 2 => ⟨S1x8x128x128, .f32⟩
  | 3 => ⟨S_, .f32⟩
  | 4 => ⟨S1x8x128, .f32⟩
  | 5 => ⟨S1x8x128, .f32⟩
  | 6 => ⟨S_, .f32⟩
  | 7 => ⟨S1x8x128, .f32⟩
  | 8 => ⟨S1x8x128, .f32⟩
  | 9 => ⟨S1x8x128, .f32⟩
  | 10 => ⟨S_, .f32⟩
  | 11 => ⟨S1x8x128, .f32⟩
  | 12 => ⟨S1x8x128, .f32⟩
  | 13 => ⟨S1x8x128, .f32⟩
  | 14 => ⟨S_, .f32⟩
  | 15 => ⟨S1x8x128, .f32⟩
  | 16 => ⟨S1x8x128, .f32⟩
  | 17 => ⟨S1x8x128, .f32⟩
  | 18 => ⟨S_, .f32⟩
  | 19 => ⟨S1x8x128, .f32⟩
  | 20 => ⟨S1x8x128, .f32⟩
  | 21 => ⟨S_, .f32⟩
  | 22 => ⟨S1x8x128, .f32⟩
  | 23 => ⟨S1x8x128, .f32⟩
  | 24 => ⟨S1x8x128, .f32⟩
  | 25 => ⟨S_, .f32⟩
  | 26 => ⟨S1x8x128, .f32⟩
  | 27 => ⟨S1x8x128, .f32⟩
  | 28 => ⟨S1x8x128, .f32⟩
  | 29 => ⟨S_, .f32⟩
  | 30 => ⟨S1x8x128, .f32⟩
  | 31 => ⟨S1x8x128, .f32⟩
  | 32 => ⟨S1x8x128, .f32⟩
  | 33 => ⟨S_, .f32⟩
  | 34 => ⟨S1x8x128, .f32⟩
  | 35 => ⟨S1x8x128, .f32⟩
  | 36 => ⟨S_, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S_, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S2x2048, .f32⟩
  | 84 => ⟨S_, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S2x2048, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S1x2048, .f32⟩

abbrev hbmTy0_2 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S_, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== SumUnpack.lean ====
abbrev S8x1160x128 : Shape := ⟨3, ![8, 1160, 128]⟩
abbrev S1160x128 : Shape := ⟨2, ![1160, 128]⟩
abbrev S1x1160x128 : Shape := ⟨3, ![1, 1160, 128]⟩
abbrev S16x128 : Shape := ⟨2, ![16, 128]⟩
abbrev S2048 : Shape := ⟨1, ![2048]⟩
abbrev S1x2048 : Shape := ⟨2, ![1, 2048]⟩
abbrev S1024x128 : Shape := ⟨2, ![1024, 128]⟩
abbrev S131072 : Shape := ⟨1, ![131072]⟩
abbrev S1x8x128x128 : Shape := ⟨4, ![1, 8, 128, 128]⟩
abbrev S8x128 : Shape := ⟨2, ![8, 128]⟩
abbrev S1024 : Shape := ⟨1, ![1024]⟩
abbrev S1x8x128 : Shape := ⟨3, ![1, 8, 128]⟩
abbrev S32x128 : Shape := ⟨2, ![32, 128]⟩
abbrev S4096 : Shape := ⟨1, ![4096]⟩
abbrev S2x2048 : Shape := ⟨2, ![2, 2048]⟩

abbrev nBuf : Space → Nat
  | .hbm => 25
  | .vmem => 2
  | .smem => 0
  | _ => 0

abbrev bufTy : (tb : Table) → Fin (tcTables nBuf tb) → BufTy
  | .hbm, ⟨0, _⟩ => ⟨S8x1160x128, .f32⟩
  | .hbm, ⟨1, _⟩ => ⟨S1160x128, .f32⟩
  | .hbm, ⟨2, _⟩ => ⟨S16x128, .f32⟩
  | .hbm, ⟨3, _⟩ => ⟨S2048, .f32⟩
  | .hbm, ⟨4, _⟩ => ⟨S1x2048, .f32⟩
  | .hbm, ⟨5, _⟩ => ⟨S16x128, .f32⟩
  | .hbm, ⟨6, _⟩ => ⟨S2048, .f32⟩
  | .hbm, ⟨7, _⟩ => ⟨S1x2048, .f32⟩
  | .hbm, ⟨8, _⟩ => ⟨S1024x128, .f32⟩
  | .hbm, ⟨9, _⟩ => ⟨S131072, .f32⟩
  | .hbm, ⟨10, _⟩ => ⟨S1x8x128x128, .f32⟩
  | .hbm, ⟨11, _⟩ => ⟨S8x128, .f32⟩
  | .hbm, ⟨12, _⟩ => ⟨S1024, .f32⟩
  | .hbm, ⟨13, _⟩ => ⟨S1x8x128, .f32⟩
  | .hbm, ⟨14, _⟩ => ⟨S16x128, .f32⟩
  | .hbm, ⟨15, _⟩ => ⟨S2048, .f32⟩
  | .hbm, ⟨16, _⟩ => ⟨S1x2048, .f32⟩
  | .hbm, ⟨17, _⟩ => ⟨S32x128, .f32⟩
  | .hbm, ⟨18, _⟩ => ⟨S4096, .f32⟩
  | .hbm, ⟨19, _⟩ => ⟨S2x2048, .f32⟩
  | .hbm, ⟨20, _⟩ => ⟨S32x128, .f32⟩
  | .hbm, ⟨21, _⟩ => ⟨S4096, .f32⟩
  | .hbm, ⟨22, _⟩ => ⟨S2x2048, .f32⟩
  | .hbm, ⟨23, _⟩ => ⟨S16x128, .f32⟩
  | .hbm, ⟨24, _⟩ => ⟨S2048, .f32⟩
  | .local _ .vmem, ⟨0, _⟩ => ⟨S8x1160x128, .f32⟩
  | .local _ .vmem, ⟨1, _⟩ => ⟨S1160x128, .f32⟩
  | _, _ => ⟨S8x1160x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumUnpackRefIdeal.lean ====
abbrev S8x1160x128 : Shape := ⟨3, ![8, 1160, 128]⟩
abbrev S8x16x128 : Shape := ⟨3, ![8, 16, 128]⟩
abbrev S8x1x2048 : Shape := ⟨3, ![8, 1, 2048]⟩
abbrev S_ : Shape := ⟨0, ![]⟩
abbrev S1x2048 : Shape := ⟨2, ![1, 2048]⟩
abbrev S8x1024x128 : Shape := ⟨3, ![8, 1024, 128]⟩
abbrev S8x1x8x128x128 : Shape := ⟨5, ![8, 1, 8, 128, 128]⟩
abbrev S1x8x128x128 : Shape := ⟨4, ![1, 8, 128, 128]⟩
abbrev S8x8x128 : Shape := ⟨3, ![8, 8, 128]⟩
abbrev S8x1x8x128 : Shape := ⟨4, ![8, 1, 8, 128]⟩
abbrev S1x8x128 : Shape := ⟨3, ![1, 8, 128]⟩
abbrev S8x32x128 : Shape := ⟨3, ![8, 32, 128]⟩
abbrev S8x2x2048 : Shape := ⟨3, ![8, 2, 2048]⟩
abbrev S2x2048 : Shape := ⟨2, ![2, 2048]⟩
abbrev S8x2048 : Shape := ⟨2, ![8, 2048]⟩
abbrev S2048 : Shape := ⟨1, ![2048]⟩

abbrev nBuf : Space → Nat
  | .hbm => 33
  | .vmem => 0
  | .smem => 0
  | _ => 0

abbrev bufTy : (tb : Table) → Fin (tcTables nBuf tb) → BufTy
  | .hbm, ⟨0, _⟩ => ⟨S8x1160x128, .f32⟩
  | .hbm, ⟨1, _⟩ => ⟨S8x16x128, .f32⟩
  | .hbm, ⟨2, _⟩ => ⟨S8x1x2048, .f32⟩
  | .hbm, ⟨3, _⟩ => ⟨S_, .f32⟩
  | .hbm, ⟨4, _⟩ => ⟨S1x2048, .f32⟩
  | .hbm, ⟨5, _⟩ => ⟨S8x16x128, .f32⟩
  | .hbm, ⟨6, _⟩ => ⟨S8x1x2048, .f32⟩
  | .hbm, ⟨7, _⟩ => ⟨S_, .f32⟩
  | .hbm, ⟨8, _⟩ => ⟨S1x2048, .f32⟩
  | .hbm, ⟨9, _⟩ => ⟨S8x1024x128, .f32⟩
  | .hbm, ⟨10, _⟩ => ⟨S8x1x8x128x128, .f32⟩
  | .hbm, ⟨11, _⟩ => ⟨S_, .f32⟩
  | .hbm, ⟨12, _⟩ => ⟨S1x8x128x128, .f32⟩
  | .hbm, ⟨13, _⟩ => ⟨S8x8x128, .f32⟩
  | .hbm, ⟨14, _⟩ => ⟨S8x1x8x128, .f32⟩
  | .hbm, ⟨15, _⟩ => ⟨S_, .f32⟩
  | .hbm, ⟨16, _⟩ => ⟨S1x8x128, .f32⟩
  | .hbm, ⟨17, _⟩ => ⟨S8x16x128, .f32⟩
  | .hbm, ⟨18, _⟩ => ⟨S8x1x2048, .f32⟩
  | .hbm, ⟨19, _⟩ => ⟨S_, .f32⟩
  | .hbm, ⟨20, _⟩ => ⟨S1x2048, .f32⟩
  | .hbm, ⟨21, _⟩ => ⟨S8x32x128, .f32⟩
  | .hbm, ⟨22, _⟩ => ⟨S8x2x2048, .f32⟩
  | .hbm, ⟨23, _⟩ => ⟨S_, .f32⟩
  | .hbm, ⟨24, _⟩ => ⟨S2x2048, .f32⟩
  | .hbm, ⟨25, _⟩ => ⟨S8x32x128, .f32⟩
  | .hbm, ⟨26, _⟩ => ⟨S8x2x2048, .f32⟩
  | .hbm, ⟨27, _⟩ => ⟨S_, .f32⟩
  | .hbm, ⟨28, _⟩ => ⟨S2x2048, .f32⟩
  | .hbm, ⟨29, _⟩ => ⟨S8x16x128, .f32⟩
  | .hbm, ⟨30, _⟩ => ⟨S8x2048, .f32⟩
  | .hbm, ⟨31, _⟩ => ⟨S_, .f32⟩
  | .hbm, ⟨32, _⟩ => ⟨S2048, .f32⟩
  | _, _ => ⟨S8x1160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== GateFwd.lean ====
abbrev S2048x4096 : Shape := ⟨2, ![2048, 4096]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 7
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdIdeal.lean ====
variable {F : FTy → Type} [FloatOps F] [Named F]
def κ : String → Option EReal := fun
  | "sqrt_half" => some (((Real.sqrt 2)⁻¹ : ℝ) : EReal)
  | _ => none
-- ==== GateFwdRefIdeal.lean ====
abbrev S2048x4096 : Shape := ⟨2, ![2048, 4096]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 68
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S_, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S16x128x8x256, .f32⟩
  | .hbm, ⟨45, _⟩ => ⟨S_, .f32⟩
  | .hbm, ⟨46, _⟩ => ⟨S128x128, .f32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S8x128x128, .f32⟩
  | .hbm, ⟨58, _⟩ => ⟨S8x128x128, .f32⟩
  | .hbm, ⟨59, _⟩ => ⟨S8x16x256x128, .f32⟩
  | .hbm, ⟨60, _⟩ => ⟨S16x128x8x256, .f32⟩
  | .hbm, ⟨61, _⟩ => ⟨S128x8, .f32⟩
  | .hbm, ⟨62, _⟩ => ⟨S1x128x8x1, .f32⟩
  | .hbm, ⟨63, _⟩ => ⟨S16x128x8x256, .f32⟩
  | .hbm, ⟨64, _⟩ => ⟨S16x128x8x256, .f32⟩
  | .hbm, ⟨65, _⟩ => ⟨S2048x2048, .f32⟩
  | .hbm, ⟨66, _⟩ => ⟨S2048x2048, .f32⟩
  | .hbm, ⟨67, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_cst : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== RmsBwd.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== DownLoss.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1x2048 : Shape := ⟨2, ![1, 2048]⟩
abbrev S1x128 : Shape := ⟨2, ![1, 128]⟩
abbrev S512x512 : Shape := ⟨2, ![512, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 20
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1x128, .f32⟩
  | .local _ .vmem, ⟨19, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_18 : BitVec 32 := 0#32
  let v22 : BitVec 1 := Scalar.cmpi .ne v21 c0_i32_18
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![arg0.toNat, v2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![arg1.toNat, c0_i32.toNat, c1_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![arg1.toNat, c0_i32.toNat, c3_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DownLossRefIdeal.lean ====
abbrev S2048x8192 : Shape := ⟨2, ![2048, 8192]⟩
abbrev S4x1x2048x2048 : Shape := ⟨4, ![4, 1, 2048, 2048]⟩
abbrev S2048x2048 : Shape := ⟨2, ![2048, 2048]⟩
abbrev S1x2048 : Shape := ⟨2, ![1, 2048]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S2048x4096 : Shape := ⟨2, ![2048, 4096]⟩
abbrev S4x2048x2048 : Shape := ⟨3, ![4, 2048, 2048]⟩
abbrev S8192x2048 : Shape := ⟨2, ![8192, 2048]⟩
abbrev S8x2x512x2048 : Shape := ⟨4, ![8, 2, 512, 2048]⟩
abbrev S8x1x512x2048 : Shape := ⟨4, ![8, 1, 512, 2048]⟩
abbrev S8x512x2048 : Shape := ⟨3, ![8, 512, 2048]⟩
abbrev S4096x2048 : Shape := ⟨2, ![4096, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x1x2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x8192, .f32⟩
  | .hbm, ⟨6, _⟩ => ⟨S2048x8x2x512, .f32⟩
  | .hbm, ⟨7, _⟩ => ⟨S2048x8x1x512, .f32⟩
  | .hbm, ⟨8, _⟩ => ⟨S2048x8x512, .f32⟩
  | .hbm, ⟨9, _⟩ => ⟨S2048x4096, .f32⟩
  | .hbm, ⟨10, _⟩ => ⟨S4x2048x2048, .bf16⟩
  | .hbm, ⟨11, _⟩ => ⟨S8192x2048, .bf16⟩
  | .hbm, ⟨12, _⟩ => ⟨S8192x2048, .f32⟩
  | .hbm, ⟨13, _⟩ => ⟨S8x2x512x2048, .f32⟩
  | .hbm, ⟨14, _⟩ => ⟨S8x1x512x2048, .f32⟩
  | .hbm, ⟨15, _⟩ => ⟨S8x512x2048, .f32⟩
  | .hbm, ⟨16, _⟩ => ⟨S4096x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .bf16⟩
  | .hbm, ⟨85, _⟩ => ⟨S1x128, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== PoolFwd.lean ====
abbrev S2048x2048 : Shape := ⟨2, ![2048, 2048]⟩
abbrev S2048x256 : Shape := ⟨2, ![2048, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PoolFwdRefIdeal.lean ====
abbrev S2048x2048 : Shape := ⟨2, ![2048, 2048]⟩
abbrev S2048x4x512 : Shape := ⟨3, ![2048, 4, 512]⟩
abbrev S2048x1x512 : Shape := ⟨3, ![2048, 1, 512]⟩
abbrev S2048x512 : Shape := ⟨2, ![2048, 512]⟩
abbrev S_ : Shape := ⟨0, ![]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 105
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4x512, .f32⟩
  | .hbm, ⟨2, _⟩ => ⟨S2048x1x512, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2x512, .f32⟩
  | .hbm, ⟨9, _⟩ => ⟨S2046x512, .f32⟩
  | .hbm, ⟨10, _⟩ => ⟨S2048x512, .f32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .f32⟩
  | .hbm, ⟨19, _⟩ => ⟨S2048x512, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S2048x1x512, .f32⟩
  | .hbm, ⟨24, _⟩ => ⟨S2048x512, .f32⟩
  | .hbm, ⟨25, _⟩ => ⟨S2048x512, .f32⟩
  | .hbm, ⟨26, _⟩ => ⟨S2048x1x512, .f32⟩
  | .hbm, ⟨27, _⟩ => ⟨S2048x512, .f32⟩
  | .hbm, ⟨28, _⟩ => ⟨S_, .f32⟩
  | .hbm, ⟨29, _⟩ => ⟨S_, .f32⟩
  | .hbm, ⟨30, _⟩ => ⟨S2048x512, .f32⟩
  | .hbm, ⟨31, _⟩ => ⟨S_, .f32⟩
  | .hbm, ⟨32, _⟩ => ⟨S4x512, .f32⟩
  | .hbm, ⟨33, _⟩ => ⟨S2044x512, .f32⟩
  | .hbm, ⟨34, _⟩ => ⟨S2048x512, .f32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S2048x512, .f32⟩
  | .hbm, ⟨44, _⟩ => ⟨S2048x1, .f32⟩
  | .hbm, ⟨45, _⟩ => ⟨S2048x512, .f32⟩
  | .hbm, ⟨46, _⟩ => ⟨S2048x512, .f32⟩
  | .hbm, ⟨47, _⟩ => ⟨S2048x1x512, .f32⟩
  | .hbm, ⟨48, _⟩ => ⟨S2048x512, .f32⟩
  | .hbm, ⟨49, _⟩ => ⟨S2048x512, .f32⟩
  | .hbm, ⟨50, _⟩ => ⟨S2048x1x512, .f32⟩
  | .hbm, ⟨51, _⟩ => ⟨S2048x512, .f32⟩
  | .hbm, ⟨52, _⟩ => ⟨S_, .f32⟩
  | .hbm, ⟨53, _⟩ => ⟨S_, .f32⟩
  | .hbm, ⟨54, _⟩ => ⟨S2048x512, .f32⟩
  | .hbm, ⟨55, _⟩ => ⟨S_, .f32⟩
  | .hbm, ⟨56, _⟩ => ⟨S8x512, .f32⟩
  | .hbm, ⟨57, _⟩ => ⟨S2040x512, .f32⟩
  | .hbm, ⟨58, _⟩ => ⟨S2048x512, .f32⟩
  | .hbm, ⟨59, _⟩ => ⟨S2048, .i32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S2048x512, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1x512, .f32⟩
  | .hbm, ⟨72, _⟩ => ⟨S2048x512, .f32⟩
  | .hbm, ⟨73, _⟩ => ⟨S2048x512, .f32⟩
  | .hbm, ⟨74, _⟩ => ⟨S2048x1x512, .f32⟩
  | .hbm, ⟨75, _⟩ => ⟨S2048x512, .f32⟩
  | .hbm, ⟨76, _⟩ => ⟨S_, .f32⟩
  | .hbm, ⟨77, _⟩ => ⟨S_, .f32⟩
  | .hbm, ⟨78, _⟩ => ⟨S2048x512, .f32⟩
  | .hbm, ⟨79, _⟩ => ⟨S_, .f32⟩
  | .hbm, ⟨80, _⟩ => ⟨S16x512, .f32⟩
  | .hbm, ⟨81, _⟩ => ⟨S2032x512, .f32⟩
  | .hbm, ⟨82, _⟩ => ⟨S2048x512, .f32⟩
  | .hbm, ⟨83, _⟩ => ⟨S2048, .i32⟩
  | .hbm, ⟨84, _⟩ => ⟨S_, .i32⟩
  | .hbm, ⟨85, _⟩ => ⟨S2048, .i32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i32⟩
  | .hbm, ⟨90, _⟩ => ⟨S2048, .f32⟩
  | .hbm, ⟨91, _⟩ => ⟨S2048x512, .f32⟩
  | .hbm, ⟨92, _⟩ => ⟨S2048x1, .f32⟩
  | .hbm, ⟨93, _⟩ => ⟨S2048x512, .f32⟩
  | .hbm, ⟨94, _⟩ => ⟨S2048x512, .f32⟩
  | .hbm, ⟨95, _⟩ => ⟨S2048x1x512, .f32⟩
  | .hbm, ⟨96, _⟩ => ⟨S2048x512, .f32⟩
  | .hbm, ⟨97, _⟩ => ⟨S2048x512, .f32⟩
  | .hbm, ⟨98, _⟩ => ⟨S2048x1x512, .f32⟩
  | .hbm, ⟨99, _⟩ => ⟨S2048x1x512, .f32⟩
  | .hbm, ⟨100, _⟩ => ⟨S2048x1x512, .f32⟩
  | .hbm, ⟨101, _⟩ => ⟨S2048x1x512, .f32⟩
  | .hbm, ⟨102, _⟩ => ⟨S2048x4x512, .f32⟩
  | .hbm, ⟨103, _⟩ => ⟨S2048x2048, .f32⟩
  | .hbm, ⟨104, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call1_call0_cst : Ref sig .tc := ⟨.hbm, 28, rfl⟩
abbrev main_call1_call0_v0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call2_call0_cst : Ref sig .tc := ⟨.hbm, 52, rfl⟩
abbrev main_call2_call0_v0 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call3_call0_cst : Ref sig .tc := ⟨.hbm, 76, rfl⟩
abbrev main_call3_call0_v0 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_8 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Proof.Frames.lean ====
/- The references of this certificate are programs of one device that declare no semaphore: their frames are their runs, read at
   the arguments. -/
module

public import proofs.«01_k».proof.Defs
public import proofs.«01_k».proof.Proof.Gen.GateRefIdeal.Run
public import proofs.«01_k».proof.Proof.Gen.PoolRefIdeal.Run
public import proofs.«01_k».proof.Proof.Gen.DownDxRefIdeal.Run
public import proofs.«01_k».proof.Proof.Gen.DownDwRefIdeal.Run
public import proofs.«01_k».proof.Proof.Gen.UpDxRefIdeal.Run
public import proofs.«01_k».proof.Proof.Gen.UpDwRefIdeal.Run
public import proofs.«01_k».proof.Proof.Gen.MmBwdRefIdeal.Run
public import proofs.«01_k».proof.Proof.Gen.AInDxRefIdeal.Run
public import proofs.«01_k».proof.Proof.Gen.AInDwRefIdeal.Run
public import proofs.«01_k».proof.Proof.Gen.GrpDxRefIdeal.Run
public import proofs.«01_k».proof.Proof.Gen.GrpDwRefIdeal.Run
public import proofs.«01_k».proof.Proof.Gen.ScaleBwdRefIdeal.Run
public import proofs.«01_k».proof.Proof.Gen.UpRefIdeal.Run
public import proofs.«01_k».proof.Proof.Gen.Down0RefIdeal.Run
public import proofs.«01_k».proof.Proof.Gen.Down1RefIdeal.Run
public import proofs.«01_k».proof.Proof.Gen.AInRefIdeal.Run
public import proofs.«01_k».proof.Proof.Gen.MixOutRefIdeal.Run
public import proofs.«01_k».proof.Proof.Gen.BInRefIdeal.Run
public import proofs.«01_k».proof.Proof.Gen.GrpRefIdeal.Run
public import proofs.«01_k».proof.Proof.Gen.RmsFwdRefIdeal.Run
public import proofs.«01_k».proof.Proof.Gen.AdamInRefIdeal.Run
public import proofs.«01_k».proof.Proof.Gen.GateFwdRefIdeal.Run
public import proofs.«01_k».proof.Proof.Gen.RmsBwdRefIdeal.Run
public import proofs.«01_k».proof.Proof.Gen.DownLossRefIdeal.Run
public import proofs.«01_k».proof.Proof.Gen.PoolFwdRefIdeal.Run
public import proofs.«01_k».proof.Proof.Gen.AdamOutRefIdeal.Run
public import proofs.«01_k».proof.Proof.Gen.AdamGrpRefIdeal.Run
public import proofs.«01_k».proof.Proof.Gen.AdamMlpRefIdeal.Run
public import proofs.«01_k».proof.Proof.Gen.SumUnpackRefIdeal.Run
public import proofs.«01_k».proof.Proof.Gen.AdamPackRefIdeal.Run
public import proofs.«01_k».proof.Proof.Gen.AdamMlp1RefIdeal.Run
public import Idealize.ShloMosaic.Lib.Quiescent

@[expose] public section

noncomputable section

namespace Cert.Frames

open Idealize.ShloMosaic Idealize.SL.Sem

theorem gateRef : @Cert.quiescent_GateRefIdeal GateRefIdeal.Gen.facts := fun m ρ _ =>
  (θ_run GateRefIdeal.defs _ _).mono (fun r h => ⟨fun c => (h c).2.2.2.2.2, sem_eq_zero_of_no_sems (by decide) r.2⟩)
    (GateRefIdeal.Value.run (F := Ideal) m ρ)

theorem poolRef : @Cert.quiescent_PoolRefIdeal PoolRefIdeal.Gen.facts := fun m ρ _ =>
  (θ_run PoolRefIdeal.defs _ _).mono (fun r h => ⟨fun c => (h c).2, sem_eq_zero_of_no_sems (by decide) r.2⟩)
    (PoolRefIdeal.Value.run (F := Ideal) m ρ)

theorem downDxRef : @Cert.quiescent_DownDxRefIdeal DownDxRefIdeal.Gen.facts := fun m ρ _ =>
  (θ_run DownDxRefIdeal.defs _ _).mono (fun r h => ⟨fun c => (h c).2, sem_eq_zero_of_no_sems (by decide) r.2⟩)
    (DownDxRefIdeal.Value.run (F := Ideal) m ρ)

theorem downDwRef : @Cert.quiescent_DownDwRefIdeal DownDwRefIdeal.Gen.facts := fun m ρ _ =>
  (θ_run DownDwRefIdeal.defs _ _).mono (fun r h => ⟨fun c => (h c).2, sem_eq_zero_of_no_sems (by decide) r.2⟩)
    (DownDwRefIdeal.Value.run (F := Ideal) m ρ)

theorem upDxRef : @Cert.quiescent_UpDxRefIdeal UpDxRefIdeal.Gen.facts := fun m ρ _ =>
  (θ_run UpDxRefIdeal.defs _ _).mono (fun r h => ⟨fun c => (h c).2, sem_eq_zero_of_no_sems (by decide) r.2⟩)
    (UpDxRefIdeal.Value.run (F := Ideal) m ρ)

theorem upDwRef : @Cert.quiescent_UpDwRefIdeal UpDwRefIdeal.Gen.facts := fun m ρ _ =>
  (θ_run UpDwRefIdeal.defs _ _).mono (fun r h => ⟨fun c => (h c).2, sem_eq_zero_of_no_sems (by decide) r.2⟩)
    (UpDwRefIdeal.Value.run (F := Ideal) m ρ)

theorem mmBwdRef : @Cert.quiescent_MmBwdRefIdeal MmBwdRefIdeal.Gen.facts := fun m ρ _ =>
  (θ_run MmBwdRefIdeal.defs _ _).mono (fun r h => ⟨fun c => (h c).2.2, sem_eq_zero_of_no_sems (by decide) r.2⟩)
    (MmBwdRefIdeal.Value.run (F := Ideal) m ρ)

theorem aInDxRef : @Cert.quiescent_AInDxRefIdeal AInDxRefIdeal.Gen.facts := fun m ρ _ =>
  (θ_run AInDxRefIdeal.defs _ _).mono (fun r h => ⟨fun c => (h c).2, sem_eq_zero_of_no_sems (by decide) r.2⟩)
    (AInDxRefIdeal.Value.run (F := Ideal) m ρ)

theorem aInDwRef : @Cert.quiescent_AInDwRefIdeal AInDwRefIdeal.Gen.facts := fun m ρ _ =>
  (θ_run AInDwRefIdeal.defs _ _).mono (fun r h => ⟨fun c => (h c).2, sem_eq_zero_of_no_sems (by decide) r.2⟩)
    (AInDwRefIdeal.Value.run (F := Ideal) m ρ)

theorem grpDxRef : @Cert.quiescent_GrpDxRefIdeal GrpDxRefIdeal.Gen.facts := fun m ρ _ =>
  (θ_run GrpDxRefIdeal.defs _ _).mono (fun r h => ⟨fun c => (h c).2, sem_eq_zero_of_no_sems (by decide) r.2⟩)
    (GrpDxRefIdeal.Value.run (F := Ideal) m ρ)

theorem grpDwRef : @Cert.quiescent_GrpDwRefIdeal GrpDwRefIdeal.Gen.facts := fun m ρ _ =>
  (θ_run GrpDwRefIdeal.defs _ _).mono (fun r h => ⟨fun c => (h c).2, sem_eq_zero_of_no_sems (by decide) r.2⟩)
    (GrpDwRefIdeal.Value.run (F := Ideal) m ρ)

theorem scaleBwdRef : @Cert.quiescent_ScaleBwdRefIdeal ScaleBwdRefIdeal.Gen.facts := fun m ρ _ =>
  (θ_run ScaleBwdRefIdeal.defs _ _).mono (fun r h => ⟨fun c => (h c).2.2, sem_eq_zero_of_no_sems (by decide) r.2⟩)
    (ScaleBwdRefIdeal.Value.run (F := Ideal) m ρ)

theorem upRef : @Cert.quiescent_UpRefIdeal UpRefIdeal.Gen.facts := fun m ρ _ =>
  (θ_run UpRefIdeal.defs _ _).mono (fun r h => ⟨fun c => (h c).2.2, sem_eq_zero_of_no_sems (by decide) r.2⟩)
    (UpRefIdeal.Value.run (F := Ideal) m ρ)

theorem down0Ref : @Cert.quiescent_Down0RefIdeal Down0RefIdeal.Gen.facts := fun m ρ _ =>
  (θ_run Down0RefIdeal.defs _ _).mono (fun r h => ⟨fun c => (h c).2, sem_eq_zero_of_no_sems (by decide) r.2⟩)
    (Down0RefIdeal.Value.run (F := Ideal) m ρ)

theorem down1Ref : @Cert.quiescent_Down1RefIdeal Down1RefIdeal.Gen.facts := fun m ρ _ =>
  (θ_run Down1RefIdeal.defs _ _).mono (fun r h => ⟨fun c => (h c).2, sem_eq_zero_of_no_sems (by decide) r.2⟩)
    (Down1RefIdeal.Value.run (F := Ideal) m ρ)

theorem aInRef : @Cert.quiescent_AInRefIdeal AInRefIdeal.Gen.facts := fun m ρ _ =>
  (θ_run AInRefIdeal.defs _ _).mono (fun r h => ⟨fun c => (h c).2, sem_eq_zero_of_no_sems (by decide) r.2⟩)
    (AInRefIdeal.Value.run (F := Ideal) m ρ)

theorem mixOutRef : @Cert.quiescent_MixOutRefIdeal MixOutRefIdeal.Gen.facts := fun m ρ _ =>
  (θ_run MixOutRefIdeal.defs _ _).mono (fun r h => ⟨fun c => (h c).2, sem_eq_zero_of_no_sems (by decide) r.2⟩)
    (MixOutRefIdeal.Value.run (F := Ideal) m ρ)

theorem bInRef : @Cert.quiescent_BInRefIdeal BInRefIdeal.Gen.facts := fun m ρ _ =>
  (θ_run BInRefIdeal.defs _ _).mono (fun r h => ⟨fun c => (h c).2, sem_eq_zero_of_no_sems (by decide) r.2⟩)
    (BInRefIdeal.Value.run (F := Ideal) m ρ)

theorem grpRef : @Cert.quiescent_GrpRefIdeal GrpRefIdeal.Gen.facts := fun m ρ _ =>
  (θ_run GrpRefIdeal.defs _ _).mono (fun r h => ⟨fun c => (h c).2.2, sem_eq_zero_of_no_sems (by decide) r.2⟩)
    (GrpRefIdeal.Value.run (F := Ideal) m ρ)

theorem rmsFwdRef : @Cert.quiescent_RmsFwdRefIdeal RmsFwdRefIdeal.Gen.facts := fun m ρ _ =>
  (θ_run RmsFwdRefIdeal.defs _ _).mono (fun r h => ⟨fun c => (h c).2, sem_eq_zero_of_no_sems (by decide) r.2⟩)
    (RmsFwdRefIdeal.Value.run (F := Ideal) m ρ)

theorem adamInRef : @Cert.quiescent_AdamInRefIdeal AdamInRefIdeal.Gen.facts := fun m ρ _ =>
  (θ_run AdamInRefIdeal.defs _ _).mono (fun r h => ⟨fun c => (h c).2.2.2.2, sem_eq_zero_of_no_sems (by decide) r.2⟩)
    (AdamInRefIdeal.Value.run (F := Ideal) m ρ)

theorem gateFwdRef : @Cert.quiescent_GateFwdRefIdeal GateFwdRefIdeal.Gen.facts := fun m ρ _ =>
  (θ_run GateFwdRefIdeal.defs _ _).mono (fun r h => ⟨fun c => (h c).2, sem_eq_zero_of_no_sems (by decide) r.2⟩)
    (GateFwdRefIdeal.Value.run (F := Ideal) m ρ)

theorem rmsBwdRef : @Cert.quiescent_RmsBwdRefIdeal RmsBwdRefIdeal.Gen.facts := fun m ρ _ =>
  (θ_run RmsBwdRefIdeal.defs _ _).mono (fun r h => ⟨fun c => (h c).2.2.2, sem_eq_zero_of_no_sems (by decide) r.2⟩)
    (RmsBwdRefIdeal.Value.run (F := Ideal) m ρ)

theorem downLossRef : @Cert.quiescent_DownLossRefIdeal DownLossRefIdeal.Gen.facts := fun m ρ _ =>
  (θ_run DownLossRefIdeal.defs _ _).mono (fun r h => ⟨fun c => (h c).2.2.2.2, sem_eq_zero_of_no_sems (by decide) r.2⟩)
    (DownLossRefIdeal.Value.run (F := Ideal) m ρ)

theorem poolFwdRef : @Cert.quiescent_PoolFwdRefIdeal PoolFwdRefIdeal.Gen.facts := fun m ρ _ =>
  (θ_run PoolFwdRefIdeal.defs _ _).mono (fun r h => ⟨fun c => (h c).2, sem_eq_zero_of_no_sems (by decide) r.2⟩)
    (PoolFwdRefIdeal.Value.run (F := Ideal) m ρ)

theorem adamOutRef : @Cert.quiescent_AdamOutRefIdeal AdamOutRefIdeal.Gen.facts := fun m ρ _ =>
  (θ_run AdamOutRefIdeal.defs _ _).mono (fun r h => ⟨fun c => (h c).2.2.2.2, sem_eq_zero_of_no_sems (by decide) r.2⟩)
    (AdamOutRefIdeal.Value.run (F := Ideal) m ρ)

theorem adamGrpRef : @Cert.quiescent_AdamGrpRefIdeal AdamGrpRefIdeal.Gen.facts := fun m ρ _ =>
  (θ_run AdamGrpRefIdeal.defs _ _).mono (fun r h => ⟨fun c => (h c).2.2.2.2, sem_eq_zero_of_no_sems (by decide) r.2⟩)
    (AdamGrpRefIdeal.Value.run (F := Ideal) m ρ)

theorem adamMlpRef : @Cert.quiescent_AdamMlpRefIdeal AdamMlpRefIdeal.Gen.facts := fun m ρ _ =>
  (θ_run AdamMlpRefIdeal.defs _ _).mono (fun r h => ⟨fun c => (h c).2.2.2.2, sem_eq_zero_of_no_sems (by decide) r.2⟩)
    (AdamMlpRefIdeal.Value.run (F := Ideal) m ρ)

theorem adamMlp1Ref : @Cert.quiescent_AdamMlp1RefIdeal AdamMlp1RefIdeal.Gen.facts := fun m ρ _ =>
  (θ_run AdamMlp1RefIdeal.defs _ _).mono (fun r h => ⟨fun c => (h c).2.2.2.2, sem_eq_zero_of_no_sems (by decide) r.2⟩)
    (AdamMlp1RefIdeal.Value.run (F := Ideal) m ρ)

theorem adamPackRef : @Cert.quiescent_AdamPackRefIdeal AdamPackRefIdeal.Gen.facts := fun m ρ _ =>
  (θ_run AdamPackRefIdeal.defs _ _).mono (fun r h => ⟨fun c => (h c).2.2.2.2.2.2.2.2.2.2.2.2.2.2.2.2.2.2.2.2.2.2.2.2, sem_eq_zero_of_no_sems (by decide) r.2⟩)
    (AdamPackRefIdeal.Value.run (F := Ideal) m ρ)

theorem sumPackRef : @Cert.quiescent_SumUnpackRefIdeal SumUnpackRefIdeal.Gen.facts := fun m ρ _ =>
  (θ_run SumUnpackRefIdeal.defs _ _).mono (fun r h => ⟨fun c => (h c).2.2.2.2.2.2.2.2, sem_eq_zero_of_no_sems (by decide) r.2⟩)
    (SumUnpackRefIdeal.Value.run (F := Ideal) m ρ)

end Cert.Frames

end
-- ==== Proof.Finite.lean ====
/-
  Finite arguments. A precondition of this certificate says of every argument that each element's absolute value is below infinity, as
  one reduction by `and` per argument. Read back: each element is a real number, that which `EReal.toReal` names.
-/
module

public import Idealize.ShloMosaic.Lib.ReduceAll
public import Idealize.ShloMosaic.Lib.KernelVsHost
public import Idealize.ShloMosaic.Lib.Pointwise
public import Idealize.ShloMosaic.Lib.WordCmp
public import Idealize.ShloMosaic.Lib.ValueIdx

@[expose] public section

namespace Cert.Finite

open Idealize.ShloMosaic

/-- An extended real whose absolute value is below infinity is a real number. -/
theorem real_of_lt (x : Ideal .f32) (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop, Ideal.cmp_olt, WordCmp.ofBool_decide_eq_one_iff] at h'
  obtain ⟨h1, h2⟩ := max_lt_iff.1 h'
  refine (EReal.coe_toReal (ne_of_lt h1) ?_).symm
  rintro rfl
  simp at h2

/-- A reduction by `and` of such comparisons that is 1: every element is a real number. -/
theorem real_of_all {s t u : Shape} {axes : List (Fin s.rank)} [Subsingleton t.Idx] (x : FVec Ideal s .f32) (b : FVec Ideal s .f32)
    (hb : ∀ i, b i = FloatOps.ofBits (F := Ideal) .f32 0x7F800000#32) (init : u.Idx → BitVec 1) (h : s.ReducesTo axes t) (hu : 0 < u.numel) (j : t.Idx)
    (e : Host.reduce IntOp.andi (cmpf .olt (Host.absf x) b) init h hu j = 1#1) (i : s.Idx) : x i = ((EReal.toReal (x i) : ℝ) : EReal) := by
  have e1 := Host.reduce_andi_all _ init h hu j e i
  refine real_of_lt (x i) ?_
  rw [← hb i]
  exact e1

/-- An `and` of two scalars that is 1: both are. -/
theorem both {s : Shape} {x y : IVec s 1} {j : s.Idx} (h : andi x y j = 1#1) : x j = 1#1 ∧ y j = 1#1 := IntOp.andi_eq_one.1 h

/-- The real function of two coordinates that a finite array of two axes holds, zero outside it. -/
noncomputable def real2 {A B : ℕ} (x : FVec Ideal ⟨2, ![A, B]⟩ .f32) : ℕ → ℕ → ℝ := fun n e =>
  if h : n < A ∧ e < B then EReal.toReal (x (ix2 (⟨n, h.1⟩ : Fin A) (⟨e, h.2⟩ : Fin B))) else 0

theorem real2_spec {A B : ℕ} {x : FVec Ideal ⟨2, ![A, B]⟩ .f32} (hx : ∀ i, x i = ((EReal.toReal (x i) : ℝ) : EReal)) (i : (⟨2, ![A, B]⟩ : Shape).Idx) :
    x i = ((real2 x (i 0).val (i 1).val : ℝ) : EReal) := by
  have h0 : (i 0).val < A := (i 0).isLt
  have h1 : (i 1).val < B := (i 1).isLt
  have e : (ix2 (⟨(i 0).val, h0⟩ : Fin A) (⟨(i 1).val, h1⟩ : Fin B) : (⟨2, ![A, B]⟩ : Shape).Idx) = i := by
    funext k; fin_cases k <;> rfl
  rw [real2, dif_pos ⟨h0, h1⟩, e]
  exact hx i

/-- The same of three coordinates. -/
noncomputable def real3 {A B C : ℕ} (x : FVec Ideal ⟨3, ![A, B, C]⟩ .f32) : ℕ → ℕ → ℕ → ℝ := fun n e k =>
  if h : n < A ∧ e < B ∧ k < C then EReal.toReal (x (ix3 (⟨n, h.1⟩ : Fin A) (⟨e, h.2.1⟩ : Fin B) (⟨k, h.2.2⟩ : Fin C))) else 0

theorem real3_spec {A B C : ℕ} {x : FVec Ideal ⟨3, ![A, B, C]⟩ .f32} (hx : ∀ i, x i = ((EReal.toReal (x i) : ℝ) : EReal))
    (i : (⟨3, ![A, B, C]⟩ : Shape).Idx) : x i = ((real3 x (i 0).val (i 1).val (i 2).val : ℝ) : EReal) := by
  have h0 : (i 0).val < A := (i 0).isLt
  have h1 : (i 1).val < B := (i 1).isLt
  have h2 : (i 2).val < C := (i 2).isLt
  have e : (ix3 (⟨(i 0).val, h0⟩ : Fin A) (⟨(i 1).val, h1⟩ : Fin B) (⟨(i 2).val, h2⟩ : Fin C) : (⟨3, ![A, B, C]⟩ : Shape).Idx) = i := by
    funext k; fin_cases k <;> rfl
  rw [real3, dif_pos ⟨h0, h1, h2⟩, e]
  exact hx i

end Cert.Finite
-- ==== Proof.GateMath.lean ====
/- The real-number mathematics of the gate's backward pass: the error-function GELU and its derivative, the
   layer norm over the 2048 lanes of the second half, the causal per-group spatial product in chunks of 128
   rows, and the five gradients. Everything is a function of natural-number coordinates, so that the kernel's
   blocks and the reference's reshaped arrays are read at one and the same coordinates. -/
module

public import Idealize.ShloMosaic.Lib.ValueIdx
public import Idealize.ShloMosaic.PureOps.Ideal.Laws

@[expose] public section

open Idealize.ShloMosaic

noncomputable section

namespace Cert.GateMath

/-- The standard normal distribution function, written with the error function's integral. -/
def Phi (x : ℝ) : ℝ :=
  1 / 2 * (1 + 2 / Real.sqrt Real.pi * ∫ t in (0 : ℝ)..x / Real.sqrt 2, Real.exp (-(t ^ 2)))

/-- The GELU activation. -/
def gelu (x : ℝ) : ℝ := x * Phi x

/-- The derivative of the GELU activation. -/
def geluD (x : ℝ) : ℝ := Phi x + x * (Real.exp (-(1 / 2) * x * x) / Real.sqrt (2 * Real.pi))

/-- The layer norm's epsilon: the real number its float constant denotes. -/
def eps : ℝ := 8796093 / 8796093022208

theorem eps_pos : 0 < eps := by unfold eps; norm_num

variable (z dg : ℕ → ℕ → ℝ) (lg lb : ℕ → ℝ) (w : ℕ → ℕ → ℕ → ℝ) (bs : ℕ → ℕ → ℝ)

/-- The first half of the activated rows. -/
def U (n e : ℕ) : ℝ := gelu (z n e)
/-- The second half of the activated rows. -/
def V (n e : ℕ) : ℝ := gelu (z n (2048 + e))
/-- The mean of a row of the second half. -/
def mu (n : ℕ) : ℝ := (∑ k : Fin 2048, V z n k) / 2048
/-- A row less its mean. -/
def xc (n e : ℕ) : ℝ := V z n e - mu z n
/-- The variance of a row, plus epsilon. -/
def ve (n : ℕ) : ℝ := (∑ k : Fin 2048, xc z n k * xc z n k) / 2048 + eps
/-- The reciprocal standard deviation of a row. -/
def rs (n : ℕ) : ℝ := (Real.sqrt (ve z n))⁻¹
/-- The normalised row. -/
def xh (n e : ℕ) : ℝ := xc z n e * rs z n
/-- The layer norm's result. -/
def vln (n e : ℕ) : ℝ := xh z n e * lg e + lb e
/-- The spatial weight kept where the source row is not after the target row. -/
def wm (g t s : ℕ) : ℝ := if s ≤ t then w g t s else 0
/-- The spatial product of a chunk plus its bias: the gate's multiplier. -/
def sg (n e : ℕ) : ℝ :=
  (∑ s : Fin 128, wm w (e / 256) (n % 128) s * vln z lg lb (128 * (n / 128) + s) e) + bs (e / 256) (n % 128)
/-- The cotangent of the multiplier. -/
def ds (n e : ℕ) : ℝ := U z n e * dg n e
/-- The cotangent of the first half. -/
def du (n e : ℕ) : ℝ := dg n e * sg z lg lb w bs n e
/-- The cotangent of the layer norm's result. -/
def dvln (n e : ℕ) : ℝ := ∑ t : Fin 128, ds z dg (128 * (n / 128) + t) e * wm w (e / 256) t (n % 128)
/-- The cotangent of the normalised row. -/
def dvh (n e : ℕ) : ℝ := dvln z dg w n e * lg e
/-- The cotangent of the second half: the layer norm's backward. -/
def dv (n e : ℕ) : ℝ :=
  rs z n * (dvh z dg lg w n e - (∑ k : Fin 2048, dvh z dg lg w n k) / 2048
    - xh z n e * ((∑ k : Fin 2048, dvh z dg lg w n k * xh z n k) / 2048))
/-- The gradient of the gate's input. -/
def dz (n e : ℕ) : ℝ :=
  geluD (z n e) * (if e < 2048 then du z dg lg lb w bs n e else dv z dg lg w n (e - 2048))
/-- One chunk's part of the gradient of the spatial weights, before the causal cut. -/
def dwc (c g t s : ℕ) : ℝ :=
  ∑ d : Fin 256, ds z dg (128 * c + t) (256 * g + d) * vln z lg lb (128 * c + s) (256 * g + d)
/-- The gradient of the spatial weights. -/
def dws (g t s : ℕ) : ℝ := if s ≤ t then ∑ c : Fin 16, dwc z dg lg lb c g t s else 0
/-- The gradient of the spatial bias. -/
def dbs (t g : ℕ) : ℝ := ∑ c : Fin 16, ∑ d : Fin 256, ds z dg (128 * c + t) (256 * g + d)
/-- The gradient of the layer norm's gain. -/
def dlg (e : ℕ) : ℝ := ∑ n : Fin 2048, xh z n e * dvln z dg w n e
/-- The gradient of the layer norm's offset. -/
def dlb (e : ℕ) : ℝ := ∑ n : Fin 2048, dvln z dg w n e

theorem ve_pos (n : ℕ) : 0 < ve z n := by
  unfold ve
  have : 0 ≤ ∑ k : Fin 2048, xc z n k * xc z n k := Finset.sum_nonneg fun k _ => mul_self_nonneg _
  have := eps_pos
  positivity

theorem sqrt_two_pos : (0 : ℝ) < Real.sqrt 2 := Real.sqrt_pos.2 (by norm_num)

/-- A row less its mean sums to zero. -/
theorem sum_xc (n : ℕ) : ∑ k : Fin 2048, xc z n k = 0 := by
  unfold xc
  rw [Finset.sum_sub_distrib]
  simp [mu]
  ring

/-- The squared reciprocal deviation. -/
theorem rs_sq (n : ℕ) : rs z n * rs z n = 1 / ve z n := by
  unfold rs
  rw [← mul_inv, Real.mul_self_sqrt (ve_pos z n).le, one_div]

/-- The layer norm's backward, as differentiating the mean and the variance one after the other writes it. -/
theorem dv_chain (n e : ℕ) (a : ℝ) (b : ℕ → ℝ)
    (ha : a = (∑ k : Fin 2048, xc z n k * dvh z dg lg w n k) * (-(1 / 2) * (rs z n * (1 / ve z n))) * (1 / 2048))
    (hb : ∀ k, b k = dvh z dg lg w n k * rs z n + xc z n k * a + a * xc z n k) :
    b e + (∑ k : Fin 2048, -(b k)) * (1 / 2048) = dv z dg lg w n e := by
  have hs : ∑ k : Fin 2048, b k = rs z n * ∑ k : Fin 2048, dvh z dg lg w n k := by
    simp only [hb, Finset.sum_add_distrib]
    rw [← Finset.sum_mul, ← Finset.sum_mul, ← Finset.mul_sum, sum_xc]
    ring
  have hx : ∑ k : Fin 2048, dvh z dg lg w n k * xh z n k = (∑ k : Fin 2048, xc z n k * dvh z dg lg w n k) * rs z n := by
    rw [Finset.sum_mul]
    exact Finset.sum_congr rfl fun k _ => by unfold xh; ring
  rw [Finset.sum_neg_distrib, hs, hb, ha, dv, hx, xh, ← rs_sq]
  ring

/-- A finite sum of real numbers, taken among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem sum_coe {ι : Type} [Fintype ι] (f : ι → ℝ) : ∑ k, ((f k : ℝ) : EReal) = ((∑ k, f k : ℝ) : EReal) :=
  coe_sum _ f

theorem bits_half : Ideal.ofBits .f32 0x3F000000#32 = (((1 / 2 : ℝ)) : EReal) := by
  simp [Ideal.ofBits, Ideal.ieee, -EReal.coe_mul, -EReal.coe_neg, -EReal.coe_one]; norm_num

theorem bits_neg_half : Ideal.ofBits .f32 0xBF000000#32 = (((-(1 / 2) : ℝ)) : EReal) := by
  simp [Ideal.ofBits, Ideal.ieee, -EReal.coe_mul, -EReal.coe_neg, -EReal.coe_one]; norm_num

theorem bits_one : Ideal.ofBits .f32 0x3F800000#32 = ((1 : ℝ) : EReal) := by
  simp [Ideal.ofBits, Ideal.ieee, -EReal.coe_mul, -EReal.coe_neg, -EReal.coe_one]; norm_num

theorem bits_two : Ideal.ofBits .f32 0x40000000#32 = ((2 : ℝ) : EReal) := by
  simp [Ideal.ofBits, Ideal.ieee, -EReal.coe_mul, -EReal.coe_neg, -EReal.coe_one]; norm_num

theorem bits_eight : Ideal.ofBits .f32 0x41000000#32 = ((8 : ℝ) : EReal) := by
  simp [Ideal.ofBits, Ideal.ieee, -EReal.coe_mul, -EReal.coe_neg, -EReal.coe_one]; norm_num

theorem bits_2048 : Ideal.ofBits .f32 0x45000000#32 = ((2048 : ℝ) : EReal) := by
  simp [Ideal.ofBits, Ideal.ieee, -EReal.coe_mul, -EReal.coe_neg, -EReal.coe_one]; norm_num

theorem bits_zero : Ideal.ofBits .f32 0x00000000#32 = ((0 : ℝ) : EReal) := by
  simp [Ideal.ofBits, Ideal.ieee]

theorem bits_eps : Ideal.ofBits .f32 0x358637BD#32 = ((eps : ℝ) : EReal) := by
  unfold eps; simp [Ideal.ofBits, Ideal.ieee, -EReal.coe_mul, -EReal.coe_neg, -EReal.coe_one]; norm_num

/-- A quotient of real numbers by a non-zero one. -/
theorem div_real (a : ℝ) {b : ℝ} (hb : b ≠ 0) : Ideal.div (a : EReal) (b : EReal) = ((a / b : ℝ) : EReal) := by
  rw [Ideal.div_coe hb, ← EReal.coe_mul, mul_one_div]

/-- The reciprocal square root of a positive real number. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- The square root of a non-negative real number. -/
theorem sqrt_real {a : ℝ} (ha : 0 ≤ a) : Ideal.sqrt (a : EReal) = ((Real.sqrt a : ℝ) : EReal) := by
  rw [Ideal.sqrt_coe, if_neg (not_lt.2 ha)]

/-- The normalising constant of the normal density, by way of the arc tangent of one. -/
theorem eight_arctan : (8 : ℝ) * Real.arctan 1 = 2 * Real.pi := by
  rw [Real.arctan_one]; ring

end Cert.GateMath
-- ==== Proof.GateTiles.lean ====
/- The gate kernel's block computations read at an index: where the blocks hold real numbers, each computed block
   holds the real-number function `GateMath` names, the rows counted from the block's first. The eight groups run one
   and the same computation at eight lane offsets; it is named here once, with the offset as a parameter. -/
module

public import proofs.«01_k».proof.Proof.Gen.GateBwdIdeal.Value
public import Idealize.ShloMosaic.Lib.Pipeline.ValueKit
public import Idealize.ShloMosaic.Lib.Pipeline.ReadBack
public import proofs.«01_k».proof.Proof.GateMath

@[expose] public section

set_option maxRecDepth 16384

open Idealize.ShloMosaic Idealize.ShloMosaic.TcCoe Idealize.SL.Sem
open Idealize.ShloMosaic.ValueIdx
open Cert.GateMath

noncomputable section

namespace Cert.GateBwdIdeal.Gen

open GateBwdIdeal

/-- The constant named after the square root of one half. -/
theorem named_sqrt_half : Named.named (F := Ideal) κ "sqrt_half" (φ := .f32) 0x3F3504F3#32 = (((Real.sqrt 2)⁻¹ : ℝ) : EReal) :=
  IdealRules.named_const.ideal_named_scalar κ "sqrt_half" _ _ rfl

/-- The constant named after the normal density's normalisation. -/
theorem named_inv_sqrt : Named.named (F := Ideal) κ "inv_sqrt_two_pi" (φ := .f32) 0x3ECC422A#32
    = (((Real.sqrt (2 * Real.pi))⁻¹ : ℝ) : EReal) :=
  IdealRules.named_const.ideal_named_scalar κ "inv_sqrt_two_pi" _ _ rfl

variable {z : ℕ → ℕ → ℝ}

theorem one_real : (1 : Ideal .f32) = ((1 : ℝ) : EReal) := rfl

/-- The activation as the kernel writes it. -/
theorem gelu_kernel (x : ℝ) : ((x : ℝ) : EReal) * (FloatOps.erf (F := Ideal) (φ := .f32) (((x : ℝ) : EReal) * (((Real.sqrt 2)⁻¹ : ℝ) : EReal))
      + ((1 : ℝ) : EReal)) * (((1 / 2 : ℝ)) : EReal) = ((gelu x : ℝ) : EReal) := by
  rw [← EReal.coe_mul, Ideal.erf_def, Ideal.erf_coe, ← EReal.coe_add, ← EReal.coe_mul, ← EReal.coe_mul]
  unfold gelu Phi
  rw [div_eq_mul_inv x]
  refine congrArg _ ?_
  ring

/-- The activation's derivative as the kernel writes it. -/
theorem geluD_kernel (x : ℝ) : (((1 / 2 : ℝ)) : EReal) * (FloatOps.erf (F := Ideal) (φ := .f32) (((x : ℝ) : EReal) * (((Real.sqrt 2)⁻¹ : ℝ) : EReal))
      + ((1 : ℝ) : EReal)) + ((x : ℝ) : EReal) * Ideal.exp (((-(1 / 2) : ℝ) : EReal) * ((x : ℝ) : EReal) * ((x : ℝ) : EReal))
      * (((Real.sqrt (2 * Real.pi))⁻¹ : ℝ) : EReal) = ((geluD x : ℝ) : EReal) := by
  rw [← EReal.coe_mul, ← EReal.coe_mul, ← EReal.coe_mul, Ideal.erf_def, Ideal.erf_coe, Ideal.exp_coe, ← EReal.coe_add, ← EReal.coe_mul, ← EReal.coe_mul,
    ← EReal.coe_mul, ← EReal.coe_add]
  unfold geluD Phi
  rw [div_eq_mul_inv x, div_eq_mul_inv (Real.exp _)]
  refine congrArg _ ?_
  ring

/-- The activation of a block. -/
theorem pay6_at {v : Vec Ideal S128x2048 .f32} (hv : ∀ i, v i = ((z (i 0).val (i 1).val : ℝ) : EReal)) (i : S128x2048.Idx) :
    k0_pay6 v i = ((U z (i 0).val (i 1).val : ℝ) : EReal) := by
  unfold k0_pay6
  pointwise
  rw [named_sqrt_half, hv, ← Ideal.ofBits_one_f32, bits_one, bits_half]
  exact gelu_kernel _

/-- The activated second half less its row mean. -/
theorem pay7_at {v : Vec Ideal S128x2048 .f32} (hv : ∀ i, v i = ((z (i 0).val (2048 + (i 1).val) : ℝ) : EReal)) (i : S128x2048.Idx) :
    k0_pay7 v i = ((xc z (i 0).val (i 1).val : ℝ) : EReal) := by
  unfold k0_pay7
  pointwise
  simp only [named_sqrt_half, hv, one_real, bits_half, bits_2048, gelu_kernel, sum_coe]
  rw [div_real _ (by norm_num), ← EReal.coe_sub]
  rfl

/-- The reciprocal standard deviation of a row. -/
theorem pay8_at {v : Vec Ideal S128x2048 .f32} (hv : ∀ i, v i = ((z (i 0).val (2048 + (i 1).val) : ℝ) : EReal)) (i : S128x1.Idx) :
    k0_pay8 v i = ((rs z (i 0).val : ℝ) : EReal) := by
  unfold k0_pay8
  pointwise
  simp only [pay7_at hv, bits_2048, bits_eps, ← EReal.coe_mul, sum_coe]
  rw [div_real _ (by norm_num), ← EReal.coe_add]
  exact rsqrt_real (ve_pos z _)

/-- The normalised row. -/
theorem pay9_at {a : FVec Ideal S128x2048 .f32} {r : FVec Ideal S128x1 .f32} (ha : ∀ i, a i = ((xc z (i 0).val (i 1).val : ℝ) : EReal))
    (hr : ∀ i, r i = ((rs z (i 0).val : ℝ) : EReal)) (i : S128x2048.Idx) : k0_pay9 a r i = ((xh z (i 0).val (i 1).val : ℝ) : EReal) := by
  unfold k0_pay9
  pointwise
  rw [ha, hr, ← EReal.coe_mul]
  rfl

/-- The layer norm's result. -/
theorem pay10_at {lg lb : ℕ → ℝ} {g b : Vec Ideal S1x2048 .f32} {a : FVec Ideal S128x2048 .f32} {r : FVec Ideal S128x1 .f32}
    (hg : ∀ i, g i = ((lg (i 1).val : ℝ) : EReal)) (hb : ∀ i, b i = ((lb (i 1).val : ℝ) : EReal))
    (ha : ∀ i, a i = ((xc z (i 0).val (i 1).val : ℝ) : EReal)) (hr : ∀ i, r i = ((rs z (i 0).val : ℝ) : EReal)) (i : S128x2048.Idx) :
    k0_pay10 g b a r i = ((vln z lg lb (i 0).val (i 1).val : ℝ) : EReal) := by
  unfold k0_pay10
  pointwise
  rw [pay9_at ha hr, hg, hb, ← EReal.coe_mul, ← EReal.coe_add]
  rfl

/-- The causal mask, chosen from. -/
theorem select_mask {α : Type} (i : S128x128.Idx) (a b : α) : Scalar.select (k0_pay11 i) a b = if (i 1).val ≤ (i 0).val then a else b := by
  unfold k0_pay11
  pointwise
  have h0 : (i 0).val < 128 := (i 0).isLt
  have h1 : (i 1).val < 128 := (i 1).isLt
  rw [WordCmp.cmpi_sle_ofNat (by omega) (by omega)]
  by_cases h : (i 1).val ≤ (i 0).val <;> simp [h, Scalar.select]

/-- The masked weights of a group. -/
theorem wm_at {w : ℕ → ℕ → ℕ → ℝ} {g : ℕ} {W : Vec Ideal S1x128x128 .f32} (hw : ∀ i, W i = ((w g (i 1).val (i 2).val : ℝ) : EReal)) (i : S128x128.Idx) :
    k0_pay12 W i = ((wm w g (i 0).val (i 1).val : ℝ) : EReal) := by
  unfold k0_pay12
  pointwise
  rw [select_mask, hw]
  unfold wm
  split_ifs <;> rfl

variable (off : ℕ) (hs : S128x2048.Slices ![0, off] S128x256)

/-- A group's lanes of the multiplier's cotangent. -/
def dsT (A : FVec Ideal S128x2048 .f32) (D : Vec Ideal S128x256 .f32) : FVec Ideal S128x256 .f32 :=
  mulf D (extractStridedSlice S128x256 ![0, off] A hs)

/-- A group's lanes of the layer norm's result, as the products take them. -/
def vlT (L : FVec Ideal S128x2048 .f32) : FVec Ideal S128x256 .bf16 :=
  truncf .bf16 (extractStridedSlice S128x256 ![0, off] L hs) bitsLt_bf16_f32

/-- A group's lanes of the first half's cotangent. -/
def duT (L : FVec Ideal S128x2048 .f32) (W : Vec Ideal S1x128x128 .f32) (b : Vec Ideal S128x1 .f32) (D : Vec Ideal S128x256 .f32) : FVec Ideal S128x256 .f32 :=
  shapeCast S128x256 (mulf D (addf (matmul dot_S128x128_S128x256_S128x256_1_0_0_1_n_n none (k0_pay12 W) (vlT off hs L) (constant S128x256 .f32 0x00000000#32))
    (broadcastTo S128x256 (shapeCast S128x1 b shapeCasts_S128x1_S128x1) broadcasts_S128x1_S128x256))) shapeCasts_S128x256_S128x256

/-- A group's column of the bias's gradient. -/
def dbT (A : FVec Ideal S128x2048 .f32) (D : Vec Ideal S128x256 .f32) (P : Vec Ideal S128x1 .f32) : FVec Ideal S128x1 .f32 :=
  addf (shapeCast S128x1 P shapeCasts_S128x1_S128x1)
    (shapeCast S128x1 (multiReduction .add [1] S128 (dsT off hs A D) 0x00000000#32 reduces_S128x256_S128 (.inl rfl) rfl) shapeCasts_S128_S128x1)

/-- A group's square of the weights' gradient. -/
def dwT (A L : FVec Ideal S128x2048 .f32) (D : Vec Ideal S128x256 .f32) (P : Vec Ideal S1x128x128 .f32) : FVec Ideal S1x128x128 .f32 :=
  k0_pay20 k0_pay11 (matmul dot_S128x256_S128x256_S128x128_1_1_0_0_n_n none (truncf .bf16 (dsT off hs A D) bitsLt_bf16_f32) (vlT off hs L)
    (constant S128x128 .f32 0x00000000#32)) (k0_pay19 P)

/-- A group's lanes of the cotangent of the layer norm's result. -/
def dvT (A : FVec Ideal S128x2048 .f32) (W : Vec Ideal S1x128x128 .f32) (D : Vec Ideal S128x256 .f32) : FVec Ideal S128x256 .f32 :=
  k0_pay21 (k0_pay12 W) (truncf .bf16 (dsT off hs A D) bitsLt_bf16_f32)

variable {off hs} {dg : ℕ → ℕ → ℝ} {lg lb : ℕ → ℝ} {w : ℕ → ℕ → ℕ → ℝ} {bs : ℕ → ℕ → ℝ} {g : ℕ}
  {A L : FVec Ideal S128x2048 .f32} {D : Vec Ideal S128x256 .f32} {W : Vec Ideal S1x128x128 .f32} {b : Vec Ideal S128x1 .f32}

/-- A group's lanes, cut out of a block of full rows. -/
theorem slice_at {f : ℕ → ℕ → ℝ} {B : FVec Ideal S128x2048 .f32} (hB : ∀ i, B i = ((f (i 0).val (i 1).val : ℝ) : EReal)) (i : S128x256.Idx) :
    extractStridedSlice S128x256 ![0, off] B hs i = ((f (i 0).val (off + (i 1).val) : ℝ) : EReal) := by
  unfold extractStridedSlice
  rw [hB]
  show ((f (0 + (i 0).val) (off + (i 1).val) : ℝ) : EReal) = _
  rw [Nat.zero_add]

theorem dsT_at (hA : ∀ i, A i = ((U z (i 0).val (i 1).val : ℝ) : EReal)) (hD : ∀ i, D i = ((dg (i 0).val (off + (i 1).val) : ℝ) : EReal)) (i : S128x256.Idx) :
    dsT off hs A D i = ((ds z dg (i 0).val (off + (i 1).val) : ℝ) : EReal) := by
  show D i * extractStridedSlice S128x256 ![0, off] A hs i = _
  rw [slice_at hA, hD, ← EReal.coe_mul, mul_comm]
  rfl

theorem vlT_at (hL : ∀ i, L i = ((vln z lg lb (i 0).val (i 1).val : ℝ) : EReal)) (i : S128x256.Idx) :
    vlT off hs L i = ((vln z lg lb (i 0).val (off + (i 1).val) : ℝ) : EReal) := slice_at (hs := hs) hL i

theorem duT_at (hL : ∀ i, L i = ((vln z lg lb (i 0).val (i 1).val : ℝ) : EReal)) (hW : ∀ i, W i = ((w g (i 1).val (i 2).val : ℝ) : EReal))
    (hb : ∀ i, b i = ((bs g (i 0).val : ℝ) : EReal)) (hD : ∀ i, D i = ((dg (i 0).val (off + (i 1).val) : ℝ) : EReal)) (i : S128x256.Idx) :
    duT off hs L W b D i = ((dg (i 0).val (off + (i 1).val)
      * ((∑ s : Fin 128, wm w g (i 0).val s * vln z lg lb s (off + (i 1).val)) + bs g (i 0).val) : ℝ) : EReal) := by
  unfold duT
  pointwise
  simp only [wm_at hW, vlT_at hL, hb, hD, ← EReal.coe_mul, sum_coe]
  rw [← EReal.coe_add, ← EReal.coe_mul]
  rfl

theorem dbT_at (hA : ∀ i, A i = ((U z (i 0).val (i 1).val : ℝ) : EReal)) (hD : ∀ i, D i = ((dg (i 0).val (off + (i 1).val) : ℝ) : EReal))
    (P : Vec Ideal S128x1 .f32) (i : S128x1.Idx) :
    dbT off hs A D P i = P i + ((∑ d : Fin 256, ds z dg (i 0).val (off + d) : ℝ) : EReal) := by
  unfold dbT
  pointwise
  simp only [dsT_at hA hD, sum_coe]
  rfl

theorem dwT_at (hA : ∀ i, A i = ((U z (i 0).val (i 1).val : ℝ) : EReal)) (hL : ∀ i, L i = ((vln z lg lb (i 0).val (i 1).val : ℝ) : EReal))
    (hD : ∀ i, D i = ((dg (i 0).val (off + (i 1).val) : ℝ) : EReal)) (P : Vec Ideal S1x128x128 .f32) (i : S1x128x128.Idx) :
    dwT off hs A L D P i = P i + ((if (i 2).val ≤ (i 1).val then
      ∑ d : Fin 256, ds z dg (i 1).val (off + d) * vln z lg lb (i 2).val (off + d) else 0 : ℝ) : EReal) := by
  unfold dwT k0_pay20 k0_pay19
  pointwise
  rw [select_mask]
  simp only [dsT_at hA hD, vlT_at hL, ← EReal.coe_mul, sum_coe]
  show P i + (if (i 2).val ≤ (i 1).val then _ else _) = _
  split_ifs <;> rfl

theorem dvT_at (hA : ∀ i, A i = ((U z (i 0).val (i 1).val : ℝ) : EReal)) (hW : ∀ i, W i = ((w g (i 1).val (i 2).val : ℝ) : EReal))
    (hD : ∀ i, D i = ((dg (i 0).val (off + (i 1).val) : ℝ) : EReal)) (i : S128x256.Idx) :
    dvT off hs A W D i = ((∑ t : Fin 128, ds z dg t (off + (i 1).val) * wm w g t (i 0).val : ℝ) : EReal) := by
  unfold dvT k0_pay21
  pointwise
  simp only [dsT_at hA hD, wm_at hW, ← EReal.coe_mul, sum_coe]
  refine congrArg _ (Finset.sum_congr rfl fun t _ => ?_)
  rw [mul_comm]
  rfl

/-- The gradient of the layer norm's offset: the block's rows summed onto what the output held. -/
theorem pay81_at {f : ℕ → ℕ → ℝ} {B : Vec Ideal S128x2048 .f32} (hB : ∀ i, B i = ((f (i 0).val (i 1).val : ℝ) : EReal)) (P : Vec Ideal S1x2048 .f32)
    (i : S1x2048.Idx) : k0_pay81 B P i = P i + ((∑ r : Fin 128, f r (i 1).val : ℝ) : EReal) := by
  unfold k0_pay81
  pointwise
  simp only [hB, sum_coe]
  rfl

/-- The gradient of the layer norm's gain. -/
theorem pay82_at {f h : ℕ → ℕ → ℝ} {B : Vec Ideal S128x2048 .f32} {X : FVec Ideal S128x2048 .f32} (hB : ∀ i, B i = ((f (i 0).val (i 1).val : ℝ) : EReal))
    (hX : ∀ i, X i = ((h (i 0).val (i 1).val : ℝ) : EReal)) (P : Vec Ideal S1x2048 .f32)
    (i : S1x2048.Idx) : k0_pay82 X B P i = P i + ((∑ r : Fin 128, h r (i 1).val * f r (i 1).val : ℝ) : EReal) := by
  unfold k0_pay82
  pointwise
  simp only [hB, hX, ← EReal.coe_mul, sum_coe]
  exact congrArg (fun a : ℝ => P i + ((a : ℝ) : EReal)) (Finset.sum_congr rfl fun k _ => mul_comm _ _)

/-- The cotangent of the second half. -/
theorem pay84_at {a : FVec Ideal S128x1 .f32} {X B : FVec Ideal S128x2048 .f32} (ha : ∀ i, a i = ((rs z (i 0).val : ℝ) : EReal))
    (hX : ∀ i, X i = ((xh z (i 0).val (i 1).val : ℝ) : EReal)) (hB : ∀ i, B i = ((dvh z dg lg w (i 0).val (i 1).val : ℝ) : EReal)) (i : S128x2048.Idx) :
    k0_pay84 a X B i = ((dv z dg lg w (i 0).val (i 1).val : ℝ) : EReal) := by
  unfold k0_pay84
  pointwise
  simp only [ha, hB, hX, bits_2048, ← EReal.coe_mul, sum_coe]
  rw [div_real _ (by norm_num), div_real _ (by norm_num), ← EReal.coe_sub, ← EReal.coe_mul, ← EReal.coe_sub, ← EReal.coe_mul]
  rfl

/-- The first half of the result. -/
theorem pay85_at {f h : ℕ → ℕ → ℝ} {x B : Vec Ideal S128x2048 .f32} (hx : ∀ i, x i = ((h (i 0).val (i 1).val : ℝ) : EReal))
    (hB : ∀ i, B i = ((f (i 0).val (i 1).val : ℝ) : EReal)) (i : S128x2048.Idx) :
    k0_pay85 x B i = ((geluD (h (i 0).val (i 1).val) * f (i 0).val (i 1).val : ℝ) : EReal) := by
  unfold k0_pay85
  pointwise
  simp only [named_sqrt_half, named_inv_sqrt, hx, hB, one_real, bits_half, bits_neg_half, geluD_kernel]
  rw [← EReal.coe_mul, mul_comm]

/-- The second half of the result. -/
theorem pay1_at {f h : ℕ → ℕ → ℝ} {x B : Vec Ideal S128x2048 .f32} (hx : ∀ i, x i = ((h (i 0).val (i 1).val : ℝ) : EReal))
    (hB : ∀ i, B i = ((f (i 0).val (i 1).val : ℝ) : EReal)) (i : S128x2048.Idx) :
    k0_pay1 x B (k0_pay86 x) k0_pay87 i = ((geluD (h (i 0).val (i 1).val) * f (i 0).val (i 1).val : ℝ) : EReal) :=
  pay85_at hx hB i

/-- The cotangent of the normalised row. -/
theorem pay83_at {f : ℕ → ℕ → ℝ} {g : Vec Ideal S1x2048 .f32} {B : Vec Ideal S128x2048 .f32} (hg : ∀ i, g i = ((lg (i 1).val : ℝ) : EReal))
    (hB : ∀ i, B i = ((f (i 0).val (i 1).val : ℝ) : EReal)) (i : S128x2048.Idx) :
    k0_pay83 g B i = ((f (i 0).val (i 1).val * lg (i 1).val : ℝ) : EReal) := by
  unfold k0_pay83
  pointwise
  rw [hg, hB, ← EReal.coe_mul]
  rfl

end Cert.GateBwdIdeal.Gen
-- ==== Proof.GateBlocks.lean ====
/- The gate kernel's blocks: what each input window's block holds at a grid point in terms of the arguments, and what
   the two scratch arrays read back as: the cotangents of the first half and of the layer norm's result, the chunk's
   rows counted from its first. -/
module

public import proofs.«01_k».proof.Proof.GateTiles
public import Idealize.ShloMosaic.Lib.Claim

@[expose] public section

set_option maxRecDepth 16384

open Idealize.ShloMosaic Idealize.ShloMosaic.TcCoe Idealize.SL.Sem
open Idealize.ShloMosaic.Pipeline (Dat)
open Idealize.ShloMosaic.ValueIdx
open Cert.GateMath

noncomputable section

namespace Cert.GateBwdIdeal.Gen

open GateBwdIdeal

/-- Rows counted from row `n`. -/
def sh (n : ℕ) (f : ℕ → ℕ → ℝ) : ℕ → ℕ → ℝ := fun r e => f (n + r) e

variable (m : (ℓ : Loc nD τ sig) → Buf (Elt Ideal) ℓ)

/-- The arguments on core `c` hold real numbers, those the given functions name. -/
structure Holds (c : Dev nD) (z dg : ℕ → ℕ → ℝ) (lg lb : ℕ → ℝ) (w : ℕ → ℕ → ℕ → ℝ) (bs : ℕ → ℕ → ℝ) : Prop where
  h0 : ∀ i : S2048x4096.Idx, m ((c : Thread nD τ).loc main_arg0) i = ((z (i 0).val (i 1).val : ℝ) : EReal)
  h1 : ∀ i : S2048x2048.Idx, m ((c : Thread nD τ).loc main_arg1) i = ((dg (i 0).val (i 1).val : ℝ) : EReal)
  h2 : ∀ i : S1x2048.Idx, m ((c : Thread nD τ).loc main_arg2) i = ((lg (i 1).val : ℝ) : EReal)
  h3 : ∀ i : S1x2048.Idx, m ((c : Thread nD τ).loc main_arg3) i = ((lb (i 1).val : ℝ) : EReal)
  h4 : ∀ i : S8x128x128.Idx, m ((c : Thread nD τ).loc main_arg4) i = ((w (i 0).val (i 1).val (i 2).val : ℝ) : EReal)
  h5 : ∀ i : S8x128.Idx, m ((c : Thread nD τ).loc main_arg5) i = ((bs (i 0).val (i 1).val : ℝ) : EReal)

/-- Where every window's block lies at a grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

variable {m} {c : Dev nD} {z dg : ℕ → ℕ → ℝ} {lg lb : ℕ → ℝ} {w : ℕ → ℕ → ℕ → ℝ} {bs : ℕ → ℕ → ℝ}
  (H : Holds m c z dg lg lb w bs) (t : Fin cfg0.N)

include H

theorem blk0 (i : S128x4096.Idx) : iblk m c 0 t i = ((sh (128 * t.val) z (i 0).val (i 1).val : ℝ) : EReal) := by
  have ht : t.val < 16 := t.isLt
  have h0 : (i 0).val < 128 := (i 0).isLt
  have e : iblk m c 0 t i = m ((c : Thread nD τ).loc main_arg0) (Idealize.ShloMosaic.ix2 (⟨128 * t.val + (i 0).val, by omega⟩ : Fin 2048) (i 1 : Fin 4096)) := by
    blk_point [iblk, V, idx t]
  rw [e, H.h0]
  rfl

theorem blk1 (i : S128x2048.Idx) : iblk m c 1 t i = ((sh (128 * t.val) dg (i 0).val (i 1).val : ℝ) : EReal) := by
  have ht : t.val < 16 := t.isLt
  have h0 : (i 0).val < 128 := (i 0).isLt
  have e : iblk m c 1 t i = m ((c : Thread nD τ).loc main_arg1) (Idealize.ShloMosaic.ix2 (⟨128 * t.val + (i 0).val, by omega⟩ : Fin 2048) (i 1 : Fin 2048)) := by
    blk_point [iblk, V, idx t]
  rw [e, H.h1]
  rfl

theorem blk2 (i : S1x2048.Idx) : iblk m c 2 t i = ((lg (i 1).val : ℝ) : EReal) := by
  have e : iblk m c 2 t i = m ((c : Thread nD τ).loc main_arg2) i := by
    blk_point [iblk, V, idx t]
  rw [e, H.h2]

theorem blk3 (i : S1x2048.Idx) : iblk m c 3 t i = ((lb (i 1).val : ℝ) : EReal) := by
  have e : iblk m c 3 t i = m ((c : Thread nD τ).loc main_arg3) i := by
    blk_point [iblk, V, idx t]
  rw [e, H.h3]

theorem blk4 (i : S8x128x128.Idx) : iblk m c 4 t i = ((w (i 0).val (i 1).val (i 2).val : ℝ) : EReal) := by
  have e : iblk m c 4 t i = m ((c : Thread nD τ).loc main_arg4) i := by
    blk_point [iblk, V, idx t]
  rw [e, H.h4]

theorem blk5 (i : S128x8.Idx) : iblk m c 5 t i = ((bs (i 1).val (i 0).val : ℝ) : EReal) := by
  have e : iblk m c 5 t i = m ((c : Thread nD τ).loc main_arg5) (Idealize.ShloMosaic.ix2 (i 1 : Fin 8) (i 0 : Fin 128)) := by
    unfold iblk
    entry_read
    generalize hW : (transpose S128x8 [1, 0] (m (c, Proc.tc.devRef main_arg5)) transposes_S8x128_S128x8_1_0) = W
    have e0 : View.read (Elt Ideal) ((cfg0.win 5).blk t).view W i = W i := by
      show W _ = W _
      blk_ext [idx t]
    rw [e0, ← hW]
    pointwise
  rw [e, H.h5]
  rfl

/-! ## Loads of a group's part of a block -/

theorem ldz (off : ℕ) (inb) (i : S128x2048.Idx) :
    View.ld (iblk m c 0 t) (Rect.unit ![0, off] ![128, 2048] inb) i = ((sh (128 * t.val) z (i 0).val (off + (i 1).val) : ℝ) : EReal) := by
  rw [View.ld_apply, blk0 H t]
  simp [Rect.idx_unit_val]

theorem ldd (off : ℕ) (inb) (i : S128x256.Idx) :
    View.ld (iblk m c 1 t) (Rect.unit ![0, off] ![128, 256] inb) i = ((sh (128 * t.val) dg (i 0).val (off + (i 1).val) : ℝ) : EReal) := by
  rw [View.ld_apply, blk1 H t]
  simp [Rect.idx_unit_val]

theorem ldw (g : ℕ) (inb) (i : S1x128x128.Idx) :
    View.ld (iblk m c 4 t) (Rect.unit ![g, 0, 0] ![1, 128, 128] inb) i = ((w g (i 1).val (i 2).val : ℝ) : EReal) := by
  rw [View.ld_apply, blk4 H t]
  have h0 : (i 0).val < 1 := (i 0).isLt
  simp [Rect.idx_unit_val]

theorem ldb (g : ℕ) (inb) (i : S128x1.Idx) :
    View.ld (iblk m c 5 t) (Rect.unit ![0, g] ![128, 1] inb) i = ((bs g (i 0).val : ℝ) : EReal) := by
  rw [View.ld_apply, blk5 H t]
  have h0 : (i 1).val < 1 := (i 1).isLt
  simp [Rect.idx_unit_val]

omit H

/-! ## Eight blocks of lanes side by side -/

theorem piece_lane {f : ℕ → ℕ → ℝ} {off : ℕ} {inb} {p : FVec Ideal S128x256 .f32} (hp : ∀ x, p x = ((f (x 0).val (off + (x 1).val) : ℝ) : EReal)) :
    ∀ x : (Rect.unit (s := S128x2048) ![0, off] ![128, 256] inb).shape.Idx,
      p x = (fun i : S128x2048.Idx => ((f (i 0).val (i 1).val : ℝ) : EReal)) ((Rect.unit (s := S128x2048) ![0, off] ![128, 256] inb).emb x) := by
  intro x
  rw [hp]
  show _ = ((f (0 + 1 * (x 0).val) (off + 1 * (x 1).val) : ℝ) : EReal)
  rw [one_mul, one_mul, zero_add]

theorem canon_lanes (f : ℕ → ℕ → ℝ) {p0 p1 p2 p3 p4 p5 p6 p7 : FVec Ideal S128x256 .f32}
    (h0 : ∀ x, p0 x = ((f (x 0).val (0 + (x 1).val) : ℝ) : EReal)) (h1 : ∀ x, p1 x = ((f (x 0).val (256 + (x 1).val) : ℝ) : EReal))
    (h2 : ∀ x, p2 x = ((f (x 0).val (512 + (x 1).val) : ℝ) : EReal)) (h3 : ∀ x, p3 x = ((f (x 0).val (768 + (x 1).val) : ℝ) : EReal))
    (h4 : ∀ x, p4 x = ((f (x 0).val (1024 + (x 1).val) : ℝ) : EReal)) (h5 : ∀ x, p5 x = ((f (x 0).val (1280 + (x 1).val) : ℝ) : EReal))
    (h6 : ∀ x, p6 x = ((f (x 0).val (1536 + (x 1).val) : ℝ) : EReal)) (h7 : ∀ x, p7 x = ((f (x 0).val (1792 + (x 1).val) : ℝ) : EReal))
    (y : S128x2048.Idx) :
    View.canon (Val := Elt Ideal) (e := .f32) [⟨Rect.unit ![0, 1792] ![128, 256] inb_S128x2048_S128x256_0_1792, p7⟩,
      ⟨Rect.unit ![0, 1536] ![128, 256] inb_S128x2048_S128x256_0_1536, p6⟩,
      ⟨Rect.unit ![0, 1280] ![128, 256] inb_S128x2048_S128x256_0_1280, p5⟩,
      ⟨Rect.unit ![0, 1024] ![128, 256] inb_S128x2048_S128x256_0_1024, p4⟩,
      ⟨Rect.unit ![0, 768] ![128, 256] inb_S128x2048_S128x256_0_768, p3⟩,
      ⟨Rect.unit ![0, 512] ![128, 256] inb_S128x2048_S128x256_0_512, p2⟩,
      ⟨Rect.unit ![0, 256] ![128, 256] inb_S128x2048_S128x256_0_256, p1⟩,
      ⟨Rect.unit ![0, 0] ![128, 256] inb_S128x2048_S128x256_0_0, p0⟩] y = ((f (y 0).val (y 1).val : ℝ) : EReal) := by
  have e := View.canon_append_of_piecesOf (Val := Elt Ideal) (e := .f32) (fun i : S128x2048.Idx => ((f (i 0).val (i 1).val : ℝ) : EReal)) []
    [⟨Rect.unit ![0, 1792] ![128, 256] inb_S128x2048_S128x256_0_1792, p7⟩,
      ⟨Rect.unit ![0, 1536] ![128, 256] inb_S128x2048_S128x256_0_1536, p6⟩,
      ⟨Rect.unit ![0, 1280] ![128, 256] inb_S128x2048_S128x256_0_1280, p5⟩,
      ⟨Rect.unit ![0, 1024] ![128, 256] inb_S128x2048_S128x256_0_1024, p4⟩,
      ⟨Rect.unit ![0, 768] ![128, 256] inb_S128x2048_S128x256_0_768, p3⟩,
      ⟨Rect.unit ![0, 512] ![128, 256] inb_S128x2048_S128x256_0_512, p2⟩,
      ⟨Rect.unit ![0, 256] ![128, 256] inb_S128x2048_S128x256_0_256, p1⟩,
      ⟨Rect.unit ![0, 0] ![128, 256] inb_S128x2048_S128x256_0_0, p0⟩]
    ⟨piece_lane (inb := inb_S128x2048_S128x256_0_1792) h7, piece_lane (inb := inb_S128x2048_S128x256_0_1536) h6, piece_lane (inb := inb_S128x2048_S128x256_0_1280) h5, piece_lane (inb := inb_S128x2048_S128x256_0_1024) h4, piece_lane (inb := inb_S128x2048_S128x256_0_768) h3, piece_lane (inb := inb_S128x2048_S128x256_0_512) h2, piece_lane (inb := inb_S128x2048_S128x256_0_256) h1, piece_lane (inb := inb_S128x2048_S128x256_0_0) h0, trivial⟩ y
    (View.cover_of_tiledL _ ![128, 256] (by sl_kernel_rfl) y)
  rwa [List.append_nil] at e

theorem piece_sq {f : ℕ → ℕ → ℕ → ℝ} {g : ℕ} {inb} {p : FVec Ideal S1x128x128 .f32} (hp : ∀ x, p x = ((f g (x 1).val (x 2).val : ℝ) : EReal)) :
    ∀ x : (Rect.unit (s := S8x128x128) ![g, 0, 0] ![1, 128, 128] inb).shape.Idx,
      p x = (fun i : S8x128x128.Idx => ((f (i 0).val (i 1).val (i 2).val : ℝ) : EReal)) ((Rect.unit (s := S8x128x128) ![g, 0, 0] ![1, 128, 128] inb).emb x) := by
  intro x
  rw [hp]
  have h0 : (x 0).val = 0 := by have : (x 0).val < 1 := (x 0).isLt; omega
  show _ = ((f (g + 1 * (x 0).val) (0 + 1 * (x 1).val) (0 + 1 * (x 2).val) : ℝ) : EReal)
  rw [one_mul, one_mul, one_mul, zero_add, zero_add, h0, add_zero]

theorem piece_col {f : ℕ → ℕ → ℝ} {g : ℕ} {inb} {p : FVec Ideal S128x1 .f32} (hp : ∀ x, p x = ((f (x 0).val g : ℝ) : EReal)) :
    ∀ x : (Rect.unit (s := S128x8) ![0, g] ![128, 1] inb).shape.Idx,
      p x = (fun i : S128x8.Idx => ((f (i 0).val (i 1).val : ℝ) : EReal)) ((Rect.unit (s := S128x8) ![0, g] ![128, 1] inb).emb x) := by
  intro x
  rw [hp]
  have h0 : (x 1).val = 0 := by have : (x 1).val < 1 := (x 1).isLt; omega
  show _ = ((f (0 + 1 * (x 0).val) (g + 1 * (x 1).val) : ℝ) : EReal)
  rw [one_mul, one_mul, zero_add, h0, add_zero]

/-- Eight squares stored over an earlier store. -/
theorem canon_squares (f : ℕ → ℕ → ℕ → ℝ) {p0 p1 p2 p3 p4 p5 p6 p7 : FVec Ideal S1x128x128 .f32} (L' : List (View.Piece (Elt Ideal) S8x128x128 .f32))
    (h0 : ∀ x, p0 x = ((f 0 (x 1).val (x 2).val : ℝ) : EReal))
    (h1 : ∀ x, p1 x = ((f 1 (x 1).val (x 2).val : ℝ) : EReal))
    (h2 : ∀ x, p2 x = ((f 2 (x 1).val (x 2).val : ℝ) : EReal))
    (h3 : ∀ x, p3 x = ((f 3 (x 1).val (x 2).val : ℝ) : EReal))
    (h4 : ∀ x, p4 x = ((f 4 (x 1).val (x 2).val : ℝ) : EReal))
    (h5 : ∀ x, p5 x = ((f 5 (x 1).val (x 2).val : ℝ) : EReal))
    (h6 : ∀ x, p6 x = ((f 6 (x 1).val (x 2).val : ℝ) : EReal))
    (h7 : ∀ x, p7 x = ((f 7 (x 1).val (x 2).val : ℝ) : EReal))
    (y : S8x128x128.Idx) :
    View.canon ([⟨Rect.unit ![7, 0, 0] ![1, 128, 128] inb_S8x128x128_S1x128x128_7_0_0, p7⟩,
      ⟨Rect.unit ![6, 0, 0] ![1, 128, 128] inb_S8x128x128_S1x128x128_6_0_0, p6⟩,
      ⟨Rect.unit ![5, 0, 0] ![1, 128, 128] inb_S8x128x128_S1x128x128_5_0_0, p5⟩,
      ⟨Rect.unit ![4, 0, 0] ![1, 128, 128] inb_S8x128x128_S1x128x128_4_0_0, p4⟩,
      ⟨Rect.unit ![3, 0, 0] ![1, 128, 128] inb_S8x128x128_S1x128x128_3_0_0, p3⟩,
      ⟨Rect.unit ![2, 0, 0] ![1, 128, 128] inb_S8x128x128_S1x128x128_2_0_0, p2⟩,
      ⟨Rect.unit ![1, 0, 0] ![1, 128, 128] inb_S8x128x128_S1x128x128_1_0_0, p1⟩,
      ⟨Rect.unit ![0, 0, 0] ![1, 128, 128] inb_S8x128x128_S1x128x128_0_0_0, p0⟩] ++ L') y = ((f (y 0).val (y 1).val (y 2).val : ℝ) : EReal) :=
  View.canon_append_of_piecesOf (fun i : S8x128x128.Idx => ((f (i 0).val (i 1).val (i 2).val : ℝ) : EReal)) L'
    [⟨Rect.unit ![7, 0, 0] ![1, 128, 128] inb_S8x128x128_S1x128x128_7_0_0, p7⟩,
      ⟨Rect.unit ![6, 0, 0] ![1, 128, 128] inb_S8x128x128_S1x128x128_6_0_0, p6⟩,
      ⟨Rect.unit ![5, 0, 0] ![1, 128, 128] inb_S8x128x128_S1x128x128_5_0_0, p5⟩,
      ⟨Rect.unit ![4, 0, 0] ![1, 128, 128] inb_S8x128x128_S1x128x128_4_0_0, p4⟩,
      ⟨Rect.unit ![3, 0, 0] ![1, 128, 128] inb_S8x128x128_S1x128x128_3_0_0, p3⟩,
      ⟨Rect.unit ![2, 0, 0] ![1, 128, 128] inb_S8x128x128_S1x128x128_2_0_0, p2⟩,
      ⟨Rect.unit ![1, 0, 0] ![1, 128, 128] inb_S8x128x128_S1x128x128_1_0_0, p1⟩,
      ⟨Rect.unit ![0, 0, 0] ![1, 128, 128] inb_S8x128x128_S1x128x128_0_0_0, p0⟩]
    ⟨piece_sq (inb := inb_S8x128x128_S1x128x128_7_0_0) h7, piece_sq (inb := inb_S8x128x128_S1x128x128_6_0_0) h6, piece_sq (inb := inb_S8x128x128_S1x128x128_5_0_0) h5, piece_sq (inb := inb_S8x128x128_S1x128x128_4_0_0) h4, piece_sq (inb := inb_S8x128x128_S1x128x128_3_0_0) h3, piece_sq (inb := inb_S8x128x128_S1x128x128_2_0_0) h2, piece_sq (inb := inb_S8x128x128_S1x128x128_1_0_0) h1, piece_sq (inb := inb_S8x128x128_S1x128x128_0_0_0) h0, trivial⟩ y
    (View.cover_of_tiledL _ ![1, 128, 128] (by sl_kernel_rfl) y)

/-- Eight columns stored over an earlier store. -/
theorem canon_columns (f : ℕ → ℕ → ℝ) {p0 p1 p2 p3 p4 p5 p6 p7 : FVec Ideal S128x1 .f32} (L' : List (View.Piece (Elt Ideal) S128x8 .f32))
    (h0 : ∀ x, p0 x = ((f (x 0).val 0 : ℝ) : EReal))
    (h1 : ∀ x, p1 x = ((f (x 0).val 1 : ℝ) : EReal))
    (h2 : ∀ x, p2 x = ((f (x 0).val 2 : ℝ) : EReal))
    (h3 : ∀ x, p3 x = ((f (x 0).val 3 : ℝ) : EReal))
    (h4 : ∀ x, p4 x = ((f (x 0).val 4 : ℝ) : EReal))
    (h5 : ∀ x, p5 x = ((f (x 0).val 5 : ℝ) : EReal))
    (h6 : ∀ x, p6 x = ((f (x 0).val 6 : ℝ) : EReal))
    (h7 : ∀ x, p7 x = ((f (x 0).val 7 : ℝ) : EReal))
    (y : S128x8.Idx) :
    View.canon ([⟨Rect.unit ![0, 7] ![128, 1] inb_S128x8_S128x1_0_7, p7⟩,
      ⟨Rect.unit ![0, 6] ![128, 1] inb_S128x8_S128x1_0_6, p6⟩,
      ⟨Rect.unit ![0, 5] ![128, 1] inb_S128x8_S128x1_0_5, p5⟩,
      ⟨Rect.unit ![0, 4] ![128, 1] inb_S128x8_S128x1_0_4, p4⟩,
      ⟨Rect.unit ![0, 3] ![128, 1] inb_S128x8_S128x1_0_3, p3⟩,
      ⟨Rect.unit ![0, 2] ![128, 1] inb_S128x8_S128x1_0_2, p2⟩,
      ⟨Rect.unit ![0, 1] ![128, 1] inb_S128x8_S128x1_0_1, p1⟩,
      ⟨Rect.unit ![0, 0] ![128, 1] inb_S128x8_S128x1_0_0, p0⟩] ++ L') y = ((f (y 0).val (y 1).val : ℝ) : EReal) :=
  View.canon_append_of_piecesOf (fun i : S128x8.Idx => ((f (i 0).val (i 1).val : ℝ) : EReal)) L'
    [⟨Rect.unit ![0, 7] ![128, 1] inb_S128x8_S128x1_0_7, p7⟩,
      ⟨Rect.unit ![0, 6] ![128, 1] inb_S128x8_S128x1_0_6, p6⟩,
      ⟨Rect.unit ![0, 5] ![128, 1] inb_S128x8_S128x1_0_5, p5⟩,
      ⟨Rect.unit ![0, 4] ![128, 1] inb_S128x8_S128x1_0_4, p4⟩,
      ⟨Rect.unit ![0, 3] ![128, 1] inb_S128x8_S128x1_0_3, p3⟩,
      ⟨Rect.unit ![0, 2] ![128, 1] inb_S128x8_S128x1_0_2, p2⟩,
      ⟨Rect.unit ![0, 1] ![128, 1] inb_S128x8_S128x1_0_1, p1⟩,
      ⟨Rect.unit ![0, 0] ![128, 1] inb_S128x8_S128x1_0_0, p0⟩]
    ⟨piece_col (inb := inb_S128x8_S128x1_0_7) h7, piece_col (inb := inb_S128x8_S128x1_0_6) h6, piece_col (inb := inb_S128x8_S128x1_0_5) h5, piece_col (inb := inb_S128x8_S128x1_0_4) h4, piece_col (inb := inb_S128x8_S128x1_0_3) h3, piece_col (inb := inb_S128x8_S128x1_0_2) h2, piece_col (inb := inb_S128x8_S128x1_0_1) h1, piece_col (inb := inb_S128x8_S128x1_0_0) h0, trivial⟩ y
    (View.cover_of_tiledL _ ![128, 1] (by sl_kernel_rfl) y)

/-! ## The stages of one chunk -/

variable (m c)

/-- The activated first half of the chunk. -/
def gu : FVec Ideal S128x2048 .f32 := k0_pay6 (View.ld (iblk m c 0 t) (Rect.unit ![0, 0] ![128, 2048] inb_S128x4096_S128x2048_0_0))
/-- The activated second half less its row means. -/
def xcb : FVec Ideal S128x2048 .f32 := k0_pay7 (View.ld (iblk m c 0 t) (Rect.unit ![0, 2048] ![128, 2048] inb_S128x4096_S128x2048_0_2048))
/-- The reciprocal deviations of the chunk's rows. -/
def rsb : FVec Ideal S128x1 .f32 := k0_pay8 (View.ld (iblk m c 0 t) (Rect.unit ![0, 2048] ![128, 2048] inb_S128x4096_S128x2048_0_2048))
/-- The layer norm's result on the chunk. -/
def vlb : FVec Ideal S128x2048 .f32 := k0_pay10 (iblk m c 2 t) (iblk m c 3 t) (xcb m c t) (rsb m c t)

variable {m c}

include H

theorem gu_at (i : S128x2048.Idx) : gu m c t i = ((U (sh (128 * t.val) z) (i 0).val (i 1).val : ℝ) : EReal) :=
  pay6_at (fun i => by rw [ldz H t, zero_add]) i

theorem xcb_at (i : S128x2048.Idx) : xcb m c t i = ((xc (sh (128 * t.val) z) (i 0).val (i 1).val : ℝ) : EReal) :=
  pay7_at (ldz H t 2048 _) i

theorem rsb_at (i : S128x1.Idx) : rsb m c t i = ((rs (sh (128 * t.val) z) (i 0).val : ℝ) : EReal) :=
  pay8_at (ldz H t 2048 _) i

theorem xhb_at (i : S128x2048.Idx) : k0_pay9 (xcb m c t) (rsb m c t) i = ((xh (sh (128 * t.val) z) (i 0).val (i 1).val : ℝ) : EReal) :=
  pay9_at (xcb_at H t) (rsb_at H t) i

theorem vlb_at (i : S128x2048.Idx) : vlb m c t i = ((vln (sh (128 * t.val) z) lg lb (i 0).val (i 1).val : ℝ) : EReal) :=
  pay10_at (blk2 H t) (blk3 H t) (xcb_at H t) (rsb_at H t) i

/-- A group's lanes of the layer norm's cotangent. -/
theorem dv_piece (g : ℕ) (hs : S128x2048.Slices ![0, 256 * g] S128x256) (inw inb) (i : S128x256.Idx) :
    dvT (256 * g) hs (gu m c t) (View.ld (iblk m c 4 t) (Rect.unit ![g, 0, 0] ![1, 128, 128] inw)) (View.ld (iblk m c 1 t) (Rect.unit ![0, 256 * g] ![128, 256] inb)) i
      = ((dvln (sh (128 * t.val) z) (sh (128 * t.val) dg) w (i 0).val (256 * g + (i 1).val) : ℝ) : EReal) := by
  rw [dvT_at (g := g) (gu_at H t) (ldw H t g _) (ldd H t _ _)]
  have h0 : (i 0).val < 128 := (i 0).isLt
  have h1 : (i 1).val < 256 := (i 1).isLt
  have e1 : (i 0).val / 128 = 0 := by omega
  have e2 : (i 0).val % 128 = (i 0).val := by omega
  have e3 : (256 * g + (i 1).val) / 256 = g := by omega
  unfold dvln
  rw [e1, e2, e3]
  simp only [mul_zero, zero_add]

/-- A group's lanes of the first half's cotangent. -/
theorem du_piece (g : ℕ) (hs : S128x2048.Slices ![0, 256 * g] S128x256) (inw inl inb) (i : S128x256.Idx) :
    duT (256 * g) hs (vlb m c t) (View.ld (iblk m c 4 t) (Rect.unit ![g, 0, 0] ![1, 128, 128] inw)) (View.ld (iblk m c 5 t) (Rect.unit ![0, g] ![128, 1] inl))
        (View.ld (iblk m c 1 t) (Rect.unit ![0, 256 * g] ![128, 256] inb)) i
      = ((du (sh (128 * t.val) z) (sh (128 * t.val) dg) lg lb w bs (i 0).val (256 * g + (i 1).val) : ℝ) : EReal) := by
  rw [duT_at (g := g) (vlb_at H t) (ldw H t g _) (ldb H t g _) (ldd H t _ _)]
  have h0 : (i 0).val < 128 := (i 0).isLt
  have h1 : (i 1).val < 256 := (i 1).isLt
  have e1 : (i 0).val / 128 = 0 := by omega
  have e2 : (i 0).val % 128 = (i 0).val := by omega
  have e3 : (256 * g + (i 1).val) / 256 = g := by omega
  unfold du sg
  rw [e1, e2, e3]
  simp only [mul_zero, zero_add]

/-- A group's square of the weights' gradient, added to what the output held. -/
theorem dw_piece (g : ℕ) (hs : S128x2048.Slices ![0, 256 * g] S128x256) (inw inb) {P : Vec Ideal S8x128x128 .f32} {q : ℕ → ℕ → ℕ → ℝ}
    (hP : ∀ i, P i = ((q (i 0).val (i 1).val (i 2).val : ℝ) : EReal)) (i : S1x128x128.Idx) :
    dwT (256 * g) hs (gu m c t) (vlb m c t) (View.ld (iblk m c 1 t) (Rect.unit ![0, 256 * g] ![128, 256] inb)) (View.ld P (Rect.unit ![g, 0, 0] ![1, 128, 128] inw)) i
      = ((q g (i 1).val (i 2).val + (if (i 2).val ≤ (i 1).val then dwc z dg lg lb t.val g (i 1).val (i 2).val else 0) : ℝ) : EReal) := by
  rw [dwT_at (gu_at H t) (vlb_at H t) (ldd H t _ _), View.ld_apply, hP]
  have h0 : (i 0).val = 0 := by have : (i 0).val < 1 := (i 0).isLt; omega
  rw [EReal.coe_add]
  simp only [Rect.idx_unit_val, h0]
  simp
  rfl

/-- A group's column of the bias's gradient, added to what the output held. -/
theorem db_piece (g : ℕ) (hs : S128x2048.Slices ![0, 256 * g] S128x256) (inl inb) {P : Vec Ideal S128x8 .f32} {q : ℕ → ℕ → ℝ}
    (hP : ∀ i, P i = ((q (i 0).val (i 1).val : ℝ) : EReal)) (i : S128x1.Idx) :
    dbT (256 * g) hs (gu m c t) (View.ld (iblk m c 1 t) (Rect.unit ![0, 256 * g] ![128, 256] inb)) (View.ld P (Rect.unit ![0, g] ![128, 1] inl)) i
      = ((q (i 0).val g + (∑ d : Fin 256, ds z dg (128 * t.val + (i 0).val) (256 * g + d)) : ℝ) : EReal) := by
  rw [dbT_at (gu_at H t) (ldd H t _ _), View.ld_apply, hP]
  have h0 : (i 1).val = 0 := by have : (i 1).val < 1 := (i 1).isLt; omega
  rw [EReal.coe_add]
  simp only [Rect.idx_unit_val, h0]
  simp
  rfl

end Cert.GateBwdIdeal.Gen
-- ==== Proof.GateOuts.lean ====
/- What the gate kernel leaves in its output blocks at every grid point: the result's rows of that chunk, and the four
   gradients of parameters summed over the chunks so far. -/
module

public import proofs.«01_k».proof.Proof.GateBlocks

@[expose] public section

set_option maxRecDepth 16384

open Idealize.ShloMosaic Idealize.ShloMosaic.TcCoe Idealize.SL.Sem
open Idealize.ShloMosaic.Pipeline (Dat)
open Idealize.ShloMosaic.ValueIdx
open Cert.GateMath

noncomputable section

namespace Cert.GateBwdIdeal.Gen

open GateBwdIdeal

variable {m : (ℓ : Loc nD τ sig) → Buf (Elt Ideal) ℓ} {c : Dev nD} {z dg : ℕ → ℕ → ℝ} {lg lb : ℕ → ℝ} {w : ℕ → ℕ → ℕ → ℝ} {bs : ℕ → ℕ → ℝ}

theorem zero2 (i : S8x128x128.Idx) : k0_pay2 (F := Ideal) i = ((0 : ℝ) : EReal) := by
  unfold k0_pay2
  pointwise
  rfl

theorem zero3 (i : S128x8.Idx) : k0_pay3 (F := Ideal) i = ((0 : ℝ) : EReal) := by
  unfold k0_pay3
  pointwise
  rfl

theorem zero4 (i : S1x2048.Idx) : k0_pay4 (F := Ideal) i = ((0 : ℝ) : EReal) := by
  unfold k0_pay4
  pointwise
  rfl

theorem zero5 (i : S1x2048.Idx) : k0_pay5 (F := Ideal) i = ((0 : ℝ) : EReal) := by
  unfold k0_pay5
  pointwise
  rfl

/-- The weights' gradient after the first chunk. -/
theorem out7_A (H : Holds m c z dg lg lb w bs) (t : Fin cfg0.N) (h : t.val % 16 = 0) (y : S8x128x128.Idx) : (outsAt0 m c t.val t.isLt).2.1 y
    = (((0 + (if (y 2).val ≤ (y 1).val then dwc z dg lg lb t.val (y 0).val (y 1).val (y 2).val else 0)) : ℝ) : EReal) := by
  rw [outsAt0_A m c t h]
  dsimp only
  frame_open
  simp (disch := decide) only [↓ View.readCov_skip, ↓ View.readCov_cons_toLoadRect, ↓ View.readCov_fill]
  frame_out
  refine canon_squares (fun g t' s => 0 + (if s ≤ t' then dwc z dg lg lb t.val g t' s else 0)) [_] ?_ ?_ ?_ ?_ ?_ ?_ ?_ ?_ y
  · exact fun x => dw_piece (P := k0_pay2 (F := Ideal)) (q := fun _ _ _ => 0) H t 0 slices_S128x2048_o0_0_S128x256 inb_S8x128x128_S1x128x128_0_0_0 inb_S128x2048_S128x256_0_0 zero2 x
  · exact fun x => dw_piece (P := k0_pay2 (F := Ideal)) (q := fun _ _ _ => 0) H t 1 slices_S128x2048_o0_256_S128x256 inb_S8x128x128_S1x128x128_1_0_0 inb_S128x2048_S128x256_0_256 zero2 x
  · exact fun x => dw_piece (P := k0_pay2 (F := Ideal)) (q := fun _ _ _ => 0) H t 2 slices_S128x2048_o0_512_S128x256 inb_S8x128x128_S1x128x128_2_0_0 inb_S128x2048_S128x256_0_512 zero2 x
  · exact fun x => dw_piece (P := k0_pay2 (F := Ideal)) (q := fun _ _ _ => 0) H t 3 slices_S128x2048_o0_768_S128x256 inb_S8x128x128_S1x128x128_3_0_0 inb_S128x2048_S128x256_0_768 zero2 x
  · exact fun x => dw_piece (P := k0_pay2 (F := Ideal)) (q := fun _ _ _ => 0) H t 4 slices_S128x2048_o0_1024_S128x256 inb_S8x128x128_S1x128x128_4_0_0 inb_S128x2048_S128x256_0_1024 zero2 x
  · exact fun x => dw_piece (P := k0_pay2 (F := Ideal)) (q := fun _ _ _ => 0) H t 5 slices_S128x2048_o0_1280_S128x256 inb_S8x128x128_S1x128x128_5_0_0 inb_S128x2048_S128x256_0_1280 zero2 x
  · exact fun x => dw_piece (P := k0_pay2 (F := Ideal)) (q := fun _ _ _ => 0) H t 6 slices_S128x2048_o0_1536_S128x256 inb_S8x128x128_S1x128x128_6_0_0 inb_S128x2048_S128x256_0_1536 zero2 x
  · exact fun x => dw_piece (P := k0_pay2 (F := Ideal)) (q := fun _ _ _ => 0) H t 7 slices_S128x2048_o0_1792_S128x256 inb_S8x128x128_S1x128x128_7_0_0 inb_S128x2048_S128x256_0_1792 zero2 x

/-- The weights' gradient after a later chunk: what it was, plus that chunk's part. -/
theorem out7_B (H : Holds m c z dg lg lb w bs) (t : Fin cfg0.N) (h : ¬ t.val % 16 = 0) (hn) {q : ℕ → ℕ → ℕ → ℝ}
    (hq : ∀ i, (outsAt0 m c (t.val - 1) hn).2.1 i = ((q (i 0).val (i 1).val (i 2).val : ℝ) : EReal)) (y : S8x128x128.Idx) : (outsAt0 m c t.val t.isLt).2.1 y
    = (((q (y 0).val (y 1).val (y 2).val + (if (y 2).val ≤ (y 1).val then dwc z dg lg lb t.val (y 0).val (y 1).val (y 2).val else 0)) : ℝ) : EReal) := by
  rw [outsAt0_B m c t h]
  dsimp only
  frame_open
  simp (disch := decide) only [↓ View.readCov_skip, ↓ View.readCov_cons_toLoadRect, ↓ View.readCov_fill]
  frame_out
  refine canon_squares (fun g t' s => q g t' s + (if s ≤ t' then dwc z dg lg lb t.val g t' s else 0)) [] ?_ ?_ ?_ ?_ ?_ ?_ ?_ ?_ y
  · exact fun x => dw_piece (P := (outsAt0 m c (t.val - 1) hn).2.1) (q := q) H t 0 slices_S128x2048_o0_0_S128x256 inb_S8x128x128_S1x128x128_0_0_0 inb_S128x2048_S128x256_0_0 hq x
  · exact fun x => dw_piece (P := (outsAt0 m c (t.val - 1) hn).2.1) (q := q) H t 1 slices_S128x2048_o0_256_S128x256 inb_S8x128x128_S1x128x128_1_0_0 inb_S128x2048_S128x256_0_256 hq x
  · exact fun x => dw_piece (P := (outsAt0 m c (t.val - 1) hn).2.1) (q := q) H t 2 slices_S128x2048_o0_512_S128x256 inb_S8x128x128_S1x128x128_2_0_0 inb_S128x2048_S128x256_0_512 hq x
  · exact fun x => dw_piece (P := (outsAt0 m c (t.val - 1) hn).2.1) (q := q) H t 3 slices_S128x2048_o0_768_S128x256 inb_S8x128x128_S1x128x128_3_0_0 inb_S128x2048_S128x256_0_768 hq x
  · exact fun x => dw_piece (P := (outsAt0 m c (t.val - 1) hn).2.1) (q := q) H t 4 slices_S128x2048_o0_1024_S128x256 inb_S8x128x128_S1x128x128_4_0_0 inb_S128x2048_S128x256_0_1024 hq x
  · exact fun x => dw_piece (P := (outsAt0 m c (t.val - 1) hn).2.1) (q := q) H t 5 slices_S128x2048_o0_1280_S128x256 inb_S8x128x128_S1x128x128_5_0_0 inb_S128x2048_S128x256_0_1280 hq x
  · exact fun x => dw_piece (P := (outsAt0 m c (t.val - 1) hn).2.1) (q := q) H t 6 slices_S128x2048_o0_1536_S128x256 inb_S8x128x128_S1x128x128_6_0_0 inb_S128x2048_S128x256_0_1536 hq x
  · exact fun x => dw_piece (P := (outsAt0 m c (t.val - 1) hn).2.1) (q := q) H t 7 slices_S128x2048_o0_1792_S128x256 inb_S8x128x128_S1x128x128_7_0_0 inb_S128x2048_S128x256_0_1792 hq x

/-- The bias's gradient after the first chunk. -/
theorem out8_A (H : Holds m c z dg lg lb w bs) (t : Fin cfg0.N) (h : t.val % 16 = 0) (y : S128x8.Idx) : (outsAt0 m c t.val t.isLt).2.2.1 y
    = ((0 + (∑ d : Fin 256, ds z dg (128 * t.val + (y 0).val) (256 * (y 1).val + d)) : ℝ) : EReal) := by
  rw [outsAt0_A m c t h]
  dsimp only
  frame_open
  simp (disch := decide) only [↓ View.readCov_skip, ↓ View.readCov_cons_toLoadRect, ↓ View.readCov_fill]
  frame_out
  refine canon_columns (fun r g => 0 + (∑ d : Fin 256, ds z dg (128 * t.val + r) (256 * g + d))) [_] ?_ ?_ ?_ ?_ ?_ ?_ ?_ ?_ y
  · exact fun x => db_piece (P := k0_pay3 (F := Ideal)) (q := fun _ _ => 0) H t 0 slices_S128x2048_o0_0_S128x256 inb_S128x8_S128x1_0_0 inb_S128x2048_S128x256_0_0 zero3 x
  · exact fun x => db_piece (P := k0_pay3 (F := Ideal)) (q := fun _ _ => 0) H t 1 slices_S128x2048_o0_256_S128x256 inb_S128x8_S128x1_0_1 inb_S128x2048_S128x256_0_256 zero3 x
  · exact fun x => db_piece (P := k0_pay3 (F := Ideal)) (q := fun _ _ => 0) H t 2 slices_S128x2048_o0_512_S128x256 inb_S128x8_S128x1_0_2 inb_S128x2048_S128x256_0_512 zero3 x
  · exact fun x => db_piece (P := k0_pay3 (F := Ideal)) (q := fun _ _ => 0) H t 3 slices_S128x2048_o0_768_S128x256 inb_S128x8_S128x1_0_3 inb_S128x2048_S128x256_0_768 zero3 x
  · exact fun x => db_piece (P := k0_pay3 (F := Ideal)) (q := fun _ _ => 0) H t 4 slices_S128x2048_o0_1024_S128x256 inb_S128x8_S128x1_0_4 inb_S128x2048_S128x256_0_1024 zero3 x
  · exact fun x => db_piece (P := k0_pay3 (F := Ideal)) (q := fun _ _ => 0) H t 5 slices_S128x2048_o0_1280_S128x256 inb_S128x8_S128x1_0_5 inb_S128x2048_S128x256_0_1280 zero3 x
  · exact fun x => db_piece (P := k0_pay3 (F := Ideal)) (q := fun _ _ => 0) H t 6 slices_S128x2048_o0_1536_S128x256 inb_S128x8_S128x1_0_6 inb_S128x2048_S128x256_0_1536 zero3 x
  · exact fun x => db_piece (P := k0_pay3 (F := Ideal)) (q := fun _ _ => 0) H t 7 slices_S128x2048_o0_1792_S128x256 inb_S128x8_S128x1_0_7 inb_S128x2048_S128x256_0_1792 zero3 x

/-- The bias's gradient after a later chunk. -/
theorem out8_B (H : Holds m c z dg lg lb w bs) (t : Fin cfg0.N) (h : ¬ t.val % 16 = 0) (hn) {q : ℕ → ℕ → ℝ}
    (hq : ∀ i, (outsAt0 m c (t.val - 1) hn).2.2.1 i = ((q (i 0).val (i 1).val : ℝ) : EReal)) (y : S128x8.Idx) : (outsAt0 m c t.val t.isLt).2.2.1 y
    = ((q (y 0).val (y 1).val + (∑ d : Fin 256, ds z dg (128 * t.val + (y 0).val) (256 * (y 1).val + d)) : ℝ) : EReal) := by
  rw [outsAt0_B m c t h]
  dsimp only
  frame_open
  simp (disch := decide) only [↓ View.readCov_skip, ↓ View.readCov_cons_toLoadRect, ↓ View.readCov_fill]
  frame_out
  refine canon_columns (fun r g => q r g + (∑ d : Fin 256, ds z dg (128 * t.val + r) (256 * g + d))) [] ?_ ?_ ?_ ?_ ?_ ?_ ?_ ?_ y
  · exact fun x => db_piece (P := (outsAt0 m c (t.val - 1) hn).2.2.1) (q := q) H t 0 slices_S128x2048_o0_0_S128x256 inb_S128x8_S128x1_0_0 inb_S128x2048_S128x256_0_0 hq x
  · exact fun x => db_piece (P := (outsAt0 m c (t.val - 1) hn).2.2.1) (q := q) H t 1 slices_S128x2048_o0_256_S128x256 inb_S128x8_S128x1_0_1 inb_S128x2048_S128x256_0_256 hq x
  · exact fun x => db_piece (P := (outsAt0 m c (t.val - 1) hn).2.2.1) (q := q) H t 2 slices_S128x2048_o0_512_S128x256 inb_S128x8_S128x1_0_2 inb_S128x2048_S128x256_0_512 hq x
  · exact fun x => db_piece (P := (outsAt0 m c (t.val - 1) hn).2.2.1) (q := q) H t 3 slices_S128x2048_o0_768_S128x256 inb_S128x8_S128x1_0_3 inb_S128x2048_S128x256_0_768 hq x
  · exact fun x => db_piece (P := (outsAt0 m c (t.val - 1) hn).2.2.1) (q := q) H t 4 slices_S128x2048_o0_1024_S128x256 inb_S128x8_S128x1_0_4 inb_S128x2048_S128x256_0_1024 hq x
  · exact fun x => db_piece (P := (outsAt0 m c (t.val - 1) hn).2.2.1) (q := q) H t 5 slices_S128x2048_o0_1280_S128x256 inb_S128x8_S128x1_0_5 inb_S128x2048_S128x256_0_1280 hq x
  · exact fun x => db_piece (P := (outsAt0 m c (t.val - 1) hn).2.2.1) (q := q) H t 6 slices_S128x2048_o0_1536_S128x256 inb_S128x8_S128x1_0_6 inb_S128x2048_S128x256_0_1536 hq x
  · exact fun x => db_piece (P := (outsAt0 m c (t.val - 1) hn).2.2.1) (q := q) H t 7 slices_S128x2048_o0_1792_S128x256 inb_S128x8_S128x1_0_7 inb_S128x2048_S128x256_0_1792 hq x

/-- A load of the whole block reads the block itself. -/
theorem whole_idx (i : S128x2048.Idx) : (Rect.unit (s := S128x2048) ![0, 0] ![128, 2048] inb_S128x2048_S128x2048_0_0).toLoadRect.idx i = i := by
  funext a
  refine Fin.ext ?_
  fin_cases a
  · show 0 + 1 * (i 0).val = _
    simp
  · show 0 + 1 * (i 1).val = _
    simp

theorem piece_half {f : ℕ → ℕ → ℝ} {off : ℕ} {inb} {p : FVec Ideal S128x2048 .bf16} (hp : ∀ x, p x = ((f (x 0).val (off + (x 1).val) : ℝ) : EReal)) :
    ∀ x : (Rect.unit (s := S128x4096) ![0, off] ![128, 2048] inb).shape.Idx,
      p x = (fun i : S128x4096.Idx => ((f (i 0).val (i 1).val : ℝ) : EReal)) ((Rect.unit (s := S128x4096) ![0, off] ![128, 2048] inb).emb x) := by
  intro x
  rw [hp]
  show _ = ((f (0 + 1 * (x 0).val) (off + 1 * (x 1).val) : ℝ) : EReal)
  rw [one_mul, one_mul, zero_add]

/-- Two halves stored side by side. -/
theorem canon_halves (f : ℕ → ℕ → ℝ) {p0 p1 : FVec Ideal S128x2048 .bf16}
    (h0 : ∀ x, p0 x = ((f (x 0).val (0 + (x 1).val) : ℝ) : EReal)) (h1 : ∀ x, p1 x = ((f (x 0).val (2048 + (x 1).val) : ℝ) : EReal))
    (y : S128x4096.Idx) :
    View.canon (Val := Elt Ideal) (e := .bf16) [⟨Rect.unit ![0, 2048] ![128, 2048] inb_S128x4096_S128x2048_0_2048, p1⟩,
      ⟨Rect.unit ![0, 0] ![128, 2048] inb_S128x4096_S128x2048_0_0, p0⟩] y = ((f (y 0).val (y 1).val : ℝ) : EReal) := by
  have e := View.canon_append_of_piecesOf (Val := Elt Ideal) (e := .bf16) (fun i : S128x4096.Idx => ((f (i 0).val (i 1).val : ℝ) : EReal)) []
    [⟨Rect.unit ![0, 2048] ![128, 2048] inb_S128x4096_S128x2048_0_2048, p1⟩,
      ⟨Rect.unit ![0, 0] ![128, 2048] inb_S128x4096_S128x2048_0_0, p0⟩]
    ⟨piece_half (inb := inb_S128x4096_S128x2048_0_2048) h1, piece_half (inb := inb_S128x4096_S128x2048_0_0) h0, trivial⟩ y
    (View.cover_of_tiledL _ ![128, 2048] (by sl_kernel_rfl) y)
  rwa [List.append_nil] at e

/-- The gain's gradient after the first chunk. -/
theorem out9_A (H : Holds m c z dg lg lb w bs) (t : Fin cfg0.N) (h : t.val % 16 = 0) (y : S1x2048.Idx) : (outsAt0 m c t.val t.isLt).2.2.2.1 y
    = ((0 + (∑ r : Fin 128, xh (sh (128 * t.val) z) r (y 1).val * dvln (sh (128 * t.val) z) (sh (128 * t.val) dg) w r (y 1).val) : ℝ) : EReal) := by
  rw [outsAt0_A m c t h]
  dsimp only
  frame_open
  simp (disch := decide) only [↓ View.readCov_skip, ↓ View.readCov_cons_toLoadRect, ↓ View.readCov_fill]
  frame_out
  refine (pay82_at (f := dvln (sh (128 * t.val) z) (sh (128 * t.val) dg) w) (h := xh (sh (128 * t.val) z)) (fun i => ?_) (xhb_at H t) _ y).trans ?_
  ·
    rw [View.readCov_eq_canon']
    refine (canon_lanes (dvln (sh (128 * t.val) z) (sh (128 * t.val) dg) w) ?_ ?_ ?_ ?_ ?_ ?_ ?_ ?_ _).trans ?_
    · exact fun x => dv_piece H t 0 slices_S128x2048_o0_0_S128x256 inb_S8x128x128_S1x128x128_0_0_0 inb_S128x2048_S128x256_0_0 x
    · exact fun x => dv_piece H t 1 slices_S128x2048_o0_256_S128x256 inb_S8x128x128_S1x128x128_1_0_0 inb_S128x2048_S128x256_0_256 x
    · exact fun x => dv_piece H t 2 slices_S128x2048_o0_512_S128x256 inb_S8x128x128_S1x128x128_2_0_0 inb_S128x2048_S128x256_0_512 x
    · exact fun x => dv_piece H t 3 slices_S128x2048_o0_768_S128x256 inb_S8x128x128_S1x128x128_3_0_0 inb_S128x2048_S128x256_0_768 x
    · exact fun x => dv_piece H t 4 slices_S128x2048_o0_1024_S128x256 inb_S8x128x128_S1x128x128_4_0_0 inb_S128x2048_S128x256_0_1024 x
    · exact fun x => dv_piece H t 5 slices_S128x2048_o0_1280_S128x256 inb_S8x128x128_S1x128x128_5_0_0 inb_S128x2048_S128x256_0_1280 x
    · exact fun x => dv_piece H t 6 slices_S128x2048_o0_1536_S128x256 inb_S8x128x128_S1x128x128_6_0_0 inb_S128x2048_S128x256_0_1536 x
    · exact fun x => dv_piece H t 7 slices_S128x2048_o0_1792_S128x256 inb_S8x128x128_S1x128x128_7_0_0 inb_S128x2048_S128x256_0_1792 x
    · rw [whole_idx i]
  · rw [zero4, ← EReal.coe_add]

/-- The offset's gradient after the first chunk. -/
theorem out10_A (H : Holds m c z dg lg lb w bs) (t : Fin cfg0.N) (h : t.val % 16 = 0) (y : S1x2048.Idx) : (outsAt0 m c t.val t.isLt).2.2.2.2 y
    = ((0 + (∑ r : Fin 128, dvln (sh (128 * t.val) z) (sh (128 * t.val) dg) w r (y 1).val) : ℝ) : EReal) := by
  rw [outsAt0_A m c t h]
  dsimp only
  frame_open
  simp (disch := decide) only [↓ View.readCov_skip, ↓ View.readCov_cons_toLoadRect, ↓ View.readCov_fill]
  frame_out
  refine (pay81_at (f := dvln (sh (128 * t.val) z) (sh (128 * t.val) dg) w) (fun i => ?_) _ y).trans ?_
  ·
    rw [View.readCov_eq_canon']
    refine (canon_lanes (dvln (sh (128 * t.val) z) (sh (128 * t.val) dg) w) ?_ ?_ ?_ ?_ ?_ ?_ ?_ ?_ _).trans ?_
    · exact fun x => dv_piece H t 0 slices_S128x2048_o0_0_S128x256 inb_S8x128x128_S1x128x128_0_0_0 inb_S128x2048_S128x256_0_0 x
    · exact fun x => dv_piece H t 1 slices_S128x2048_o0_256_S128x256 inb_S8x128x128_S1x128x128_1_0_0 inb_S128x2048_S128x256_0_256 x
    · exact fun x => dv_piece H t 2 slices_S128x2048_o0_512_S128x256 inb_S8x128x128_S1x128x128_2_0_0 inb_S128x2048_S128x256_0_512 x
    · exact fun x => dv_piece H t 3 slices_S128x2048_o0_768_S128x256 inb_S8x128x128_S1x128x128_3_0_0 inb_S128x2048_S128x256_0_768 x
    · exact fun x => dv_piece H t 4 slices_S128x2048_o0_1024_S128x256 inb_S8x128x128_S1x128x128_4_0_0 inb_S128x2048_S128x256_0_1024 x
    · exact fun x => dv_piece H t 5 slices_S128x2048_o0_1280_S128x256 inb_S8x128x128_S1x128x128_5_0_0 inb_S128x2048_S128x256_0_1280 x
    · exact fun x => dv_piece H t 6 slices_S128x2048_o0_1536_S128x256 inb_S8x128x128_S1x128x128_6_0_0 inb_S128x2048_S128x256_0_1536 x
    · exact fun x => dv_piece H t 7 slices_S128x2048_o0_1792_S128x256 inb_S8x128x128_S1x128x128_7_0_0 inb_S128x2048_S128x256_0_1792 x
    · rw [whole_idx i]
  · rw [zero5, ← EReal.coe_add]

/-- The result's rows of a chunk. -/
theorem out6_A (H : Holds m c z dg lg lb w bs) (t : Fin cfg0.N) (h : t.val % 16 = 0) (y : S128x4096.Idx) : (outsAt0 m c t.val t.isLt).1 y
    = ((dz (sh (128 * t.val) z) (sh (128 * t.val) dg) lg lb w bs (y 0).val (y 1).val : ℝ) : EReal) := by
  rw [outsAt0_A m c t h]
  dsimp only
  frame_open
  simp (disch := decide) only [↓ View.readCov_skip, ↓ View.readCov_cons_toLoadRect, ↓ View.readCov_fill]
  frame_out
  refine canon_halves (dz (sh (128 * t.val) z) (sh (128 * t.val) dg) lg lb w bs) ?_ ?_ y
  · intro x
    refine (pay85_at (h := sh (128 * t.val) z) (f := du (sh (128 * t.val) z) (sh (128 * t.val) dg) lg lb w bs) (fun i => by rw [ldz H t, zero_add]) (fun i => ?_) x).trans ?_
    ·
      rw [View.readCov_eq_canon']
      refine (canon_lanes (du (sh (128 * t.val) z) (sh (128 * t.val) dg) lg lb w bs) ?_ ?_ ?_ ?_ ?_ ?_ ?_ ?_ _).trans ?_
      · exact fun x => du_piece H t 0 slices_S128x2048_o0_0_S128x256 inb_S8x128x128_S1x128x128_0_0_0 inb_S128x8_S128x1_0_0 inb_S128x2048_S128x256_0_0 x
      · exact fun x => du_piece H t 1 slices_S128x2048_o0_256_S128x256 inb_S8x128x128_S1x128x128_1_0_0 inb_S128x8_S128x1_0_1 inb_S128x2048_S128x256_0_256 x
      · exact fun x => du_piece H t 2 slices_S128x2048_o0_512_S128x256 inb_S8x128x128_S1x128x128_2_0_0 inb_S128x8_S128x1_0_2 inb_S128x2048_S128x256_0_512 x
      · exact fun x => du_piece H t 3 slices_S128x2048_o0_768_S128x256 inb_S8x128x128_S1x128x128_3_0_0 inb_S128x8_S128x1_0_3 inb_S128x2048_S128x256_0_768 x
      · exact fun x => du_piece H t 4 slices_S128x2048_o0_1024_S128x256 inb_S8x128x128_S1x128x128_4_0_0 inb_S128x8_S128x1_0_4 inb_S128x2048_S128x256_0_1024 x
      · exact fun x => du_piece H t 5 slices_S128x2048_o0_1280_S128x256 inb_S8x128x128_S1x128x128_5_0_0 inb_S128x8_S128x1_0_5 inb_S128x2048_S128x256_0_1280 x
      · exact fun x => du_piece H t 6 slices_S128x2048_o0_1536_S128x256 inb_S8x128x128_S1x128x128_6_0_0 inb_S128x8_S128x1_0_6 inb_S128x2048_S128x256_0_1536 x
      · exact fun x => du_piece H t 7 slices_S128x2048_o0_1792_S128x256 inb_S8x128x128_S1x128x128_7_0_0 inb_S128x8_S128x1_0_7 inb_S128x2048_S128x256_0_1792 x
      · rw [whole_idx i]
    · have hx : (x 1).val < 2048 := (x 1).isLt
      unfold dz
      rw [zero_add, if_pos hx]
  · intro x
    refine (pay1_at (h := fun r e => sh (128 * t.val) z r (2048 + e)) (f := dv (sh (128 * t.val) z) (sh (128 * t.val) dg) lg w) (ldz H t 2048 _)
      (pay84_at (rsb_at H t) (xhb_at H t) (fun i => (pay83_at (f := dvln (sh (128 * t.val) z) (sh (128 * t.val) dg) w) (blk2 H t) (fun i => ?_) i).trans ?_)) x).trans ?_
    ·
      rw [View.readCov_eq_canon']
      refine (canon_lanes (dvln (sh (128 * t.val) z) (sh (128 * t.val) dg) w) ?_ ?_ ?_ ?_ ?_ ?_ ?_ ?_ _).trans ?_
      · exact fun x => dv_piece H t 0 slices_S128x2048_o0_0_S128x256 inb_S8x128x128_S1x128x128_0_0_0 inb_S128x2048_S128x256_0_0 x
      · exact fun x => dv_piece H t 1 slices_S128x2048_o0_256_S128x256 inb_S8x128x128_S1x128x128_1_0_0 inb_S128x2048_S128x256_0_256 x
      · exact fun x => dv_piece H t 2 slices_S128x2048_o0_512_S128x256 inb_S8x128x128_S1x128x128_2_0_0 inb_S128x2048_S128x256_0_512 x
      · exact fun x => dv_piece H t 3 slices_S128x2048_o0_768_S128x256 inb_S8x128x128_S1x128x128_3_0_0 inb_S128x2048_S128x256_0_768 x
      · exact fun x => dv_piece H t 4 slices_S128x2048_o0_1024_S128x256 inb_S8x128x128_S1x128x128_4_0_0 inb_S128x2048_S128x256_0_1024 x
      · exact fun x => dv_piece H t 5 slices_S128x2048_o0_1280_S128x256 inb_S8x128x128_S1x128x128_5_0_0 inb_S128x2048_S128x256_0_1280 x
      · exact fun x => dv_piece H t 6 slices_S128x2048_o0_1536_S128x256 inb_S8x128x128_S1x128x128_6_0_0 inb_S128x2048_S128x256_0_1536 x
      · exact fun x => dv_piece H t 7 slices_S128x2048_o0_1792_S128x256 inb_S8x128x128_S1x128x128_7_0_0 inb_S128x2048_S128x256_0_1792 x
      · rw [whole_idx i]
    · rfl
    · unfold dz
      rw [if_neg (by omega), Nat.add_sub_cancel_left]

/-- The gain's gradient after a later chunk. -/
theorem out9_B (H : Holds m c z dg lg lb w bs) (t : Fin cfg0.N) (h : ¬ t.val % 16 = 0) (hn) {q : ℕ → ℝ}
    (hq : ∀ i, (outsAt0 m c (t.val - 1) hn).2.2.2.1 i = ((q (i 1).val : ℝ) : EReal)) (y : S1x2048.Idx) : (outsAt0 m c t.val t.isLt).2.2.2.1 y
    = ((q (y 1).val + (∑ r : Fin 128, xh (sh (128 * t.val) z) r (y 1).val * dvln (sh (128 * t.val) z) (sh (128 * t.val) dg) w r (y 1).val) : ℝ) : EReal) := by
  rw [outsAt0_B m c t h]
  dsimp only
  frame_open
  simp (disch := decide) only [↓ View.readCov_skip, ↓ View.readCov_cons_toLoadRect, ↓ View.readCov_fill]
  frame_out
  refine (pay82_at (f := dvln (sh (128 * t.val) z) (sh (128 * t.val) dg) w) (h := xh (sh (128 * t.val) z)) (fun i => ?_) (xhb_at H t) _ y).trans ?_
  ·
    rw [View.readCov_eq_canon']
    refine (canon_lanes (dvln (sh (128 * t.val) z) (sh (128 * t.val) dg) w) ?_ ?_ ?_ ?_ ?_ ?_ ?_ ?_ _).trans ?_
    · exact fun x => dv_piece H t 0 slices_S128x2048_o0_0_S128x256 inb_S8x128x128_S1x128x128_0_0_0 inb_S128x2048_S128x256_0_0 x
    · exact fun x => dv_piece H t 1 slices_S128x2048_o0_256_S128x256 inb_S8x128x128_S1x128x128_1_0_0 inb_S128x2048_S128x256_0_256 x
    · exact fun x => dv_piece H t 2 slices_S128x2048_o0_512_S128x256 inb_S8x128x128_S1x128x128_2_0_0 inb_S128x2048_S128x256_0_512 x
    · exact fun x => dv_piece H t 3 slices_S128x2048_o0_768_S128x256 inb_S8x128x128_S1x128x128_3_0_0 inb_S128x2048_S128x256_0_768 x
    · exact fun x => dv_piece H t 4 slices_S128x2048_o0_1024_S128x256 inb_S8x128x128_S1x128x128_4_0_0 inb_S128x2048_S128x256_0_1024 x
    · exact fun x => dv_piece H t 5 slices_S128x2048_o0_1280_S128x256 inb_S8x128x128_S1x128x128_5_0_0 inb_S128x2048_S128x256_0_1280 x
    · exact fun x => dv_piece H t 6 slices_S128x2048_o0_1536_S128x256 inb_S8x128x128_S1x128x128_6_0_0 inb_S128x2048_S128x256_0_1536 x
    · exact fun x => dv_piece H t 7 slices_S128x2048_o0_1792_S128x256 inb_S8x128x128_S1x128x128_7_0_0 inb_S128x2048_S128x256_0_1792 x
    · rw [whole_idx i]
  · rw [hq, ← EReal.coe_add]

/-- The offset's gradient after a later chunk. -/
theorem out10_B (H : Holds m c z dg lg lb w bs) (t : Fin cfg0.N) (h : ¬ t.val % 16 = 0) (hn) {q : ℕ → ℝ}
    (hq : ∀ i, (outsAt0 m c (t.val - 1) hn).2.2.2.2 i = ((q (i 1).val : ℝ) : EReal)) (y : S1x2048.Idx) : (outsAt0 m c t.val t.isLt).2.2.2.2 y
    = ((q (y 1).val + (∑ r : Fin 128, dvln (sh (128 * t.val) z) (sh (128 * t.val) dg) w r (y 1).val) : ℝ) : EReal) := by
  rw [outsAt0_B m c t h]
  dsimp only
  frame_open
  simp (disch := decide) only [↓ View.readCov_skip, ↓ View.readCov_cons_toLoadRect, ↓ View.readCov_fill]
  frame_out
  refine (pay81_at (f := dvln (sh (128 * t.val) z) (sh (128 * t.val) dg) w) (fun i => ?_) _ y).trans ?_
  ·
    rw [View.readCov_eq_canon']
    refine (canon_lanes (dvln (sh (128 * t.val) z) (sh (128 * t.val) dg) w) ?_ ?_ ?_ ?_ ?_ ?_ ?_ ?_ _).trans ?_
    · exact fun x => dv_piece H t 0 slices_S128x2048_o0_0_S128x256 inb_S8x128x128_S1x128x128_0_0_0 inb_S128x2048_S128x256_0_0 x
    · exact fun x => dv_piece H t 1 slices_S128x2048_o0_256_S128x256 inb_S8x128x128_S1x128x128_1_0_0 inb_S128x2048_S128x256_0_256 x
    · exact fun x => dv_piece H t 2 slices_S128x2048_o0_512_S128x256 inb_S8x128x128_S1x128x128_2_0_0 inb_S128x2048_S128x256_0_512 x
    · exact fun x => dv_piece H t 3 slices_S128x2048_o0_768_S128x256 inb_S8x128x128_S1x128x128_3_0_0 inb_S128x2048_S128x256_0_768 x
    · exact fun x => dv_piece H t 4 slices_S128x2048_o0_1024_S128x256 inb_S8x128x128_S1x128x128_4_0_0 inb_S128x2048_S128x256_0_1024 x
    · exact fun x => dv_piece H t 5 slices_S128x2048_o0_1280_S128x256 inb_S8x128x128_S1x128x128_5_0_0 inb_S128x2048_S128x256_0_1280 x
    · exact fun x => dv_piece H t 6 slices_S128x2048_o0_1536_S128x256 inb_S8x128x128_S1x128x128_6_0_0 inb_S128x2048_S128x256_0_1536 x
    · exact fun x => dv_piece H t 7 slices_S128x2048_o0_1792_S128x256 inb_S8x128x128_S1x128x128_7_0_0 inb_S128x2048_S128x256_0_1792 x
    · rw [whole_idx i]
  · rw [hq, ← EReal.coe_add]

/-- The result's rows of a chunk. -/
theorem out6_B (H : Holds m c z dg lg lb w bs) (t : Fin cfg0.N) (h : ¬ t.val % 16 = 0) (y : S128x4096.Idx) : (outsAt0 m c t.val t.isLt).1 y
    = ((dz (sh (128 * t.val) z) (sh (128 * t.val) dg) lg lb w bs (y 0).val (y 1).val : ℝ) : EReal) := by
  rw [outsAt0_B m c t h]
  dsimp only
  frame_open
  simp (disch := decide) only [↓ View.readCov_skip, ↓ View.readCov_cons_toLoadRect, ↓ View.readCov_fill]
  frame_out
  refine canon_halves (dz (sh (128 * t.val) z) (sh (128 * t.val) dg) lg lb w bs) ?_ ?_ y
  · intro x
    refine (pay85_at (h := sh (128 * t.val) z) (f := du (sh (128 * t.val) z) (sh (128 * t.val) dg) lg lb w bs) (fun i => by rw [ldz H t, zero_add]) (fun i => ?_) x).trans ?_
    ·
      rw [View.readCov_eq_canon']
      refine (canon_lanes (du (sh (128 * t.val) z) (sh (128 * t.val) dg) lg lb w bs) ?_ ?_ ?_ ?_ ?_ ?_ ?_ ?_ _).trans ?_
      · exact fun x => du_piece H t 0 slices_S128x2048_o0_0_S128x256 inb_S8x128x128_S1x128x128_0_0_0 inb_S128x8_S128x1_0_0 inb_S128x2048_S128x256_0_0 x
      · exact fun x => du_piece H t 1 slices_S128x2048_o0_256_S128x256 inb_S8x128x128_S1x128x128_1_0_0 inb_S128x8_S128x1_0_1 inb_S128x2048_S128x256_0_256 x
      · exact fun x => du_piece H t 2 slices_S128x2048_o0_512_S128x256 inb_S8x128x128_S1x128x128_2_0_0 inb_S128x8_S128x1_0_2 inb_S128x2048_S128x256_0_512 x
      · exact fun x => du_piece H t 3 slices_S128x2048_o0_768_S128x256 inb_S8x128x128_S1x128x128_3_0_0 inb_S128x8_S128x1_0_3 inb_S128x2048_S128x256_0_768 x
      · exact fun x => du_piece H t 4 slices_S128x2048_o0_1024_S128x256 inb_S8x128x128_S1x128x128_4_0_0 inb_S128x8_S128x1_0_4 inb_S128x2048_S128x256_0_1024 x
      · exact fun x => du_piece H t 5 slices_S128x2048_o0_1280_S128x256 inb_S8x128x128_S1x128x128_5_0_0 inb_S128x8_S128x1_0_5 inb_S128x2048_S128x256_0_1280 x
      · exact fun x => du_piece H t 6 slices_S128x2048_o0_1536_S128x256 inb_S8x128x128_S1x128x128_6_0_0 inb_S128x8_S128x1_0_6 inb_S128x2048_S128x256_0_1536 x
      · exact fun x => du_piece H t 7 slices_S128x2048_o0_1792_S128x256 inb_S8x128x128_S1x128x128_7_0_0 inb_S128x8_S128x1_0_7 inb_S128x2048_S128x256_0_1792 x
      · rw [whole_idx i]
    · have hx : (x 1).val < 2048 := (x 1).isLt
      unfold dz
      rw [zero_add, if_pos hx]
  · intro x
    refine (pay1_at (h := fun r e => sh (128 * t.val) z r (2048 + e)) (f := dv (sh (128 * t.val) z) (sh (128 * t.val) dg) lg w) (ldz H t 2048 _)
      (pay84_at (rsb_at H t) (xhb_at H t) (fun i => (pay83_at (f := dvln (sh (128 * t.val) z) (sh (128 * t.val) dg) w) (blk2 H t) (fun i => ?_) i).trans ?_)) x).trans ?_
    ·
      rw [View.readCov_eq_canon']
      refine (canon_lanes (dvln (sh (128 * t.val) z) (sh (128 * t.val) dg) w) ?_ ?_ ?_ ?_ ?_ ?_ ?_ ?_ _).trans ?_
      · exact fun x => dv_piece H t 0 slices_S128x2048_o0_0_S128x256 inb_S8x128x128_S1x128x128_0_0_0 inb_S128x2048_S128x256_0_0 x
      · exact fun x => dv_piece H t 1 slices_S128x2048_o0_256_S128x256 inb_S8x128x128_S1x128x128_1_0_0 inb_S128x2048_S128x256_0_256 x
      · exact fun x => dv_piece H t 2 slices_S128x2048_o0_512_S128x256 inb_S8x128x128_S1x128x128_2_0_0 inb_S128x2048_S128x256_0_512 x
      · exact fun x => dv_piece H t 3 slices_S128x2048_o0_768_S128x256 inb_S8x128x128_S1x128x128_3_0_0 inb_S128x2048_S128x256_0_768 x
      · exact fun x => dv_piece H t 4 slices_S128x2048_o0_1024_S128x256 inb_S8x128x128_S1x128x128_4_0_0 inb_S128x2048_S128x256_0_1024 x
      · exact fun x => dv_piece H t 5 slices_S128x2048_o0_1280_S128x256 inb_S8x128x128_S1x128x128_5_0_0 inb_S128x2048_S128x256_0_1280 x
      · exact fun x => dv_piece H t 6 slices_S128x2048_o0_1536_S128x256 inb_S8x128x128_S1x128x128_6_0_0 inb_S128x2048_S128x256_0_1536 x
      · exact fun x => dv_piece H t 7 slices_S128x2048_o0_1792_S128x256 inb_S8x128x128_S1x128x128_7_0_0 inb_S128x2048_S128x256_0_1792 x
      · rw [whole_idx i]
    · rfl
    · unfold dz
      rw [if_neg (by omega), Nat.add_sub_cancel_left]

end Cert.GateBwdIdeal.Gen
-- ==== Proof.GateArrays.lean ====
/- The gate kernel's five result arrays after its run, at real arguments: the gradient of the gate's input, and the
   gradients of the spatial weights, the spatial bias and the layer norm's gain and offset. -/
module

public import proofs.«01_k».proof.Proof.GateOuts

@[expose] public section

set_option maxRecDepth 16384

open Idealize.ShloMosaic Idealize.ShloMosaic.TcCoe Idealize.SL.Sem
open Idealize.ShloMosaic.Pipeline (Dat)
open Idealize.ShloMosaic.ValueIdx
open Cert.GateMath

noncomputable section

namespace Cert.GateBwdIdeal.Gen

open GateBwdIdeal

variable {m : (ℓ : Loc nD τ sig) → Buf (Elt Ideal) ℓ} {c : Dev nD} {z dg : ℕ → ℕ → ℝ} {lg lb : ℕ → ℝ} {w : ℕ → ℕ → ℕ → ℝ} {bs : ℕ → ℕ → ℝ}

/-- A chunk's cotangent of the layer norm's result, its rows counted from the chunk's first or from the array's. -/
theorem dvln_shift (k r e : ℕ) (hr : r < 128) : dvln (sh (128 * k) z) (sh (128 * k) dg) w r e = dvln z dg w (128 * k + r) e := by
  have e1 : r / 128 = 0 := by omega
  have e2 : r % 128 = r := by omega
  have e3 : (128 * k + r) / 128 = k := by omega
  have e4 : (128 * k + r) % 128 = r := by omega
  unfold dvln
  rw [e1, e2, e3, e4]
  simp only [mul_zero, zero_add]
  rfl

theorem dz_shift (k r e : ℕ) (hr : r < 128) :
    dz (sh (128 * k) z) (sh (128 * k) dg) lg lb w bs r e = dz z dg lg lb w bs (128 * k + r) e := by
  have e1 : r / 128 = 0 := by omega
  have e2 : r % 128 = r := by omega
  have e3 : (128 * k + r) / 128 = k := by omega
  have e4 : (128 * k + r) % 128 = r := by omega
  unfold dz
  have hdu : du (sh (128 * k) z) (sh (128 * k) dg) lg lb w bs r e = du z dg lg lb w bs (128 * k + r) e := by
    unfold du sg
    rw [e1, e2, e3, e4]
    simp only [mul_zero, zero_add]
    rfl
  have hdv : dv (sh (128 * k) z) (sh (128 * k) dg) lg w r (e - 2048) = dv z dg lg w (128 * k + r) (e - 2048) := by
    unfold dv dvh
    simp only [dvln_shift k r _ hr]
    rfl
  rw [hdu, hdv]
  rfl

/-! ## The sums over the chunks so far -/

theorem acc7 (H : Holds m c z dg lg lb w bs) : ∀ (n : ℕ) (hn : n < cfg0.N) (y : S8x128x128.Idx), (outsAt0 m c n hn).2.1 y
    = ((∑ k ∈ Finset.range (n + 1), (if (y 2).val ≤ (y 1).val then dwc z dg lg lb k (y 0).val (y 1).val (y 2).val else 0) : ℝ) : EReal)
  | 0, hn, y => by
    rw [out7_A H ⟨0, hn⟩ rfl y]
    simp
  | n + 1, hn, y => by
    have h16 : n + 1 < 16 := hn
    rw [out7_B H ⟨n + 1, hn⟩ (by show ¬ (n + 1) % 16 = 0; omega) (by show n < _; omega)
      (q := fun g t s => ∑ k ∈ Finset.range (n + 1), (if s ≤ t then dwc z dg lg lb k g t s else 0)) (fun i => acc7 H n _ i) y,
      Finset.sum_range_succ _ (n + 1)]

theorem acc8 (H : Holds m c z dg lg lb w bs) : ∀ (n : ℕ) (hn : n < cfg0.N) (y : S128x8.Idx), (outsAt0 m c n hn).2.2.1 y
    = ((∑ k ∈ Finset.range (n + 1), ∑ d : Fin 256, ds z dg (128 * k + (y 0).val) (256 * (y 1).val + d) : ℝ) : EReal)
  | 0, hn, y => by
    rw [out8_A H ⟨0, hn⟩ rfl y]
    simp
  | n + 1, hn, y => by
    have h16 : n + 1 < 16 := hn
    rw [out8_B H ⟨n + 1, hn⟩ (by show ¬ (n + 1) % 16 = 0; omega) (by show n < _; omega)
      (q := fun r g => ∑ k ∈ Finset.range (n + 1), ∑ d : Fin 256, ds z dg (128 * k + r) (256 * g + d)) (fun i => acc8 H n _ i) y,
      Finset.sum_range_succ _ (n + 1)]

theorem acc9 (H : Holds m c z dg lg lb w bs) : ∀ (n : ℕ) (hn : n < cfg0.N) (y : S1x2048.Idx), (outsAt0 m c n hn).2.2.2.1 y
    = ((∑ k ∈ Finset.range (n + 1), ∑ r : Fin 128, xh z (128 * k + r) (y 1).val * dvln z dg w (128 * k + r) (y 1).val : ℝ) : EReal)
  | 0, hn, y => by
    rw [out9_A H ⟨0, hn⟩ rfl y]
    simp only [dvln_shift _ _ _ (Fin.isLt _), Finset.sum_range_succ, Finset.range_zero, Finset.sum_empty]
    rfl
  | n + 1, hn, y => by
    have h16 : n + 1 < 16 := hn
    rw [out9_B H ⟨n + 1, hn⟩ (by show ¬ (n + 1) % 16 = 0; omega) (by show n < _; omega)
      (q := fun e => ∑ k ∈ Finset.range (n + 1), ∑ r : Fin 128, xh z (128 * k + r) e * dvln z dg w (128 * k + r) e) (fun i => acc9 H n _ i) y,
      Finset.sum_range_succ _ (n + 1)]
    simp only [dvln_shift _ _ _ (Fin.isLt _)]
    rfl

theorem acc10 (H : Holds m c z dg lg lb w bs) : ∀ (n : ℕ) (hn : n < cfg0.N) (y : S1x2048.Idx), (outsAt0 m c n hn).2.2.2.2 y
    = ((∑ k ∈ Finset.range (n + 1), ∑ r : Fin 128, dvln z dg w (128 * k + r) (y 1).val : ℝ) : EReal)
  | 0, hn, y => by
    rw [out10_A H ⟨0, hn⟩ rfl y]
    simp only [dvln_shift _ _ _ (Fin.isLt _), Finset.sum_range_succ, Finset.range_zero, Finset.sum_empty]
  | n + 1, hn, y => by
    have h16 : n + 1 < 16 := hn
    rw [out10_B H ⟨n + 1, hn⟩ (by show ¬ (n + 1) % 16 = 0; omega) (by show n < _; omega)
      (q := fun e => ∑ k ∈ Finset.range (n + 1), ∑ r : Fin 128, dvln z dg w (128 * k + r) e) (fun i => acc10 H n _ i) y,
      Finset.sum_range_succ _ (n + 1)]
    simp only [dvln_shift _ _ _ (Fin.isLt _)]

/-- The rows of an array are the rows of its sixteen chunks. -/
theorem sum_chunks (f : ℕ → ℝ) : ∑ k ∈ Finset.range 16, ∑ r : Fin 128, f (128 * k + r) = ∑ n : Fin 2048, f n := by
  rw [Finset.sum_range]
  exact (Fin.sum_univ_mul_divmod 16 128 (fun a b => f (128 * a + b))).symm.trans
    (Finset.sum_congr rfl fun n _ => by rw [Nat.div_add_mod])

/-! ## The arrays -/

theorem arr6 (H : Holds m c z dg lg lb w bs) : (dats m 0 c).arrAt 6 cfg0.N
    = fun i : S2048x4096.Idx => ((dz z dg lg lb w bs (i 0).val (i 1).val : ℝ) : EReal) := by
  refine (dats m 0 c).arrAt_eq_of_covers 6 _ (by decide +kernel) fun t hf y => ?_
  have h0 : (y 0).val < 128 := (y 0).isLt
  blk_simp
  rw [after0_6]
  have e : (outsAt0 m c t.val t.isLt).1 y = ((dz (sh (128 * t.val) z) (sh (128 * t.val) dg) lg lb w bs (y 0).val (y 1).val : ℝ) : EReal) := by
    by_cases h : t.val % 16 = 0
    · exact out6_A H t h y
    · exact out6_B H t h y
  refine e.trans ?_
  obtain ⟨-, -, -, -, -, -, h6⟩ := idx t
  rw [dz_shift t.val _ _ h0, h6]
  simp only [Matrix.cons_val_zero, Matrix.cons_val_one, zero_mul, zero_add, Nat.mul_comm 128]

theorem arr7 (H : Holds m c z dg lg lb w bs) : (dats m 0 c).arrAt 7 cfg0.N
    = fun i : S8x128x128.Idx => ((dws z dg lg lb (i 0).val (i 1).val (i 2).val : ℝ) : EReal) := by
  refine (dats m 0 c).arrAt_eq_of_after_last 7 t0_15 (by decide +kernel) _ fun j => ?_
  blk_simp
  rw [after0_7]
  refine (acc7 H 15 _ j).trans ?_
  unfold dws
  split_ifs <;> simp [Finset.sum_range]

theorem arr8 (H : Holds m c z dg lg lb w bs) : (dats m 0 c).arrAt 8 cfg0.N
    = fun i : S128x8.Idx => ((dbs z dg (i 0).val (i 1).val : ℝ) : EReal) := by
  refine (dats m 0 c).arrAt_eq_of_after_last 8 t0_15 (by decide +kernel) _ fun j => ?_
  blk_simp
  rw [after0_8]
  refine (acc8 H 15 _ j).trans ?_
  rw [Finset.sum_range]
  rfl

theorem arr9 (H : Holds m c z dg lg lb w bs) : (dats m 0 c).arrAt 9 cfg0.N
    = fun i : S1x2048.Idx => ((dlg z dg w (i 1).val : ℝ) : EReal) := by
  refine (dats m 0 c).arrAt_eq_of_after_last 9 t0_15 (by decide +kernel) _ fun j => ?_
  blk_simp
  rw [after0_9]
  refine (acc9 H 15 _ j).trans ?_
  rw [sum_chunks (fun n => xh z n (j 1).val * dvln z dg w n (j 1).val)]
  rfl

theorem arr10 (H : Holds m c z dg lg lb w bs) : (dats m 0 c).arrAt 10 cfg0.N
    = fun i : S1x2048.Idx => ((dlb z dg w (i 1).val : ℝ) : EReal) := by
  refine (dats m 0 c).arrAt_eq_of_after_last 10 t0_15 (by decide +kernel) _ fun j => ?_
  blk_simp
  rw [after0_10]
  refine (acc10 H 15 _ j).trans ?_
  rw [sum_chunks (fun n => dvln z dg w n (j 1).val)]
  rfl

end Cert.GateBwdIdeal.Gen
-- ==== Proof.GateRefRead.lean ====
/- The gate reference read stage by stage: where its arguments hold real numbers, every stage of the program holds
   the real-number function `GateMath` names, at the coordinates of its index. -/
module

public import proofs.«01_k».proof.Proof.Gen.GateRefIdeal.Read
public import proofs.«01_k».proof.Proof.GateMath
public import Idealize.ShloMosaic.Lib.ValueIdxCore
public import Idealize.ShloMosaic.Lib.TwoAxisContraction
public import Idealize.ShloMosaic.Lib.IdealHost
public import Idealize.ShloMosaic.PureOps.Reduce

@[expose] public section

set_option maxRecDepth 16384

open Idealize.ShloMosaic
open Cert.GateMath

noncomputable section

namespace Cert.GateRefIdeal.Read

open GateRefIdeal GateRefIdeal.Gen Idealize.ShloMosaic.TcCoe Idealize.SL.Sem Idealize.ShloMosaic.StableHlo

variable {z dg : ℕ → ℕ → ℝ} {lg lb : ℕ → ℝ} {w : ℕ → ℕ → ℕ → ℝ} {bs : ℕ → ℕ → ℝ}
variable {x0 : (⟨S2048x4096, .f32⟩ : BufTy).Contents (Elt Ideal)} {x1 : (⟨S2048x2048, .f32⟩ : BufTy).Contents (Elt Ideal)}
variable {x2 x3 : (⟨S1x2048, .f32⟩ : BufTy).Contents (Elt Ideal)} {x4 : (⟨S8x128x128, .f32⟩ : BufTy).Contents (Elt Ideal)}
variable {x5 : (⟨S8x128, .f32⟩ : BufTy).Contents (Elt Ideal)}

/-- The distribution function at the gate's input, as the forward pass computes it. -/
theorem rd_v7 (hz : ∀ i, x0 i = ((z (i 0).val (i 1).val : ℝ) : EReal)) (i : S2048x4096.Idx) :
    val_main_v7 (F := Ideal) x0 i = ((Phi (z (i 0).val (i 1).val) : ℝ) : EReal) := by
  simp only [val_main_v7_apply, val_main_v6_apply, val_main_v5_apply, val_main_v4_apply, val_main_v3_apply,
    val_main_v2_apply, val_main_v1_apply, val_main_v0_apply, val_main_cst_apply, val_main_cst_0_apply,
    val_main_cst_1_apply, hz, Ideal.ofBits_def, bits_half, bits_one, bits_two, Ideal.hostUnary_sqrt_def,
    sqrt_real (show (0 : ℝ) ≤ 2 by norm_num), Ideal.hostDivf_def, div_real _ sqrt_two_pos.ne', Ideal.hostUnary_erf_def,
    Ideal.erf_coe, Ideal.addf_def, Ideal.mulf_def, ← EReal.coe_add, ← EReal.coe_mul]
  rfl

/-- The same distribution function, as the backward pass computes it again. -/
theorem rd_v16 (x : (⟨S2048x4096, .f32⟩ : BufTy).Contents (Elt Ideal)) :
    val_main_v16 (F := Ideal) x = val_main_v7 (F := Ideal) x := rfl

/-- The activated input. -/
theorem rd_v8 (hz : ∀ i, x0 i = ((z (i 0).val (i 1).val : ℝ) : EReal)) (i : S2048x4096.Idx) :
    val_main_v8 (F := Ideal) x0 i = ((gelu (z (i 0).val (i 1).val) : ℝ) : EReal) := by
  simp only [val_main_v8_apply, rd_v7 hz, hz, Ideal.mulf_def, ← EReal.coe_mul]
  rfl

/-- The derivative of the activation. -/
theorem rd_v27 (hz : ∀ i, x0 i = ((z (i 0).val (i 1).val : ℝ) : EReal)) (i : S2048x4096.Idx) :
    val_main_v27 (F := Ideal) x0 i = ((geluD (z (i 0).val (i 1).val) : ℝ) : EReal) := by
  have hp : Real.sqrt (8 * Real.arctan 1) ≠ 0 := by
    rw [eight_arctan]; exact (Real.sqrt_pos.2 (by positivity)).ne'
  have hq : (0 : ℝ) ≤ 8 * Real.arctan 1 := by rw [eight_arctan]; positivity
  simp only [val_main_v27_apply, rd_v16, rd_v7 hz, val_main_v26_apply, val_main_v25_apply, val_main_v24_apply,
    val_main_v23_apply, val_main_v22_apply, val_main_v21_apply, val_main_v20_apply, val_main_v19_apply,
    val_main_v18_apply, val_main_v17_apply, val_main_cst_5_apply, val_main_cst_6_apply, val_main_cst_7_apply, hz,
    Ideal.ofBits_def, bits_neg_half, bits_one, bits_eight, Ideal.hostUnary_atan_def, Ideal.atan_coe,
    Ideal.hostUnary_exp_def, Ideal.exp_coe, Ideal.hostUnary_sqrt_def, Ideal.mulf_def, ← EReal.coe_mul,
    sqrt_real hq, Ideal.hostDivf_def, div_real _ hp, Ideal.addf_def, ← EReal.coe_add]
  rw [eight_arctan]
  rfl

/-- The first half of the activated rows. -/
theorem rd_v28 (hz : ∀ i, x0 i = ((z (i 0).val (i 1).val : ℝ) : EReal)) (i : S2048x2048.Idx) :
    val_main_v28 (F := Ideal) x0 i = ((U z (i 0).val (i 1).val : ℝ) : EReal) := by
  rw [val_main_v28_apply, rd_v8 hz]; rfl

/-- The second half of the activated rows. -/
theorem rd_v29 (hz : ∀ i, x0 i = ((z (i 0).val (i 1).val : ℝ) : EReal)) (i : S2048x2048.Idx) :
    val_main_v29 (F := Ideal) x0 i = ((V z (i 0).val (i 1).val : ℝ) : EReal) := by
  rw [val_main_v29_apply, rd_v8 hz]; rfl

/-- The mean of a row. -/
theorem rd_v33 (hz : ∀ i, x0 i = ((z (i 0).val (i 1).val : ℝ) : EReal)) (i : S2048x1.Idx) :
    val_main_v33 (F := Ideal) x0 i = ((mu z (i 0).val : ℝ) : EReal) := by
  simp only [val_main_v33_apply, val_main_v31_apply, val_main_v30_apply, val_main_v32_apply, val_main_cst_8_apply,
    val_main_cst_9_apply, rd_v29 hz, sum_coe, Ideal.ofBits_def, bits_2048, bits_zero, ← EReal.coe_add, zero_add,
    Ideal.hostDivf_def, div_real _ (show (2048 : ℝ) ≠ 0 by norm_num)]
  rfl

/-- A row less its mean. -/
theorem rd_v35 (hz : ∀ i, x0 i = ((z (i 0).val (i 1).val : ℝ) : EReal)) (i : S2048x2048.Idx) :
    val_main_v35 (F := Ideal) x0 i = ((xc z (i 0).val (i 1).val : ℝ) : EReal) := by
  simp only [val_main_v35_apply, val_main_v34_apply, rd_v29 hz, rd_v33 hz, Ideal.subf_def, ← EReal.coe_sub]
  rfl

/-- The variance plus epsilon. -/
theorem rd_v42 (hz : ∀ i, x0 i = ((z (i 0).val (i 1).val : ℝ) : EReal)) (i : S2048x1.Idx) :
    val_main_v42 (F := Ideal) x0 i = ((ve z (i 0).val : ℝ) : EReal) := by
  simp only [val_main_v42_apply, val_main_v41_apply, val_main_v40_apply, val_main_v39_apply, val_main_v38_apply,
    val_main_v37_apply, val_main_v36_apply, val_main_cst_10_apply, val_main_cst_11_apply, val_main_cst_12_apply,
    rd_v35 hz, Ideal.mulf_def, ← EReal.coe_mul, sum_coe, Ideal.ofBits_def, bits_2048, bits_zero, bits_eps,
    ← EReal.coe_add, zero_add, Ideal.hostDivf_def, div_real _ (show (2048 : ℝ) ≠ 0 by norm_num), Ideal.addf_def]
  rfl

/-- The reciprocal standard deviation. -/
theorem rd_v43 (hz : ∀ i, x0 i = ((z (i 0).val (i 1).val : ℝ) : EReal)) (i : S2048x1.Idx) :
    val_main_v43 (F := Ideal) x0 i = ((rs z (i 0).val : ℝ) : EReal) := by
  simp only [val_main_v43_apply, rd_v42 hz, Ideal.hostUnary_rsqrt_def, rsqrt_real (ve_pos z _)]
  rfl

/-- The derivative of the reciprocal standard deviation by the variance. -/
theorem rd_v46 (hz : ∀ i, x0 i = ((z (i 0).val (i 1).val : ℝ) : EReal)) (i : S2048x1.Idx) :
    val_main_v46 (F := Ideal) x0 i = ((-(1 / 2) * (rs z (i 0).val * (1 / ve z (i 0).val)) : ℝ) : EReal) := by
  simp only [val_main_v46_apply, val_main_v45_apply, val_main_v44_apply, val_main_cst_13_apply, rd_v43 hz, rd_v42 hz,
    Ideal.ofBits_def, bits_neg_half, Ideal.hostDivf_def, div_real _ (ve_pos z _).ne', Ideal.mulf_def, ← EReal.coe_mul]
  rw [div_eq_mul_one_div (rs z _)]

/-- The normalised row. -/
theorem rd_v48 (hz : ∀ i, x0 i = ((z (i 0).val (i 1).val : ℝ) : EReal)) (i : S2048x2048.Idx) :
    val_main_v48 (F := Ideal) x0 i = ((xh z (i 0).val (i 1).val : ℝ) : EReal) := by
  simp only [val_main_v48_apply, val_main_v47_apply, rd_v35 hz, rd_v43 hz, Ideal.mulf_def, ← EReal.coe_mul]
  rfl

/-- The layer norm's result. -/
theorem rd_v52 (hz : ∀ i, x0 i = ((z (i 0).val (i 1).val : ℝ) : EReal)) (hg : ∀ i, x2 i = ((lg (i 1).val : ℝ) : EReal))
    (hb : ∀ i, x3 i = ((lb (i 1).val : ℝ) : EReal)) (i : S2048x2048.Idx) :
    val_main_v52 (F := Ideal) x0 x2 x3 i = ((vln z lg lb (i 0).val (i 1).val : ℝ) : EReal) := by
  simp only [val_main_v52_apply, val_main_v51_apply, val_main_v50_apply, val_main_v49_apply, rd_v48 hz, hg, hb,
    Ideal.mulf_def, ← EReal.coe_mul, Ideal.addf_def, ← EReal.coe_add]
  rfl

/-- The layer norm's result by chunk, row, group and lane. -/
theorem rd_v53 (hz : ∀ i, x0 i = ((z (i 0).val (i 1).val : ℝ) : EReal)) (hg : ∀ i, x2 i = ((lg (i 1).val : ℝ) : EReal))
    (hb : ∀ i, x3 i = ((lb (i 1).val : ℝ) : EReal)) (i : S16x128x8x256.Idx) :
    val_main_v53 (F := Ideal) x0 x2 x3 i =
      ((vln z lg lb (128 * (i 0).val + (i 1).val) (256 * (i 2).val + (i 3).val) : ℝ) : EReal) := by
  have h0 : (i 0).val < 16 := (i 0).isLt
  have h1 : (i 1).val < 128 := (i 1).isLt
  have h2 : (i 2).val < 8 := (i 2).isLt
  have h3 : (i 3).val < 256 := (i 3).isLt
  rw [val_main_v53_apply, rd_v52 hz hg hb]
  have e0 : (idx_main_v53 i 0).val = 128 * (i 0).val + (i 1).val := by
    show ((((i 0).val * 128 + (i 1).val) * 8 + (i 2).val) * 256 + (i 3).val) / 2048 = _; omega
  have e1 : (idx_main_v53 i 1).val = 256 * (i 2).val + (i 3).val := by
    show ((((i 0).val * 128 + (i 1).val) * 8 + (i 2).val) * 256 + (i 3).val) % 2048 = _; omega
  rw [e0, e1]

/-- The causal mask: one where the source row is not after the target row. -/
theorem rd_v55 (i : S128x128.Idx) :
    val_main_v55 (F := Ideal) i = (((if (i 1).val ≤ (i 0).val then 1 else 0 : ℝ)) : EReal) := by
  have h0 : (i 0).val < 128 := (i 0).isLt
  have h1 : (i 1).val < 128 := (i 1).isLt
  have hc : IntOp.cmpi .sge (IntOp.addi (BitVec.ofNat 32 (i 0).val) 0#32) (BitVec.ofNat 32 (i 1).val)
      = if (i 1).val ≤ (i 0).val then 1#1 else 0#1 := by
    generalize (i 0).val = a at *
    generalize (i 1).val = b at *
    revert a b
    decide +kernel
  simp only [val_main_v55_apply, val_main_call0_v4_apply, val_main_call0_v2_apply, val_main_call0_v0_apply,
    val_main_call0_v1_apply, val_main_call0_c_apply, val_main_call0_v3_apply, val_main_call0_v5_apply,
    val_main_call0_cst_apply, val_main_v54_apply, val_main_cst_14_apply, hc, Ideal.ofBits_def, bits_one, bits_zero]
  split <;> rfl

/-- The spatial weights, cut causally. -/
theorem rd_v58 (hw : ∀ i, x4 i = ((w (i 0).val (i 1).val (i 2).val : ℝ) : EReal)) (i : S8x128x128.Idx) :
    val_main_v58 (F := Ideal) x4 i = ((wm w (i 0).val (i 1).val (i 2).val : ℝ) : EReal) := by
  simp only [val_main_v58_apply, val_main_v57_apply, val_main_v56_apply, rd_v55, hw, Ideal.mulf_def, ← EReal.coe_mul]
  unfold wm
  refine congrArg _ ?_
  rw [mul_ite, mul_one, mul_zero]

/-- The gate's multiplier. -/
theorem rd_v65 (hz : ∀ i, x0 i = ((z (i 0).val (i 1).val : ℝ) : EReal)) (hg : ∀ i, x2 i = ((lg (i 1).val : ℝ) : EReal))
    (hb : ∀ i, x3 i = ((lb (i 1).val : ℝ) : EReal)) (hw : ∀ i, x4 i = ((w (i 0).val (i 1).val (i 2).val : ℝ) : EReal))
    (hs : ∀ i, x5 i = ((bs (i 0).val (i 1).val : ℝ) : EReal)) (i : S2048x2048.Idx) :
    val_main_v65 (F := Ideal) x0 x2 x3 x4 x5 i = ((sg z lg lb w bs (i 0).val (i 1).val : ℝ) : EReal) := by
  have h0 : (i 0).val < 2048 := (i 0).isLt
  have h1 : (i 1).val < 2048 := (i 1).isLt
  simp only [val_main_v65_apply, val_main_v64_apply, val_main_v63_apply, val_main_v62_apply, val_main_v61_apply,
    val_main_v60_apply, val_main_v59_apply, rd_v53 hz hg hb, rd_v58 hw, hs, ← EReal.coe_mul, sum_coe, Ideal.addf_def,
    ← EReal.coe_add]
  refine congrArg _ ?_
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : 256 * (((i 0).val * 2048 + (i 1).val) / 256 % 8) + ((i 0).val * 2048 + (i 1).val) % 256 = (i 1).val := by omega
  show (∑ k : Fin 128, vln z lg lb (128 * (((i 0).val * 2048 + (i 1).val) / 262144) + k.val)
      (256 * (((i 0).val * 2048 + (i 1).val) / 256 % 8) + ((i 0).val * 2048 + (i 1).val) % 256)
      * wm w (((i 0).val * 2048 + (i 1).val) / 256 % 8) (((i 0).val * 2048 + (i 1).val) / 2048 % 128) k.val)
      + bs (((i 0).val * 2048 + (i 1).val) / 256 % 8) (((i 0).val * 2048 + (i 1).val) / 2048 % 128) = _
  rw [e3, e0, e1, e2]
  unfold sg
  exact congrArg (· + _) (Finset.sum_congr rfl fun k _ => mul_comm _ _)

/-- The cotangent of the multiplier. -/
theorem rd_v67 (hz : ∀ i, x0 i = ((z (i 0).val (i 1).val : ℝ) : EReal))
    (hd : ∀ i, x1 i = ((dg (i 0).val (i 1).val : ℝ) : EReal)) (i : S2048x2048.Idx) :
    val_main_v67 (F := Ideal) x0 x1 i = ((ds z dg (i 0).val (i 1).val : ℝ) : EReal) := by
  simp only [val_main_v67_apply, rd_v28 hz, hd, Ideal.mulf_def, ← EReal.coe_mul]
  rfl

/-- The cotangent of the first half. -/
theorem rd_v68 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hb : ∀ i, x3 i = ((lb (i 1).val : ℝ) : EReal)) (hw : ∀ i, x4 i = ((w (i 0).val (i 1).val (i 2).val : ℝ) : EReal))
    (hs : ∀ i, x5 i = ((bs (i 0).val (i 1).val : ℝ) : EReal)) (i : S2048x2048.Idx) :
    val_main_v68 (F := Ideal) x0 x1 x2 x3 x4 x5 i = ((du z dg lg lb w bs (i 0).val (i 1).val : ℝ) : EReal) := by
  simp only [val_main_v68_apply, rd_v65 hz hg hb hw hs, hd, Ideal.mulf_def, ← EReal.coe_mul]
  rfl

/-- The cotangent of the multiplier by chunk, row, group and lane. -/
theorem rd_v69 (hz : ∀ i, x0 i = ((z (i 0).val (i 1).val : ℝ) : EReal))
    (hd : ∀ i, x1 i = ((dg (i 0).val (i 1).val : ℝ) : EReal)) (i : S16x128x8x256.Idx) :
    val_main_v69 (F := Ideal) x0 x1 i =
      ((ds z dg (128 * (i 0).val + (i 1).val) (256 * (i 2).val + (i 3).val) : ℝ) : EReal) := by
  have h0 : (i 0).val < 16 := (i 0).isLt
  have h1 : (i 1).val < 128 := (i 1).isLt
  have h2 : (i 2).val < 8 := (i 2).isLt
  have h3 : (i 3).val < 256 := (i 3).isLt
  rw [val_main_v69_apply, rd_v67 hz hd]
  have e0 : (idx_main_v69 i 0).val = 128 * (i 0).val + (i 1).val := by
    show ((((i 0).val * 128 + (i 1).val) * 8 + (i 2).val) * 256 + (i 3).val) / 2048 = _; omega
  have e1 : (idx_main_v69 i 1).val = 256 * (i 2).val + (i 3).val := by
    show ((((i 0).val * 128 + (i 1).val) * 8 + (i 2).val) * 256 + (i 3).val) % 2048 = _; omega
  rw [e0, e1]

/-- A host sum over the first and last of four axes is the double sum over their coordinates. -/
theorem sum_outer {a b c d : Nat} {h : (⟨4, ![a, b, c, d]⟩ : Shape).ReducesTo [0, 3] ⟨2, ![b, c]⟩}
    (x : (⟨4, ![a, b, c, d]⟩ : Shape).Idx → EReal) (init : EReal) (j : (⟨2, ![b, c]⟩ : Shape).Idx)
    (hd : ∀ i, (h.drop i 0).val = (i 1).val ∧ (h.drop i 1).val = (i 2).val) :
    Ideal.hostReduceAdd h x init j = init + ∑ p : Fin a × Fin d, x (ValueIdx.ix4 p.1 (j 0) (j 1) p.2) := by
  unfold Ideal.hostReduceAdd
  refine congrArg (init + ·) (Finset.sum_nbij' (fun i => (i 0, i 3)) (fun p => ValueIdx.ix4 p.1 (j 0) (j 1) p.2)
    (fun _ _ => Finset.mem_univ _) (fun p _ => ?_) (fun i hi => ?_) (fun _ _ => rfl) (fun i hi => ?_))
  · rw [Finset.mem_filter]
    refine ⟨Finset.mem_univ _, funext fun e => Fin.ext ?_⟩
    match e with
    | ⟨0, _⟩ => exact (hd _).1
    | ⟨1, _⟩ => exact (hd _).2
  · have e := (Finset.mem_filter.1 hi).2
    funext e'
    match e' with
    | ⟨0, _⟩ => rfl
    | ⟨1, _⟩ => exact Fin.ext (by rw [← e]; exact (hd i).1)
    | ⟨2, _⟩ => exact Fin.ext (by rw [← e]; exact (hd i).2)
    | ⟨3, _⟩ => rfl
  · have e := (Finset.mem_filter.1 hi).2
    refine congrArg x (funext fun e' => ?_)
    match e' with
    | ⟨0, _⟩ => rfl
    | ⟨1, _⟩ => exact Fin.ext (by rw [← e]; exact (hd i).1.symm)
    | ⟨2, _⟩ => exact Fin.ext (by rw [← e]; exact (hd i).2.symm)
    | ⟨3, _⟩ => rfl

/-- The gradient of the spatial bias, by row and group. -/
theorem rd_v113 (hz : ∀ i, x0 i = ((z (i 0).val (i 1).val : ℝ) : EReal))
    (hd : ∀ i, x1 i = ((dg (i 0).val (i 1).val : ℝ) : EReal)) (i : S128x8.Idx) :
    val_main_v113 (F := Ideal) x0 x1 i = ((dbs z dg (i 0).val (i 1).val : ℝ) : EReal) := by
  have h0 : (i 0).val < 128 := (i 0).isLt
  have h1 : (i 1).val < 8 := (i 1).isLt
  rw [val_main_v113_apply, val_main_v73_apply]
  unfold val_main_v72
  rw [ValueIdx.hostReduceAdd_apply, sum_outer _ _ _ (fun i => ⟨rfl, rfl⟩), Fintype.sum_prod_type]
  simp only [val_main_v71_apply, val_main_v70, ValueIdx.hostReduceAdd_apply]
  simp only [sum_outer _ _ _ (fun i => ⟨rfl, rfl⟩), Fintype.sum_prod_type, rd_v69 hz hd, sum_coe, val_main_cst_15_apply,
    val_main_cst_16_apply, Ideal.ofBits_def, bits_zero, ← EReal.coe_add, zero_add, Fin.sum_univ_one]
  refine congrArg _ ?_
  have e0 : (((0 * 128 + (i 0).val) * 8 + (i 1).val) * 1 + 0) / 8 = (i 0).val := by omega
  have e1 : (((0 * 128 + (i 0).val) * 8 + (i 1).val) * 1 + 0) % 8 = (i 1).val := by omega
  show ∑ c : Fin 16, ∑ d : Fin 256, ds z dg (128 * c.val + (((0 * 128 + (i 0).val) * 8 + (i 1).val) * 1 + 0) / 8)
    (256 * ((((0 * 128 + (i 0).val) * 8 + (i 1).val) * 1 + 0) % 8) + d.val) = _
  rw [e0, e1]
  rfl

/-- The cotangent of the multiplier by group, chunk, lane and row. -/
theorem rd_v74 (hz : ∀ i, x0 i = ((z (i 0).val (i 1).val : ℝ) : EReal))
    (hd : ∀ i, x1 i = ((dg (i 0).val (i 1).val : ℝ) : EReal)) (i : S8x16x256x128.Idx) :
    val_main_v74 (F := Ideal) x0 x1 i =
      ((ds z dg (128 * (i 1).val + (i 3).val) (256 * (i 0).val + (i 2).val) : ℝ) : EReal) := by
  rw [val_main_v74_apply, rd_v69 hz hd]

/-- The gradient of the spatial weights before the causal cut. -/
theorem rd_v75 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hb : ∀ i, x3 i = ((lb (i 1).val : ℝ) : EReal)) (i : S8x128x128.Idx) :
    val_main_v75 (F := Ideal) x0 x1 x2 x3 i
      = ((∑ c : Fin 16, dwc z dg lg lb c (i 0).val (i 1).val (i 2).val : ℝ) : EReal) := by
  unfold val_main_v75
  simp only [Host.dotGeneral]
  rw [Ideal.dotGeneral_apply,
    ValueIdx.sum_contr2 dot_S8x16x256x128_S16x128x8x256_S8x128x128_12_03_3_1_0_2 16 256 rfl rfl rfl]
  simp only [rd_v74 hz hd, rd_v53 hz hg hb, ← EReal.coe_mul, sum_coe]
  rfl

/-- The gradient of the spatial weights. -/
theorem rd_v79 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hb : ∀ i, x3 i = ((lb (i 1).val : ℝ) : EReal)) (i : S8x128x128.Idx) :
    val_main_v79 (F := Ideal) x0 x1 x2 x3 i = ((dws z dg lg lb (i 0).val (i 1).val (i 2).val : ℝ) : EReal) := by
  simp only [val_main_v79_apply, val_main_v78_apply, val_main_v56_apply, rd_v55, rd_v75 hz hd hg hb, Ideal.mulf_def,
    ← EReal.coe_mul]
  unfold dws
  refine congrArg _ ?_
  rw [mul_ite, mul_one, mul_zero]

/-- The cotangent of the layer norm's result. -/
theorem rd_v80 (hz : ∀ i, x0 i = ((z (i 0).val (i 1).val : ℝ) : EReal))
    (hd : ∀ i, x1 i = ((dg (i 0).val (i 1).val : ℝ) : EReal)) (hw : ∀ i, x4 i = ((w (i 0).val (i 1).val (i 2).val : ℝ) : EReal)) (i : S2048x2048.Idx) :
    val_main_v80 (F := Ideal) x0 x1 x4 i = ((dvln z dg w (i 0).val (i 1).val : ℝ) : EReal) := by
  have h0 : (i 0).val < 2048 := (i 0).isLt
  have h1 : (i 1).val < 2048 := (i 1).isLt
  simp only [val_main_v80_apply, val_main_v77_apply, val_main_v76_apply, rd_v74 hz hd, rd_v58 hw, ← EReal.coe_mul, sum_coe]
  refine congrArg _ ?_
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : 256 * (((i 0).val * 2048 + (i 1).val) / 256 % 8) + ((i 0).val * 2048 + (i 1).val) % 256 = (i 1).val := by omega
  show (∑ k : Fin 128, ds z dg (128 * (((i 0).val * 2048 + (i 1).val) / 262144) + k.val)
      (256 * (((i 0).val * 2048 + (i 1).val) / 256 % 8) + ((i 0).val * 2048 + (i 1).val) % 256)
      * wm w (((i 0).val * 2048 + (i 1).val) / 256 % 8) k.val (((i 0).val * 2048 + (i 1).val) / 2048 % 128)) = _
  rw [e3, e0, e1, e2]
  rfl

/-- The gradient of the layer norm's offset. -/
theorem rd_v82 (hz : ∀ i, x0 i = ((z (i 0).val (i 1).val : ℝ) : EReal))
    (hd : ∀ i, x1 i = ((dg (i 0).val (i 1).val : ℝ) : EReal)) (hw : ∀ i, x4 i = ((w (i 0).val (i 1).val (i 2).val : ℝ) : EReal)) (i : S1x2048.Idx) :
    val_main_v82 (F := Ideal) x0 x1 x4 i = ((dlb z dg w (i 1).val : ℝ) : EReal) := by
  have h0 : (i 0).val < 1 := (i 0).isLt
  have h1 : (i 1).val < 2048 := (i 1).isLt
  simp only [val_main_v82_apply, val_main_v81_apply, rd_v80 hz hd hw, sum_coe, val_main_cst_17_apply, Ideal.ofBits_def,
    bits_zero, ← EReal.coe_add, zero_add]
  refine congrArg _ ?_
  have e0 : (idx_main_v82 i 0).val = (i 1).val := by show ((i 0).val * 2048 + (i 1).val) = _; omega
  show ∑ k : Fin 2048, dvln z dg w k.val (idx_main_v82 i 0).val = _
  rw [e0]
  rfl

/-- The gradient of the layer norm's gain. -/
theorem rd_v85 (hz : ∀ i, x0 i = ((z (i 0).val (i 1).val : ℝ) : EReal))
    (hd : ∀ i, x1 i = ((dg (i 0).val (i 1).val : ℝ) : EReal)) (hw : ∀ i, x4 i = ((w (i 0).val (i 1).val (i 2).val : ℝ) : EReal)) (i : S1x2048.Idx) :
    val_main_v85 (F := Ideal) x0 x1 x4 i = ((dlg z dg w (i 1).val : ℝ) : EReal) := by
  have h0 : (i 0).val < 1 := (i 0).isLt
  have h1 : (i 1).val < 2048 := (i 1).isLt
  simp only [val_main_v85_apply, val_main_v84_apply, val_main_v83_apply, rd_v80 hz hd hw, rd_v48 hz, Ideal.mulf_def,
    ← EReal.coe_mul, sum_coe, val_main_cst_18_apply, Ideal.ofBits_def, bits_zero, ← EReal.coe_add, zero_add]
  refine congrArg _ ?_
  have e0 : (idx_main_v85 i 0).val = (i 1).val := by show ((i 0).val * 2048 + (i 1).val) = _; omega
  show ∑ k : Fin 2048, xh z k.val (idx_main_v85 i 0).val * dvln z dg w k.val (idx_main_v85 i 0).val = _
  rw [e0]
  rfl

/-- The cotangent of the normalised row. -/
theorem rd_v87 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hw : ∀ i, x4 i = ((w (i 0).val (i 1).val (i 2).val : ℝ) : EReal)) (i : S2048x2048.Idx) :
    val_main_v87 (F := Ideal) x0 x1 x2 x4 i = ((dvh z dg lg w (i 0).val (i 1).val : ℝ) : EReal) := by
  simp only [val_main_v87_apply, val_main_v86_apply, rd_v80 hz hd hw, hg, Ideal.mulf_def, ← EReal.coe_mul]
  rfl

/-- What the variance's cotangent gives each entry of its row, over the entry. -/
def viaVar (z dg : ℕ → ℕ → ℝ) (lg : ℕ → ℝ) (w : ℕ → ℕ → ℕ → ℝ) (n : ℕ) : ℝ :=
  (∑ k : Fin 2048, xc z n k * dvh z dg lg w n k) * (-(1 / 2) * (rs z n * (1 / ve z n))) * (1 / 2048)

/-- The cotangent of a row less its mean. -/
def dxc (z dg : ℕ → ℕ → ℝ) (lg : ℕ → ℝ) (w : ℕ → ℕ → ℕ → ℝ) (n e : ℕ) : ℝ :=
  dvh z dg lg w n e * rs z n + xc z n e * viaVar z dg lg w n + viaVar z dg lg w n * xc z n e

/-- The program's variance cotangent. -/
theorem rd_v97 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hw : ∀ i, x4 i = ((w (i 0).val (i 1).val (i 2).val : ℝ) : EReal)) (i : S2048x2048.Idx) :
    val_main_v97 (F := Ideal) x0 x1 x2 x4 i = ((viaVar z dg lg w (i 0).val : ℝ) : EReal) := by
  simp only [val_main_v97_apply, val_main_v96_apply, val_main_v95_apply, val_main_v94_apply, val_main_v93_apply,
    val_main_v90_apply, val_main_v89_apply, val_main_v88_apply, rd_v87 hz hd hg hw, rd_v35 hz, rd_v46 hz, Ideal.mulf_def,
    ← EReal.coe_mul, sum_coe, val_main_cst_19_apply, val_main_cst_20_apply, val_main_cst_21_apply, Ideal.ofBits_def,
    bits_zero, bits_2048, ← EReal.coe_add, zero_add, Ideal.hostDivf_def, div_real _ (show (2048 : ℝ) ≠ 0 by norm_num),
    Fin.sum_univ_one]
  refine congrArg _ ?_
  rw [div_eq_mul_one_div]
  unfold viaVar
  show (∑ k : Fin 2048, xc z ((i 0).val * 1 + 0) k.val * dvh z dg lg w ((i 0).val * 1 + 0) k.val) * _ * _ = _
  rw [mul_one, add_zero]

/-- The program's cotangent of a row less its mean. -/
theorem rd_v101 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hw : ∀ i, x4 i = ((w (i 0).val (i 1).val (i 2).val : ℝ) : EReal)) (i : S2048x2048.Idx) :
    val_main_v101 (F := Ideal) x0 x1 x2 x4 i = ((dxc z dg lg w (i 0).val (i 1).val : ℝ) : EReal) := by
  simp only [val_main_v101_apply, val_main_v100_apply, val_main_v99_apply, val_main_v98_apply, val_main_v92_apply,
    val_main_v91_apply, rd_v97 hz hd hg hw, rd_v87 hz hd hg hw, rd_v35 hz, rd_v43 hz, Ideal.mulf_def, Ideal.addf_def,
    ← EReal.coe_mul, ← EReal.coe_add]
  rfl

/-- The cotangent of the second half. -/
theorem rd_v109 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hw : ∀ i, x4 i = ((w (i 0).val (i 1).val (i 2).val : ℝ) : EReal)) (i : S2048x2048.Idx) :
    val_main_v109 (F := Ideal) x0 x1 x2 x4 i = ((dv z dg lg w (i 0).val (i 1).val : ℝ) : EReal) := by
  simp only [val_main_v109_apply, val_main_v108_apply, val_main_v107_apply, val_main_v106_apply, val_main_v105_apply,
    val_main_v104_apply, val_main_v103_apply, val_main_v102_apply, rd_v101 hz hd hg hw, Ideal.hostNegf_def, Ideal.negf_def,
    ← EReal.coe_neg, sum_coe, val_main_cst_22_apply, val_main_cst_23_apply, val_main_cst_24_apply, Ideal.ofBits_def,
    bits_zero, bits_2048, ← EReal.coe_add, zero_add, Ideal.hostDivf_def, div_real _ (show (2048 : ℝ) ≠ 0 by norm_num),
    Fin.sum_univ_one, Ideal.addf_def]
  refine congrArg _ ?_
  rw [← dv_chain z dg lg w (i 0).val (i 1).val (viaVar z dg lg w (i 0).val) (dxc z dg lg w (i 0).val) rfl (fun _ => rfl)]
  rw [div_eq_mul_one_div]
  show _ + (∑ k : Fin 2048, -dxc z dg lg w ((i 0).val * 1 + 0) k.val) * _ = _
  rw [mul_one, add_zero]

/-- The gradient of the gate's input. -/
theorem rd_v112 (hz : ∀ i, x0 i = ((z (i 0).val (i 1).val : ℝ) : EReal))
    (hd : ∀ i, x1 i = ((dg (i 0).val (i 1).val : ℝ) : EReal)) (hg : ∀ i, x2 i = ((lg (i 1).val : ℝ) : EReal))
    (hb : ∀ i, x3 i = ((lb (i 1).val : ℝ) : EReal)) (hw : ∀ i, x4 i = ((w (i 0).val (i 1).val (i 2).val : ℝ) : EReal))
    (hs : ∀ i, x5 i = ((bs (i 0).val (i 1).val : ℝ) : EReal)) (i : S2048x4096.Idx) :
    val_main_v112 (F := Ideal) x0 x1 x2 x3 x4 x5 i = ((dz z dg lg lb w bs (i 0).val (i 1).val : ℝ) : EReal) := by
  have h1 : (i 1).val < 4096 := (i 1).isLt
  have hc : val_main_v110 (F := Ideal) x0 x1 x2 x3 x4 x5 i
      = ((if (i 1).val < 2048 then du z dg lg lb w bs (i 0).val (i 1).val
          else dv z dg lg w (i 0).val ((i 1).val - 2048) : ℝ) : EReal) := by
    unfold val_main_v110
    by_cases h : (i 1).val < 2048
    · rw [if_pos h, concatenate_pair_apply_left (s₁ := S2048x2048) (s₂ := S2048x2048) 1 _ _ _ i rfl (show S2048x2048.Idx from ValueIdx.ix2 (i 0) ⟨(i 1).val, h⟩)
        (fun b => match b with | ⟨0, _⟩ => rfl | ⟨1, _⟩ => rfl), rd_v68 hz hd hg hb hw hs]
    · rw [if_neg h, concatenate_pair_apply_right (s₁ := S2048x2048) (s₂ := S2048x2048) 1 _ _ _ i rfl rfl (show S2048x2048.Idx from ValueIdx.ix2 (i 0) ⟨(i 1).val - 2048, by omega⟩)
        (fun b hb' => match b, hb' with | ⟨0, _⟩, _ => rfl | ⟨1, _⟩, hb' => absurd rfl hb')
        (by show (i 1).val - 2048 + 2048 = (i 1).val; omega), rd_v109 hz hd hg hw]
  simp only [val_main_v112_apply, val_main_v111_apply, hc, rd_v27 hz, Ideal.mulf_def, ← EReal.coe_mul, Ideal.truncf_def]
  rfl

end Cert.GateRefIdeal.Read
-- ==== Proof.GateRun.lean ====
/- The gate's claim: at finite arguments the kernel and the reference end with the same five gradients. -/
module

public import proofs.«01_k».proof.Defs
public import proofs.«01_k».proof.Proof.Finite
public import proofs.«01_k».proof.Proof.GateArrays
public import proofs.«01_k».proof.Proof.GateRefRead
public import proofs.«01_k».proof.Proof.Gen.GateRefIdeal.Run
public import proofs.«01_k».proof.Proof.Gen.GateBwdIdeal.Value
public import proofs.«01_k».proof.Proof.Gen.Pre_gate_finite

@[expose] public section

set_option maxRecDepth 16384

noncomputable section

namespace Cert.GateRun

open Idealize.ShloMosaic Idealize.ShloMosaic.TcCoe Idealize.SL.Sem
open GateMath Finite
open GateBwdIdeal

attribute [local instance] Pre_gate_finite.Gen.facts

instance : Subsingleton Pre_gate_finite.S_.Idx := ⟨fun _ _ => funext fun k => k.elim0⟩

/-- The precondition at one device's arguments: each of the six holds real numbers. -/
theorem pre_real {x0 : FVec Ideal Pre_gate_finite.S2048x4096 .f32} {x1 : FVec Ideal Pre_gate_finite.S2048x2048 .f32}
    {x2 x3 : FVec Ideal Pre_gate_finite.S1x2048 .f32} {x4 : FVec Ideal Pre_gate_finite.S8x128x128 .f32}
    {x5 : FVec Ideal Pre_gate_finite.S8x128 .f32} (h : Pre_gate_finite.fn (F := Ideal) x0 x1 x2 x3 x4 x5 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal))
      ∧ (∀ i, x4 i = ((EReal.toReal (x4 i) : ℝ) : EReal)) ∧ (∀ i, x5 i = ((EReal.toReal (x5 i) : ℝ) : EReal)) := by
  have e := congrFun h (fun k => k.elim0)
  unfold Pre_gate_finite.fn Pre_gate_finite.fn_part1 at e
  obtain ⟨e, e5⟩ := both e
  obtain ⟨e, e4⟩ := both e
  obtain ⟨e, e3⟩ := both e
  obtain ⟨e, e2⟩ := both e
  obtain ⟨e0, e1⟩ := both e
  exact ⟨real_of_all x0 _ (fun _ => rfl) _ _ _ _ e0, real_of_all x1 _ (fun _ => rfl) _ _ _ _ e1, real_of_all x2 _ (fun _ => rfl) _ _ _ _ e2,
    real_of_all x3 _ (fun _ => rfl) _ _ _ _ e3, real_of_all x4 _ (fun _ => rfl) _ _ _ _ e4, real_of_all x5 _ (fun _ => rfl) _ _ _ _ e5⟩

section
variable (m : (ℓ : Loc nD τ sig) → Buf (Elt Ideal) ℓ) (c : Dev nD)

/-- The six arguments as real functions. -/
def rz : ℕ → ℕ → ℝ := real2 (A := 2048) (B := 4096) (m ((c : Thread nD τ).loc main_arg0))
def rdg : ℕ → ℕ → ℝ := real2 (A := 2048) (B := 2048) (m ((c : Thread nD τ).loc main_arg1))
def rlg : ℕ → ℝ := real2 (A := 1) (B := 2048) (m ((c : Thread nD τ).loc main_arg2)) 0
def rlb : ℕ → ℝ := real2 (A := 1) (B := 2048) (m ((c : Thread nD τ).loc main_arg3)) 0
def rw' : ℕ → ℕ → ℕ → ℝ := real3 (A := 8) (B := 128) (C := 128) (m ((c : Thread nD τ).loc main_arg4))
def rbs : ℕ → ℕ → ℝ := real2 (A := 8) (B := 128) (m ((c : Thread nD τ).loc main_arg5))

theorem holds (h : Pre_GateBwdIdeal_gate_finite m) :
    GateBwdIdeal.Gen.Holds m c (rz m c) (rdg m c) (rlg m c) (rlb m c) (rw' m c) (rbs m c) := by
  obtain ⟨h0, h1, h2, h3, h4, h5⟩ := pre_real (h c)
  refine ⟨real2_spec h0, real2_spec h1, fun i => ?_, fun i => ?_, real3_spec h4, real2_spec h5⟩
  · have hi : (i 0).val = 0 := by have : (i 0).val < 1 := (i 0).isLt; omega
    have := real2_spec h2 i
    rwa [hi] at this
  · have hi : (i 0).val = 0 := by have : (i 0).val < 1 := (i 0).isLt; omega
    have := real2_spec h3 i
    rwa [hi] at this

end

theorem algebraic : @Cert.algebraic_GateBwdIdeal_GateRefIdeal_pre_gate_finite GateBwdIdeal.Gen.facts GateRefIdeal.Gen.facts
    Pre_gate_finite.Gen.facts := by
  intro m g m' g' hp hag
  have hH := fun c => holds m c hp
  refine ⟨fun c => fun i : S2048x4096.Idx => ((dz (rz m c) (rdg m c) (rlg m c) (rlb m c) (rw' m c) (rbs m c) (i 0).val (i 1).val : ℝ) : EReal),
    fun c => fun i : S8x128x128.Idx => ((dws (rz m c) (rdg m c) (rlg m c) (rlb m c) (i 0).val (i 1).val (i 2).val : ℝ) : EReal),
    fun c => fun i : S128x8.Idx => ((dbs (rz m c) (rdg m c) (i 0).val (i 1).val : ℝ) : EReal),
    fun c => fun i : S1x2048.Idx => ((dlg (rz m c) (rdg m c) (rw' m c) (i 1).val : ℝ) : EReal),
    fun c => fun i : S1x2048.Idx => ((dlb (rz m c) (rdg m c) (rw' m c) (i 1).val : ℝ) : EReal), ?_, ?_⟩
  · refine (θ_run _ _ _).mono (fun r hr c => ?_) (GateBwdIdeal.Value.run_blocks m g)
    obtain ⟨a0, a1, a2, a3, a4, ha⟩ := hr c
    exact ⟨a0.trans (Gen.arr6 (hH c)), a1.trans (Gen.arr7 (hH c)), a2.trans (Gen.arr8 (hH c)), a3.trans (Gen.arr9 (hH c)),
      a4.trans (Gen.arr10 (hH c)), ha⟩
  · refine (θ_run _ _ _).mono (fun r hr c => ?_) (GateRefIdeal.Value.run m' g')
    obtain ⟨a0, a1, a2, a3, a4, ha⟩ := hr c
    obtain ⟨e0, e1, e2, e3, e4, e5⟩ := hag c
    have hz := (hH c).h0
    have hd := (hH c).h1
    have hg := (hH c).h2
    have hb := (hH c).h3
    have hw := (hH c).h4
    have hs := (hH c).h5
    refine ⟨a0.trans ?_, a1.trans ?_, a2.trans ?_, a3.trans ?_, a4.trans ?_, ha⟩
    · rw [GateRefIdeal.Read.val_main_v112_eq, e0, e1, e2, e3, e4, e5]
      exact funext fun i => GateRefIdeal.Read.rd_v112 hz hd hg hb hw hs i
    · rw [GateRefIdeal.Read.val_main_v79_eq, e0, e1, e2, e3]
      exact funext fun i => GateRefIdeal.Read.rd_v79 hz hd hg hb i
    · rw [GateRefIdeal.Read.val_main_v113_eq, e0, e1]
      exact funext fun i => GateRefIdeal.Read.rd_v113 hz hd i
    · rw [GateRefIdeal.Read.val_main_v85_eq, e0, e1, e4]
      exact funext fun i => GateRefIdeal.Read.rd_v85 hz hd hw i
    · rw [GateRefIdeal.Read.val_main_v82_eq, e0, e1, e4]
      exact funext fun i => GateRefIdeal.Read.rd_v82 hz hd hw i

end Cert.GateRun

end
-- ==== Proof.UpDwRun.lean ====
/- The weight gradient of the MLP's first product: kernel and reference end with the same array. -/
module

public import proofs.«01_k».proof.Defs
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.UpDwIdeal.Gen

open UpDwIdeal

/-- The sum over the sequence of the normed input times the cotangent. -/
def G (h : S2048x2048.Idx → EReal) (d : S2048x8192.Idx → EReal) (i : S4x1x2048x2048.Idx) : EReal :=
  ∑ s : Fin 2048, h (ix2 s (⟨(i 2).val, (i 2).isLt⟩ : Fin 2048))
    * d (ix2 s (⟨2048 * (i 0).val + (i 3).val, by have : (i 0).val < 4 := (i 0).isLt; have : (i 3).val < 2048 := (i 3).isLt; omega⟩ : Fin 8192))

theorem pay (x0 : Vec Ideal S2048x1024 .bf16) (x1 : Vec Ideal S2048x2048 .bf16) (y : S1x1x1024x2048.Idx) :
    k0_pay1 x0 x1 y = ∑ s : Fin 2048, x0 (ix2 s (⟨(y 2).val, (y 2).isLt⟩ : Fin 1024)) * x1 (ix2 s (⟨(y 3).val, (y 3).isLt⟩ : Fin 2048)) := by
  have h0 : (y 0).val < 1 := (y 0).isLt
  have h1 : (y 1).val < 1 := (y 1).isLt
  pointwise [k0_pay1]

theorem idx : ∀ t : Fin cfg0.N, win0_0.index t = ![0, t.val % 2] ∧ win0_1.index t = ![0, t.val / 2] ∧ win0_2.index t = ![t.val / 2, 0, t.val % 2, 0] :=
  (by decide +kernel : ∀ t : Fin grid0.N, _)

variable (m : (ℓ : Loc nD τ sig) → Buf (Elt Ideal) ℓ) (c : Dev nD)

theorem blk0 (t : Fin cfg0.N) (i : S2048x1024.Idx) : iblk m c 0 t i = m ((c : Thread nD τ).loc main_arg0)
    (ix2 (⟨(i 0).val, (i 0).isLt⟩ : Fin 2048) (⟨1024 * (t.val % 2) + (i 1).val, by have : (i 1).val < 1024 := (i 1).isLt; omega⟩ : Fin 2048)) := by
  blk_point [iblk, V, idx t]

theorem blk1 (t : Fin cfg0.N) (i : S2048x2048.Idx) : iblk m c 1 t i = m ((c : Thread nD τ).loc main_arg1)
    (ix2 (⟨(i 0).val, (i 0).isLt⟩ : Fin 2048) (⟨2048 * (t.val / 2) + (i 1).val, by have : (i 1).val < 2048 := (i 1).isLt; have : t.val < 8 := t.isLt; omega⟩ : Fin 8192)) := by
  blk_point [iblk, V, idx t]

theorem arr : (dats m 0 c).arrAt 2 cfg0.N = fun i : S4x1x2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 1 := (y 0).isLt
  have h1 : (y 1).val < 1 := (y 1).isLt
  have h2 : (y 2).val < 1024 := (y 2).isLt
  have h3 : (y 3).val < 2048 := (y 3).isLt
  have ht : t.val < 8 := t.isLt
  blk_simp
  rw [after0_2]
  have e : ∀ W : S4x1x2048x2048.Idx → EReal, W ((win0_2.blk t).view.emb y) = W (ix4 (⟨t.val / 2, by omega⟩ : Fin 4) (0 : Fin 1)
      (⟨1024 * (t.val % 2) + (y 2).val, by omega⟩ : Fin 2048) (⟨(y 3).val, h3⟩ : Fin 2048)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun s _ => ?_
  rfl

end Cert.UpDwIdeal.Gen

namespace Cert.UpDwRefIdeal.Read

open UpDwRefIdeal UpDwRefIdeal.Gen Idealize.ShloMosaic Idealize.ShloMosaic.TcCoe Idealize.ShloMosaic.StableHlo

theorem value (x0 : S2048x2048.Idx → EReal) (x1 : S2048x8192.Idx → EReal) (i : S4x1x2048x2048.Idx) :
    val_main_v9 (F := Ideal) x0 x1 i = UpDwIdeal.Gen.G x0 x1 i := by
  have h0 : (i 0).val < 4 := (i 0).isLt
  have h1 : (i 1).val < 1 := (i 1).isLt
  have h2 : (i 2).val < 2048 := (i 2).isLt
  have h3 : (i 3).val < 2048 := (i 3).isLt
  rw [val_main_v9_apply, val_main_v8_apply, val_main_v7_apply, val_main_v6_apply, val_main_v5_apply]
  show val_main_v4 (F := Ideal) x0 x1 _ = _
  rw [val_main_v4_apply]
  unfold UpDwIdeal.Gen.G
  refine Finset.sum_congr rfl fun s _ => (mul_comm _ _).trans (congr_arg₂ (· * ·) ?_ ?_)
  · rw [val_main_v1_apply]
    show x0 _ = x0 _
    exact congr_arg x0 (funext fun a => Fin.ext (by
      match a with
      | ⟨0, _⟩ => rfl
      | ⟨1, _⟩ => simp <;> omega))
  · rw [val_main_v3_apply]
    show x1 _ = x1 _
    exact congr_arg x1 (funext fun a => Fin.ext (by
      match a with
      | ⟨0, _⟩ => rfl
      | ⟨1, _⟩ => simp <;> omega))

end Cert.UpDwRefIdeal.Read

namespace Cert.UpDwRun

open Idealize.ShloMosaic Idealize.ShloMosaic.TcCoe

theorem algebraic : @Cert.algebraic_UpDwIdeal_UpDwRefIdeal UpDwIdeal.Gen.facts UpDwRefIdeal.Gen.facts := by
  intro m g m' g' _ hag
  refine ⟨fun c => fun i : UpDwIdeal.S4x1x2048x2048.Idx => UpDwIdeal.Gen.G (m ((c.tc : Thread _ _).loc UpDwIdeal.main_arg0))
    (m ((c.tc : Thread _ _).loc UpDwIdeal.main_arg1)) i, ?_, ?_⟩
  · refine (θ_run _ _ _).mono (fun r hr c => ?_) (UpDwIdeal.Value.run_blocks m g)
    exact ⟨(hr c).1.trans (UpDwIdeal.Gen.arr m c), (hr c).2⟩
  · refine (θ_run _ _ _).mono (fun r hr c => ?_) (UpDwRefIdeal.Value.run m' g')
    obtain ⟨e0, e1⟩ := hag c
    refine ⟨(hr c).1.trans ?_, (hr c).2⟩
    rw [UpDwRefIdeal.Read.val_main_v9_eq, e0, e1]
    exact funext fun i => UpDwRefIdeal.Read.value _ _ i

end Cert.UpDwRun

end
-- ==== Proof.Sums.lean ====
/- A sum cut into tiles. -/
module

public import Idealize.ShloMosaic.Lib.Pipeline.ValueKit

@[expose] public section

namespace Cert.Sums

theorem place_lt {A B N : ℕ} (hN : N = A * B) (j : Fin A) (k : Fin B) : B * j.val + k.val < N := by
  have hj := j.isLt
  have hk := k.isLt
  calc B * j.val + k.val < B * j.val + B := by omega
    _ = B * (j.val + 1) := by ring
    _ ≤ B * A := Nat.mul_le_mul_left _ hj
    _ = N := by rw [hN, mul_comm]

/-- A sum over `A * B` places is the sum over `A` tiles of the sums over their `B` places. -/
theorem tiles {M : Type*} [AddCommMonoid M] (A B : ℕ) {N : ℕ} (hN : N = A * B) (f : Fin N → M) :
    ∑ q : Fin N, f q = ∑ j : Fin A, ∑ k : Fin B, f ⟨B * j.val + k.val, place_lt hN j k⟩ := by
  subst hN
  rw [← finProdFinEquiv.sum_comp, Fintype.sum_prod_type]
  refine Finset.sum_congr rfl fun j _ => Finset.sum_congr rfl fun k _ => congr_arg f (Fin.ext ?_)
  simp [finProdFinEquiv, add_comm]

end Cert.Sums

end
-- ==== Proof.UpDxRun.lean ====
/- The input gradient of the MLP's first product, accumulated over the four pieces of the weight: kernel and reference end with the same array. -/
module

public import proofs.«01_k».proof.Defs
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.Pointwise
public import Idealize.ShloMosaic.Lib.Pipeline.ValueKit
public import Idealize.ShloMosaic.Lib.Quiescent
public import Idealize.ShloMosaic.Lib.Pipeline.ReadBack
public import proofs.«01_k».proof.Proof.Sums

@[expose] public section

set_option maxRecDepth 16384

open Idealize.ShloMosaic Idealize.ShloMosaic.TcCoe Idealize.SL.Sem

noncomputable section

namespace Cert.UpDxIdeal.Gen

open UpDxIdeal

/-- The product with the transposed weight, one piece of the weight after another. -/
def G (d : S2048x8192.Idx → EReal) (w : S4x1x2048x2048.Idx → EReal) (i : S2048x2048.Idx) : EReal :=
  ∑ j : Fin 4, ∑ k : Fin 2048, d (ix2 (⟨(i 0).val, (i 0).isLt⟩ : Fin 2048) (⟨2048 * j.val + k.val, by omega⟩ : Fin 8192))
    * w (ix4 j (0 : Fin 1) (⟨(i 1).val, (i 1).isLt⟩ : Fin 2048) k)

/-- One piece's product at an element of a block. -/
def term (x0 : Vec Ideal S1024x2048 .bf16) (x1 : Vec Ideal S1x1x1024x2048 .bf16) (y : S1024x1024.Idx) : EReal :=
  ∑ k : Fin 2048, x0 (ix2 (⟨(y 0).val, (y 0).isLt⟩ : Fin 1024) k) * x1 (ix4 (0 : Fin 1) (0 : Fin 1) (⟨(y 1).val, (y 1).isLt⟩ : Fin 1024) k)

theorem pay2 (x0 : Vec Ideal S1024x2048 .bf16) (x1 : Vec Ideal S1x1x1024x2048 .bf16) (y : S1024x1024.Idx) :
    k0_pay2 x0 x1 y = term x0 x1 y := by
  pointwise [k0_pay2, k0_pay1, term]

theorem pay3 (x0 : Vec Ideal S1024x2048 .bf16) (x1 : Vec Ideal S1x1x1024x2048 .bf16) (v : Vec Ideal S1024x1024 .f32) (y : S1024x1024.Idx) :
    k0_pay3 x0 x1 v y = (v y : EReal) + term x0 x1 y := by
  pointwise [k0_pay3, k0_pay1, term]

theorem idx : ∀ t : Fin cfg0.N, win0_0.index t = ![t.val / 8, t.val % 4] ∧ win0_1.index t = ![t.val % 4, 0, t.val / 4 % 2, 0]
    ∧ win0_2.index t = ![t.val / 8, t.val / 4 % 2] :=
  (by decide +kernel : ∀ t : Fin grid0.N, _)

variable (m : (ℓ : Loc nD τ sig) → Buf (Elt Ideal) ℓ) (c : Dev nD)

theorem blk0 (t : Fin cfg0.N) (i : S1024x2048.Idx) : iblk m c 0 t i = m ((c : Thread nD τ).loc main_arg0)
    (ix2 (⟨1024 * (t.val / 8) + (i 0).val, by have : (i 0).val < 1024 := (i 0).isLt; have : t.val < 16 := t.isLt; omega⟩ : Fin 2048)
      (⟨2048 * (t.val % 4) + (i 1).val, by have : (i 1).val < 2048 := (i 1).isLt; omega⟩ : Fin 8192)) := by
  blk_point [iblk, V, idx t]

theorem blk1 (t : Fin cfg0.N) (i : S1x1x1024x2048.Idx) : iblk m c 1 t i = m ((c : Thread nD τ).loc main_arg1)
    (ix4 (⟨t.val % 4, by omega⟩ : Fin 4) (0 : Fin 1)
      (⟨1024 * (t.val / 4 % 2) + (i 2).val, by have : (i 2).val < 1024 := (i 2).isLt; omega⟩ : Fin 2048) (⟨(i 3).val, (i 3).isLt⟩ : Fin 2048)) := by
  have h0 : (i 0).val < 1 := (i 0).isLt
  have h1 : (i 1).val < 1 := (i 1).isLt
  blk_point [iblk, V, idx t]

/-- The scratch sum after the first point of a run. -/
theorem first (t : Fin cfg0.N) (h : t.val % 4 = 0) (y : S1024x1024.Idx) :
    (outsAt0 m c t.val t.isLt).2 y = (0 : EReal) + term (iblk m c 0 t) (iblk m c 1 t) y := by
  rw [outsAt0_A m c t h (by omega) (by omega)]
  frame_out
  rw [pay2, zero_add]

/-- What a later point of a run adds to the scratch sum. -/
theorem later (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal)
      + term (iblk m c 0 t) (iblk m c 1 t) y := by
  by_cases h3 : t.val % 4 = 3
  · rw [outsAt0_C m c t h (by omega) h3]
    frame_out
    simp only [read_unread_whole]
    rw [pay3]
  · rw [outsAt0_B m c t h (by omega) h3]
    frame_out
    simp only [read_unread_whole]
    rw [pay3]

/-- The last point of a run writes the scratch sum out. -/
theorem last (t : Fin cfg0.N) (h : t.val % 4 = 3) (y : S1024x1024.Idx) :
    (outsAt0 m c t.val t.isLt).1 y = (outsAt0 m c t.val t.isLt).2 y := by
  rw [outsAt0_C m c t (by omega) (by omega) h]
  frame_out

theorem arr : (dats m 0 c).arrAt 2 cfg0.N = fun i : S2048x2048.Idx =>
    G (m ((c : Thread nD τ).loc main_arg0)) (m ((c : Thread nD τ).loc main_arg1)) i := by
  refine (dats m 0 c).arrAt_eq_of_covers 2 _ (by decide +kernel) fun t hf y => ?_
  have h3 : t.val % 4 = 3 := (flush0_2 t).mp hf
  have h0 : (y 0).val < 1024 := (y 0).isLt
  have h1 : (y 1).val < 1024 := (y 1).isLt
  have ht : t.val < 16 := t.isLt
  blk_simp
  rw [after0_2]
  have e : ∀ W : S2048x2048.Idx → EReal, W ((win0_2.blk t).view.emb y) = W (ix2 (⟨1024 * (t.val / 8) + (y 0).val, by omega⟩ : Fin 2048)
      (⟨1024 * (t.val / 4 % 2) + (y 1).val, by omega⟩ : Fin 2048)) := fun W => by
    blk_ext [idx t]
  rw [e (G _ _)]
  refine (last m c t h3 y).trans ?_
  refine (Pipeline.eq_sum_fin_of_reset_step_apply_of_flush (fun n h => (outsAt0 m c n h).2) 4 (fun _ => (0 : EReal))
    (fun t y => term (iblk m c 0 t) (iblk m c 1 t) y) (first m c) (later m c) t h3 y).trans ?_
  rw [zero_add]
  simp only [term, blk0, blk1, G]
  refine Finset.sum_congr rfl fun j _ => Finset.sum_congr rfl fun k _ => ?_
  have hj : j.val < 4 := j.isLt
  refine congr_arg₂ (· * ·) (congr_arg _ ?_) (congr_arg _ ?_)
  · refine congr_arg₂ (fun a b => ix2 a b) (Fin.ext ?_) (Fin.ext ?_) <;> simp <;> omega
  · refine congr_arg₂ (fun a b => ix4 a (0 : Fin 1) b k) (Fin.ext ?_) (Fin.ext ?_) <;> simp <;> omega

end Cert.UpDxIdeal.Gen

namespace Cert.UpDxRefIdeal.Read

open UpDxRefIdeal UpDxRefIdeal.Gen Idealize.ShloMosaic Idealize.ShloMosaic.TcCoe Idealize.ShloMosaic.StableHlo

theorem value (x0 : S2048x8192.Idx → EReal) (x1 : S4x1x2048x2048.Idx → EReal) (i : S2048x2048.Idx) :
    val_main_v7 (F := Ideal) x0 x1 i = UpDxIdeal.Gen.G x0 x1 i := by
  have h1 : (i 1).val < 2048 := (i 1).isLt
  rw [val_main_v7_apply]
  unfold UpDxIdeal.Gen.G
  rw [Sums.tiles 4 2048 (by norm_num)]
  refine Finset.sum_congr rfl fun j _ => Finset.sum_congr rfl fun k _ => congr_arg₂ (· * ·) ?_ ?_
  · rw [val_main_v6_apply]
    show x0 _ = x0 _
    exact congr_arg x0 (funext fun a => by match a with | ⟨0, _⟩ => rfl | ⟨1, _⟩ => rfl)
  · have hj : j.val < 4 := j.isLt
    have hk : k.val < 2048 := k.isLt
    rw [val_main_v4_apply, val_main_v3_apply]
    have e3 : idx_main_v3 (ridx_main_v7 i ⟨2048 * j.val + k.val, by omega⟩) = ix3 (⟨(i 1).val, h1⟩ : Fin 2048) j k := funext fun a => Fin.ext (by
      match a with
      | ⟨0, _⟩ => simp <;> omega
      | ⟨1, _⟩ => simp <;> omega
      | ⟨2, _⟩ => simp <;> omega)
    rw [e3, val_main_v2_apply, val_main_v1_apply]
    show x1 _ = x1 _
    refine congr_arg x1 (funext fun a => Fin.ext ?_)
    match a with
    | ⟨0, _⟩ => simp <;> omega
    | ⟨1, _⟩ => rfl
    | ⟨2, _⟩ => simp <;> omega
    | ⟨3, _⟩ => simp <;> omega

end Cert.UpDxRefIdeal.Read

namespace Cert.UpDxRun

open Idealize.ShloMosaic Idealize.ShloMosaic.TcCoe

theorem algebraic : @Cert.algebraic_UpDxIdeal_UpDxRefIdeal UpDxIdeal.Gen.facts UpDxRefIdeal.Gen.facts := by
  intro m g m' g' _ hag
  refine ⟨fun c => fun i : UpDxIdeal.S2048x2048.Idx => UpDxIdeal.Gen.G (m ((c.tc : Thread _ _).loc UpDxIdeal.main_arg0))
    (m ((c.tc : Thread _ _).loc UpDxIdeal.main_arg1)) i, ?_, ?_⟩
  · refine (θ_run _ _ _).mono (fun r hr c => ?_) (UpDxIdeal.Value.run_blocks m g)
    exact ⟨(hr c).1.trans (UpDxIdeal.Gen.arr m c), (hr c).2⟩
  · refine (θ_run _ _ _).mono (fun r hr c => ?_) (UpDxRefIdeal.Value.run m' g')
    obtain ⟨e0, e1⟩ := hag c
    refine ⟨(hr c).1.trans ?_, (hr c).2⟩
    rw [UpDxRefIdeal.Read.val_main_v7_eq, e0, e1]
    exact funext fun i => UpDxRefIdeal.Read.value _ _ i

end Cert.UpDxRun

end
-- ==== Proof.Down1Run.lean ====
/- The MLP's second product, second half, added to the residual: kernel and reference end with the same array. -/
module

public import proofs.«01_k».proof.Defs
public import proofs.«01_k».proof.Proof.Gen.Down1.Frame
public import proofs.«01_k».proof.Proof.Gen.Down1Ideal.Frame
public import proofs.«01_k».proof.Proof.Gen.Down1Ideal.Value
public import proofs.«01_k».proof.Proof.Gen.Down1RefIdeal.Run
public import proofs.«01_k».proof.Proof.Gen.Down1RefIdeal.Read
public import proofs.«01_k».proof.Proof.Sums
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

noncomputable section

namespace Cert.Down1Ideal.Gen

open Down1Ideal

/-- The product over half of the hidden layer, added to the residual. -/
def G (a : S2048x8192.Idx → EReal) (w : S4x1x2048x2048.Idx → EReal) (r : S2048x2048.Idx → EReal) (i : S2048x2048.Idx) : EReal :=
  r i + ∑ j : Fin 8, ∑ k : Fin 512, a (ix2 (⟨(i 0).val, by have : (i 0).val < 2048 := (i 0).isLt; omega⟩ : Fin 2048) (⟨512 * (2 * j.val + 1) + k.val, by omega⟩ : Fin 8192))
    * w (ix4 (⟨j.val / 2, by omega⟩ : Fin 4) (0 : Fin 1) (⟨512 * (2 * (j.val % 2) + 1) + k.val, by omega⟩ : Fin 2048) (⟨(i 1).val, by have : (i 1).val < 2048 := (i 1).isLt; omega⟩ : Fin 2048))

/-- One tile's product at an element of a block. -/
def term (x0 : Vec Ideal S1024x512 .bf16) (x1 : Vec Ideal S1x1x512x1024 .bf16) (y : S1024x1024.Idx) : EReal :=
  ∑ k : Fin 512, x0 (ix2 (⟨(y 0).val, (y 0).isLt⟩ : Fin 1024) k) * x1 (ix4 (0 : Fin 1) (0 : Fin 1) k (⟨(y 1).val, (y 1).isLt⟩ : Fin 1024))

theorem pay2 (x0 : Vec Ideal S1024x512 .bf16) (x1 : Vec Ideal S1x1x512x1024 .bf16) (y : S1024x1024.Idx) :
    k0_pay2 (F := Ideal) x0 x1 y = term x0 x1 y := by
  pointwise [k0_pay2, k0_pay1, term]

theorem pay3 (x0 : Vec Ideal S1024x512 .bf16) (x1 : Vec Ideal S1x1x512x1024 .bf16) (v : Vec Ideal S1024x1024 .f32) (y : S1024x1024.Idx) :
    k0_pay3 (F := Ideal) x0 x1 v y = (v y : EReal) + term x0 x1 y := by
  pointwise [k0_pay3, k0_pay1, term]

theorem pay4 (v : Vec Ideal S1024x1024 .f32) (r : Vec Ideal S1024x1024 .f32) (y : S1024x1024.Idx) :
    k0_pay4 (F := Ideal) v r y = (r y : EReal) + v y := by
  pointwise [k0_pay4]

theorem idx : ∀ t : Fin cfg0.N, win0_0.index t = ![t.val / 16, 2 * (t.val % 8) + 1] ∧ win0_1.index t = ![t.val % 8 / 2, 0, 2 * (t.val % 8 % 2) + 1, t.val / 8 % 2] ∧ win0_2.index t = ![t.val / 16, t.val / 8 % 2] ∧ win0_3.index t = ![t.val / 16, t.val / 8 % 2] :=
  (by decide +kernel : ∀ t : Fin grid0.N, _)

variable (m : (ℓ : Loc nD τ sig) → Buf (Elt Ideal) ℓ) (c : Dev nD)

theorem blk0 (t : Fin cfg0.N) (i : S1024x512.Idx) : iblk m c 0 t i = m ((c : Thread nD τ).loc main_arg0)
    (ix2 (⟨1024 * (t.val / 16) + (i 0).val, by have : (i 0).val < 1024 := (i 0).isLt; have : t.val < 32 := t.isLt; omega⟩ : Fin 2048) (⟨512 * (2 * (t.val % 8) + 1) + (i 1).val, by have : (i 1).val < 512 := (i 1).isLt; have : t.val < 32 := t.isLt; omega⟩ : Fin 8192)) := by
  blk_point [iblk, V, idx t]

theorem blk1 (t : Fin cfg0.N) (i : S1x1x512x1024.Idx) : iblk m c 1 t i = m ((c : Thread nD τ).loc main_arg1)
    (ix4 (⟨t.val % 8 / 2, by have : t.val < 32 := t.isLt; omega⟩ : Fin 4) (0 : Fin 1) (⟨512 * (2 * (t.val % 8 % 2) + 1) + (i 2).val, by have : (i 2).val < 512 := (i 2).isLt; have : t.val < 32 := t.isLt; omega⟩ : Fin 2048) (⟨1024 * (t.val / 8 % 2) + (i 3).val, by have : (i 3).val < 1024 := (i 3).isLt; have : t.val < 32 := t.isLt; omega⟩ : Fin 2048)) := by
  have h0 : (i 0).val < 1 := (i 0).isLt
  have h1 : (i 1).val < 1 := (i 1).isLt
  blk_point [iblk, V, idx t]

theorem blk2 (t : Fin cfg0.N) (i : S1024x1024.Idx) : iblk m c 2 t i = m ((c : Thread nD τ).loc main_arg2)
    (ix2 (⟨1024 * (t.val / 16) + (i 0).val, by have : (i 0).val < 1024 := (i 0).isLt; have : t.val < 32 := t.isLt; omega⟩ : Fin 2048) (⟨1024 * (t.val / 8 % 2) + (i 1).val, by have : (i 1).val < 1024 := (i 1).isLt; have : t.val < 32 := t.isLt; omega⟩ : Fin 2048)) := by
  blk_point [iblk, V, idx t]

/-- The scratch sum after the first point of a run. -/
theorem first (t : Fin cfg0.N) (h : t.val % 8 = 0) (y : S1024x1024.Idx) :
    (outsAt0 m c t.val t.isLt).2 y = (0 : EReal) + term (iblk m c 0 t) (iblk m c 1 t) y := by
  rw [outsAt0_A m c t h (by omega) (by omega)]
  frame_out
  rw [pay2, zero_add]

/-- What a later point of a run adds to the scratch sum. -/
theorem later (t : Fin cfg0.N) (h : ¬t.val % 8 = 0) (y : S1024x1024.Idx) :
    (outsAt0 m c t.val t.isLt).2 y = ((outsAt0 m c (t.val - 1) (Nat.lt_of_le_of_lt (Nat.sub_le _ _) t.isLt)).2 y : EReal)
      + term (iblk m c 0 t) (iblk m c 1 t) y := by
  by_cases h3 : t.val % 8 = 7
  · rw [outsAt0_C m c t h (by omega) h3]
    frame_out
    simp only [read_unread_whole]
    rw [pay3]
  · rw [outsAt0_B m c t h (by omega) h3]
    frame_out
    simp only [read_unread_whole]
    rw [pay3]

/-- The last point of a run writes the scratch sum plus the residual out. -/
theorem last (t : Fin cfg0.N) (h : t.val % 8 = 7) (y : S1024x1024.Idx) :
    (outsAt0 m c t.val t.isLt).1 y = @HAdd.hAdd EReal EReal EReal _ (iblk m c 2 t y) ((outsAt0 m c t.val t.isLt).2 y) := by
  rw [outsAt0_C m c t (by omega) (by omega) h]
  frame_out
  rw [pay4]

theorem arr : (dats m 0 c).arrAt 3 cfg0.N = fun i : S2048x2048.Idx =>
    G (m ((c : Thread nD τ).loc main_arg0)) (m ((c : Thread nD τ).loc main_arg1)) (m ((c : Thread nD τ).loc main_arg2)) i := by
  refine (dats m 0 c).arrAt_eq_of_covers 3 _ (by decide +kernel) fun t hf y => ?_
  have h3 : t.val % 8 = 7 := (flush0_3 t).mp hf
  have h0 : (y 0).val < 1024 := (y 0).isLt
  have h1 : (y 1).val < 1024 := (y 1).isLt
  have ht : t.val < 32 := t.isLt
  blk_simp
  rw [after0_3]
  have e : ∀ W : S2048x2048.Idx → EReal, W ((win0_3.blk t).view.emb y) = W (ix2 (⟨1024 * (t.val / 16) + (y 0).val, by omega⟩ : Fin 2048) (⟨1024 * (t.val / 8 % 2) + (y 1).val, by omega⟩ : Fin 2048)) := fun W => by
    blk_ext [idx t]
  rw [e (G _ _ _)]
  refine (last m c t h3 y).trans ?_
  unfold G
  refine congr_arg₂ (· + ·) (blk2 m c t y) ?_
  refine (Pipeline.eq_sum_fin_of_reset_step_apply_of_flush (fun n h => (outsAt0 m c n h).2) 8 (fun _ => (0 : EReal))
    (fun t y => term (iblk m c 0 t) (iblk m c 1 t) y) (first m c) (later m c) t h3 y).trans ?_
  rw [zero_add]
  simp only [term, blk0, blk1]
  refine Finset.sum_congr rfl fun j _ => Finset.sum_congr rfl fun k _ => ?_
  have hj : j.val < 8 := j.isLt
  refine congr_arg₂ (· * ·) (congr_arg _ ?_) (congr_arg _ ?_)
  · refine congr_arg₂ (fun a b => ix2 a b) (Fin.ext ?_) (Fin.ext ?_) <;> simp <;> omega
  · refine funext fun a => Fin.ext ?_
    match a with
    | ⟨0, _⟩ => simp <;> omega
    | ⟨1, _⟩ => rfl
    | ⟨2, _⟩ => simp <;> omega
    | ⟨3, _⟩ => simp <;> omega

end Cert.Down1Ideal.Gen

namespace Cert.Down1RefIdeal.Read

open Down1RefIdeal Down1RefIdeal.Gen Idealize.ShloMosaic Idealize.ShloMosaic.TcCoe Idealize.ShloMosaic.StableHlo

theorem value (x0 : S2048x8192.Idx → EReal) (x1 : S4x1x2048x2048.Idx → EReal) (x2 : S2048x2048.Idx → EReal) (i : S2048x2048.Idx) :
    val_main_v13 (F := Ideal) x0 x1 x2 i = Down1Ideal.Gen.G x0 x1 x2 i := by
  have h0 : (i 0).val < 2048 := (i 0).isLt
  have h1 : (i 1).val < 2048 := (i 1).isLt
  rw [val_main_v13_apply, val_main_v12_apply]
  unfold Down1Ideal.Gen.G
  refine congr_arg (x2 i + ·) ?_
  rw [Sums.tiles 8 512 (by norm_num)]
  refine Finset.sum_congr rfl fun j _ => Finset.sum_congr rfl fun k _ => ?_
  have hj : j.val < 8 := j.isLt
  have hk : k.val < 512 := k.isLt
  refine congr_arg₂ (· * ·) ?_ ?_
  · rw [val_main_v4_apply]
    have e4 : idx_main_v4 (lidx_main_v12 i ⟨512 * j.val + k.val, by omega⟩) = ix3 (⟨(i 0).val, h0⟩ : Fin 2048) j k := funext fun a => Fin.ext (by
      match a with
      | ⟨0, _⟩ => simp <;> omega
      | ⟨1, _⟩ => simp <;> omega
      | ⟨2, _⟩ => simp <;> omega)
    rw [e4, val_main_v3_apply]
    have e3 : idx_main_v3 (ix3 (⟨(i 0).val, h0⟩ : Fin 2048) j k) = ix4 (⟨(i 0).val, h0⟩ : Fin 2048) j (0 : Fin 1) k := funext fun a => Fin.ext (by
      match a with
      | ⟨0, _⟩ => simp <;> omega
      | ⟨1, _⟩ => simp <;> omega
      | ⟨2, _⟩ => rfl
      | ⟨3, _⟩ => simp <;> omega)
    rw [e3, val_main_v2_apply, val_main_v1_apply, val_main_v0_apply]
    show x0 _ = x0 _
    exact congr_arg x0 (funext fun a => Fin.ext (by
      match a with
      | ⟨0, _⟩ => simp <;> omega
      | ⟨1, _⟩ => simp <;> omega))
  · rw [val_main_v11_apply]
    have e11 : idx_main_v11 (ridx_main_v12 i ⟨512 * j.val + k.val, by omega⟩) = ix3 j k (⟨(i 1).val, h1⟩ : Fin 2048) := funext fun a => Fin.ext (by
      match a with
      | ⟨0, _⟩ => simp <;> omega
      | ⟨1, _⟩ => simp <;> omega
      | ⟨2, _⟩ => simp <;> omega)
    rw [e11, val_main_v10_apply]
    have e10 : idx_main_v10 (ix3 j k (⟨(i 1).val, h1⟩ : Fin 2048)) = ix4 j (0 : Fin 1) k (⟨(i 1).val, h1⟩ : Fin 2048) := funext fun a => Fin.ext (by
      match a with
      | ⟨0, _⟩ => simp <;> omega
      | ⟨1, _⟩ => rfl
      | ⟨2, _⟩ => simp <;> omega
      | ⟨3, _⟩ => simp <;> omega)
    rw [e10, val_main_v9_apply, val_main_v8_apply]
    have e8 : idx_main_v8 (idx_main_v9 (ix4 j (0 : Fin 1) k (⟨(i 1).val, h1⟩ : Fin 2048))) = ix2 (⟨512 * (2 * j.val + 1) + k.val, by omega⟩ : Fin 8192) (⟨(i 1).val, h1⟩ : Fin 2048) := funext fun a => Fin.ext (by
      match a with
      | ⟨0, _⟩ => simp <;> omega
      | ⟨1, _⟩ => simp <;> omega)
    rw [e8, val_main_v7_apply, val_main_v6_apply, val_main_v5_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

end Cert.Down1RefIdeal.Read

namespace Cert.Down1Run

open Idealize.ShloMosaic Idealize.ShloMosaic.TcCoe

theorem algebraic : @Cert.algebraic_Down1Ideal_Down1RefIdeal Down1Ideal.Gen.facts Down1RefIdeal.Gen.facts := by
  intro m g m' g' _ hag
  refine ⟨fun c => fun i : Down1Ideal.S2048x2048.Idx => Down1Ideal.Gen.G (m ((c.tc : Thread _ _).loc Down1Ideal.main_arg0)) (m ((c.tc : Thread _ _).loc Down1Ideal.main_arg1)) (m ((c.tc : Thread _ _).loc Down1Ideal.main_arg2)) i, ?_, ?_⟩
  · refine (θ_run _ _ _).mono (fun r hr c => ?_) (Down1Ideal.Value.run_blocks m g)
    obtain ⟨a0, ha⟩ := hr c
    exact ⟨a0.trans (Down1Ideal.Gen.arr m c), ha⟩
  · refine (θ_run _ _ _).mono (fun r hr c => ?_) (Down1RefIdeal.Value.run m' g')
    obtain ⟨e0, e1, e2⟩ := hag c
    obtain ⟨a0, ha⟩ := hr c
    refine ⟨a0.trans ?_, ha⟩
    rw [Down1RefIdeal.Read.val_main_v13_eq, e0, e1, e2]
    exact funext fun i => Down1RefIdeal.Read.value _ _ _ i

end Cert.Down1Run

end
-- ==== Proof.Down0Run.lean ====
/- The MLP's second product, first half, added to the residual: kernel and reference end with the same array. -/
module

public import proofs.«01_k».proof.Defs
public import proofs.«01_k».proof.Proof.Gen.Down0.Frame
public import proofs.«01_k».proof.Proof.Gen.Down0Ideal.Frame
public import proofs.«01_k».proof.Proof.Gen.Down0Ideal.Value
public import proofs.«01_k».proof.Proof.Gen.Down0RefIdeal.Run
public import proofs.«01_k».proof.Proof.Gen.Down0RefIdeal.Read
public import proofs.«01_k».proof.Proof.Sums
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

noncomputable section

namespace Cert.Down0Ideal.Gen

open Down0Ideal

/-- The product over half of the hidden layer, added to the residual. -/
def G (a : S2048x8192.Idx → EReal) (w : S4x1x2048x2048.Idx → EReal) (r : S2048x2048.Idx → EReal) (i : S2048x2048.Idx) : EReal :=
  r i + ∑ j : Fin 8, ∑ k : Fin 512, a (ix2 (⟨(i 0).val, by have : (i 0).val < 2048 := (i 0).isLt; omega⟩ : Fin 2048) (⟨512 * (2 * j.val + 0) + k.val, by omega⟩ : Fin 8192))
    * w (ix4 (⟨j.val / 2, by omega⟩ : Fin 4) (0 : Fin 1) (⟨512 * (2 * (j.val % 2) + 0) + k.val, by omega⟩ : Fin 2048) (⟨(i 1).val, by have : (i 1).val < 2048 := (i 1).isLt; omega⟩ : Fin 2048))

/-- One tile's product at an element of a block. -/
def term (x0 : Vec Ideal S1024x512 .bf16) (x1 : Vec Ideal S1x1x512x1024 .bf16) (y : S1024x1024.Idx) : EReal :=
  ∑ k : Fin 512, x0 (ix2 (⟨(y 0).val, (y 0).isLt⟩ : Fin 1024) k) * x1 (ix4 (0 : Fin 1) (0 : Fin 1) k (⟨(y 1).val, (y 1).isLt⟩ : Fin 1024))

theorem pay2 (x0 : Vec Ideal S1024x512 .bf16) (x1 : Vec Ideal S1x1x512x1024 .bf16) (y : S1024x1024.Idx) :
    k0_pay2 (F := Ideal) x0 x1 y = term x0 x1 y := by
  pointwise [k0_pay2, k0_pay1, term]

theorem pay3 (x0 : Vec Ideal S1024x512 .bf16) (x1 : Vec Ideal S1x1x512x1024 .bf16) (v : Vec Ideal S1024x1024 .f32) (y : S1024x1024.Idx) :
    k0_pay3 (F := Ideal) x0 x1 v y = (v y : EReal) + term x0 x1 y := by
  pointwise [k0_pay3, k0_pay1, term]

theorem pay4 (v : Vec Ideal S1024x1024 .f32) (r : Vec Ideal S1024x1024 .f32) (y : S1024x1024.Idx) :
    k0_pay4 (F := Ideal) v r y = (r y : EReal) + v y := by
  pointwise [k0_pay4]

theorem idx : ∀ t : Fin cfg0.N, win0_0.index t = ![t.val / 16, 2 * (t.val % 8) + 0] ∧ win0_1.index t = ![t.val % 8 / 2, 0, 2 * (t.val % 8 % 2) + 0, t.val / 8 % 2] ∧ win0_2.index t = ![t.val / 16, t.val / 8 % 2] ∧ win0_3.index t = ![t.val / 16, t.val / 8 % 2] :=
  (by decide +kernel : ∀ t : Fin grid0.N, _)

variable (m : (ℓ : Loc nD τ sig) → Buf (Elt Ideal) ℓ) (c : Dev nD)

theorem blk0 (t : Fin cfg0.N) (i : S1024x512.Idx) : iblk m c 0 t i = m ((c : Thread nD τ).loc main_arg0)
    (ix2 (⟨1024 * (t.val / 16) + (i 0).val, by have : (i 0).val < 1024 := (i 0).isLt; have : t.val < 32 := t.isLt; omega⟩ : Fin 2048) (⟨512 * (2 * (t.val % 8) + 0) + (i 1).val, by have : (i 1).val < 512 := (i 1).isLt; have : t.val < 32 := t.isLt; omega⟩ : Fin 8192)) := by
  blk_point [iblk, V, idx t]

theorem blk1 (t : Fin cfg0.N) (i : S1x1x512x1024.Idx) : iblk m c 1 t i = m ((c : Thread nD τ).loc main_arg1)
    (ix4 (⟨t.val % 8 / 2, by have : t.val < 32 := t.isLt; omega⟩ : Fin 4) (0 : Fin 1) (⟨512 * (2 * (t.val % 8 % 2) + 0) + (i 2).val, by have : (i 2).val < 512 := (i 2).isLt; have : t.val < 32 := t.isLt; omega⟩ : Fin 2048) (⟨1024 * (t.val / 8 % 2) + (i 3).val, by have : (i 3).val < 1024 := (i 3).isLt; have : t.val < 32 := t.isLt; omega⟩ : Fin 2048)) := by
  have h0 : (i 0).val < 1 := (i 0).isLt
  have h1 : (i 1).val < 1 := (i 1).isLt
  blk_point [iblk, V, idx t]

theorem blk2 (t : Fin cfg0.N) (i : S1024x1024.Idx) : iblk m c 2 t i = m ((c : Thread nD τ).loc main_arg2)
    (ix2 (⟨1024 * (t.val / 16) + (i 0).val, by have : (i 0).val < 1024 := (i 0).isLt; have : t.val < 32 := t.isLt; omega⟩ : Fin 2048) (⟨1024 * (t.val / 8 % 2) + (i 1).val, by have : (i 1).val < 1024 := (i 1).isLt; have : t.val < 32 := t.isLt; omega⟩ : Fin 2048)) := by
  blk_point [iblk, V, idx t]

/-- The scratch sum after the first point of a run. -/
theorem first (t : Fin cfg0.N) (h : t.val % 8 = 0) (y : S1024x1024.Idx) :
    (outsAt0 m c t.val t.isLt).2 y = (0 : EReal) + term (iblk m c 0 t) (iblk m c 1 t) y := by
  rw [outsAt0_A m c t h (by omega) (by omega)]
  frame_out
  rw [pay2, zero_add]

/-- What a later point of a run adds to the scratch sum. -/
theorem later (t : Fin cfg0.N) (h : ¬t.val % 8 = 0) (y : S1024x1024.Idx) :
    (outsAt0 m c t.val t.isLt).2 y = ((outsAt0 m c (t.val - 1) (Nat.lt_of_le_of_lt (Nat.sub_le _ _) t.isLt)).2 y : EReal)
      + term (iblk m c 0 t) (iblk m c 1 t) y := by
  by_cases h3 : t.val % 8 = 7
  · rw [outsAt0_C m c t h (by omega) h3]
    frame_out
    simp only [read_unread_whole]
    rw [pay3]
  · rw [outsAt0_B m c t h (by omega) h3]
    frame_out
    simp only [read_unread_whole]
    rw [pay3]

/-- The last point of a run writes the scratch sum plus the residual out. -/
theorem last (t : Fin cfg0.N) (h : t.val % 8 = 7) (y : S1024x1024.Idx) :
    (outsAt0 m c t.val t.isLt).1 y = @HAdd.hAdd EReal EReal EReal _ (iblk m c 2 t y) ((outsAt0 m c t.val t.isLt).2 y) := by
  rw [outsAt0_C m c t (by omega) (by omega) h]
  frame_out
  rw [pay4]

theorem arr : (dats m 0 c).arrAt 3 cfg0.N = fun i : S2048x2048.Idx =>
    G (m ((c : Thread nD τ).loc main_arg0)) (m ((c : Thread nD τ).loc main_arg1)) (m ((c : Thread nD τ).loc main_arg2)) i := by
  refine (dats m 0 c).arrAt_eq_of_covers 3 _ (by decide +kernel) fun t hf y => ?_
  have h3 : t.val % 8 = 7 := (flush0_3 t).mp hf
  have h0 : (y 0).val < 1024 := (y 0).isLt
  have h1 : (y 1).val < 1024 := (y 1).isLt
  have ht : t.val < 32 := t.isLt
  blk_simp
  rw [after0_3]
  have e : ∀ W : S2048x2048.Idx → EReal, W ((win0_3.blk t).view.emb y) = W (ix2 (⟨1024 * (t.val / 16) + (y 0).val, by omega⟩ : Fin 2048) (⟨1024 * (t.val / 8 % 2) + (y 1).val, by omega⟩ : Fin 2048)) := fun W => by
    blk_ext [idx t]
  rw [e (G _ _ _)]
  refine (last m c t h3 y).trans ?_
  unfold G
  refine congr_arg₂ (· + ·) (blk2 m c t y) ?_
  refine (Pipeline.eq_sum_fin_of_reset_step_apply_of_flush (fun n h => (outsAt0 m c n h).2) 8 (fun _ => (0 : EReal))
    (fun t y => term (iblk m c 0 t) (iblk m c 1 t) y) (first m c) (later m c) t h3 y).trans ?_
  rw [zero_add]
  simp only [term, blk0, blk1]
  refine Finset.sum_congr rfl fun j _ => Finset.sum_congr rfl fun k _ => ?_
  have hj : j.val < 8 := j.isLt
  refine congr_arg₂ (· * ·) (congr_arg _ ?_) (congr_arg _ ?_)
  · refine congr_arg₂ (fun a b => ix2 a b) (Fin.ext ?_) (Fin.ext ?_) <;> simp <;> omega
  · refine funext fun a => Fin.ext ?_
    match a with
    | ⟨0, _⟩ => simp <;> omega
    | ⟨1, _⟩ => rfl
    | ⟨2, _⟩ => simp <;> omega
    | ⟨3, _⟩ => simp <;> omega

end Cert.Down0Ideal.Gen

namespace Cert.Down0RefIdeal.Read

open Down0RefIdeal Down0RefIdeal.Gen Idealize.ShloMosaic Idealize.ShloMosaic.TcCoe Idealize.ShloMosaic.StableHlo

theorem value (x0 : S2048x8192.Idx → EReal) (x1 : S4x1x2048x2048.Idx → EReal) (x2 : S2048x2048.Idx → EReal) (i : S2048x2048.Idx) :
    val_main_v13 (F := Ideal) x0 x1 x2 i = Down0Ideal.Gen.G x0 x1 x2 i := by
  have h0 : (i 0).val < 2048 := (i 0).isLt
  have h1 : (i 1).val < 2048 := (i 1).isLt
  rw [val_main_v13_apply, val_main_v12_apply]
  unfold Down0Ideal.Gen.G
  refine congr_arg (x2 i + ·) ?_
  rw [Sums.tiles 8 512 (by norm_num)]
  refine Finset.sum_congr rfl fun j _ => Finset.sum_congr rfl fun k _ => ?_
  have hj : j.val < 8 := j.isLt
  have hk : k.val < 512 := k.isLt
  refine congr_arg₂ (· * ·) ?_ ?_
  · rw [val_main_v4_apply]
    have e4 : idx_main_v4 (lidx_main_v12 i ⟨512 * j.val + k.val, by omega⟩) = ix3 (⟨(i 0).val, h0⟩ : Fin 2048) j k := funext fun a => Fin.ext (by
      match a with
      | ⟨0, _⟩ => simp <;> omega
      | ⟨1, _⟩ => simp <;> omega
      | ⟨2, _⟩ => simp <;> omega)
    rw [e4, val_main_v3_apply]
    have e3 : idx_main_v3 (ix3 (⟨(i 0).val, h0⟩ : Fin 2048) j k) = ix4 (⟨(i 0).val, h0⟩ : Fin 2048) j (0 : Fin 1) k := funext fun a => Fin.ext (by
      match a with
      | ⟨0, _⟩ => simp <;> omega
      | ⟨1, _⟩ => simp <;> omega
      | ⟨2, _⟩ => rfl
      | ⟨3, _⟩ => simp <;> omega)
    rw [e3, val_main_v2_apply, val_main_v1_apply, val_main_v0_apply]
    show x0 _ = x0 _
    exact congr_arg x0 (funext fun a => Fin.ext (by
      match a with
      | ⟨0, _⟩ => simp <;> omega
      | ⟨1, _⟩ => simp <;> omega))
  · rw [val_main_v11_apply]
    have e11 : idx_main_v11 (ridx_main_v12 i ⟨512 * j.val + k.val, by omega⟩) = ix3 j k (⟨(i 1).val, h1⟩ : Fin 2048) := funext fun a => Fin.ext (by
      match a with
      | ⟨0, _⟩ => simp <;> omega
      | ⟨1, _⟩ => simp <;> omega
      | ⟨2, _⟩ => simp <;> omega)
    rw [e11, val_main_v10_apply]
    have e10 : idx_main_v10 (ix3 j k (⟨(i 1).val, h1⟩ : Fin 2048)) = ix4 j (0 : Fin 1) k (⟨(i 1).val, h1⟩ : Fin 2048) := funext fun a => Fin.ext (by
      match a with
      | ⟨0, _⟩ => simp <;> omega
      | ⟨1, _⟩ => rfl
      | ⟨2, _⟩ => simp <;> omega
      | ⟨3, _⟩ => simp <;> omega)
    rw [e10, val_main_v9_apply, val_main_v8_apply]
    have e8 : idx_main_v8 (idx_main_v9 (ix4 j (0 : Fin 1) k (⟨(i 1).val, h1⟩ : Fin 2048))) = ix2 (⟨512 * (2 * j.val + 0) + k.val, by omega⟩ : Fin 8192) (⟨(i 1).val, h1⟩ : Fin 2048) := funext fun a => Fin.ext (by
      match a with
      | ⟨0, _⟩ => simp <;> omega
      | ⟨1, _⟩ => simp <;> omega)
    rw [e8, val_main_v7_apply, val_main_v6_apply, val_main_v5_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

end Cert.Down0RefIdeal.Read

namespace Cert.Down0Run

open Idealize.ShloMosaic Idealize.ShloMosaic.TcCoe

theorem algebraic : @Cert.algebraic_Down0Ideal_Down0RefIdeal Down0Ideal.Gen.facts Down0RefIdeal.Gen.facts := by
  intro m g m' g' _ hag
  refine ⟨fun c => fun i : Down0Ideal.S2048x2048.Idx => Down0Ideal.Gen.G (m ((c.tc : Thread _ _).loc Down0Ideal.main_arg0)) (m ((c.tc : Thread _ _).loc Down0Ideal.main_arg1)) (m ((c.tc : Thread _ _).loc Down0Ideal.main_arg2)) i, ?_, ?_⟩
  · refine (θ_run _ _ _).mono (fun r hr c => ?_) (Down0Ideal.Value.run_blocks m g)
    obtain ⟨a0, ha⟩ := hr c
    exact ⟨a0.trans (Down0Ideal.Gen.arr m c), ha⟩
  · refine (θ_run _ _ _).mono (fun r hr c => ?_) (Down0RefIdeal.Value.run m' g')
    obtain ⟨e0, e1, e2⟩ := hag c
    obtain ⟨a0, ha⟩ := hr c
    refine ⟨a0.trans ?_, ha⟩
    rw [Down0RefIdeal.Read.val_main_v13_eq, e0, e1, e2]
    exact funext fun i => Down0RefIdeal.Read.value _ _ _ i

end Cert.Down0Run

end
-- ==== Proof.GrpRun.lean ====
/- The grouped product and its scaled copy: kernel and reference end with the same arrays. -/
module

public import proofs.«01_k».proof.Defs
public import proofs.«01_k».proof.Proof.Gen.Grp.Frame
public import proofs.«01_k».proof.Proof.Gen.GrpIdeal.Frame
public import proofs.«01_k».proof.Proof.Gen.GrpIdeal.Value
public import proofs.«01_k».proof.Proof.Gen.GrpRefIdeal.Run
public import proofs.«01_k».proof.Proof.Gen.GrpRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.GrpIdeal.Gen

open GrpIdeal

/-- The product of each group with the group's matrix. -/
def G (p : S2048x2048.Idx → EReal) (w : S4x4x128x512.Idx → EReal) (i : S2048x2048.Idx) : EReal :=
  ∑ k : Fin 512, p (ix2 (⟨(i 0).val, by have : (i 0).val < 2048 := (i 0).isLt; omega⟩ : Fin 2048) (⟨512 * ((i 1).val / 512) + k.val, by have : (i 1).val < 2048 := (i 1).isLt; omega⟩ : Fin 2048))
    * w (ix4 (⟨k.val / 128, by omega⟩ : Fin 4) (⟨(i 1).val / 512, by have : (i 1).val < 2048 := (i 1).isLt; omega⟩ : Fin 4) (⟨k.val % 128, by omega⟩ : Fin 128) (⟨(i 1).val % 512, by omega⟩ : Fin 512))

/-- The product times the scale of its column. -/
def H (p : S2048x2048.Idx → EReal) (w : S4x4x128x512.Idx → EReal) (c : S1x2048.Idx → EReal) (i : S2048x2048.Idx) : EReal :=
  G p w i * c (ix2 (0 : Fin 1) (⟨(i 1).val, by have : (i 1).val < 2048 := (i 1).isLt; omega⟩ : Fin 2048))

theorem pay1 (x0 : Vec Ideal S2048x512 .bf16) (x1 : Vec Ideal S4x1x128x512 .bf16) (y : S2048x512.Idx) :
    k0_pay1 (F := Ideal) x0 x1 y = ∑ k : Fin 512, x0 (ix2 (y 0) k) * x1 (ix4 (⟨k.val / 128, by omega⟩ : Fin 4) (0 : Fin 1) (⟨k.val % 128, by omega⟩ : Fin 128) (y 1)) := by
  pointwise [k0_pay1]

theorem pay2 (x0 : Vec Ideal S2048x512 .bf16) (x1 : Vec Ideal S4x1x128x512 .bf16) (x2 : Vec Ideal S1x512 .f32) (y : S2048x512.Idx) :
    k0_pay2 (F := Ideal) x0 x1 x2 y = (∑ k : Fin 512, x0 (ix2 (y 0) k) * x1 (ix4 (⟨k.val / 128, by omega⟩ : Fin 4) (0 : Fin 1) (⟨k.val % 128, by omega⟩ : Fin 128) (y 1))) * x2 (ix2 (0 : Fin 1) (y 1)) := by
  pointwise [k0_pay2, k0_pay1]

theorem idx : ∀ t : Fin cfg0.N, win0_0.index t = ![0, t.val] ∧ win0_1.index t = ![0, t.val, 0, 0] ∧ win0_2.index t = ![0, t.val] ∧ win0_3.index t = ![0, t.val] ∧ win0_4.index t = ![0, t.val] :=
  (by decide +kernel : ∀ t : Fin grid0.N, _)

variable (m : (ℓ : Loc nD τ sig) → Buf (Elt Ideal) ℓ) (c : Dev nD)

theorem blk0 (t : Fin cfg0.N) (i : S2048x512.Idx) : iblk m c 0 t i = m ((c : Thread nD τ).loc main_arg0)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem blk1 (t : Fin cfg0.N) (i : S4x1x128x512.Idx) : iblk m c 1 t i = m ((c : Thread nD τ).loc main_arg1)
    (ix4 (⟨(i 0).val, by have : (i 0).val < 4 := (i 0).isLt; omega⟩ : Fin 4) (⟨t.val, by have : t.val < 4 := t.isLt; omega⟩ : Fin 4) (⟨(i 2).val, by have : (i 2).val < 128 := (i 2).isLt; omega⟩ : Fin 128) (⟨(i 3).val, by have : (i 3).val < 512 := (i 3).isLt; omega⟩ : Fin 512)) := by
  have h1 : (i 1).val < 1 := (i 1).isLt
  blk_point [iblk, V, idx t]

theorem blk2 (t : Fin cfg0.N) (i : S1x512.Idx) : iblk m c 2 t i = m ((c : Thread nD τ).loc main_arg2)
    (ix2 (0 : Fin 1) (⟨512 * t.val + (i 1).val, by have : (i 1).val < 512 := (i 1).isLt; have : t.val < 4 := t.isLt; omega⟩ : Fin 2048)) := by
  have h0 : (i 0).val < 1 := (i 0).isLt
  blk_point [iblk, V, idx t]

theorem arr0 : (dats m 0 c).arrAt 3 cfg0.N = fun i : S2048x2048.Idx =>
    G (m ((c : Thread nD τ).loc main_arg0)) (m ((c : Thread nD τ).loc main_arg1)) i := by
  refine (dats m 0 c).arrAt_eq_of_covers 3 _ (by decide +kernel) fun t hf y => ?_
  have h0 : (y 0).val < 2048 := (y 0).isLt
  have h1 : (y 1).val < 512 := (y 1).isLt
  have ht : t.val < 4 := t.isLt
  blk_simp
  rw [after0_3]
  have e : ∀ W : S2048x2048.Idx → EReal, W ((win0_3.blk t).view.emb y) = W (ix2 (⟨(y 0).val, by omega⟩ : Fin 2048) (⟨512 * t.val + (y 1).val, by omega⟩ : Fin 2048)) := fun W => by
    blk_ext [idx t]
  rw [e (G _ _)]
  unfold out0_3
  rw [View.canon_unit_zero (by decide), View.ld_unit_zero (by decide), View.ld_unit_zero (by decide)]
  refine (pay1 _ _ y).trans ?_
  simp only [blk0, blk1, G]
  refine Finset.sum_congr rfl fun k _ => congr_arg₂ (· * ·) (congr_arg _ ?_) (congr_arg _ ?_)
  · refine congr_arg₂ (fun a b => ix2 a b) rfl (Fin.ext ?_)
    show 512 * t.val + k.val = 512 * ((512 * t.val + (y 1).val) / 512) + k.val
    omega
  · have e1 : t.val = (512 * t.val + (y 1).val) / 512 := by omega
    have e3 : (y 1).val = (512 * t.val + (y 1).val) % 512 := by omega
    refine funext fun a => Fin.ext ?_
    match a with
    | ⟨0, _⟩ => rfl
    | ⟨1, _⟩ => exact e1
    | ⟨2, _⟩ => rfl
    | ⟨3, _⟩ => exact e3

theorem arr1 : (dats m 0 c).arrAt 4 cfg0.N = fun i : S2048x2048.Idx =>
    H (m ((c : Thread nD τ).loc main_arg0)) (m ((c : Thread nD τ).loc main_arg1)) (m ((c : Thread nD τ).loc main_arg2)) i := by
  refine (dats m 0 c).arrAt_eq_of_covers 4 _ (by decide +kernel) fun t hf y => ?_
  have h0 : (y 0).val < 2048 := (y 0).isLt
  have h1 : (y 1).val < 512 := (y 1).isLt
  have ht : t.val < 4 := t.isLt
  blk_simp
  rw [after0_4]
  have e : ∀ W : S2048x2048.Idx → EReal, W ((win0_4.blk t).view.emb y) = W (ix2 (⟨(y 0).val, by omega⟩ : Fin 2048) (⟨512 * t.val + (y 1).val, by omega⟩ : Fin 2048)) := fun W => by
    blk_ext [idx t]
  rw [e (H _ _ _)]
  unfold out0_4
  rw [View.canon_unit_zero (by decide), View.ld_unit_zero (by decide), View.ld_unit_zero (by decide), View.ld_unit_zero (by decide)]
  refine (pay2 _ _ _ y).trans ?_
  simp only [blk0, blk1, blk2, H]
  unfold G
  refine congr_arg₂ (· * ·) ?_ rfl
  refine Finset.sum_congr rfl fun k _ => congr_arg₂ (· * ·) (congr_arg _ ?_) (congr_arg _ ?_)
  · refine congr_arg₂ (fun a b => ix2 a b) rfl (Fin.ext ?_)
    show 512 * t.val + k.val = 512 * ((512 * t.val + (y 1).val) / 512) + k.val
    omega
  · have e1 : t.val = (512 * t.val + (y 1).val) / 512 := by omega
    have e3 : (y 1).val = (512 * t.val + (y 1).val) % 512 := by omega
    refine funext fun a => Fin.ext ?_
    match a with
    | ⟨0, _⟩ => rfl
    | ⟨1, _⟩ => exact e1
    | ⟨2, _⟩ => rfl
    | ⟨3, _⟩ => exact e3

end Cert.GrpIdeal.Gen

namespace Cert.GrpRefIdeal.Read

open GrpRefIdeal GrpRefIdeal.Gen Idealize.ShloMosaic Idealize.ShloMosaic.TcCoe Idealize.ShloMosaic.StableHlo

theorem value0 (x0 : S2048x2048.Idx → EReal) (x1 : S4x4x128x512.Idx → EReal) (i : S2048x2048.Idx) :
    val_main_v7 (F := Ideal) x0 x1 i = GrpIdeal.Gen.G x0 x1 i := by
  have h0 : (i 0).val < 2048 := (i 0).isLt
  have h1 : (i 1).val < 2048 := (i 1).isLt
  rw [val_main_v7_apply]
  have e7 : idx_main_v7 i = ix3 (⟨(i 0).val, h0⟩ : Fin 2048) (⟨(i 1).val / 512, by omega⟩ : Fin 4) (⟨(i 1).val % 512, by omega⟩ : Fin 512) := funext fun a => Fin.ext (by
    match a with
    | ⟨0, _⟩ => simp <;> omega
    | ⟨1, _⟩ => simp <;> omega
    | ⟨2, _⟩ => simp <;> omega)
  rw [e7, val_main_v6_apply, val_main_v5_apply]
  unfold GrpIdeal.Gen.G
  refine Finset.sum_congr rfl fun k _ => (mul_comm _ _).trans (congr_arg₂ (· * ·) ?_ ?_)
  · have hk : k.val < 512 := k.isLt
    rw [val_main_v4_apply, val_main_v0_apply]
    show x0 _ = x0 _
    exact congr_arg x0 (funext fun a => Fin.ext (by
      match a with
      | ⟨0, _⟩ => simp <;> omega
      | ⟨1, _⟩ => simp <;> omega))
  · have hk : k.val < 512 := k.isLt
    rw [val_main_v3_apply, val_main_v2_apply, val_main_v1_apply]
    show x1 _ = x1 _
    exact congr_arg x1 (funext fun a => Fin.ext (by
      match a with
      | ⟨0, _⟩ => simp <;> omega
      | ⟨1, _⟩ => simp <;> omega
      | ⟨2, _⟩ => simp <;> omega
      | ⟨3, _⟩ => simp <;> omega))

theorem value1 (x0 : S2048x2048.Idx → EReal) (x1 : S4x4x128x512.Idx → EReal) (x2 : S1x2048.Idx → EReal) (i : S2048x2048.Idx) :
    val_main_v10 (F := Ideal) x0 x1 x2 i = GrpIdeal.Gen.H x0 x1 x2 i := by
  have h1 : (i 1).val < 2048 := (i 1).isLt
  rw [val_main_v10_apply, val_main_v9_apply, value0, val_main_v8_apply]
  show GrpIdeal.Gen.G x0 x1 i * x2 _ = GrpIdeal.Gen.G x0 x1 i * x2 _
  refine congr_arg (_ * ·) ?_
  show x2 _ = x2 _
  exact congr_arg x2 (funext fun a => Fin.ext (by
    match a with
    | ⟨0, _⟩ => rfl
    | ⟨1, _⟩ => rfl))

end Cert.GrpRefIdeal.Read

namespace Cert.GrpRun

open Idealize.ShloMosaic Idealize.ShloMosaic.TcCoe

theorem algebraic : @Cert.algebraic_GrpIdeal_GrpRefIdeal GrpIdeal.Gen.facts GrpRefIdeal.Gen.facts := by
  intro m g m' g' _ hag
  refine ⟨fun c => fun i : GrpIdeal.S2048x2048.Idx => GrpIdeal.Gen.G (m ((c.tc : Thread _ _).loc GrpIdeal.main_arg0)) (m ((c.tc : Thread _ _).loc GrpIdeal.main_arg1)) i, fun c => fun i : GrpIdeal.S2048x2048.Idx => GrpIdeal.Gen.H (m ((c.tc : Thread _ _).loc GrpIdeal.main_arg0)) (m ((c.tc : Thread _ _).loc GrpIdeal.main_arg1)) (m ((c.tc : Thread _ _).loc GrpIdeal.main_arg2)) i, ?_, ?_⟩
  · refine (θ_run _ _ _).mono (fun r hr c => ?_) (GrpIdeal.Value.run_blocks m g)
    obtain ⟨a0, a1, ha⟩ := hr c
    exact ⟨a0.trans (GrpIdeal.Gen.arr0 m c), a1.trans (GrpIdeal.Gen.arr1 m c), ha⟩
  · refine (θ_run _ _ _).mono (fun r hr c => ?_) (GrpRefIdeal.Value.run m' g')
    obtain ⟨e0, e1, e2⟩ := hag c
    obtain ⟨a0, a1, ha⟩ := hr c
    refine ⟨a0.trans ?_, a1.trans ?_, ha⟩
    · rw [GrpRefIdeal.Read.val_main_v7_eq, e0, e1]
      exact funext fun i => GrpRefIdeal.Read.value0 _ _ i
    · rw [GrpRefIdeal.Read.val_main_v10_eq, e0, e1, e2]
      exact funext fun i => GrpRefIdeal.Read.value1 _ _ _ i

end Cert.GrpRun

end
@[expose] public section
-- ==== Proof.BInRun.lean ====
/- The second mixing layer's first product: kernel and reference end with the same array. -/
module

public import proofs.«01_k».proof.Defs
public import proofs.«01_k».proof.Proof.Gen.BIn.Frame
public import proofs.«01_k».proof.Proof.Gen.BInIdeal.Frame
public import proofs.«01_k».proof.Proof.Gen.BInIdeal.Value
public import proofs.«01_k».proof.Proof.Gen.BInRefIdeal.Run
public import proofs.«01_k».proof.Proof.Gen.BInRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.BInIdeal.Gen

open BInIdeal

/-- The product. -/
def G (x : S2048x2048.Idx → EReal) (w : S4x1x512x2048.Idx → EReal) (i : S2048x2048.Idx) : EReal :=
  ∑ k : Fin 2048, x (ix2 (⟨(i 0).val, by have : (i 0).val < 2048 := (i 0).isLt; omega⟩ : Fin 2048) k)
    * w (ix4 (⟨k.val / 512, by omega⟩ : Fin 4) (0 : Fin 1) (⟨k.val % 512, by omega⟩ : Fin 512) (⟨(i 1).val, by have : (i 1).val < 2048 := (i 1).isLt; omega⟩ : Fin 2048))

theorem pay (x0 : Vec Ideal S2048x2048 .bf16) (x1 : Vec Ideal S4x1x512x512 .bf16) (y : S2048x512.Idx) :
    k0_pay1 (F := Ideal) x0 x1 y = ∑ k : Fin 2048, x0 (ix2 (y 0) k) * x1 (ix4 (⟨k.val / 512, by omega⟩ : Fin 4) (0 : Fin 1) (⟨k.val % 512, by omega⟩ : Fin 512) (y 1)) := by
  pointwise [k0_pay1]

theorem idx : ∀ t : Fin cfg0.N, win0_0.index t = ![0, 0] ∧ win0_1.index t = ![0, 0, 0, t.val] ∧ win0_2.index t = ![0, t.val] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0)
    i := by
  blk_point [iblk, V, idx t]

theorem blk1 (t : Fin cfg0.N) (i : S4x1x512x512.Idx) : iblk m c 1 t i = m ((c : Thread nD τ).loc main_arg1)
    (ix4 (⟨(i 0).val, by have : (i 0).val < 4 := (i 0).isLt; omega⟩ : Fin 4) (0 : Fin 1) (⟨(i 2).val, by have : (i 2).val < 512 := (i 2).isLt; omega⟩ : Fin 512) (⟨512 * t.val + (i 3).val, by have : (i 3).val < 512 := (i 3).isLt; have : t.val < 4 := t.isLt; omega⟩ : Fin 2048)) := by
  have h1 : (i 1).val < 1 := (i 1).isLt
  blk_point [iblk, V, idx t]

theorem arr : (dats m 0 c).arrAt 2 cfg0.N = fun i : S2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 2048 := (y 0).isLt
  have h1 : (y 1).val < 512 := (y 1).isLt
  have ht : t.val < 4 := t.isLt
  blk_simp
  rw [after0_2]
  have e : ∀ W : S2048x2048.Idx → EReal, W ((win0_2.blk t).view.emb y) = W (ix2 (⟨(y 0).val, by omega⟩ : Fin 2048) (⟨512 * t.val + (y 1).val, by omega⟩ : Fin 2048)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  rfl

end Cert.BInIdeal.Gen

namespace Cert.BInRefIdeal.Read

open BInRefIdeal BInRefIdeal.Gen Idealize.ShloMosaic Idealize.ShloMosaic.TcCoe Idealize.ShloMosaic.StableHlo

theorem product (x0 : S2048x2048.Idx → EReal) (x1 : S4x1x512x2048.Idx → EReal) (i : S2048x2048.Idx) :
    val_main_v4 (F := Ideal) x0 x1 i = ∑ k : Fin 2048, x0 (ix2 (⟨(i 0).val, by have : (i 0).val < 2048 := (i 0).isLt; omega⟩ : Fin 2048) k)
    * x1 (ix4 (⟨k.val / 512, by omega⟩ : Fin 4) (0 : Fin 1) (⟨k.val % 512, by omega⟩ : Fin 512) (⟨(i 1).val, by have : (i 1).val < 2048 := (i 1).isLt; omega⟩ : Fin 2048)) := by
  have h1 : (i 1).val < 2048 := (i 1).isLt
  rw [val_main_v4_apply]
  refine Finset.sum_congr rfl fun k _ => congr_arg₂ (· * ·) ?_ ?_
  · rw [val_main_v0_apply]
    show x0 _ = x0 _
    exact congr_arg x0 (funext fun a => Fin.ext (by
      match a with
      | ⟨0, _⟩ => rfl
      | ⟨1, _⟩ => rfl))
  · have hk : k.val < 2048 := k.isLt
    rw [val_main_v3_apply, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

theorem value (x0 : S2048x2048.Idx → EReal) (x1 : S4x1x512x2048.Idx → EReal) (i : S2048x2048.Idx) : val_main_v4 (F := Ideal) x0 x1 i = BInIdeal.Gen.G x0 x1 i :=
  product x0 x1 i

end Cert.BInRefIdeal.Read

namespace Cert.BInRun

open Idealize.ShloMosaic Idealize.ShloMosaic.TcCoe

theorem algebraic : @Cert.algebraic_BInIdeal_BInRefIdeal BInIdeal.Gen.facts BInRefIdeal.Gen.facts := by
  intro m g m' g' _ hag
  refine ⟨fun c => fun i : BInIdeal.S2048x2048.Idx => BInIdeal.Gen.G (m ((c.tc : Thread _ _).loc BInIdeal.main_arg0)) (m ((c.tc : Thread _ _).loc BInIdeal.main_arg1)) i, ?_, ?_⟩
  · refine (θ_run _ _ _).mono (fun r hr c => ?_) (BInIdeal.Value.run_blocks m g)
    obtain ⟨a0, ha⟩ := hr c
    exact ⟨a0.trans (BInIdeal.Gen.arr m c), ha⟩
  · refine (θ_run _ _ _).mono (fun r hr c => ?_) (BInRefIdeal.Value.run m' g')
    obtain ⟨e0, e1⟩ := hag c
    obtain ⟨a0, ha⟩ := hr c
    refine ⟨a0.trans ?_, ha⟩
    rw [BInRefIdeal.Read.val_main_v4_eq, e0, e1]
    exact funext fun i => BInRefIdeal.Read.value _ _ i

end Cert.BInRun

end
@[expose] public section
-- ==== Proof.MixOutRun.lean ====
/- A mixing layer's last product, added to the residual: kernel and reference end with the same array. -/
module

public import proofs.«01_k».proof.Defs
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.MixOutIdeal.Gen

open MixOutIdeal

/-- The product, added to the residual. -/
def G (x : S2048x2048.Idx → EReal) (w : S4x1x512x2048.Idx → EReal) (r : S2048x2048.Idx → EReal) (i : S2048x2048.Idx) : EReal :=
  r i + (∑ k : Fin 2048, x (ix2 (⟨(i 0).val, by have : (i 0).val < 2048 := (i 0).isLt; omega⟩ : Fin 2048) k)
    * w (ix4 (⟨k.val / 512, by omega⟩ : Fin 4) (0 : Fin 1) (⟨k.val % 512, by omega⟩ : Fin 512) (⟨(i 1).val, by have : (i 1).val < 2048 := (i 1).isLt; omega⟩ : Fin 2048)))

theorem pay (x0 : Vec Ideal S2048x2048 .bf16) (x1 : Vec Ideal S4x1x512x512 .bf16) (x2 : Vec Ideal S2048x512 .f32) (y : S2048x512.Idx) :
    k0_pay1 (F := Ideal) x0 x1 x2 y = x2 y + (∑ k : Fin 2048, x0 (ix2 (y 0) k) * x1 (ix4 (⟨k.val / 512, by omega⟩ : Fin 4) (0 : Fin 1) (⟨k.val % 512, by omega⟩ : Fin 512) (y 1))) := by
  pointwise [k0_pay1]

theorem idx : ∀ t : Fin cfg0.N, win0_0.index t = ![0, 0] ∧ win0_1.index t = ![0, 0, 0, t.val] ∧ win0_2.index t = ![0, t.val] ∧ win0_3.index t = ![0, t.val] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0)
    i := by
  blk_point [iblk, V, idx t]

theorem blk1 (t : Fin cfg0.N) (i : S4x1x512x512.Idx) : iblk m c 1 t i = m ((c : Thread nD τ).loc main_arg1)
    (ix4 (⟨(i 0).val, by have : (i 0).val < 4 := (i 0).isLt; omega⟩ : Fin 4) (0 : Fin 1) (⟨(i 2).val, by have : (i 2).val < 512 := (i 2).isLt; omega⟩ : Fin 512) (⟨512 * t.val + (i 3).val, by have : (i 3).val < 512 := (i 3).isLt; have : t.val < 4 := t.isLt; omega⟩ : Fin 2048)) := by
  have h1 : (i 1).val < 1 := (i 1).isLt
  blk_point [iblk, V, idx t]

theorem blk2 (t : Fin cfg0.N) (i : S2048x512.Idx) : iblk m c 2 t i = m ((c : Thread nD τ).loc main_arg2)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem arr : (dats m 0 c).arrAt 3 cfg0.N = fun i : S2048x2048.Idx =>
    G (m ((c : Thread nD τ).loc main_arg0)) (m ((c : Thread nD τ).loc main_arg1)) (m ((c : Thread nD τ).loc main_arg2)) i := by
  refine (dats m 0 c).arrAt_eq_of_covers 3 _ (by decide +kernel) fun t hf y => ?_
  have h0 : (y 0).val < 2048 := (y 0).isLt
  have h1 : (y 1).val < 512 := (y 1).isLt
  have ht : t.val < 4 := t.isLt
  blk_simp
  rw [after0_3]
  have e : ∀ W : S2048x2048.Idx → EReal, W ((win0_3.blk t).view.emb y) = W (ix2 (⟨(y 0).val, by omega⟩ : Fin 2048) (⟨512 * t.val + (y 1).val, by omega⟩ : Fin 2048)) := fun W => by
    blk_ext [idx t]
  rw [e (G _ _ _)]
  unfold out0_3
  rw [View.canon_unit_zero (by decide), View.ld_unit_zero (by decide), View.ld_unit_zero (by decide), View.ld_unit_zero (by decide)]
  refine (pay _ _ _ y).trans ?_
  simp only [blk0, blk1, blk2, G]
  rfl

end Cert.MixOutIdeal.Gen

namespace Cert.MixOutRefIdeal.Read

open MixOutRefIdeal MixOutRefIdeal.Gen Idealize.ShloMosaic Idealize.ShloMosaic.TcCoe Idealize.ShloMosaic.StableHlo

theorem product (x0 : S2048x2048.Idx → EReal) (x1 : S4x1x512x2048.Idx → EReal) (i : S2048x2048.Idx) :
    val_main_v4 (F := Ideal) x0 x1 i = ∑ k : Fin 2048, x0 (ix2 (⟨(i 0).val, by have : (i 0).val < 2048 := (i 0).isLt; omega⟩ : Fin 2048) k)
    * x1 (ix4 (⟨k.val / 512, by omega⟩ : Fin 4) (0 : Fin 1) (⟨k.val % 512, by omega⟩ : Fin 512) (⟨(i 1).val, by have : (i 1).val < 2048 := (i 1).isLt; omega⟩ : Fin 2048)) := by
  have h1 : (i 1).val < 2048 := (i 1).isLt
  rw [val_main_v4_apply]
  refine Finset.sum_congr rfl fun k _ => congr_arg₂ (· * ·) ?_ ?_
  · rw [val_main_v0_apply]
    show x0 _ = x0 _
    exact congr_arg x0 (funext fun a => Fin.ext (by
      match a with
      | ⟨0, _⟩ => rfl
      | ⟨1, _⟩ => rfl))
  · have hk : k.val < 2048 := k.isLt
    rw [val_main_v3_apply, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

theorem value (x0 : S2048x2048.Idx → EReal) (x1 : S4x1x512x2048.Idx → EReal) (x2 : S2048x2048.Idx → EReal) (i : S2048x2048.Idx) :
    val_main_v5 (F := Ideal) x0 x1 x2 i = MixOutIdeal.Gen.G x0 x1 x2 i := by
  rw [val_main_v5_apply, product]
  rfl

end Cert.MixOutRefIdeal.Read

namespace Cert.MixOutRun

open Idealize.ShloMosaic Idealize.ShloMosaic.TcCoe

theorem algebraic : @Cert.algebraic_MixOutIdeal_MixOutRefIdeal MixOutIdeal.Gen.facts MixOutRefIdeal.Gen.facts := by
  intro m g m' g' _ hag
  refine ⟨fun c => fun i : MixOutIdeal.S2048x2048.Idx => MixOutIdeal.Gen.G (m ((c.tc : Thread _ _).loc MixOutIdeal.main_arg0)) (m ((c.tc : Thread _ _).loc MixOutIdeal.main_arg1)) (m ((c.tc : Thread _ _).loc MixOutIdeal.main_arg2)) i, ?_, ?_⟩
  · refine (θ_run _ _ _).mono (fun r hr c => ?_) (MixOutIdeal.Value.run_blocks m g)
    obtain ⟨a0, ha⟩ := hr c
    exact ⟨a0.trans (MixOutIdeal.Gen.arr m c), ha⟩
  · refine (θ_run _ _ _).mono (fun r hr c => ?_) (MixOutRefIdeal.Value.run m' g')
    obtain ⟨e0, e1, e2⟩ := hag c
    obtain ⟨a0, ha⟩ := hr c
    refine ⟨a0.trans ?_, ha⟩
    rw [MixOutRefIdeal.Read.val_main_v5_eq, e0, e1, e2]
    exact funext fun i => MixOutRefIdeal.Read.value _ _ _ i

end Cert.MixOutRun

end
-- ==== Proof.AInRun.lean ====
/- The mixing layer's first product: kernel and reference end with the same array. -/
module

public import proofs.«01_k».proof.Defs
public import proofs.«01_k».proof.Proof.Gen.AIn.Frame
public import proofs.«01_k».proof.Proof.Gen.AInIdeal.Frame
public import proofs.«01_k».proof.Proof.Gen.AInIdeal.Value
public import proofs.«01_k».proof.Proof.Gen.AInRefIdeal.Run
public import proofs.«01_k».proof.Proof.Gen.AInRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AInIdeal.Gen

open AInIdeal

/-- The product. -/
def G (x : S2048x2048.Idx → EReal) (w : S4x1x2048x1024.Idx → EReal) (i : S2048x4096.Idx) : EReal :=
  ∑ k : Fin 2048, x (ix2 (⟨(i 0).val, by have : (i 0).val < 2048 := (i 0).isLt; omega⟩ : Fin 2048) k)
    * w (ix4 (⟨(i 1).val / 1024, by have : (i 1).val < 4096 := (i 1).isLt; omega⟩ : Fin 4) (0 : Fin 1) k (⟨(i 1).val % 1024, by omega⟩ : Fin 1024))

theorem pay (x0 : Vec Ideal S2048x2048 .bf16) (x1 : Vec Ideal S1x1x2048x512 .bf16) (y : S2048x512.Idx) :
    k0_pay1 (F := Ideal) x0 x1 y = ∑ k : Fin 2048, x0 (ix2 (y 0) k) * x1 (ix4 (0 : Fin 1) (0 : Fin 1) k (y 1)) := by
  pointwise [k0_pay1]

theorem idx : ∀ t : Fin cfg0.N, win0_0.index t = ![0, 0] ∧ win0_1.index t = ![t.val / 2, 0, 0, t.val % 2] ∧ win0_2.index t = ![0, t.val] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0)
    i := by
  blk_point [iblk, V, idx t]

theorem blk1 (t : Fin cfg0.N) (i : S1x1x2048x512.Idx) : iblk m c 1 t i = m ((c : Thread nD τ).loc main_arg1)
    (ix4 (⟨t.val / 2, by have : t.val < 8 := t.isLt; omega⟩ : Fin 4) (0 : Fin 1) (⟨(i 2).val, by have : (i 2).val < 2048 := (i 2).isLt; omega⟩ : Fin 2048) (⟨512 * (t.val % 2) + (i 3).val, by have : (i 3).val < 512 := (i 3).isLt; have : t.val < 8 := t.isLt; omega⟩ : Fin 1024)) := by
  have h0 : (i 0).val < 1 := (i 0).isLt
  have h1 : (i 1).val < 1 := (i 1).isLt
  blk_point [iblk, V, idx t]

theorem arr : (dats m 0 c).arrAt 2 cfg0.N = fun i : S2048x4096.Idx =>
    G (m ((c : Thread nD τ).loc main_arg0)) (m ((c : Thread nD τ).loc main_arg1)) i := by
  refine (dats m 0 c).arrAt_eq_of_covers 2 _ (by decide +kernel) fun t hf y => ?_
  have h0 : (y 0).val < 2048 := (y 0).isLt
  have h1 : (y 1).val < 512 := (y 1).isLt
  have ht : t.val < 8 := t.isLt
  blk_simp
  rw [after0_2]
  have e : ∀ W : S2048x4096.Idx → EReal, W ((win0_2.blk t).view.emb y) = W (ix2 (⟨(y 0).val, by omega⟩ : Fin 2048) (⟨512 * t.val + (y 1).val, by omega⟩ : Fin 4096)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun k _ => congr_arg₂ (· * ·) rfl (congr_arg _ ?_)
  refine congr_arg₂ (fun a b => ix4 a (0 : Fin 1) k b) (Fin.ext ?_) (Fin.ext ?_)
  · show t.val / 2 = (512 * t.val + (y 1).val) / 1024
    omega
  · show 512 * (t.val % 2) + (y 1).val = (512 * t.val + (y 1).val) % 1024
    omega

end Cert.AInIdeal.Gen

namespace Cert.AInRefIdeal.Read

open AInRefIdeal AInRefIdeal.Gen Idealize.ShloMosaic Idealize.ShloMosaic.TcCoe Idealize.ShloMosaic.StableHlo

theorem product (x0 : S2048x2048.Idx → EReal) (x1 : S4x1x2048x1024.Idx → EReal) (i : S2048x4096.Idx) :
    val_main_v5 (F := Ideal) x0 x1 i = ∑ k : Fin 2048, x0 (ix2 (⟨(i 0).val, by have : (i 0).val < 2048 := (i 0).isLt; omega⟩ : Fin 2048) k)
    * x1 (ix4 (⟨(i 1).val / 1024, by have : (i 1).val < 4096 := (i 1).isLt; omega⟩ : Fin 4) (0 : Fin 1) k (⟨(i 1).val % 1024, by omega⟩ : Fin 1024)) := by
  have h1 : (i 1).val < 4096 := (i 1).isLt
  rw [val_main_v5_apply]
  refine Finset.sum_congr rfl fun k _ => congr_arg₂ (· * ·) ?_ ?_
  · rw [val_main_v0_apply]
    show x0 _ = x0 _
    exact congr_arg x0 (funext fun a => Fin.ext (by
      match a with
      | ⟨0, _⟩ => rfl
      | ⟨1, _⟩ => rfl))
  · have hk : k.val < 2048 := k.isLt
    rw [val_main_v4_apply, val_main_v3_apply]
    have e3 : idx_main_v3 (ridx_main_v5 i k) = ix3 k (⟨(i 1).val / 1024, by omega⟩ : Fin 4) (⟨(i 1).val % 1024, by omega⟩ : Fin 1024) := funext fun a => Fin.ext (by
      match a with
      | ⟨0, _⟩ => simp <;> omega
      | ⟨1, _⟩ => simp <;> omega
      | ⟨2, _⟩ => simp <;> omega)
    rw [e3, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

theorem value (x0 : S2048x2048.Idx → EReal) (x1 : S4x1x2048x1024.Idx → EReal) (i : S2048x4096.Idx) :
    val_main_v5 (F := Ideal) x0 x1 i = AInIdeal.Gen.G x0 x1 i :=
  product x0 x1 i

end Cert.AInRefIdeal.Read

namespace Cert.AInRun

open Idealize.ShloMosaic Idealize.ShloMosaic.TcCoe

theorem algebraic : @Cert.algebraic_AInIdeal_AInRefIdeal AInIdeal.Gen.facts AInRefIdeal.Gen.facts := by
  intro m g m' g' _ hag
  refine ⟨fun c => fun i : AInIdeal.S2048x4096.Idx => AInIdeal.Gen.G (m ((c.tc : Thread _ _).loc AInIdeal.main_arg0)) (m ((c.tc : Thread _ _).loc AInIdeal.main_arg1)) i, ?_, ?_⟩
  · refine (θ_run _ _ _).mono (fun r hr c => ?_) (AInIdeal.Value.run_blocks m g)
    obtain ⟨a0, ha⟩ := hr c
    exact ⟨a0.trans (AInIdeal.Gen.arr m c), ha⟩
  · refine (θ_run _ _ _).mono (fun r hr c => ?_) (AInRefIdeal.Value.run m' g')
    obtain ⟨e0, e1⟩ := hag c
    obtain ⟨a0, ha⟩ := hr c
    refine ⟨a0.trans ?_, ha⟩
    rw [AInRefIdeal.Read.val_main_v5_eq, e0, e1]
    exact funext fun i => AInRefIdeal.Read.value _ _ i

end Cert.AInRun

end
@[expose] public section
-- ==== Proof.UpRun.lean ====
/- The MLP's first product with its activation: kernel and reference end with the same arrays. -/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.UpIdeal.Gen

open UpIdeal

/-- The positive part of the product. -/
def G (x : S2048x2048.Idx → EReal) (w : S4x1x2048x2048.Idx → EReal) (i : S2048x8192.Idx) : EReal :=
  max (∑ k : Fin 2048, x (ix2 (⟨(i 0).val, by have : (i 0).val < 2048 := (i 0).isLt; omega⟩ : Fin 2048) k)
    * w (ix4 (⟨(i 1).val / 2048, by have : (i 1).val < 8192 := (i 1).isLt; omega⟩ : Fin 4) (0 : Fin 1) k (⟨(i 1).val % 2048, by omega⟩ : Fin 2048))) 0

/-- Its square. -/
def H (x : S2048x2048.Idx → EReal) (w : S4x1x2048x2048.Idx → EReal) (i : S2048x8192.Idx) : EReal :=
  G x w i * G x w i

theorem pay1 (x0 : Vec Ideal S2048x2048 .bf16) (x1 : Vec Ideal S1x1x2048x512 .bf16) (y : S2048x512.Idx) :
    k0_pay1 (F := Ideal) x0 x1 y = max (∑ k : Fin 2048, x0 (ix2 (y 0) k) * x1 (ix4 (0 : Fin 1) (0 : Fin 1) k (y 1))) 0 := by
  pointwise [k0_pay1]

theorem pay2 (x0 : Vec Ideal S2048x2048 .bf16) (x1 : Vec Ideal S1x1x2048x512 .bf16) (y : S2048x512.Idx) :
    k0_pay2 (F := Ideal) x0 x1 y = max (∑ k : Fin 2048, x0 (ix2 (y 0) k) * x1 (ix4 (0 : Fin 1) (0 : Fin 1) k (y 1))) 0 := by
  show k0_pay1 (F := Ideal) x0 x1 y = _
  exact pay1 x0 x1 y

theorem pay3 (x0 : Vec Ideal S2048x2048 .bf16) (x1 : Vec Ideal S1x1x2048x512 .bf16) (y : S2048x512.Idx) :
    k0_pay3 (F := Ideal) x0 x1 y = (max (∑ k : Fin 2048, x0 (ix2 (y 0) k) * x1 (ix4 (0 : Fin 1) (0 : Fin 1) k (y 1))) 0) * (max (∑ k : Fin 2048, x0 (ix2 (y 0) k) * x1 (ix4 (0 : Fin 1) (0 : Fin 1) k (y 1))) 0) := by
  show (k0_pay1 (F := Ideal) x0 x1 y : EReal) * k0_pay1 (F := Ideal) x0 x1 y = _
  rw [pay1]

theorem idx : ∀ t : Fin cfg0.N, win0_0.index t = ![0, 0] ∧ win0_1.index t = ![t.val / 4, 0, 0, t.val % 4] ∧ win0_2.index t = ![0, t.val] ∧ win0_3.index t = ![0, t.val] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0)
    i := by
  blk_point [iblk, V, idx t]

theorem blk1 (t : Fin cfg0.N) (i : S1x1x2048x512.Idx) : iblk m c 1 t i = m ((c : Thread nD τ).loc main_arg1)
    (ix4 (⟨t.val / 4, by have : t.val < 16 := t.isLt; omega⟩ : Fin 4) (0 : Fin 1) (⟨(i 2).val, by have : (i 2).val < 2048 := (i 2).isLt; omega⟩ : Fin 2048) (⟨512 * (t.val % 4) + (i 3).val, by have : (i 3).val < 512 := (i 3).isLt; have : t.val < 16 := t.isLt; omega⟩ : Fin 2048)) := by
  have h0 : (i 0).val < 1 := (i 0).isLt
  have h1 : (i 1).val < 1 := (i 1).isLt
  blk_point [iblk, V, idx t]

theorem arr0 : (dats m 0 c).arrAt 2 cfg0.N = fun i : S2048x8192.Idx =>
    G (m ((c : Thread nD τ).loc main_arg0)) (m ((c : Thread nD τ).loc main_arg1)) i := by
  refine (dats m 0 c).arrAt_eq_of_covers 2 _ (by decide +kernel) fun t hf y => ?_
  have h0 : (y 0).val < 2048 := (y 0).isLt
  have h1 : (y 1).val < 512 := (y 1).isLt
  have ht : t.val < 16 := t.isLt
  blk_simp
  rw [after0_2]
  have e : ∀ W : S2048x8192.Idx → EReal, W ((win0_2.blk t).view.emb y) = W (ix2 (⟨(y 0).val, by omega⟩ : Fin 2048) (⟨512 * t.val + (y 1).val, by omega⟩ : Fin 8192)) := fun W => by
    blk_ext [idx t]
  rw [e (G _ _)]
  unfold out0_2
  rw [View.canon_unit_zero (by decide), View.ld_unit_zero (by decide), View.ld_unit_zero (by decide)]
  refine (pay2 _ _ y).trans ?_
  simp only [blk0, blk1, G]
  refine congr_arg (max · 0) (Finset.sum_congr rfl fun k _ => congr_arg₂ (· * ·) rfl (congr_arg _ ?_))
  refine congr_arg₂ (fun a b => ix4 a (0 : Fin 1) k b) (Fin.ext ?_) (Fin.ext ?_)
  · show t.val / 4 = (512 * t.val + (y 1).val) / 2048
    omega
  · show 512 * (t.val % 4) + (y 1).val = (512 * t.val + (y 1).val) % 2048
    omega

theorem arr1 : (dats m 0 c).arrAt 3 cfg0.N = fun i : S2048x8192.Idx =>
    H (m ((c : Thread nD τ).loc main_arg0)) (m ((c : Thread nD τ).loc main_arg1)) i := by
  refine (dats m 0 c).arrAt_eq_of_covers 3 _ (by decide +kernel) fun t hf y => ?_
  have h0 : (y 0).val < 2048 := (y 0).isLt
  have h1 : (y 1).val < 512 := (y 1).isLt
  have ht : t.val < 16 := t.isLt
  blk_simp
  rw [after0_3]
  have e : ∀ W : S2048x8192.Idx → EReal, W ((win0_3.blk t).view.emb y) = W (ix2 (⟨(y 0).val, by omega⟩ : Fin 2048) (⟨512 * t.val + (y 1).val, by omega⟩ : Fin 8192)) := fun W => by
    blk_ext [idx t]
  rw [e (H _ _)]
  unfold out0_3
  rw [View.canon_unit_zero (by decide), View.ld_unit_zero (by decide), View.ld_unit_zero (by decide)]
  refine (pay3 _ _ y).trans ?_
  simp only [blk0, blk1, H]
  unfold G
  refine congr_arg (fun v : EReal => max v 0 * max v 0) (Finset.sum_congr rfl fun k _ => congr_arg₂ (· * ·) rfl (congr_arg _ ?_))
  refine congr_arg₂ (fun a b => ix4 a (0 : Fin 1) k b) (Fin.ext ?_) (Fin.ext ?_)
  · show t.val / 4 = (512 * t.val + (y 1).val) / 2048
    omega
  · show 512 * (t.val % 4) + (y 1).val = (512 * t.val + (y 1).val) % 2048
    omega

end Cert.UpIdeal.Gen

namespace Cert.UpRefIdeal.Read

open UpRefIdeal UpRefIdeal.Gen Idealize.ShloMosaic Idealize.ShloMosaic.TcCoe Idealize.ShloMosaic.StableHlo

theorem product (x0 : S2048x2048.Idx → EReal) (x1 : S4x1x2048x2048.Idx → EReal) (i : S2048x8192.Idx) :
    val_main_v5 (F := Ideal) x0 x1 i = ∑ k : Fin 2048, x0 (ix2 (⟨(i 0).val, by have : (i 0).val < 2048 := (i 0).isLt; omega⟩ : Fin 2048) k)
    * x1 (ix4 (⟨(i 1).val / 2048, by have : (i 1).val < 8192 := (i 1).isLt; omega⟩ : Fin 4) (0 : Fin 1) k (⟨(i 1).val % 2048, by omega⟩ : Fin 2048)) := by
  have h1 : (i 1).val < 8192 := (i 1).isLt
  rw [val_main_v5_apply]
  refine Finset.sum_congr rfl fun k _ => congr_arg₂ (· * ·) ?_ ?_
  · rw [val_main_v0_apply]
    show x0 _ = x0 _
    exact congr_arg x0 (funext fun a => Fin.ext (by
      match a with
      | ⟨0, _⟩ => rfl
      | ⟨1, _⟩ => rfl))
  · have hk : k.val < 2048 := k.isLt
    rw [val_main_v4_apply, val_main_v3_apply]
    have e3 : idx_main_v3 (ridx_main_v5 i k) = ix3 k (⟨(i 1).val / 2048, by omega⟩ : Fin 4) (⟨(i 1).val % 2048, by omega⟩ : Fin 2048) := funext fun a => Fin.ext (by
      match a with
      | ⟨0, _⟩ => simp <;> omega
      | ⟨1, _⟩ => simp <;> omega
      | ⟨2, _⟩ => simp <;> omega)
    rw [e3, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

theorem positive (x0 : S2048x2048.Idx → EReal) (x1 : S4x1x2048x2048.Idx → EReal) (i : S2048x8192.Idx) :
    val_main_v6 (F := Ideal) x0 x1 i = UpIdeal.Gen.G x0 x1 i := by
  rw [val_main_v6_apply, product]
  unfold UpIdeal.Gen.G
  refine congr_arg (max _) ?_
  rw [val_main_call0_v0_apply, val_main_call0_cst_apply]
  simp

theorem value0 (x0 : S2048x2048.Idx → EReal) (x1 : S4x1x2048x2048.Idx → EReal) (i : S2048x8192.Idx) :
    val_main_v7 (F := Ideal) x0 x1 i = UpIdeal.Gen.G x0 x1 i := by
  rw [val_main_v7_apply]
  exact positive x0 x1 i

theorem value1 (x0 : S2048x2048.Idx → EReal) (x1 : S4x1x2048x2048.Idx → EReal) (i : S2048x8192.Idx) :
    val_main_v9 (F := Ideal) x0 x1 i = UpIdeal.Gen.H x0 x1 i := by
  rw [val_main_v9_apply, val_main_v8_apply, positive]
  rfl

end Cert.UpRefIdeal.Read

namespace Cert.UpRun

open Idealize.ShloMosaic Idealize.ShloMosaic.TcCoe

theorem algebraic : @Cert.algebraic_UpIdeal_UpRefIdeal UpIdeal.Gen.facts UpRefIdeal.Gen.facts := by
  intro m g m' g' _ hag
  refine ⟨fun c => fun i : UpIdeal.S2048x8192.Idx => UpIdeal.Gen.G (m ((c.tc : Thread _ _).loc UpIdeal.main_arg0)) (m ((c.tc : Thread _ _).loc UpIdeal.main_arg1)) i, fun c => fun i : UpIdeal.S2048x8192.Idx => UpIdeal.Gen.H (m ((c.tc : Thread _ _).loc UpIdeal.main_arg0)) (m ((c.tc : Thread _ _).loc UpIdeal.main_arg1)) i, ?_, ?_⟩
  · refine (θ_run _ _ _).mono (fun r hr c => ?_) (UpIdeal.Value.run_blocks m g)
    obtain ⟨a0, a1, ha⟩ := hr c
    exact ⟨a0.trans (UpIdeal.Gen.arr0 m c), a1.trans (UpIdeal.Gen.arr1 m c), ha⟩
  · refine (θ_run _ _ _).mono (fun r hr c => ?_) (UpRefIdeal.Value.run m' g')
    obtain ⟨e0, e1⟩ := hag c
    obtain ⟨a0, a1, ha⟩ := hr c
    refine ⟨a0.trans ?_, a1.trans ?_, ha⟩
    · rw [UpRefIdeal.Read.val_main_v7_eq, e0, e1]
      exact funext fun i => UpRefIdeal.Read.value0 _ _ i
    · rw [UpRefIdeal.Read.val_main_v9_eq, e0, e1]
      exact funext fun i => UpRefIdeal.Read.value1 _ _ i

end Cert.UpRun

end
-- ==== Proof.ScaleBwdRun.lean ====
/- The gradients of the scaling: kernel and reference end with the same arrays. -/
module

public import proofs.«01_k».proof.Defs
public import proofs.«01_k».proof.Proof.Gen.ScaleBwd.Frame
public import proofs.«01_k».proof.Proof.Gen.ScaleBwdIdeal.Frame
public import proofs.«01_k».proof.Proof.Gen.ScaleBwdIdeal.Value
public import proofs.«01_k».proof.Proof.Gen.ScaleBwdRefIdeal.Run
public import proofs.«01_k».proof.Proof.Gen.ScaleBwdRefIdeal.Read
public import proofs.«01_k».proof.Proof.Sums
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

noncomputable section

namespace Cert.ScaleBwdIdeal.Gen

open ScaleBwdIdeal

/-- The cotangent times the scale of its column. -/
def G (d : S2048x2048.Idx → EReal) (c : S1x2048.Idx → EReal) (i : S2048x2048.Idx) : EReal :=
  d i * c (ix2 (0 : Fin 1) (⟨(i 1).val, by have : (i 1).val < 2048 := (i 1).isLt; omega⟩ : Fin 2048))

/-- The gradient of the scale: the cotangent times the scaled array, summed over the sequence, one tile of rows after another. -/
def H (d : S2048x2048.Idx → EReal) (x : S2048x2048.Idx → EReal) (i : S1x2048.Idx) : EReal :=
  ∑ j : Fin 4, ∑ s : Fin 512, d (ix2 (⟨512 * j.val + s.val, by omega⟩ : Fin 2048) (⟨(i 1).val, (i 1).isLt⟩ : Fin 2048))
    * x (ix2 (⟨512 * j.val + s.val, by omega⟩ : Fin 2048) (⟨(i 1).val, (i 1).isLt⟩ : Fin 2048))

/-- One tile's sum at a column. -/
def term (x0 x1 : Vec Ideal S512x2048 .f32) (y : S1x2048.Idx) : EReal :=
  ∑ s : Fin 512, (x0 (ix2 s (⟨(y 1).val, (y 1).isLt⟩ : Fin 2048)) : EReal) * x1 (ix2 s (⟨(y 1).val, (y 1).isLt⟩ : Fin 2048))

theorem pay1 (y : S1x2048.Idx) : k0_pay1 (F := Ideal) y = (0 : EReal) := by
  pointwise [k0_pay1]

theorem pay2 (x0 x1 : Vec Ideal S512x2048 .f32) (v : Vec Ideal S1x2048 .f32) (y : S1x2048.Idx) :
    k0_pay2 (F := Ideal) x0 v x1 y = (v y : EReal) + term x0 x1 y := by
  have h0 : (y 0).val < 1 := (y 0).isLt
  pointwise [k0_pay2, term]

theorem pay3 (x0 : Vec Ideal S512x2048 .f32) (v : Vec Ideal S1x2048 .f32) (y : S512x2048.Idx) :
    k0_pay3 (F := Ideal) x0 v y = (x0 y : EReal) * v (ix2 (0 : Fin 1) (y 1)) := by
  pointwise [k0_pay3]

theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

variable (m : (ℓ : Loc nD τ sig) → Buf (Elt Ideal) ℓ) (c : Dev nD)

theorem blk0 (t : Fin cfg0.N) (i : S512x2048.Idx) : iblk m c 0 t i = m ((c : Thread nD τ).loc main_arg0)
    (ix2 (⟨512 * t.val + (i 0).val, by have : (i 0).val < 512 := (i 0).isLt; have : t.val < 4 := t.isLt; omega⟩ : Fin 2048) (⟨(i 1).val, by have : (i 1).val < 2048 := (i 1).isLt; omega⟩ : Fin 2048)) := by
  blk_point [iblk, V, idx t]

theorem blk1 (t : Fin cfg0.N) (i : S512x2048.Idx) : iblk m c 1 t i = m ((c : Thread nD τ).loc main_arg1)
    (ix2 (⟨512 * t.val + (i 0).val, by have : (i 0).val < 512 := (i 0).isLt; have : t.val < 4 := t.isLt; omega⟩ : Fin 2048) (⟨(i 1).val, by have : (i 1).val < 2048 := (i 1).isLt; omega⟩ : Fin 2048)) := by
  blk_point [iblk, V, idx t]

theorem blk2 (t : Fin cfg0.N) (i : S1x2048.Idx) : iblk m c 2 t i = m ((c : Thread nD τ).loc main_arg2)
    i := by
  have h0 : (i 0).val < 1 := (i 0).isLt
  blk_point [iblk, V, idx t]

/-- The sum after the first point. -/
theorem first (t : Fin cfg0.N) (h : t.val % 4 = 0) (y : S1x2048.Idx) :
    (outsAt0 m c t.val t.isLt).2 y = (0 : EReal) + term (iblk m c 0 t) (iblk m c 1 t) y := by
  rw [outsAt0_A m c t h]
  frame_out
  rw [pay2, pay1]

/-- What a later point adds to the sum. -/
theorem later (t : Fin cfg0.N) (h : ¬t.val % 4 = 0) (y : S1x2048.Idx) :
    (outsAt0 m c t.val t.isLt).2 y = ((outsAt0 m c (t.val - 1) (Nat.lt_of_le_of_lt (Nat.sub_le _ _) t.isLt)).2 y : EReal)
      + term (iblk m c 0 t) (iblk m c 1 t) y := by
  rw [outsAt0_B m c t h]
  frame_out
  rw [pay2]

/-- The block of the scaled cotangent a point writes. -/
theorem scaled (t : Fin cfg0.N) (y : S512x2048.Idx) :
    (outsAt0 m c t.val t.isLt).1 y = @HMul.hMul EReal EReal EReal _ (iblk m c 0 t y) (iblk m c 2 t (ix2 (0 : Fin 1) (y 1))) := by
  by_cases h : t.val % 4 = 0
  · rw [outsAt0_A m c t h]
    frame_out
    rw [pay3]
  · rw [outsAt0_B m c t h]
    frame_out
    rw [pay3]

theorem arr0 : (dats m 0 c).arrAt 3 cfg0.N = fun i : S2048x2048.Idx => G (m ((c : Thread nD τ).loc main_arg0)) (m ((c : Thread nD τ).loc main_arg2)) i := by
  refine (dats m 0 c).arrAt_eq_of_covers 3 _ (by decide +kernel) fun t hf y => ?_
  have h0 : (y 0).val < 512 := (y 0).isLt
  have h1 : (y 1).val < 2048 := (y 1).isLt
  have ht : t.val < 4 := t.isLt
  blk_simp
  rw [after0_3]
  have e : ∀ W : S2048x2048.Idx → EReal, W ((win0_3.blk t).view.emb y) = W (ix2 (⟨512 * t.val + (y 0).val, by omega⟩ : Fin 2048) (⟨(y 1).val, by omega⟩ : Fin 2048)) := fun W => by
    blk_ext [idx t]
  rw [e (G _ _)]
  refine (scaled m c t y).trans ?_
  simp only [blk0, blk2, G]
  rfl

theorem arr1 : (dats m 0 c).arrAt 4 cfg0.N = fun i : S1x2048.Idx => H (m ((c : Thread nD τ).loc main_arg0)) (m ((c : Thread nD τ).loc main_arg1)) i := by
  refine (dats m 0 c).arrAt_eq_of_covers 4 _ (by decide +kernel) fun t hf y => ?_
  have h3 : t.val % 4 = 3 := (flush0_4 t).mp hf
  have h0 : (y 0).val < 1 := (y 0).isLt
  have h1 : (y 1).val < 2048 := (y 1).isLt
  have ht : t.val < 4 := t.isLt
  blk_simp
  rw [after0_4]
  have e : ∀ W : S1x2048.Idx → EReal, W ((win0_4.blk t).view.emb y) = W (ix2 (0 : Fin 1) (⟨(y 1).val, h1⟩ : Fin 2048)) := fun W => by
    blk_ext [idx t]
  rw [e (H _ _)]
  refine (Pipeline.eq_sum_fin_of_reset_step_apply_of_flush (fun n h => (outsAt0 m c n h).2) 4 (fun _ => (0 : EReal))
    (fun t y => term (iblk m c 0 t) (iblk m c 1 t) y) (first m c) (later m c) t h3 y).trans ?_
  rw [zero_add]
  simp only [term, blk0, blk1, H]
  refine Finset.sum_congr rfl fun j _ => Finset.sum_congr rfl fun s _ => ?_
  have hj : j.val < 4 := j.isLt
  refine congr_arg₂ (· * ·) (congr_arg _ ?_) (congr_arg _ ?_)
  · refine congr_arg₂ (fun a b => ix2 a b) (Fin.ext ?_) (Fin.ext ?_) <;> simp <;> omega
  · refine congr_arg₂ (fun a b => ix2 a b) (Fin.ext ?_) (Fin.ext ?_) <;> simp <;> omega

end Cert.ScaleBwdIdeal.Gen

namespace Cert.ScaleBwdRefIdeal.Read

open ScaleBwdRefIdeal ScaleBwdRefIdeal.Gen Idealize.ShloMosaic Idealize.ShloMosaic.TcCoe Idealize.ShloMosaic.StableHlo

theorem value0 (x0 : S2048x2048.Idx → EReal) (x2 : S1x2048.Idx → EReal) (i : S2048x2048.Idx) :
    val_main_v7 (F := Ideal) x0 x2 i = ScaleBwdIdeal.Gen.G x0 x2 i := by
  rw [val_main_v7_apply, val_main_v6_apply, val_main_v5_apply]
  show x0 i * x2 _ = x0 i * x2 _
  refine congr_arg (_ * ·) ?_
  show x2 _ = x2 _
  exact congr_arg x2 (funext fun a => Fin.ext (by
    match a with
    | ⟨0, _⟩ => rfl
    | ⟨1, _⟩ => rfl))

theorem value1 (x0 x1 : S2048x2048.Idx → EReal) (i : S1x2048.Idx) :
    val_main_v4 (F := Ideal) x0 x1 i = ScaleBwdIdeal.Gen.H x0 x1 i := by
  have h0 : (i 0).val < 1 := (i 0).isLt
  have h1 : (i 1).val < 2048 := (i 1).isLt
  rw [val_main_v4_apply, val_main_v3_apply]
  have hc : val_main_cst (F := Ideal) (Shape.Idx.first h_S_) = (0 : EReal) := by
    rw [val_main_cst_apply]
    simp
  rw [hc, zero_add]
  unfold ScaleBwdIdeal.Gen.H
  rw [Sums.tiles 4 512 (by norm_num)]
  refine Finset.sum_congr rfl fun j _ => Finset.sum_congr rfl fun s _ => ?_
  rw [val_main_v2_apply]
  refine (mul_comm _ _).trans (congr_arg₂ (· * ·) ?_ ?_)
  · show x0 _ = x0 _
    exact congr_arg x0 (funext fun a => Fin.ext (by
      match a with
      | ⟨0, _⟩ => rfl
      | ⟨1, _⟩ => simp <;> omega))
  · show x1 _ = x1 _
    exact congr_arg x1 (funext fun a => Fin.ext (by
      match a with
      | ⟨0, _⟩ => rfl
      | ⟨1, _⟩ => simp <;> omega))

end Cert.ScaleBwdRefIdeal.Read

namespace Cert.ScaleBwdRun

open Idealize.ShloMosaic Idealize.ShloMosaic.TcCoe

theorem algebraic : @Cert.algebraic_ScaleBwdIdeal_ScaleBwdRefIdeal ScaleBwdIdeal.Gen.facts ScaleBwdRefIdeal.Gen.facts := by
  intro m g m' g' _ hag
  refine ⟨fun c => fun i : ScaleBwdIdeal.S2048x2048.Idx => ScaleBwdIdeal.Gen.G (m ((c.tc : Thread _ _).loc ScaleBwdIdeal.main_arg0)) (m ((c.tc : Thread _ _).loc ScaleBwdIdeal.main_arg2)) i, fun c => fun i : ScaleBwdIdeal.S1x2048.Idx => ScaleBwdIdeal.Gen.H (m ((c.tc : Thread _ _).loc ScaleBwdIdeal.main_arg0)) (m ((c.tc : Thread _ _).loc ScaleBwdIdeal.main_arg1)) i, ?_, ?_⟩
  · refine (θ_run _ _ _).mono (fun r hr c => ?_) (ScaleBwdIdeal.Value.run_blocks m g)
    obtain ⟨a0, a1, ha⟩ := hr c
    exact ⟨a0.trans (ScaleBwdIdeal.Gen.arr0 m c), a1.trans (ScaleBwdIdeal.Gen.arr1 m c), ha⟩
  · refine (θ_run _ _ _).mono (fun r hr c => ?_) (ScaleBwdRefIdeal.Value.run m' g')
    obtain ⟨e0, e1, e2⟩ := hag c
    obtain ⟨a0, a1, ha⟩ := hr c
    refine ⟨a0.trans ?_, a1.trans ?_, ha⟩
    · rw [ScaleBwdRefIdeal.Read.val_main_v7_eq, e0, e2]
      exact funext fun i => ScaleBwdRefIdeal.Read.value0 _ _ i
    · rw [ScaleBwdRefIdeal.Read.val_main_v4_eq, e0, e1]
      exact funext fun i => ScaleBwdRefIdeal.Read.value1 _ _ i

end Cert.ScaleBwdRun

end
-- ==== Proof.GrpDwRun.lean ====
/- The weight gradient of the grouped product: kernel and reference end with the same array. -/
module

public import proofs.«01_k».proof.Defs
public import proofs.«01_k».proof.Proof.Gen.GrpDw.Frame
public import proofs.«01_k».proof.Proof.Gen.GrpDwIdeal.Frame
public import proofs.«01_k».proof.Proof.Gen.GrpDwIdeal.Value
public import proofs.«01_k».proof.Proof.Gen.GrpDwRefIdeal.Run
public import proofs.«01_k».proof.Proof.Gen.GrpDwRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.GrpDwIdeal.Gen

open GrpDwIdeal

/-- For each group, the sum over the sequence of the input times the cotangent. -/
def G (p : S2048x2048.Idx → EReal) (d : S2048x2048.Idx → EReal) (i : S4x4x128x512.Idx) : EReal :=
  ∑ s : Fin 2048, p (ix2 s (⟨512 * (i 1).val + (128 * (i 0).val + (i 2).val), by have : (i 0).val < 4 := (i 0).isLt; have : (i 1).val < 4 := (i 1).isLt; have : (i 2).val < 128 := (i 2).isLt; omega⟩ : Fin 2048))
    * d (ix2 s (⟨512 * (i 1).val + (i 3).val, by have : (i 1).val < 4 := (i 1).isLt; have : (i 3).val < 512 := (i 3).isLt; omega⟩ : Fin 2048))

theorem pay (x0 : Vec Ideal S2048x512 .bf16) (x1 : Vec Ideal S2048x512 .bf16) (y : S4x1x128x512.Idx) :
    k0_pay1 (F := Ideal) x0 x1 y = ∑ s : Fin 2048, x0 (ix2 s (⟨(y 0).val * 128 + (y 2).val, by have : (y 0).val < 4 := (y 0).isLt; have : (y 2).val < 128 := (y 2).isLt; omega⟩ : Fin 512)) * x1 (ix2 s (⟨(y 3).val, (y 3).isLt⟩ : Fin 512)) := by
  have h0 : (y 0).val < 4 := (y 0).isLt
  have h1 : (y 1).val < 1 := (y 1).isLt
  have h2 : (y 2).val < 128 := (y 2).isLt
  have h3 : (y 3).val < 512 := (y 3).isLt
  pointwise [k0_pay1]

theorem idx : ∀ t : Fin cfg0.N, win0_0.index t = ![0, t.val] ∧ win0_1.index t = ![0, t.val] ∧ win0_2.index t = ![0, t.val, 0, 0] :=
  (by decide +kernel : ∀ t : Fin grid0.N, _)

variable (m : (ℓ : Loc nD τ sig) → Buf (Elt Ideal) ℓ) (c : Dev nD)

theorem blk0 (t : Fin cfg0.N) (i : S2048x512.Idx) : iblk m c 0 t i = m ((c : Thread nD τ).loc main_arg0)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem blk1 (t : Fin cfg0.N) (i : S2048x512.Idx) : iblk m c 1 t i = m ((c : Thread nD τ).loc main_arg1)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem arr : (dats m 0 c).arrAt 2 cfg0.N = fun i : S4x4x128x512.Idx =>
    G (m ((c : Thread nD τ).loc main_arg0)) (m ((c : Thread nD τ).loc main_arg1)) i := by
  refine (dats m 0 c).arrAt_eq_of_covers 2 _ (by decide +kernel) fun t hf y => ?_
  have h0 : (y 0).val < 4 := (y 0).isLt
  have h1 : (y 1).val < 1 := (y 1).isLt
  have h2 : (y 2).val < 128 := (y 2).isLt
  have h3 : (y 3).val < 512 := (y 3).isLt
  have ht : t.val < 4 := t.isLt
  blk_simp
  rw [after0_2]
  have e : ∀ W : S4x4x128x512.Idx → EReal, W ((win0_2.blk t).view.emb y) = W (ix4 (⟨(y 0).val, by omega⟩ : Fin 4) (⟨t.val, by omega⟩ : Fin 4) (⟨(y 2).val, by omega⟩ : Fin 128) (⟨(y 3).val, by omega⟩ : Fin 512)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun s _ => congr_arg₂ (· * ·) (congr_arg _ (congr_arg₂ (fun a b => ix2 a b) rfl (Fin.ext ?_))) rfl
  show 512 * t.val + ((y 0).val * 128 + (y 2).val) = 512 * t.val + (128 * (y 0).val + (y 2).val)
  omega

end Cert.GrpDwIdeal.Gen

namespace Cert.GrpDwRefIdeal.Read

open GrpDwRefIdeal GrpDwRefIdeal.Gen Idealize.ShloMosaic Idealize.ShloMosaic.TcCoe Idealize.ShloMosaic.StableHlo

theorem value (x0 : S2048x2048.Idx → EReal) (x1 : S2048x2048.Idx → EReal) (i : S4x4x128x512.Idx) :
    val_main_v13 (F := Ideal) x0 x1 i = GrpDwIdeal.Gen.G x0 x1 i := by
  have h0 : (i 0).val < 4 := (i 0).isLt
  have h1 : (i 1).val < 4 := (i 1).isLt
  have h2 : (i 2).val < 128 := (i 2).isLt
  have h3 : (i 3).val < 512 := (i 3).isLt
  rw [val_main_v13_apply, val_main_v12_apply, val_main_v11_apply]
  show val_main_v10 (F := Ideal) x0 x1 _ = _
  have e11 : idx_main_v11 (idx_main_v12 i) = ix3 (⟨(i 1).val, h1⟩ : Fin 4) (⟨128 * (i 0).val + (i 2).val, by omega⟩ : Fin 512) (⟨(i 3).val, h3⟩ : Fin 512) := funext fun a => Fin.ext (by
    match a with
    | ⟨0, _⟩ => simp <;> omega
    | ⟨1, _⟩ => simp <;> omega
    | ⟨2, _⟩ => simp <;> omega)
  rw [e11, val_main_v10_apply, val_main_v9_apply]
  unfold GrpDwIdeal.Gen.G
  refine Finset.sum_congr rfl fun s _ => (mul_comm _ _).trans (congr_arg₂ (· * ·) ?_ ?_)
  · have hs : s.val < 2048 := s.isLt
    rw [val_main_v2_apply, val_main_v1_apply]
    show x0 _ = x0 _
    exact congr_arg x0 (funext fun a => Fin.ext (by
      match a with
      | ⟨0, _⟩ => simp <;> omega
      | ⟨1, _⟩ => simp <;> omega))
  · have hs : s.val < 2048 := s.isLt
    rw [val_main_v8_apply, val_main_v7_apply, val_main_v6_apply]
    show x1 _ = x1 _
    exact congr_arg x1 (funext fun a => Fin.ext (by
      match a with
      | ⟨0, _⟩ => simp <;> omega
      | ⟨1, _⟩ => simp <;> omega))

end Cert.GrpDwRefIdeal.Read

namespace Cert.GrpDwRun

open Idealize.ShloMosaic Idealize.ShloMosaic.TcCoe

theorem algebraic : @Cert.algebraic_GrpDwIdeal_GrpDwRefIdeal GrpDwIdeal.Gen.facts GrpDwRefIdeal.Gen.facts := by
  intro m g m' g' _ hag
  refine ⟨fun c => fun i : GrpDwIdeal.S4x4x128x512.Idx => GrpDwIdeal.Gen.G (m ((c.tc : Thread _ _).loc GrpDwIdeal.main_arg0)) (m ((c.tc : Thread _ _).loc GrpDwIdeal.main_arg1)) i, ?_, ?_⟩
  · refine (θ_run _ _ _).mono (fun r hr c => ?_) (GrpDwIdeal.Value.run_blocks m g)
    obtain ⟨a0, ha⟩ := hr c
    exact ⟨a0.trans (GrpDwIdeal.Gen.arr m c), ha⟩
  · refine (θ_run _ _ _).mono (fun r hr c => ?_) (GrpDwRefIdeal.Value.run m' g')
    obtain ⟨e0, e1⟩ := hag c
    obtain ⟨a0, ha⟩ := hr c
    refine ⟨a0.trans ?_, ha⟩
    rw [GrpDwRefIdeal.Read.val_main_v13_eq, e0, e1]
    exact funext fun i => GrpDwRefIdeal.Read.value _ _ i

end Cert.GrpDwRun

end
-- ==== Proof.GrpDxRun.lean ====
/- The input gradient of the grouped product: kernel and reference end with the same array. -/
module

public import proofs.«01_k».proof.Defs
public import proofs.«01_k».proof.Proof.Gen.GrpDx.Frame
public import proofs.«01_k».proof.Proof.Gen.GrpDxIdeal.Frame
public import proofs.«01_k».proof.Proof.Gen.GrpDxIdeal.Value
public import proofs.«01_k».proof.Proof.Gen.GrpDxRefIdeal.Run
public import proofs.«01_k».proof.Proof.Gen.GrpDxRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.GrpDxIdeal.Gen

open GrpDxIdeal

/-- The product of each group's cotangent with the group's transposed matrix. -/
def G (d : S2048x2048.Idx → EReal) (w : S4x4x128x512.Idx → EReal) (i : S2048x2048.Idx) : EReal :=
  ∑ k : Fin 512, d (ix2 (⟨(i 0).val, by have : (i 0).val < 2048 := (i 0).isLt; omega⟩ : Fin 2048) (⟨512 * ((i 1).val / 512) + k.val, by have : (i 1).val < 2048 := (i 1).isLt; omega⟩ : Fin 2048))
    * w (ix4 (⟨(i 1).val % 512 / 128, by omega⟩ : Fin 4) (⟨(i 1).val / 512, by have : (i 1).val < 2048 := (i 1).isLt; omega⟩ : Fin 4) (⟨(i 1).val % 128, by omega⟩ : Fin 128) k)

theorem pay (x0 : Vec Ideal S2048x512 .bf16) (x1 : Vec Ideal S4x1x128x512 .bf16) (y : S2048x512.Idx) :
    k0_pay1 (F := Ideal) x0 x1 y = ∑ k : Fin 512, x0 (ix2 (y 0) k) * x1 (ix4 (⟨(y 1).val / 128, by have : (y 1).val < 512 := (y 1).isLt; omega⟩ : Fin 4) (0 : Fin 1) (⟨(y 1).val % 128, by omega⟩ : Fin 128) k) := by
  have h1 : (y 1).val < 512 := (y 1).isLt
  pointwise [k0_pay1]

theorem idx : ∀ t : Fin cfg0.N, win0_0.index t = ![0, t.val] ∧ win0_1.index t = ![0, t.val, 0, 0] ∧ win0_2.index t = ![0, t.val] :=
  (by decide +kernel : ∀ t : Fin grid0.N, _)

variable (m : (ℓ : Loc nD τ sig) → Buf (Elt Ideal) ℓ) (c : Dev nD)

theorem blk0 (t : Fin cfg0.N) (i : S2048x512.Idx) : iblk m c 0 t i = m ((c : Thread nD τ).loc main_arg0)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem blk1 (t : Fin cfg0.N) (i : S4x1x128x512.Idx) : iblk m c 1 t i = m ((c : Thread nD τ).loc main_arg1)
    (ix4 (⟨(i 0).val, by have : (i 0).val < 4 := (i 0).isLt; omega⟩ : Fin 4) (⟨t.val, by have : t.val < 4 := t.isLt; omega⟩ : Fin 4) (⟨(i 2).val, by have : (i 2).val < 128 := (i 2).isLt; omega⟩ : Fin 128) (⟨(i 3).val, by have : (i 3).val < 512 := (i 3).isLt; omega⟩ : Fin 512)) := by
  have h1 : (i 1).val < 1 := (i 1).isLt
  blk_point [iblk, V, idx t]

theorem arr : (dats m 0 c).arrAt 2 cfg0.N = fun i : S2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 2048 := (y 0).isLt
  have h1 : (y 1).val < 512 := (y 1).isLt
  have ht : t.val < 4 := t.isLt
  blk_simp
  rw [after0_2]
  have e : ∀ W : S2048x2048.Idx → EReal, W ((win0_2.blk t).view.emb y) = W (ix2 (⟨(y 0).val, by omega⟩ : Fin 2048) (⟨512 * t.val + (y 1).val, by omega⟩ : Fin 2048)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun k _ => congr_arg₂ (· * ·) (congr_arg _ ?_) (congr_arg _ ?_)
  · refine congr_arg₂ (fun a b => ix2 a b) rfl (Fin.ext ?_)
    show 512 * t.val + k.val = 512 * ((512 * t.val + (y 1).val) / 512) + k.val
    omega
  · have e0 : (y 1).val / 128 = (512 * t.val + (y 1).val) % 512 / 128 := by omega
    have e1 : t.val = (512 * t.val + (y 1).val) / 512 := by omega
    have e2 : (y 1).val % 128 = (512 * t.val + (y 1).val) % 128 := by omega
    refine funext fun a => Fin.ext ?_
    match a with
    | ⟨0, _⟩ => exact e0
    | ⟨1, _⟩ => exact e1
    | ⟨2, _⟩ => exact e2
    | ⟨3, _⟩ => rfl

end Cert.GrpDxIdeal.Gen

namespace Cert.GrpDxRefIdeal.Read

open GrpDxRefIdeal GrpDxRefIdeal.Gen Idealize.ShloMosaic Idealize.ShloMosaic.TcCoe Idealize.ShloMosaic.StableHlo

theorem value (x0 : S2048x2048.Idx → EReal) (x1 : S4x4x128x512.Idx → EReal) (i : S2048x2048.Idx) :
    val_main_v13 (F := Ideal) x0 x1 i = GrpDxIdeal.Gen.G x0 x1 i := by
  have h0 : (i 0).val < 2048 := (i 0).isLt
  have h1 : (i 1).val < 2048 := (i 1).isLt
  rw [val_main_v13_apply]
  have e13 : idx_main_v13 i = ix3 (⟨(i 0).val, h0⟩ : Fin 2048) (⟨(i 1).val / 512, by omega⟩ : Fin 4) (⟨(i 1).val % 512, by omega⟩ : Fin 512) := funext fun a => Fin.ext (by
    match a with
    | ⟨0, _⟩ => simp <;> omega
    | ⟨1, _⟩ => simp <;> omega
    | ⟨2, _⟩ => simp <;> omega)
  rw [e13, val_main_v12_apply, val_main_v11_apply]
  unfold GrpDxIdeal.Gen.G
  refine Finset.sum_congr rfl fun k _ => congr_arg₂ (· * ·) ?_ ?_
  · have hk : k.val < 512 := k.isLt
    rw [val_main_v10_apply, val_main_v9_apply, val_main_v8_apply]
    show x0 _ = x0 _
    exact congr_arg x0 (funext fun a => Fin.ext (by
      match a with
      | ⟨0, _⟩ => simp <;> omega
      | ⟨1, _⟩ => simp <;> omega))
  · have hk : k.val < 512 := k.isLt
    rw [val_main_v3_apply, val_main_v2_apply, val_main_v1_apply]
    show x1 _ = x1 _
    exact congr_arg x1 (funext fun a => Fin.ext (by
      match a with
      | ⟨0, _⟩ => simp <;> omega
      | ⟨1, _⟩ => simp <;> omega
      | ⟨2, _⟩ => simp <;> omega
      | ⟨3, _⟩ => simp <;> omega))

end Cert.GrpDxRefIdeal.Read

namespace Cert.GrpDxRun

open Idealize.ShloMosaic Idealize.ShloMosaic.TcCoe

theorem algebraic : @Cert.algebraic_GrpDxIdeal_GrpDxRefIdeal GrpDxIdeal.Gen.facts GrpDxRefIdeal.Gen.facts := by
  intro m g m' g' _ hag
  refine ⟨fun c => fun i : GrpDxIdeal.S2048x2048.Idx => GrpDxIdeal.Gen.G (m ((c.tc : Thread _ _).loc GrpDxIdeal.main_arg0)) (m ((c.tc : Thread _ _).loc GrpDxIdeal.main_arg1)) i, ?_, ?_⟩
  · refine (θ_run _ _ _).mono (fun r hr c => ?_) (GrpDxIdeal.Value.run_blocks m g)
    obtain ⟨a0, ha⟩ := hr c
    exact ⟨a0.trans (GrpDxIdeal.Gen.arr m c), ha⟩
  · refine (θ_run _ _ _).mono (fun r hr c => ?_) (GrpDxRefIdeal.Value.run m' g')
    obtain ⟨e0, e1⟩ := hag c
    obtain ⟨a0, ha⟩ := hr c
    refine ⟨a0.trans ?_, ha⟩
    rw [GrpDxRefIdeal.Read.val_main_v13_eq, e0, e1]
    exact funext fun i => GrpDxRefIdeal.Read.value _ _ i

end Cert.GrpDxRun

end
-- ==== Proof.AInDwRun.lean ====
/- The weight gradient of the mixing layer's first product: kernel and reference end with the same array. -/
module

public import proofs.«01_k».proof.Defs
public import proofs.«01_k».proof.Proof.Gen.AInDw.Frame
public import proofs.«01_k».proof.Proof.Gen.AInDwIdeal.Frame
public import proofs.«01_k».proof.Proof.Gen.AInDwIdeal.Value
public import proofs.«01_k».proof.Proof.Gen.AInDwRefIdeal.Run
public import proofs.«01_k».proof.Proof.Gen.AInDwRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AInDwIdeal.Gen

open AInDwIdeal

/-- The sum over the sequence of the normed input times the cotangent. -/
def G (h : S2048x2048.Idx → EReal) (d : S2048x4096.Idx → EReal) (i : S4x1x2048x1024.Idx) : EReal :=
  ∑ s : Fin 2048, h (ix2 s (⟨(i 2).val, (i 2).isLt⟩ : Fin 2048))
    * d (ix2 s (⟨1024 * (i 0).val + (i 3).val, by have : (i 0).val < 4 := (i 0).isLt; have : (i 3).val < 1024 := (i 3).isLt; omega⟩ : Fin 4096))

theorem pay (x0 : Vec Ideal S2048x1024 .bf16) (x1 : Vec Ideal S2048x1024 .bf16) (y : S1x1x1024x1024.Idx) :
    k0_pay1 x0 x1 y = ∑ s : Fin 2048, x0 (ix2 s (⟨(y 2).val, (y 2).isLt⟩ : Fin 1024)) * x1 (ix2 s (⟨(y 3).val, (y 3).isLt⟩ : Fin 1024)) := by
  have h0 : (y 0).val < 1 := (y 0).isLt
  have h1 : (y 1).val < 1 := (y 1).isLt
  pointwise [k0_pay1]

theorem idx : ∀ t : Fin cfg0.N, win0_0.index t = ![0, t.val % 2] ∧ win0_1.index t = ![0, t.val / 2] ∧ win0_2.index t = ![t.val / 2, 0, t.val % 2, 0] :=
  (by decide +kernel : ∀ t : Fin grid0.N, _)

variable (m : (ℓ : Loc nD τ sig) → Buf (Elt Ideal) ℓ) (c : Dev nD)

theorem blk0 (t : Fin cfg0.N) (i : S2048x1024.Idx) : iblk m c 0 t i = m ((c : Thread nD τ).loc main_arg0)
    (ix2 (⟨(i 0).val, (i 0).isLt⟩ : Fin 2048) (⟨1024 * (t.val % 2) + (i 1).val, by have : (i 1).val < 1024 := (i 1).isLt; omega⟩ : Fin 2048)) := by
  blk_point [iblk, V, idx t]

theorem blk1 (t : Fin cfg0.N) (i : S2048x1024.Idx) : iblk m c 1 t i = m ((c : Thread nD τ).loc main_arg1)
    (ix2 (⟨(i 0).val, (i 0).isLt⟩ : Fin 2048) (⟨1024 * (t.val / 2) + (i 1).val, by have : (i 1).val < 1024 := (i 1).isLt; have : t.val < 8 := t.isLt; omega⟩ : Fin 4096)) := by
  blk_point [iblk, V, idx t]

theorem arr : (dats m 0 c).arrAt 2 cfg0.N = fun i : S4x1x2048x1024.Idx =>
    G (m ((c : Thread nD τ).loc main_arg0)) (m ((c : Thread nD τ).loc main_arg1)) i := by
  refine (dats m 0 c).arrAt_eq_of_covers 2 _ (by decide +kernel) fun t hf y => ?_
  have h0 : (y 0).val < 1 := (y 0).isLt
  have h1 : (y 1).val < 1 := (y 1).isLt
  have h2 : (y 2).val < 1024 := (y 2).isLt
  have h3 : (y 3).val < 1024 := (y 3).isLt
  have ht : t.val < 8 := t.isLt
  blk_simp
  rw [after0_2]
  have e : ∀ W : S4x1x2048x1024.Idx → EReal, W ((win0_2.blk t).view.emb y) = W (ix4 (⟨t.val / 2, by omega⟩ : Fin 4) (0 : Fin 1)
      (⟨1024 * (t.val % 2) + (y 2).val, by omega⟩ : Fin 2048) (⟨(y 3).val, h3⟩ : Fin 1024)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun s _ => ?_
  rfl

end Cert.AInDwIdeal.Gen

namespace Cert.AInDwRefIdeal.Read

open AInDwRefIdeal AInDwRefIdeal.Gen Idealize.ShloMosaic Idealize.ShloMosaic.TcCoe Idealize.ShloMosaic.StableHlo

theorem value (x0 : S2048x2048.Idx → EReal) (x1 : S2048x4096.Idx → EReal) (i : S4x1x2048x1024.Idx) :
    val_main_v9 (F := Ideal) x0 x1 i = AInDwIdeal.Gen.G x0 x1 i := by
  have h0 : (i 0).val < 4 := (i 0).isLt
  have h1 : (i 1).val < 1 := (i 1).isLt
  have h2 : (i 2).val < 2048 := (i 2).isLt
  have h3 : (i 3).val < 1024 := (i 3).isLt
  rw [val_main_v9_apply, val_main_v8_apply, val_main_v7_apply, val_main_v6_apply, val_main_v5_apply]
  show val_main_v4 (F := Ideal) x0 x1 _ = _
  rw [val_main_v4_apply]
  unfold AInDwIdeal.Gen.G
  refine Finset.sum_congr rfl fun s _ => (mul_comm _ _).trans (congr_arg₂ (· * ·) ?_ ?_)
  · rw [val_main_v1_apply]
    show x0 _ = x0 _
    exact congr_arg x0 (funext fun a => Fin.ext (by
      match a with
      | ⟨0, _⟩ => rfl
      | ⟨1, _⟩ => simp <;> omega))
  · rw [val_main_v3_apply]
    show x1 _ = x1 _
    exact congr_arg x1 (funext fun a => Fin.ext (by
      match a with
      | ⟨0, _⟩ => rfl
      | ⟨1, _⟩ => simp <;> omega))

end Cert.AInDwRefIdeal.Read

namespace Cert.AInDwRun

open Idealize.ShloMosaic Idealize.ShloMosaic.TcCoe

theorem algebraic : @Cert.algebraic_AInDwIdeal_AInDwRefIdeal AInDwIdeal.Gen.facts AInDwRefIdeal.Gen.facts := by
  intro m g m' g' _ hag
  refine ⟨fun c => fun i : AInDwIdeal.S4x1x2048x1024.Idx => AInDwIdeal.Gen.G (m ((c.tc : Thread _ _).loc AInDwIdeal.main_arg0))
    (m ((c.tc : Thread _ _).loc AInDwIdeal.main_arg1)) i, ?_, ?_⟩
  · refine (θ_run _ _ _).mono (fun r hr c => ?_) (AInDwIdeal.Value.run_blocks m g)
    exact ⟨(hr c).1.trans (AInDwIdeal.Gen.arr m c), (hr c).2⟩
  · refine (θ_run _ _ _).mono (fun r hr c => ?_) (AInDwRefIdeal.Value.run m' g')
    obtain ⟨e0, e1⟩ := hag c
    refine ⟨(hr c).1.trans ?_, (hr c).2⟩
    rw [AInDwRefIdeal.Read.val_main_v9_eq, e0, e1]
    exact funext fun i => AInDwRefIdeal.Read.value _ _ i

end Cert.AInDwRun

end
-- ==== Proof.AInDxRun.lean ====
/- The input gradient of the mixing layer's first product: kernel and reference end with the same array. -/
module

public import proofs.«01_k».proof.Defs
public import proofs.«01_k».proof.Proof.Gen.AInDx.Frame
public import proofs.«01_k».proof.Proof.Gen.AInDxIdeal.Frame
public import proofs.«01_k».proof.Proof.Gen.AInDxIdeal.Value
public import proofs.«01_k».proof.Proof.Gen.AInDxRefIdeal.Run
public import proofs.«01_k».proof.Proof.Gen.AInDxRefIdeal.Read
public import proofs.«01_k».proof.Proof.Sums
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AInDxIdeal.Gen

open AInDxIdeal

/-- The product with the transposed weight, one piece of the weight after another. -/
def G (d : S2048x4096.Idx → EReal) (w : S4x1x2048x1024.Idx → EReal) (i : S2048x2048.Idx) : EReal :=
  ∑ j : Fin 4, ∑ k : Fin 1024, d (ix2 (⟨(i 0).val, by have : (i 0).val < 2048 := (i 0).isLt; omega⟩ : Fin 2048) (⟨1024 * j.val + k.val, by omega⟩ : Fin 4096))
    * w (ix4 j (0 : Fin 1) (⟨(i 1).val, by have : (i 1).val < 2048 := (i 1).isLt; omega⟩ : Fin 2048) k)

theorem pay (x0 : Vec Ideal S1024x4096 .bf16) (w0 w1 w2 w3 : Vec Ideal S1x1x512x1024 .bf16) (y : S1024x512.Idx) :
    k0_pay1 (F := Ideal) x0 w0 w1 w2 w3 y
      = (∑ k : Fin 1024, x0 (ix2 (y 0) (⟨k.val, by omega⟩ : Fin 4096)) * w0 (ix4 (0 : Fin 1) (0 : Fin 1) (y 1) k))
        + (∑ k : Fin 1024, x0 (ix2 (y 0) (⟨1024 + k.val, by omega⟩ : Fin 4096)) * w1 (ix4 (0 : Fin 1) (0 : Fin 1) (y 1) k))
        + (∑ k : Fin 1024, x0 (ix2 (y 0) (⟨2048 + k.val, by omega⟩ : Fin 4096)) * w2 (ix4 (0 : Fin 1) (0 : Fin 1) (y 1) k))
        + (∑ k : Fin 1024, x0 (ix2 (y 0) (⟨3072 + k.val, by omega⟩ : Fin 4096)) * w3 (ix4 (0 : Fin 1) (0 : Fin 1) (y 1) k)) := by
  pointwise [k0_pay1]

theorem idx : ∀ t : Fin cfg0.N, win0_0.index t = ![t.val / 4, 0] ∧ win0_1.index t = ![0, 0, t.val % 4, 0] ∧ win0_2.index t = ![t.val / 4, t.val % 4] :=
  (by decide +kernel : ∀ t : Fin grid0.N, _)

theorem piece0 (x1 : Vec Ideal S4x1x512x1024 .bf16) (n : Fin 512) (k : Fin 1024) :
    View.ld x1 r0_1 (ix4 (0 : Fin 1) (0 : Fin 1) n k) = x1 (ix4 (0 : Fin 4) (0 : Fin 1) n k) := by
  show x1 _ = x1 _
  refine congr_arg x1 (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]

theorem piece1 (x1 : Vec Ideal S4x1x512x1024 .bf16) (n : Fin 512) (k : Fin 1024) :
    View.ld x1 r0_2 (ix4 (0 : Fin 1) (0 : Fin 1) n k) = x1 (ix4 (1 : Fin 4) (0 : Fin 1) n k) := by
  show x1 _ = x1 _
  refine congr_arg x1 (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]

theorem piece2 (x1 : Vec Ideal S4x1x512x1024 .bf16) (n : Fin 512) (k : Fin 1024) :
    View.ld x1 r0_3 (ix4 (0 : Fin 1) (0 : Fin 1) n k) = x1 (ix4 (2 : Fin 4) (0 : Fin 1) n k) := by
  show x1 _ = x1 _
  refine congr_arg x1 (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]

theorem piece3 (x1 : Vec Ideal S4x1x512x1024 .bf16) (n : Fin 512) (k : Fin 1024) :
    View.ld x1 r0_4 (ix4 (0 : Fin 1) (0 : Fin 1) n k) = x1 (ix4 (3 : Fin 4) (0 : Fin 1) n k) := by
  show x1 _ = x1 _
  refine congr_arg x1 (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]

variable (m : (ℓ : Loc nD τ sig) → Buf (Elt Ideal) ℓ) (c : Dev nD)

theorem blk0 (t : Fin cfg0.N) (i : S1024x4096.Idx) : iblk m c 0 t i = m ((c : Thread nD τ).loc main_arg0)
    (ix2 (⟨1024 * (t.val / 4) + (i 0).val, by have : (i 0).val < 1024 := (i 0).isLt; have : t.val < 8 := t.isLt; omega⟩ : Fin 2048) (⟨(i 1).val, by have : (i 1).val < 4096 := (i 1).isLt; omega⟩ : Fin 4096)) := by
  blk_point [iblk, V, idx t]

theorem blk1 (t : Fin cfg0.N) (i : S4x1x512x1024.Idx) : iblk m c 1 t i = m ((c : Thread nD τ).loc main_arg1)
    (ix4 (⟨(i 0).val, by have : (i 0).val < 4 := (i 0).isLt; omega⟩ : Fin 4) (0 : Fin 1) (⟨512 * (t.val % 4) + (i 2).val, by have : (i 2).val < 512 := (i 2).isLt; have : t.val < 8 := t.isLt; omega⟩ : Fin 2048) (⟨(i 3).val, by have : (i 3).val < 1024 := (i 3).isLt; omega⟩ : Fin 1024)) := by
  have h1 : (i 1).val < 1 := (i 1).isLt
  blk_point [iblk, V, idx t]

theorem arr : (dats m 0 c).arrAt 2 cfg0.N = fun i : S2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 1024 := (y 0).isLt
  have h1 : (y 1).val < 512 := (y 1).isLt
  have ht : t.val < 8 := t.isLt
  blk_simp
  rw [after0_2]
  have e : ∀ W : S2048x2048.Idx → EReal, W ((win0_2.blk t).view.emb y) = W (ix2 (⟨1024 * (t.val / 4) + (y 0).val, by omega⟩ : Fin 2048) (⟨512 * (t.val % 4) + (y 1).val, by omega⟩ : Fin 2048)) := fun W => by
    blk_ext [idx t]
  rw [e (G _ _)]
  unfold out0_2
  rw [View.canon_unit_zero (by decide), View.ld_unit_zero (by decide)]
  refine (pay _ _ _ _ _ y).trans ?_
  simp only [blk0, G]
  rw [Fin.sum_univ_four]
  refine congr_arg₂ (· + ·) (congr_arg₂ (· + ·) (congr_arg₂ (· + ·) ?_ ?_) ?_) ?_
  · refine Finset.sum_congr rfl fun k _ => ?_
    refine congr_arg₂ (· * ·) (congr_arg _ (congr_arg₂ (fun a b => ix2 a b) rfl (Fin.ext ?_))) ((piece0 _ _ _).trans ((blk1 m c t _).trans rfl))
    simp <;> omega
  · refine Finset.sum_congr rfl fun k _ => ?_
    refine congr_arg₂ (· * ·) (congr_arg _ (congr_arg₂ (fun a b => ix2 a b) rfl (Fin.ext ?_))) ((piece1 _ _ _).trans ((blk1 m c t _).trans rfl))
    simp <;> omega
  · refine Finset.sum_congr rfl fun k _ => ?_
    refine congr_arg₂ (· * ·) (congr_arg _ (congr_arg₂ (fun a b => ix2 a b) rfl (Fin.ext ?_))) ((piece2 _ _ _).trans ((blk1 m c t _).trans rfl))
    simp <;> omega
  · refine Finset.sum_congr rfl fun k _ => ?_
    refine congr_arg₂ (· * ·) (congr_arg _ (congr_arg₂ (fun a b => ix2 a b) rfl (Fin.ext ?_))) ((piece3 _ _ _).trans ((blk1 m c t _).trans rfl))
    simp <;> omega

end Cert.AInDxIdeal.Gen

namespace Cert.AInDxRefIdeal.Read

open AInDxRefIdeal AInDxRefIdeal.Gen Idealize.ShloMosaic Idealize.ShloMosaic.TcCoe Idealize.ShloMosaic.StableHlo

theorem value (x0 : S2048x4096.Idx → EReal) (x1 : S4x1x2048x1024.Idx → EReal) (i : S2048x2048.Idx) :
    val_main_v7 (F := Ideal) x0 x1 i = AInDxIdeal.Gen.G x0 x1 i := by
  have h1 : (i 1).val < 2048 := (i 1).isLt
  rw [val_main_v7_apply]
  unfold AInDxIdeal.Gen.G
  rw [Sums.tiles 4 1024 (by norm_num)]
  refine Finset.sum_congr rfl fun j _ => Finset.sum_congr rfl fun k _ => congr_arg₂ (· * ·) ?_ ?_
  · rw [val_main_v6_apply]
    show x0 _ = x0 _
    exact congr_arg x0 (funext fun a => Fin.ext (by
      match a with
      | ⟨0, _⟩ => rfl
      | ⟨1, _⟩ => rfl))
  · have hj : j.val < 4 := j.isLt
    have hk : k.val < 1024 := k.isLt
    rw [val_main_v4_apply, val_main_v3_apply]
    have e3 : idx_main_v3 (ridx_main_v7 i ⟨1024 * j.val + k.val, by omega⟩) = ix3 (⟨(i 1).val, h1⟩ : Fin 2048) j k := funext fun a => Fin.ext (by
      match a with
      | ⟨0, _⟩ => simp <;> omega
      | ⟨1, _⟩ => simp <;> omega
      | ⟨2, _⟩ => simp <;> omega)
    rw [e3, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

end Cert.AInDxRefIdeal.Read

namespace Cert.AInDxRun

open Idealize.ShloMosaic Idealize.ShloMosaic.TcCoe

theorem algebraic : @Cert.algebraic_AInDxIdeal_AInDxRefIdeal AInDxIdeal.Gen.facts AInDxRefIdeal.Gen.facts := by
  intro m g m' g' _ hag
  refine ⟨fun c => fun i : AInDxIdeal.S2048x2048.Idx => AInDxIdeal.Gen.G (m ((c.tc : Thread _ _).loc AInDxIdeal.main_arg0)) (m ((c.tc : Thread _ _).loc AInDxIdeal.main_arg1)) i, ?_, ?_⟩
  · refine (θ_run _ _ _).mono (fun r hr c => ?_) (AInDxIdeal.Value.run_blocks m g)
    obtain ⟨a0, ha⟩ := hr c
    exact ⟨a0.trans (AInDxIdeal.Gen.arr m c), ha⟩
  · refine (θ_run _ _ _).mono (fun r hr c => ?_) (AInDxRefIdeal.Value.run m' g')
    obtain ⟨e0, e1⟩ := hag c
    obtain ⟨a0, ha⟩ := hr c
    refine ⟨a0.trans ?_, ha⟩
    rw [AInDxRefIdeal.Read.val_main_v7_eq, e0, e1]
    exact funext fun i => AInDxRefIdeal.Read.value _ _ i

end Cert.AInDxRun

end
-- ==== Proof.MmBwdRun.lean ====
/- The gradients of a product: kernel and reference end with the same arrays. -/
module

public import proofs.«01_k».proof.Defs
public import proofs.«01_k».proof.Proof.Gen.MmBwd.Frame
public import proofs.«01_k».proof.Proof.Gen.MmBwdIdeal.Frame
public import proofs.«01_k».proof.Proof.Gen.MmBwdIdeal.Value
public import proofs.«01_k».proof.Proof.Gen.MmBwdRefIdeal.Run
public import proofs.«01_k».proof.Proof.Gen.MmBwdRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.MmBwdIdeal.Gen

open MmBwdIdeal

/-- The gradient of the product's input: the cotangent times the transposed weight. -/
def G (dy : S2048x2048.Idx → EReal) (w : S4x1x512x2048.Idx → EReal) (i : S2048x2048.Idx) : EReal :=
  ∑ k : Fin 2048, dy (ix2 (⟨(i 0).val, by have : (i 0).val < 2048 := (i 0).isLt; omega⟩ : Fin 2048) k)
    * w (ix4 (⟨(i 1).val / 512, by have : (i 1).val < 2048 := (i 1).isLt; omega⟩ : Fin 4) (0 : Fin 1) (⟨(i 1).val % 512, by omega⟩ : Fin 512) k)

/-- The gradient of the product's weight: the sum over the sequence of the input times the cotangent. -/
def H (dy : S2048x2048.Idx → EReal) (a : S2048x2048.Idx → EReal) (i : S4x1x512x2048.Idx) : EReal :=
  ∑ s : Fin 2048, a (ix2 s (⟨512 * (i 0).val + (i 2).val, by have : (i 0).val < 4 := (i 0).isLt; have : (i 2).val < 512 := (i 2).isLt; omega⟩ : Fin 2048)) * dy (ix2 s (⟨(i 3).val, by have : (i 3).val < 2048 := (i 3).isLt; omega⟩ : Fin 2048))

theorem pay1 (x0 : Vec Ideal S2048x2048 .bf16) (x1 : Vec Ideal S1x1x512x2048 .bf16) (y : S2048x512.Idx) :
    k0_pay1 (F := Ideal) x0 x1 y = ∑ k : Fin 2048, x0 (ix2 (y 0) k) * x1 (ix4 (0 : Fin 1) (0 : Fin 1) (y 1) k) := by
  pointwise [k0_pay1]

theorem pay2 (x0 : Vec Ideal S2048x2048 .bf16) (x2 : Vec Ideal S2048x512 .bf16) (y : S1x1x512x2048.Idx) :
    k0_pay2 (F := Ideal) x0 x2 y = ∑ s : Fin 2048, x2 (ix2 s (⟨(y 2).val, (y 2).isLt⟩ : Fin 512)) * x0 (ix2 s (⟨(y 3).val, (y 3).isLt⟩ : Fin 2048)) := by
  have h0 : (y 0).val < 1 := (y 0).isLt
  have h1 : (y 1).val < 1 := (y 1).isLt
  pointwise [k0_pay2]

theorem idx : ∀ t : Fin cfg0.N, win0_0.index t = ![0, 0] ∧ win0_1.index t = ![t.val, 0, 0, 0] ∧ win0_2.index t = ![0, t.val] ∧ win0_3.index t = ![0, t.val] ∧ win0_4.index t = ![t.val, 0, 0, 0] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0)
    i := by
  blk_point [iblk, V, idx t]

theorem blk1 (t : Fin cfg0.N) (i : S1x1x512x2048.Idx) : iblk m c 1 t i = m ((c : Thread nD τ).loc main_arg1)
    (ix4 (⟨t.val, by have : t.val < 4 := t.isLt; omega⟩ : Fin 4) (0 : Fin 1) (⟨(i 2).val, by have : (i 2).val < 512 := (i 2).isLt; omega⟩ : Fin 512) (⟨(i 3).val, by have : (i 3).val < 2048 := (i 3).isLt; omega⟩ : Fin 2048)) := by
  have h0 : (i 0).val < 1 := (i 0).isLt
  have h1 : (i 1).val < 1 := (i 1).isLt
  blk_point [iblk, V, idx t]

theorem blk2 (t : Fin cfg0.N) (i : S2048x512.Idx) : iblk m c 2 t i = m ((c : Thread nD τ).loc main_arg2)
    (ix2 (⟨(i 0).val, by have : (i 0).val < 2048 := (i 0).isLt; omega⟩ : Fin 2048) (⟨512 * t.val + (i 1).val, by have : (i 1).val < 512 := (i 1).isLt; have : t.val < 4 := t.isLt; omega⟩ : Fin 2048)) := by
  blk_point [iblk, V, idx t]

theorem arr0 : (dats m 0 c).arrAt 3 cfg0.N = fun i : S2048x2048.Idx =>
    G (m ((c : Thread nD τ).loc main_arg0)) (m ((c : Thread nD τ).loc main_arg1)) i := by
  refine (dats m 0 c).arrAt_eq_of_covers 3 _ (by decide +kernel) fun t hf y => ?_
  have h0 : (y 0).val < 2048 := (y 0).isLt
  have h1 : (y 1).val < 512 := (y 1).isLt
  have ht : t.val < 4 := t.isLt
  blk_simp
  rw [after0_3]
  have e : ∀ W : S2048x2048.Idx → EReal, W ((win0_3.blk t).view.emb y) = W (ix2 (⟨(y 0).val, by omega⟩ : Fin 2048) (⟨512 * t.val + (y 1).val, by omega⟩ : Fin 2048)) := fun W => by
    blk_ext [idx t]
  rw [e (G _ _)]
  unfold out0_3
  rw [View.canon_unit_zero (by decide), View.ld_unit_zero (by decide), View.ld_unit_zero (by decide)]
  refine (pay1 _ _ y).trans ?_
  simp only [blk0, blk1, G]
  refine Finset.sum_congr rfl fun k _ => congr_arg₂ (· * ·) rfl (congr_arg _ ?_)
  refine congr_arg₂ (fun a b => ix4 a (0 : Fin 1) b k) (Fin.ext ?_) (Fin.ext ?_)
  · show t.val = (512 * t.val + (y 1).val) / 512
    omega
  · show (y 1).val = (512 * t.val + (y 1).val) % 512
    omega

theorem arr1 : (dats m 0 c).arrAt 4 cfg0.N = fun i : S4x1x512x2048.Idx =>
    H (m ((c : Thread nD τ).loc main_arg0)) (m ((c : Thread nD τ).loc main_arg2)) i := by
  refine (dats m 0 c).arrAt_eq_of_covers 4 _ (by decide +kernel) fun t hf y => ?_
  have h0 : (y 0).val < 1 := (y 0).isLt
  have h1 : (y 1).val < 1 := (y 1).isLt
  have h2 : (y 2).val < 512 := (y 2).isLt
  have h3 : (y 3).val < 2048 := (y 3).isLt
  have ht : t.val < 4 := t.isLt
  blk_simp
  rw [after0_4]
  have e : ∀ W : S4x1x512x2048.Idx → EReal, W ((win0_4.blk t).view.emb y) = W (ix4 (⟨t.val, by omega⟩ : Fin 4) (0 : Fin 1) (⟨(y 2).val, by omega⟩ : Fin 512) (⟨(y 3).val, by omega⟩ : Fin 2048)) := fun W => by
    blk_ext [idx t]
  rw [e (H _ _)]
  unfold out0_4
  rw [View.canon_unit_zero (by decide), View.ld_unit_zero (by decide), View.ld_unit_zero (by decide)]
  refine (pay2 _ _ y).trans ?_
  simp only [blk0, blk2, H]
  refine Finset.sum_congr rfl fun s _ => ?_
  rfl

end Cert.MmBwdIdeal.Gen

namespace Cert.MmBwdRefIdeal.Read

open MmBwdRefIdeal MmBwdRefIdeal.Gen Idealize.ShloMosaic Idealize.ShloMosaic.TcCoe Idealize.ShloMosaic.StableHlo

theorem value0 (x0 : S2048x2048.Idx → EReal) (x1 : S4x1x512x2048.Idx → EReal) (i : S2048x2048.Idx) :
    val_main_v8 (F := Ideal) x0 x1 i = MmBwdIdeal.Gen.G x0 x1 i := by
  have h1 : (i 1).val < 2048 := (i 1).isLt
  rw [val_main_v8_apply]
  unfold MmBwdIdeal.Gen.G
  refine Finset.sum_congr rfl fun k _ => congr_arg₂ (· * ·) ?_ ?_
  · rw [val_main_v5_apply]
    show x0 _ = x0 _
    exact congr_arg x0 (funext fun a => Fin.ext (by
      match a with
      | ⟨0, _⟩ => rfl
      | ⟨1, _⟩ => rfl))
  · have hk : k.val < 2048 := k.isLt
    rw [val_main_v3_apply, val_main_v2_apply, val_main_v1_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

theorem value1 (x0 : S2048x2048.Idx → EReal) (x2 : S2048x2048.Idx → EReal) (i : S4x1x512x2048.Idx) :
    val_main_v10 (F := Ideal) x0 x2 i = MmBwdIdeal.Gen.H x0 x2 i := by
  have h0 : (i 0).val < 4 := (i 0).isLt
  have h1 : (i 1).val < 1 := (i 1).isLt
  have h2 : (i 2).val < 512 := (i 2).isLt
  have h3 : (i 3).val < 2048 := (i 3).isLt
  rw [val_main_v10_apply, val_main_v9_apply, val_main_v7_apply]
  show val_main_v6 (F := Ideal) x0 x2 _ = _
  rw [val_main_v6_apply]
  unfold MmBwdIdeal.Gen.H
  refine Finset.sum_congr rfl fun s _ => (mul_comm _ _).trans (congr_arg₂ (· * ·) ?_ ?_)
  · rw [val_main_v0_apply]
    show x2 _ = x2 _
    exact congr_arg x2 (funext fun a => Fin.ext (by
      match a with
      | ⟨0, _⟩ => rfl
      | ⟨1, _⟩ => simp <;> omega))
  · rw [val_main_v5_apply]
    show x0 _ = x0 _
    exact congr_arg x0 (funext fun a => Fin.ext (by
      match a with
      | ⟨0, _⟩ => rfl
      | ⟨1, _⟩ => simp <;> omega))

end Cert.MmBwdRefIdeal.Read

namespace Cert.MmBwdRun

open Idealize.ShloMosaic Idealize.ShloMosaic.TcCoe

theorem algebraic : @Cert.algebraic_MmBwdIdeal_MmBwdRefIdeal MmBwdIdeal.Gen.facts MmBwdRefIdeal.Gen.facts := by
  intro m g m' g' _ hag
  refine ⟨fun c => fun i : MmBwdIdeal.S2048x2048.Idx => MmBwdIdeal.Gen.G (m ((c.tc : Thread _ _).loc MmBwdIdeal.main_arg0)) (m ((c.tc : Thread _ _).loc MmBwdIdeal.main_arg1)) i, fun c => fun i : MmBwdIdeal.S4x1x512x2048.Idx => MmBwdIdeal.Gen.H (m ((c.tc : Thread _ _).loc MmBwdIdeal.main_arg0)) (m ((c.tc : Thread _ _).loc MmBwdIdeal.main_arg2)) i, ?_, ?_⟩
  · refine (θ_run _ _ _).mono (fun r hr c => ?_) (MmBwdIdeal.Value.run_blocks m g)
    obtain ⟨a0, a1, ha⟩ := hr c
    exact ⟨a0.trans (MmBwdIdeal.Gen.arr0 m c), a1.trans (MmBwdIdeal.Gen.arr1 m c), ha⟩
  · refine (θ_run _ _ _).mono (fun r hr c => ?_) (MmBwdRefIdeal.Value.run m' g')
    obtain ⟨e0, e1, e2⟩ := hag c
    obtain ⟨a0, a1, ha⟩ := hr c
    refine ⟨a0.trans ?_, a1.trans ?_, ha⟩
    · rw [MmBwdRefIdeal.Read.val_main_v8_eq, e0, e1]
      exact funext fun i => MmBwdRefIdeal.Read.value0 _ _ i
    · rw [MmBwdRefIdeal.Read.val_main_v10_eq, e0, e2]
      exact funext fun i => MmBwdRefIdeal.Read.value1 _ _ i

end Cert.MmBwdRun

end
-- ==== Proof.RmsFwdRun.lean ====
/- The root-mean-square norm: kernel and reference end with the same array. -/
module

public import proofs.«01_k».proof.Defs
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.RmsFwdIdeal.Gen

open RmsFwdIdeal

/-- The reciprocal root of the mean of a row's squares, each taken from `q`. -/
def root (q : Fin 2048 → EReal) : EReal :=
  Ideal.rsqrt (Ideal.div (∑ k : Fin 2048, q k) (Ideal.ofBits .f32 0x45000000#32) + Ideal.ofBits .f32 0x358637BD#32)

/-- A row times the reciprocal root of the mean of its squares, scaled by column. -/
def G (x : S2048x2048.Idx → EReal) (g : S1x2048.Idx → EReal) (i : S2048x2048.Idx) : EReal :=
  x i * root (fun k => x (ix2 (⟨(i 0).val, (i 0).isLt⟩ : Fin 2048) k) * x (ix2 (⟨(i 0).val, (i 0).isLt⟩ : Fin 2048) k))
    * g (ix2 (0 : Fin 1) (⟨(i 1).val, (i 1).isLt⟩ : Fin 2048))

theorem pay (x0 : Vec Ideal S512x2048 .f32) (x1 : Vec Ideal S1x2048 .f32) (y : S512x2048.Idx) :
    k0_pay1 x0 x1 y = @HMul.hMul EReal EReal EReal _ (@HMul.hMul EReal EReal EReal _ (x0 y)
      (root (fun k => x0 (ix2 (⟨(y 0).val, (y 0).isLt⟩ : Fin 512) k) * x0 (ix2 (⟨(y 0).val, (y 0).isLt⟩ : Fin 512) k))))
      (x1 (ix2 (0 : Fin 1) (⟨(y 1).val, (y 1).isLt⟩ : Fin 2048))) := by
  unfold root
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem blk0 (t : Fin cfg0.N) (i : S512x2048.Idx) : iblk m c 0 t i = m ((c : Thread nD τ).loc main_arg0)
    (ix2 (⟨512 * t.val + (i 0).val, by have : (i 0).val < 512 := (i 0).isLt; have : t.val < 4 := t.isLt; omega⟩ : Fin 2048) (⟨(i 1).val, by have : (i 1).val < 2048 := (i 1).isLt; omega⟩ : Fin 2048)) := by
  blk_point [iblk, V, idx t]

theorem blk1 (t : Fin cfg0.N) (i : S1x2048.Idx) : iblk m c 1 t i = m ((c : Thread nD τ).loc main_arg1)
    i := by
  have h0 : (i 0).val < 1 := (i 0).isLt
  blk_point [iblk, V, idx t]

theorem arr0 : (dats m 0 c).arrAt 2 cfg0.N = fun i : S2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 512 := (y 0).isLt
  have h1 : (y 1).val < 2048 := (y 1).isLt
  have ht : t.val < 4 := t.isLt
  blk_simp
  rw [after0_2]
  have e : ∀ W : S2048x2048.Idx → EReal, W ((win0_2.blk t).view.emb y) = W (ix2 (⟨512 * t.val + (y 0).val, by omega⟩ : Fin 2048) (⟨(y 1).val, by omega⟩ : Fin 2048)) := fun W => by
    blk_ext [idx t]
  rw [e (G _ _)]
  unfold out0_2
  rw [View.canon_unit_zero (by decide), View.ld_unit_zero (by decide), View.ld_unit_zero (by decide)]
  refine ((pay _ _) y).trans ?_
  simp only [blk0, blk1, G]
  rfl

end Cert.RmsFwdIdeal.Gen

namespace Cert.RmsFwdRefIdeal.Read

open RmsFwdRefIdeal RmsFwdRefIdeal.Gen Idealize.ShloMosaic Idealize.ShloMosaic.TcCoe Idealize.ShloMosaic.StableHlo

theorem value (x0 : S2048x2048.Idx → EReal) (x1 : S1x2048.Idx → EReal) (i : S2048x2048.Idx) :
    val_main_v12 (F := Ideal) x0 x1 i = RmsFwdIdeal.Gen.G x0 x1 i := by
  have hc : val_main_cst (F := Ideal) (Shape.Idx.first h_S_) = (0 : EReal) := by
    rw [val_main_cst_apply]
    simp
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply, hc, zero_add,
    val_main_cst_0_apply, val_main_cst_1_apply]
  simp only [val_main_v0_apply]
  unfold RmsFwdIdeal.Gen.G RmsFwdIdeal.Gen.root
  refine congr_arg₂ (fun a b => x0 i * Ideal.rsqrt (Ideal.div a _ + _) * x1 b) (Finset.sum_congr rfl fun k _ => ?_) ?_
  · have e : ∀ p : S2048x2048.Idx, p = ix2 (⟨(i 0).val, (i 0).isLt⟩ : Fin 2048) k → x0 p * x0 p = x0 (ix2 (⟨(i 0).val, (i 0).isLt⟩ : Fin 2048) k) * x0 (ix2 (⟨(i 0).val, (i 0).isLt⟩ : Fin 2048) k) := fun p h => by rw [h]
    exact e _ (funext fun a => Fin.ext (by
      match a with
      | ⟨0, _⟩ => rfl
      | ⟨1, _⟩ => rfl))
  · exact funext fun a => Fin.ext (by
      match a with
      | ⟨0, _⟩ => rfl
      | ⟨1, _⟩ => rfl)

end Cert.RmsFwdRefIdeal.Read

namespace Cert.RmsFwdRun

open Idealize.ShloMosaic Idealize.ShloMosaic.TcCoe

theorem algebraic : @Cert.algebraic_RmsFwdIdeal_RmsFwdRefIdeal RmsFwdIdeal.Gen.facts RmsFwdRefIdeal.Gen.facts := by
  intro m g m' g' _ hag
  refine ⟨fun c => fun i : RmsFwdIdeal.S2048x2048.Idx => RmsFwdIdeal.Gen.G (m ((c.tc : Thread _ _).loc RmsFwdIdeal.main_arg0)) (m ((c.tc : Thread _ _).loc RmsFwdIdeal.main_arg1)) i, ?_, ?_⟩
  · refine (θ_run _ _ _).mono (fun r hr c => ?_) (RmsFwdIdeal.Value.run_blocks m g)
    obtain ⟨a0, ha⟩ := hr c
    exact ⟨a0.trans (RmsFwdIdeal.Gen.arr0 m c), ha⟩
  · refine (θ_run _ _ _).mono (fun r hr c => ?_) (RmsFwdRefIdeal.Value.run m' g')
    obtain ⟨e0, e1⟩ := hag c
    obtain ⟨a0, ha⟩ := hr c
    refine ⟨a0.trans ?_, ha⟩
    rw [RmsFwdRefIdeal.Read.val_main_v12_eq, e0, e1]
    exact funext fun i => RmsFwdRefIdeal.Read.value _ _ i

end Cert.RmsFwdRun

end
-- ==== Proof.AdamInRun.lean ====
/- The gradient summed over the four chips and the optimiser's step on it: kernel and reference end with the same four arrays. -/
module

public import proofs.«01_k».proof.Defs
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AdamInIdeal.Gen

open AdamInIdeal

/-- The gradient: the sum over the four chips. -/
def G (p : S4x1x2048x1024.Idx → EReal) (i : S1x2048x1024.Idx) : EReal :=
  ∑ j : Fin 4, p (ix4 j (⟨(i 0).val, (i 0).isLt⟩ : Fin 1) (⟨(i 1).val, (i 1).isLt⟩ : Fin 2048) (⟨(i 2).val, (i 2).isLt⟩ : Fin 1024))

/-- The first moment's new value. -/
def M (g m : S1x2048x1024.Idx → EReal) (i : S1x2048x1024.Idx) : EReal :=
  Ideal.ofBits .f32 0x3F666666#32 * m i + Ideal.ofBits .f32 0x3DCCCCCD#32 * g i

/-- The second moment's new value. -/
def U (g v : S1x2048x1024.Idx → EReal) (i : S1x2048x1024.Idx) : EReal :=
  Ideal.ofBits .f32 0x3F7FBE77#32 * v i + Ideal.ofBits .f32 0x3A83126F#32 * (g i * g i)

/-- The step: minus the rate times the ratio of the corrected moments plus the decay. -/
def W (w g m v : S1x2048x1024.Idx → EReal) (i : S1x2048x1024.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

/-- The same from the chips' parts. -/
def Mp (m : S1x2048x1024.Idx → EReal) (p : S4x1x2048x1024.Idx → EReal) : S1x2048x1024.Idx → EReal := M (G p) m

/-- The same from the chips' parts. -/
def Up (v : S1x2048x1024.Idx → EReal) (p : S4x1x2048x1024.Idx → EReal) : S1x2048x1024.Idx → EReal := U (G p) v

/-- The same from the chips' parts. -/
def Wp (w m v : S1x2048x1024.Idx → EReal) (p : S4x1x2048x1024.Idx → EReal) : S1x2048x1024.Idx → EReal := W w (G p) m v

/-- The sum of the four chips' blocks. -/
def gb (p0 p1 p2 p3 : Vec Ideal S1x1x256x1024 .bf16) (y : S1x256x1024.Idx) : EReal :=
  @HAdd.hAdd EReal EReal EReal _ (@HAdd.hAdd EReal EReal EReal _ (@HAdd.hAdd EReal EReal EReal _ (p0 (ix4 (0 : Fin 1) (0 : Fin 1) (⟨(y 1).val, (y 1).isLt⟩ : Fin 256) (⟨(y 2).val, (y 2).isLt⟩ : Fin 1024))) (p1 (ix4 (0 : Fin 1) (0 : Fin 1) (⟨(y 1).val, (y 1).isLt⟩ : Fin 256) (⟨(y 2).val, (y 2).isLt⟩ : Fin 1024)))) (p2 (ix4 (0 : Fin 1) (0 : Fin 1) (⟨(y 1).val, (y 1).isLt⟩ : Fin 256) (⟨(y 2).val, (y 2).isLt⟩ : Fin 1024)))) (p3 (ix4 (0 : Fin 1) (0 : Fin 1) (⟨(y 1).val, (y 1).isLt⟩ : Fin 256) (⟨(y 2).val, (y 2).isLt⟩ : Fin 1024)))

theorem payG (p0 p1 p2 p3 : Vec Ideal S1x1x256x1024 .bf16) (y : S1x256x1024.Idx) : k0_pay2 (k0_pay6 p0 p1 p2 p3) y = gb p0 p1 p2 p3 y := by
  have h0 : (y 0).val < 1 := (y 0).isLt
  unfold gb
  pointwise [k0_pay2, k0_pay6]

theorem payM (p0 p1 p2 p3 : Vec Ideal S1x1x256x1024 .bf16) (x : Vec Ideal S1x256x1024 .f32) (y : S1x256x1024.Idx) : k0_pay4 (k0_pay8 p0 p1 p2 p3 x) y
    = @HAdd.hAdd EReal EReal EReal _ (@HMul.hMul EReal EReal EReal _ (Ideal.ofBits .f32 0x3F666666#32) (x y)) (@HMul.hMul EReal EReal EReal _ (Ideal.ofBits .f32 0x3DCCCCCD#32) (gb p0 p1 p2 p3 y)) := by
  have h0 : (y 0).val < 1 := (y 0).isLt
  unfold gb
  pointwise [k0_pay4, k0_pay8, k0_pay6]

theorem payU (p0 p1 p2 p3 : Vec Ideal S1x1x256x1024 .bf16) (x : Vec Ideal S1x256x1024 .f32) (y : S1x256x1024.Idx) :
    k0_pay5 (k0_pay9 x) (k0_pay10 p0 p1 p2 p3) (Scalar.ofBits .f32 0x3A83126F#32) y
    = @HAdd.hAdd EReal EReal EReal _ (@HMul.hMul EReal EReal EReal _ (Ideal.ofBits .f32 0x3F7FBE77#32) (x y)) (@HMul.hMul EReal EReal EReal _ (Ideal.ofBits .f32 0x3A83126F#32) (@HMul.hMul EReal EReal EReal _ (gb p0 p1 p2 p3 y) (gb p0 p1 p2 p3 y))) := by
  have h0 : (y 0).val < 1 := (y 0).isLt
  unfold gb
  pointwise [k0_pay5, k0_pay1, k0_pay9, k0_pay10, k0_pay6]

theorem payW (w m v : Vec Ideal S1x256x1024 .f32) (p0 p1 p2 p3 : Vec Ideal S1x1x256x1024 .bf16) (y : S1x256x1024.Idx) :
    k0_pay3 (k0_pay7 w) (k0_pay8 p0 p1 p2 p3 m) (k0_pay9 v) (k0_pay10 p0 p1 p2 p3) (Scalar.ofBits .f32 0x3A83126F#32) y
    = @HMul.hMul EReal EReal EReal _ (Ideal.ofBits .f32 0xBA83126F#32) (@HAdd.hAdd EReal EReal EReal _ (Ideal.div (Ideal.div (k0_pay4 (k0_pay8 p0 p1 p2 p3 m) y) (Ideal.ofBits .f32 0x3F26BD02#32)) (@HAdd.hAdd EReal EReal EReal _ (Ideal.sqrt (Ideal.div (k0_pay5 (k0_pay9 v) (k0_pay10 p0 p1 p2 p3) (Scalar.ofBits .f32 0x3A83126F#32) y) (Ideal.ofBits .f32 0x3C231ACC#32))) (Ideal.ofBits .f32 0x322BCC77#32))) (@HMul.hMul EReal EReal EReal _ (Ideal.ofBits .f32 0x3C23D70A#32) (w y))) := by
  have h0 : (y 0).val < 1 := (y 0).isLt
  rw [payM, payU]
  unfold gb
  pointwise [k0_pay3, k0_pay7, k0_pay1, k0_pay8, k0_pay9, k0_pay10, k0_pay6]

theorem piece0 (x : Vec Ideal S4x1x256x1024 .bf16) (a b : Fin 1) (p : Fin 256) (q : Fin 1024) :
    View.ld x r0_0 (ix4 a b p q) = x (ix4 (⟨0, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece1 (x : Vec Ideal S4x1x256x1024 .bf16) (a b : Fin 1) (p : Fin 256) (q : Fin 1024) :
    View.ld x r0_1 (ix4 a b p q) = x (ix4 (⟨1, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece2 (x : Vec Ideal S4x1x256x1024 .bf16) (a b : Fin 1) (p : Fin 256) (q : Fin 1024) :
    View.ld x r0_2 (ix4 a b p q) = x (ix4 (⟨2, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece3 (x : Vec Ideal S4x1x256x1024 .bf16) (a b : Fin 1) (p : Fin 256) (q : Fin 1024) :
    View.ld x r0_3 (ix4 a b p q) = x (ix4 (⟨3, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem idx : ∀ t : Fin cfg0.N, win0_0.index t = ![0, t.val, 0] ∧ win0_1.index t = ![0, t.val, 0] ∧ win0_2.index t = ![0, t.val, 0] ∧ win0_3.index t = ![0, 0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

theorem blk0 (t : Fin cfg0.N) (i : S1x256x1024.Idx) : iblk m c 0 t i = m ((c : Thread nD τ).loc main_arg0)
    (ix3 (0 : Fin 1) (⟨256 * t.val + (i 1).val, by have : (i 1).val < 256 := (i 1).isLt; have : t.val < 8 := t.isLt; omega⟩ : Fin 2048) (⟨(i 2).val, by have : (i 2).val < 1024 := (i 2).isLt; omega⟩ : Fin 1024)) := by
  have h0 : (i 0).val < 1 := (i 0).isLt
  blk_point [iblk, V, idx t]

theorem blk1 (t : Fin cfg0.N) (i : S1x256x1024.Idx) : iblk m c 1 t i = m ((c : Thread nD τ).loc main_arg1)
    (ix3 (0 : Fin 1) (⟨256 * t.val + (i 1).val, by have : (i 1).val < 256 := (i 1).isLt; have : t.val < 8 := t.isLt; omega⟩ : Fin 2048) (⟨(i 2).val, by have : (i 2).val < 1024 := (i 2).isLt; omega⟩ : Fin 1024)) := by
  have h0 : (i 0).val < 1 := (i 0).isLt
  blk_point [iblk, V, idx t]

theorem blk2 (t : Fin cfg0.N) (i : S1x256x1024.Idx) : iblk m c 2 t i = m ((c : Thread nD τ).loc main_arg2)
    (ix3 (0 : Fin 1) (⟨256 * t.val + (i 1).val, by have : (i 1).val < 256 := (i 1).isLt; have : t.val < 8 := t.isLt; omega⟩ : Fin 2048) (⟨(i 2).val, by have : (i 2).val < 1024 := (i 2).isLt; omega⟩ : Fin 1024)) := by
  have h0 : (i 0).val < 1 := (i 0).isLt
  blk_point [iblk, V, idx t]

theorem blk3 (t : Fin cfg0.N) (i : S4x1x256x1024.Idx) : iblk m c 3 t i = m ((c : Thread nD τ).loc main_arg3)
    (ix4 (⟨(i 0).val, by have : (i 0).val < 4 := (i 0).isLt; omega⟩ : Fin 4) (0 : Fin 1) (⟨256 * t.val + (i 2).val, by have : (i 2).val < 256 := (i 2).isLt; have : t.val < 8 := t.isLt; omega⟩ : Fin 2048) (⟨(i 3).val, by have : (i 3).val < 1024 := (i 3).isLt; omega⟩ : Fin 1024)) := by
  have h1 : (i 1).val < 1 := (i 1).isLt
  blk_point [iblk, V, idx t]

theorem gbAt (t : Fin cfg0.N) (y : S1x256x1024.Idx) : gb (View.ld (iblk m c 3 t) r0_0) (View.ld (iblk m c 3 t) r0_1) (View.ld (iblk m c 3 t) r0_2) (View.ld (iblk m c 3 t) r0_3) y
    = G (m ((c : Thread nD τ).loc main_arg3)) (ix3 (0 : Fin 1) (⟨256 * t.val + (y 1).val, by have : (y 1).val < 256 := (y 1).isLt; have : t.val < 8 := t.isLt; omega⟩ : Fin 2048) (⟨(y 2).val, (y 2).isLt⟩ : Fin 1024)) := by
  unfold gb
  rw [piece0, piece1, piece2, piece3]
  simp only [blk3, G]
  rw [Fin.sum_univ_four]
  rfl

theorem arr0 : (dats m 0 c).arrAt 4 cfg0.N = fun i : S1x2048x1024.Idx => G (m ((c : Thread nD τ).loc main_arg3)) i := by
  refine (dats m 0 c).arrAt_eq_of_covers 4 _ (by decide +kernel) fun t hf y => ?_
  have h0 : (y 0).val < 1 := (y 0).isLt
  have h1 : (y 1).val < 256 := (y 1).isLt
  have h2 : (y 2).val < 1024 := (y 2).isLt
  have ht : t.val < 8 := t.isLt
  blk_simp
  rw [after0_4]
  have e : ∀ W : S1x2048x1024.Idx → EReal, W ((win0_4.blk t).view.emb y) = W (ix3 (0 : Fin 1) (⟨256 * t.val + (y 1).val, by have : (y 1).val < 256 := (y 1).isLt; have : t.val < 8 := t.isLt; omega⟩ : Fin 2048) (⟨(y 2).val, (y 2).isLt⟩ : Fin 1024)) := fun W => by
    blk_ext [idx t]
  rw [e (G _)]
  unfold out0_4
  rw [View.canon_unit_zero (by decide)]
  exact (payG _ _ _ _ y).trans (gbAt m c t y)
theorem mAt (t : Fin cfg0.N) (y : S1x256x1024.Idx) : k0_pay4 (k0_pay8 (View.ld (iblk m c 3 t) r0_0) (View.ld (iblk m c 3 t) r0_1) (View.ld (iblk m c 3 t) r0_2) (View.ld (iblk m c 3 t) r0_3) (iblk m c 1 t)) y
    = Mp (m ((c : Thread nD τ).loc main_arg1)) (m ((c : Thread nD τ).loc main_arg3)) (ix3 (0 : Fin 1) (⟨256 * t.val + (y 1).val, by have : (y 1).val < 256 := (y 1).isLt; have : t.val < 8 := t.isLt; omega⟩ : Fin 2048) (⟨(y 2).val, (y 2).isLt⟩ : Fin 1024)) := by
  refine (payM _ _ _ _ _ y).trans ?_
  rw [gbAt, blk1]
  rfl

theorem uAt (t : Fin cfg0.N) (y : S1x256x1024.Idx) :
    k0_pay5 (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Up (m ((c : Thread nD τ).loc main_arg2)) (m ((c : Thread nD τ).loc main_arg3)) (ix3 (0 : Fin 1) (⟨256 * t.val + (y 1).val, by have : (y 1).val < 256 := (y 1).isLt; have : t.val < 8 := t.isLt; omega⟩ : Fin 2048) (⟨(y 2).val, (y 2).isLt⟩ : Fin 1024)) := by
  refine (payU _ _ _ _ _ y).trans ?_
  rw [gbAt, blk2]
  rfl

theorem wAt (t : Fin cfg0.N) (y : S1x256x1024.Idx) :
    k0_pay3 (k0_pay7 (iblk m c 0 t)) (k0_pay8 (View.ld (iblk m c 3 t) r0_0) (View.ld (iblk m c 3 t) r0_1) (View.ld (iblk m c 3 t) r0_2) (View.ld (iblk m c 3 t) r0_3) (iblk m c 1 t)) (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Wp (m ((c : Thread nD τ).loc main_arg0)) (m ((c : Thread nD τ).loc main_arg1)) (m ((c : Thread nD τ).loc main_arg2)) (m ((c : Thread nD τ).loc main_arg3)) (ix3 (0 : Fin 1) (⟨256 * t.val + (y 1).val, by have : (y 1).val < 256 := (y 1).isLt; have : t.val < 8 := t.isLt; omega⟩ : Fin 2048) (⟨(y 2).val, (y 2).isLt⟩ : Fin 1024)) := by
  refine (payW _ _ _ _ _ _ _ y).trans ?_
  rw [mAt, uAt, blk0]
  rfl

theorem arr1 : (dats m 0 c).arrAt 5 cfg0.N = fun i : S1x2048x1024.Idx => Wp (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  have h0 : (y 0).val < 1 := (y 0).isLt
  have h1 : (y 1).val < 256 := (y 1).isLt
  have h2 : (y 2).val < 1024 := (y 2).isLt
  have ht : t.val < 8 := t.isLt
  blk_simp
  rw [after0_5]
  have e : ∀ W : S1x2048x1024.Idx → EReal, W ((win0_5.blk t).view.emb y) = W (ix3 (0 : Fin 1) (⟨256 * t.val + (y 1).val, by have : (y 1).val < 256 := (y 1).isLt; have : t.val < 8 := t.isLt; omega⟩ : Fin 2048) (⟨(y 2).val, (y 2).isLt⟩ : Fin 1024)) := fun W => by
    blk_ext [idx t]
  rw [e (Wp _ _ _ _)]
  unfold out0_5
  rw [View.canon_unit_zero (by decide)]
  simp only [k0_pay11, k0_pay12, k0_pay13]
  rw [View.ld_unit_zero (by decide), View.ld_unit_zero (by decide), View.ld_unit_zero (by decide)]
  exact wAt m c t y
theorem arr2 : (dats m 0 c).arrAt 6 cfg0.N = fun i : S1x2048x1024.Idx => Mp (m ((c : Thread nD τ).loc main_arg1)) (m ((c : Thread nD τ).loc main_arg3)) i := by
  refine (dats m 0 c).arrAt_eq_of_covers 6 _ (by decide +kernel) fun t hf y => ?_
  have h0 : (y 0).val < 1 := (y 0).isLt
  have h1 : (y 1).val < 256 := (y 1).isLt
  have h2 : (y 2).val < 1024 := (y 2).isLt
  have ht : t.val < 8 := t.isLt
  blk_simp
  rw [after0_6]
  have e : ∀ W : S1x2048x1024.Idx → EReal, W ((win0_6.blk t).view.emb y) = W (ix3 (0 : Fin 1) (⟨256 * t.val + (y 1).val, by have : (y 1).val < 256 := (y 1).isLt; have : t.val < 8 := t.isLt; omega⟩ : Fin 2048) (⟨(y 2).val, (y 2).isLt⟩ : Fin 1024)) := fun W => by
    blk_ext [idx t]
  rw [e (Mp _ _)]
  unfold out0_6
  rw [View.canon_unit_zero (by decide)]
  simp only [k0_pay11]
  rw [View.ld_unit_zero (by decide)]
  exact mAt m c t y
theorem arr3 : (dats m 0 c).arrAt 7 cfg0.N = fun i : S1x2048x1024.Idx => Up (m ((c : Thread nD τ).loc main_arg2)) (m ((c : Thread nD τ).loc main_arg3)) i := by
  refine (dats m 0 c).arrAt_eq_of_covers 7 _ (by decide +kernel) fun t hf y => ?_
  have h0 : (y 0).val < 1 := (y 0).isLt
  have h1 : (y 1).val < 256 := (y 1).isLt
  have h2 : (y 2).val < 1024 := (y 2).isLt
  have ht : t.val < 8 := t.isLt
  blk_simp
  rw [after0_7]
  have e : ∀ W : S1x2048x1024.Idx → EReal, W ((win0_7.blk t).view.emb y) = W (ix3 (0 : Fin 1) (⟨256 * t.val + (y 1).val, by have : (y 1).val < 256 := (y 1).isLt; have : t.val < 8 := t.isLt; omega⟩ : Fin 2048) (⟨(y 2).val, (y 2).isLt⟩ : Fin 1024)) := fun W => by
    blk_ext [idx t]
  rw [e (Up _ _)]
  unfold out0_7
  rw [View.canon_unit_zero (by decide)]
  simp only [k0_pay12, k0_pay13]
  rw [View.ld_unit_zero (by decide)]
  exact uAt m c t y
end Cert.AdamInIdeal.Gen

namespace Cert.AdamInRefIdeal.Read

open AdamInRefIdeal AdamInRefIdeal.Gen Idealize.ShloMosaic Idealize.ShloMosaic.TcCoe Idealize.ShloMosaic.StableHlo

theorem valueG (x3 : S4x1x2048x1024.Idx → EReal) (i : S1x2048x1024.Idx) : val_main_v1 (F := Ideal) x3 i = AdamInIdeal.Gen.G x3 i := by
  have hc : val_main_cst (F := Ideal) (Shape.Idx.first h_S_) = (0 : EReal) := by
    rw [val_main_cst_apply]
    simp
  rw [val_main_v1_apply, hc, zero_add]
  unfold AdamInIdeal.Gen.G
  refine Finset.sum_congr rfl fun d _ => ?_
  rw [val_main_v0_apply]
  show x3 _ = x3 _
  exact congr_arg x3 (funext fun a => Fin.ext (by
    match a with
    | ⟨0, _⟩ => rfl
    | ⟨1, _⟩ => rfl
    | ⟨2, _⟩ => rfl
    | ⟨3, _⟩ => rfl))

theorem gradient (x3 : S4x1x2048x1024.Idx → EReal) : val_main_v1 (F := Ideal) x3 = AdamInIdeal.Gen.G x3 := funext (valueG x3)

theorem valueM (x1 : S1x2048x1024.Idx → EReal) (x3 : S4x1x2048x1024.Idx → EReal) (i : S1x2048x1024.Idx) :
    val_main_v6 (F := Ideal) x1 x3 i = AdamInIdeal.Gen.Mp x1 x3 i := by
  unfold AdamInIdeal.Gen.Mp
  rw [← gradient]
  rfl

theorem valueU (x2 : S1x2048x1024.Idx → EReal) (x3 : S4x1x2048x1024.Idx → EReal) (i : S1x2048x1024.Idx) :
    val_main_v12 (F := Ideal) x2 x3 i = AdamInIdeal.Gen.Up x2 x3 i := by
  unfold AdamInIdeal.Gen.Up
  rw [← gradient]
  rfl

theorem valueW (x0 x1 x2 : S1x2048x1024.Idx → EReal) (x3 : S4x1x2048x1024.Idx → EReal) (i : S1x2048x1024.Idx) :
    val_main_v25 (F := Ideal) x0 x1 x2 x3 i = AdamInIdeal.Gen.Wp x0 x1 x2 x3 i := by
  unfold AdamInIdeal.Gen.Wp
  rw [← gradient]
  rfl

end Cert.AdamInRefIdeal.Read

namespace Cert.AdamInRun

open Idealize.ShloMosaic Idealize.ShloMosaic.TcCoe
open AdamInIdeal AdamInIdeal.Gen

theorem algebraic : @Cert.algebraic_AdamInIdeal_AdamInRefIdeal AdamInIdeal.Gen.facts AdamInRefIdeal.Gen.facts := by
  intro m g m' g' _ hag
  refine ⟨fun c => fun i : S1x2048x1024.Idx => G (m ((c.tc : Thread _ _).loc main_arg3)) i, fun c => fun i : S1x2048x1024.Idx => Wp (m ((c.tc : Thread _ _).loc main_arg0)) (m ((c.tc : Thread _ _).loc main_arg1)) (m ((c.tc : Thread _ _).loc main_arg2)) (m ((c.tc : Thread _ _).loc main_arg3)) i, fun c => fun i : S1x2048x1024.Idx => Mp (m ((c.tc : Thread _ _).loc main_arg1)) (m ((c.tc : Thread _ _).loc main_arg3)) i, fun c => fun i : S1x2048x1024.Idx => Up (m ((c.tc : Thread _ _).loc main_arg2)) (m ((c.tc : Thread _ _).loc main_arg3)) i, ?_, ?_⟩
  · refine (θ_run _ _ _).mono (fun r hr c => ?_) (AdamInIdeal.Value.run_blocks m g)
    obtain ⟨a0, a1, a2, a3, ha⟩ := hr c
    exact ⟨a0.trans (arr0 m c), a1.trans (arr1 m c), a2.trans (arr2 m c), a3.trans (arr3 m c), ha⟩
  · refine (θ_run _ _ _).mono (fun r hr c => ?_) (AdamInRefIdeal.Value.run m' g')
    obtain ⟨e0, e1, e2, e3⟩ := hag c
    obtain ⟨a0, a1, a2, a3, ha⟩ := hr c
    refine ⟨a0.trans ?_, a1.trans ?_, a2.trans ?_, a3.trans ?_, ha⟩
    · rw [AdamInRefIdeal.Read.val_main_v1_eq, e3]
      exact funext fun i => AdamInRefIdeal.Read.valueG _ i
    · rw [AdamInRefIdeal.Read.val_main_v25_eq, e0, e1, e2, e3]
      exact funext fun i => AdamInRefIdeal.Read.valueW _ _ _ _ i
    · rw [AdamInRefIdeal.Read.val_main_v6_eq, e1, e3]
      exact funext fun i => AdamInRefIdeal.Read.valueM _ _ i
    · rw [AdamInRefIdeal.Read.val_main_v12_eq, e2, e3]
      exact funext fun i => AdamInRefIdeal.Read.valueU _ _ i

end Cert.AdamInRun

end
-- ==== Proof.AdamMlpRun.lean ====
/- The optimiser's step on one layer of two, written into the arrays that hold the other layer's results: kernel and reference end with the same four arrays. -/
module

public import proofs.«01_k».proof.Defs
public import proofs.«01_k».proof.Proof.Gen.AdamMlp.Frame
public import proofs.«01_k».proof.Proof.Gen.AdamMlpIdeal.Frame
public import proofs.«01_k».proof.Proof.Gen.AdamMlpIdeal.Value
public import proofs.«01_k».proof.Proof.Gen.AdamMlpRefIdeal.Run
public import proofs.«01_k».proof.Proof.Gen.AdamMlpRefIdeal.Read
public import Idealize.ShloMosaic.Lib.Pointwise
public import Idealize.ShloMosaic.Lib.Pipeline.ValueKit
public import Idealize.ShloMosaic.Lib.Pipeline.ValueKit.Partial
public import Idealize.ShloMosaic.Lib.Quiescent

@[expose] public section

set_option maxRecDepth 16384

open Idealize.ShloMosaic Idealize.ShloMosaic.TcCoe Idealize.SL.Sem

noncomputable section

namespace Cert.AdamMlpIdeal.Gen

open AdamMlpIdeal

/-- The gradient: the sum over the four chips. -/
def G (p : S4x1x2048x2048.Idx → EReal) (i : S2x2048x2048.Idx) : EReal :=
  ∑ j : Fin 4, p (ix4 j (0 : Fin 1) (⟨(i 1).val, (i 1).isLt⟩ : Fin 2048) (⟨(i 2).val, (i 2).isLt⟩ : Fin 2048))

/-- The first moment's new value. -/
def M (g m : S2x2048x2048.Idx → EReal) (i : S2x2048x2048.Idx) : EReal :=
  Ideal.ofBits .f32 0x3F666666#32 * m i + Ideal.ofBits .f32 0x3DCCCCCD#32 * g i

/-- The second moment's new value. -/
def U (g v : S2x2048x2048.Idx → EReal) (i : S2x2048x2048.Idx) : EReal :=
  Ideal.ofBits .f32 0x3F7FBE77#32 * v i + Ideal.ofBits .f32 0x3A83126F#32 * (g i * g i)

/-- The step: minus the rate times the ratio of the corrected moments plus the decay. -/
def W (w g m v : S2x2048x2048.Idx → EReal) (i : S2x2048x2048.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

/-- The same from the chips' parts. -/
def Mp (m : S2x2048x2048.Idx → EReal) (p : S4x1x2048x2048.Idx → EReal) : S2x2048x2048.Idx → EReal := M (G p) m

/-- The same from the chips' parts. -/
def Up (v : S2x2048x2048.Idx → EReal) (p : S4x1x2048x2048.Idx → EReal) : S2x2048x2048.Idx → EReal := U (G p) v

/-- The same from the chips' parts. -/
def Wp (w m v : S2x2048x2048.Idx → EReal) (p : S4x1x2048x2048.Idx → EReal) : S2x2048x2048.Idx → EReal := W w (G p) m v

/-- An array whose layer 0 is taken from `new` and whose layer 1 is taken from `old`. -/
def put (new old : S2x2048x2048.Idx → EReal) (i : S2x2048x2048.Idx) : EReal := if (i 0).val / 1 = 0 then new i else old i

/-- The sum of the four chips' blocks. -/
def gb (p0 p1 p2 p3 : Vec Ideal S1x1x256x2048 .bf16) (y : S1x256x2048.Idx) : EReal :=
  @HAdd.hAdd EReal EReal EReal _ (@HAdd.hAdd EReal EReal EReal _ (@HAdd.hAdd EReal EReal EReal _ (p0 (ix4 (0 : Fin 1) (0 : Fin 1) (⟨(y 1).val, (y 1).isLt⟩ : Fin 256) (⟨(y 2).val, (y 2).isLt⟩ : Fin 2048))) (p1 (ix4 (0 : Fin 1) (0 : Fin 1) (⟨(y 1).val, (y 1).isLt⟩ : Fin 256) (⟨(y 2).val, (y 2).isLt⟩ : Fin 2048)))) (p2 (ix4 (0 : Fin 1) (0 : Fin 1) (⟨(y 1).val, (y 1).isLt⟩ : Fin 256) (⟨(y 2).val, (y 2).isLt⟩ : Fin 2048)))) (p3 (ix4 (0 : Fin 1) (0 : Fin 1) (⟨(y 1).val, (y 1).isLt⟩ : Fin 256) (⟨(y 2).val, (y 2).isLt⟩ : Fin 2048)))

theorem payG (p0 p1 p2 p3 : Vec Ideal S1x1x256x2048 .bf16) (y : S1x256x2048.Idx) : k0_pay2 (k0_pay6 p0 p1 p2 p3) y = gb p0 p1 p2 p3 y := by
  have h0 : (y 0).val < 1 := (y 0).isLt
  unfold gb
  pointwise [k0_pay2, k0_pay6]

theorem payM (p0 p1 p2 p3 : Vec Ideal S1x1x256x2048 .bf16) (x : Vec Ideal S1x256x2048 .f32) (y : S1x256x2048.Idx) : k0_pay4 (k0_pay8 p0 p1 p2 p3 x) y
    = @HAdd.hAdd EReal EReal EReal _ (@HMul.hMul EReal EReal EReal _ (Ideal.ofBits .f32 0x3F666666#32) (x y)) (@HMul.hMul EReal EReal EReal _ (Ideal.ofBits .f32 0x3DCCCCCD#32) (gb p0 p1 p2 p3 y)) := by
  have h0 : (y 0).val < 1 := (y 0).isLt
  unfold gb
  pointwise [k0_pay4, k0_pay8, k0_pay6]

theorem payU (p0 p1 p2 p3 : Vec Ideal S1x1x256x2048 .bf16) (x : Vec Ideal S1x256x2048 .f32) (y : S1x256x2048.Idx) :
    k0_pay5 (k0_pay9 x) (k0_pay10 p0 p1 p2 p3) (Scalar.ofBits .f32 0x3A83126F#32) y
    = @HAdd.hAdd EReal EReal EReal _ (@HMul.hMul EReal EReal EReal _ (Ideal.ofBits .f32 0x3F7FBE77#32) (x y)) (@HMul.hMul EReal EReal EReal _ (Ideal.ofBits .f32 0x3A83126F#32) (@HMul.hMul EReal EReal EReal _ (gb p0 p1 p2 p3 y) (gb p0 p1 p2 p3 y))) := by
  have h0 : (y 0).val < 1 := (y 0).isLt
  unfold gb
  pointwise [k0_pay5, k0_pay1, k0_pay9, k0_pay10, k0_pay6]

theorem payW (w m v : Vec Ideal S1x256x2048 .f32) (p0 p1 p2 p3 : Vec Ideal S1x1x256x2048 .bf16) (y : S1x256x2048.Idx) :
    k0_pay3 (k0_pay7 w) (k0_pay8 p0 p1 p2 p3 m) (k0_pay9 v) (k0_pay10 p0 p1 p2 p3) (Scalar.ofBits .f32 0x3A83126F#32) y
    = @HMul.hMul EReal EReal EReal _ (Ideal.ofBits .f32 0xBA83126F#32) (@HAdd.hAdd EReal EReal EReal _ (Ideal.div (Ideal.div (k0_pay4 (k0_pay8 p0 p1 p2 p3 m) y) (Ideal.ofBits .f32 0x3F26BD02#32)) (@HAdd.hAdd EReal EReal EReal _ (Ideal.sqrt (Ideal.div (k0_pay5 (k0_pay9 v) (k0_pay10 p0 p1 p2 p3) (Scalar.ofBits .f32 0x3A83126F#32) y) (Ideal.ofBits .f32 0x3C231ACC#32))) (Ideal.ofBits .f32 0x322BCC77#32))) (@HMul.hMul EReal EReal EReal _ (Ideal.ofBits .f32 0x3C23D70A#32) (w y))) := by
  have h0 : (y 0).val < 1 := (y 0).isLt
  rw [payM, payU]
  unfold gb
  pointwise [k0_pay3, k0_pay7, k0_pay1, k0_pay8, k0_pay9, k0_pay10, k0_pay6]

/-- The block of chip 0's part. -/
abbrev r0_0 : Rect S4x1x256x2048 := Rect.unit (s := S4x1x256x2048) ![0, 0, 0, 0] S1x1x256x2048.size inb_S4x1x256x2048_S1x1x256x2048_0_0_0_0

/-- The block of chip 1's part. -/
abbrev r0_1 : Rect S4x1x256x2048 := Rect.unit (s := S4x1x256x2048) ![1, 0, 0, 0] S1x1x256x2048.size inb_S4x1x256x2048_S1x1x256x2048_1_0_0_0

/-- The block of chip 2's part. -/
abbrev r0_2 : Rect S4x1x256x2048 := Rect.unit (s := S4x1x256x2048) ![2, 0, 0, 0] S1x1x256x2048.size inb_S4x1x256x2048_S1x1x256x2048_2_0_0_0

/-- The block of chip 3's part. -/
abbrev r0_3 : Rect S4x1x256x2048 := Rect.unit (s := S4x1x256x2048) ![3, 0, 0, 0] S1x1x256x2048.size inb_S4x1x256x2048_S1x1x256x2048_3_0_0_0

theorem piece0 (x : Vec Ideal S4x1x256x2048 .bf16) (a b : Fin 1) (p : Fin 256) (q : Fin 2048) :
    View.ld x r0_0 (ix4 a b p q) = x (ix4 (⟨0, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece1 (x : Vec Ideal S4x1x256x2048 .bf16) (a b : Fin 1) (p : Fin 256) (q : Fin 2048) :
    View.ld x r0_1 (ix4 a b p q) = x (ix4 (⟨1, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece2 (x : Vec Ideal S4x1x256x2048 .bf16) (a b : Fin 1) (p : Fin 256) (q : Fin 2048) :
    View.ld x r0_2 (ix4 a b p q) = x (ix4 (⟨2, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece3 (x : Vec Ideal S4x1x256x2048 .bf16) (a b : Fin 1) (p : Fin 256) (q : Fin 2048) :
    View.ld x r0_3 (ix4 a b p q) = x (ix4 (⟨3, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem idx : ∀ t : Fin cfg0.N, win0_0.index t = ![0, t.val, 0] ∧ win0_1.index t = ![0, t.val, 0] ∧ win0_2.index t = ![0, t.val, 0] ∧ win0_3.index t = ![0, 0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

theorem blk0 (t : Fin cfg0.N) (i : S1x256x2048.Idx) : iblk m c 0 t i = m ((c : Thread nD τ).loc main_arg0)
    (ix3 (0 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  have e : iblk m c 0 t = ((cfg0.win 0).blk t).view.read (Elt Ideal) (m ((c : Thread nD τ).loc main_arg0)) :=
    congrArg (((cfg0.win 0).blk t).view.read (Elt Ideal)) (V_main_arg0 m c)
  rw [e]
  blk_point [idx t]

theorem blk1 (t : Fin cfg0.N) (i : S1x256x2048.Idx) : iblk m c 1 t i = m ((c : Thread nD τ).loc main_arg1)
    (ix3 (0 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  have e : iblk m c 1 t = ((cfg0.win 1).blk t).view.read (Elt Ideal) (m ((c : Thread nD τ).loc main_arg1)) :=
    congrArg (((cfg0.win 1).blk t).view.read (Elt Ideal)) (V_main_arg1 m c)
  rw [e]
  blk_point [idx t]

theorem blk2 (t : Fin cfg0.N) (i : S1x256x2048.Idx) : iblk m c 2 t i = m ((c : Thread nD τ).loc main_arg2)
    (ix3 (0 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  have e : iblk m c 2 t = ((cfg0.win 2).blk t).view.read (Elt Ideal) (m ((c : Thread nD τ).loc main_arg2)) :=
    congrArg (((cfg0.win 2).blk t).view.read (Elt Ideal)) (V_main_arg2 m c)
  rw [e]
  blk_point [idx t]

theorem blk3 (t : Fin cfg0.N) (i : S4x1x256x2048.Idx) : iblk m c 3 t i = m ((c : Thread nD τ).loc main_arg3)
    (ix4 (⟨(i 0).val, by have : (i 0).val < 4 := (i 0).isLt; omega⟩ : Fin 4) (0 : Fin 1) (⟨256 * t.val + (i 2).val, by have : (i 2).val < 256 := (i 2).isLt; have : t.val < 8 := t.isLt; omega⟩ : Fin 2048) (⟨(i 3).val, by have : (i 3).val < 2048 := (i 3).isLt; omega⟩ : Fin 2048)) := by
  have h1 : (i 1).val < 1 := (i 1).isLt
  have e : iblk m c 3 t = ((cfg0.win 3).blk t).view.read (Elt Ideal) (m ((c : Thread nD τ).loc main_arg3)) :=
    congrArg (((cfg0.win 3).blk t).view.read (Elt Ideal)) (V_main_arg3 m c)
  rw [e]
  blk_point [idx t]

theorem gbAt (t : Fin cfg0.N) (y : S1x256x2048.Idx) : gb (View.ld (iblk m c 3 t) r0_0) (View.ld (iblk m c 3 t) r0_1) (View.ld (iblk m c 3 t) r0_2) (View.ld (iblk m c 3 t) r0_3) y
    = G (m ((c : Thread nD τ).loc main_arg3)) (ix3 (0 : Fin 2) (⟨256 * t.val + (y 1).val, by have : (y 1).val < 256 := (y 1).isLt; have : t.val < 8 := t.isLt; omega⟩ : Fin 2048) (⟨(y 2).val, (y 2).isLt⟩ : Fin 2048)) := by
  unfold gb
  rw [piece0, piece1, piece2, piece3]
  simp only [blk3, G]
  rw [Fin.sum_univ_four]
  rfl

theorem mAt (t : Fin cfg0.N) (y : S1x256x2048.Idx) : k0_pay4 (k0_pay8 (View.ld (iblk m c 3 t) r0_0) (View.ld (iblk m c 3 t) r0_1) (View.ld (iblk m c 3 t) r0_2) (View.ld (iblk m c 3 t) r0_3) (iblk m c 1 t)) y
    = Mp (m ((c : Thread nD τ).loc main_arg1)) (m ((c : Thread nD τ).loc main_arg3)) (ix3 (0 : Fin 2) (⟨256 * t.val + (y 1).val, by have : (y 1).val < 256 := (y 1).isLt; have : t.val < 8 := t.isLt; omega⟩ : Fin 2048) (⟨(y 2).val, (y 2).isLt⟩ : Fin 2048)) := by
  refine (payM _ _ _ _ _ y).trans ?_
  rw [gbAt, blk1]
  rfl

theorem uAt (t : Fin cfg0.N) (y : S1x256x2048.Idx) :
    k0_pay5 (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Up (m ((c : Thread nD τ).loc main_arg2)) (m ((c : Thread nD τ).loc main_arg3)) (ix3 (0 : Fin 2) (⟨256 * t.val + (y 1).val, by have : (y 1).val < 256 := (y 1).isLt; have : t.val < 8 := t.isLt; omega⟩ : Fin 2048) (⟨(y 2).val, (y 2).isLt⟩ : Fin 2048)) := by
  refine (payU _ _ _ _ _ y).trans ?_
  rw [gbAt, blk2]
  rfl

theorem wAt (t : Fin cfg0.N) (y : S1x256x2048.Idx) :
    k0_pay3 (k0_pay7 (iblk m c 0 t)) (k0_pay8 (View.ld (iblk m c 3 t) r0_0) (View.ld (iblk m c 3 t) r0_1) (View.ld (iblk m c 3 t) r0_2) (View.ld (iblk m c 3 t) r0_3) (iblk m c 1 t)) (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Wp (m ((c : Thread nD τ).loc main_arg0)) (m ((c : Thread nD τ).loc main_arg1)) (m ((c : Thread nD τ).loc main_arg2)) (m ((c : Thread nD τ).loc main_arg3)) (ix3 (0 : Fin 2) (⟨256 * t.val + (y 1).val, by have : (y 1).val < 256 := (y 1).isLt; have : t.val < 8 := t.isLt; omega⟩ : Fin 2048) (⟨(y 2).val, (y 2).isLt⟩ : Fin 2048)) := by
  refine (payW _ _ _ _ _ _ _ y).trans ?_
  rw [mAt, uAt, blk0]
  rfl

theorem entry0 : V m c main_v0_0 = m ((c : Thread nD τ).loc main_arg4) := by
  unfold_abbrev_sides
  after_results
  rfl

theorem arr0 : (dats m 0 c).arrAt 4 cfg0.N = fun i : S2x2048x2048.Idx => put (G (m ((c : Thread nD τ).loc main_arg3))) (m ((c : Thread nD τ).loc main_arg4)) i := by
  have key : (dats m 0 c).arrAt 4 cfg0.N = fun i : S2x2048x2048.Idx => if (i 0).val / 1 = 0 then G (m ((c : Thread nD τ).loc main_arg3)) i else (dats m 0 c).A 4 i := by
    refine (dats m 0 c).arrAt_eq_of_coversWhere 4 _ (fun β => β (0 : Fin 3) = 0) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_4]
    have e : ∀ W : S2x2048x2048.Idx → EReal, W ((win0_4.blk t).view.emb y) = W (ix3 (0 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (G _)]
    unfold outsAt0
    frame_out
    exact (payG _ _ _ _ y).trans (gbAt m c t y)
  refine key.trans (funext fun i => ?_)
  unfold put
  rw [A_eq]
  exact if_congr Iff.rfl rfl (congrFun (entry0 m c) i)

theorem entry1 : V m c main_v0_1 = m ((c : Thread nD τ).loc main_arg5) := by
  unfold_abbrev_sides
  after_results
  rfl

theorem arr1 : (dats m 0 c).arrAt 5 cfg0.N = fun i : S2x2048x2048.Idx => put (Wp (m ((c : Thread nD τ).loc main_arg0)) (m ((c : Thread nD τ).loc main_arg1)) (m ((c : Thread nD τ).loc main_arg2)) (m ((c : Thread nD τ).loc main_arg3))) (m ((c : Thread nD τ).loc main_arg5)) i := by
  have key : (dats m 0 c).arrAt 5 cfg0.N = fun i : S2x2048x2048.Idx => if (i 0).val / 1 = 0 then Wp (m ((c : Thread nD τ).loc main_arg0)) (m ((c : Thread nD τ).loc main_arg1)) (m ((c : Thread nD τ).loc main_arg2)) (m ((c : Thread nD τ).loc main_arg3)) i else (dats m 0 c).A 5 i := by
    refine (dats m 0 c).arrAt_eq_of_coversWhere 5 _ (fun β => β (0 : Fin 3) = 0) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_5]
    have e : ∀ W : S2x2048x2048.Idx → EReal, W ((win0_5.blk t).view.emb y) = W (ix3 (0 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Wp _ _ _ _)]
    unfold outsAt0
    frame_out
    exact wAt m c t y
  refine key.trans (funext fun i => ?_)
  unfold put
  rw [A_eq]
  exact if_congr Iff.rfl rfl (congrFun (entry1 m c) i)

theorem entry2 : V m c main_v0_2 = m ((c : Thread nD τ).loc main_arg6) := by
  unfold_abbrev_sides
  after_results
  rfl

theorem arr2 : (dats m 0 c).arrAt 6 cfg0.N = fun i : S2x2048x2048.Idx => put (Mp (m ((c : Thread nD τ).loc main_arg1)) (m ((c : Thread nD τ).loc main_arg3))) (m ((c : Thread nD τ).loc main_arg6)) i := by
  have key : (dats m 0 c).arrAt 6 cfg0.N = fun i : S2x2048x2048.Idx => if (i 0).val / 1 = 0 then Mp (m ((c : Thread nD τ).loc main_arg1)) (m ((c : Thread nD τ).loc main_arg3)) i else (dats m 0 c).A 6 i := by
    refine (dats m 0 c).arrAt_eq_of_coversWhere 6 _ (fun β => β (0 : Fin 3) = 0) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_6]
    have e : ∀ W : S2x2048x2048.Idx → EReal, W ((win0_6.blk t).view.emb y) = W (ix3 (0 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Mp _ _)]
    unfold outsAt0
    frame_out
    exact mAt m c t y
  refine key.trans (funext fun i => ?_)
  unfold put
  rw [A_eq]
  exact if_congr Iff.rfl rfl (congrFun (entry2 m c) i)

theorem entry3 : V m c main_v0_3 = m ((c : Thread nD τ).loc main_arg7) := by
  unfold_abbrev_sides
  after_results
  rfl

theorem arr3 : (dats m 0 c).arrAt 7 cfg0.N = fun i : S2x2048x2048.Idx => put (Up (m ((c : Thread nD τ).loc main_arg2)) (m ((c : Thread nD τ).loc main_arg3))) (m ((c : Thread nD τ).loc main_arg7)) i := by
  have key : (dats m 0 c).arrAt 7 cfg0.N = fun i : S2x2048x2048.Idx => if (i 0).val / 1 = 0 then Up (m ((c : Thread nD τ).loc main_arg2)) (m ((c : Thread nD τ).loc main_arg3)) i else (dats m 0 c).A 7 i := by
    refine (dats m 0 c).arrAt_eq_of_coversWhere 7 _ (fun β => β (0 : Fin 3) = 0) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_7]
    have e : ∀ W : S2x2048x2048.Idx → EReal, W ((win0_7.blk t).view.emb y) = W (ix3 (0 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Up _ _)]
    unfold outsAt0
    frame_out
    exact uAt m c t y
  refine key.trans (funext fun i => ?_)
  unfold put
  rw [A_eq]
  exact if_congr Iff.rfl rfl (congrFun (entry3 m c) i)

end Cert.AdamMlpIdeal.Gen

namespace Cert.AdamMlpRefIdeal.Read

open AdamMlpRefIdeal AdamMlpRefIdeal.Gen Idealize.ShloMosaic Idealize.ShloMosaic.TcCoe Idealize.ShloMosaic.StableHlo

/-- The layer of a one-layer array at an index of the two-layer one. -/
def at0 (i : S2x2048x2048.Idx) : S1x2048x2048.Idx := ix3 (0 : Fin 1) (⟨(i 1).val, (i 1).isLt⟩ : Fin 2048) (⟨(i 2).val, (i 2).isLt⟩ : Fin 2048)

/-- Two layers one after the other. -/
theorem pair (x y : S1x2048x2048.Idx → EReal) (h : Shape.Concatenates [S1x2048x2048, S1x2048x2048] S2x2048x2048 0) (i : S2x2048x2048.Idx) :
    concatenate S2x2048x2048 0 [⟨S1x2048x2048, x⟩, ⟨S1x2048x2048, y⟩] h i = if (i 0).val / 1 = 0 then x (at0 i) else y (at0 i) := by
  have h0 : (i 0).val < 2 := (i 0).isLt
  by_cases hlt : (i 0).val < 1
  · rw [if_pos (by omega)]
    exact concatenate_pair_apply_left (s₁ := S1x2048x2048) (s₂ := S1x2048x2048) 0 _ _ _ i rfl (at0 i)
      (fun b => match b with | ⟨0, _⟩ => by show 0 = (i 0).val; omega | ⟨1, _⟩ => rfl | ⟨2, _⟩ => rfl)
  · rw [if_neg (by omega)]
    exact concatenate_pair_apply_right (s₁ := S1x2048x2048) (s₂ := S1x2048x2048) 0 _ _ _ i rfl rfl (at0 i)
      (fun b hb => match b, hb with | ⟨0, _⟩, hb => absurd rfl hb | ⟨1, _⟩, _ => rfl | ⟨2, _⟩, _ => rfl)
      (by show 0 + 1 = (i 0).val; omega)

theorem layer (x : S2x2048x2048.Idx → EReal) (i : S2x2048x2048.Idx) (h : (i 0).val / 1 = 0)
    (j : S2x2048x2048.Idx) (h0 : (j 0).val = 0) (h1 : (j 1).val = (i 1).val) (h2 : (j 2).val = (i 2).val) : x j = x i :=
  congrArg x (funext fun a => Fin.ext (by
    match a with
    | ⟨0, _⟩ => show (j 0).val = (i 0).val; omega
    | ⟨1, _⟩ => exact h1
    | ⟨2, _⟩ => exact h2))

theorem other (x : S2x2048x2048.Idx → EReal) (i : S2x2048x2048.Idx) (h : ¬(i 0).val / 1 = 0)
    (j : S2x2048x2048.Idx) (h0 : (j 0).val = 1) (h1 : (j 1).val = (i 1).val) (h2 : (j 2).val = (i 2).val) : x j = x i :=
  congrArg x (funext fun a => Fin.ext (by
    have : (i 0).val < 2 := (i 0).isLt
    match a with
    | ⟨0, _⟩ => show (j 0).val = (i 0).val; omega
    | ⟨1, _⟩ => exact h1
    | ⟨2, _⟩ => exact h2))

theorem gradient (x3 : S4x1x2048x2048.Idx → EReal) (i : S2x2048x2048.Idx) : val_main_v4 (F := Ideal) x3 (at0 i) = AdamMlpIdeal.Gen.G x3 i := by
  have hc : val_main_cst (F := Ideal) (Shape.Idx.first h_S_) = (0 : EReal) := by
    rw [val_main_cst_apply]
    simp
  rw [val_main_v4_apply, hc, zero_add]
  unfold AdamMlpIdeal.Gen.G
  refine Finset.sum_congr rfl fun d _ => ?_
  rw [val_main_v3_apply]
  show x3 _ = x3 _
  exact congr_arg x3 (funext fun a => Fin.ext (by
    match a with
    | ⟨0, _⟩ => rfl
    | ⟨1, _⟩ => rfl
    | ⟨2, _⟩ => rfl
    | ⟨3, _⟩ => rfl))

theorem first0 (x : S2x2048x2048.Idx → EReal) (i : S2x2048x2048.Idx) (h : (i 0).val / 1 = 0) : val_main_v0 (F := Ideal) x (at0 i) = x i := by
  rw [val_main_v0_apply]
  exact layer x i h _ rfl rfl rfl

theorem first1 (x : S2x2048x2048.Idx → EReal) (i : S2x2048x2048.Idx) (h : (i 0).val / 1 = 0) : val_main_v1 (F := Ideal) x (at0 i) = x i := by
  rw [val_main_v1_apply]
  exact layer x i h _ rfl rfl rfl

theorem first2 (x : S2x2048x2048.Idx → EReal) (i : S2x2048x2048.Idx) (h : (i 0).val / 1 = 0) : val_main_v2 (F := Ideal) x (at0 i) = x i := by
  rw [val_main_v2_apply]
  exact layer x i h _ rfl rfl rfl

theorem moment (x1 : S2x2048x2048.Idx → EReal) (x3 : S4x1x2048x2048.Idx → EReal) (i : S2x2048x2048.Idx) (h : (i 0).val / 1 = 0) :
    val_main_v9 (F := Ideal) x1 x3 (at0 i) = AdamMlpIdeal.Gen.Mp x1 x3 i := by
  unfold AdamMlpIdeal.Gen.Mp AdamMlpIdeal.Gen.M
  rw [← gradient, ← first1 x1 i h]
  rfl

theorem square (x2 : S2x2048x2048.Idx → EReal) (x3 : S4x1x2048x2048.Idx → EReal) (i : S2x2048x2048.Idx) (h : (i 0).val / 1 = 0) :
    val_main_v15 (F := Ideal) x2 x3 (at0 i) = AdamMlpIdeal.Gen.Up x2 x3 i := by
  unfold AdamMlpIdeal.Gen.Up AdamMlpIdeal.Gen.U
  rw [← gradient, ← first2 x2 i h]
  rfl

theorem change (x0 x1 x2 : S2x2048x2048.Idx → EReal) (x3 : S4x1x2048x2048.Idx → EReal) (i : S2x2048x2048.Idx) (h : (i 0).val / 1 = 0) :
    val_main_v28 (F := Ideal) x0 x1 x2 x3 (at0 i) = AdamMlpIdeal.Gen.Wp x0 x1 x2 x3 i := by
  have em := moment x1 x3 i h
  have eu := square x2 x3 i h
  unfold AdamMlpIdeal.Gen.Mp at em
  unfold AdamMlpIdeal.Gen.Up at eu
  unfold AdamMlpIdeal.Gen.Wp AdamMlpIdeal.Gen.W
  rw [← em, ← eu, ← first0 x0 i h]
  rfl

theorem valueG (x4 : S2x2048x2048.Idx → EReal) (x3 : S4x1x2048x2048.Idx → EReal) (i : S2x2048x2048.Idx) :
    val_main_v30 (F := Ideal) x3 x4 i = AdamMlpIdeal.Gen.put (AdamMlpIdeal.Gen.G x3) x4 i := by
  unfold val_main_v30 AdamMlpIdeal.Gen.put
  refine (pair _ _ _ i).trans ?_
  by_cases h : (i 0).val / 1 = 0
  · rw [if_pos h, if_pos h]
    exact gradient x3 i
  · rw [if_neg h, if_neg h, val_main_v29_apply]
    exact other x4 i h _ rfl rfl rfl

theorem valueW (x0 x1 x2 x5 : S2x2048x2048.Idx → EReal) (x3 : S4x1x2048x2048.Idx → EReal) (i : S2x2048x2048.Idx) :
    val_main_v32 (F := Ideal) x0 x1 x2 x3 x5 i = AdamMlpIdeal.Gen.put (AdamMlpIdeal.Gen.Wp x0 x1 x2 x3) x5 i := by
  unfold val_main_v32 AdamMlpIdeal.Gen.put
  refine (pair _ _ _ i).trans ?_
  by_cases h : (i 0).val / 1 = 0
  · rw [if_pos h, if_pos h]
    exact change x0 x1 x2 x3 i h
  · rw [if_neg h, if_neg h, val_main_v31_apply]
    exact other x5 i h _ rfl rfl rfl

theorem valueM (x1 x6 : S2x2048x2048.Idx → EReal) (x3 : S4x1x2048x2048.Idx → EReal) (i : S2x2048x2048.Idx) :
    val_main_v34 (F := Ideal) x1 x3 x6 i = AdamMlpIdeal.Gen.put (AdamMlpIdeal.Gen.Mp x1 x3) x6 i := by
  unfold val_main_v34 AdamMlpIdeal.Gen.put
  refine (pair _ _ _ i).trans ?_
  by_cases h : (i 0).val / 1 = 0
  · rw [if_pos h, if_pos h]
    exact moment x1 x3 i h
  · rw [if_neg h, if_neg h, val_main_v33_apply]
    exact other x6 i h _ rfl rfl rfl

theorem valueU (x2 x7 : S2x2048x2048.Idx → EReal) (x3 : S4x1x2048x2048.Idx → EReal) (i : S2x2048x2048.Idx) :
    val_main_v36 (F := Ideal) x2 x3 x7 i = AdamMlpIdeal.Gen.put (AdamMlpIdeal.Gen.Up x2 x3) x7 i := by
  unfold val_main_v36 AdamMlpIdeal.Gen.put
  refine (pair _ _ _ i).trans ?_
  by_cases h : (i 0).val / 1 = 0
  · rw [if_pos h, if_pos h]
    exact square x2 x3 i h
  · rw [if_neg h, if_neg h, val_main_v35_apply]
    exact other x7 i h _ rfl rfl rfl

end Cert.AdamMlpRefIdeal.Read

namespace Cert.AdamMlpRun

open Idealize.ShloMosaic Idealize.ShloMosaic.TcCoe
open AdamMlpIdeal AdamMlpIdeal.Gen

theorem algebraic : @Cert.algebraic_AdamMlpIdeal_AdamMlpRefIdeal AdamMlpIdeal.Gen.facts AdamMlpRefIdeal.Gen.facts := by
  intro m g m' g' _ hag
  refine ⟨fun c => fun i : S2x2048x2048.Idx => put (G (m ((c.tc : Thread _ _).loc main_arg3))) (m ((c.tc : Thread _ _).loc main_arg4)) i, fun c => fun i : S2x2048x2048.Idx => put (Wp (m ((c.tc : Thread _ _).loc main_arg0)) (m ((c.tc : Thread _ _).loc main_arg1)) (m ((c.tc : Thread _ _).loc main_arg2)) (m ((c.tc : Thread _ _).loc main_arg3))) (m ((c.tc : Thread _ _).loc main_arg5)) i, fun c => fun i : S2x2048x2048.Idx => put (Mp (m ((c.tc : Thread _ _).loc main_arg1)) (m ((c.tc : Thread _ _).loc main_arg3))) (m ((c.tc : Thread _ _).loc main_arg6)) i, fun c => fun i : S2x2048x2048.Idx => put (Up (m ((c.tc : Thread _ _).loc main_arg2)) (m ((c.tc : Thread _ _).loc main_arg3))) (m ((c.tc : Thread _ _).loc main_arg7)) i, ?_, ?_⟩
  · refine (θ_run _ _ _).mono (fun r hr c => ?_) (AdamMlpIdeal.Value.run_blocks m g)
    obtain ⟨a0, a1, a2, a3, ha⟩ := hr c
    exact ⟨a0.trans (arr0 m c), a1.trans (arr1 m c), a2.trans (arr2 m c), a3.trans (arr3 m c), ha⟩
  · refine (θ_run _ _ _).mono (fun r hr c => ?_) (AdamMlpRefIdeal.Value.run m' g')
    obtain ⟨e0, e1, e2, e3, e4, e5, e6, e7⟩ := hag c
    obtain ⟨a0, a1, a2, a3, ha⟩ := hr c
    refine ⟨a0.trans ?_, a1.trans ?_, a2.trans ?_, a3.trans ?_, ha⟩
    · rw [AdamMlpRefIdeal.Read.val_main_v30_eq, e3, e4]
      exact funext fun i => AdamMlpRefIdeal.Read.valueG _ _ i
    · rw [AdamMlpRefIdeal.Read.val_main_v32_eq, e0, e1, e2, e3, e5]
      exact funext fun i => AdamMlpRefIdeal.Read.valueW _ _ _ _ _ i
    · rw [AdamMlpRefIdeal.Read.val_main_v34_eq, e1, e3, e6]
      exact funext fun i => AdamMlpRefIdeal.Read.valueM _ _ _ i
    · rw [AdamMlpRefIdeal.Read.val_main_v36_eq, e2, e3, e7]
      exact funext fun i => AdamMlpRefIdeal.Read.valueU _ _ _ i

end Cert.AdamMlpRun

end
-- ==== Proof.AdamMlp1Run.lean ====
/- The optimiser's step on layer 1 of two: kernel and reference end with the same four arrays. -/
module

public import proofs.«01_k».proof.Defs
public import proofs.«01_k».proof.Proof.Gen.AdamMlp1.Frame
public import proofs.«01_k».proof.Proof.Gen.AdamMlp1Ideal.Frame
public import proofs.«01_k».proof.Proof.Gen.AdamMlp1RefIdeal.Run
public import proofs.«01_k».proof.Proof.Gen.AdamMlp1RefIdeal.Read
public import Idealize.ShloMosaic.Lib.Pointwise
public import Idealize.ShloMosaic.Lib.Pipeline.ValueKit
public import Idealize.ShloMosaic.Lib.Pipeline.ValueKit.Partial
public import Idealize.ShloMosaic.Lib.Quiescent

@[expose] public section

set_option maxRecDepth 16384

open Idealize.ShloMosaic Idealize.ShloMosaic.TcCoe Idealize.SL.Sem

noncomputable section

namespace Cert.AdamMlp1Ideal.Gen

open AdamMlp1Ideal

/-- The gradient: the sum over the four chips. -/
def G (p : S4x1x2048x2048.Idx → EReal) (i : S2x2048x2048.Idx) : EReal :=
  ∑ j : Fin 4, p (ix4 j (0 : Fin 1) (⟨(i 1).val, (i 1).isLt⟩ : Fin 2048) (⟨(i 2).val, (i 2).isLt⟩ : Fin 2048))

/-- The first moment's new value. -/
def M (g m : S2x2048x2048.Idx → EReal) (i : S2x2048x2048.Idx) : EReal :=
  Ideal.ofBits .f32 0x3F666666#32 * m i + Ideal.ofBits .f32 0x3DCCCCCD#32 * g i

/-- The second moment's new value. -/
def U (g v : S2x2048x2048.Idx → EReal) (i : S2x2048x2048.Idx) : EReal :=
  Ideal.ofBits .f32 0x3F7FBE77#32 * v i + Ideal.ofBits .f32 0x3A83126F#32 * (g i * g i)

/-- The step: minus the rate times the ratio of the corrected moments plus the decay. -/
def W (w g m v : S2x2048x2048.Idx → EReal) (i : S2x2048x2048.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

/-- The same from the chips' parts. -/
def Mp (m : S2x2048x2048.Idx → EReal) (p : S4x1x2048x2048.Idx → EReal) : S2x2048x2048.Idx → EReal := M (G p) m

/-- The same from the chips' parts. -/
def Up (v : S2x2048x2048.Idx → EReal) (p : S4x1x2048x2048.Idx → EReal) : S2x2048x2048.Idx → EReal := U (G p) v

/-- The same from the chips' parts. -/
def Wp (w m v : S2x2048x2048.Idx → EReal) (p : S4x1x2048x2048.Idx → EReal) : S2x2048x2048.Idx → EReal := W w (G p) m v

/-- The sum of the four chips' blocks. -/
def gb (p0 p1 p2 p3 : Vec Ideal S1x1x256x2048 .bf16) (y : S1x256x2048.Idx) : EReal :=
  @HAdd.hAdd EReal EReal EReal _ (@HAdd.hAdd EReal EReal EReal _ (@HAdd.hAdd EReal EReal EReal _ (p0 (ix4 (0 : Fin 1) (0 : Fin 1) (⟨(y 1).val, (y 1).isLt⟩ : Fin 256) (⟨(y 2).val, (y 2).isLt⟩ : Fin 2048))) (p1 (ix4 (0 : Fin 1) (0 : Fin 1) (⟨(y 1).val, (y 1).isLt⟩ : Fin 256) (⟨(y 2).val, (y 2).isLt⟩ : Fin 2048)))) (p2 (ix4 (0 : Fin 1) (0 : Fin 1) (⟨(y 1).val, (y 1).isLt⟩ : Fin 256) (⟨(y 2).val, (y 2).isLt⟩ : Fin 2048)))) (p3 (ix4 (0 : Fin 1) (0 : Fin 1) (⟨(y 1).val, (y 1).isLt⟩ : Fin 256) (⟨(y 2).val, (y 2).isLt⟩ : Fin 2048)))

theorem payG (p0 p1 p2 p3 : Vec Ideal S1x1x256x2048 .bf16) (y : S1x256x2048.Idx) : k0_pay2 (k0_pay6 p0 p1 p2 p3) y = gb p0 p1 p2 p3 y := by
  have h0 : (y 0).val < 1 := (y 0).isLt
  unfold gb
  pointwise [k0_pay2, k0_pay6]

theorem payM (p0 p1 p2 p3 : Vec Ideal S1x1x256x2048 .bf16) (x : Vec Ideal S1x256x2048 .f32) (y : S1x256x2048.Idx) : k0_pay4 (k0_pay8 p0 p1 p2 p3 x) y
    = @HAdd.hAdd EReal EReal EReal _ (@HMul.hMul EReal EReal EReal _ (Ideal.ofBits .f32 0x3F666666#32) (x y)) (@HMul.hMul EReal EReal EReal _ (Ideal.ofBits .f32 0x3DCCCCCD#32) (gb p0 p1 p2 p3 y)) := by
  have h0 : (y 0).val < 1 := (y 0).isLt
  unfold gb
  pointwise [k0_pay4, k0_pay8, k0_pay6]

theorem payU (p0 p1 p2 p3 : Vec Ideal S1x1x256x2048 .bf16) (x : Vec Ideal S1x256x2048 .f32) (y : S1x256x2048.Idx) :
    k0_pay5 (k0_pay9 x) (k0_pay10 p0 p1 p2 p3) (Scalar.ofBits .f32 0x3A83126F#32) y
    = @HAdd.hAdd EReal EReal EReal _ (@HMul.hMul EReal EReal EReal _ (Ideal.ofBits .f32 0x3F7FBE77#32) (x y)) (@HMul.hMul EReal EReal EReal _ (Ideal.ofBits .f32 0x3A83126F#32) (@HMul.hMul EReal EReal EReal _ (gb p0 p1 p2 p3 y) (gb p0 p1 p2 p3 y))) := by
  have h0 : (y 0).val < 1 := (y 0).isLt
  unfold gb
  pointwise [k0_pay5, k0_pay1, k0_pay9, k0_pay10, k0_pay6]

theorem payW (w m v : Vec Ideal S1x256x2048 .f32) (p0 p1 p2 p3 : Vec Ideal S1x1x256x2048 .bf16) (y : S1x256x2048.Idx) :
    k0_pay3 (k0_pay7 w) (k0_pay8 p0 p1 p2 p3 m) (k0_pay9 v) (k0_pay10 p0 p1 p2 p3) (Scalar.ofBits .f32 0x3A83126F#32) y
    = @HMul.hMul EReal EReal EReal _ (Ideal.ofBits .f32 0xBA83126F#32) (@HAdd.hAdd EReal EReal EReal _ (Ideal.div (Ideal.div (k0_pay4 (k0_pay8 p0 p1 p2 p3 m) y) (Ideal.ofBits .f32 0x3F26BD02#32)) (@HAdd.hAdd EReal EReal EReal _ (Ideal.sqrt (Ideal.div (k0_pay5 (k0_pay9 v) (k0_pay10 p0 p1 p2 p3) (Scalar.ofBits .f32 0x3A83126F#32) y) (Ideal.ofBits .f32 0x3C231ACC#32))) (Ideal.ofBits .f32 0x322BCC77#32))) (@HMul.hMul EReal EReal EReal _ (Ideal.ofBits .f32 0x3C23D70A#32) (w y))) := by
  have h0 : (y 0).val < 1 := (y 0).isLt
  rw [payM, payU]
  unfold gb
  pointwise [k0_pay3, k0_pay7, k0_pay1, k0_pay8, k0_pay9, k0_pay10, k0_pay6]

theorem piece0 (x : Vec Ideal S4x1x256x2048 .bf16) (a b : Fin 1) (p : Fin 256) (q : Fin 2048) :
    View.ld x r0_0 (ix4 a b p q) = x (ix4 (⟨0, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece1 (x : Vec Ideal S4x1x256x2048 .bf16) (a b : Fin 1) (p : Fin 256) (q : Fin 2048) :
    View.ld x r0_1 (ix4 a b p q) = x (ix4 (⟨1, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece2 (x : Vec Ideal S4x1x256x2048 .bf16) (a b : Fin 1) (p : Fin 256) (q : Fin 2048) :
    View.ld x r0_2 (ix4 a b p q) = x (ix4 (⟨2, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece3 (x : Vec Ideal S4x1x256x2048 .bf16) (a b : Fin 1) (p : Fin 256) (q : Fin 2048) :
    View.ld x r0_3 (ix4 a b p q) = x (ix4 (⟨3, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem idx : ∀ t : Fin cfg0.N, win0_0.index t = ![1, t.val, 0] ∧ win0_1.index t = ![1, t.val, 0] ∧ win0_2.index t = ![1, t.val, 0] ∧ win0_3.index t = ![0, 0, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

variable (m : (ℓ : Loc nD τ sig) → Buf (Elt Ideal) ℓ) (c : Dev nD)

theorem blk0 (t : Fin cfg0.N) (i : S1x256x2048.Idx) : iblk m c 0 t i = m ((c : Thread nD τ).loc main_arg0)
    (ix3 (1 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  blk_point [iblk, V, idx t]

theorem blk1 (t : Fin cfg0.N) (i : S1x256x2048.Idx) : iblk m c 1 t i = m ((c : Thread nD τ).loc main_arg1)
    (ix3 (1 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  blk_point [iblk, V, idx t]

theorem blk2 (t : Fin cfg0.N) (i : S1x256x2048.Idx) : iblk m c 2 t i = m ((c : Thread nD τ).loc main_arg2)
    (ix3 (1 : Fin 2) (⟨256 * t.val + (i 1).val, by have : (i 1).val < 256 := (i 1).isLt; have : t.val < 8 := t.isLt; omega⟩ : Fin 2048) (⟨(i 2).val, by have : (i 2).val < 2048 := (i 2).isLt; omega⟩ : Fin 2048)) := by
  have h0 : (i 0).val < 1 := (i 0).isLt
  blk_point [iblk, V, idx t]

theorem blk3 (t : Fin cfg0.N) (i : S4x1x256x2048.Idx) : iblk m c 3 t i = m ((c : Thread nD τ).loc main_arg3)
    (ix4 (⟨(i 0).val, by have : (i 0).val < 4 := (i 0).isLt; omega⟩ : Fin 4) (0 : Fin 1) (⟨256 * t.val + (i 2).val, by have : (i 2).val < 256 := (i 2).isLt; have : t.val < 8 := t.isLt; omega⟩ : Fin 2048) (⟨(i 3).val, by have : (i 3).val < 2048 := (i 3).isLt; omega⟩ : Fin 2048)) := by
  have h1 : (i 1).val < 1 := (i 1).isLt
  blk_point [iblk, V, idx t]

theorem gbAt (t : Fin cfg0.N) (y : S1x256x2048.Idx) : gb (View.ld (iblk m c 3 t) r0_0) (View.ld (iblk m c 3 t) r0_1) (View.ld (iblk m c 3 t) r0_2) (View.ld (iblk m c 3 t) r0_3) y
    = G (m ((c : Thread nD τ).loc main_arg3)) (ix3 (1 : Fin 2) (⟨256 * t.val + (y 1).val, by have : (y 1).val < 256 := (y 1).isLt; have : t.val < 8 := t.isLt; omega⟩ : Fin 2048) (⟨(y 2).val, (y 2).isLt⟩ : Fin 2048)) := by
  unfold gb
  rw [piece0, piece1, piece2, piece3]
  simp only [blk3, G]
  rw [Fin.sum_univ_four]
  rfl

theorem mAt (t : Fin cfg0.N) (y : S1x256x2048.Idx) : k0_pay4 (k0_pay8 (View.ld (iblk m c 3 t) r0_0) (View.ld (iblk m c 3 t) r0_1) (View.ld (iblk m c 3 t) r0_2) (View.ld (iblk m c 3 t) r0_3) (iblk m c 1 t)) y
    = Mp (m ((c : Thread nD τ).loc main_arg1)) (m ((c : Thread nD τ).loc main_arg3)) (ix3 (1 : Fin 2) (⟨256 * t.val + (y 1).val, by have : (y 1).val < 256 := (y 1).isLt; have : t.val < 8 := t.isLt; omega⟩ : Fin 2048) (⟨(y 2).val, (y 2).isLt⟩ : Fin 2048)) := by
  refine (payM _ _ _ _ _ y).trans ?_
  rw [gbAt, blk1]
  rfl

theorem uAt (t : Fin cfg0.N) (y : S1x256x2048.Idx) :
    k0_pay5 (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Up (m ((c : Thread nD τ).loc main_arg2)) (m ((c : Thread nD τ).loc main_arg3)) (ix3 (1 : Fin 2) (⟨256 * t.val + (y 1).val, by have : (y 1).val < 256 := (y 1).isLt; have : t.val < 8 := t.isLt; omega⟩ : Fin 2048) (⟨(y 2).val, (y 2).isLt⟩ : Fin 2048)) := by
  refine (payU _ _ _ _ _ y).trans ?_
  rw [gbAt, blk2]
  rfl

theorem wAt (t : Fin cfg0.N) (y : S1x256x2048.Idx) :
    k0_pay3 (k0_pay7 (iblk m c 0 t)) (k0_pay8 (View.ld (iblk m c 3 t) r0_0) (View.ld (iblk m c 3 t) r0_1) (View.ld (iblk m c 3 t) r0_2) (View.ld (iblk m c 3 t) r0_3) (iblk m c 1 t)) (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Wp (m ((c : Thread nD τ).loc main_arg0)) (m ((c : Thread nD τ).loc main_arg1)) (m ((c : Thread nD τ).loc main_arg2)) (m ((c : Thread nD τ).loc main_arg3)) (ix3 (1 : Fin 2) (⟨256 * t.val + (y 1).val, by have : (y 1).val < 256 := (y 1).isLt; have : t.val < 8 := t.isLt; omega⟩ : Fin 2048) (⟨(y 2).val, (y 2).isLt⟩ : Fin 2048)) := by
  refine (payW _ _ _ _ _ _ _ y).trans ?_
  rw [mAt, uAt, blk0]
  rfl

theorem arr0 (i : S1x2048x2048.Idx) : (dats m 0 c).arrAt 4 cfg0.N (ix3 (1 : Fin 2) (⟨(i 1).val, (i 1).isLt⟩ : Fin 2048) (⟨(i 2).val, (i 2).isLt⟩ : Fin 2048)) = G (m ((c : Thread nD τ).loc main_arg3)) (ix3 (1 : Fin 2) (⟨(i 1).val, (i 1).isLt⟩ : Fin 2048) (⟨(i 2).val, (i 2).isLt⟩ : Fin 2048)) := by
  have key : (dats m 0 c).arrAt 4 cfg0.N = fun i : S2x2048x2048.Idx => if (i 0).val / 1 = 1 then G (m ((c : Thread nD τ).loc main_arg3)) i else (dats m 0 c).A 4 i := by
    refine (dats m 0 c).arrAt_eq_of_coversWhere 4 _ (fun β => β (0 : Fin 3) = 1) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_4]
    have e : ∀ W : S2x2048x2048.Idx → EReal, W ((win0_4.blk t).view.emb y) = W (ix3 (1 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (G _)]
    unfold out0_4
    rw [View.canon_unit_zero (by decide)]
    exact (payG _ _ _ _ y).trans (gbAt m c t y)
  rw [key]
  beta_reduce
  exact if_pos ((Nat.div_one _).trans rfl)

theorem arr1 (i : S1x2048x2048.Idx) : (dats m 0 c).arrAt 5 cfg0.N (ix3 (1 : Fin 2) (⟨(i 1).val, (i 1).isLt⟩ : Fin 2048) (⟨(i 2).val, (i 2).isLt⟩ : Fin 2048)) = Wp (m ((c : Thread nD τ).loc main_arg0)) (m ((c : Thread nD τ).loc main_arg1)) (m ((c : Thread nD τ).loc main_arg2)) (m ((c : Thread nD τ).loc main_arg3)) (ix3 (1 : Fin 2) (⟨(i 1).val, (i 1).isLt⟩ : Fin 2048) (⟨(i 2).val, (i 2).isLt⟩ : Fin 2048)) := by
  have key : (dats m 0 c).arrAt 5 cfg0.N = fun i : S2x2048x2048.Idx => if (i 0).val / 1 = 1 then Wp (m ((c : Thread nD τ).loc main_arg0)) (m ((c : Thread nD τ).loc main_arg1)) (m ((c : Thread nD τ).loc main_arg2)) (m ((c : Thread nD τ).loc main_arg3)) i else (dats m 0 c).A 5 i := by
    refine (dats m 0 c).arrAt_eq_of_coversWhere 5 _ (fun β => β (0 : Fin 3) = 1) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_5]
    have e : ∀ W : S2x2048x2048.Idx → EReal, W ((win0_5.blk t).view.emb y) = W (ix3 (1 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Wp _ _ _ _)]
    unfold out0_5
    rw [View.canon_unit_zero (by decide)]
    simp only [k0_pay11, k0_pay12, k0_pay13]
    rw [View.ld_unit_zero (by decide), View.ld_unit_zero (by decide), View.ld_unit_zero (by decide)]
    exact wAt m c t y
  rw [key]
  beta_reduce
  exact if_pos ((Nat.div_one _).trans rfl)

theorem arr2 (i : S1x2048x2048.Idx) : (dats m 0 c).arrAt 6 cfg0.N (ix3 (1 : Fin 2) (⟨(i 1).val, (i 1).isLt⟩ : Fin 2048) (⟨(i 2).val, (i 2).isLt⟩ : Fin 2048)) = Mp (m ((c : Thread nD τ).loc main_arg1)) (m ((c : Thread nD τ).loc main_arg3)) (ix3 (1 : Fin 2) (⟨(i 1).val, (i 1).isLt⟩ : Fin 2048) (⟨(i 2).val, (i 2).isLt⟩ : Fin 2048)) := by
  have key : (dats m 0 c).arrAt 6 cfg0.N = fun i : S2x2048x2048.Idx => if (i 0).val / 1 = 1 then Mp (m ((c : Thread nD τ).loc main_arg1)) (m ((c : Thread nD τ).loc main_arg3)) i else (dats m 0 c).A 6 i := by
    refine (dats m 0 c).arrAt_eq_of_coversWhere 6 _ (fun β => β (0 : Fin 3) = 1) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_6]
    have e : ∀ W : S2x2048x2048.Idx → EReal, W ((win0_6.blk t).view.emb y) = W (ix3 (1 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Mp _ _)]
    unfold out0_6
    rw [View.canon_unit_zero (by decide)]
    simp only [k0_pay11]
    rw [View.ld_unit_zero (by decide)]
    exact mAt m c t y
  rw [key]
  beta_reduce
  exact if_pos ((Nat.div_one _).trans rfl)

theorem arr3 (i : S1x2048x2048.Idx) : (dats m 0 c).arrAt 7 cfg0.N (ix3 (1 : Fin 2) (⟨(i 1).val, (i 1).isLt⟩ : Fin 2048) (⟨(i 2).val, (i 2).isLt⟩ : Fin 2048)) = Up (m ((c : Thread nD τ).loc main_arg2)) (m ((c : Thread nD τ).loc main_arg3)) (ix3 (1 : Fin 2) (⟨(i 1).val, (i 1).isLt⟩ : Fin 2048) (⟨(i 2).val, (i 2).isLt⟩ : Fin 2048)) := by
  have key : (dats m 0 c).arrAt 7 cfg0.N = fun i : S2x2048x2048.Idx => if (i 0).val / 1 = 1 then Up (m ((c : Thread nD τ).loc main_arg2)) (m ((c : Thread nD τ).loc main_arg3)) i else (dats m 0 c).A 7 i := by
    refine (dats m 0 c).arrAt_eq_of_coversWhere 7 _ (fun β => β (0 : Fin 3) = 1) (by decide +kernel) (fun t hf y => ?_) (fun j => Iff.rfl)
    have h0 : (y 0).val < 1 := (y 0).isLt
    have h1 : (y 1).val < 256 := (y 1).isLt
    have h2 : (y 2).val < 2048 := (y 2).isLt
    have ht : t.val < 8 := t.isLt
    blk_simp
    rw [after0_7]
    have e : ∀ W : S2x2048x2048.Idx → EReal, W ((win0_7.blk t).view.emb y) = W (ix3 (1 : Fin 2) (⟨256 * t.val + (y 1).val, by have : (y 1).val < 256 := (y 1).isLt; have : t.val < 8 := t.isLt; omega⟩ : Fin 2048) (⟨(y 2).val, (y 2).isLt⟩ : Fin 2048)) := fun W => by
      blk_ext [idx t]
    rw [e (Up _ _)]
    unfold out0_7
    rw [View.canon_unit_zero (by decide)]
    simp only [k0_pay12, k0_pay13]
    rw [View.ld_unit_zero (by decide)]
    exact uAt m c t y
  rw [key]
  beta_reduce
  exact if_pos ((Nat.div_one _).trans rfl)

/-- The rows of the first axis from 1 on, of the valuation that the call leaves. -/
theorem sliced (X : Valuation τ sig (Elt Ideal)) :
    StableHlo.after hostOps1 X (Proc.devRef .tc main_v1) = extractStridedSlice S1x2048x2048 ![1, 0, 0] (X (Proc.devRef .tc (Pipeline.arrRef spec0 4))) slices_S2x2048x2048_S1x2048x2048_1_0_0
    ∧ StableHlo.after hostOps1 X (Proc.devRef .tc main_v2) = extractStridedSlice S1x2048x2048 ![1, 0, 0] (X (Proc.devRef .tc (Pipeline.arrRef spec0 5))) slices_S2x2048x2048_S1x2048x2048_1_0_0
    ∧ StableHlo.after hostOps1 X (Proc.devRef .tc main_v3) = extractStridedSlice S1x2048x2048 ![1, 0, 0] (X (Proc.devRef .tc (Pipeline.arrRef spec0 6))) slices_S2x2048x2048_S1x2048x2048_1_0_0
    ∧ StableHlo.after hostOps1 X (Proc.devRef .tc main_v4) = extractStridedSlice S1x2048x2048 ![1, 0, 0] (X (Proc.devRef .tc (Pipeline.arrRef spec0 7))) slices_S2x2048x2048_S1x2048x2048_1_0_0 := by
  refine ⟨?_, ?_, ?_, ?_⟩ <;> after_results

theorem tails :
    Pipeline.afterTail₀ cfgs (dats m) 0 (V0 m) [hostOps1] c main_v1
      = extractStridedSlice S1x2048x2048 ![1, 0, 0] ((dats m 0 c).arrAt 4 cfg0.N) slices_S2x2048x2048_S1x2048x2048_1_0_0
    ∧ Pipeline.afterTail₀ cfgs (dats m) 0 (V0 m) [hostOps1] c main_v2
      = extractStridedSlice S1x2048x2048 ![1, 0, 0] ((dats m 0 c).arrAt 5 cfg0.N) slices_S2x2048x2048_S1x2048x2048_1_0_0
    ∧ Pipeline.afterTail₀ cfgs (dats m) 0 (V0 m) [hostOps1] c main_v3
      = extractStridedSlice S1x2048x2048 ![1, 0, 0] ((dats m 0 c).arrAt 6 cfg0.N) slices_S2x2048x2048_S1x2048x2048_1_0_0
    ∧ Pipeline.afterTail₀ cfgs (dats m) 0 (V0 m) [hostOps1] c main_v4
      = extractStridedSlice S1x2048x2048 ![1, 0, 0] ((dats m 0 c).arrAt 7 cfg0.N) slices_S2x2048x2048_S1x2048x2048_1_0_0 := by
  obtain ⟨s0, s1, s2, s3⟩ := sliced (Pipeline.withArrays spec0 c (V0 m c) fun w => (dats m 0 c).arrAt w cfg0.N)
  rw [Pipeline.withArrays_arr spec0 (by decide)] at s0 s1 s2 s3
  exact ⟨s0, s1, s2, s3⟩

end Cert.AdamMlp1Ideal.Gen

namespace Cert.AdamMlp1RefIdeal.Read

open AdamMlp1RefIdeal AdamMlp1RefIdeal.Gen Idealize.ShloMosaic Idealize.ShloMosaic.TcCoe Idealize.ShloMosaic.StableHlo

/-- A one-layer array's index in layer 1 of the two-layer one. -/
def up (i : S1x2048x2048.Idx) : S2x2048x2048.Idx := ix3 (1 : Fin 2) (⟨(i 1).val, (i 1).isLt⟩ : Fin 2048) (⟨(i 2).val, (i 2).isLt⟩ : Fin 2048)

theorem layer (x : S2x2048x2048.Idx → EReal) (i : S1x2048x2048.Idx)
    (j : S2x2048x2048.Idx) (h0 : (j 0).val = 1 + (i 0).val) (h1 : (j 1).val = (i 1).val) (h2 : (j 2).val = (i 2).val) : x j = x (up i) :=
  congrArg x (funext fun a => Fin.ext (by
    have : (i 0).val < 1 := (i 0).isLt
    match a with
    | ⟨0, _⟩ => show (j 0).val = 1; omega
    | ⟨1, _⟩ => exact h1
    | ⟨2, _⟩ => exact h2))

theorem slice (x : S2x2048x2048.Idx → EReal) (h : S2x2048x2048.Slices ![1, 0, 0] S1x2048x2048) (i : S1x2048x2048.Idx) :
    extractStridedSlice S1x2048x2048 ![1, 0, 0] x h i = x (up i) := by
  have h0 : (i 0).val < 1 := (i 0).isLt
  refine extractStridedSlice_apply _ x h i _ fun a => ?_
  match a with
  | ⟨0, _⟩ => show 1 = 1 + (i 0).val; omega
  | ⟨1, _⟩ => show (i 1).val = 0 + (i 1).val; omega
  | ⟨2, _⟩ => show (i 2).val = 0 + (i 2).val; omega

theorem gradient (x3 : S4x1x2048x2048.Idx → EReal) (i : S1x2048x2048.Idx) : val_main_v4 (F := Ideal) x3 i = AdamMlp1Ideal.Gen.G x3 (up i) := by
  have h0 : (i 0).val < 1 := (i 0).isLt
  have hc : val_main_cst (F := Ideal) (Shape.Idx.first h_S_) = (0 : EReal) := by
    rw [val_main_cst_apply]
    simp
  rw [val_main_v4_apply, hc, zero_add]
  unfold AdamMlp1Ideal.Gen.G
  refine Finset.sum_congr rfl fun d _ => ?_
  rw [val_main_v3_apply]
  show x3 _ = x3 _
  exact congr_arg x3 (funext fun a => Fin.ext (by
    match a with
    | ⟨0, _⟩ => rfl
    | ⟨1, _⟩ => show (i 0).val = 0; omega
    | ⟨2, _⟩ => rfl
    | ⟨3, _⟩ => rfl))

theorem first0 (x : S2x2048x2048.Idx → EReal) (i : S1x2048x2048.Idx) : val_main_v0 (F := Ideal) x i = x (up i) := by
  unfold val_main_v0
  exact slice x _ i

theorem first1 (x : S2x2048x2048.Idx → EReal) (i : S1x2048x2048.Idx) : val_main_v1 (F := Ideal) x i = x (up i) := by
  unfold val_main_v1
  exact slice x _ i

theorem first2 (x : S2x2048x2048.Idx → EReal) (i : S1x2048x2048.Idx) : val_main_v2 (F := Ideal) x i = x (up i) := by
  unfold val_main_v2
  exact slice x _ i

theorem moment (x1 : S2x2048x2048.Idx → EReal) (x3 : S4x1x2048x2048.Idx → EReal) (i : S1x2048x2048.Idx) :
    val_main_v9 (F := Ideal) x1 x3 i = AdamMlp1Ideal.Gen.Mp x1 x3 (up i) := by
  unfold AdamMlp1Ideal.Gen.Mp AdamMlp1Ideal.Gen.M
  rw [← gradient, ← first1 x1 i]
  rfl

theorem square (x2 : S2x2048x2048.Idx → EReal) (x3 : S4x1x2048x2048.Idx → EReal) (i : S1x2048x2048.Idx) :
    val_main_v15 (F := Ideal) x2 x3 i = AdamMlp1Ideal.Gen.Up x2 x3 (up i) := by
  unfold AdamMlp1Ideal.Gen.Up AdamMlp1Ideal.Gen.U
  rw [← gradient, ← first2 x2 i]
  rfl

theorem change (x0 x1 x2 : S2x2048x2048.Idx → EReal) (x3 : S4x1x2048x2048.Idx → EReal) (i : S1x2048x2048.Idx) :
    val_main_v28 (F := Ideal) x0 x1 x2 x3 i = AdamMlp1Ideal.Gen.Wp x0 x1 x2 x3 (up i) := by
  have em := moment x1 x3 i
  have eu := square x2 x3 i
  unfold AdamMlp1Ideal.Gen.Mp at em
  unfold AdamMlp1Ideal.Gen.Up at eu
  unfold AdamMlp1Ideal.Gen.Wp AdamMlp1Ideal.Gen.W
  rw [← em, ← eu, ← first0 x0 i]
  rfl

end Cert.AdamMlp1RefIdeal.Read

namespace Cert.AdamMlp1Run

open Idealize.ShloMosaic Idealize.ShloMosaic.TcCoe
open AdamMlp1Ideal AdamMlp1Ideal.Gen

theorem algebraic : @Cert.algebraic_AdamMlp1Ideal_AdamMlp1RefIdeal AdamMlp1Ideal.Gen.facts AdamMlp1RefIdeal.Gen.facts := by
  intro m g m' g' _ hag
  refine ⟨fun c => fun i : S1x2048x2048.Idx => G (m ((c.tc : Thread _ _).loc main_arg3)) (AdamMlp1RefIdeal.Read.up i), fun c => fun i : S1x2048x2048.Idx => Wp (m ((c.tc : Thread _ _).loc main_arg0)) (m ((c.tc : Thread _ _).loc main_arg1)) (m ((c.tc : Thread _ _).loc main_arg2)) (m ((c.tc : Thread _ _).loc main_arg3)) (AdamMlp1RefIdeal.Read.up i), fun c => fun i : S1x2048x2048.Idx => Mp (m ((c.tc : Thread _ _).loc main_arg1)) (m ((c.tc : Thread _ _).loc main_arg3)) (AdamMlp1RefIdeal.Read.up i), fun c => fun i : S1x2048x2048.Idx => Up (m ((c.tc : Thread _ _).loc main_arg2)) (m ((c.tc : Thread _ _).loc main_arg3)) (AdamMlp1RefIdeal.Read.up i), ?_, ?_⟩
  · refine (θ_run _ _ _).mono (fun r hr c => ?_) (θ_run_and (run_main m g) (unchanged m g))
    obtain ⟨t0, t1, t2, t3⟩ := tails m c
    refine ⟨?_, ?_, ?_, ?_, hr.2 c⟩
    · refine (((hr.1 c).2 main_v1 (by decide)).trans t0).trans ?_
      exact funext fun i => (AdamMlp1RefIdeal.Read.slice _ _ i).trans (arr0 m c i)
    · refine (((hr.1 c).2 main_v2 (by decide)).trans t1).trans ?_
      exact funext fun i => (AdamMlp1RefIdeal.Read.slice _ _ i).trans (arr1 m c i)
    · refine (((hr.1 c).2 main_v3 (by decide)).trans t2).trans ?_
      exact funext fun i => (AdamMlp1RefIdeal.Read.slice _ _ i).trans (arr2 m c i)
    · refine (((hr.1 c).2 main_v4 (by decide)).trans t3).trans ?_
      exact funext fun i => (AdamMlp1RefIdeal.Read.slice _ _ i).trans (arr3 m c i)
  · refine (θ_run _ _ _).mono (fun r hr c => ?_) (AdamMlp1RefIdeal.Value.run m' g')
    obtain ⟨e0, e1, e2, e3⟩ := hag c
    obtain ⟨a0, a1, a2, a3, ha⟩ := hr c
    refine ⟨a0.trans ?_, a1.trans ?_, a2.trans ?_, a3.trans ?_, ha⟩
    · rw [AdamMlp1RefIdeal.Read.val_main_v4_eq, e3]
      exact funext fun i => AdamMlp1RefIdeal.Read.gradient _ i
    · rw [AdamMlp1RefIdeal.Read.val_main_v28_eq, e0, e1, e2, e3]
      exact funext fun i => AdamMlp1RefIdeal.Read.change _ _ _ _ i
    · rw [AdamMlp1RefIdeal.Read.val_main_v9_eq, e1, e3]
      exact funext fun i => AdamMlp1RefIdeal.Read.moment _ _ i
    · rw [AdamMlp1RefIdeal.Read.val_main_v15_eq, e2, e3]
      exact funext fun i => AdamMlp1RefIdeal.Read.square _ _ i

end Cert.AdamMlp1Run

end
-- ==== Proof.AdamPackRun.lean ====
/- The optimiser's step on the small parameters, packed and unpacked: kernel and reference end with the same arrays. -/
module

public import proofs.«01_k».proof.Defs
public import proofs.«01_k».proof.Proof.Gen.AdamPack.Frame
public import proofs.«01_k».proof.Proof.Gen.AdamPackIdeal.Frame
public import proofs.«01_k».proof.Proof.Gen.AdamPackRefIdeal.Run
public import Idealize.ShloMosaic.Lib.Pointwise
public import Idealize.ShloMosaic.Lib.Pipeline.ValueKit
public import Idealize.ShloMosaic.Lib.KernelVsHost
public import Idealize.ShloMosaic.Lib.Quiescent

@[expose] public section

set_option maxRecDepth 16384

open Idealize.ShloMosaic Idealize.ShloMosaic.TcCoe Idealize.SL.Sem

noncomputable section

namespace Cert.AdamPackIdeal.Gen

open AdamPackIdeal

/-! ## The step, at any shape -/

section Step
variable {s : Shape}

/-- The first moment's new value. -/
def M (g m : s.Idx → EReal) (i : s.Idx) : EReal :=
  Ideal.ofBits .f32 0x3F666666#32 * m i + Ideal.ofBits .f32 0x3DCCCCCD#32 * g i

/-- The second moment's new value. -/
def U (g v : s.Idx → EReal) (i : s.Idx) : EReal :=
  Ideal.ofBits .f32 0x3F7FBE77#32 * v i + Ideal.ofBits .f32 0x3A83126F#32 * (g i * g i)

/-- The step: minus the rate times the ratio of the corrected moments plus the decay. -/
def W (w g m v : s.Idx → EReal) (i : s.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

end Step

theorem payM (g m : Vec Ideal S1152x128 .f32) (y : S1152x128.Idx) : k0_pay2 g m y = M (s := S1152x128) g m y := by
  simp only [k0_pay2, k0_pay1, shapeCast_id]
  rfl

theorem payU (g v : Vec Ideal S1152x128 .f32) (y : S1152x128.Idx) : k0_pay3 g v y = U (s := S1152x128) g v y := by
  simp only [k0_pay3, k0_pay1, shapeCast_id]
  rfl

theorem payW (w g m v : Vec Ideal S1152x128 .f32) (y : S1152x128.Idx) : k0_pay4 w g m v y = W (s := S1152x128) w g m v y := by
  simp only [k0_pay4, k0_pay3, k0_pay2, k0_pay1, shapeCast_id]
  rfl

/-! ## Packing and unpacking -/

/-- The value that fills up the one array that is not a whole number of rows. -/
def z : S_.Idx → EReal := sitofp (F := Ideal) .f32 (constantI S_ 32 0#32)

/-- Eight arrays in one. -/
def pack (x0 : S1x2048.Idx → EReal) (x1 : S1x2048.Idx → EReal) (x2 : S1x8x128x128.Idx → EReal) (x3 : S1x8x128.Idx → EReal) (x4 : S1x512.Idx → EReal) (x5 : S2x2048.Idx → EReal) (x6 : S2x2048.Idx → EReal) (x7 : S2048.Idx → EReal) : S1152x128.Idx → EReal :=
  concatenate S1152x128 0 [⟨S16x128, shapeCast S16x128 (shapeCast S2048 x0 shapeCasts_S1x2048_S2048) shapeCasts_S2048_S16x128⟩,
    ⟨S16x128, shapeCast S16x128 (shapeCast S2048 x1 shapeCasts_S1x2048_S2048) shapeCasts_S2048_S16x128⟩,
    ⟨S1024x128, shapeCast S1024x128 (shapeCast S131072 x2 shapeCasts_S1x8x128x128_S131072) shapeCasts_S131072_S1024x128⟩,
    ⟨S8x128, shapeCast S8x128 (shapeCast S1024 x3 shapeCasts_S1x8x128_S1024) shapeCasts_S1024_S8x128⟩,
    ⟨S8x128, shapeCast S8x128 (pad S1024 ![0] ![512] ![0] (shapeCast S512 x4 shapeCasts_S1x512_S512) z pads_S512_S1024_05120 h_S_) shapeCasts_S1024_S8x128⟩,
    ⟨S32x128, shapeCast S32x128 (shapeCast S4096 x5 shapeCasts_S2x2048_S4096) shapeCasts_S4096_S32x128⟩,
    ⟨S32x128, shapeCast S32x128 (shapeCast S4096 x6 shapeCasts_S2x2048_S4096) shapeCasts_S4096_S32x128⟩,
    ⟨S16x128, shapeCast S16x128 x7 shapeCasts_S2048_S16x128⟩] concatenates_S16x128_S16x128_S1024x128_S8x128_S8x128_S32x128_S32x128_S16x128_S1152x128_d0

def un0 (P : S1152x128.Idx → EReal) : S1x2048.Idx → EReal :=
  shapeCast S1x2048 (shapeCast S2048 (extractStridedSlice S16x128 ![0, 0] P slices_S1152x128_S16x128_0_0) shapeCasts_S16x128_S2048) shapeCasts_S2048_S1x2048

def un1 (P : S1152x128.Idx → EReal) : S1x2048.Idx → EReal :=
  shapeCast S1x2048 (shapeCast S2048 (extractStridedSlice S16x128 ![16, 0] P slices_S1152x128_S16x128_16_0) shapeCasts_S16x128_S2048) shapeCasts_S2048_S1x2048

def un2 (P : S1152x128.Idx → EReal) : S1x8x128x128.Idx → EReal :=
  shapeCast S1x8x128x128 (shapeCast S131072 (extractStridedSlice S1024x128 ![32, 0] P slices_S1152x128_S1024x128_32_0) shapeCasts_S1024x128_S131072) shapeCasts_S131072_S1x8x128x128

def un3 (P : S1152x128.Idx → EReal) : S1x8x128.Idx → EReal :=
  shapeCast S1x8x128 (shapeCast S1024 (extractStridedSlice S8x128 ![1056, 0] P slices_S1152x128_S8x128_1056_0) shapeCasts_S8x128_S1024) shapeCasts_S1024_S1x8x128

def un4 (P : S1152x128.Idx → EReal) : S1x512.Idx → EReal :=
  shapeCast S1x512 (extractStridedSlice S512 ![0] (shapeCast S1024 (extractStridedSlice S8x128 ![1064, 0] P slices_S1152x128_S8x128_1064_0) shapeCasts_S8x128_S1024) slices_S1024_S512_0) shapeCasts_S512_S1x512

def un5 (P : S1152x128.Idx → EReal) : S2x2048.Idx → EReal :=
  shapeCast S2x2048 (shapeCast S4096 (extractStridedSlice S32x128 ![1072, 0] P slices_S1152x128_S32x128_1072_0) shapeCasts_S32x128_S4096) shapeCasts_S4096_S2x2048

def un6 (P : S1152x128.Idx → EReal) : S2x2048.Idx → EReal :=
  shapeCast S2x2048 (shapeCast S4096 (extractStridedSlice S32x128 ![1104, 0] P slices_S1152x128_S32x128_1104_0) shapeCasts_S32x128_S4096) shapeCasts_S4096_S2x2048

def un7 (P : S1152x128.Idx → EReal) : S2048.Idx → EReal :=
  shapeCast S2048 (extractStridedSlice S16x128 ![1136, 0] P slices_S1152x128_S16x128_1136_0) shapeCasts_S16x128_S2048

/-- The rows of one piece of a concatenation are that piece. -/
theorem piece {n : Nat} (xs : List ((s : Shape) × (s.Idx → EReal))) (h : Shape.Concatenates (xs.map (·.1)) S1152x128 0)
    (k : Nat) (hk : k < xs.length) (x : (⟨2, ![n, 128]⟩ : Shape).Idx → EReal) (hx : xs[k] = ⟨⟨2, ![n, 128]⟩, x⟩) (pre : Nat)
    (hpre : (((xs.take k).map (·.1)).map fun s => if h : s.rank = S1152x128.rank then s.size ((0 : Fin S1152x128.rank).cast h.symm) else 0).sum = pre)
    (hs : S1152x128.Slices ![pre, 0] ⟨2, ![n, 128]⟩) :
    extractStridedSlice (⟨2, ![n, 128]⟩ : Shape) ![pre, 0] (concatenate S1152x128 0 xs h) hs = x := by
  funext i
  have hb : pre + n ≤ 1152 := hs.2 0
  have h0 : (i 0).val < n := (i 0).isLt
  have h1 : (i 1).val < 128 := (i 1).isLt
  refine (extractStridedSlice_apply _ _ hs i (ix2 (⟨pre + (i 0).val, by omega⟩ : Fin 1152) (⟨(i 1).val, h1⟩ : Fin 128)) fun a => ?_).trans
    (concatenate_apply_piece 0 xs h _ k hk _ x hx rfl pre hpre i (fun b hb => ?_) ?_)
  · match a with
    | ⟨0, _⟩ => rfl
    | ⟨1, _⟩ => show (i 1).val = 0 + (i 1).val; omega
  · match b, hb with
    | ⟨0, _⟩, hb => exact absurd rfl hb
    | ⟨1, _⟩, _ => rfl
  · rfl

/-- The first 512 of the filled-up 1024 are the 512. -/
theorem unpad (x : S512.Idx → EReal) :
    extractStridedSlice S512 ![0] (pad S1024 ![0] ![512] ![0] x z pads_S512_S1024_05120 h_S_) slices_S1024_S512_0 = x := by
  funext i
  have h0 : (i 0).val < 512 := (i 0).isLt
  refine (extractStridedSlice_apply _ _ _ i (ix1 (⟨(i 0).val, by omega⟩ : Fin 1024)) fun a => ?_).trans
    (pad_apply_of_inside _ _ _ x _ _ _ _ i fun a => ?_)
  · match a with
    | ⟨0, _⟩ => show (i 0).val = 0 + (i 0).val; omega
  · match a with
    | ⟨0, _⟩ => show (i 0).val = 0 + (i 0).val * 1; omega

section Slots
variable (x0 : S1x2048.Idx → EReal) (x1 : S1x2048.Idx → EReal) (x2 : S1x8x128x128.Idx → EReal) (x3 : S1x8x128.Idx → EReal) (x4 : S1x512.Idx → EReal) (x5 : S2x2048.Idx → EReal) (x6 : S2x2048.Idx → EReal) (x7 : S2048.Idx → EReal)

theorem slot0 : un0 (pack x0 x1 x2 x3 x4 x5 x6 x7) = x0 := by
  unfold un0 pack
  rw [piece _ _ 0 (by exact (by decide : 0 < 8)) _ rfl 0 rfl]
  simp only [shapeCast_comp, shapeCast_id]

theorem slot1 : un1 (pack x0 x1 x2 x3 x4 x5 x6 x7) = x1 := by
  unfold un1 pack
  rw [piece _ _ 1 (by exact (by decide : 1 < 8)) _ rfl 16 rfl]
  simp only [shapeCast_comp, shapeCast_id]

theorem slot2 : un2 (pack x0 x1 x2 x3 x4 x5 x6 x7) = x2 := by
  unfold un2 pack
  rw [piece _ _ 2 (by exact (by decide : 2 < 8)) _ rfl 32 rfl]
  simp only [shapeCast_comp, shapeCast_id]

theorem slot3 : un3 (pack x0 x1 x2 x3 x4 x5 x6 x7) = x3 := by
  unfold un3 pack
  rw [piece _ _ 3 (by exact (by decide : 3 < 8)) _ rfl 1056 rfl]
  simp only [shapeCast_comp, shapeCast_id]

theorem slot4 : un4 (pack x0 x1 x2 x3 x4 x5 x6 x7) = x4 := by
  unfold un4 pack
  rw [piece _ _ 4 (by exact (by decide : 4 < 8)) _ rfl 1064 rfl]
  simp only [shapeCast_comp, shapeCast_id, unpad]

theorem slot5 : un5 (pack x0 x1 x2 x3 x4 x5 x6 x7) = x5 := by
  unfold un5 pack
  rw [piece _ _ 5 (by exact (by decide : 5 < 8)) _ rfl 1072 rfl]
  simp only [shapeCast_comp, shapeCast_id]

theorem slot6 : un6 (pack x0 x1 x2 x3 x4 x5 x6 x7) = x6 := by
  unfold un6 pack
  rw [piece _ _ 6 (by exact (by decide : 6 < 8)) _ rfl 1104 rfl]
  simp only [shapeCast_comp, shapeCast_id]

theorem slot7 : un7 (pack x0 x1 x2 x3 x4 x5 x6 x7) = x7 := by
  unfold un7 pack
  rw [piece _ _ 7 (by exact (by decide : 7 < 8)) _ rfl 1136 rfl]
  simp only [shapeCast_comp, shapeCast_id]

end Slots

/-! ## What the call reads and what is read of its results -/

variable (m : (ℓ : Loc nD τ sig) → Buf (Elt Ideal) ℓ) (c : Dev nD)

/-- The packed argument 0. -/
def P0 : S1152x128.Idx → EReal := pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The packed argument 1. -/
def P1 : S1152x128.Idx → EReal := pack (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The packed argument 2. -/
def P2 : S1152x128.Idx → EReal := pack (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-- The packed argument 3. -/
def P3 : S1152x128.Idx → EReal := pack (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))

theorem packed0 : V m c main_v16 = P0 m c := by
  show StableHlo.after (List.flatten _) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem packed1 : V m c main_v33 = P1 m c := by
  show StableHlo.after (List.flatten _) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem packed2 : V m c main_v50 = P2 m c := by
  show StableHlo.after (List.flatten _) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem packed3 : V m c main_v67 = P3 m c := by
  show StableHlo.after (List.flatten _) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem unpacked (X : Valuation τ sig (Elt Ideal)) :
    StableHlo.after hostOps1 X (Proc.devRef .tc main_v71) = un0 (X (Proc.devRef .tc main_v68_0))
    ∧ StableHlo.after hostOps1 X (Proc.devRef .tc main_v74) = un1 (X (Proc.devRef .tc main_v68_0))
    ∧ StableHlo.after hostOps1 X (Proc.devRef .tc main_v77) = un2 (X (Proc.devRef .tc main_v68_0))
    ∧ StableHlo.after hostOps1 X (Proc.devRef .tc main_v80) = un3 (X (Proc.devRef .tc main_v68_0))
    ∧ StableHlo.after hostOps1 X (Proc.devRef .tc main_v84) = un4 (X (Proc.devRef .tc main_v68_0))
    ∧ StableHlo.after hostOps1 X (Proc.devRef .tc main_v87) = un5 (X (Proc.devRef .tc main_v68_0))
    ∧ StableHlo.after hostOps1 X (Proc.devRef .tc main_v90) = un6 (X (Proc.devRef .tc main_v68_0))
    ∧ StableHlo.after hostOps1 X (Proc.devRef .tc main_v92) = un7 (X (Proc.devRef .tc main_v68_0))
    ∧ StableHlo.after hostOps1 X (Proc.devRef .tc main_v95) = un0 (X (Proc.devRef .tc main_v68_1))
    ∧ StableHlo.after hostOps1 X (Proc.devRef .tc main_v98) = un1 (X (Proc.devRef .tc main_v68_1))
    ∧ StableHlo.after hostOps1 X (Proc.devRef .tc main_v101) = un2 (X (Proc.devRef .tc main_v68_1))
    ∧ StableHlo.after hostOps1 X (Proc.devRef .tc main_v104) = un3 (X (Proc.devRef .tc main_v68_1))
    ∧ StableHlo.after hostOps1 X (Proc.devRef .tc main_v108) = un4 (X (Proc.devRef .tc main_v68_1))
    ∧ StableHlo.after hostOps1 X (Proc.devRef .tc main_v111) = un5 (X (Proc.devRef .tc main_v68_1))
    ∧ StableHlo.after hostOps1 X (Proc.devRef .tc main_v114) = un6 (X (Proc.devRef .tc main_v68_1))
    ∧ StableHlo.after hostOps1 X (Proc.devRef .tc main_v116) = un7 (X (Proc.devRef .tc main_v68_1))
    ∧ StableHlo.after hostOps1 X (Proc.devRef .tc main_v119) = un0 (X (Proc.devRef .tc main_v68_2))
    ∧ StableHlo.after hostOps1 X (Proc.devRef .tc main_v122) = un1 (X (Proc.devRef .tc main_v68_2))
    ∧ StableHlo.after hostOps1 X (Proc.devRef .tc main_v125) = un2 (X (Proc.devRef .tc main_v68_2))
    ∧ StableHlo.after hostOps1 X (Proc.devRef .tc main_v128) = un3 (X (Proc.devRef .tc main_v68_2))
    ∧ StableHlo.after hostOps1 X (Proc.devRef .tc main_v132) = un4 (X (Proc.devRef .tc main_v68_2))
    ∧ StableHlo.after hostOps1 X (Proc.devRef .tc main_v135) = un5 (X (Proc.devRef .tc main_v68_2))
    ∧ StableHlo.after hostOps1 X (Proc.devRef .tc main_v138) = un6 (X (Proc.devRef .tc main_v68_2))
    ∧ StableHlo.after hostOps1 X (Proc.devRef .tc main_v140) = un7 (X (Proc.devRef .tc main_v68_2)) := by
  refine ⟨?_, ?_, ?_, ?_, ?_, ?_, ?_, ?_, ?_, ?_, ?_, ?_, ?_, ?_, ?_, ?_, ?_, ?_, ?_, ?_, ?_, ?_, ?_, ?_⟩ <;> after_results <;> rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem blk0 (t : Fin cfg0.N) (i : S1152x128.Idx) : iblk m c 0 t i = P0 m c i := by
  rw [← packed0]
  blk_point [iblk, idx t]

theorem blk1 (t : Fin cfg0.N) (i : S1152x128.Idx) : iblk m c 1 t i = P1 m c i := by
  rw [← packed1]
  blk_point [iblk, idx t]

theorem blk2 (t : Fin cfg0.N) (i : S1152x128.Idx) : iblk m c 2 t i = P2 m c i := by
  rw [← packed2]
  blk_point [iblk, idx t]

theorem blk3 (t : Fin cfg0.N) (i : S1152x128.Idx) : iblk m c 3 t i = P3 m c i := by
  rw [← packed3]
  blk_point [iblk, idx t]

theorem arr0 : (dats m 0 c).arrAt 4 cfg0.N = fun i : S1152x128.Idx => W (P0 m c) (P1 m c) (P2 m c) (P3 m c) i := by
  refine (dats m 0 c).arrAt_eq_of_covers 4 _ (by decide +kernel) fun t hf y => ?_
  have h0 : (y 0).val < 1152 := (y 0).isLt
  have h1 : (y 1).val < 128 := (y 1).isLt
  have ht : t.val < 1 := t.isLt
  blk_simp
  rw [after0_4]
  have e : ∀ W : S1152x128.Idx → EReal, W ((win0_4.blk t).view.emb y) = W y := fun W => by
    blk_ext [idx t]
  rw [e (W _ _ _ _)]
  unfold out0_4
  rw [View.canon_unit_zero (by decide), View.ld_unit_zero (by decide), View.ld_unit_zero (by decide), View.ld_unit_zero (by decide), View.ld_unit_zero (by decide)]
  refine ((payW _ _ _ _) y).trans ?_
  simp only [blk0, blk1, blk2, blk3, W, M, U]

theorem arr1 : (dats m 0 c).arrAt 5 cfg0.N = fun i : S1152x128.Idx => M (P1 m c) (P2 m c) i := by
  refine (dats m 0 c).arrAt_eq_of_covers 5 _ (by decide +kernel) fun t hf y => ?_
  have h0 : (y 0).val < 1152 := (y 0).isLt
  have h1 : (y 1).val < 128 := (y 1).isLt
  have ht : t.val < 1 := t.isLt
  blk_simp
  rw [after0_5]
  have e : ∀ W : S1152x128.Idx → EReal, W ((win0_5.blk t).view.emb y) = W y := fun W => by
    blk_ext [idx t]
  rw [e (M _ _)]
  unfold out0_5
  rw [View.canon_unit_zero (by decide), View.ld_unit_zero (by decide), View.ld_unit_zero (by decide)]
  refine ((payM _ _) y).trans ?_
  simp only [blk1, blk2, M]

theorem arr2 : (dats m 0 c).arrAt 6 cfg0.N = fun i : S1152x128.Idx => U (P1 m c) (P3 m c) i := by
  refine (dats m 0 c).arrAt_eq_of_covers 6 _ (by decide +kernel) fun t hf y => ?_
  have h0 : (y 0).val < 1152 := (y 0).isLt
  have h1 : (y 1).val < 128 := (y 1).isLt
  have ht : t.val < 1 := t.isLt
  blk_simp
  rw [after0_6]
  have e : ∀ W : S1152x128.Idx → EReal, W ((win0_6.blk t).view.emb y) = W y := fun W => by
    blk_ext [idx t]
  rw [e (U _ _)]
  unfold out0_6
  rw [View.canon_unit_zero (by decide), View.ld_unit_zero (by decide), View.ld_unit_zero (by decide)]
  refine ((payU _ _) y).trans ?_
  simp only [blk1, blk3, U]

/-- A part of the packed steps is the step of the parts. -/
theorem resW {t : Shape} (f : (S1152x128.Idx → EReal) → t.Idx → EReal) (hf : ∀ w g m v, f (fun i => W w g m v i) = W (f w) (f g) (f m) (f v))
    {a0 a1 a2 a3 : t.Idx → EReal} (h0 : f (P0 m c) = a0) (h1 : f (P1 m c) = a1) (h2 : f (P2 m c) = a2) (h3 : f (P3 m c) = a3) :
    f (fun i => W (P0 m c) (P1 m c) (P2 m c) (P3 m c) i) = W a0 a1 a2 a3 := by
  rw [hf, h0, h1, h2, h3]

theorem resM {t : Shape} (f : (S1152x128.Idx → EReal) → t.Idx → EReal) (hf : ∀ g m, f (fun i => M g m i) = M (f g) (f m))
    {a1 a2 : t.Idx → EReal} (h1 : f (P1 m c) = a1) (h2 : f (P2 m c) = a2) : f (fun i => M (P1 m c) (P2 m c) i) = M a1 a2 := by
  rw [hf, h1, h2]

theorem resU {t : Shape} (f : (S1152x128.Idx → EReal) → t.Idx → EReal) (hf : ∀ g v, f (fun i => U g v i) = U (f g) (f v))
    {a1 a3 : t.Idx → EReal} (h1 : f (P1 m c) = a1) (h3 : f (P3 m c) = a3) : f (fun i => U (P1 m c) (P3 m c) i) = U a1 a3 := by
  rw [hf, h1, h3]

theorem out0 : Pipeline.withArrays spec0 c (V0 m c) (fun w => (dats m 0 c).arrAt w cfg0.N) (Proc.devRef .tc main_v68_0) = fun i : S1152x128.Idx => W (P0 m c) (P1 m c) (P2 m c) (P3 m c) i :=
  (Pipeline.withArrays_arr spec0 (by decide) c (V0 m c) _ 4).trans (arr0 m c)

theorem out1 : Pipeline.withArrays spec0 c (V0 m c) (fun w => (dats m 0 c).arrAt w cfg0.N) (Proc.devRef .tc main_v68_1) = fun i : S1152x128.Idx => M (P1 m c) (P2 m c) i :=
  (Pipeline.withArrays_arr spec0 (by decide) c (V0 m c) _ 5).trans (arr1 m c)

theorem out2 : Pipeline.withArrays spec0 c (V0 m c) (fun w => (dats m 0 c).arrAt w cfg0.N) (Proc.devRef .tc main_v68_2) = fun i : S1152x128.Idx => U (P1 m c) (P3 m c) i :=
  (Pipeline.withArrays_arr spec0 (by decide) c (V0 m c) _ 6).trans (arr2 m c)

end Cert.AdamPackIdeal.Gen

namespace Cert.AdamPackRun

open Idealize.ShloMosaic Idealize.ShloMosaic.TcCoe
open AdamPackIdeal AdamPackIdeal.Gen

theorem algebraic : @Cert.algebraic_AdamPackIdeal_AdamPackRefIdeal AdamPackIdeal.Gen.facts AdamPackRefIdeal.Gen.facts := by
  intro m g m' g' _ hag
  refine ⟨fun c => W (s := S1x2048) (m ((c.tc : Thread _ _).loc main_arg0)) (m ((c.tc : Thread _ _).loc main_arg8)) (m ((c.tc : Thread _ _).loc main_arg16)) (m ((c.tc : Thread _ _).loc main_arg24)),
    fun c => W (s := S1x2048) (m ((c.tc : Thread _ _).loc main_arg1)) (m ((c.tc : Thread _ _).loc main_arg9)) (m ((c.tc : Thread _ _).loc main_arg17)) (m ((c.tc : Thread _ _).loc main_arg25)),
    fun c => W (s := S1x8x128x128) (m ((c.tc : Thread _ _).loc main_arg2)) (m ((c.tc : Thread _ _).loc main_arg10)) (m ((c.tc : Thread _ _).loc main_arg18)) (m ((c.tc : Thread _ _).loc main_arg26)),
    fun c => W (s := S1x8x128) (m ((c.tc : Thread _ _).loc main_arg3)) (m ((c.tc : Thread _ _).loc main_arg11)) (m ((c.tc : Thread _ _).loc main_arg19)) (m ((c.tc : Thread _ _).loc main_arg27)),
    fun c => W (s := S1x512) (m ((c.tc : Thread _ _).loc main_arg4)) (m ((c.tc : Thread _ _).loc main_arg12)) (m ((c.tc : Thread _ _).loc main_arg20)) (m ((c.tc : Thread _ _).loc main_arg28)),
    fun c => W (s := S2x2048) (m ((c.tc : Thread _ _).loc main_arg5)) (m ((c.tc : Thread _ _).loc main_arg13)) (m ((c.tc : Thread _ _).loc main_arg21)) (m ((c.tc : Thread _ _).loc main_arg29)),
    fun c => W (s := S2x2048) (m ((c.tc : Thread _ _).loc main_arg6)) (m ((c.tc : Thread _ _).loc main_arg14)) (m ((c.tc : Thread _ _).loc main_arg22)) (m ((c.tc : Thread _ _).loc main_arg30)),
    fun c => W (s := S2048) (m ((c.tc : Thread _ _).loc main_arg7)) (m ((c.tc : Thread _ _).loc main_arg15)) (m ((c.tc : Thread _ _).loc main_arg23)) (m ((c.tc : Thread _ _).loc main_arg31)),
    fun c => M (s := S1x2048) (m ((c.tc : Thread _ _).loc main_arg8)) (m ((c.tc : Thread _ _).loc main_arg16)),
    fun c => M (s := S1x2048) (m ((c.tc : Thread _ _).loc main_arg9)) (m ((c.tc : Thread _ _).loc main_arg17)),
    fun c => M (s := S1x8x128x128) (m ((c.tc : Thread _ _).loc main_arg10)) (m ((c.tc : Thread _ _).loc main_arg18)),
    fun c => M (s := S1x8x128) (m ((c.tc : Thread _ _).loc main_arg11)) (m ((c.tc : Thread _ _).loc main_arg19)),
    fun c => M (s := S1x512) (m ((c.tc : Thread _ _).loc main_arg12)) (m ((c.tc : Thread _ _).loc main_arg20)),
    fun c => M (s := S2x2048) (m ((c.tc : Thread _ _).loc main_arg13)) (m ((c.tc : Thread _ _).loc main_arg21)),
    fun c => M (s := S2x2048) (m ((c.tc : Thread _ _).loc main_arg14)) (m ((c.tc : Thread _ _).loc main_arg22)),
    fun c => M (s := S2048) (m ((c.tc : Thread _ _).loc main_arg15)) (m ((c.tc : Thread _ _).loc main_arg23)),
    fun c => U (s := S1x2048) (m ((c.tc : Thread _ _).loc main_arg8)) (m ((c.tc : Thread _ _).loc main_arg24)),
    fun c => U (s := S1x2048) (m ((c.tc : Thread _ _).loc main_arg9)) (m ((c.tc : Thread _ _).loc main_arg25)),
    fun c => U (s := S1x8x128x128) (m ((c.tc : Thread _ _).loc main_arg10)) (m ((c.tc : Thread _ _).loc main_arg26)),
    fun c => U (s := S1x8x128) (m ((c.tc : Thread _ _).loc main_arg11)) (m ((c.tc : Thread _ _).loc main_arg27)),
    fun c => U (s := S1x512) (m ((c.tc : Thread _ _).loc main_arg12)) (m ((c.tc : Thread _ _).loc main_arg28)),
    fun c => U (s := S2x2048) (m ((c.tc : Thread _ _).loc main_arg13)) (m ((c.tc : Thread _ _).loc main_arg29)),
    fun c => U (s := S2x2048) (m ((c.tc : Thread _ _).loc main_arg14)) (m ((c.tc : Thread _ _).loc main_arg30)),
    fun c => U (s := S2048) (m ((c.tc : Thread _ _).loc main_arg15)) (m ((c.tc : Thread _ _).loc main_arg31)),
    ?_, ?_⟩
  · refine (θ_run _ _ _).mono (fun r hr c => ?_) (θ_run_and (run_main m g) (unchanged m g))
    obtain ⟨u0, u1, u2, u3, u4, u5, u6, u7, u8, u9, u10, u11, u12, u13, u14, u15, u16, u17, u18, u19, u20, u21, u22, u23⟩ := unpacked (Pipeline.withArrays spec0 c (V0 m c) fun w => (dats m 0 c).arrAt w cfg0.N)
    refine ⟨?_, ?_, ?_, ?_, ?_, ?_, ?_, ?_, ?_, ?_, ?_, ?_, ?_, ?_, ?_, ?_, ?_, ?_, ?_, ?_, ?_, ?_, ?_, ?_, hr.2 c⟩
    · exact (((hr.1 c).2 main_v71 (by decide)).trans u0).trans ((congrArg un0 (out0 m c)).trans (resW m c un0 (fun _ _ _ _ => rfl) (slot0 ..) (slot0 ..) (slot0 ..) (slot0 ..)))
    · exact (((hr.1 c).2 main_v74 (by decide)).trans u1).trans ((congrArg un1 (out0 m c)).trans (resW m c un1 (fun _ _ _ _ => rfl) (slot1 ..) (slot1 ..) (slot1 ..) (slot1 ..)))
    · exact (((hr.1 c).2 main_v77 (by decide)).trans u2).trans ((congrArg un2 (out0 m c)).trans (resW m c un2 (fun _ _ _ _ => rfl) (slot2 ..) (slot2 ..) (slot2 ..) (slot2 ..)))
    · exact (((hr.1 c).2 main_v80 (by decide)).trans u3).trans ((congrArg un3 (out0 m c)).trans (resW m c un3 (fun _ _ _ _ => rfl) (slot3 ..) (slot3 ..) (slot3 ..) (slot3 ..)))
    · exact (((hr.1 c).2 main_v84 (by decide)).trans u4).trans ((congrArg un4 (out0 m c)).trans (resW m c un4 (fun _ _ _ _ => rfl) (slot4 ..) (slot4 ..) (slot4 ..) (slot4 ..)))
    · exact (((hr.1 c).2 main_v87 (by decide)).trans u5).trans ((congrArg un5 (out0 m c)).trans (resW m c un5 (fun _ _ _ _ => rfl) (slot5 ..) (slot5 ..) (slot5 ..) (slot5 ..)))
    · exact (((hr.1 c).2 main_v90 (by decide)).trans u6).trans ((congrArg un6 (out0 m c)).trans (resW m c un6 (fun _ _ _ _ => rfl) (slot6 ..) (slot6 ..) (slot6 ..) (slot6 ..)))
    · exact (((hr.1 c).2 main_v92 (by decide)).trans u7).trans ((congrArg un7 (out0 m c)).trans (resW m c un7 (fun _ _ _ _ => rfl) (slot7 ..) (slot7 ..) (slot7 ..) (slot7 ..)))
    · exact (((hr.1 c).2 main_v95 (by decide)).trans u8).trans ((congrArg un0 (out1 m c)).trans (resM m c un0 (fun _ _ => rfl) (slot0 ..) (slot0 ..)))
    · exact (((hr.1 c).2 main_v98 (by decide)).trans u9).trans ((congrArg un1 (out1 m c)).trans (resM m c un1 (fun _ _ => rfl) (slot1 ..) (slot1 ..)))
    · exact (((hr.1 c).2 main_v101 (by decide)).trans u10).trans ((congrArg un2 (out1 m c)).trans (resM m c un2 (fun _ _ => rfl) (slot2 ..) (slot2 ..)))
    · exact (((hr.1 c).2 main_v104 (by decide)).trans u11).trans ((congrArg un3 (out1 m c)).trans (resM m c un3 (fun _ _ => rfl) (slot3 ..) (slot3 ..)))
    · exact (((hr.1 c).2 main_v108 (by decide)).trans u12).trans ((congrArg un4 (out1 m c)).trans (resM m c un4 (fun _ _ => rfl) (slot4 ..) (slot4 ..)))
    · exact (((hr.1 c).2 main_v111 (by decide)).trans u13).trans ((congrArg un5 (out1 m c)).trans (resM m c un5 (fun _ _ => rfl) (slot5 ..) (slot5 ..)))
    · exact (((hr.1 c).2 main_v114 (by decide)).trans u14).trans ((congrArg un6 (out1 m c)).trans (resM m c un6 (fun _ _ => rfl) (slot6 ..) (slot6 ..)))
    · exact (((hr.1 c).2 main_v116 (by decide)).trans u15).trans ((congrArg un7 (out1 m c)).trans (resM m c un7 (fun _ _ => rfl) (slot7 ..) (slot7 ..)))
    · exact (((hr.1 c).2 main_v119 (by decide)).trans u16).trans ((congrArg un0 (out2 m c)).trans (resU m c un0 (fun _ _ => rfl) (slot0 ..) (slot0 ..)))
    · exact (((hr.1 c).2 main_v122 (by decide)).trans u17).trans ((congrArg un1 (out2 m c)).trans (resU m c un1 (fun _ _ => rfl) (slot1 ..) (slot1 ..)))
    · exact (((hr.1 c).2 main_v125 (by decide)).trans u18).trans ((congrArg un2 (out2 m c)).trans (resU m c un2 (fun _ _ => rfl) (slot2 ..) (slot2 ..)))
    · exact (((hr.1 c).2 main_v128 (by decide)).trans u19).trans ((congrArg un3 (out2 m c)).trans (resU m c un3 (fun _ _ => rfl) (slot3 ..) (slot3 ..)))
    · exact (((hr.1 c).2 main_v132 (by decide)).trans u20).trans ((congrArg un4 (out2 m c)).trans (resU m c un4 (fun _ _ => rfl) (slot4 ..) (slot4 ..)))
    · exact (((hr.1 c).2 main_v135 (by decide)).trans u21).trans ((congrArg un5 (out2 m c)).trans (resU m c un5 (fun _ _ => rfl) (slot5 ..) (slot5 ..)))
    · exact (((hr.1 c).2 main_v138 (by decide)).trans u22).trans ((congrArg un6 (out2 m c)).trans (resU m c un6 (fun _ _ => rfl) (slot6 ..) (slot6 ..)))
    · exact (((hr.1 c).2 main_v140 (by decide)).trans u23).trans ((congrArg un7 (out2 m c)).trans (resU m c un7 (fun _ _ => rfl) (slot7 ..) (slot7 ..)))
  · refine (θ_run _ _ _).mono (fun r hr c => ?_) (AdamPackRefIdeal.Value.run m' g')
    obtain ⟨e0, e1, e2, e3, e4, e5, e6, e7, e8, e9, e10, e11, e12, e13, e14, e15, e16, e17, e18, e19, e20, e21, e22, e23, e24, e25, e26, e27, e28, e29, e30, e31⟩ := hag c
    obtain ⟨a0, a1, a2, a3, a4, a5, a6, a7, a8, a9, a10, a11, a12, a13, a14, a15, a16, a17, a18, a19, a20, a21, a22, a23, ha⟩ := hr c
    refine ⟨?_, ?_, ?_, ?_, ?_, ?_, ?_, ?_, ?_, ?_, ?_, ?_, ?_, ?_, ?_, ?_, ?_, ?_, ?_, ?_, ?_, ?_, ?_, ?_, ha⟩
    · beta_reduce; rw [← e0, ← e8, ← e16, ← e24]; exact a0
    · beta_reduce; rw [← e1, ← e9, ← e17, ← e25]; exact a1
    · beta_reduce; rw [← e2, ← e10, ← e18, ← e26]; exact a2
    · beta_reduce; rw [← e3, ← e11, ← e19, ← e27]; exact a3
    · beta_reduce; rw [← e4, ← e12, ← e20, ← e28]; exact a4
    · beta_reduce; rw [← e5, ← e13, ← e21, ← e29]; exact a5
    · beta_reduce; rw [← e6, ← e14, ← e22, ← e30]; exact a6
    · beta_reduce; rw [← e7, ← e15, ← e23, ← e31]; exact a7
    · beta_reduce; rw [← e8, ← e16]; exact a8
    · beta_reduce; rw [← e9, ← e17]; exact a9
    · beta_reduce; rw [← e10, ← e18]; exact a10
    · beta_reduce; rw [← e11, ← e19]; exact a11
    · beta_reduce; rw [← e12, ← e20]; exact a12
    · beta_reduce; rw [← e13, ← e21]; exact a13
    · beta_reduce; rw [← e14, ← e22]; exact a14
    · beta_reduce; rw [← e15, ← e23]; exact a15
    · beta_reduce; rw [← e8, ← e24]; exact a16
    · beta_reduce; rw [← e9, ← e25]; exact a17
    · beta_reduce; rw [← e10, ← e26]; exact a18
    · beta_reduce; rw [← e11, ← e27]; exact a19
    · beta_reduce; rw [← e12, ← e28]; exact a20
    · beta_reduce; rw [← e13, ← e29]; exact a21
    · beta_reduce; rw [← e14, ← e30]; exact a22
    · beta_reduce; rw [← e15, ← e31]; exact a23

end Cert.AdamPackRun

end
-- ==== Proof.SumUnpackRun.lean ====
/- The sum of the eight devices' small gradients, unpacked: kernel and reference end with the same eight arrays. -/
module

public import proofs.«01_k».proof.Defs
public import proofs.«01_k».proof.Proof.Gen.SumUnpack.Frame
public import proofs.«01_k».proof.Proof.Gen.SumUnpackIdeal.Frame
public import proofs.«01_k».proof.Proof.Gen.SumUnpackRefIdeal.Run
public import proofs.«01_k».proof.Proof.Gen.SumUnpackRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.SumUnpackIdeal.Gen

open SumUnpackIdeal

/-- The sum over the eight slots. -/
def G (x : S8x1160x128.Idx → EReal) (i : S1160x128.Idx) : EReal :=
  ∑ d : Fin 8, x (ix3 d (⟨(i 0).val, (i 0).isLt⟩ : Fin 1160) (⟨(i 1).val, (i 1).isLt⟩ : Fin 128))

theorem pay (x0 x1 x2 x3 x4 x5 x6 x7 : Vec Ideal S1x1160x128 .f32) (y : S1160x128.Idx) :
    k0_pay1 x0 x1 x2 x3 x4 x5 x6 x7 y = (let p : S1x1160x128.Idx := ix3 (0 : Fin 1) (⟨(y 0).val, (y 0).isLt⟩ : Fin 1160) (⟨(y 1).val, (y 1).isLt⟩ : Fin 128)
      @HAdd.hAdd EReal EReal EReal _ (@HAdd.hAdd EReal EReal EReal _ (@HAdd.hAdd EReal EReal EReal _ (@HAdd.hAdd EReal EReal EReal _ (@HAdd.hAdd EReal EReal EReal _ (@HAdd.hAdd EReal EReal EReal _ (@HAdd.hAdd EReal EReal EReal _ (x0 p) (x1 p)) (x2 p)) (x3 p)) (x4 p)) (x5 p)) (x6 p)) (x7 p)) := by
  pointwise [k0_pay1]

/-- The entry of slot `k` read at a position of its block. -/
def slot (x : S8x1160x128.Idx → EReal) (k : Fin 8) (y : S1x1160x128.Idx) : EReal :=
  x (ix3 k (⟨(y 1).val, (y 1).isLt⟩ : Fin 1160) (⟨(y 2).val, (y 2).isLt⟩ : Fin 128))

theorem pieces (x : Vec Ideal S8x1160x128 .f32) (y : S1x1160x128.Idx) :
    View.ld x r0_0 y = slot x ⟨0, by omega⟩ y ∧ View.ld x r0_1 y = slot x ⟨1, by omega⟩ y
    ∧ View.ld x r0_2 y = slot x ⟨2, by omega⟩ y ∧ View.ld x r0_3 y = slot x ⟨3, by omega⟩ y
    ∧ View.ld x r0_4 y = slot x ⟨4, by omega⟩ y ∧ View.ld x r0_5 y = slot x ⟨5, by omega⟩ y
    ∧ View.ld x r0_6 y = slot x ⟨6, by omega⟩ y ∧ View.ld x r0_7 y = slot x ⟨7, by omega⟩ y := by
  have h0 : (y 0).val < 1 := (y 0).isLt
  refine ⟨?_, ?_, ?_, ?_, ?_, ?_, ?_, ?_⟩ <;> exact congr_arg x (funext fun a => Fin.ext (by
    match a with
    | ⟨0, _⟩ => simp [Rect.idx_unit_val] <;> omega
    | ⟨1, _⟩ => simp [Rect.idx_unit_val]
    | ⟨2, _⟩ => simp [Rect.idx_unit_val]))

theorem idx : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

theorem blk0 (t : Fin cfg0.N) (i : S8x1160x128.Idx) : iblk m c 0 t i = m ((c : Thread nD τ).loc main_arg0)
    i := by
  blk_point [iblk, V, idx t]

theorem sumAt (t : Fin cfg0.N) (y : S1160x128.Idx) : k0_pay1 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y = G (m ((c : Thread nD τ).loc main_arg0)) y := by
  refine (pay _ _ _ _ _ _ _ _ y).trans ?_
  show @HAdd.hAdd EReal EReal EReal _ _ _ = _
  dsimp only
  obtain ⟨e0, e1, e2, e3, e4, e5, e6, e7⟩ := pieces (iblk m c 0 t) (ix3 (0 : Fin 1) (⟨(y 0).val, (y 0).isLt⟩ : Fin 1160) (⟨(y 1).val, (y 1).isLt⟩ : Fin 128))
  rw [e0, e1, e2, e3, e4, e5, e6, e7]
  simp only [slot, blk0, G]
  rw [Fin.sum_univ_eight]
  rfl

theorem arr0 : (dats m 0 c).arrAt 1 cfg0.N = fun i : S1160x128.Idx => G (m ((c : Thread nD τ).loc main_arg0)) i := by
  refine (dats m 0 c).arrAt_eq_of_covers 1 _ (by decide +kernel) fun t hf y => ?_
  have h0 : (y 0).val < 1160 := (y 0).isLt
  have h1 : (y 1).val < 128 := (y 1).isLt
  blk_simp
  rw [after0_1]
  have e : ∀ W : S1160x128.Idx → EReal, W ((win0_1.blk t).view.emb y) = W y := fun W => by
    blk_ext [idx t]
  rw [e (G _)]
  unfold out0_1
  rw [View.canon_unit_zero (by decide)]
  exact sumAt m c t y

def un0 (P : S1160x128.Idx → EReal) : S1x2048.Idx → EReal :=
  shapeCast S1x2048 (shapeCast S2048 (extractStridedSlice S16x128 ![0, 0] P slices_S1160x128_S16x128_0_0) shapeCasts_S16x128_S2048) shapeCasts_S2048_S1x2048

def un1 (P : S1160x128.Idx → EReal) : S1x2048.Idx → EReal :=
  shapeCast S1x2048 (shapeCast S2048 (extractStridedSlice S16x128 ![16, 0] P slices_S1160x128_S16x128_16_0) shapeCasts_S16x128_S2048) shapeCasts_S2048_S1x2048

def un2 (P : S1160x128.Idx → EReal) : S1x8x128x128.Idx → EReal :=
  shapeCast S1x8x128x128 (shapeCast S131072 (extractStridedSlice S1024x128 ![32, 0] P slices_S1160x128_S1024x128_32_0) shapeCasts_S1024x128_S131072) shapeCasts_S131072_S1x8x128x128

def un3 (P : S1160x128.Idx → EReal) : S1x8x128.Idx → EReal :=
  shapeCast S1x8x128 (shapeCast S1024 (extractStridedSlice S8x128 ![1056, 0] P slices_S1160x128_S8x128_1056_0) shapeCasts_S8x128_S1024) shapeCasts_S1024_S1x8x128

def un4 (P : S1160x128.Idx → EReal) : S1x2048.Idx → EReal :=
  shapeCast S1x2048 (shapeCast S2048 (extractStridedSlice S16x128 ![1064, 0] P slices_S1160x128_S16x128_1064_0) shapeCasts_S16x128_S2048) shapeCasts_S2048_S1x2048

def un5 (P : S1160x128.Idx → EReal) : S2x2048.Idx → EReal :=
  shapeCast S2x2048 (shapeCast S4096 (extractStridedSlice S32x128 ![1080, 0] P slices_S1160x128_S32x128_1080_0) shapeCasts_S32x128_S4096) shapeCasts_S4096_S2x2048

def un6 (P : S1160x128.Idx → EReal) : S2x2048.Idx → EReal :=
  shapeCast S2x2048 (shapeCast S4096 (extractStridedSlice S32x128 ![1112, 0] P slices_S1160x128_S32x128_1112_0) shapeCasts_S32x128_S4096) shapeCasts_S4096_S2x2048

def un7 (P : S1160x128.Idx → EReal) : S2048.Idx → EReal :=
  shapeCast S2048 (extractStridedSlice S16x128 ![1144, 0] P slices_S1160x128_S16x128_1144_0) shapeCasts_S16x128_S2048

theorem unpacked (X : Valuation τ sig (Elt Ideal)) :
    StableHlo.after hostOps1 X (Proc.devRef .tc main_v3) = un0 (X (Proc.devRef .tc main_v0))
    ∧ StableHlo.after hostOps1 X (Proc.devRef .tc main_v6) = un1 (X (Proc.devRef .tc main_v0))
    ∧ StableHlo.after hostOps1 X (Proc.devRef .tc main_v9) = un2 (X (Proc.devRef .tc main_v0))
    ∧ StableHlo.after hostOps1 X (Proc.devRef .tc main_v12) = un3 (X (Proc.devRef .tc main_v0))
    ∧ StableHlo.after hostOps1 X (Proc.devRef .tc main_v15) = un4 (X (Proc.devRef .tc main_v0))
    ∧ StableHlo.after hostOps1 X (Proc.devRef .tc main_v18) = un5 (X (Proc.devRef .tc main_v0))
    ∧ StableHlo.after hostOps1 X (Proc.devRef .tc main_v21) = un6 (X (Proc.devRef .tc main_v0))
    ∧ StableHlo.after hostOps1 X (Proc.devRef .tc main_v23) = un7 (X (Proc.devRef .tc main_v0)) := by
  refine ⟨?_, ?_, ?_, ?_, ?_, ?_, ?_, ?_⟩ <;> after_results <;> rfl

theorem out0 : Pipeline.withArrays spec0 c (V0 m c) (fun w => (dats m 0 c).arrAt w cfg0.N) (Proc.devRef .tc main_v0) = fun i : S1160x128.Idx => G (m ((c : Thread nD τ).loc main_arg0)) i :=
  (Pipeline.withArrays_arr spec0 (by decide) c (V0 m c) _ 1).trans (arr0 m c)

/-- A reshape of some rows of a packed array, read at the index with row-major position `f`. -/
theorem read {n : Nat} {t : Shape} (P : S1160x128.Idx → EReal) (off : Nat) (hs : S1160x128.Slices ![off, 0] ⟨2, ![n, 128]⟩)
    (hc : (⟨2, ![n, 128]⟩ : Shape).ShapeCasts t) (i : t.Idx) (f : Nat) (hf : (t.rowMajor i).val = f) (hn : f < n * 128) :
    shapeCast t (extractStridedSlice (⟨2, ![n, 128]⟩ : Shape) ![off, 0] P hs) hc i
      = P (ix2 (⟨off + f / 128, by have hb : off + n ≤ 1160 := hs.2 0; omega⟩ : Fin 1160) (⟨f % 128, by omega⟩ : Fin 128)) := by
  have hb : off + n ≤ 1160 := hs.2 0
  refine (shapeCast_apply _ hc i (ix2 (⟨f / 128, by omega⟩ : Fin n) (⟨f % 128, by omega⟩ : Fin 128)) ?_).trans
    (extractStridedSlice_apply _ _ hs _ _ fun a => ?_)
  · rewrite [Shape.rowMajor_val_two, hf]
    show f / 128 * 128 + f % 128 = f
    omega
  · match a with
    | ⟨0, _⟩ => rfl
    | ⟨1, _⟩ => show f % 128 = 0 + f % 128; omega

/-- The same of the eight packed arrays. -/
theorem read8 {n : Nat} {t : Shape} (x : S8x1160x128.Idx → EReal) (off : Nat) (hs : S8x1160x128.Slices ![0, off, 0] ⟨3, ![8, n, 128]⟩)
    (hc : (⟨3, ![8, n, 128]⟩ : Shape).ShapeCasts t) (i : t.Idx) (d : Fin 8) (f : Nat) (hf : (t.rowMajor i).val = d.val * n * 128 + f) (hn : f < n * 128) :
    shapeCast t (extractStridedSlice (⟨3, ![8, n, 128]⟩ : Shape) ![0, off, 0] x hs) hc i
      = x (ix3 d (⟨off + f / 128, by have hb : off + n ≤ 1160 := hs.2 1; omega⟩ : Fin 1160) (⟨f % 128, by omega⟩ : Fin 128)) := by
  have hb : off + n ≤ 1160 := hs.2 1
  refine (shapeCast_apply _ hc i (ix3 d (⟨f / 128, by omega⟩ : Fin n) (⟨f % 128, by omega⟩ : Fin 128)) ?_).trans
    (extractStridedSlice_apply _ _ hs _ _ fun a => ?_)
  · rewrite [Shape.rowMajor_val_three, hf]
    show (d.val * n + f / 128) * 128 + f % 128 = d.val * n * 128 + f
    omega
  · match a with
    | ⟨0, _⟩ => show d.val = 0 + d.val; omega
    | ⟨1, _⟩ => rfl
    | ⟨2, _⟩ => show f % 128 = 0 + f % 128; omega

end Cert.SumUnpackIdeal.Gen

namespace Cert.SumUnpackRefIdeal.Read

open SumUnpackRefIdeal SumUnpackRefIdeal.Gen Idealize.ShloMosaic Idealize.ShloMosaic.TcCoe Idealize.ShloMosaic.StableHlo

theorem sum0 (x : S8x1160x128.Idx → EReal) (i : S1x2048.Idx) : val_main_v2 (F := Ideal) x i = SumUnpackIdeal.Gen.un0 (SumUnpackIdeal.Gen.G x) i := by
  have h0 : (i 0).val < 1 := (i 0).isLt
  have h1 : (i 1).val < 2048 := (i 1).isLt
  have hc : val_main_cst (F := Ideal) (Shape.Idx.first h_S_) = (0 : EReal) := by
    rw [val_main_cst_apply]
    simp
  rw [val_main_v2_apply, hc, zero_add]
  unfold SumUnpackIdeal.Gen.un0 val_main_v1 val_main_v0
  rw [shapeCast_comp, SumUnpackIdeal.Gen.read (SumUnpackIdeal.Gen.G x) 0 _ _ i ((i 0).val * 2048 + (i 1).val) (by rewrite [Shape.rowMajor_val_two]; rfl) (by omega)]
  unfold SumUnpackIdeal.Gen.G
  refine Finset.sum_congr rfl fun d _ => ?_
  refine (SumUnpackIdeal.Gen.read8 x 0 _ _ (idx_main_v2 i d) d ((i 0).val * 2048 + (i 1).val) ?_ (by omega)).trans rfl
  rewrite [Shape.rowMajor_val_three]
  show ((d.val * 1 + (i 0).val) * 2048 + (i 1).val) = d.val * 16 * 128 + ((i 0).val * 2048 + (i 1).val)
  omega

theorem sum1 (x : S8x1160x128.Idx → EReal) (i : S1x2048.Idx) : val_main_v5 (F := Ideal) x i = SumUnpackIdeal.Gen.un1 (SumUnpackIdeal.Gen.G x) i := by
  have h0 : (i 0).val < 1 := (i 0).isLt
  have h1 : (i 1).val < 2048 := (i 1).isLt
  have hc : val_main_cst_0 (F := Ideal) (Shape.Idx.first h_S_) = (0 : EReal) := by
    rw [val_main_cst_0_apply]
    simp
  rw [val_main_v5_apply, hc, zero_add]
  unfold SumUnpackIdeal.Gen.un1 val_main_v4 val_main_v3
  rw [shapeCast_comp, SumUnpackIdeal.Gen.read (SumUnpackIdeal.Gen.G x) 16 _ _ i ((i 0).val * 2048 + (i 1).val) (by rewrite [Shape.rowMajor_val_two]; rfl) (by omega)]
  unfold SumUnpackIdeal.Gen.G
  refine Finset.sum_congr rfl fun d _ => ?_
  refine (SumUnpackIdeal.Gen.read8 x 16 _ _ (idx_main_v5 i d) d ((i 0).val * 2048 + (i 1).val) ?_ (by omega)).trans rfl
  rewrite [Shape.rowMajor_val_three]
  show ((d.val * 1 + (i 0).val) * 2048 + (i 1).val) = d.val * 16 * 128 + ((i 0).val * 2048 + (i 1).val)
  omega

theorem sum2 (x : S8x1160x128.Idx → EReal) (i : S1x8x128x128.Idx) : val_main_v8 (F := Ideal) x i = SumUnpackIdeal.Gen.un2 (SumUnpackIdeal.Gen.G x) i := by
  have h0 : (i 0).val < 1 := (i 0).isLt
  have h1 : (i 1).val < 8 := (i 1).isLt
  have h2 : (i 2).val < 128 := (i 2).isLt
  have h3 : (i 3).val < 128 := (i 3).isLt
  have hc : val_main_cst_1 (F := Ideal) (Shape.Idx.first h_S_) = (0 : EReal) := by
    rw [val_main_cst_1_apply]
    simp
  rw [val_main_v8_apply, hc, zero_add]
  unfold SumUnpackIdeal.Gen.un2 val_main_v7 val_main_v6
  rw [shapeCast_comp, SumUnpackIdeal.Gen.read (SumUnpackIdeal.Gen.G x) 32 _ _ i ((((i 0).val * 8 + (i 1).val) * 128 + (i 2).val) * 128 + (i 3).val) (by rewrite [Shape.rowMajor_val_four]; rfl) (by omega)]
  unfold SumUnpackIdeal.Gen.G
  refine Finset.sum_congr rfl fun d _ => ?_
  refine (SumUnpackIdeal.Gen.read8 x 32 _ _ (idx_main_v8 i d) d ((((i 0).val * 8 + (i 1).val) * 128 + (i 2).val) * 128 + (i 3).val) ?_ (by omega)).trans rfl
  rewrite [Shape.rowMajor_val_five]
  show ((((d.val * 1 + (i 0).val) * 8 + (i 1).val) * 128 + (i 2).val) * 128 + (i 3).val) = d.val * 1024 * 128 + ((((i 0).val * 8 + (i 1).val) * 128 + (i 2).val) * 128 + (i 3).val)
  omega

theorem sum3 (x : S8x1160x128.Idx → EReal) (i : S1x8x128.Idx) : val_main_v11 (F := Ideal) x i = SumUnpackIdeal.Gen.un3 (SumUnpackIdeal.Gen.G x) i := by
  have h0 : (i 0).val < 1 := (i 0).isLt
  have h1 : (i 1).val < 8 := (i 1).isLt
  have h2 : (i 2).val < 128 := (i 2).isLt
  have hc : val_main_cst_2 (F := Ideal) (Shape.Idx.first h_S_) = (0 : EReal) := by
    rw [val_main_cst_2_apply]
    simp
  rw [val_main_v11_apply, hc, zero_add]
  unfold SumUnpackIdeal.Gen.un3 val_main_v10 val_main_v9
  rw [shapeCast_comp, SumUnpackIdeal.Gen.read (SumUnpackIdeal.Gen.G x) 1056 _ _ i (((i 0).val * 8 + (i 1).val) * 128 + (i 2).val) (by rewrite [Shape.rowMajor_val_three]; rfl) (by omega)]
  unfold SumUnpackIdeal.Gen.G
  refine Finset.sum_congr rfl fun d _ => ?_
  refine (SumUnpackIdeal.Gen.read8 x 1056 _ _ (idx_main_v11 i d) d (((i 0).val * 8 + (i 1).val) * 128 + (i 2).val) ?_ (by omega)).trans rfl
  rewrite [Shape.rowMajor_val_four]
  show (((d.val * 1 + (i 0).val) * 8 + (i 1).val) * 128 + (i 2).val) = d.val * 8 * 128 + (((i 0).val * 8 + (i 1).val) * 128 + (i 2).val)
  omega

theorem sum4 (x : S8x1160x128.Idx → EReal) (i : S1x2048.Idx) : val_main_v14 (F := Ideal) x i = SumUnpackIdeal.Gen.un4 (SumUnpackIdeal.Gen.G x) i := by
  have h0 : (i 0).val < 1 := (i 0).isLt
  have h1 : (i 1).val < 2048 := (i 1).isLt
  have hc : val_main_cst_3 (F := Ideal) (Shape.Idx.first h_S_) = (0 : EReal) := by
    rw [val_main_cst_3_apply]
    simp
  rw [val_main_v14_apply, hc, zero_add]
  unfold SumUnpackIdeal.Gen.un4 val_main_v13 val_main_v12
  rw [shapeCast_comp, SumUnpackIdeal.Gen.read (SumUnpackIdeal.Gen.G x) 1064 _ _ i ((i 0).val * 2048 + (i 1).val) (by rewrite [Shape.rowMajor_val_two]; rfl) (by omega)]
  unfold SumUnpackIdeal.Gen.G
  refine Finset.sum_congr rfl fun d _ => ?_
  refine (SumUnpackIdeal.Gen.read8 x 1064 _ _ (idx_main_v14 i d) d ((i 0).val * 2048 + (i 1).val) ?_ (by omega)).trans rfl
  rewrite [Shape.rowMajor_val_three]
  show ((d.val * 1 + (i 0).val) * 2048 + (i 1).val) = d.val * 16 * 128 + ((i 0).val * 2048 + (i 1).val)
  omega

theorem sum5 (x : S8x1160x128.Idx → EReal) (i : S2x2048.Idx) : val_main_v17 (F := Ideal) x i = SumUnpackIdeal.Gen.un5 (SumUnpackIdeal.Gen.G x) i := by
  have h0 : (i 0).val < 2 := (i 0).isLt
  have h1 : (i 1).val < 2048 := (i 1).isLt
  have hc : val_main_cst_4 (F := Ideal) (Shape.Idx.first h_S_) = (0 : EReal) := by
    rw [val_main_cst_4_apply]
    simp
  rw [val_main_v17_apply, hc, zero_add]
  unfold SumUnpackIdeal.Gen.un5 val_main_v16 val_main_v15
  rw [shapeCast_comp, SumUnpackIdeal.Gen.read (SumUnpackIdeal.Gen.G x) 1080 _ _ i ((i 0).val * 2048 + (i 1).val) (by rewrite [Shape.rowMajor_val_two]; rfl) (by omega)]
  unfold SumUnpackIdeal.Gen.G
  refine Finset.sum_congr rfl fun d _ => ?_
  refine (SumUnpackIdeal.Gen.read8 x 1080 _ _ (idx_main_v17 i d) d ((i 0).val * 2048 + (i 1).val) ?_ (by omega)).trans rfl
  rewrite [Shape.rowMajor_val_three]
  show ((d.val * 2 + (i 0).val) * 2048 + (i 1).val) = d.val * 32 * 128 + ((i 0).val * 2048 + (i 1).val)
  omega

theorem sum6 (x : S8x1160x128.Idx → EReal) (i : S2x2048.Idx) : val_main_v20 (F := Ideal) x i = SumUnpackIdeal.Gen.un6 (SumUnpackIdeal.Gen.G x) i := by
  have h0 : (i 0).val < 2 := (i 0).isLt
  have h1 : (i 1).val < 2048 := (i 1).isLt
  have hc : val_main_cst_5 (F := Ideal) (Shape.Idx.first h_S_) = (0 : EReal) := by
    rw [val_main_cst_5_apply]
    simp
  rw [val_main_v20_apply, hc, zero_add]
  unfold SumUnpackIdeal.Gen.un6 val_main_v19 val_main_v18
  rw [shapeCast_comp, SumUnpackIdeal.Gen.read (SumUnpackIdeal.Gen.G x) 1112 _ _ i ((i 0).val * 2048 + (i 1).val) (by rewrite [Shape.rowMajor_val_two]; rfl) (by omega)]
  unfold SumUnpackIdeal.Gen.G
  refine Finset.sum_congr rfl fun d _ => ?_
  refine (SumUnpackIdeal.Gen.read8 x 1112 _ _ (idx_main_v20 i d) d ((i 0).val * 2048 + (i 1).val) ?_ (by omega)).trans rfl
  rewrite [Shape.rowMajor_val_three]
  show ((d.val * 2 + (i 0).val) * 2048 + (i 1).val) = d.val * 32 * 128 + ((i 0).val * 2048 + (i 1).val)
  omega

theorem sum7 (x : S8x1160x128.Idx → EReal) (i : S2048.Idx) : val_main_v23 (F := Ideal) x i = SumUnpackIdeal.Gen.un7 (SumUnpackIdeal.Gen.G x) i := by
  have h0 : (i 0).val < 2048 := (i 0).isLt
  have hc : val_main_cst_6 (F := Ideal) (Shape.Idx.first h_S_) = (0 : EReal) := by
    rw [val_main_cst_6_apply]
    simp
  rw [val_main_v23_apply, hc, zero_add]
  unfold SumUnpackIdeal.Gen.un7 val_main_v22 val_main_v21
  rw [SumUnpackIdeal.Gen.read (SumUnpackIdeal.Gen.G x) 1144 _ _ i (i 0).val (by rewrite [Shape.rowMajor_val_one]; rfl) (by omega)]
  unfold SumUnpackIdeal.Gen.G
  refine Finset.sum_congr rfl fun d _ => ?_
  refine (SumUnpackIdeal.Gen.read8 x 1144 _ _ (idx_main_v23 i d) d (i 0).val ?_ (by omega)).trans rfl
  rewrite [Shape.rowMajor_val_two]
  show (d.val * 2048 + (i 0).val) = d.val * 16 * 128 + (i 0).val
  omega

end Cert.SumUnpackRefIdeal.Read

namespace Cert.SumUnpackRun

open Idealize.ShloMosaic Idealize.ShloMosaic.TcCoe
open SumUnpackIdeal SumUnpackIdeal.Gen

theorem algebraic : @Cert.algebraic_SumUnpackIdeal_SumUnpackRefIdeal SumUnpackIdeal.Gen.facts SumUnpackRefIdeal.Gen.facts := by
  intro m g m' g' _ hag
  refine ⟨fun c => un0 (G (m ((c.tc : Thread _ _).loc main_arg0))),
    fun c => un1 (G (m ((c.tc : Thread _ _).loc main_arg0))),
    fun c => un2 (G (m ((c.tc : Thread _ _).loc main_arg0))),
    fun c => un3 (G (m ((c.tc : Thread _ _).loc main_arg0))),
    fun c => un4 (G (m ((c.tc : Thread _ _).loc main_arg0))),
    fun c => un5 (G (m ((c.tc : Thread _ _).loc main_arg0))),
    fun c => un6 (G (m ((c.tc : Thread _ _).loc main_arg0))),
    fun c => un7 (G (m ((c.tc : Thread _ _).loc main_arg0))),
    ?_, ?_⟩
  · refine (θ_run _ _ _).mono (fun r hr c => ?_) (θ_run_and (run_main m g) (unchanged m g))
    obtain ⟨u0, u1, u2, u3, u4, u5, u6, u7⟩ := unpacked (Pipeline.withArrays spec0 c (V0 m c) fun w => (dats m 0 c).arrAt w cfg0.N)
    refine ⟨?_, ?_, ?_, ?_, ?_, ?_, ?_, ?_, hr.2 c⟩
    · exact (((hr.1 c).2 main_v3 (by decide)).trans u0).trans (congrArg un0 (out0 m c))
    · exact (((hr.1 c).2 main_v6 (by decide)).trans u1).trans (congrArg un1 (out0 m c))
    · exact (((hr.1 c).2 main_v9 (by decide)).trans u2).trans (congrArg un2 (out0 m c))
    · exact (((hr.1 c).2 main_v12 (by decide)).trans u3).trans (congrArg un3 (out0 m c))
    · exact (((hr.1 c).2 main_v15 (by decide)).trans u4).trans (congrArg un4 (out0 m c))
    · exact (((hr.1 c).2 main_v18 (by decide)).trans u5).trans (congrArg un5 (out0 m c))
    · exact (((hr.1 c).2 main_v21 (by decide)).trans u6).trans (congrArg un6 (out0 m c))
    · exact (((hr.1 c).2 main_v23 (by decide)).trans u7).trans (congrArg un7 (out0 m c))
  · refine (θ_run _ _ _).mono (fun r hr c => ?_) (SumUnpackRefIdeal.Value.run m' g')
    have e0 := hag c
    obtain ⟨a0, a1, a2, a3, a4, a5, a6, a7, ha⟩ := hr c
    refine ⟨?_, ?_, ?_, ?_, ?_, ?_, ?_, ?_, ha⟩
    · refine a0.trans ?_
      rw [SumUnpackRefIdeal.Read.val_main_v2_eq, e0]
      exact funext fun i => SumUnpackRefIdeal.Read.sum0 _ i
    · refine a1.trans ?_
      rw [SumUnpackRefIdeal.Read.val_main_v5_eq, e0]
      exact funext fun i => SumUnpackRefIdeal.Read.sum1 _ i
    · refine a2.trans ?_
      rw [SumUnpackRefIdeal.Read.val_main_v8_eq, e0]
      exact funext fun i => SumUnpackRefIdeal.Read.sum2 _ i
    · refine a3.trans ?_
      rw [SumUnpackRefIdeal.Read.val_main_v11_eq, e0]
      exact funext fun i => SumUnpackRefIdeal.Read.sum3 _ i
    · refine a4.trans ?_
      rw [SumUnpackRefIdeal.Read.val_main_v14_eq, e0]
      exact funext fun i => SumUnpackRefIdeal.Read.sum4 _ i
    · refine a5.trans ?_
      rw [SumUnpackRefIdeal.Read.val_main_v17_eq, e0]
      exact funext fun i => SumUnpackRefIdeal.Read.sum5 _ i
    · refine a6.trans ?_
      rw [SumUnpackRefIdeal.Read.val_main_v20_eq, e0]
      exact funext fun i => SumUnpackRefIdeal.Read.sum6 _ i
    · refine a7.trans ?_
      rw [SumUnpackRefIdeal.Read.val_main_v23_eq, e0]
      exact funext fun i => SumUnpackRefIdeal.Read.sum7 _ i

end Cert.SumUnpackRun

end
-- ==== Proof.AdamGrpRun.lean ====
/- The gradient summed over the four chips and the optimiser's step on it: kernel and reference end with the same four arrays. -/
module

public import proofs.«01_k».proof.Defs
public import proofs.«01_k».proof.Proof.Gen.AdamGrp.Frame
public import proofs.«01_k».proof.Proof.Gen.AdamGrpIdeal.Frame
public import proofs.«01_k».proof.Proof.Gen.AdamGrpIdeal.Value
public import proofs.«01_k».proof.Proof.Gen.AdamGrpRefIdeal.Run
public import proofs.«01_k».proof.Proof.Gen.AdamGrpRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AdamGrpIdeal.Gen

open AdamGrpIdeal

/-- The gradient: the sum over the four chips. -/
def G (p : S4x4x128x512.Idx → EReal) (i : S4x128x512.Idx) : EReal :=
  ∑ j : Fin 4, p (ix4 j (⟨(i 0).val, (i 0).isLt⟩ : Fin 4) (⟨(i 1).val, (i 1).isLt⟩ : Fin 128) (⟨(i 2).val, (i 2).isLt⟩ : Fin 512))

/-- The first moment's new value. -/
def M (g m : S4x128x512.Idx → EReal) (i : S4x128x512.Idx) : EReal :=
  Ideal.ofBits .f32 0x3F666666#32 * m i + Ideal.ofBits .f32 0x3DCCCCCD#32 * g i

/-- The second moment's new value. -/
def U (g v : S4x128x512.Idx → EReal) (i : S4x128x512.Idx) : EReal :=
  Ideal.ofBits .f32 0x3F7FBE77#32 * v i + Ideal.ofBits .f32 0x3A83126F#32 * (g i * g i)

/-- The step: minus the rate times the ratio of the corrected moments plus the decay. -/
def W (w g m v : S4x128x512.Idx → EReal) (i : S4x128x512.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

/-- The same from the chips' parts. -/
def Mp (m : S4x128x512.Idx → EReal) (p : S4x4x128x512.Idx → EReal) : S4x128x512.Idx → EReal := M (G p) m

/-- The same from the chips' parts. -/
def Up (v : S4x128x512.Idx → EReal) (p : S4x4x128x512.Idx → EReal) : S4x128x512.Idx → EReal := U (G p) v

/-- The same from the chips' parts. -/
def Wp (w m v : S4x128x512.Idx → EReal) (p : S4x4x128x512.Idx → EReal) : S4x128x512.Idx → EReal := W w (G p) m v

/-- The sum of the four chips' blocks. -/
def gb (p0 p1 p2 p3 : Vec Ideal S1x1x128x512 .bf16) (y : S1x128x512.Idx) : EReal :=
  @HAdd.hAdd EReal EReal EReal _ (@HAdd.hAdd EReal EReal EReal _ (@HAdd.hAdd EReal EReal EReal _ (p0 (ix4 (0 : Fin 1) (0 : Fin 1) (⟨(y 1).val, (y 1).isLt⟩ : Fin 128) (⟨(y 2).val, (y 2).isLt⟩ : Fin 512))) (p1 (ix4 (0 : Fin 1) (0 : Fin 1) (⟨(y 1).val, (y 1).isLt⟩ : Fin 128) (⟨(y 2).val, (y 2).isLt⟩ : Fin 512)))) (p2 (ix4 (0 : Fin 1) (0 : Fin 1) (⟨(y 1).val, (y 1).isLt⟩ : Fin 128) (⟨(y 2).val, (y 2).isLt⟩ : Fin 512)))) (p3 (ix4 (0 : Fin 1) (0 : Fin 1) (⟨(y 1).val, (y 1).isLt⟩ : Fin 128) (⟨(y 2).val, (y 2).isLt⟩ : Fin 512)))

theorem payG (p0 p1 p2 p3 : Vec Ideal S1x1x128x512 .bf16) (y : S1x128x512.Idx) : k0_pay2 (k0_pay6 p0 p1 p2 p3) y = gb p0 p1 p2 p3 y := by
  have h0 : (y 0).val < 1 := (y 0).isLt
  unfold gb
  pointwise [k0_pay2, k0_pay6]

theorem payM (p0 p1 p2 p3 : Vec Ideal S1x1x128x512 .bf16) (x : Vec Ideal S1x128x512 .f32) (y : S1x128x512.Idx) : k0_pay4 (k0_pay8 p0 p1 p2 p3 x) y
    = @HAdd.hAdd EReal EReal EReal _ (@HMul.hMul EReal EReal EReal _ (Ideal.ofBits .f32 0x3F666666#32) (x y)) (@HMul.hMul EReal EReal EReal _ (Ideal.ofBits .f32 0x3DCCCCCD#32) (gb p0 p1 p2 p3 y)) := by
  have h0 : (y 0).val < 1 := (y 0).isLt
  unfold gb
  pointwise [k0_pay4, k0_pay8, k0_pay6]

theorem payU (p0 p1 p2 p3 : Vec Ideal S1x1x128x512 .bf16) (x : Vec Ideal S1x128x512 .f32) (y : S1x128x512.Idx) :
    k0_pay5 (k0_pay9 x) (k0_pay10 p0 p1 p2 p3) (Scalar.ofBits .f32 0x3A83126F#32) y
    = @HAdd.hAdd EReal EReal EReal _ (@HMul.hMul EReal EReal EReal _ (Ideal.ofBits .f32 0x3F7FBE77#32) (x y)) (@HMul.hMul EReal EReal EReal _ (Ideal.ofBits .f32 0x3A83126F#32) (@HMul.hMul EReal EReal EReal _ (gb p0 p1 p2 p3 y) (gb p0 p1 p2 p3 y))) := by
  have h0 : (y 0).val < 1 := (y 0).isLt
  unfold gb
  pointwise [k0_pay5, k0_pay1, k0_pay9, k0_pay10, k0_pay6]

theorem payW (w m v : Vec Ideal S1x128x512 .f32) (p0 p1 p2 p3 : Vec Ideal S1x1x128x512 .bf16) (y : S1x128x512.Idx) :
    k0_pay3 (k0_pay7 w) (k0_pay8 p0 p1 p2 p3 m) (k0_pay9 v) (k0_pay10 p0 p1 p2 p3) (Scalar.ofBits .f32 0x3A83126F#32) y
    = @HMul.hMul EReal EReal EReal _ (Ideal.ofBits .f32 0xBA83126F#32) (@HAdd.hAdd EReal EReal EReal _ (Ideal.div (Ideal.div (k0_pay4 (k0_pay8 p0 p1 p2 p3 m) y) (Ideal.ofBits .f32 0x3F26BD02#32)) (@HAdd.hAdd EReal EReal EReal _ (Ideal.sqrt (Ideal.div (k0_pay5 (k0_pay9 v) (k0_pay10 p0 p1 p2 p3) (Scalar.ofBits .f32 0x3A83126F#32) y) (Ideal.ofBits .f32 0x3C231ACC#32))) (Ideal.ofBits .f32 0x322BCC77#32))) (@HMul.hMul EReal EReal EReal _ (Ideal.ofBits .f32 0x3C23D70A#32) (w y))) := by
  have h0 : (y 0).val < 1 := (y 0).isLt
  rw [payM, payU]
  unfold gb
  pointwise [k0_pay3, k0_pay7, k0_pay1, k0_pay8, k0_pay9, k0_pay10, k0_pay6]

theorem piece0 (x : Vec Ideal S4x1x128x512 .bf16) (a b : Fin 1) (p : Fin 128) (q : Fin 512) :
    View.ld x r0_0 (ix4 a b p q) = x (ix4 (⟨0, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece1 (x : Vec Ideal S4x1x128x512 .bf16) (a b : Fin 1) (p : Fin 128) (q : Fin 512) :
    View.ld x r0_1 (ix4 a b p q) = x (ix4 (⟨1, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece2 (x : Vec Ideal S4x1x128x512 .bf16) (a b : Fin 1) (p : Fin 128) (q : Fin 512) :
    View.ld x r0_2 (ix4 a b p q) = x (ix4 (⟨2, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece3 (x : Vec Ideal S4x1x128x512 .bf16) (a b : Fin 1) (p : Fin 128) (q : Fin 512) :
    View.ld x r0_3 (ix4 a b p q) = x (ix4 (⟨3, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem idx : ∀ t : Fin cfg0.N, win0_0.index t = ![t.val, 0, 0] ∧ win0_1.index t = ![t.val, 0, 0] ∧ win0_2.index t = ![t.val, 0, 0] ∧ win0_3.index t = ![0, t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

variable (m : (ℓ : Loc nD τ sig) → Buf (Elt Ideal) ℓ) (c : Dev nD)

theorem blk0 (t : Fin cfg0.N) (i : S1x128x512.Idx) : iblk m c 0 t i = m ((c : Thread nD τ).loc main_arg0)
    (ix3 (⟨t.val, t.isLt⟩ : Fin 4) (⟨(i 1).val, by have : (i 1).val < 128 := (i 1).isLt; omega⟩ : Fin 128) (⟨(i 2).val, by have : (i 2).val < 512 := (i 2).isLt; omega⟩ : Fin 512)) := by
  have h0 : (i 0).val < 1 := (i 0).isLt
  blk_point [iblk, V, idx t]

theorem blk1 (t : Fin cfg0.N) (i : S1x128x512.Idx) : iblk m c 1 t i = m ((c : Thread nD τ).loc main_arg1)
    (ix3 (⟨t.val, t.isLt⟩ : Fin 4) (⟨(i 1).val, by have : (i 1).val < 128 := (i 1).isLt; omega⟩ : Fin 128) (⟨(i 2).val, by have : (i 2).val < 512 := (i 2).isLt; omega⟩ : Fin 512)) := by
  have h0 : (i 0).val < 1 := (i 0).isLt
  blk_point [iblk, V, idx t]

theorem blk2 (t : Fin cfg0.N) (i : S1x128x512.Idx) : iblk m c 2 t i = m ((c : Thread nD τ).loc main_arg2)
    (ix3 (⟨t.val, t.isLt⟩ : Fin 4) (⟨(i 1).val, by have : (i 1).val < 128 := (i 1).isLt; omega⟩ : Fin 128) (⟨(i 2).val, by have : (i 2).val < 512 := (i 2).isLt; omega⟩ : Fin 512)) := by
  have h0 : (i 0).val < 1 := (i 0).isLt
  blk_point [iblk, V, idx t]

theorem blk3 (t : Fin cfg0.N) (i : S4x1x128x512.Idx) : iblk m c 3 t i = m ((c : Thread nD τ).loc main_arg3)
    (ix4 (⟨(i 0).val, by have : (i 0).val < 4 := (i 0).isLt; omega⟩ : Fin 4) (⟨t.val, t.isLt⟩ : Fin 4) (⟨(i 2).val, by have : (i 2).val < 128 := (i 2).isLt; omega⟩ : Fin 128) (⟨(i 3).val, by have : (i 3).val < 512 := (i 3).isLt; omega⟩ : Fin 512)) := by
  have h1 : (i 1).val < 1 := (i 1).isLt
  blk_point [iblk, V, idx t]

theorem gbAt (t : Fin cfg0.N) (y : S1x128x512.Idx) : gb (View.ld (iblk m c 3 t) r0_0) (View.ld (iblk m c 3 t) r0_1) (View.ld (iblk m c 3 t) r0_2) (View.ld (iblk m c 3 t) r0_3) y
    = G (m ((c : Thread nD τ).loc main_arg3)) (ix3 (⟨t.val, t.isLt⟩ : Fin 4) (⟨(y 1).val, by have : (y 1).val < 128 := (y 1).isLt; omega⟩ : Fin 128) (⟨(y 2).val, (y 2).isLt⟩ : Fin 512)) := by
  unfold gb
  rw [piece0, piece1, piece2, piece3]
  simp only [blk3, G]
  rw [Fin.sum_univ_four]
  rfl

theorem arr0 : (dats m 0 c).arrAt 4 cfg0.N = fun i : S4x128x512.Idx => G (m ((c : Thread nD τ).loc main_arg3)) i := by
  refine (dats m 0 c).arrAt_eq_of_covers 4 _ (by decide +kernel) fun t hf y => ?_
  have h0 : (y 0).val < 1 := (y 0).isLt
  have h1 : (y 1).val < 128 := (y 1).isLt
  have h2 : (y 2).val < 512 := (y 2).isLt
  have ht : t.val < 4 := t.isLt
  blk_simp
  rw [after0_4]
  have e : ∀ W : S4x128x512.Idx → EReal, W ((win0_4.blk t).view.emb y) = W (ix3 (⟨t.val, t.isLt⟩ : Fin 4) (⟨(y 1).val, by have : (y 1).val < 128 := (y 1).isLt; omega⟩ : Fin 128) (⟨(y 2).val, (y 2).isLt⟩ : Fin 512)) := fun W => by
    blk_ext [idx t]
  rw [e (G _)]
  unfold out0_4
  rw [View.canon_unit_zero (by decide)]
  exact (payG _ _ _ _ y).trans (gbAt m c t y)
theorem mAt (t : Fin cfg0.N) (y : S1x128x512.Idx) : k0_pay4 (k0_pay8 (View.ld (iblk m c 3 t) r0_0) (View.ld (iblk m c 3 t) r0_1) (View.ld (iblk m c 3 t) r0_2) (View.ld (iblk m c 3 t) r0_3) (iblk m c 1 t)) y
    = Mp (m ((c : Thread nD τ).loc main_arg1)) (m ((c : Thread nD τ).loc main_arg3)) (ix3 (⟨t.val, t.isLt⟩ : Fin 4) (⟨(y 1).val, by have : (y 1).val < 128 := (y 1).isLt; omega⟩ : Fin 128) (⟨(y 2).val, (y 2).isLt⟩ : Fin 512)) := by
  refine (payM _ _ _ _ _ y).trans ?_
  rw [gbAt, blk1]
  rfl

theorem uAt (t : Fin cfg0.N) (y : S1x128x512.Idx) :
    k0_pay5 (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Up (m ((c : Thread nD τ).loc main_arg2)) (m ((c : Thread nD τ).loc main_arg3)) (ix3 (⟨t.val, t.isLt⟩ : Fin 4) (⟨(y 1).val, by have : (y 1).val < 128 := (y 1).isLt; omega⟩ : Fin 128) (⟨(y 2).val, (y 2).isLt⟩ : Fin 512)) := by
  refine (payU _ _ _ _ _ y).trans ?_
  rw [gbAt, blk2]
  rfl

theorem wAt (t : Fin cfg0.N) (y : S1x128x512.Idx) :
    k0_pay3 (k0_pay7 (iblk m c 0 t)) (k0_pay8 (View.ld (iblk m c 3 t) r0_0) (View.ld (iblk m c 3 t) r0_1) (View.ld (iblk m c 3 t) r0_2) (View.ld (iblk m c 3 t) r0_3) (iblk m c 1 t)) (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Wp (m ((c : Thread nD τ).loc main_arg0)) (m ((c : Thread nD τ).loc main_arg1)) (m ((c : Thread nD τ).loc main_arg2)) (m ((c : Thread nD τ).loc main_arg3)) (ix3 (⟨t.val, t.isLt⟩ : Fin 4) (⟨(y 1).val, by have : (y 1).val < 128 := (y 1).isLt; omega⟩ : Fin 128) (⟨(y 2).val, (y 2).isLt⟩ : Fin 512)) := by
  refine (payW _ _ _ _ _ _ _ y).trans ?_
  rw [mAt, uAt, blk0]
  rfl

theorem arr1 : (dats m 0 c).arrAt 5 cfg0.N = fun i : S4x128x512.Idx => Wp (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  have h0 : (y 0).val < 1 := (y 0).isLt
  have h1 : (y 1).val < 128 := (y 1).isLt
  have h2 : (y 2).val < 512 := (y 2).isLt
  have ht : t.val < 4 := t.isLt
  blk_simp
  rw [after0_5]
  have e : ∀ W : S4x128x512.Idx → EReal, W ((win0_5.blk t).view.emb y) = W (ix3 (⟨t.val, t.isLt⟩ : Fin 4) (⟨(y 1).val, by have : (y 1).val < 128 := (y 1).isLt; omega⟩ : Fin 128) (⟨(y 2).val, (y 2).isLt⟩ : Fin 512)) := fun W => by
    blk_ext [idx t]
  rw [e (Wp _ _ _ _)]
  unfold out0_5
  rw [View.canon_unit_zero (by decide)]
  simp only [k0_pay11, k0_pay12, k0_pay13]
  rw [View.ld_unit_zero (by decide), View.ld_unit_zero (by decide), View.ld_unit_zero (by decide)]
  exact wAt m c t y
theorem arr2 : (dats m 0 c).arrAt 6 cfg0.N = fun i : S4x128x512.Idx => Mp (m ((c : Thread nD τ).loc main_arg1)) (m ((c : Thread nD τ).loc main_arg3)) i := by
  refine (dats m 0 c).arrAt_eq_of_covers 6 _ (by decide +kernel) fun t hf y => ?_
  have h0 : (y 0).val < 1 := (y 0).isLt
  have h1 : (y 1).val < 128 := (y 1).isLt
  have h2 : (y 2).val < 512 := (y 2).isLt
  have ht : t.val < 4 := t.isLt
  blk_simp
  rw [after0_6]
  have e : ∀ W : S4x128x512.Idx → EReal, W ((win0_6.blk t).view.emb y) = W (ix3 (⟨t.val, t.isLt⟩ : Fin 4) (⟨(y 1).val, by have : (y 1).val < 128 := (y 1).isLt; omega⟩ : Fin 128) (⟨(y 2).val, (y 2).isLt⟩ : Fin 512)) := fun W => by
    blk_ext [idx t]
  rw [e (Mp _ _)]
  unfold out0_6
  rw [View.canon_unit_zero (by decide)]
  simp only [k0_pay11]
  rw [View.ld_unit_zero (by decide)]
  exact mAt m c t y
theorem arr3 : (dats m 0 c).arrAt 7 cfg0.N = fun i : S4x128x512.Idx => Up (m ((c : Thread nD τ).loc main_arg2)) (m ((c : Thread nD τ).loc main_arg3)) i := by
  refine (dats m 0 c).arrAt_eq_of_covers 7 _ (by decide +kernel) fun t hf y => ?_
  have h0 : (y 0).val < 1 := (y 0).isLt
  have h1 : (y 1).val < 128 := (y 1).isLt
  have h2 : (y 2).val < 512 := (y 2).isLt
  have ht : t.val < 4 := t.isLt
  blk_simp
  rw [after0_7]
  have e : ∀ W : S4x128x512.Idx → EReal, W ((win0_7.blk t).view.emb y) = W (ix3 (⟨t.val, t.isLt⟩ : Fin 4) (⟨(y 1).val, by have : (y 1).val < 128 := (y 1).isLt; omega⟩ : Fin 128) (⟨(y 2).val, (y 2).isLt⟩ : Fin 512)) := fun W => by
    blk_ext [idx t]
  rw [e (Up _ _)]
  unfold out0_7
  rw [View.canon_unit_zero (by decide)]
  simp only [k0_pay12, k0_pay13]
  rw [View.ld_unit_zero (by decide)]
  exact uAt m c t y
end Cert.AdamGrpIdeal.Gen

namespace Cert.AdamGrpRefIdeal.Read

open AdamGrpRefIdeal AdamGrpRefIdeal.Gen Idealize.ShloMosaic Idealize.ShloMosaic.TcCoe Idealize.ShloMosaic.StableHlo

theorem valueG (x3 : S4x4x128x512.Idx → EReal) (i : S4x128x512.Idx) : val_main_v1 (F := Ideal) x3 i = AdamGrpIdeal.Gen.G x3 i := by
  have hc : val_main_cst (F := Ideal) (Shape.Idx.first h_S_) = (0 : EReal) := by
    rw [val_main_cst_apply]
    simp
  rw [val_main_v1_apply, hc, zero_add]
  unfold AdamGrpIdeal.Gen.G
  refine Finset.sum_congr rfl fun d _ => ?_
  rw [val_main_v0_apply]
  show x3 _ = x3 _
  exact congr_arg x3 (funext fun a => Fin.ext (by
    match a with
    | ⟨0, _⟩ => rfl
    | ⟨1, _⟩ => rfl
    | ⟨2, _⟩ => rfl
    | ⟨3, _⟩ => rfl))

theorem gradient (x3 : S4x4x128x512.Idx → EReal) : val_main_v1 (F := Ideal) x3 = AdamGrpIdeal.Gen.G x3 := funext (valueG x3)

theorem valueM (x1 : S4x128x512.Idx → EReal) (x3 : S4x4x128x512.Idx → EReal) (i : S4x128x512.Idx) :
    val_main_v6 (F := Ideal) x1 x3 i = AdamGrpIdeal.Gen.Mp x1 x3 i := by
  unfold AdamGrpIdeal.Gen.Mp
  rw [← gradient]
  rfl

theorem valueU (x2 : S4x128x512.Idx → EReal) (x3 : S4x4x128x512.Idx → EReal) (i : S4x128x512.Idx) :
    val_main_v12 (F := Ideal) x2 x3 i = AdamGrpIdeal.Gen.Up x2 x3 i := by
  unfold AdamGrpIdeal.Gen.Up
  rw [← gradient]
  rfl

theorem valueW (x0 x1 x2 : S4x128x512.Idx → EReal) (x3 : S4x4x128x512.Idx → EReal) (i : S4x128x512.Idx) :
    val_main_v25 (F := Ideal) x0 x1 x2 x3 i = AdamGrpIdeal.Gen.Wp x0 x1 x2 x3 i := by
  unfold AdamGrpIdeal.Gen.Wp
  rw [← gradient]
  rfl

end Cert.AdamGrpRefIdeal.Read

namespace Cert.AdamGrpRun

open Idealize.ShloMosaic Idealize.ShloMosaic.TcCoe
open AdamGrpIdeal AdamGrpIdeal.Gen

theorem algebraic : @Cert.algebraic_AdamGrpIdeal_AdamGrpRefIdeal AdamGrpIdeal.Gen.facts AdamGrpRefIdeal.Gen.facts := by
  intro m g m' g' _ hag
  refine ⟨fun c => fun i : S4x128x512.Idx => G (m ((c.tc : Thread _ _).loc main_arg3)) i, fun c => fun i : S4x128x512.Idx => Wp (m ((c.tc : Thread _ _).loc main_arg0)) (m ((c.tc : Thread _ _).loc main_arg1)) (m ((c.tc : Thread _ _).loc main_arg2)) (m ((c.tc : Thread _ _).loc main_arg3)) i, fun c => fun i : S4x128x512.Idx => Mp (m ((c.tc : Thread _ _).loc main_arg1)) (m ((c.tc : Thread _ _).loc main_arg3)) i, fun c => fun i : S4x128x512.Idx => Up (m ((c.tc : Thread _ _).loc main_arg2)) (m ((c.tc : Thread _ _).loc main_arg3)) i, ?_, ?_⟩
  · refine (θ_run _ _ _).mono (fun r hr c => ?_) (AdamGrpIdeal.Value.run_blocks m g)
    obtain ⟨a0, a1, a2, a3, ha⟩ := hr c
    exact ⟨a0.trans (arr0 m c), a1.trans (arr1 m c), a2.trans (arr2 m c), a3.trans (arr3 m c), ha⟩
  · refine (θ_run _ _ _).mono (fun r hr c => ?_) (AdamGrpRefIdeal.Value.run m' g')
    obtain ⟨e0, e1, e2, e3⟩ := hag c
    obtain ⟨a0, a1, a2, a3, ha⟩ := hr c
    refine ⟨a0.trans ?_, a1.trans ?_, a2.trans ?_, a3.trans ?_, ha⟩
    · rw [AdamGrpRefIdeal.Read.val_main_v1_eq, e3]
      exact funext fun i => AdamGrpRefIdeal.Read.valueG _ i
    · rw [AdamGrpRefIdeal.Read.val_main_v25_eq, e0, e1, e2, e3]
      exact funext fun i => AdamGrpRefIdeal.Read.valueW _ _ _ _ i
    · rw [AdamGrpRefIdeal.Read.val_main_v6_eq, e1, e3]
      exact funext fun i => AdamGrpRefIdeal.Read.valueM _ _ i
    · rw [AdamGrpRefIdeal.Read.val_main_v12_eq, e2, e3]
      exact funext fun i => AdamGrpRefIdeal.Read.valueU _ _ i

end Cert.AdamGrpRun

end
-- ==== Proof.AdamOutRun.lean ====
/- The gradient summed over the four chips and the optimiser's step on it: kernel and reference end with the same four arrays. -/
module

public import proofs.«01_k».proof.Defs
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.AdamOutIdeal.Gen

open AdamOutIdeal

/-- The gradient: the sum over the four chips. -/
def G (p : S4x1x512x2048.Idx → EReal) (i : S1x512x2048.Idx) : EReal :=
  ∑ j : Fin 4, p (ix4 j (⟨(i 0).val, (i 0).isLt⟩ : Fin 1) (⟨(i 1).val, (i 1).isLt⟩ : Fin 512) (⟨(i 2).val, (i 2).isLt⟩ : Fin 2048))

/-- The first moment's new value. -/
def M (g m : S1x512x2048.Idx → EReal) (i : S1x512x2048.Idx) : EReal :=
  Ideal.ofBits .f32 0x3F666666#32 * m i + Ideal.ofBits .f32 0x3DCCCCCD#32 * g i

/-- The second moment's new value. -/
def U (g v : S1x512x2048.Idx → EReal) (i : S1x512x2048.Idx) : EReal :=
  Ideal.ofBits .f32 0x3F7FBE77#32 * v i + Ideal.ofBits .f32 0x3A83126F#32 * (g i * g i)

/-- The step: minus the rate times the ratio of the corrected moments plus the decay. -/
def W (w g m v : S1x512x2048.Idx → EReal) (i : S1x512x2048.Idx) : EReal :=
  Ideal.ofBits .f32 0xBA83126F#32 * (Ideal.div (Ideal.div (M g m i) (Ideal.ofBits .f32 0x3F26BD02#32))
    (Ideal.sqrt (Ideal.div (U g v i) (Ideal.ofBits .f32 0x3C231ACC#32)) + Ideal.ofBits .f32 0x322BCC77#32)
    + Ideal.ofBits .f32 0x3C23D70A#32 * w i)

/-- The same from the chips' parts. -/
def Mp (m : S1x512x2048.Idx → EReal) (p : S4x1x512x2048.Idx → EReal) : S1x512x2048.Idx → EReal := M (G p) m

/-- The same from the chips' parts. -/
def Up (v : S1x512x2048.Idx → EReal) (p : S4x1x512x2048.Idx → EReal) : S1x512x2048.Idx → EReal := U (G p) v

/-- The same from the chips' parts. -/
def Wp (w m v : S1x512x2048.Idx → EReal) (p : S4x1x512x2048.Idx → EReal) : S1x512x2048.Idx → EReal := W w (G p) m v

/-- The sum of the four chips' blocks. -/
def gb (p0 p1 p2 p3 : Vec Ideal S1x1x256x2048 .bf16) (y : S1x256x2048.Idx) : EReal :=
  @HAdd.hAdd EReal EReal EReal _ (@HAdd.hAdd EReal EReal EReal _ (@HAdd.hAdd EReal EReal EReal _ (p0 (ix4 (0 : Fin 1) (0 : Fin 1) (⟨(y 1).val, (y 1).isLt⟩ : Fin 256) (⟨(y 2).val, (y 2).isLt⟩ : Fin 2048))) (p1 (ix4 (0 : Fin 1) (0 : Fin 1) (⟨(y 1).val, (y 1).isLt⟩ : Fin 256) (⟨(y 2).val, (y 2).isLt⟩ : Fin 2048)))) (p2 (ix4 (0 : Fin 1) (0 : Fin 1) (⟨(y 1).val, (y 1).isLt⟩ : Fin 256) (⟨(y 2).val, (y 2).isLt⟩ : Fin 2048)))) (p3 (ix4 (0 : Fin 1) (0 : Fin 1) (⟨(y 1).val, (y 1).isLt⟩ : Fin 256) (⟨(y 2).val, (y 2).isLt⟩ : Fin 2048)))

theorem payG (p0 p1 p2 p3 : Vec Ideal S1x1x256x2048 .bf16) (y : S1x256x2048.Idx) : k0_pay2 (k0_pay6 p0 p1 p2 p3) y = gb p0 p1 p2 p3 y := by
  have h0 : (y 0).val < 1 := (y 0).isLt
  unfold gb
  pointwise [k0_pay2, k0_pay6]

theorem payM (p0 p1 p2 p3 : Vec Ideal S1x1x256x2048 .bf16) (x : Vec Ideal S1x256x2048 .f32) (y : S1x256x2048.Idx) : k0_pay4 (k0_pay8 p0 p1 p2 p3 x) y
    = @HAdd.hAdd EReal EReal EReal _ (@HMul.hMul EReal EReal EReal _ (Ideal.ofBits .f32 0x3F666666#32) (x y)) (@HMul.hMul EReal EReal EReal _ (Ideal.ofBits .f32 0x3DCCCCCD#32) (gb p0 p1 p2 p3 y)) := by
  have h0 : (y 0).val < 1 := (y 0).isLt
  unfold gb
  pointwise [k0_pay4, k0_pay8, k0_pay6]

theorem payU (p0 p1 p2 p3 : Vec Ideal S1x1x256x2048 .bf16) (x : Vec Ideal S1x256x2048 .f32) (y : S1x256x2048.Idx) :
    k0_pay5 (k0_pay9 x) (k0_pay10 p0 p1 p2 p3) (Scalar.ofBits .f32 0x3A83126F#32) y
    = @HAdd.hAdd EReal EReal EReal _ (@HMul.hMul EReal EReal EReal _ (Ideal.ofBits .f32 0x3F7FBE77#32) (x y)) (@HMul.hMul EReal EReal EReal _ (Ideal.ofBits .f32 0x3A83126F#32) (@HMul.hMul EReal EReal EReal _ (gb p0 p1 p2 p3 y) (gb p0 p1 p2 p3 y))) := by
  have h0 : (y 0).val < 1 := (y 0).isLt
  unfold gb
  pointwise [k0_pay5, k0_pay1, k0_pay9, k0_pay10, k0_pay6]

theorem payW (w m v : Vec Ideal S1x256x2048 .f32) (p0 p1 p2 p3 : Vec Ideal S1x1x256x2048 .bf16) (y : S1x256x2048.Idx) :
    k0_pay3 (k0_pay7 w) (k0_pay8 p0 p1 p2 p3 m) (k0_pay9 v) (k0_pay10 p0 p1 p2 p3) (Scalar.ofBits .f32 0x3A83126F#32) y
    = @HMul.hMul EReal EReal EReal _ (Ideal.ofBits .f32 0xBA83126F#32) (@HAdd.hAdd EReal EReal EReal _ (Ideal.div (Ideal.div (k0_pay4 (k0_pay8 p0 p1 p2 p3 m) y) (Ideal.ofBits .f32 0x3F26BD02#32)) (@HAdd.hAdd EReal EReal EReal _ (Ideal.sqrt (Ideal.div (k0_pay5 (k0_pay9 v) (k0_pay10 p0 p1 p2 p3) (Scalar.ofBits .f32 0x3A83126F#32) y) (Ideal.ofBits .f32 0x3C231ACC#32))) (Ideal.ofBits .f32 0x322BCC77#32))) (@HMul.hMul EReal EReal EReal _ (Ideal.ofBits .f32 0x3C23D70A#32) (w y))) := by
  have h0 : (y 0).val < 1 := (y 0).isLt
  rw [payM, payU]
  unfold gb
  pointwise [k0_pay3, k0_pay7, k0_pay1, k0_pay8, k0_pay9, k0_pay10, k0_pay6]

theorem piece0 (x : Vec Ideal S4x1x256x2048 .bf16) (a b : Fin 1) (p : Fin 256) (q : Fin 2048) :
    View.ld x r0_0 (ix4 a b p q) = x (ix4 (⟨0, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece1 (x : Vec Ideal S4x1x256x2048 .bf16) (a b : Fin 1) (p : Fin 256) (q : Fin 2048) :
    View.ld x r0_1 (ix4 a b p q) = x (ix4 (⟨1, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece2 (x : Vec Ideal S4x1x256x2048 .bf16) (a b : Fin 1) (p : Fin 256) (q : Fin 2048) :
    View.ld x r0_2 (ix4 a b p q) = x (ix4 (⟨2, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem piece3 (x : Vec Ideal S4x1x256x2048 .bf16) (a b : Fin 1) (p : Fin 256) (q : Fin 2048) :
    View.ld x r0_3 (ix4 a b p q) = x (ix4 (⟨3, by omega⟩ : Fin 4) (0 : Fin 1) p q) := by
  have h0 : a.val < 1 := a.isLt
  have h1 : b.val < 1 := b.isLt
  show x _ = x _
  exact congr_arg x (funext fun k => Fin.ext (by
    match k with
    | ⟨0, _⟩ => simp [Rect.idx_unit_val] <;> omega
    | ⟨1, _⟩ => simp [Rect.idx_unit_val] <;> omega
    | ⟨2, _⟩ => simp [Rect.idx_unit_val]
    | ⟨3, _⟩ => simp [Rect.idx_unit_val]))

theorem idx : ∀ t : Fin cfg0.N, win0_0.index t = ![0, t.val, 0] ∧ win0_1.index t = ![0, t.val, 0] ∧ win0_2.index t = ![0, t.val, 0] ∧ win0_3.index t = ![0, 0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

theorem blk0 (t : Fin cfg0.N) (i : S1x256x2048.Idx) : iblk m c 0 t i = m ((c : Thread nD τ).loc main_arg0)
    (ix3 (0 : Fin 1) (⟨256 * t.val + (i 1).val, by have : (i 1).val < 256 := (i 1).isLt; have : t.val < 2 := t.isLt; omega⟩ : Fin 512) (⟨(i 2).val, by have : (i 2).val < 2048 := (i 2).isLt; omega⟩ : Fin 2048)) := by
  have h0 : (i 0).val < 1 := (i 0).isLt
  blk_point [iblk, V, idx t]

theorem blk1 (t : Fin cfg0.N) (i : S1x256x2048.Idx) : iblk m c 1 t i = m ((c : Thread nD τ).loc main_arg1)
    (ix3 (0 : Fin 1) (⟨256 * t.val + (i 1).val, by have : (i 1).val < 256 := (i 1).isLt; have : t.val < 2 := t.isLt; omega⟩ : Fin 512) (⟨(i 2).val, by have : (i 2).val < 2048 := (i 2).isLt; omega⟩ : Fin 2048)) := by
  have h0 : (i 0).val < 1 := (i 0).isLt
  blk_point [iblk, V, idx t]

theorem blk2 (t : Fin cfg0.N) (i : S1x256x2048.Idx) : iblk m c 2 t i = m ((c : Thread nD τ).loc main_arg2)
    (ix3 (0 : Fin 1) (⟨256 * t.val + (i 1).val, by have : (i 1).val < 256 := (i 1).isLt; have : t.val < 2 := t.isLt; omega⟩ : Fin 512) (⟨(i 2).val, by have : (i 2).val < 2048 := (i 2).isLt; omega⟩ : Fin 2048)) := by
  have h0 : (i 0).val < 1 := (i 0).isLt
  blk_point [iblk, V, idx t]

theorem blk3 (t : Fin cfg0.N) (i : S4x1x256x2048.Idx) : iblk m c 3 t i = m ((c : Thread nD τ).loc main_arg3)
    (ix4 (⟨(i 0).val, by have : (i 0).val < 4 := (i 0).isLt; omega⟩ : Fin 4) (0 : Fin 1) (⟨256 * t.val + (i 2).val, by have : (i 2).val < 256 := (i 2).isLt; have : t.val < 2 := t.isLt; omega⟩ : Fin 512) (⟨(i 3).val, by have : (i 3).val < 2048 := (i 3).isLt; omega⟩ : Fin 2048)) := by
  have h1 : (i 1).val < 1 := (i 1).isLt
  blk_point [iblk, V, idx t]

theorem gbAt (t : Fin cfg0.N) (y : S1x256x2048.Idx) : gb (View.ld (iblk m c 3 t) r0_0) (View.ld (iblk m c 3 t) r0_1) (View.ld (iblk m c 3 t) r0_2) (View.ld (iblk m c 3 t) r0_3) y
    = G (m ((c : Thread nD τ).loc main_arg3)) (ix3 (0 : Fin 1) (⟨256 * t.val + (y 1).val, by have : (y 1).val < 256 := (y 1).isLt; have : t.val < 2 := t.isLt; omega⟩ : Fin 512) (⟨(y 2).val, (y 2).isLt⟩ : Fin 2048)) := by
  unfold gb
  rw [piece0, piece1, piece2, piece3]
  simp only [blk3, G]
  rw [Fin.sum_univ_four]
  rfl

theorem arr0 : (dats m 0 c).arrAt 4 cfg0.N = fun i : S1x512x2048.Idx => G (m ((c : Thread nD τ).loc main_arg3)) i := by
  refine (dats m 0 c).arrAt_eq_of_covers 4 _ (by decide +kernel) fun t hf y => ?_
  have h0 : (y 0).val < 1 := (y 0).isLt
  have h1 : (y 1).val < 256 := (y 1).isLt
  have h2 : (y 2).val < 2048 := (y 2).isLt
  have ht : t.val < 2 := t.isLt
  blk_simp
  rw [after0_4]
  have e : ∀ W : S1x512x2048.Idx → EReal, W ((win0_4.blk t).view.emb y) = W (ix3 (0 : Fin 1) (⟨256 * t.val + (y 1).val, by have : (y 1).val < 256 := (y 1).isLt; have : t.val < 2 := t.isLt; omega⟩ : Fin 512) (⟨(y 2).val, (y 2).isLt⟩ : Fin 2048)) := fun W => by
    blk_ext [idx t]
  rw [e (G _)]
  unfold out0_4
  rw [View.canon_unit_zero (by decide)]
  exact (payG _ _ _ _ y).trans (gbAt m c t y)
theorem mAt (t : Fin cfg0.N) (y : S1x256x2048.Idx) : k0_pay4 (k0_pay8 (View.ld (iblk m c 3 t) r0_0) (View.ld (iblk m c 3 t) r0_1) (View.ld (iblk m c 3 t) r0_2) (View.ld (iblk m c 3 t) r0_3) (iblk m c 1 t)) y
    = Mp (m ((c : Thread nD τ).loc main_arg1)) (m ((c : Thread nD τ).loc main_arg3)) (ix3 (0 : Fin 1) (⟨256 * t.val + (y 1).val, by have : (y 1).val < 256 := (y 1).isLt; have : t.val < 2 := t.isLt; omega⟩ : Fin 512) (⟨(y 2).val, (y 2).isLt⟩ : Fin 2048)) := by
  refine (payM _ _ _ _ _ y).trans ?_
  rw [gbAt, blk1]
  rfl

theorem uAt (t : Fin cfg0.N) (y : S1x256x2048.Idx) :
    k0_pay5 (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Up (m ((c : Thread nD τ).loc main_arg2)) (m ((c : Thread nD τ).loc main_arg3)) (ix3 (0 : Fin 1) (⟨256 * t.val + (y 1).val, by have : (y 1).val < 256 := (y 1).isLt; have : t.val < 2 := t.isLt; omega⟩ : Fin 512) (⟨(y 2).val, (y 2).isLt⟩ : Fin 2048)) := by
  refine (payU _ _ _ _ _ y).trans ?_
  rw [gbAt, blk2]
  rfl

theorem wAt (t : Fin cfg0.N) (y : S1x256x2048.Idx) :
    k0_pay3 (k0_pay7 (iblk m c 0 t)) (k0_pay8 (View.ld (iblk m c 3 t) r0_0) (View.ld (iblk m c 3 t) r0_1) (View.ld (iblk m c 3 t) r0_2) (View.ld (iblk m c 3 t) r0_3) (iblk m c 1 t)) (k0_pay9 (iblk m c 2 t)) (k0_pay10 (View.ld (iblk m c 3 t) r0_0) (View.ld (iblk m c 3 t) r0_1) (View.ld (iblk m c 3 t) r0_2) (View.ld (iblk m c 3 t) r0_3)) (Scalar.ofBits .f32 0x3A83126F#32) y
    = Wp (m ((c : Thread nD τ).loc main_arg0)) (m ((c : Thread nD τ).loc main_arg1)) (m ((c : Thread nD τ).loc main_arg2)) (m ((c : Thread nD τ).loc main_arg3)) (ix3 (0 : Fin 1) (⟨256 * t.val + (y 1).val, by have : (y 1).val < 256 := (y 1).isLt; have : t.val < 2 := t.isLt; omega⟩ : Fin 512) (⟨(y 2).val, (y 2).isLt⟩ : Fin 2048)) := by
  refine (payW _ _ _ _ _ _ _ y).trans ?_
  rw [mAt, uAt, blk0]
  rfl

theorem arr1 : (dats m 0 c).arrAt 5 cfg0.N = fun i : S1x512x2048.Idx => Wp (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  have h0 : (y 0).val < 1 := (y 0).isLt
  have h1 : (y 1).val < 256 := (y 1).isLt
  have h2 : (y 2).val < 2048 := (y 2).isLt
  have ht : t.val < 2 := t.isLt
  blk_simp
  rw [after0_5]
  have e : ∀ W : S1x512x2048.Idx → EReal, W ((win0_5.blk t).view.emb y) = W (ix3 (0 : Fin 1) (⟨256 * t.val + (y 1).val, by have : (y 1).val < 256 := (y 1).isLt; have : t.val < 2 := t.isLt; omega⟩ : Fin 512) (⟨(y 2).val, (y 2).isLt⟩ : Fin 2048)) := fun W => by
    blk_ext [idx t]
  rw [e (Wp _ _ _ _)]
  unfold out0_5
  rw [View.canon_unit_zero (by decide)]
  simp only [k0_pay11, k0_pay12, k0_pay13]
  rw [View.ld_unit_zero (by decide), View.ld_unit_zero (by decide), View.ld_unit_zero (by decide)]
  exact wAt m c t y
theorem arr2 : (dats m 0 c).arrAt 6 cfg0.N = fun i : S1x512x2048.Idx => Mp (m ((c : Thread nD τ).loc main_arg1)) (m ((c : Thread nD τ).loc main_arg3)) i := by
  refine (dats m 0 c).arrAt_eq_of_covers 6 _ (by decide +kernel) fun t hf y => ?_
  have h0 : (y 0).val < 1 := (y 0).isLt
  have h1 : (y 1).val < 256 := (y 1).isLt
  have h2 : (y 2).val < 2048 := (y 2).isLt
  have ht : t.val < 2 := t.isLt
  blk_simp
  rw [after0_6]
  have e : ∀ W : S1x512x2048.Idx → EReal, W ((win0_6.blk t).view.emb y) = W (ix3 (0 : Fin 1) (⟨256 * t.val + (y 1).val, by have : (y 1).val < 256 := (y 1).isLt; have : t.val < 2 := t.isLt; omega⟩ : Fin 512) (⟨(y 2).val, (y 2).isLt⟩ : Fin 2048)) := fun W => by
    blk_ext [idx t]
  rw [e (Mp _ _)]
  unfold out0_6
  rw [View.canon_unit_zero (by decide)]
  simp only [k0_pay11]
  rw [View.ld_unit_zero (by decide)]
  exact mAt m c t y
theorem arr3 : (dats m 0 c).arrAt 7 cfg0.N = fun i : S1x512x2048.Idx => Up (m ((c : Thread nD τ).loc main_arg2)) (m ((c : Thread nD τ).loc main_arg3)) i := by
  refine (dats m 0 c).arrAt_eq_of_covers 7 _ (by decide +kernel) fun t hf y => ?_
  have h0 : (y 0).val < 1 := (y 0).isLt
  have h1 : (y 1).val < 256 := (y 1).isLt
  have h2 : (y 2).val < 2048 := (y 2).isLt
  have ht : t.val < 2 := t.isLt
  blk_simp
  rw [after0_7]
  have e : ∀ W : S1x512x2048.Idx → EReal, W ((win0_7.blk t).view.emb y) = W (ix3 (0 : Fin 1) (⟨256 * t.val + (y 1).val, by have : (y 1).val < 256 := (y 1).isLt; have : t.val < 2 := t.isLt; omega⟩ : Fin 512) (⟨(y 2).val, (y 2).isLt⟩ : Fin 2048)) := fun W => by
    blk_ext [idx t]
  rw [e (Up _ _)]
  unfold out0_7
  rw [View.canon_unit_zero (by decide)]
  simp only [k0_pay12, k0_pay13]
  rw [View.ld_unit_zero (by decide)]
  exact uAt m c t y
end Cert.AdamOutIdeal.Gen

namespace Cert.AdamOutRefIdeal.Read

open AdamOutRefIdeal AdamOutRefIdeal.Gen Idealize.ShloMosaic Idealize.ShloMosaic.TcCoe Idealize.ShloMosaic.StableHlo

theorem valueG (x3 : S4x1x512x2048.Idx → EReal) (i : S1x512x2048.Idx) : val_main_v1 (F := Ideal) x3 i = AdamOutIdeal.Gen.G x3 i := by
  have hc : val_main_cst (F := Ideal) (Shape.Idx.first h_S_) = (0 : EReal) := by
    rw [val_main_cst_apply]
    simp
  rw [val_main_v1_apply, hc, zero_add]
  unfold AdamOutIdeal.Gen.G
  refine Finset.sum_congr rfl fun d _ => ?_
  rw [val_main_v0_apply]
  show x3 _ = x3 _
  exact congr_arg x3 (funext fun a => Fin.ext (by
    match a with
    | ⟨0, _⟩ => rfl
    | ⟨1, _⟩ => rfl
    | ⟨2, _⟩ => rfl
    | ⟨3, _⟩ => rfl))

theorem gradient (x3 : S4x1x512x2048.Idx → EReal) : val_main_v1 (F := Ideal) x3 = AdamOutIdeal.Gen.G x3 := funext (valueG x3)

theorem valueM (x1 : S1x512x2048.Idx → EReal) (x3 : S4x1x512x2048.Idx → EReal) (i : S1x512x2048.Idx) :
    val_main_v6 (F := Ideal) x1 x3 i = AdamOutIdeal.Gen.Mp x1 x3 i := by
  unfold AdamOutIdeal.Gen.Mp
  rw [← gradient]
  rfl

theorem valueU (x2 : S1x512x2048.Idx → EReal) (x3 : S4x1x512x2048.Idx → EReal) (i : S1x512x2048.Idx) :
    val_main_v12 (F := Ideal) x2 x3 i = AdamOutIdeal.Gen.Up x2 x3 i := by
  unfold AdamOutIdeal.Gen.Up
  rw [← gradient]
  rfl

theorem valueW (x0 x1 x2 : S1x512x2048.Idx → EReal) (x3 : S4x1x512x2048.Idx → EReal) (i : S1x512x2048.Idx) :
    val_main_v25 (F := Ideal) x0 x1 x2 x3 i = AdamOutIdeal.Gen.Wp x0 x1 x2 x3 i := by
  unfold AdamOutIdeal.Gen.Wp
  rw [← gradient]
  rfl

end Cert.AdamOutRefIdeal.Read

namespace Cert.AdamOutRun

open Idealize.ShloMosaic Idealize.ShloMosaic.TcCoe
open AdamOutIdeal AdamOutIdeal.Gen

theorem algebraic : @Cert.algebraic_AdamOutIdeal_AdamOutRefIdeal AdamOutIdeal.Gen.facts AdamOutRefIdeal.Gen.facts := by
  intro m g m' g' _ hag
  refine ⟨fun c => fun i : S1x512x2048.Idx => G (m ((c.tc : Thread _ _).loc main_arg3)) i, fun c => fun i : S1x512x2048.Idx => Wp (m ((c.tc : Thread _ _).loc main_arg0)) (m ((c.tc : Thread _ _).loc main_arg1)) (m ((c.tc : Thread _ _).loc main_arg2)) (m ((c.tc : Thread _ _).loc main_arg3)) i, fun c => fun i : S1x512x2048.Idx => Mp (m ((c.tc : Thread _ _).loc main_arg1)) (m ((c.tc : Thread _ _).loc main_arg3)) i, fun c => fun i : S1x512x2048.Idx => Up (m ((c.tc : Thread _ _).loc main_arg2)) (m ((c.tc : Thread _ _).loc main_arg3)) i, ?_, ?_⟩
  · refine (θ_run _ _ _).mono (fun r hr c => ?_) (AdamOutIdeal.Value.run_blocks m g)
    obtain ⟨a0, a1, a2, a3, ha⟩ := hr c
    exact ⟨a0.trans (arr0 m c), a1.trans (arr1 m c), a2.trans (arr2 m c), a3.trans (arr3 m c), ha⟩
  · refine (θ_run _ _ _).mono (fun r hr c => ?_) (AdamOutRefIdeal.Value.run m' g')
    obtain ⟨e0, e1, e2, e3⟩ := hag c
    obtain ⟨a0, a1, a2, a3, ha⟩ := hr c
    refine ⟨a0.trans ?_, a1.trans ?_, a2.trans ?_, a3.trans ?_, ha⟩
    · rw [AdamOutRefIdeal.Read.val_main_v1_eq, e3]
      exact funext fun i => AdamOutRefIdeal.Read.valueG _ i
    · rw [AdamOutRefIdeal.Read.val_main_v25_eq, e0, e1, e2, e3]
      exact funext fun i => AdamOutRefIdeal.Read.valueW _ _ _ _ i
    · rw [AdamOutRefIdeal.Read.val_main_v6_eq, e1, e3]
      exact funext fun i => AdamOutRefIdeal.Read.valueM _ _ i
    · rw [AdamOutRefIdeal.Read.val_main_v12_eq, e2, e3]
      exact funext fun i => AdamOutRefIdeal.Read.valueU _ _ i

end Cert.AdamOutRun

end
-- ==== Proof.Numbered.lean ====
/- Arrays of extended reals read as functions of natural numbers, zero outside the array. -/
module

public import Idealize.ShloMosaic.Lib.Pointwise
public import Idealize.ShloMosaic.Lib.ValueIdx

@[expose] public section

open Idealize.ShloMosaic

namespace Cert.Numbered

/-- The function of two numbers that an array of two axes holds. -/
noncomputable def at2 {A B : ℕ} (x : (⟨2, ![A, B]⟩ : Shape).Idx → EReal) : ℕ → ℕ → EReal := fun n e =>
  if h : n < A ∧ e < B then x (ix2 (⟨n, h.1⟩ : Fin A) (⟨e, h.2⟩ : Fin B)) else 0

theorem at2_spec {A B : ℕ} (x : (⟨2, ![A, B]⟩ : Shape).Idx → EReal) (i : (⟨2, ![A, B]⟩ : Shape).Idx) :
    x i = at2 x (i 0).val (i 1).val := by
  have h0 : (i 0).val < A := (i 0).isLt
  have h1 : (i 1).val < B := (i 1).isLt
  have e : (ix2 (⟨(i 0).val, h0⟩ : Fin A) (⟨(i 1).val, h1⟩ : Fin B) : (⟨2, ![A, B]⟩ : Shape).Idx) = i := by
    funext k; fin_cases k <;> rfl
  rw [at2, dif_pos ⟨h0, h1⟩, e]

/-- The function of three numbers that an array of three axes holds. -/
noncomputable def at3 {A B C : ℕ} (x : (⟨3, ![A, B, C]⟩ : Shape).Idx → EReal) : ℕ → ℕ → ℕ → EReal := fun n e k =>
  if h : n < A ∧ e < B ∧ k < C then x (ix3 (⟨n, h.1⟩ : Fin A) (⟨e, h.2.1⟩ : Fin B) (⟨k, h.2.2⟩ : Fin C)) else 0

theorem at3_spec {A B C : ℕ} (x : (⟨3, ![A, B, C]⟩ : Shape).Idx → EReal) (i : (⟨3, ![A, B, C]⟩ : Shape).Idx) :
    x i = at3 x (i 0).val (i 1).val (i 2).val := by
  have h0 : (i 0).val < A := (i 0).isLt
  have h1 : (i 1).val < B := (i 1).isLt
  have h2 : (i 2).val < C := (i 2).isLt
  have e : (ix3 (⟨(i 0).val, h0⟩ : Fin A) (⟨(i 1).val, h1⟩ : Fin B) (⟨(i 2).val, h2⟩ : Fin C) : (⟨3, ![A, B, C]⟩ : Shape).Idx) = i := by
    funext k; fin_cases k <;> rfl
  rw [at3, dif_pos ⟨h0, h1, h2⟩, e]

end Cert.Numbered
-- ==== Proof.GateFwdRun.lean ====
/- The gate's forward pass: kernel and reference end with the same array. -/
module

public import proofs.«01_k».proof.Defs
public import proofs.«01_k».proof.Proof.Gen.GateFwd.Frame
public import proofs.«01_k».proof.Proof.Gen.GateFwdIdeal.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Numbered
public import proofs.«01_k».proof.Proof.GateMath
public import Idealize.ShloMosaic.Lib.WordCmp
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

open Cert.Numbered

noncomputable section

namespace Cert.GateFwdIdeal.Gen

open GateFwdIdeal

/-- The activation: the input times half of one plus the error function of the input over the root of two. -/
def ge (x : EReal) : EReal := x * (Ideal.erf (x * (((Real.sqrt 2)⁻¹ : ℝ) : EReal)) + 1) * Ideal.ofBits .f32 0x3F000000#32

/-- The mean of a row. -/
def mean (v : ℕ → EReal) : EReal := Ideal.div (∑ k : Fin 2048, v k.val) (Ideal.ofBits .f32 0x45000000#32)

/-- The layer norm of a row at one place, scaled and shifted. -/
def norm (v : ℕ → EReal) (g b : EReal) (e : ℕ) : EReal :=
  (v e - mean v) * Ideal.rsqrt (mean (fun k => (v k - mean v) * (v k - mean v)) + Ideal.ofBits .f32 0x358637BD#32) * g + b

/-- A group's spatial product at row `r` of a chunk: over the rows up to `r` of the chunk that starts at row `n`. -/
def spatial (z : ℕ → ℕ → EReal) (lg lb : ℕ → EReal) (w : ℕ → EReal) (n r e : ℕ) : EReal :=
  ∑ s : Fin 128, (if s.val ≤ r then w s.val else 0) * norm (fun k => ge (z (n + s.val) (2048 + k))) (lg e) (lb e) e

/-- The gated rows. -/
def G (z : ℕ → ℕ → EReal) (lg lb : ℕ → EReal) (w : ℕ → ℕ → ℕ → EReal) (bs : ℕ → ℕ → EReal) (n e : ℕ) : EReal :=
  ge (z n e) * (spatial z lg lb (w (e / 256) (n % 128)) (128 * (n / 128)) (n % 128) e + bs (e / 256) (n % 128))

theorem named_sqrt_half : Named.named (F := Ideal) κ "sqrt_half" (φ := .f32) 0x3F3504F3#32 = (((Real.sqrt 2)⁻¹ : ℝ) : EReal) :=
  IdealRules.named_const.ideal_named_scalar κ "sqrt_half" _ _ rfl

theorem pay3_at {a : ℕ → ℕ → EReal} {v : Vec Ideal S128x2048 .f32} (hv : ∀ i, v i = a (i 0).val (i 1).val) (i : S128x2048.Idx) :
    k0_pay3 v i = ge (a (i 0).val (i 1).val) := by
  unfold k0_pay3
  pointwise
  rw [named_sqrt_half, hv]
  rfl

theorem pay4_at {a : ℕ → ℕ → EReal} {lg lb : ℕ → EReal} {v : Vec Ideal S128x2048 .f32} {g b : Vec Ideal S1x2048 .f32}
    (hv : ∀ i, v i = a (i 0).val (2048 + (i 1).val)) (hg : ∀ i, g i = lg (i 1).val) (hb : ∀ i, b i = lb (i 1).val) (i : S128x2048.Idx) :
    k0_pay4 v g b i = norm (fun k => ge (a (i 0).val (2048 + k))) (lg (i 1).val) (lb (i 1).val) (i 1).val := by
  unfold k0_pay4
  pointwise
  simp only [named_sqrt_half, hv, hg, hb]
  rfl

theorem select_mask {α : Type} (i : S128x128.Idx) (a b : α) : Scalar.select (k0_pay5 i) a b = if (i 1).val ≤ (i 0).val then a else b := by
  unfold k0_pay5
  pointwise
  have h0 : (i 0).val < 128 := (i 0).isLt
  have h1 : (i 1).val < 128 := (i 1).isLt
  rw [WordCmp.cmpi_sle_ofNat (by omega) (by omega)]
  by_cases h : (i 1).val ≤ (i 0).val <;> simp [h, Scalar.select]

/-- The masked weights of a group. -/
def wmT (W : Vec Ideal S1x128x128 .f32) : FVec Ideal S128x128 .bf16 :=
  truncf .bf16 (select k0_pay5 (shapeCast S128x128 W shapeCasts_S1x128x128_S128x128) (broadcast S128x128 (Scalar.ofBits .f32 0x00000000#32))) bitsLt_bf16_f32

theorem wmT_at {w : ℕ → ℕ → EReal} {W : Vec Ideal S1x128x128 .f32} (hw : ∀ i, W i = w (i 1).val (i 2).val) (i : S128x128.Idx) :
    wmT W i = if (i 1).val ≤ (i 0).val then w (i 0).val (i 1).val else 0 := by
  unfold wmT
  pointwise
  rw [select_mask, hw]
  split_ifs
  · rfl
  · rfl

/-- A group's lanes of a block. -/
def lanes (off : ℕ) (hs : S128x2048.Slices ![0, off] S128x256) (B : FVec Ideal S128x2048 .f32) : FVec Ideal S128x256 .f32 :=
  extractStridedSlice S128x256 ![0, off] B hs

theorem lanes_at {off : ℕ} {hs : S128x2048.Slices ![0, off] S128x256} {f : ℕ → ℕ → EReal} {B : FVec Ideal S128x2048 .f32}
    (hB : ∀ i, B i = f (i 0).val (i 1).val) (i : S128x256.Idx) : lanes off hs B i = f (i 0).val (off + (i 1).val) := by
  unfold lanes extractStridedSlice
  rw [hB]
  show f (0 + (i 0).val) (off + (i 1).val) = _
  rw [Nat.zero_add]

/-- The computation that the eight groups run, the group's first lane a parameter. -/
def groupT (off : ℕ) (hs : S128x2048.Slices ![0, off] S128x256) (A L : FVec Ideal S128x2048 .f32) (W : Vec Ideal S1x128x128 .f32) (b : Vec Ideal S128x1 .f32) :
    FVec Ideal S128x256 .bf16 :=
  truncf .bf16 (mulf (lanes off hs A) (addf (matmul dot_S128x128_S128x256_S128x256_1_0_0_1_n_n none (wmT W)
    (truncf .bf16 (lanes off hs L) bitsLt_bf16_f32) (constant S128x256 .f32 0x00000000#32))
    (broadcastTo S128x256 (shapeCast S128x1 b shapeCasts_S128x1_S128x1) broadcasts_S128x1_S128x256))) bitsLt_bf16_f32

theorem groupT_at {off : ℕ} {hs : S128x2048.Slices ![0, off] S128x256} {a l : ℕ → ℕ → EReal} {w : ℕ → ℕ → EReal} {q : ℕ → EReal}
    {A L : FVec Ideal S128x2048 .f32} {W : Vec Ideal S1x128x128 .f32} {b : Vec Ideal S128x1 .f32}
    (hA : ∀ i, A i = a (i 0).val (i 1).val) (hL : ∀ i, L i = l (i 0).val (i 1).val) (hW : ∀ i, W i = w (i 1).val (i 2).val)
    (hb : ∀ i, b i = q (i 0).val) (i : S128x256.Idx) :
    groupT off hs A L W b i = a (i 0).val (off + (i 1).val)
      * ((∑ s : Fin 128, (if s.val ≤ (i 0).val then w (i 0).val s.val else 0) * l s.val (off + (i 1).val)) + q (i 0).val) := by
  unfold groupT
  pointwise
  simp only [lanes_at hA, lanes_at hL, wmT_at hW, hb]
  rfl

theorem piece_lane {f : ℕ → ℕ → EReal} {off : ℕ} {inb} {p : FVec Ideal S128x256 .bf16} (hp : ∀ x, p x = f (x 0).val (off + (x 1).val)) :
    ∀ x : (Rect.unit (s := S128x2048) ![0, off] ![128, 256] inb).shape.Idx,
      p x = (fun i : S128x2048.Idx => f (i 0).val (i 1).val) ((Rect.unit (s := S128x2048) ![0, off] ![128, 256] inb).emb x) := by
  intro x
  rw [hp]
  show _ = f (0 + 1 * (x 0).val) (off + 1 * (x 1).val)
  rw [one_mul, one_mul, zero_add]

theorem canon_lanes (f : ℕ → ℕ → EReal) {p0 p1 p2 p3 p4 p5 p6 p7 : FVec Ideal S128x256 .bf16}
    (h0 : ∀ x, p0 x = f (x 0).val (0 + (x 1).val)) (h1 : ∀ x, p1 x = f (x 0).val (256 + (x 1).val)) (h2 : ∀ x, p2 x = f (x 0).val (512 + (x 1).val)) (h3 : ∀ x, p3 x = f (x 0).val (768 + (x 1).val)) (h4 : ∀ x, p4 x = f (x 0).val (1024 + (x 1).val)) (h5 : ∀ x, p5 x = f (x 0).val (1280 + (x 1).val)) (h6 : ∀ x, p6 x = f (x 0).val (1536 + (x 1).val)) (h7 : ∀ x, p7 x = f (x 0).val (1792 + (x 1).val)) (y : S128x2048.Idx) :
    View.canon (Val := Elt Ideal) (e := .bf16) [⟨Rect.unit ![0, 1792] ![128, 256] inb_S128x2048_S128x256_0_1792, p7⟩,
      ⟨Rect.unit ![0, 1536] ![128, 256] inb_S128x2048_S128x256_0_1536, p6⟩,
      ⟨Rect.unit ![0, 1280] ![128, 256] inb_S128x2048_S128x256_0_1280, p5⟩,
      ⟨Rect.unit ![0, 1024] ![128, 256] inb_S128x2048_S128x256_0_1024, p4⟩,
      ⟨Rect.unit ![0, 768] ![128, 256] inb_S128x2048_S128x256_0_768, p3⟩,
      ⟨Rect.unit ![0, 512] ![128, 256] inb_S128x2048_S128x256_0_512, p2⟩,
      ⟨Rect.unit ![0, 256] ![128, 256] inb_S128x2048_S128x256_0_256, p1⟩,
      ⟨Rect.unit ![0, 0] ![128, 256] inb_S128x2048_S128x256_0_0, p0⟩] y = f (y 0).val (y 1).val := by
  have e := View.canon_append_of_piecesOf (Val := Elt Ideal) (e := .bf16) (fun i : S128x2048.Idx => f (i 0).val (i 1).val) []
    [⟨Rect.unit ![0, 1792] ![128, 256] inb_S128x2048_S128x256_0_1792, p7⟩,
      ⟨Rect.unit ![0, 1536] ![128, 256] inb_S128x2048_S128x256_0_1536, p6⟩,
      ⟨Rect.unit ![0, 1280] ![128, 256] inb_S128x2048_S128x256_0_1280, p5⟩,
      ⟨Rect.unit ![0, 1024] ![128, 256] inb_S128x2048_S128x256_0_1024, p4⟩,
      ⟨Rect.unit ![0, 768] ![128, 256] inb_S128x2048_S128x256_0_768, p3⟩,
      ⟨Rect.unit ![0, 512] ![128, 256] inb_S128x2048_S128x256_0_512, p2⟩,
      ⟨Rect.unit ![0, 256] ![128, 256] inb_S128x2048_S128x256_0_256, p1⟩,
      ⟨Rect.unit ![0, 0] ![128, 256] inb_S128x2048_S128x256_0_0, p0⟩]
    ⟨piece_lane (inb := inb_S128x2048_S128x256_0_1792) h7, piece_lane (inb := inb_S128x2048_S128x256_0_1536) h6, piece_lane (inb := inb_S128x2048_S128x256_0_1280) h5, piece_lane (inb := inb_S128x2048_S128x256_0_1024) h4, piece_lane (inb := inb_S128x2048_S128x256_0_768) h3, piece_lane (inb := inb_S128x2048_S128x256_0_512) h2, piece_lane (inb := inb_S128x2048_S128x256_0_256) h1, piece_lane (inb := inb_S128x2048_S128x256_0_0) h0, trivial⟩ y
    (View.cover_of_tiledL _ ![128, 256] (by sl_kernel_rfl) y)
  rwa [List.append_nil] at e

theorem idx : ∀ t : Fin cfg0.N, win0_0.index t = ![t.val, 0] ∧ win0_1.index t = ![0, 0] ∧ win0_2.index t = ![0, 0] ∧ win0_3.index t = ![0, 0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

theorem blk0 (t : Fin cfg0.N) (i : S128x4096.Idx) : iblk m c 0 t i = at2 (m ((c : Thread nD τ).loc main_arg0)) (128 * t.val + (i 0).val) (i 1).val := by
  have ht : t.val < 16 := t.isLt
  have h0 : (i 0).val < 128 := (i 0).isLt
  have e : iblk m c 0 t i = (m ((c : Thread nD τ).loc main_arg0)) (ix2 (⟨128 * t.val + (i 0).val, by omega⟩ : Fin 2048) (i 1 : Fin 4096)) := by
    blk_point [iblk, V, idx t]
  rw [e, at2_spec (m ((c : Thread nD τ).loc main_arg0))]
  rfl

theorem blk1 (t : Fin cfg0.N) (i : S1x2048.Idx) : iblk m c 1 t i = at2 (m ((c : Thread nD τ).loc main_arg1)) 0 (i 1).val := by
  have h0 : (i 0).val < 1 := (i 0).isLt
  have ht : t.val < 16 := t.isLt
  have e : iblk m c 1 t i = (m ((c : Thread nD τ).loc main_arg1)) (ix2 (0 : Fin 1) (i 1 : Fin 2048)) := by
    blk_point [iblk, V, idx t]
  rw [e, at2_spec (m ((c : Thread nD τ).loc main_arg1))]
  rfl

theorem blk2 (t : Fin cfg0.N) (i : S1x2048.Idx) : iblk m c 2 t i = at2 (m ((c : Thread nD τ).loc main_arg2)) 0 (i 1).val := by
  have h0 : (i 0).val < 1 := (i 0).isLt
  have ht : t.val < 16 := t.isLt
  have e : iblk m c 2 t i = (m ((c : Thread nD τ).loc main_arg2)) (ix2 (0 : Fin 1) (i 1 : Fin 2048)) := by
    blk_point [iblk, V, idx t]
  rw [e, at2_spec (m ((c : Thread nD τ).loc main_arg2))]
  rfl

theorem blk3 (t : Fin cfg0.N) (i : S8x128x128.Idx) : iblk m c 3 t i = at3 (m ((c : Thread nD τ).loc main_arg3)) (i 0).val (i 1).val (i 2).val := by
  have ht : t.val < 16 := t.isLt
  have e : iblk m c 3 t i = (m ((c : Thread nD τ).loc main_arg3)) i := by
    blk_point [iblk, V, idx t]
  rw [e, at3_spec (m ((c : Thread nD τ).loc main_arg3))]

theorem blk4 (t : Fin cfg0.N) (i : S128x8.Idx) : iblk m c 4 t i = at2 (m ((c : Thread nD τ).loc main_arg4)) (i 1).val (i 0).val := by
  have e : iblk m c 4 t i = (m ((c : Thread nD τ).loc main_arg4)) (ix2 (i 1 : Fin 8) (i 0 : Fin 128)) := by
    blk_point [iblk, V, idx t]
  rw [e, at2_spec (m ((c : Thread nD τ).loc main_arg4))]
  rfl

theorem ldz (t : Fin cfg0.N) (off : ℕ) (inb) (i : S128x2048.Idx) :
    View.ld (iblk m c 0 t) (Rect.unit ![0, off] ![128, 2048] inb) i = at2 (m ((c : Thread nD τ).loc main_arg0)) (128 * t.val + (i 0).val) (off + (i 1).val) := by
  rw [View.ld_apply, blk0]
  show at2 _ (128 * t.val + (0 + 1 * (i 0).val)) (off + 1 * (i 1).val) = _
  rw [one_mul, one_mul, zero_add]

theorem ldw (t : Fin cfg0.N) (g : ℕ) (inb) (i : S1x128x128.Idx) :
    View.ld (iblk m c 3 t) (Rect.unit ![g, 0, 0] ![1, 128, 128] inb) i = at3 (m ((c : Thread nD τ).loc main_arg3)) g (i 1).val (i 2).val := by
  have h0 : (i 0).val < 1 := (i 0).isLt
  rw [View.ld_apply, blk3]
  show at3 _ (g + 1 * (i 0).val) (0 + 1 * (i 1).val) (0 + 1 * (i 2).val) = _
  rw [show (i 0).val = 0 by omega, mul_zero, add_zero, one_mul, one_mul, zero_add, zero_add]

theorem ldb (t : Fin cfg0.N) (g : ℕ) (inb) (i : S128x1.Idx) :
    View.ld (iblk m c 4 t) (Rect.unit ![0, g] ![128, 1] inb) i = at2 (m ((c : Thread nD τ).loc main_arg4)) g (i 0).val := by
  have h1 : (i 1).val < 1 := (i 1).isLt
  rw [View.ld_apply, blk4]
  show at2 _ (g + 1 * (i 1).val) (0 + 1 * (i 0).val) = _
  rw [show (i 1).val = 0 by omega, mul_zero, add_zero, one_mul, zero_add]

/-- The first half's activation and the second half's layer norm, as a step computes them. -/
def ab (t : Fin cfg0.N) : FVec Ideal S128x2048 .f32 := k0_pay3 (View.ld (iblk m c 0 t) (Rect.unit ![0, 0] ![128, 2048] inb_S128x4096_S128x2048_0_0))

@[inherit_doc ab]
def lb (t : Fin cfg0.N) : FVec Ideal S128x2048 .f32 := k0_pay4 (View.ld (iblk m c 0 t) (Rect.unit ![0, 2048] ![128, 2048] inb_S128x4096_S128x2048_0_2048)) (iblk m c 1 t) (iblk m c 2 t)

theorem ab_at (t : Fin cfg0.N) (i : S128x2048.Idx) : ab m c t i = ge (at2 (m ((c : Thread nD τ).loc main_arg0)) (128 * t.val + (i 0).val) (i 1).val) := by
  exact pay3_at (a := fun r e => at2 (m ((c : Thread nD τ).loc main_arg0)) (128 * t.val + r) e) (fun i => by rw [ldz, zero_add]) i

theorem lb_at (t : Fin cfg0.N) (i : S128x2048.Idx) : lb m c t i =
    norm (fun k => ge (at2 (m ((c : Thread nD τ).loc main_arg0)) (128 * t.val + (i 0).val) (2048 + k))) (at2 (m ((c : Thread nD τ).loc main_arg1)) 0 (i 1).val) (at2 (m ((c : Thread nD τ).loc main_arg2)) 0 (i 1).val) (i 1).val := by
  exact pay4_at (a := fun r e => at2 (m ((c : Thread nD τ).loc main_arg0)) (128 * t.val + r) e) (lg := at2 (m ((c : Thread nD τ).loc main_arg1)) 0) (lb := at2 (m ((c : Thread nD τ).loc main_arg2)) 0) (fun i => ldz m c t 2048 _ i) (blk1 m c t) (blk2 m c t) i

/-- A step's rows of the gated array. -/
def rows (t : Fin cfg0.N) (r e : ℕ) : EReal := G (at2 (m ((c : Thread nD τ).loc main_arg0))) (at2 (m ((c : Thread nD τ).loc main_arg1)) 0) (at2 (m ((c : Thread nD τ).loc main_arg2)) 0) (at3 (m ((c : Thread nD τ).loc main_arg3))) (at2 (m ((c : Thread nD τ).loc main_arg4))) (128 * t.val + r) e

theorem piece (t : Fin cfg0.N) (g : ℕ) (hg : g < 8) (hs) (inw) (inl) (i : S128x256.Idx) :
    groupT (256 * g) hs (ab m c t) (lb m c t) (View.ld (iblk m c 3 t) (Rect.unit ![g, 0, 0] ![1, 128, 128] inw)) (View.ld (iblk m c 4 t) (Rect.unit ![0, g] ![128, 1] inl)) i
      = rows m c t (i 0).val (256 * g + (i 1).val) := by
  have h0 : (i 0).val < 128 := (i 0).isLt
  have h1 : (i 1).val < 256 := (i 1).isLt
  rw [groupT_at (a := fun r e => ge (at2 (m ((c : Thread nD τ).loc main_arg0)) (128 * t.val + r) e))
    (l := fun r e => norm (fun k => ge (at2 (m ((c : Thread nD τ).loc main_arg0)) (128 * t.val + r) (2048 + k))) (at2 (m ((c : Thread nD τ).loc main_arg1)) 0 e) (at2 (m ((c : Thread nD τ).loc main_arg2)) 0 e) e)
    (w := at3 (m ((c : Thread nD τ).loc main_arg3)) g) (q := at2 (m ((c : Thread nD τ).loc main_arg4)) g) (ab_at m c t) (lb_at m c t) (ldw m c t g inw) (ldb m c t g inl)]
  unfold rows G spatial
  rw [show (256 * g + (i 1).val) / 256 = g by omega, show (128 * t.val + (i 0).val) % 128 = (i 0).val by omega,
    show 128 * ((128 * t.val + (i 0).val) / 128) = 128 * t.val by omega]

/-- The gated array. -/
def gated (x0 : S2048x4096.Idx → EReal) (x1 x2 : S1x2048.Idx → EReal) (x3 : S8x128x128.Idx → EReal) (x4 : S8x128.Idx → EReal) (i : S2048x2048.Idx) : EReal :=
  G (at2 x0) (at2 x1 0) (at2 x2 0) (at3 x3) (at2 x4) (i 0).val (i 1).val

theorem block (t : Fin cfg0.N) (y : S128x2048.Idx) :
    out0_5 (iblk m c 0 t) (iblk m c 1 t) (iblk m c 2 t) (iblk m c 3 t) (iblk m c 4 t) y = rows m c t (y 0).val (y 1).val := by
  unfold_out out0_5
  rw [View.ld_unit_zero (by decide), View.ld_unit_zero (by decide)]
  refine canon_lanes (rows m c t) ?_ ?_ ?_ ?_ ?_ ?_ ?_ ?_ y
  · exact fun x => piece m c t 0 (by norm_num) slices_S128x2048_o0_0_S128x256 inb_S8x128x128_S1x128x128_0_0_0 inb_S128x8_S128x1_0_0 x
  · exact fun x => piece m c t 1 (by norm_num) slices_S128x2048_o0_256_S128x256 inb_S8x128x128_S1x128x128_1_0_0 inb_S128x8_S128x1_0_1 x
  · exact fun x => piece m c t 2 (by norm_num) slices_S128x2048_o0_512_S128x256 inb_S8x128x128_S1x128x128_2_0_0 inb_S128x8_S128x1_0_2 x
  · exact fun x => piece m c t 3 (by norm_num) slices_S128x2048_o0_768_S128x256 inb_S8x128x128_S1x128x128_3_0_0 inb_S128x8_S128x1_0_3 x
  · exact fun x => piece m c t 4 (by norm_num) slices_S128x2048_o0_1024_S128x256 inb_S8x128x128_S1x128x128_4_0_0 inb_S128x8_S128x1_0_4 x
  · exact fun x => piece m c t 5 (by norm_num) slices_S128x2048_o0_1280_S128x256 inb_S8x128x128_S1x128x128_5_0_0 inb_S128x8_S128x1_0_5 x
  · exact fun x => piece m c t 6 (by norm_num) slices_S128x2048_o0_1536_S128x256 inb_S8x128x128_S1x128x128_6_0_0 inb_S128x8_S128x1_0_6 x
  · exact fun x => piece m c t 7 (by norm_num) slices_S128x2048_o0_1792_S128x256 inb_S8x128x128_S1x128x128_7_0_0 inb_S128x8_S128x1_0_7 x

theorem arr5 : (dats m 0 c).arrAt 5 cfg0.N = fun i : S2048x2048.Idx => gated (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 5 _ (by decide +kernel) fun t hf y => ?_
  have h0 : (y 0).val < 128 := (y 0).isLt
  have ht : t.val < 16 := t.isLt
  blk_simp
  rw [after0_5]
  have e : ∀ W : S2048x2048.Idx → EReal, W ((win0_5.blk t).view.emb y) = W (ix2 (⟨128 * t.val + (y 0).val, by omega⟩ : Fin 2048) (y 1 : Fin 2048)) := fun W => by
    blk_ext [idx t]
  rw [e (gated _ _ _ _ _)]
  exact block m c t y

end Cert.GateFwdIdeal.Gen

namespace Cert.GateFwdRefIdeal.Read

open GateFwdRefIdeal GateFwdRefIdeal.Gen Idealize.ShloMosaic Idealize.ShloMosaic.TcCoe Idealize.ShloMosaic.StableHlo

open Numbered GateMath
open GateFwdIdeal.Gen (ge mean norm spatial G gated)

theorem ge_eq (x : EReal) : x * (Ideal.ofBits .f32 0x3F000000#32 * (Ideal.ofBits .f32 0x3F800000#32 + Ideal.erf (Ideal.div x ((Real.sqrt 2 : ℝ) : EReal)))) = ge x := by
  have h : ((Real.sqrt 2 : ℝ) : EReal) ≠ 0 := by
    exact_mod_cast sqrt_two_pos.ne'
  unfold Ideal.div ge
  rw [if_neg h, ← EReal.coe_inv, bits_one, add_comm _ (Ideal.erf _), mul_comm (Ideal.ofBits .f32 0x3F000000#32), mul_assoc]
  rfl

variable (x0 : S2048x4096.Idx → EReal) (x1 x2 : S1x2048.Idx → EReal) (x3 : S8x128x128.Idx → EReal) (x4 : S8x128.Idx → EReal)

theorem rd8 (i : S2048x4096.Idx) : val_main_v8 (F := Ideal) x0 i = ge (at2 x0 (i 0).val (i 1).val) := by
  rw [← ge_eq, ← at2_spec x0 i]
  simp only [val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    Ideal.ofBits_def, bits_two, Ideal.hostUnary_sqrt_def, sqrt_real (show (0 : ℝ) ≤ 2 by norm_num), Ideal.hostDivf_def,
    Ideal.hostUnary_erf_def, Ideal.addf_def, Ideal.mulf_def]

theorem rd9 (i : S2048x2048.Idx) : val_main_v9 (F := Ideal) x0 i = ge (at2 x0 (i 0).val (i 1).val) := by
  rw [val_main_v9_apply, rd8]

theorem rd10 (i : S2048x2048.Idx) : val_main_v10 (F := Ideal) x0 i = ge (at2 x0 (i 0).val (2048 + (i 1).val)) := by
  rw [val_main_v10_apply, rd8]

theorem rd14 (i : S2048x1.Idx) : val_main_v14 (F := Ideal) x0 i = mean (fun k => ge (at2 x0 (i 0).val (2048 + k))) := by
  simp only [val_main_v14_apply, val_main_v13_apply, val_main_v12_apply, val_main_v11_apply, val_main_cst_2_apply,
    val_main_cst_3_apply, rd10, Ideal.ofBits_def, bits_zero, EReal.coe_zero, zero_add, Ideal.hostDivf_def]
  rfl

theorem rd30 (i : S2048x2048.Idx) : val_main_v30 (F := Ideal) x0 x1 x2 i =
    norm (fun k => ge (at2 x0 (i 0).val (2048 + k))) (at2 x1 0 (i 1).val) (at2 x2 0 (i 1).val) (i 1).val := by
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_cst_4_apply, val_main_cst_5_apply,
    val_main_cst_6_apply, rd14, rd10, Ideal.ofBits_def, bits_zero, EReal.coe_zero, zero_add, Ideal.hostDivf_def,
    Ideal.hostUnary_rsqrt_def, Ideal.subf_def, Ideal.mulf_def, Ideal.addf_def, at2_spec x1, at2_spec x2]
  rfl

theorem rd31 (i : S16x128x8x256.Idx) : val_main_v31 (F := Ideal) x0 x1 x2 i =
    norm (fun k => ge (at2 x0 (128 * (i 0).val + (i 1).val) (2048 + k))) (at2 x1 0 (256 * (i 2).val + (i 3).val))
      (at2 x2 0 (256 * (i 2).val + (i 3).val)) (256 * (i 2).val + (i 3).val) := by
  have h0 : (i 0).val < 16 := (i 0).isLt
  have h1 : (i 1).val < 128 := (i 1).isLt
  have h2 : (i 2).val < 8 := (i 2).isLt
  have h3 : (i 3).val < 256 := (i 3).isLt
  rw [val_main_v31_apply, rd30]
  have e0 : (idx_main_v31 i 0).val = 128 * (i 0).val + (i 1).val := by
    show ((((i 0).val * 128 + (i 1).val) * 8 + (i 2).val) * 256 + (i 3).val) / 2048 = _; omega
  have e1 : (idx_main_v31 i 1).val = 256 * (i 2).val + (i 3).val := by
    show ((((i 0).val * 128 + (i 1).val) * 8 + (i 2).val) * 256 + (i 3).val) % 2048 = _; omega
  rw [e0, e1]

theorem rd33 (i : S128x128.Idx) : val_main_v33 (F := Ideal) i = if (i 1).val ≤ (i 0).val then (1 : EReal) else 0 := by
  have h0 : (i 0).val < 128 := (i 0).isLt
  have h1 : (i 1).val < 128 := (i 1).isLt
  have hc : IntOp.cmpi .sge (IntOp.addi (BitVec.ofNat 32 (i 0).val) 0#32) (BitVec.ofNat 32 (i 1).val)
      = if (i 1).val ≤ (i 0).val then 1#1 else 0#1 := by
    generalize (i 0).val = a at *
    generalize (i 1).val = b at *
    revert a b
    decide +kernel
  simp only [val_main_v33_apply, val_main_call0_v4_apply, val_main_call0_v2_apply, val_main_call0_v0_apply,
    val_main_call0_v1_apply, val_main_call0_c_apply, val_main_call0_v3_apply, val_main_call0_v5_apply,
    val_main_call0_cst_apply, val_main_v32_apply, val_main_cst_7_apply, hc, Ideal.ofBits_def, bits_one, bits_zero]
  split <;> rfl

theorem rd36 (i : S8x128x128.Idx) : val_main_v36 (F := Ideal) x3 i = if (i 2).val ≤ (i 1).val then at3 x3 (i 0).val (i 1).val (i 2).val else 0 := by
  simp only [val_main_v36_apply, val_main_v35_apply, val_main_v34_apply, rd33, Ideal.mulf_def]
  rw [at3_spec x3 i, mul_ite, mul_one, mul_zero]

theorem rd43 (i : S2048x2048.Idx) : val_main_v43 (F := Ideal) x0 x1 x2 x3 x4 i =
    spatial (at2 x0) (at2 x1 0) (at2 x2 0) (at3 x3 ((i 1).val / 256) ((i 0).val % 128)) (128 * ((i 0).val / 128)) ((i 0).val % 128) (i 1).val
      + at2 x4 ((i 1).val / 256) ((i 0).val % 128) := by
  have h0 : (i 0).val < 2048 := (i 0).isLt
  have h1 : (i 1).val < 2048 := (i 1).isLt
  simp only [val_main_v43_apply, val_main_v42_apply, val_main_v41_apply, val_main_v40_apply, val_main_v39_apply,
    val_main_v38_apply, val_main_v37_apply, rd31, rd36, at2_spec x4, Ideal.addf_def]
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : 256 * (((i 0).val * 2048 + (i 1).val) / 256 % 8) + ((i 0).val * 2048 + (i 1).val) % 256 = (i 1).val := by omega
  show (∑ k : Fin 128, norm (fun q => ge (at2 x0 (128 * (((i 0).val * 2048 + (i 1).val) / 262144) + k.val) (2048 + q)))
      (at2 x1 0 (256 * (((i 0).val * 2048 + (i 1).val) / 256 % 8) + ((i 0).val * 2048 + (i 1).val) % 256))
      (at2 x2 0 (256 * (((i 0).val * 2048 + (i 1).val) / 256 % 8) + ((i 0).val * 2048 + (i 1).val) % 256))
      (256 * (((i 0).val * 2048 + (i 1).val) / 256 % 8) + ((i 0).val * 2048 + (i 1).val) % 256)
      * (if k.val ≤ ((i 0).val * 2048 + (i 1).val) / 2048 % 128
        then at3 x3 (((i 0).val * 2048 + (i 1).val) / 256 % 8) (((i 0).val * 2048 + (i 1).val) / 2048 % 128) k.val else 0))
      + at2 x4 (((i 0).val * 2048 + (i 1).val) / 256 % 8) (((i 0).val * 2048 + (i 1).val) / 2048 % 128) = _
  rw [e3, e0, e1, e2]
  unfold spatial
  exact congrArg (· + _) (Finset.sum_congr rfl fun k _ => mul_comm _ _)

theorem value (i : S2048x2048.Idx) : val_main_v45 (F := Ideal) x0 x1 x2 x3 x4 i = gated x0 x1 x2 x3 x4 i := by
  rw [val_main_v45_apply, val_main_v44_apply, rd9, rd43]
  rfl

end Cert.GateFwdRefIdeal.Read

namespace Cert.GateFwdRun

open Idealize.ShloMosaic Idealize.ShloMosaic.TcCoe

theorem algebraic : @Cert.algebraic_GateFwdIdeal_GateFwdRefIdeal GateFwdIdeal.Gen.facts GateFwdRefIdeal.Gen.facts := by
  intro m g m' g' _ hag
  refine ⟨fun c => fun i : GateFwdIdeal.S2048x2048.Idx => GateFwdIdeal.Gen.gated (m ((c.tc : Thread _ _).loc GateFwdIdeal.main_arg0)) (m ((c.tc : Thread _ _).loc GateFwdIdeal.main_arg1)) (m ((c.tc : Thread _ _).loc GateFwdIdeal.main_arg2)) (m ((c.tc : Thread _ _).loc GateFwdIdeal.main_arg3)) (m ((c.tc : Thread _ _).loc GateFwdIdeal.main_arg4)) i, ?_, ?_⟩
  · refine (θ_run _ _ _).mono (fun r hr c => ?_) (GateFwdIdeal.Value.run_blocks m g)
    obtain ⟨a0, ha⟩ := hr c
    exact ⟨a0.trans (GateFwdIdeal.Gen.arr5 m c), ha⟩
  · refine (θ_run _ _ _).mono (fun r hr c => ?_) (GateFwdRefIdeal.Value.run m' g')
    obtain ⟨e0, e1, e2, e3, e4⟩ := hag c
    obtain ⟨a0, ha⟩ := hr c
    refine ⟨a0.trans ?_, ha⟩
    rw [GateFwdRefIdeal.Read.val_main_v45_eq, e0, e1, e2, e3, e4]
    exact funext fun i => GateFwdRefIdeal.Read.value _ _ _ _ _ i

end Cert.GateFwdRun

end
-- ==== Proof.RmsBwdRun.lean ====
/- The norm's backward pass: on finite arguments kernel and reference end with the same arrays. -/
module

public import proofs.«01_k».proof.Defs
public import proofs.«01_k».proof.Proof.Gen.RmsBwd.Frame
public import proofs.«01_k».proof.Proof.Gen.RmsBwdIdeal.Frame
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.Pre_norm_finite
public import proofs.«01_k».proof.Proof.Sums
public import proofs.«01_k».proof.Proof.Numbered
public import proofs.«01_k».proof.Proof.GateMath
public import proofs.«01_k».proof.Proof.Finite
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

open Cert.Numbered

noncomputable section

namespace Cert.RmsBwdIdeal.Gen

open RmsBwdIdeal

/-- The reciprocal root of the mean of a row's squares. -/
def root (v : ℕ → EReal) : EReal :=
  Ideal.rsqrt (Ideal.div (∑ k : Fin 2048, v k.val * v k.val) (Ideal.ofBits .f32 0x45000000#32) + Ideal.ofBits .f32 0x358637BD#32)

/-- The gradient at one place of a row, added to the residual's. -/
def dx (v d g : ℕ → EReal) (s : EReal) (e : ℕ) : EReal :=
  s + root v * (d e * g e - v e * root v * Ideal.div (∑ k : Fin 2048, d k.val * g k.val * (v k.val * root v)) (Ideal.ofBits .f32 0x45000000#32))

/-- The gradient of the scale, one tile of rows after another. -/
def dg (x d : ℕ → ℕ → EReal) (e : ℕ) : EReal :=
  ∑ j : Fin 4, ∑ s : Fin 512, d (512 * j.val + s.val) e * (x (512 * j.val + s.val) e * root (x (512 * j.val + s.val)))

variable {a b q : ℕ → ℕ → EReal} {f : ℕ → EReal} {X D R : Vec Ideal S512x2048 .f32} {W : Vec Ideal S1x2048 .f32}

theorem pay3 (hX : ∀ i, X i = a (i 0).val (i 1).val) (i : S512x1.Idx) : k0_pay3 X i = root (a (i 0).val) := by
  unfold k0_pay3
  pointwise
  simp only [hX]
  rfl

theorem pay4 (hX : ∀ i, X i = a (i 0).val (i 1).val) (i : S512x2048.Idx) : k0_pay4 X i = a (i 0).val (i 1).val * root (a (i 0).val) := by
  unfold k0_pay4
  pointwise
  rw [pay3 hX, hX]
  rfl

theorem pay5 (hX : ∀ i, X i = a (i 0).val (i 1).val) (hD : ∀ i, D i = b (i 0).val (i 1).val) (v : Vec Ideal S1x2048 .f32) (i : S1x2048.Idx) :
    k0_pay5 X D v i = (v i : EReal) + ∑ s : Fin 512, b s.val (i 1).val * (a s.val (i 1).val * root (a s.val)) := by
  have h0 : (i 0).val < 1 := (i 0).isLt
  unfold k0_pay5
  pointwise
  simp only [pay4 hX, hD]
  rfl

theorem pay6 (hX : ∀ i, X i = a (i 0).val (i 1).val) (hD : ∀ i, D i = b (i 0).val (i 1).val) (hW : ∀ i, W i = f (i 1).val)
    (hR : ∀ i, R i = q (i 0).val (i 1).val) (i : S512x2048.Idx) :
    k0_pay6 X D W R i = dx (a (i 0).val) (b (i 0).val) f (q (i 0).val (i 1).val) (i 1).val := by
  unfold k0_pay6
  pointwise
  simp only [pay4 hX, pay3 hX, hD, hW, hR]
  rfl

theorem pay2 (y : S1x2048.Idx) : k0_pay2 (F := Ideal) y = (0 : EReal) := by
  pointwise [k0_pay2]

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

theorem blk0 (t : Fin cfg0.N) (i : S512x2048.Idx) : iblk m c 0 t i = at2 (m ((c : Thread nD τ).loc main_arg0)) (512 * t.val + (i 0).val) (i 1).val := by
  have ht : t.val < 4 := t.isLt
  have h0 : (i 0).val < 512 := (i 0).isLt
  have e : iblk m c 0 t i = (m ((c : Thread nD τ).loc main_arg0)) (ix2 (⟨512 * t.val + (i 0).val, by omega⟩ : Fin 2048) (i 1 : Fin 2048)) := by
    blk_point [iblk, V, idx t]
  rw [e, at2_spec (m ((c : Thread nD τ).loc main_arg0))]
  rfl

theorem blk2 (t : Fin cfg0.N) (i : S512x2048.Idx) : iblk m c 2 t i = at2 (m ((c : Thread nD τ).loc main_arg2)) (512 * t.val + (i 0).val) (i 1).val := by
  have ht : t.val < 4 := t.isLt
  have h0 : (i 0).val < 512 := (i 0).isLt
  have e : iblk m c 2 t i = (m ((c : Thread nD τ).loc main_arg2)) (ix2 (⟨512 * t.val + (i 0).val, by omega⟩ : Fin 2048) (i 1 : Fin 2048)) := by
    blk_point [iblk, V, idx t]
  rw [e, at2_spec (m ((c : Thread nD τ).loc main_arg2))]
  rfl

theorem blk3 (t : Fin cfg0.N) (i : S512x2048.Idx) : iblk m c 3 t i = at2 (m ((c : Thread nD τ).loc main_arg3)) (512 * t.val + (i 0).val) (i 1).val := by
  have ht : t.val < 4 := t.isLt
  have h0 : (i 0).val < 512 := (i 0).isLt
  have e : iblk m c 3 t i = (m ((c : Thread nD τ).loc main_arg3)) (ix2 (⟨512 * t.val + (i 0).val, by omega⟩ : Fin 2048) (i 1 : Fin 2048)) := by
    blk_point [iblk, V, idx t]
  rw [e, at2_spec (m ((c : Thread nD τ).loc main_arg3))]
  rfl

theorem blk1 (t : Fin cfg0.N) (i : S1x2048.Idx) : iblk m c 1 t i = at2 (m ((c : Thread nD τ).loc main_arg1)) 0 (i 1).val := by
  have h0 : (i 0).val < 1 := (i 0).isLt
  have e : iblk m c 1 t i = (m ((c : Thread nD τ).loc main_arg1)) (ix2 (0 : Fin 1) (i 1 : Fin 2048)) := by
    blk_point [iblk, V, idx t]
  rw [e, at2_spec (m ((c : Thread nD τ).loc main_arg1))]
  rfl

/-- One tile's part of the scale's gradient. -/
def term (n e : ℕ) : EReal :=
  ∑ s : Fin 512, (at2 (m ((c : Thread nD τ).loc main_arg2))) (512 * n + s.val) e * ((at2 (m ((c : Thread nD τ).loc main_arg0))) (512 * n + s.val) e * root ((at2 (m ((c : Thread nD τ).loc main_arg0))) (512 * n + s.val)))

/-- One tile's gradient. -/
def part (t : Fin cfg0.N) (y : S512x2048.Idx) : EReal :=
  dx ((at2 (m ((c : Thread nD τ).loc main_arg0))) (512 * t.val + (y 0).val)) ((at2 (m ((c : Thread nD τ).loc main_arg2))) (512 * t.val + (y 0).val)) (at2 (m ((c : Thread nD τ).loc main_arg1)) 0) ((at2 (m ((c : Thread nD τ).loc main_arg3))) (512 * t.val + (y 0).val) (y 1).val) (y 1).val

theorem add5 (t : Fin cfg0.N) (v : Vec Ideal S1x2048 .f32) (y : S1x2048.Idx) :
    k0_pay5 (iblk m c 0 t) (iblk m c 2 t) v y = (v y : EReal) + term m c t.val (y 1).val :=
  pay5 (a := fun n e => (at2 (m ((c : Thread nD τ).loc main_arg0))) (512 * t.val + n) e) (b := fun n e => (at2 (m ((c : Thread nD τ).loc main_arg2))) (512 * t.val + n) e) (blk0 m c t) (blk2 m c t) v y

theorem at6 (t : Fin cfg0.N) (y : S512x2048.Idx) : k0_pay6 (iblk m c 0 t) (iblk m c 2 t) (iblk m c 1 t) (iblk m c 3 t) y = part m c t y :=
  pay6 (a := fun n e => (at2 (m ((c : Thread nD τ).loc main_arg0))) (512 * t.val + n) e) (b := fun n e => (at2 (m ((c : Thread nD τ).loc main_arg2))) (512 * t.val + n) e) (q := fun n e => (at2 (m ((c : Thread nD τ).loc main_arg3))) (512 * t.val + n) e)
    (blk0 m c t) (blk2 m c t) (blk1 m c t) (blk3 m c t) y

/-- The sum after the first point. -/
theorem first (t : Fin cfg0.N) (h : t.val % 4 = 0) (y : S1x2048.Idx) :
    (outsAt0 m c t.val t.isLt).2.2 y = (0 : EReal) + term m c t.val (y 1).val := by
  rw [outsAt0_A m c t h]
  frame_out
  rw [add5, pay2]

/-- What a later point adds to the sum. -/
theorem later (t : Fin cfg0.N) (h : ¬t.val % 4 = 0) (y : S1x2048.Idx) :
    (outsAt0 m c t.val t.isLt).2.2 y = ((outsAt0 m c (t.val - 1) (Nat.lt_of_le_of_lt (Nat.sub_le _ _) t.isLt)).2.2 y : EReal)
      + term m c t.val (y 1).val := by
  rw [outsAt0_B m c t h]
  frame_out
  rw [add5]

/-- The two blocks of the gradient a point writes. -/
theorem wide (t : Fin cfg0.N) (y : S512x2048.Idx) : (outsAt0 m c t.val t.isLt).1 y = part m c t y := by
  by_cases h : t.val % 4 = 0
  · rw [outsAt0_A m c t h]
    frame_out
    rw [at6]
  · rw [outsAt0_B m c t h]
    frame_out
    rw [at6]

@[inherit_doc wide]
theorem narrow (t : Fin cfg0.N) (y : S512x2048.Idx) : (outsAt0 m c t.val t.isLt).2.1 y = part m c t y := by
  by_cases h : t.val % 4 = 0
  · rw [outsAt0_A m c t h]
    frame_out
    exact at6 m c t y
  · rw [outsAt0_B m c t h]
    frame_out
    exact at6 m c t y

/-- The whole gradient. -/
def G (x : S2048x2048.Idx → EReal) (g : S1x2048.Idx → EReal) (d r : S2048x2048.Idx → EReal) (i : S2048x2048.Idx) : EReal :=
  dx (at2 x (i 0).val) (at2 d (i 0).val) (at2 g 0) (at2 r (i 0).val (i 1).val) (i 1).val

/-- The whole gradient of the scale. -/
def H (x d : S2048x2048.Idx → EReal) (i : S1x2048.Idx) : EReal := dg (at2 x) (at2 d) (i 1).val

theorem arr0 : (dats m 0 c).arrAt 4 cfg0.N = fun i : S2048x2048.Idx => G (m ((c : Thread nD τ).loc main_arg0)) (m ((c : Thread nD τ).loc main_arg1)) (m ((c : Thread nD τ).loc main_arg2)) (m ((c : Thread nD τ).loc main_arg3)) i := by
  refine (dats m 0 c).arrAt_eq_of_covers 4 _ (by decide +kernel) fun t hf y => ?_
  have h0 : (y 0).val < 512 := (y 0).isLt
  have ht : t.val < 4 := t.isLt
  blk_simp
  rw [after0_4]
  have e : ∀ W : S2048x2048.Idx → EReal, W ((win0_4.blk t).view.emb y) = W (ix2 (⟨512 * t.val + (y 0).val, by omega⟩ : Fin 2048) (y 1 : Fin 2048)) := fun W => by
    blk_ext [idx t]
  rw [e (G _ _ _ _)]
  exact wide m c t y

theorem arr1 : (dats m 0 c).arrAt 5 cfg0.N = fun i : S2048x2048.Idx => G (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  have h0 : (y 0).val < 512 := (y 0).isLt
  have ht : t.val < 4 := t.isLt
  blk_simp
  rw [after0_5]
  have e : ∀ W : S2048x2048.Idx → EReal, W ((win0_5.blk t).view.emb y) = W (ix2 (⟨512 * t.val + (y 0).val, by omega⟩ : Fin 2048) (y 1 : Fin 2048)) := fun W => by
    blk_ext [idx t]
  rw [e (G _ _ _ _)]
  exact narrow m c t y

theorem arr2 : (dats m 0 c).arrAt 6 cfg0.N = fun i : S1x2048.Idx => H (m ((c : Thread nD τ).loc main_arg0)) (m ((c : Thread nD τ).loc main_arg2)) i := by
  refine (dats m 0 c).arrAt_eq_of_covers 6 _ (by decide +kernel) fun t hf y => ?_
  have h3 : t.val % 4 = 3 := (flush0_6 t).mp hf
  have h0 : (y 0).val < 1 := (y 0).isLt
  have ht : t.val < 4 := t.isLt
  blk_simp
  rw [after0_6]
  have e : ∀ W : S1x2048.Idx → EReal, W ((win0_6.blk t).view.emb y) = W (ix2 (0 : Fin 1) (y 1 : Fin 2048)) := fun W => by
    blk_ext [idx t]
  rw [e (H _ _)]
  refine (Pipeline.eq_sum_fin_of_reset_step_apply_of_flush (fun n h => (outsAt0 m c n h).2.2) 4 (fun _ => (0 : EReal))
    (fun t y => term m c t.val (y 1).val) (first m c) (later m c) t h3 y).trans ?_
  rw [zero_add]
  unfold H dg
  refine Finset.sum_congr rfl fun j _ => ?_
  have hj : j.val < 4 := j.isLt
  show term m c (4 * (t.val / 4) + j.val) (y 1).val = term m c j.val (y 1).val
  rw [show 4 * (t.val / 4) + j.val = j.val by omega]

end Cert.RmsBwdIdeal.Gen

namespace Cert.RmsBwdRefIdeal.Read

open RmsBwdRefIdeal RmsBwdRefIdeal.Gen Idealize.ShloMosaic Idealize.ShloMosaic.TcCoe Idealize.ShloMosaic.StableHlo

open Numbered GateMath Finite
open RmsBwdIdeal.Gen (root dx dg G H)

variable (x0 : S2048x2048.Idx → EReal) (x1 : S1x2048.Idx → EReal) (x2 x3 : S2048x2048.Idx → EReal)

theorem rd7 (i : S2048x1.Idx) : val_main_v7 (F := Ideal) x0 i = root (at2 x0 (i 0).val) := by
  simp only [val_main_v7_apply, val_main_v6_apply, val_main_v5_apply, val_main_v4_apply, val_main_v3_apply, val_main_v2_apply,
    val_main_v1_apply, val_main_v0_apply, val_main_cst_apply, val_main_cst_0_apply, val_main_cst_1_apply, Ideal.ofBits_def,
    bits_zero, EReal.coe_zero, zero_add, Ideal.hostDivf_def, Ideal.addf_def, Ideal.mulf_def, Ideal.hostUnary_rsqrt_def, at2_spec x0]
  rfl

theorem rd17 (i : S1x2048.Idx) : val_main_v17 (F := Ideal) x0 x2 i = H x0 x2 i := by
  simp only [val_main_v17_apply, val_main_v16_apply, val_main_v15_apply, val_main_v12_apply, val_main_v11_apply, rd7,
    val_main_cst_3_apply, Ideal.ofBits_def, bits_zero, EReal.coe_zero, zero_add, Ideal.mulf_def, at2_spec x0, at2_spec x2]
  unfold H dg
  rw [Sums.tiles 4 512 (by norm_num)]
  refine Finset.sum_congr rfl fun j _ => Finset.sum_congr rfl fun s _ => ?_
  have h0 : (i 0).val < 1 := (i 0).isLt
  show at2 x0 (512 * j.val + s.val) ((i 0).val * 2048 + (i 1).val) * _ * at2 x2 (512 * j.val + s.val) ((i 0).val * 2048 + (i 1).val) = _
  rw [show (i 0).val * 2048 + (i 1).val = (i 1).val by omega]
  exact mul_comm _ _

/-- The mean of a real row's squares, plus epsilon. -/
def ms (v : ℕ → ℝ) : ℝ := (∑ k : Fin 2048, v k.val * v k.val) / 2048 + eps

theorem ms_pos (v : ℕ → ℝ) : 0 < ms v := by
  have : 0 ≤ ∑ k : Fin 2048, v k.val * v k.val := Finset.sum_nonneg fun k _ => mul_self_nonneg _
  have := eps_pos
  unfold ms
  positivity

theorem root_real {u : ℕ → EReal} {v : ℕ → ℝ} (h : ∀ k, u k = ((v k : ℝ) : EReal)) : root u = (((Real.sqrt (ms v))⁻¹ : ℝ) : EReal) := by
  unfold root
  simp only [h, ← EReal.coe_mul, sum_coe, bits_2048, bits_eps, div_real _ (show (2048 : ℝ) ≠ 0 by norm_num), ← EReal.coe_add]
  exact rsqrt_real (ms_pos v)

/-- The real row's gradient, in the reference's order. -/
theorem grad {u d g : ℕ → EReal} {v p q : ℕ → ℝ} {s : EReal} {w : ℝ} (hu : ∀ k, u k = ((v k : ℝ) : EReal)) (hd : ∀ k, d k = ((p k : ℝ) : EReal))
    (hg : ∀ k, g k = ((q k : ℝ) : EReal)) (hs : s = ((w : ℝ) : EReal)) (e : ℕ) :
    dx u d g s e = ((w + p e * q e * (Real.sqrt (ms v))⁻¹
      + v e * ((∑ k : Fin 2048, v k.val * (p k.val * q k.val)) * (-(1 / 2) * ((Real.sqrt (ms v))⁻¹ / ms v)) / 2048)
      + (∑ k : Fin 2048, v k.val * (p k.val * q k.val)) * (-(1 / 2) * ((Real.sqrt (ms v))⁻¹ / ms v)) / 2048 * v e : ℝ) : EReal) := by
  unfold dx
  simp only [root_real hu, hu, hd, hg, hs, ← EReal.coe_mul, sum_coe, bits_2048, div_real _ (show (2048 : ℝ) ≠ 0 by norm_num),
    ← EReal.coe_sub, ← EReal.coe_add]
  refine congrArg _ ?_
  have hp := ms_pos v
  have hq : (∑ k : Fin 2048, p k.val * q k.val * (v k.val * (Real.sqrt (ms v))⁻¹)) = (Real.sqrt (ms v))⁻¹ * ∑ k : Fin 2048, v k.val * (p k.val * q k.val) := by
    rw [Finset.mul_sum]
    exact Finset.sum_congr rfl fun k _ => by ring
  have hr : (Real.sqrt (ms v))⁻¹ * (Real.sqrt (ms v))⁻¹ = (ms v)⁻¹ := by
    rw [← mul_inv, Real.mul_self_sqrt hp.le]
  rw [hq, div_eq_mul_inv _ (ms v), ← hr]
  generalize (Real.sqrt (ms v))⁻¹ = r
  ring

variable {x0 x1 x2 x3}

theorem rd34 (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal)) (i : S2048x2048.Idx) :
    val_main_v34 (F := Ideal) x0 x1 x2 x3 i = G x0 x1 x2 x3 i := by
  have e (A B : ℕ) (y : (⟨2, ![A, B]⟩ : Shape).Idx → EReal) (hy : ∀ i, y i = ((EReal.toReal (y i) : ℝ) : EReal)) (n k : ℕ) : at2 y n k = ((real2 (A := A) (B := B) y n k : ℝ) : EReal) := by
    unfold at2 real2
    split_ifs with h
    · exact hy _
    · rfl
  unfold G
  rw [grad (e _ _ x0 h0 _) (e _ _ x2 h2 _) (e _ _ x1 h1 _) (e _ _ x3 h3 _ _)]
  have hr : ∀ n, root (at2 x0 n) = (((Real.sqrt (ms (real2 (A := 2048) (B := 2048) x0 n)))⁻¹ : ℝ) : EReal) := fun n => root_real (e _ _ x0 h0 n)
  have hm : ∀ i : S2048x1.Idx, val_main_v6 (F := Ideal) x0 i = ((ms (real2 (A := 2048) (B := 2048) x0 (i 0).val) : ℝ) : EReal) := fun i => by
    simp only [val_main_v6_apply, val_main_v5_apply, val_main_v4_apply, val_main_v3_apply, val_main_v2_apply,
      val_main_v1_apply, val_main_v0_apply, val_main_cst_apply, val_main_cst_0_apply, val_main_cst_1_apply, Ideal.ofBits_def,
      bits_zero, Ideal.hostDivf_def, Ideal.addf_def, Ideal.mulf_def, real2_spec h0, ← EReal.coe_mul, sum_coe, ← EReal.coe_add, zero_add,
      bits_2048, bits_eps, div_real _ (show (2048 : ℝ) ≠ 0 by norm_num)]
    rfl
  simp only [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v10_apply,
    val_main_v9_apply, val_main_v8_apply, hm, rd7, hr, val_main_cst_2_apply, val_main_cst_4_apply, val_main_cst_5_apply, val_main_cst_6_apply,
    Ideal.ofBits_def, bits_zero, bits_neg_half, bits_2048, Ideal.hostDivf_def, Ideal.addf_def, Ideal.mulf_def, real2_spec h0, real2_spec h1,
    real2_spec h2, real2_spec h3, div_real _ (ms_pos _).ne', div_real _ (show (2048 : ℝ) ≠ 0 by norm_num), ← EReal.coe_mul, sum_coe,
    ← EReal.coe_add, zero_add, Fin.sum_univ_one, Fin.val_zero, mul_one, add_zero]

end Cert.RmsBwdRefIdeal.Read

namespace Cert.RmsBwdRun

open Idealize.ShloMosaic Idealize.ShloMosaic.TcCoe Finite

attribute [local instance] Pre_norm_finite.Gen.facts

instance : Subsingleton Pre_norm_finite.S_.Idx := ⟨fun a b => funext fun k => k.elim0⟩

theorem pre_real {x0 : FVec Ideal Pre_norm_finite.S2048x2048 .f32} {x1 : FVec Ideal Pre_norm_finite.S1x2048 .f32}
    {x2 x3 : FVec Ideal Pre_norm_finite.S2048x2048 .f32} (h : Pre_norm_finite.fn (F := Ideal) x0 x1 x2 x3 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  have e := congrFun h (fun k => k.elim0)
  unfold Pre_norm_finite.fn Pre_norm_finite.fn_part1 at e
  obtain ⟨e, e3⟩ := both e
  obtain ⟨e, e2⟩ := both e
  obtain ⟨e0, e1⟩ := both e
  exact ⟨real_of_all x0 _ (fun _ => rfl) _ _ _ _ e0, real_of_all x1 _ (fun _ => rfl) _ _ _ _ e1, real_of_all x2 _ (fun _ => rfl) _ _ _ _ e2,
    real_of_all x3 _ (fun _ => rfl) _ _ _ _ e3⟩

theorem algebraic : @Cert.algebraic_RmsBwdIdeal_RmsBwdRefIdeal_pre_norm_finite RmsBwdIdeal.Gen.facts RmsBwdRefIdeal.Gen.facts Pre_norm_finite.Gen.facts := by
  intro m g m' g' hp hag
  refine ⟨fun c => fun i : RmsBwdIdeal.S2048x2048.Idx => RmsBwdIdeal.Gen.G (m ((c.tc : Thread _ _).loc RmsBwdIdeal.main_arg0)) (m ((c.tc : Thread _ _).loc RmsBwdIdeal.main_arg1)) (m ((c.tc : Thread _ _).loc RmsBwdIdeal.main_arg2)) (m ((c.tc : Thread _ _).loc RmsBwdIdeal.main_arg3)) i, fun c => fun i : RmsBwdIdeal.S2048x2048.Idx => RmsBwdIdeal.Gen.G (m ((c.tc : Thread _ _).loc RmsBwdIdeal.main_arg0)) (m ((c.tc : Thread _ _).loc RmsBwdIdeal.main_arg1)) (m ((c.tc : Thread _ _).loc RmsBwdIdeal.main_arg2)) (m ((c.tc : Thread _ _).loc RmsBwdIdeal.main_arg3)) i, fun c => fun i : RmsBwdIdeal.S1x2048.Idx => RmsBwdIdeal.Gen.H (m ((c.tc : Thread _ _).loc RmsBwdIdeal.main_arg0)) (m ((c.tc : Thread _ _).loc RmsBwdIdeal.main_arg2)) i, ?_, ?_⟩
  · refine (θ_run _ _ _).mono (fun r hr c => ?_) (RmsBwdIdeal.Value.run_blocks m g)
    obtain ⟨a0, a1, a2, ha⟩ := hr c
    exact ⟨a0.trans (RmsBwdIdeal.Gen.arr0 m c), a1.trans (RmsBwdIdeal.Gen.arr1 m c), a2.trans (RmsBwdIdeal.Gen.arr2 m c), ha⟩
  · refine (θ_run _ _ _).mono (fun r hr c => ?_) (RmsBwdRefIdeal.Value.run m' g')
    obtain ⟨f0, f1, f2, f3⟩ := pre_real (hp c)
    obtain ⟨e0, e1, e2, e3⟩ := hag c
    obtain ⟨a0, a1, a2, ha⟩ := hr c
    refine ⟨a0.trans ?_, a1.trans ?_, a2.trans ?_, ha⟩
    · rw [RmsBwdRefIdeal.Read.val_main_v34_eq, e0, e1, e2, e3]
      exact funext fun i => RmsBwdRefIdeal.Read.rd34 f0 f1 f2 f3 i
    · rw [RmsBwdRefIdeal.Read.val_main_v35_eq, e0, e1, e2, e3]
      exact funext fun i => RmsBwdRefIdeal.Read.rd34 f0 f1 f2 f3 i
    · rw [RmsBwdRefIdeal.Read.val_main_v17_eq, e0, e2]
      exact funext fun i => RmsBwdRefIdeal.Read.rd17 _ _ i

end Cert.RmsBwdRun

end
-- ==== Proof.DownLossRun.lean ====
/- The last layer's product, the loss and its gradient: on finite arguments kernel and reference end with the same arrays. -/
module

public import proofs.«01_k».proof.Defs
public import proofs.«01_k».proof.Proof.Gen.DownLoss.Frame
public import proofs.«01_k».proof.Proof.Gen.DownLossIdeal.Frame
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.Pre_loss_finite
public import proofs.«01_k».proof.Proof.Sums
public import proofs.«01_k».proof.Proof.RmsBwdRun
public import proofs.«01_k».proof.Proof.Numbered
public import proofs.«01_k».proof.Proof.GateMath
public import proofs.«01_k».proof.Proof.Finite
public import Idealize.ShloMosaic.Lib.Pointwise
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem

noncomputable section

namespace Cert.DownLossIdeal.Gen

open DownLossIdeal
open Numbered GateMath Finite
open RmsBwdIdeal.Gen (root dx)
open RmsBwdRefIdeal.Read (ms ms_pos root_real grad)

/-- The product over half of the hidden layer, added to the residual. -/
def hid (a : S2048x8192.Idx → EReal) (w : S4x1x2048x2048.Idx → EReal) (r : S2048x2048.Idx → EReal) (i : S2048x2048.Idx) : EReal :=
  r i + ∑ j : Fin 8, ∑ k : Fin 512, a (ix2 (⟨(i 0).val, by have : (i 0).val < 2048 := (i 0).isLt; omega⟩ : Fin 2048) (⟨512 * (2 * j.val + 1) + k.val, by omega⟩ : Fin 8192))
    * w (ix4 (⟨j.val / 2, by omega⟩ : Fin 4) (0 : Fin 1) (⟨512 * (2 * (j.val % 2) + 1) + k.val, by omega⟩ : Fin 2048) (⟨(i 1).val, by have : (i 1).val < 2048 := (i 1).isLt; omega⟩ : Fin 2048))

/-- One tile's product at an element of a block. -/
def term (x0 : Vec Ideal S512x512 .bf16) (x1 : Vec Ideal S1x1x512x2048 .bf16) (y : S512x2048.Idx) : EReal :=
  ∑ k : Fin 512, x0 (ix2 (⟨(y 0).val, (y 0).isLt⟩ : Fin 512) k) * x1 (ix4 (0 : Fin 1) (0 : Fin 1) k (⟨(y 1).val, (y 1).isLt⟩ : Fin 2048))

theorem pay4 (x0 : Vec Ideal S512x512 .bf16) (x1 : Vec Ideal S1x1x512x2048 .bf16) (x2 : Vec Ideal S512x512 .bf16) (x3 : Vec Ideal S1x1x512x2048 .bf16) (y : S512x2048.Idx) :
    k0_pay4 (F := Ideal) x0 x1 x2 x3 y = (term x0 x1 y + term x2 x3 y : EReal) := by
  pointwise [k0_pay4, k0_pay3, term]

theorem pay5 (x0 : Vec Ideal S512x512 .bf16) (x1 : Vec Ideal S1x1x512x2048 .bf16) (x2 : Vec Ideal S512x512 .bf16) (x3 : Vec Ideal S1x1x512x2048 .bf16) (v : Vec Ideal S512x2048 .f32) (y : S512x2048.Idx) :
    k0_pay5 (F := Ideal) x0 x1 x2 x3 v y = (v y : EReal) + (term x0 x1 y + term x2 x3 y) := by
  pointwise [k0_pay5, k0_pay3, term]

theorem pay1 (y : S1x2048.Idx) : k0_pay1 (F := Ideal) y = (0 : EReal) := by
  pointwise [k0_pay1]

theorem pay2 (y : S1x128.Idx) : k0_pay2 (F := Ideal) y = (0 : EReal) := by
  pointwise [k0_pay2]

theorem bits_part : Ideal.ofBits .f32 0x3A000000#32 = ((1 / 2048 : ℝ) : EReal) := by
  simp [Ideal.ofBits, Ideal.ieee, -EReal.coe_mul, -EReal.coe_neg, -EReal.coe_one]; norm_num

/-- What is left between the normed, scaled row and the target. -/
def res (h : ℕ → ℕ → ℝ) (g : ℕ → ℝ) (T : ℕ → ℕ → ℝ) (n e : ℕ) : ℝ := h n e * (Real.sqrt (ms (h n)))⁻¹ * g e - T n e

/-- The loss's gradient at the scaled row. -/
def dy (h : ℕ → ℕ → ℝ) (g : ℕ → ℝ) (T : ℕ → ℕ → ℝ) (n e : ℕ) : ℝ := res h g T n e * (1 / 2048)

/-- The gradient at one place of the residual. -/
def dh (h : ℕ → ℕ → ℝ) (g : ℕ → ℝ) (T : ℕ → ℕ → ℝ) (n e : ℕ) : EReal :=
  dx (fun k => ((h n k : ℝ) : EReal)) (fun k => ((dy h g T n k : ℝ) : EReal)) (fun k => ((g k : ℝ) : EReal)) ((0 : ℝ) : EReal) e

/-- One tile's part of the scale's gradient, from row `b`. -/
def dgTile (h : ℕ → ℕ → ℝ) (g : ℕ → ℝ) (T : ℕ → ℕ → ℝ) (b e : ℕ) : ℝ :=
  ∑ s : Fin 512, dy h g T (b + s.val) e * (h (b + s.val) e * (Real.sqrt (ms (h (b + s.val))))⁻¹)

/-- One tile's part of the loss, from row `b`. -/
def lossTile (h : ℕ → ℕ → ℝ) (g : ℕ → ℝ) (T : ℕ → ℕ → ℝ) (b : ℕ) : ℝ :=
  1 / 2 * ∑ s : Fin 512, (∑ k : Fin 2048, res h g T (b + s.val) k.val * res h g T (b + s.val) k.val) / 2048

section Head

variable {h T : ℕ → ℕ → ℝ} {g : ℕ → ℝ} {P A Q : Vec Ideal S512x2048 .f32} {W : Vec Ideal S1x2048 .f32}

theorem pay9 (hH : ∀ i, (P i : EReal) + A i = ((h (i 0).val (i 1).val : ℝ) : EReal)) (i : S512x2048.Idx) :
    k0_pay9 P A i = ((h (i 0).val (i 1).val : ℝ) : EReal) := by
  unfold k0_pay9
  pointwise
  exact hH i

theorem pay10 (hH : ∀ i, (P i : EReal) + A i = ((h (i 0).val (i 1).val : ℝ) : EReal)) (i : S512x1.Idx) :
    k0_pay10 P A i = (((Real.sqrt (ms (h (i 0).val)))⁻¹ : ℝ) : EReal) := by
  refine Eq.trans (b := root fun k => ((h (i 0).val k : ℝ) : EReal)) ?_ (root_real fun _ => rfl)
  unfold k0_pay10
  pointwise
  simp only [pay9 hH]
  rfl

theorem pay11 (hH : ∀ i, (P i : EReal) + A i = ((h (i 0).val (i 1).val : ℝ) : EReal)) (i : S512x2048.Idx) :
    k0_pay11 P A i = ((h (i 0).val (i 1).val * (Real.sqrt (ms (h (i 0).val)))⁻¹ : ℝ) : EReal) := by
  rw [EReal.coe_mul]
  unfold k0_pay11
  pointwise
  rw [pay10 hH, pay9 hH]
  rfl

theorem pay12 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (i : S512x2048.Idx) : k0_pay12 P A W Q i = ((res h g T (i 0).val (i 1).val : ℝ) : EReal) := by
  unfold res
  rw [EReal.coe_sub, EReal.coe_mul]
  unfold k0_pay12
  pointwise
  rw [pay11 hH, hW, hQ]
  rfl

theorem pay14 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (i : S512x2048.Idx) : k0_pay14 P A W Q i = ((dy h g T (i 0).val (i 1).val : ℝ) : EReal) := by
  unfold dy
  rw [EReal.coe_mul, ← bits_part]
  unfold k0_pay14
  pointwise
  rw [pay12 hH hW hQ]

theorem pay13 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (i : S1x1.Idx) : k0_pay13 P A W Q i = ((lossTile h g T 0 : ℝ) : EReal) := by
  unfold k0_pay13
  pointwise
  simp only [pay12 hH hW hQ, bits_half, bits_2048, div_real _ (show (2048 : ℝ) ≠ 0 by norm_num), ← EReal.coe_mul, sum_coe]
  refine congrArg _ ?_
  unfold lossTile
  simp only [Nat.zero_add]
  rfl

theorem pay15 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (i : S512x2048.Idx) : k0_pay15 P A W Q i = dh h g T (i 0).val (i 1).val := by
  unfold dh dx
  rw [EReal.coe_zero, zero_add, root_real (v := h (i 0).val) (fun _ => rfl)]
  unfold k0_pay15
  pointwise
  simp only [pay14 hH hW hQ, pay11 hH, pay10 hH, hW, ← EReal.coe_mul]
  rfl

theorem pay16 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (i : S512x2048.Idx) :
    k0_pay16 P A W Q i = ((dy h g T (i 0).val (i 1).val * (h (i 0).val (i 1).val * (Real.sqrt (ms (h (i 0).val)))⁻¹) : ℝ) : EReal) := by
  rw [EReal.coe_mul]
  unfold k0_pay16
  pointwise
  rw [pay14 hH hW hQ, pay11 hH]

theorem pay7 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (v : Vec Ideal S1x2048 .f32) (i : S1x2048.Idx) :
    k0_pay7 (k0_pay16 P A W Q) v i = (v i : EReal) + ((dgTile h g T 0 (i 1).val : ℝ) : EReal) := by
  have h0 : (i 0).val < 1 := (i 0).isLt
  unfold k0_pay7
  pointwise
  simp only [pay16 hH hW hQ, sum_coe]
  unfold dgTile
  simp only [Nat.zero_add]
  rfl

theorem pay6 (hH : ∀ i, (P i : EReal) + A i = ((h (i 0).val (i 1).val : ℝ) : EReal)) (hW : ∀ i, W i = ((g (i 1).val : ℝ) : EReal))
    (hQ : ∀ i, Q i = ((T (i 0).val (i 1).val : ℝ) : EReal)) (v : Vec Ideal S1x128 .f32) (i : S1x128.Idx) :
    k0_pay6 (k0_pay13 P A W Q) v i = (v i : EReal) + ((lossTile h g T 0 : ℝ) : EReal) := by
  unfold k0_pay6
  pointwise
  rw [pay13 hH hW hQ]

end Head

theorem dgTile_shift (h : ℕ → ℕ → ℝ) (g : ℕ → ℝ) (T : ℕ → ℕ → ℝ) (b e : ℕ) :
    dgTile (fun n => h (b + n)) g (fun n => T (b + n)) 0 e = dgTile h g T b e := by
  unfold dgTile dy res
  simp only [Nat.zero_add]

theorem lossTile_shift (h : ℕ → ℕ → ℝ) (g : ℕ → ℝ) (T : ℕ → ℕ → ℝ) (b : ℕ) :
    lossTile (fun n => h (b + n)) g (fun n => T (b + n)) 0 = lossTile h g T b := by
  unfold lossTile res
  simp only [Nat.zero_add]

theorem idx : ∀ t : Fin cfg0.N, win0_0.index t = ![t.val / 4, 4 * (t.val % 4) + 1] ∧ win0_1.index t = ![t.val / 4, 4 * (t.val % 4) + 3]
    ∧ win0_2.index t = ![t.val % 4, 0, 1, 0] ∧ win0_3.index t = ![t.val % 4, 0, 3, 0] ∧ win0_4.index t = ![t.val / 4, 0] ∧ win0_5.index t = ![0, 0]
    ∧ win0_6.index t = ![t.val / 4, 0] ∧ win0_7.index t = ![t.val / 4, 0] ∧ win0_8.index t = ![t.val / 4, 0] ∧ win0_9.index t = ![0, 0] ∧ win0_10.index t = ![0, 0] :=
  (by decide +kernel : ∀ t : Fin grid0.N, _)

variable (m : (ℓ : Loc nD τ sig) → Buf (Elt Ideal) ℓ) (c : Dev nD)

theorem blk0 (t : Fin cfg0.N) (i : S512x512.Idx) : iblk m c 0 t i = m ((c : Thread nD τ).loc main_arg0)
    (ix2 (⟨512 * (t.val / 4) + (i 0).val, by have : (i 0).val < 512 := (i 0).isLt; have : t.val < 16 := t.isLt; omega⟩ : Fin 2048) (⟨512 * (4 * (t.val % 4) + 1) + (i 1).val, by have : (i 1).val < 512 := (i 1).isLt; have : t.val < 16 := t.isLt; omega⟩ : Fin 8192)) := by
  blk_point [iblk, V, idx t]

theorem blk1 (t : Fin cfg0.N) (i : S512x512.Idx) : iblk m c 1 t i = m ((c : Thread nD τ).loc main_arg0)
    (ix2 (⟨512 * (t.val / 4) + (i 0).val, by have : (i 0).val < 512 := (i 0).isLt; have : t.val < 16 := t.isLt; omega⟩ : Fin 2048) (⟨512 * (4 * (t.val % 4) + 3) + (i 1).val, by have : (i 1).val < 512 := (i 1).isLt; have : t.val < 16 := t.isLt; omega⟩ : Fin 8192)) := by
  blk_point [iblk, V, idx t]

theorem blk2 (t : Fin cfg0.N) (i : S1x1x512x2048.Idx) : iblk m c 2 t i = m ((c : Thread nD τ).loc main_arg1)
    (ix4 (⟨t.val % 4, by omega⟩ : Fin 4) (0 : Fin 1) (⟨512 + (i 2).val, by have : (i 2).val < 512 := (i 2).isLt; omega⟩ : Fin 2048) (i 3 : Fin 2048)) := by
  have h0 : (i 0).val < 1 := (i 0).isLt
  have h1 : (i 1).val < 1 := (i 1).isLt
  blk_point [iblk, V, idx t]

theorem blk3 (t : Fin cfg0.N) (i : S1x1x512x2048.Idx) : iblk m c 3 t i = m ((c : Thread nD τ).loc main_arg1)
    (ix4 (⟨t.val % 4, by omega⟩ : Fin 4) (0 : Fin 1) (⟨1536 + (i 2).val, by have : (i 2).val < 512 := (i 2).isLt; omega⟩ : Fin 2048) (i 3 : Fin 2048)) := by
  have h0 : (i 0).val < 1 := (i 0).isLt
  have h1 : (i 1).val < 1 := (i 1).isLt
  blk_point [iblk, V, idx t]

theorem blk4 (t : Fin cfg0.N) (i : S512x2048.Idx) : iblk m c 4 t i = m ((c : Thread nD τ).loc main_arg2)
    (ix2 (⟨512 * (t.val / 4) + (i 0).val, by have : (i 0).val < 512 := (i 0).isLt; have : t.val < 16 := t.isLt; omega⟩ : Fin 2048) (i 1 : Fin 2048)) := by
  blk_point [iblk, V, idx t]

theorem blk5 (t : Fin cfg0.N) (i : S1x2048.Idx) : iblk m c 5 t i = m ((c : Thread nD τ).loc main_arg3) (ix2 (0 : Fin 1) (i 1 : Fin 2048)) := by
  have h0 : (i 0).val < 1 := (i 0).isLt
  blk_point [iblk, V, idx t]

theorem blk6 (t : Fin cfg0.N) (i : S512x2048.Idx) : iblk m c 6 t i = m ((c : Thread nD τ).loc main_arg4)
    (ix2 (⟨512 * (t.val / 4) + (i 0).val, by have : (i 0).val < 512 := (i 0).isLt; have : t.val < 16 := t.isLt; omega⟩ : Fin 2048) (i 1 : Fin 2048)) := by
  blk_point [iblk, V, idx t]

/-- What one point adds to the scratch sum. -/
def step (t : Fin cfg0.N) (y : S512x2048.Idx) : EReal := term (iblk m c 0 t) (iblk m c 2 t) y + term (iblk m c 1 t) (iblk m c 3 t) y

/-- The scratch sum after the first point of a run. -/
theorem first (t : Fin cfg0.N) (h : t.val % 4 = 0) (y : S512x2048.Idx) :
    (outsAt0 m c t.val t.isLt).2.2.2.2 y = (0 : EReal) + step m c t y := by
  by_cases h0 : t.val % 16 = 0
  · rw [outsAt0_A m c t h0 h (by omega) (by omega)]
    frame_out
    rw [pay4, zero_add]
    rfl
  · rw [outsAt0_D m c t h0 h (by omega) (by omega)]
    frame_out
    rw [pay4, zero_add]
    rfl

/-- What a later point of a run adds to the scratch sum. -/
theorem later (t : Fin cfg0.N) (h : ¬t.val % 4 = 0) (y : S512x2048.Idx) :
    (outsAt0 m c t.val t.isLt).2.2.2.2 y = ((outsAt0 m c (t.val - 1) (Nat.lt_of_le_of_lt (Nat.sub_le _ _) t.isLt)).2.2.2.2 y : EReal) + step m c t y := by
  by_cases h3 : t.val % 4 = 3
  · rw [outsAt0_C m c t (by omega) h (by omega) h3]
    frame_out
    simp only [read_unread_whole]
    rw [pay5]
    rfl
  · rw [outsAt0_B m c t (by omega) h (by omega) h3]
    frame_out
    simp only [read_unread_whole]
    rw [pay5]
    rfl

/-- The last point of a run: its four results from the scratch sum. -/
theorem last0 (t : Fin cfg0.N) (h : t.val % 4 = 3) :
    (outsAt0 m c t.val t.isLt).1 = k0_pay15 (iblk m c 4 t) (outsAt0 m c t.val t.isLt).2.2.2.2 (iblk m c 5 t) (iblk m c 6 t) := by
  rw [outsAt0_C m c t (by omega) (by omega) (by omega) h]
  frame_out

@[inherit_doc last0]
theorem last1 (t : Fin cfg0.N) (h : t.val % 4 = 3) :
    (outsAt0 m c t.val t.isLt).2.1 = k0_pay8 (k0_pay15 (iblk m c 4 t) (outsAt0 m c t.val t.isLt).2.2.2.2 (iblk m c 5 t) (iblk m c 6 t)) := by
  rw [outsAt0_C m c t (by omega) (by omega) (by omega) h]
  frame_out

@[inherit_doc last0]
theorem last2 (t : Fin cfg0.N) (h : t.val % 4 = 3) :
    (outsAt0 m c t.val t.isLt).2.2.1 = k0_pay7 (k0_pay16 (iblk m c 4 t) (outsAt0 m c t.val t.isLt).2.2.2.2 (iblk m c 5 t) (iblk m c 6 t))
      (outsAt0 m c (t.val - 1) (Nat.lt_of_le_of_lt (Nat.sub_le _ _) t.isLt)).2.2.1 := by
  rw [outsAt0_C m c t (by omega) (by omega) (by omega) h]
  frame_out

@[inherit_doc last0]
theorem last3 (t : Fin cfg0.N) (h : t.val % 4 = 3) :
    (outsAt0 m c t.val t.isLt).2.2.2.1 = k0_pay6 (k0_pay13 (iblk m c 4 t) (outsAt0 m c t.val t.isLt).2.2.2.2 (iblk m c 5 t) (iblk m c 6 t))
      (outsAt0 m c (t.val - 1) (Nat.lt_of_le_of_lt (Nat.sub_le _ _) t.isLt)).2.2.2.1 := by
  rw [outsAt0_C m c t (by omega) (by omega) (by omega) h]
  frame_out

/-- The first point of all zeroes both running sums. -/
theorem zero (t : Fin cfg0.N) (h : t.val % 16 = 0) :
    (∀ y, (outsAt0 m c t.val t.isLt).2.2.1 y = (0 : EReal)) ∧ (∀ y, (outsAt0 m c t.val t.isLt).2.2.2.1 y = (0 : EReal)) := by
  refine ⟨fun y => ?_, fun y => ?_⟩
  · rw [outsAt0_A m c t h (by omega) (by omega) (by omega)]
    frame_out
    rw [pay1]
  · rw [outsAt0_A m c t h (by omega) (by omega) (by omega)]
    frame_out
    rw [pay2]

/-- A point that is not the last of its run keeps both running sums. -/
theorem keep (t : Fin cfg0.N) (h : ¬t.val % 16 = 0) (h3 : ¬t.val % 4 = 3) :
    (outsAt0 m c t.val t.isLt).2.2.1 = (outsAt0 m c (t.val - 1) (Nat.lt_of_le_of_lt (Nat.sub_le _ _) t.isLt)).2.2.1
      ∧ (outsAt0 m c t.val t.isLt).2.2.2.1 = (outsAt0 m c (t.val - 1) (Nat.lt_of_le_of_lt (Nat.sub_le _ _) t.isLt)).2.2.2.1 := by
  by_cases h0 : t.val % 4 = 0
  · rw [outsAt0_D m c t h h0 (by omega) h3]
    exact ⟨rfl, rfl⟩
  · rw [outsAt0_B m c t h h0 (by omega) h3]
    exact ⟨rfl, rfl⟩

/-- The residual and the scratch sum at the end of a run. -/
theorem row (t : Fin cfg0.N) (h : t.val % 4 = 3) (y : S512x2048.Idx) :
    @HAdd.hAdd EReal EReal EReal _ (iblk m c 4 t y) ((outsAt0 m c t.val t.isLt).2.2.2.2 y) = hid (m ((c : Thread nD τ).loc main_arg0)) (m ((c : Thread nD τ).loc main_arg1)) (m ((c : Thread nD τ).loc main_arg2))
      (ix2 (⟨512 * (t.val / 4) + (y 0).val, by have : (y 0).val < 512 := (y 0).isLt; have : t.val < 16 := t.isLt; omega⟩ : Fin 2048) (y 1 : Fin 2048)) := by
  have h0 : (y 0).val < 512 := (y 0).isLt
  have h1 : (y 1).val < 2048 := (y 1).isLt
  have ht : t.val < 16 := t.isLt
  unfold hid
  refine congr_arg₂ (fun a b : EReal => a + b) (blk4 m c t y) ?_
  refine (Pipeline.eq_sum_fin_of_reset_step_apply_of_flush (fun n h => (outsAt0 m c n h).2.2.2.2) 4 (fun _ => (0 : EReal))
    (fun t y => step m c t y) (first m c) (later m c) t h y).trans ?_
  rw [zero_add, Sums.tiles (N := 8) 4 2 (by norm_num)]
  refine Finset.sum_congr rfl fun j _ => ?_
  have hj : j.val < 4 := j.isLt
  rw [Fin.sum_univ_two]
  simp only [step, term, blk0, blk1, blk2, blk3]
  refine congr_arg₂ (fun a b : EReal => a + b) (Finset.sum_congr rfl fun k _ => ?_) (Finset.sum_congr rfl fun k _ => ?_)
  · refine congr_arg₂ (fun a b : EReal => a * b) (congr_arg _ ?_) (congr_arg _ ?_)
    · refine congr_arg₂ (fun a b => ix2 a b) (Fin.ext ?_) (Fin.ext ?_) <;> simp <;> omega
    · refine funext fun a => Fin.ext ?_
      match a with
      | ⟨0, _⟩ => simp <;> omega
      | ⟨1, _⟩ => rfl
      | ⟨2, _⟩ => simp <;> omega
      | ⟨3, _⟩ => simp <;> omega
  · refine congr_arg₂ (fun a b : EReal => a * b) (congr_arg _ ?_) (congr_arg _ ?_)
    · refine congr_arg₂ (fun a b => ix2 a b) (Fin.ext ?_) (Fin.ext ?_) <;> simp <;> omega
    · refine funext fun a => Fin.ext ?_
      match a with
      | ⟨0, _⟩ => simp <;> omega
      | ⟨1, _⟩ => rfl
      | ⟨2, _⟩ => simp <;> omega
      | ⟨3, _⟩ => simp <;> omega

theorem hid_real {a : S2048x8192.Idx → EReal} {w : S4x1x2048x2048.Idx → EReal} {r : S2048x2048.Idx → EReal}
    (ha : ∀ i, a i = ((EReal.toReal (a i) : ℝ) : EReal)) (hw : ∀ i, w i = ((EReal.toReal (w i) : ℝ) : EReal))
    (hr : ∀ i, r i = ((EReal.toReal (r i) : ℝ) : EReal)) (i : S2048x2048.Idx) : hid a w r i = ((EReal.toReal (hid a w r i) : ℝ) : EReal) := by
  have e : ∃ u : ℝ, hid a w r i = (u : EReal) := by
    unfold hid
    generalize hA : (fun i => EReal.toReal (a i)) = A at ha
    generalize hW : (fun i => EReal.toReal (w i)) = W at hw
    generalize hR : (fun i => EReal.toReal (r i)) = R at hr
    have ha' : ∀ i, a i = ((A i : ℝ) : EReal) := fun i => (ha i).trans (by rw [← hA])
    have hw' : ∀ i, w i = ((W i : ℝ) : EReal) := fun i => (hw i).trans (by rw [← hW])
    have hr' : ∀ i, r i = ((R i : ℝ) : EReal) := fun i => (hr i).trans (by rw [← hR])
    simp only [ha', hw', hr', ← EReal.coe_mul, sum_coe, ← EReal.coe_add]
    exact ⟨_, rfl⟩
  obtain ⟨u, hu⟩ := e
  rw [hu, EReal.toReal_coe]

/-- The real rows before the norm. -/
def hR : ℕ → ℕ → ℝ := real2 (A := 2048) (B := 2048) (hid (m ((c : Thread nD τ).loc main_arg0)) (m ((c : Thread nD τ).loc main_arg1)) (m ((c : Thread nD τ).loc main_arg2)))

/-- The real scale. -/
def gR : ℕ → ℝ := real2 (A := 1) (B := 2048) (m ((c : Thread nD τ).loc main_arg3)) 0

/-- The real target. -/
def tR : ℕ → ℕ → ℝ := real2 (A := 2048) (B := 2048) (m ((c : Thread nD τ).loc main_arg4))

variable (f0 : ∀ i : S2048x8192.Idx, (m ((c : Thread nD τ).loc main_arg0)) i = ((EReal.toReal ((m ((c : Thread nD τ).loc main_arg0)) i) : ℝ) : EReal)) (f1 : ∀ i : S4x1x2048x2048.Idx, (m ((c : Thread nD τ).loc main_arg1)) i = ((EReal.toReal ((m ((c : Thread nD τ).loc main_arg1)) i) : ℝ) : EReal))
  (f2 : ∀ i : S2048x2048.Idx, (m ((c : Thread nD τ).loc main_arg2)) i = ((EReal.toReal ((m ((c : Thread nD τ).loc main_arg2)) i) : ℝ) : EReal)) (f3 : ∀ i : S1x2048.Idx, (m ((c : Thread nD τ).loc main_arg3)) i = ((EReal.toReal ((m ((c : Thread nD τ).loc main_arg3)) i) : ℝ) : EReal))
  (f4 : ∀ i : S2048x2048.Idx, (m ((c : Thread nD τ).loc main_arg4)) i = ((EReal.toReal ((m ((c : Thread nD τ).loc main_arg4)) i) : ℝ) : EReal))

include f0 f1 f2 in
theorem bH (t : Fin cfg0.N) (h : t.val % 4 = 3) (y : S512x2048.Idx) :
    @HAdd.hAdd EReal EReal EReal _ (iblk m c 4 t y) ((outsAt0 m c t.val t.isLt).2.2.2.2 y) = ((hR m c (512 * (t.val / 4) + (y 0).val) (y 1).val : ℝ) : EReal) :=
  (row m c t h y).trans (real2_spec (hid_real f0 f1 f2) _)

include f3 in
theorem bW (t : Fin cfg0.N) (y : S1x2048.Idx) : iblk m c 5 t y = ((gR m c (y 1).val : ℝ) : EReal) :=
  (blk5 m c t y).trans (real2_spec f3 _)

include f4 in
theorem bQ (t : Fin cfg0.N) (y : S512x2048.Idx) : iblk m c 6 t y = ((tR m c (512 * (t.val / 4) + (y 0).val) (y 1).val : ℝ) : EReal) :=
  (blk6 m c t y).trans (real2_spec f4 _)

include f0 f1 f2 f3 f4 in
theorem out0 (t : Fin cfg0.N) (h : t.val % 4 = 3) (y : S512x2048.Idx) :
    (outsAt0 m c t.val t.isLt).1 y = dh (hR m c) (gR m c) (tR m c) (512 * (t.val / 4) + (y 0).val) (y 1).val := by
  rw [last0 m c t h]
  exact pay15 (h := fun n => hR m c (512 * (t.val / 4) + n)) (T := fun n => tR m c (512 * (t.val / 4) + n))
    (bH m c f0 f1 f2 t h) (bW m c f3 t) (bQ m c f4 t) y

include f0 f1 f2 f3 f4 in
theorem out1 (t : Fin cfg0.N) (h : t.val % 4 = 3) (y : S512x2048.Idx) :
    (outsAt0 m c t.val t.isLt).2.1 y = dh (hR m c) (gR m c) (tR m c) (512 * (t.val / 4) + (y 0).val) (y 1).val := by
  rw [last1 m c t h]
  exact pay15 (h := fun n => hR m c (512 * (t.val / 4) + n)) (T := fun n => tR m c (512 * (t.val / 4) + n))
    (bH m c f0 f1 f2 t h) (bW m c f3 t) (bQ m c f4 t) y

include f0 f1 f2 f3 f4 in
/-- Both running sums after any point: the tiles whose runs are over. -/
theorem sums : ∀ (n : ℕ) (hn : n < cfg0.N),
    (∀ y : S1x2048.Idx, (outsAt0 m c n hn).2.2.1 y = ((∑ j ∈ Finset.range ((n + 1) / 4), dgTile (hR m c) (gR m c) (tR m c) (512 * j) (y 1).val : ℝ) : EReal))
      ∧ (∀ y : S1x128.Idx, (outsAt0 m c n hn).2.2.2.1 y = ((∑ j ∈ Finset.range ((n + 1) / 4), lossTile (hR m c) (gR m c) (tR m c) (512 * j) : ℝ) : EReal)) := by
  intro n
  induction n with
  | zero =>
    intro hn
    obtain ⟨z0, z1⟩ := zero m c ⟨0, hn⟩ rfl
    exact ⟨fun y => (z0 y).trans (by simp), fun y => (z1 y).trans (by simp)⟩
  | succ n ih =>
    intro hn
    have ht : n + 1 < 16 := hn
    obtain ⟨i0, i1⟩ := ih (by omega)
    by_cases h3 : (n + 1) % 4 = 3
    · have e : (n + 1 + 1) / 4 = (n + 1) / 4 + 1 := by omega
      rw [e]
      refine ⟨fun y => ?_, fun y => ?_⟩
      · refine (congrFun (last2 m c ⟨n + 1, hn⟩ h3) y).trans ?_
        refine (pay7 (h := fun k => hR m c (512 * ((n + 1) / 4) + k)) (T := fun k => tR m c (512 * ((n + 1) / 4) + k))
          (bH m c f0 f1 f2 ⟨n + 1, hn⟩ h3) (bW m c f3 ⟨n + 1, hn⟩) (bQ m c f4 ⟨n + 1, hn⟩) _ y).trans ?_
        rw [Finset.sum_range_succ, EReal.coe_add, dgTile_shift]
        exact congrArg (· + _) (i0 y)
      · refine (congrFun (last3 m c ⟨n + 1, hn⟩ h3) y).trans ?_
        refine (pay6 (h := fun k => hR m c (512 * ((n + 1) / 4) + k)) (T := fun k => tR m c (512 * ((n + 1) / 4) + k))
          (bH m c f0 f1 f2 ⟨n + 1, hn⟩ h3) (bW m c f3 ⟨n + 1, hn⟩) (bQ m c f4 ⟨n + 1, hn⟩) _ y).trans ?_
        rw [Finset.sum_range_succ, EReal.coe_add, lossTile_shift]
        exact congrArg (· + _) (i1 y)
    · have e : (n + 1 + 1) / 4 = (n + 1) / 4 := by omega
      rw [e]
      obtain ⟨k0, k1⟩ := keep m c ⟨n + 1, hn⟩ (show ¬(n + 1) % 16 = 0 by omega) h3
      exact ⟨fun y => (congrFun k0 y).trans (i0 y), fun y => (congrFun k1 y).trans (i1 y)⟩

/-- The residual's gradient. -/
def dhOut (i : S2048x2048.Idx) : EReal := dh (hR m c) (gR m c) (tR m c) (i 0).val (i 1).val

/-- The scale's gradient. -/
def dgOut (i : S1x2048.Idx) : EReal := ((∑ j ∈ Finset.range 4, dgTile (hR m c) (gR m c) (tR m c) (512 * j) (i 1).val : ℝ) : EReal)

/-- The loss, at every place of its row. -/
def lossOut (_ : S1x128.Idx) : EReal := ((∑ j ∈ Finset.range 4, lossTile (hR m c) (gR m c) (tR m c) (512 * j) : ℝ) : EReal)

include f0 f1 f2 f3 f4 in
theorem arr0 : (dats m 0 c).arrAt 7 cfg0.N = fun i : S2048x2048.Idx => dhOut m c i := by
  refine (dats m 0 c).arrAt_eq_of_covers 7 _ (by decide +kernel) fun t hf y => ?_
  have h3 : t.val % 4 = 3 := (flush0_7 t).mp hf
  have h0 : (y 0).val < 512 := (y 0).isLt
  have ht : t.val < 16 := t.isLt
  blk_simp
  rw [after0_7]
  have e : ∀ W : S2048x2048.Idx → EReal, W ((win0_7.blk t).view.emb y) = W (ix2 (⟨512 * (t.val / 4) + (y 0).val, by omega⟩ : Fin 2048) (y 1 : Fin 2048)) := fun W => by
    blk_ext [idx t]
  rw [e (dhOut m c)]
  exact out0 m c f0 f1 f2 f3 f4 t h3 y

include f0 f1 f2 f3 f4 in
theorem arr1 : (dats m 0 c).arrAt 8 cfg0.N = fun i : S2048x2048.Idx => dhOut m c i := by
  refine (dats m 0 c).arrAt_eq_of_covers 8 _ (by decide +kernel) fun t hf y => ?_
  have h3 : t.val % 4 = 3 := (flush0_8 t).mp hf
  have h0 : (y 0).val < 512 := (y 0).isLt
  have ht : t.val < 16 := t.isLt
  blk_simp
  rw [after0_8]
  have e : ∀ W : S2048x2048.Idx → EReal, W ((win0_8.blk t).view.emb y) = W (ix2 (⟨512 * (t.val / 4) + (y 0).val, by omega⟩ : Fin 2048) (y 1 : Fin 2048)) := fun W => by
    blk_ext [idx t]
  rw [e (dhOut m c)]
  exact out1 m c f0 f1 f2 f3 f4 t h3 y

include f0 f1 f2 f3 f4 in
theorem arr2 : (dats m 0 c).arrAt 9 cfg0.N = fun i : S1x2048.Idx => dgOut m c i := by
  refine (dats m 0 c).arrAt_eq_of_covers 9 _ (by decide +kernel) fun t hf y => ?_
  have h3 : t.val % 16 = 15 := (flush0_9 t).mp hf
  have h0 : (y 0).val < 1 := (y 0).isLt
  have ht : t.val < 16 := t.isLt
  have h4 : (t.val + 1) / 4 = 4 := by omega
  blk_simp
  rw [after0_9]
  have e : ∀ W : S1x2048.Idx → EReal, W ((win0_9.blk t).view.emb y) = W (ix2 (0 : Fin 1) (y 1 : Fin 2048)) := fun W => by
    blk_ext [idx t]
  rw [e (dgOut m c)]
  refine ((sums m c f0 f1 f2 f3 f4 t.val t.isLt).1 y).trans ?_
  rw [h4]
  rfl

include f0 f1 f2 f3 f4 in
theorem arr3 : (dats m 0 c).arrAt 10 cfg0.N = fun i : S1x128.Idx => lossOut m c i := by
  refine (dats m 0 c).arrAt_eq_of_covers 10 _ (by decide +kernel) fun t hf y => ?_
  have h3 : t.val % 16 = 15 := (flush0_10 t).mp hf
  have ht : t.val < 16 := t.isLt
  have h4 : (t.val + 1) / 4 = 4 := by omega
  blk_simp
  rw [after0_10]
  refine ((sums m c f0 f1 f2 f3 f4 t.val t.isLt).2 y).trans ?_
  rw [h4]
  rfl

end Cert.DownLossIdeal.Gen

namespace Cert.DownLossRefIdeal.Read

open DownLossRefIdeal DownLossRefIdeal.Gen Idealize.ShloMosaic Idealize.ShloMosaic.TcCoe Idealize.ShloMosaic.StableHlo

open Numbered GateMath Finite
open RmsBwdRefIdeal.Read (ms ms_pos grad)
open DownLossIdeal.Gen (hid hid_real res dy dh dgTile lossTile)

theorem rd13 (x0 : S2048x8192.Idx → EReal) (x1 : S4x1x2048x2048.Idx → EReal) (x2 : S2048x2048.Idx → EReal) (i : S2048x2048.Idx) :
    val_main_v13 (F := Ideal) x0 x1 x2 i = hid x0 x1 x2 i := by
  have h0 : (i 0).val < 2048 := (i 0).isLt
  have h1 : (i 1).val < 2048 := (i 1).isLt
  rw [val_main_v13_apply, val_main_v12_apply]
  unfold hid
  refine congr_arg (x2 i + ·) ?_
  rw [Sums.tiles 8 512 (by norm_num)]
  refine Finset.sum_congr rfl fun j _ => Finset.sum_congr rfl fun k _ => ?_
  have hj : j.val < 8 := j.isLt
  have hk : k.val < 512 := k.isLt
  refine congr_arg₂ (· * ·) ?_ ?_
  · rw [val_main_v4_apply]
    have e4 : idx_main_v4 (lidx_main_v12 i ⟨512 * j.val + k.val, by omega⟩) = ix3 (⟨(i 0).val, h0⟩ : Fin 2048) j k := funext fun a => Fin.ext (by
      match a with
      | ⟨0, _⟩ => simp <;> omega
      | ⟨1, _⟩ => simp <;> omega
      | ⟨2, _⟩ => simp <;> omega)
    rw [e4, val_main_v3_apply]
    have e3 : idx_main_v3 (ix3 (⟨(i 0).val, h0⟩ : Fin 2048) j k) = ix4 (⟨(i 0).val, h0⟩ : Fin 2048) j (0 : Fin 1) k := funext fun a => Fin.ext (by
      match a with
      | ⟨0, _⟩ => simp <;> omega
      | ⟨1, _⟩ => simp <;> omega
      | ⟨2, _⟩ => rfl
      | ⟨3, _⟩ => simp <;> omega)
    rw [e3, val_main_v2_apply, val_main_v1_apply, val_main_v0_apply]
    show x0 _ = x0 _
    exact congr_arg x0 (funext fun a => Fin.ext (by
      match a with
      | ⟨0, _⟩ => simp <;> omega
      | ⟨1, _⟩ => simp <;> omega))
  · rw [val_main_v11_apply]
    have e11 : idx_main_v11 (ridx_main_v12 i ⟨512 * j.val + k.val, by omega⟩) = ix3 j k (⟨(i 1).val, h1⟩ : Fin 2048) := funext fun a => Fin.ext (by
      match a with
      | ⟨0, _⟩ => simp <;> omega
      | ⟨1, _⟩ => simp <;> omega
      | ⟨2, _⟩ => simp <;> omega)
    rw [e11, val_main_v10_apply]
    have e10 : idx_main_v10 (ix3 j k (⟨(i 1).val, h1⟩ : Fin 2048)) = ix4 j (0 : Fin 1) k (⟨(i 1).val, h1⟩ : Fin 2048) := funext fun a => Fin.ext (by
      match a with
      | ⟨0, _⟩ => simp <;> omega
      | ⟨1, _⟩ => rfl
      | ⟨2, _⟩ => simp <;> omega
      | ⟨3, _⟩ => simp <;> omega)
    rw [e10, val_main_v9_apply, val_main_v8_apply]
    have e8 : idx_main_v8 (idx_main_v9 (ix4 j (0 : Fin 1) k (⟨(i 1).val, h1⟩ : Fin 2048))) = ix2 (⟨512 * (2 * j.val + 1) + k.val, by omega⟩ : Fin 8192) (⟨(i 1).val, h1⟩ : Fin 2048) := funext fun a => Fin.ext (by
      match a with
      | ⟨0, _⟩ => simp <;> omega
      | ⟨1, _⟩ => simp <;> omega)
    rw [e8, val_main_v7_apply, val_main_v6_apply, val_main_v5_apply]
    show x1 _ = x1 _
    exact congr_arg x1 (funext fun a => Fin.ext (by
      match a with
      | ⟨0, _⟩ => simp <;> omega
      | ⟨1, _⟩ => rfl
      | ⟨2, _⟩ => simp <;> omega
      | ⟨3, _⟩ => simp <;> omega))

section Real

variable {x0 : S2048x8192.Idx → EReal} {x1 : S4x1x2048x2048.Idx → EReal} {x2 : S2048x2048.Idx → EReal} {x3 : S1x2048.Idx → EReal} {x4 : S2048x2048.Idx → EReal}
variable {h T : ℕ → ℕ → ℝ} {g : ℕ → ℝ}
variable (hh : ∀ i : S2048x2048.Idx, hid x0 x1 x2 i = ((h (i 0).val (i 1).val : ℝ) : EReal)) (hg : ∀ i : S1x2048.Idx, x3 i = ((g (i 1).val : ℝ) : EReal))
  (hT : ∀ i : S2048x2048.Idx, x4 i = ((T (i 0).val (i 1).val : ℝ) : EReal))

include hh in
theorem rl13 (i : S2048x2048.Idx) : val_main_v13 (F := Ideal) x0 x1 x2 i = ((h (i 0).val (i 1).val : ℝ) : EReal) := (rd13 x0 x1 x2 i).trans (hh i)

include hh in
theorem rl20 (i : S2048x1.Idx) : val_main_v20 (F := Ideal) x0 x1 x2 i = ((ms (h (i 0).val) : ℝ) : EReal) := by
  simp only [val_main_v20_apply, val_main_v19_apply, val_main_v18_apply, val_main_v17_apply, val_main_v16_apply, val_main_v15_apply, val_main_v14_apply,
    val_main_cst_apply, val_main_cst_0_apply, val_main_cst_1_apply, Ideal.ofBits_def,
    bits_zero, Ideal.hostDivf_def, Ideal.addf_def, Ideal.mulf_def, rl13 hh, ← EReal.coe_mul, sum_coe, ← EReal.coe_add, zero_add,
    bits_2048, bits_eps, div_real _ (show (2048 : ℝ) ≠ 0 by norm_num)]
  rfl

include hh in
theorem rl21 (i : S2048x1.Idx) : val_main_v21 (F := Ideal) x0 x1 x2 i = (((Real.sqrt (ms (h (i 0).val)))⁻¹ : ℝ) : EReal) := by
  rw [val_main_v21_apply, rl20 hh, Ideal.hostUnary_rsqrt_def]
  exact rsqrt_real (ms_pos _)

include hh in
theorem rl24 (i : S2048x1.Idx) : val_main_v24 (F := Ideal) x0 x1 x2 i = ((-(1 / 2) * ((Real.sqrt (ms (h (i 0).val)))⁻¹ / ms (h (i 0).val)) : ℝ) : EReal) := by
  simp only [val_main_v24_apply, val_main_v23_apply, val_main_v22_apply, val_main_cst_2_apply, Ideal.ofBits_def, bits_neg_half, Ideal.mulf_def,
    Ideal.hostDivf_def, rl21 hh, rl20 hh, div_real _ (ms_pos _).ne', ← EReal.coe_mul]

include hh in
theorem rl26 (i : S2048x2048.Idx) : val_main_v26 (F := Ideal) x0 x1 x2 i = ((h (i 0).val (i 1).val * (Real.sqrt (ms (h (i 0).val)))⁻¹ : ℝ) : EReal) := by
  simp only [val_main_v26_apply, val_main_v25_apply, rl13 hh, rl21 hh, Ideal.mulf_def, ← EReal.coe_mul]

include hh hg hT in
theorem rl29 (i : S2048x2048.Idx) : val_main_v29 (F := Ideal) x0 x1 x2 x3 x4 i = ((res h g T (i 0).val (i 1).val : ℝ) : EReal) := by
  simp only [val_main_v29_apply, val_main_v28_apply, val_main_v27_apply, rl26 hh, hg, hT, Ideal.mulf_def, Ideal.subf_def, ← EReal.coe_mul, ← EReal.coe_sub]
  rfl

include hh hg hT in
theorem rl43 (i : S2048x2048.Idx) : val_main_v43 (F := Ideal) x0 x1 x2 x3 x4 i = ((dy h g T (i 0).val (i 1).val : ℝ) : EReal) := by
  simp only [val_main_v43_apply, val_main_v42_apply, val_main_v41_apply, val_main_v40_apply, val_main_v39_apply, val_main_v38_apply, val_main_v32_apply,
    val_main_v31_apply, val_main_cst_3_apply, val_main_cst_8_apply, val_main_cst_9_apply, val_main_cst_10_apply, Ideal.ofBits_def, bits_half, bits_one,
    bits_two, bits_2048, rl29 hh hg hT, Ideal.mulf_def, Ideal.hostDivf_def, div_real _ (show (2048 : ℝ) ≠ 0 by norm_num), ← EReal.coe_mul]
  refine congrArg _ ?_
  unfold dy
  ring

include hh hg hT in
theorem rd62 (i : S2048x2048.Idx) : val_main_v62 (F := Ideal) x0 x1 x2 x3 x4 i = dh h g T (i 0).val (i 1).val := by
  unfold dh
  rw [grad (fun _ => rfl) (fun _ => rfl) (fun _ => rfl) rfl]
  simp only [val_main_v62_apply, val_main_v61_apply, val_main_v60_apply, val_main_v59_apply, val_main_v58_apply, val_main_v57_apply, val_main_v56_apply,
    val_main_v55_apply, val_main_v54_apply, val_main_v53_apply, val_main_v52_apply, val_main_v51_apply, val_main_v50_apply, val_main_v49_apply,
    val_main_v48_apply, val_main_v47_apply, val_main_cst_12_apply, val_main_cst_13_apply, val_main_cst_14_apply, rl43 hh hg hT, rl13 hh, rl21 hh, rl24 hh, hg,
    Ideal.ofBits_def, bits_zero, bits_2048, Ideal.hostDivf_def, Ideal.addf_def, Ideal.mulf_def, div_real _ (show (2048 : ℝ) ≠ 0 by norm_num),
    ← EReal.coe_mul, sum_coe, ← EReal.coe_add, zero_add, Fin.sum_univ_one, Fin.val_zero, mul_one, add_zero]

include hh hg hT in
theorem rd46 (i : S1x2048.Idx) : val_main_v46 (F := Ideal) x0 x1 x2 x3 x4 i = ((∑ j ∈ Finset.range 4, dgTile h g T (512 * j) (i 1).val : ℝ) : EReal) := by
  have h0 : (i 0).val < 1 := (i 0).isLt
  simp only [val_main_v46_apply, val_main_v45_apply, val_main_v44_apply, val_main_cst_11_apply, rl43 hh hg hT, rl26 hh, Ideal.ofBits_def, bits_zero,
    Ideal.mulf_def, ← EReal.coe_mul, sum_coe, ← EReal.coe_add, zero_add]
  refine congrArg _ ?_
  rw [Sums.tiles 4 512 (by norm_num), Finset.sum_range]
  unfold dgTile
  refine Finset.sum_congr rfl fun j _ => Finset.sum_congr rfl fun s _ => ?_
  refine (mul_comm _ _).trans ?_
  have e : (idx_main_v46 i 0).val = (i 1).val := by simp <;> omega
  show dy h g T (512 * j.val + s.val) (idx_main_v46 i 0).val * (h (512 * j.val + s.val) (idx_main_v46 i 0).val * _) = _
  rw [e]

/-- A sum over the indices of one axis is the sum over its numbers. -/
theorem sum_one (f : ℕ → ℝ) : ∑ j : S2048.Idx, f (j 0).val = ∑ n : Fin 2048, f n.val :=
  Fintype.sum_equiv ⟨fun j => (j 0 : Fin 2048), fun n => ix1 n, fun j => funext fun k => by fin_cases k; rfl, fun _ => rfl⟩ _ _ fun _ => rfl

include hh hg hT in
theorem rd64 (i : S1x128.Idx) : val_main_v64 (F := Ideal) x0 x1 x2 x3 x4 i = ((∑ j ∈ Finset.range 4, lossTile h g T (512 * j) : ℝ) : EReal) := by
  have e : ∀ j : S2048.Idx, val_main_v35 (F := Ideal) x0 x1 x2 x3 x4 j
      = (((∑ k : Fin 2048, res h g T (j 0).val k.val * res h g T (j 0).val k.val) / 2048 : ℝ) : EReal) := fun j => by
    simp only [val_main_v35_apply, val_main_v34_apply, val_main_v33_apply, val_main_v30_apply, val_main_cst_4_apply, val_main_cst_5_apply, rl29 hh hg hT,
      Ideal.ofBits_def, bits_zero, bits_2048, Ideal.mulf_def, Ideal.hostDivf_def, div_real _ (show (2048 : ℝ) ≠ 0 by norm_num), ← EReal.coe_mul, sum_coe,
      ← EReal.coe_add, zero_add]
  simp only [val_main_v64_apply, val_main_v37_apply, val_main_v36_apply, val_main_cst_6_apply, val_main_cst_7_apply, e, Ideal.ofBits_def, bits_zero,
    bits_half, Ideal.mulf_def, coe_sum, ← EReal.coe_mul, ← EReal.coe_add, zero_add]
  rw [sum_one fun n => (∑ k : Fin 2048, res h g T n k.val * res h g T n k.val) / 2048]
  refine congrArg _ ?_
  rw [Sums.tiles 4 512 (by norm_num), Finset.sum_range, Finset.mul_sum]
  rfl

end Real

end Cert.DownLossRefIdeal.Read

namespace Cert.DownLossRun

open Idealize.ShloMosaic Idealize.ShloMosaic.TcCoe Finite

attribute [local instance] Pre_loss_finite.Gen.facts

instance : Subsingleton Pre_loss_finite.S_.Idx := ⟨fun a b => funext fun k => k.elim0⟩

theorem pre_real {x0 : FVec Ideal Pre_loss_finite.S2048x8192 .bf16} {x1 : FVec Ideal Pre_loss_finite.S4x1x2048x2048 .bf16}
    {x2 : FVec Ideal Pre_loss_finite.S2048x2048 .f32} {x3 : FVec Ideal Pre_loss_finite.S1x2048 .f32} {x4 : FVec Ideal Pre_loss_finite.S2048x2048 .f32}
    (h : Pre_loss_finite.fn (F := Ideal) x0 x1 x2 x3 x4 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) ∧ (∀ i, x4 i = ((EReal.toReal (x4 i) : ℝ) : EReal)) := by
  have e := congrFun h (fun k => k.elim0)
  unfold Pre_loss_finite.fn Pre_loss_finite.fn_part1 at e
  obtain ⟨e, e4⟩ := both e
  obtain ⟨e, e3⟩ := both e
  obtain ⟨e, e2⟩ := both e
  obtain ⟨e0, e1⟩ := both e
  exact ⟨real_of_all (s := Pre_loss_finite.S2048x8192) x0 _ (fun _ => rfl) _ _ _ _ e0, real_of_all (s := Pre_loss_finite.S4x1x2048x2048) x1 _ (fun _ => rfl) _ _ _ _ e1, real_of_all x2 _ (fun _ => rfl) _ _ _ _ e2,
    real_of_all x3 _ (fun _ => rfl) _ _ _ _ e3, real_of_all x4 _ (fun _ => rfl) _ _ _ _ e4⟩

theorem algebraic : @Cert.algebraic_DownLossIdeal_DownLossRefIdeal_pre_loss_finite DownLossIdeal.Gen.facts DownLossRefIdeal.Gen.facts Pre_loss_finite.Gen.facts := by
  intro m g m' g' hp hag
  refine ⟨fun c => fun i : DownLossIdeal.S2048x2048.Idx => DownLossIdeal.Gen.dhOut m c i, fun c => fun i : DownLossIdeal.S2048x2048.Idx => DownLossIdeal.Gen.dhOut m c i, fun c => fun i : DownLossIdeal.S1x2048.Idx => DownLossIdeal.Gen.dgOut m c i, fun c => fun i : DownLossIdeal.S1x128.Idx => DownLossIdeal.Gen.lossOut m c i, ?_, ?_⟩
  · refine (θ_run _ _ _).mono (fun r hr c => ?_) (DownLossIdeal.Value.run_blocks m g)
    obtain ⟨f0, f1, f2, f3, f4⟩ := pre_real (hp c)
    obtain ⟨a0, a1, a2, a3, ha⟩ := hr c
    exact ⟨a0.trans (DownLossIdeal.Gen.arr0 m c f0 f1 f2 f3 f4), a1.trans (DownLossIdeal.Gen.arr1 m c f0 f1 f2 f3 f4),
      a2.trans (DownLossIdeal.Gen.arr2 m c f0 f1 f2 f3 f4), a3.trans (DownLossIdeal.Gen.arr3 m c f0 f1 f2 f3 f4), ha⟩
  · refine (θ_run _ _ _).mono (fun r hr c => ?_) (DownLossRefIdeal.Value.run m' g')
    obtain ⟨f0, f1, f2, f3, f4⟩ := pre_real (hp c)
    have hh := real2_spec (DownLossIdeal.Gen.hid_real f0 f1 f2)
    have hg : ∀ i : DownLossIdeal.S1x2048.Idx, m ((c.tc : Thread _ _).loc DownLossIdeal.main_arg3) i = ((DownLossIdeal.Gen.gR m c (i 1).val : ℝ) : EReal) := fun i => by
      refine (real2_spec f3 i).trans ?_
      have h0 : (i 0).val < 1 := (i 0).isLt
      rw [show (i 0).val = 0 by omega]
      rfl
    have hT := real2_spec f4
    obtain ⟨e0, e1, e2, e3, e4⟩ := hag c
    obtain ⟨a0, a1, a2, a3, ha⟩ := hr c
    refine ⟨a0.trans ?_, a1.trans ?_, a2.trans ?_, a3.trans ?_, ha⟩
    · rw [DownLossRefIdeal.Read.val_main_v62_eq, e0, e1, e2, e3, e4]
      exact funext fun i => DownLossRefIdeal.Read.rd62 hh hg hT i
    · rw [DownLossRefIdeal.Read.val_main_v63_eq, e0, e1, e2, e3, e4]
      exact funext fun i => DownLossRefIdeal.Read.rd62 hh hg hT i
    · rw [DownLossRefIdeal.Read.val_main_v46_eq, e0, e1, e2, e3, e4]
      exact funext fun i => DownLossRefIdeal.Read.rd46 hh hg hT i
    · rw [DownLossRefIdeal.Read.val_main_v64_eq, e0, e1, e2, e3, e4]
      exact funext fun i => DownLossRefIdeal.Read.rd64 hh hg hT i

end Cert.DownLossRun

end
-- ==== Proof.Windows.lean ====
/- Sums over a sliding window of rows: running sums from either end, their differences, and the count of rows in a window. -/
module

public import Idealize.ShloMosaic.Lib.Routing.OpsPair
public import Idealize.ShloMosaic.Lib.WordCmp
public import Idealize.ShloMosaic.Lib.KernelVsHost
public import proofs.«01_k».proof.Proof.GateMath
public import Idealize.ShloMosaic.Lib.Pointwise

@[expose] public section

set_option maxRecDepth 16384

open Idealize.ShloMosaic Idealize.ShloMosaic.TcCoe Idealize.ShloMosaic.Routing

noncomputable section
namespace Cert.Windows

theorem foldl_add {n : ℕ} (F : Fin n → EReal) (v : EReal) :
    (List.finRange n).foldl (fun r k => r + F k) v = v + ∑ k, F k := by
  have h : ∀ (l : List (Fin n)) (v : EReal), l.foldl (fun r k => r + F k) v = v + (l.map F).sum := by
    intro l
    induction l with
    | nil => intro v; simp
    | cons a l ih => intro v; rw [List.foldl_cons, ih, List.map_cons, List.sum_cons, add_assoc]
  rw [h, Fin.sum_univ_def]

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem range_split (f : ℕ → ℝ) (n m : ℕ) :
    ∑ k ∈ Finset.range (n + m), f k = ∑ k ∈ Finset.range n, f k + ∑ k ∈ Finset.range m, f (n + k) :=
  Finset.sum_range_add f n m

abbrev Sq : Shape := ⟨2, ![2048, 512]⟩
abbrev S0 : Shape := ⟨0, ![]⟩

theorem numelCol : (shape2 2048 1).numel = 2048 := by
  show ∏ a : Fin 2, (![2048, 1] : Fin 2 → Nat) a = 2048
  rw [Fin.prod_univ_two]
  rfl

theorem sum_col (f : ℕ → ℝ) : ∑ n : Fin (shape2 2048 1).numel, ((f n.val : ℝ) : EReal) = ((∑ n ∈ Finset.range 2048, f n : ℝ) : EReal) := by
  rw [← coe_sum, Fin.sum_univ_eq_sum_range f, numelCol]

/-- A window of all rows padded at the far end: entry `j` holds the sum of the rows from `j` on. -/
theorem suffix (x : FVec Ideal Sq .f32) (X : ℕ → ℕ → ℝ) (hx : ∀ i : Sq.Idx, x i = ((X (i 0).val (i 1).val : ℝ) : EReal))
    (hX : ∀ t e, 2048 ≤ t → X t e = 0) (init : S0.Idx → Ideal .f32) (hinit : ∀ i, init i = (0 : EReal))
    (h : Sq.ReduceWindows (![2048, 1] : Fin 2 → Nat) ![1, 1] ![0, 0] ![2047, 0] Sq) (hu : 0 < S0.numel) (j : Sq.Idx) :
    Host.reduceWindowAdd (F := Ideal) (φ := .f32) ![2048, 1] ![1, 1] ![0, 0] ![2047, 0] x init h hu j
      = ((∑ n ∈ Finset.range 2048, X ((j 0).val + n) (j 1).val : ℝ) : EReal) := by
  have hj0 : (j 0).val < 2048 := (j 0).isLt
  have hj1 : (j 1).val < 512 := (j 1).isLt
  rw [← sum_col fun n => X ((j 0).val + n) (j 1).val]
  unfold Host.reduceWindowAdd
  rw [Ideal.hostReduceWindowAdd_def]
  unfold Ideal.hostReduceWindowAdd Host.reduceWindow
  refine (foldl_add _ _).trans ?_
  rw [hinit, zero_add]
  refine Finset.sum_congr rfl fun n _ => ?_
  have hn : n.val < 2048 := (n.cast numelCol).isLt
  have w0 : ((shape2 2048 1).rowMajor.symm n 0).val = n.val := by
    rw [symm22 n (by omega) (by omega)]; show n.val / 1 = n.val; omega
  have w1 : ((shape2 2048 1).rowMajor.symm n 1).val = 0 := by
    rw [symm22 n (by omega) (by omega)]; show n.val % 1 = 0; omega
  dsimp only
  split
  · next hin =>
    rw [hx]
    show ((X ((j 0).val * 1 + ((shape2 2048 1).rowMajor.symm n 0).val - 0) ((j 1).val * 1 + ((shape2 2048 1).rowMajor.symm n 1).val - 0) : ℝ) : EReal) = _
    rw [w0, w1, Nat.mul_one, Nat.mul_one, Nat.sub_zero, Nat.sub_zero, Nat.add_zero]
  · next hin =>
    have hge : 2048 ≤ (j 0).val + n.val := by
      by_contra hlt
      refine hin fun a => ?_
      match a with
      | ⟨0, _⟩ =>
        show 0 ≤ (j 0).val * 1 + ((shape2 2048 1).rowMajor.symm n 0).val ∧ (j 0).val * 1 + ((shape2 2048 1).rowMajor.symm n 0).val - 0 < 2048
        rw [w0]; omega
      | ⟨1, _⟩ =>
        show 0 ≤ (j 1).val * 1 + ((shape2 2048 1).rowMajor.symm n 1).val ∧ (j 1).val * 1 + ((shape2 2048 1).rowMajor.symm n 1).val - 0 < 512
        rw [w1]; omega
    rw [hX _ _ hge, EReal.coe_zero]

theorem sum_low (f : ℕ → ℝ) (j : ℕ) (hj : j < 2048) :
    ∑ n ∈ Finset.range 2048, (if 2047 ≤ j + n then f (j + n - 2047) else 0) = ∑ k ∈ Finset.range (j + 1), f k := by
  have e : 2048 = (2047 - j) + (j + 1) := by omega
  rw [show Finset.range 2048 = Finset.range ((2047 - j) + (j + 1)) by rw [← e], range_split]
  have z : ∑ n ∈ Finset.range (2047 - j), (if 2047 ≤ j + n then f (j + n - 2047) else 0) = 0 :=
    Finset.sum_eq_zero fun n hn => if_neg (by have := Finset.mem_range.1 hn; omega)
  rw [z, zero_add]
  refine Finset.sum_congr rfl fun n _ => ?_
  rw [if_pos (by omega), show j + (2047 - j + n) - 2047 = n by omega]

/-- A window of all rows padded at the near end: entry `j` holds the sum of the rows up to `j`. -/
theorem prefix' (x : FVec Ideal Sq .f32) (X : ℕ → ℕ → ℝ) (hx : ∀ i : Sq.Idx, x i = ((X (i 0).val (i 1).val : ℝ) : EReal))
    (init : S0.Idx → Ideal .f32) (hinit : ∀ i, init i = (0 : EReal))
    (h : Sq.ReduceWindows (![2048, 1] : Fin 2 → Nat) ![1, 1] ![2047, 0] ![0, 0] Sq) (hu : 0 < S0.numel) (j : Sq.Idx) :
    Host.reduceWindowAdd (F := Ideal) (φ := .f32) ![2048, 1] ![1, 1] ![2047, 0] ![0, 0] x init h hu j
      = ((∑ k ∈ Finset.range ((j 0).val + 1), X k (j 1).val : ℝ) : EReal) := by
  have hj0 : (j 0).val < 2048 := (j 0).isLt
  have hj1 : (j 1).val < 512 := (j 1).isLt
  rw [← sum_low (fun k => X k (j 1).val) _ hj0, ← sum_col fun n => if 2047 ≤ (j 0).val + n then X ((j 0).val + n - 2047) (j 1).val else 0]
  unfold Host.reduceWindowAdd
  rw [Ideal.hostReduceWindowAdd_def]
  unfold Ideal.hostReduceWindowAdd Host.reduceWindow
  refine (foldl_add _ _).trans ?_
  rw [hinit, zero_add]
  refine Finset.sum_congr rfl fun n _ => ?_
  have hn : n.val < 2048 := (n.cast numelCol).isLt
  have w0 : ((shape2 2048 1).rowMajor.symm n 0).val = n.val := by
    rw [symm22 n (by omega) (by omega)]; show n.val / 1 = n.val; omega
  have w1 : ((shape2 2048 1).rowMajor.symm n 1).val = 0 := by
    rw [symm22 n (by omega) (by omega)]; show n.val % 1 = 0; omega
  dsimp only
  split
  · next hin =>
    have h0 := (hin 0).1
    change 2047 ≤ (j 0).val * 1 + ((shape2 2048 1).rowMajor.symm n 0).val at h0
    rw [w0] at h0
    rw [hx, if_pos (by omega)]
    show ((X ((j 0).val * 1 + ((shape2 2048 1).rowMajor.symm n 0).val - 2047) ((j 1).val * 1 + ((shape2 2048 1).rowMajor.symm n 1).val - 0) : ℝ) : EReal) = _
    rw [w0, w1, Nat.mul_one, Nat.mul_one, Nat.sub_zero, Nat.add_zero]
  · next hin =>
    rw [if_neg, EReal.coe_zero]
    intro hle
    refine hin fun a => ?_
    match a with
    | ⟨0, _⟩ =>
      show 2047 ≤ (j 0).val * 1 + ((shape2 2048 1).rowMajor.symm n 0).val ∧ (j 0).val * 1 + ((shape2 2048 1).rowMajor.symm n 0).val - 2047 < 2048
      rw [w0]; omega
    | ⟨1, _⟩ =>
      show 0 ≤ (j 1).val * 1 + ((shape2 2048 1).rowMajor.symm n 1).val ∧ (j 1).val * 1 + ((shape2 2048 1).rowMajor.symm n 1).val - 0 < 512
      rw [w1]; omega

/-- The difference of a running sum and its shift is the sum over the window. -/
theorem tele (Q : ℕ → ℝ) (w N j : ℕ) (hQ : ∀ t, N ≤ t → Q t = 0) :
    ∑ n ∈ Finset.range N, (Q (j + n) + -Q (j + n + w)) = ∑ n ∈ Finset.range w, Q (j + n) := by
  have a := range_split (fun n => Q (j + n)) N w
  have b := range_split (fun n => Q (j + n)) w N
  rw [Nat.add_comm w N] at b
  have z : ∑ n ∈ Finset.range w, Q (j + (N + n)) = 0 := Finset.sum_eq_zero fun n _ => hQ _ (by omega)
  rw [z, add_zero] at a
  rw [Finset.sum_add_distrib, Finset.sum_neg_distrib]
  have s : ∑ n ∈ Finset.range N, Q (j + n + w) = ∑ n ∈ Finset.range N, Q (j + (w + n)) :=
    Finset.sum_congr rfl fun n _ => by rw [show j + n + w = j + (w + n) by omega]
  rw [s]
  linarith

/-- A window of twice the length is two windows, one after the other. -/
theorem double (Q : ℕ → ℝ) (m t : ℕ) :
    ∑ n ∈ Finset.range (m + m), Q (t + n) = ∑ n ∈ Finset.range m, Q (t + n) + ∑ n ∈ Finset.range m, Q (t + m + n) := by
  rw [range_split (fun n => Q (t + n)) m m]
  congr 1
  exact Finset.sum_congr rfl fun n _ => by rw [show t + (m + n) = t + m + n by omega]

theorem toInt_ofNat (a : ℕ) (ha : a < 2 ^ 31) : (BitVec.ofNat 32 a).toInt = (a : ℤ) := by
  rw [BitVec.toInt_eq_toNat_of_lt (by rw [BitVec.toNat_ofNat]; omega), BitVec.toNat_ofNat]
  omega

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_ofNat a ha, toInt_ofNat b hb]
  by_cases h : a < b
  · rw [if_pos (by simpa using h), Nat.min_eq_left (by omega)]
  · rw [if_neg (by simpa using h), Nat.min_eq_right (by omega)]

/-- The number of rows in the window of `w` rows that ends at row `t`. -/
def cnt (w t : ℕ) : ℝ := (min (t + 1) w : ℕ)

theorem cnt_ne (w t : ℕ) (hw : 0 < w) : cnt w t ≠ 0 := by
  unfold cnt
  exact Nat.cast_ne_zero.2 (by omega)

theorem count (a b : ℕ) (ha : a < 2 ^ 31) (hb : b < 2 ^ 31) :
    FloatOps.sitofp (F := Ideal) FTy.f32 (IntOp.minsi (BitVec.ofNat 32 a) (BitVec.ofNat 32 b)) = (((min a b : ℕ) : ℝ) : EReal) := by
  rw [minsi_ofNat a b ha hb]
  show (((BitVec.ofNat 32 (min a b)).toInt : ℝ) : EReal) = _
  rw [toInt_ofNat _ (by omega), Int.cast_natCast]

/-- The group's window as the kernel selects it. -/
theorem width (g : ℕ) (hg : g < 4) :
    Scalar.select (Scalar.cmpi CmpIPredicate.eq (BitVec.ofNat 32 g) 0#32) (2#32)
      (Scalar.select (Scalar.cmpi CmpIPredicate.eq (BitVec.ofNat 32 g) 1#32) (4#32)
        (Scalar.select (Scalar.cmpi CmpIPredicate.eq (BitVec.ofNat 32 g) 2#32) 8#32 16#32)) = BitVec.ofNat 32 (2 ^ (g + 1)) := by
  interval_cases g <;> rfl

theorem below (a b : ℕ) (ha : a < 2 ^ 31) (hb : b < 2 ^ 31) (x y : EReal) :
    Scalar.select (α := EReal) (IntOp.cmpi CmpIPredicate.slt (BitVec.ofNat 32 a) (BitVec.ofNat 32 b)) x y = if a < b then x else y := by
  rw [WordCmp.cmpi_slt_ofNat (w := 32) ha hb]
  by_cases h : a < b
  · rw [if_pos h, decide_eq_true h]; rfl
  · rw [if_neg h, decide_eq_false h]; rfl

/-- Row `t` of `V` over the number of rows in its window, zero past the last row. -/
def share (V : ℕ → ℕ → ℝ) (w t k : ℕ) : ℝ := if t < 2048 then V t k / cnt w t else 0

theorem share_past (V : ℕ → ℕ → ℝ) (w t k : ℕ) (h : 2048 ≤ t) : share V w t k = 0 := if_neg (by omega)

theorem share_past' (V : ℕ → ℕ → ℝ) (w m t k : ℕ) (h : 2048 ≤ t) : ∑ n ∈ Finset.range m, share V w (t + n) k = 0 :=
  Finset.sum_eq_zero fun n _ => share_past V w _ k (by omega)

theorem div_cnt (x : ℝ) (w t : ℕ) (hw : 0 < w) : Ideal.div (x : EReal) ((cnt w t : ℝ) : EReal) = ((x / cnt w t : ℝ) : EReal) :=
  GateMath.div_real _ (cnt_ne w t hw)

theorem step (V : ℕ → ℕ → ℝ) (w m t k : ℕ) (X : EReal) (hX : X = ((∑ n ∈ Finset.range m, share V w (t + m + n) k : ℝ) : EReal)) :
    ((∑ n ∈ Finset.range m, share V w (t + n) k : ℝ) : EReal) + X = ((∑ n ∈ Finset.range (m + m), share V w (t + n) k : ℝ) : EReal) := by
  rw [hX, ← EReal.coe_add, ← double fun n => share V w n k]

theorem step1 (V : ℕ → ℕ → ℝ) (w t k : ℕ) (X : EReal) (hX : X = ((share V w (t + 1) k : ℝ) : EReal)) :
    ((share V w t k : ℝ) : EReal) + X = ((∑ n ∈ Finset.range 2, share V w (t + n) k : ℝ) : EReal) := by
  rw [hX, ← EReal.coe_add, Finset.sum_range_succ, Finset.sum_range_one]
  rfl

/-- Rows of zeros put below an array. -/
theorem pad_rows (R w : ℕ) (hR : R + w = 2048) (x : (⟨2, ![R, 512]⟩ : Shape).Idx → EReal) (X : ℕ → ℕ → ℝ)
    (hx : ∀ i, x i = ((X (i 0).val (i 1).val : ℝ) : EReal)) (v : S0.Idx → EReal) (hv : ∀ i, v i = 0)
    (h : (⟨2, ![R, 512]⟩ : Shape).Pads ![0, 0] ![w, 0] ![0, 0] Sq) (hu : 0 < S0.numel) (j : Sq.Idx) :
    pad Sq ![0, 0] ![w, 0] ![0, 0] x v h hu j = (((if (j 0).val < R then X (j 0).val (j 1).val else 0) : ℝ) : EReal) := by
  have h1 : (j 1).val < 512 := (j 1).isLt
  by_cases hr : (j 0).val < R
  · rw [pad_apply_of_inside ![0, 0] ![w, 0] ![0, 0] x v h hu j (ix2 (⟨(j 0).val, hr⟩ : Fin R) (⟨(j 1).val, h1⟩ : Fin 512)) (fun a => by
      match a with
      | ⟨0, _⟩ => show (j 0).val = 0 + (j 0).val * (0 + 1); omega
      | ⟨1, _⟩ => show (j 1).val = 0 + (j 1).val * (0 + 1); omega), hx, if_pos hr]
    rfl
  · rw [pad_apply_of_not_inside ![0, 0] ![w, 0] ![0, 0] x v h hu j (0 : Fin 2) (by
      show ¬(0 ≤ (j 0).val ∧ ((j 0).val - 0) % (0 + 1) = 0 ∧ ((j 0).val - 0) / (0 + 1) < R)
      simp only [Nat.sub_zero, Nat.zero_add, Nat.div_one]
      omega), hv, if_neg hr, EReal.coe_zero]

/-- Groups of zeros put around one group. -/
theorem pad_mid (a b : ℕ) (x : (⟨3, ![2048, 1, 512]⟩ : Shape).Idx → EReal) (X : ℕ → ℕ → ℝ)
    (hx : ∀ i, x i = ((X (i 0).val (i 2).val : ℝ) : EReal)) (v : S0.Idx → EReal) (hv : ∀ i, v i = 0)
    (h : (⟨3, ![2048, 1, 512]⟩ : Shape).Pads ![0, a, 0] ![0, b, 0] ![0, 0, 0] ⟨3, ![2048, 4, 512]⟩) (hu : 0 < S0.numel)
    (j : (⟨3, ![2048, 4, 512]⟩ : Shape).Idx) :
    pad ⟨3, ![2048, 4, 512]⟩ ![0, a, 0] ![0, b, 0] ![0, 0, 0] x v h hu j
      = (((if (j 1).val = a then X (j 0).val (j 2).val else 0) : ℝ) : EReal) := by
  have h0 : (j 0).val < 2048 := (j 0).isLt
  have h2 : (j 2).val < 512 := (j 2).isLt
  by_cases hr : (j 1).val = a
  · rw [pad_apply_of_inside ![0, a, 0] ![0, b, 0] ![0, 0, 0] x v h hu j (ix3 (⟨(j 0).val, h0⟩ : Fin 2048) (0 : Fin 1) (⟨(j 2).val, h2⟩ : Fin 512)) (fun k => by
      match k with
      | ⟨0, _⟩ => show (j 0).val = 0 + (j 0).val * (0 + 1); omega
      | ⟨1, _⟩ => show (j 1).val = a + 0 * (0 + 1); omega
      | ⟨2, _⟩ => show (j 2).val = 0 + (j 2).val * (0 + 1); omega), hx, if_pos hr]
    rfl
  · rw [pad_apply_of_not_inside ![0, a, 0] ![0, b, 0] ![0, 0, 0] x v h hu j (1 : Fin 3) (by
      show ¬(a ≤ (j 1).val ∧ ((j 1).val - a) % (0 + 1) = 0 ∧ ((j 1).val - a) / (0 + 1) < 1)
      simp only [Nat.zero_add, Nat.div_one]
      omega), hv, if_neg hr, EReal.coe_zero]

theorem atLeast (a b : ℕ) (ha : a < 2 ^ 31) (hb : b < 2 ^ 31) (x y : EReal) :
    Scalar.select (α := EReal) (IntOp.cmpi CmpIPredicate.sge (BitVec.ofNat 32 a) (BitVec.ofNat 32 b)) x y = if b ≤ a then x else y := by
  rw [WordCmp.cmpi_sge_ofNat (w := 32) ha hb]
  by_cases h : b ≤ a
  · rw [if_pos h, decide_eq_true h]; rfl
  · rw [if_neg h, decide_eq_false h]; rfl

/-- The sum of the `m` rows that end at row `t`. -/
def back (V : ℕ → ℕ → ℝ) (m t k : ℕ) : ℝ := ∑ n ∈ Finset.range m, if n ≤ t then V (t - n) k else 0

theorem back_one (V : ℕ → ℕ → ℝ) (t k : ℕ) : back V 1 t k = V t k := by
  rw [back, Finset.sum_range_one, if_pos (Nat.zero_le t), Nat.sub_zero]

theorem back_step (V : ℕ → ℕ → ℝ) (m t k : ℕ) (X : EReal) (hX : X = if m ≤ t then ((back V m (t - m) k : ℝ) : EReal) else ((0 : ℝ) : EReal)) :
    ((back V m t k : ℝ) : EReal) + X = ((back V (m + m) t k : ℝ) : EReal) := by
  have e : back V (m + m) t k = back V m t k + if m ≤ t then back V m (t - m) k else 0 := by
    unfold back
    rw [range_split]
    congr 1
    split
    · next h =>
      refine Finset.sum_congr rfl fun n _ => ?_
      by_cases hn : m + n ≤ t
      · rw [if_pos hn, if_pos (by omega), show t - (m + n) = t - m - n by omega]
      · rw [if_neg hn, if_neg (by omega)]
    · next h => exact Finset.sum_eq_zero fun n _ => if_neg (by omega)
  rw [hX, e, EReal.coe_add]
  split <;> rfl

/-- The difference of the running sums at `t` and `w` rows before it is the sum of the window's rows. -/
theorem prefix_sub (f : ℕ → ℝ) (w t : ℕ) :
    ∑ k ∈ Finset.range (t + 1), f k - (if t < w then 0 else ∑ k ∈ Finset.range (t - w + 1), f k)
      = ∑ n ∈ Finset.range w, if n ≤ t then f (t - n) else 0 := by
  have r : ∀ N, ∑ k ∈ Finset.range N, f k = ∑ n ∈ Finset.range N, f (N - 1 - n) := fun N => (Finset.sum_range_reflect f N).symm
  by_cases h : t < w
  · obtain ⟨d, rfl⟩ : ∃ d, w = t + 1 + d := ⟨w - (t + 1), by omega⟩
    rw [if_pos h, sub_zero, r, range_split (fun n => if n ≤ t then f (t - n) else 0) (t + 1) d,
      Finset.sum_eq_zero (s := Finset.range d) fun n _ => if_neg (by omega), add_zero]
    exact Finset.sum_congr rfl fun n hn => by rw [if_pos (by have := Finset.mem_range.1 hn; omega), Nat.add_sub_cancel]
  · rw [if_neg h, r (t + 1), r (t - w + 1), show t + 1 = w + (t - w + 1) by omega, range_split]
    have a : ∑ n ∈ Finset.range w, f (w + (t - w + 1) - 1 - n) = ∑ n ∈ Finset.range w, if n ≤ t then f (t - n) else 0 :=
      Finset.sum_congr rfl fun n hn => by
        have := Finset.mem_range.1 hn
        rw [if_pos (by omega), show w + (t - w + 1) - 1 - n = t - n by omega]
    have b : ∑ n ∈ Finset.range (t - w + 1), f (w + (t - w + 1) - 1 - (w + n)) = ∑ n ∈ Finset.range (t - w + 1), f (t - w + 1 - 1 - n) :=
      Finset.sum_congr rfl fun n _ => by rw [show w + (t - w + 1) - 1 - (w + n) = t - w + 1 - 1 - n by omega]
    rw [a, b, add_sub_cancel_right]

/-- Two arrays of rows one after the other. -/
theorem pair_rows (A B : ℕ) (hAB : A + B = 2048) (x : (⟨2, ![A, 512]⟩ : Shape).Idx → EReal) (y : (⟨2, ![B, 512]⟩ : Shape).Idx → EReal)
    (h : Shape.Concatenates [(⟨2, ![A, 512]⟩ : Shape), ⟨2, ![B, 512]⟩] Sq 0) (j : Sq.Idx) :
    concatenate Sq 0 [⟨⟨2, ![A, 512]⟩, x⟩, ⟨⟨2, ![B, 512]⟩, y⟩] h j
      = if hlt : (j 0).val < A then x (ix2 (⟨(j 0).val, hlt⟩ : Fin A) (j 1 : Fin 512))
        else y (ix2 (⟨(j 0).val - A, by have : (j 0).val < 2048 := (j 0).isLt; omega⟩ : Fin B) (j 1 : Fin 512)) := by
  refine (concatenate_pair_apply (0 : Fin 2) x y h j).trans ?_
  have h0 : (j 0).val < 2048 := (j 0).isLt
  by_cases hlt : (j 0).val < A
  · refine (dif_pos (show (j 0).val < A from hlt)).trans ?_
    refine Eq.trans ?_ (dif_pos hlt).symm
    refine congrArg x ?_
    rw [Shape.Idx.norm_def]
    funext a
    match a with
    | ⟨0, _⟩ => rfl
    | ⟨1, _⟩ => rfl
  · refine (dif_neg (show ¬ (j 0).val < A from hlt)).trans ?_
    refine Eq.trans ?_ (dif_neg hlt).symm
    refine congrArg y ?_
    rw [Shape.Idx.norm_def]
    funext a
    match a with
    | ⟨0, _⟩ => rfl
    | ⟨1, _⟩ => rfl

end Cert.Windows
end
-- ==== Proof.PoolFwdRun.lean ====
/- The pooling mixer: what the kernel computes and what the reference computes are the same. -/
module

public import proofs.«01_k».proof.Defs
public import proofs.«01_k».proof.Proof.Gen.PoolFwd.Frame
public import proofs.«01_k».proof.Proof.Gen.PoolFwdIdeal.Frame
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Gen.Pre_pool_finite
public import proofs.«01_k».proof.Proof.Finite
public import proofs.«01_k».proof.Proof.Windows
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.PoolFwdIdeal.Gen

open PoolFwdIdeal Windows Finite

/-- One doubling of the window: an array added to itself moved `k` rows down, zeros coming in. -/
def wider (k : BitVec 32) (u : FVec Ideal S2048x256 .f32) : FVec Ideal S2048x256 .f32 :=
  addf u (select (cmpi .sge (iota .tc S2048x256 32 [0] iota_S2048x256_d0_w32) (broadcast S2048x256 k))
    (dynamicRotate 0 k none u rotates_S2048x256_d0) (broadcast S2048x256 (Scalar.ofBits .f32 0x00000000#32)))

variable (V : ℕ → ℕ → ℝ) (i : grid0.Coords) (v : Vec Ideal S2048x256 .f32)
  (hv : ∀ y : S2048x256.Idx, v y = ((V (y 0).val (y 1).val : ℝ) : EReal))

theorem wider1 (u : FVec Ideal S2048x256 .f32) (hu : ∀ y : S2048x256.Idx, u y = ((back V 1 (y 0).val (y 1).val : ℝ) : EReal)) (y : S2048x256.Idx) :
    wider 1#32 u y = ((back V 2 (y 0).val (y 1).val : ℝ) : EReal) := by
  have h0 : (y 0).val < 2048 := (y 0).isLt
  pointwise [wider]
  rw [hu y, atLeast _ 1 (by omega) (by omega)]
  refine back_step V 1 _ _ _ ?_
  split
  · refine (hu _).trans ?_
    show ((back V 1 (((y 0).val + 2048 - 1) % 2048) (y 1).val : ℝ) : EReal) = _
    rw [show ((y 0).val + 2048 - 1) % 2048 = (y 0).val - 1 by omega]
  · exact EReal.coe_zero.symm

theorem wider2 (u : FVec Ideal S2048x256 .f32) (hu : ∀ y : S2048x256.Idx, u y = ((back V 2 (y 0).val (y 1).val : ℝ) : EReal)) (y : S2048x256.Idx) :
    wider 2#32 u y = ((back V 4 (y 0).val (y 1).val : ℝ) : EReal) := by
  have h0 : (y 0).val < 2048 := (y 0).isLt
  pointwise [wider]
  rw [hu y, atLeast _ 2 (by omega) (by omega)]
  refine back_step V 2 _ _ _ ?_
  split
  · refine (hu _).trans ?_
    show ((back V 2 (((y 0).val + 2048 - 2) % 2048) (y 1).val : ℝ) : EReal) = _
    rw [show ((y 0).val + 2048 - 2) % 2048 = (y 0).val - 2 by omega]
  · exact EReal.coe_zero.symm

theorem wider4 (u : FVec Ideal S2048x256 .f32) (hu : ∀ y : S2048x256.Idx, u y = ((back V 4 (y 0).val (y 1).val : ℝ) : EReal)) (y : S2048x256.Idx) :
    wider 4#32 u y = ((back V 8 (y 0).val (y 1).val : ℝ) : EReal) := by
  have h0 : (y 0).val < 2048 := (y 0).isLt
  pointwise [wider]
  rw [hu y, atLeast _ 4 (by omega) (by omega)]
  refine back_step V 4 _ _ _ ?_
  split
  · refine (hu _).trans ?_
    show ((back V 4 (((y 0).val + 2048 - 4) % 2048) (y 1).val : ℝ) : EReal) = _
    rw [show ((y 0).val + 2048 - 4) % 2048 = (y 0).val - 4 by omega]
  · exact EReal.coe_zero.symm

theorem wider8 (u : FVec Ideal S2048x256 .f32) (hu : ∀ y : S2048x256.Idx, u y = ((back V 8 (y 0).val (y 1).val : ℝ) : EReal)) (y : S2048x256.Idx) :
    wider 8#32 u y = ((back V 16 (y 0).val (y 1).val : ℝ) : EReal) := by
  have h0 : (y 0).val < 2048 := (y 0).isLt
  pointwise [wider]
  rw [hu y, atLeast _ 8 (by omega) (by omega)]
  refine back_step V 8 _ _ _ ?_
  split
  · refine (hu _).trans ?_
    show ((back V 8 (((y 0).val + 2048 - 8) % 2048) (y 1).val : ℝ) : EReal) = _
    rw [show ((y 0).val + 2048 - 8) % 2048 = (y 0).val - 8 by omega]
  · exact EReal.coe_zero.symm

theorem pick (g : ℕ) (hg : g < 4) (a : ℕ → ℝ) :
    Scalar.select (α := EReal) (Scalar.cmpi CmpIPredicate.eq (BitVec.ofNat 32 g) 0#32) ((a 2 : ℝ) : EReal)
      (Scalar.select (α := EReal) (Scalar.cmpi CmpIPredicate.eq (BitVec.ofNat 32 g) 1#32) ((a 4 : ℝ) : EReal)
        (Scalar.select (α := EReal) (Scalar.cmpi CmpIPredicate.eq (BitVec.ofNat 32 g) 2#32) ((a 8 : ℝ) : EReal) ((a 16 : ℝ) : EReal)))
      = ((a (2 ^ (g + 1)) : ℝ) : EReal) := by
  interval_cases g <;> rfl

theorem pay2_eq : k0_pay2 i v = Scalar.select (Scalar.cmpi CmpIPredicate.eq (BitVec.ofNat 32 (i 0).val) 0#32) (wider 1#32 v)
    (Scalar.select (Scalar.cmpi CmpIPredicate.eq (BitVec.ofNat 32 (i 0).val) 1#32) (wider 2#32 (wider 1#32 v))
      (Scalar.select (Scalar.cmpi CmpIPredicate.eq (BitVec.ofNat 32 (i 0).val) 2#32) (wider 4#32 (wider 2#32 (wider 1#32 v)))
        (wider 8#32 (wider 4#32 (wider 2#32 (wider 1#32 v)))))) := rfl

include hv in
theorem pay2 (y : S2048x256.Idx) :
    k0_pay2 i v y = ((back V (2 ^ ((i 0).val + 1)) (y 0).val (y 1).val : ℝ) : EReal) := by
  have hg : (i 0).val < 4 := (i 0).isLt
  have a1 := wider1 V v fun y => by rw [hv, back_one]
  have a2 := wider2 V _ a1
  have a4 := wider4 V _ a2
  have a8 := wider8 V _ a4
  rw [pay2_eq]
  refine Eq.trans ?_ (pick _ hg fun w => back V w (y 0).val (y 1).val)
  rw [← a1, ← a2, ← a4, ← a8]
  generalize wider 1#32 v = b1
  generalize wider 2#32 b1 = b2
  generalize wider 4#32 b2 = b4
  generalize wider 8#32 b4 = b8
  pointwise

include hv in
theorem pay1 (y : S2048x256.Idx) :
    k0_pay1 (BitVec.ofNat 32 (i 0).val) v (iota .tc S2048x256 32 [0] iota_S2048x256_d0_w32) (k0_pay2 i v) k0_pay3 k0_pay4 k0_pay5 k0_pay6 2#32 y
      = ((back V (2 ^ ((i 0).val + 1)) (y 0).val (y 1).val / cnt (2 ^ ((i 0).val + 1)) (y 0).val - V (y 0).val (y 1).val : ℝ) : EReal) := by
  have h0 : (y 0).val < 2048 := (y 0).isLt
  have hg : (i 0).val < 4 := (i 0).isLt
  have hp : 2 ^ ((i 0).val + 1) ≤ 2 ^ 4 := Nat.pow_le_pow_right (by omega) (by omega)
  pointwise [k0_pay1, k0_pay3, k0_pay4, k0_pay5, k0_pay6]
  rw [pay2 V i v hv y, hv, width _ hg, WordCmp.addi_ofNat, Windows.count _ _ (by omega) (by omega)]
  refine (congrArg (fun q : EReal => q - ((V (y 0).val (y 1).val : ℝ) : EReal)) (div_cnt _ (2 ^ ((i 0).val + 1)) _ (by positivity))).trans ?_
  exact (EReal.coe_sub _ _).symm

theorem idx : ∀ t : Fin cfg0.N, win0_0.index t = ![0, t.val] ∧ win0_1.index t = ![0, t.val] ∧ (grid0.coords t 0).val = t.val / 2 :=
  (by decide +kernel : ∀ t : Fin grid0.N, _)

/-- The mixer at a place: the mean of the rows of its window, less its own row. -/
def G (x : FVec Ideal S2048x2048 .f32) (i : S2048x2048.Idx) : EReal :=
  ((back (real2 (A := 2048) (B := 2048) x) (2 ^ ((i 1).val / 512 + 1)) (i 0).val (i 1).val / cnt (2 ^ ((i 1).val / 512 + 1)) (i 0).val
    - real2 (A := 2048) (B := 2048) x (i 0).val (i 1).val : ℝ) : EReal)

variable (m : (ℓ : Loc nD τ sig) → Buf (Elt Ideal) ℓ) (c : Dev nD)

theorem blk0 (hm : ∀ i : S2048x2048.Idx, m ((c : Thread nD τ).loc main_arg0) i = ((EReal.toReal (m ((c : Thread nD τ).loc main_arg0) i) : ℝ) : EReal))
    (t : Fin cfg0.N) (i : S2048x256.Idx) : iblk m c 0 t i
      = ((real2 (A := 2048) (B := 2048) (m ((c : Thread nD τ).loc main_arg0)) (i 0).val (256 * t.val + (i 1).val) : ℝ) : EReal) := by
  have ht : t.val < 8 := t.isLt
  have h1 : (i 1).val < 256 := (i 1).isLt
  have e : iblk m c 0 t i = m ((c : Thread nD τ).loc main_arg0) (ix2 (i 0 : Fin 2048) (⟨256 * t.val + (i 1).val, by omega⟩ : Fin 2048)) := by
    blk_point [iblk, V, idx t]
  rw [e, real2_spec hm]
  rfl

theorem arr (hm : ∀ i : S2048x2048.Idx, m ((c : Thread nD τ).loc main_arg0) i = ((EReal.toReal (m ((c : Thread nD τ).loc main_arg0) i) : ℝ) : EReal)) :
    (dats m 0 c).arrAt 1 cfg0.N = fun i : S2048x2048.Idx => G (m ((c : Thread nD τ).loc main_arg0)) i := by
  refine (dats m 0 c).arrAt_eq_of_covers 1 _ (by decide +kernel) fun t hf y => ?_
  have h0 : (y 0).val < 2048 := (y 0).isLt
  have h1 : (y 1).val < 256 := (y 1).isLt
  have ht : t.val < 8 := t.isLt
  blk_simp
  rw [after0_1]
  have e : ∀ W : S2048x2048.Idx → EReal, W ((win0_1.blk t).view.emb y)
      = W (ix2 (⟨(y 0).val, h0⟩ : Fin 2048) (⟨256 * t.val + (y 1).val, by omega⟩ : Fin 2048)) := fun W => by
    blk_ext [idx t]
  rw [e (G _)]
  unfold out0_1
  rw [View.canon_unit_zero (by decide), View.ld_unit_zero (by decide)]
  refine (pay1 (fun n k => real2 (A := 2048) (B := 2048) (m ((c : Thread nD τ).loc main_arg0)) n (256 * t.val + k)) (grid0.coords t) (iblk m c 0 t)
    (blk0 m c hm t) y).trans ?_
  rw [(idx t).2.2]
  unfold G
  show _ = ((back (real2 (A := 2048) (B := 2048) (m ((c : Thread nD τ).loc main_arg0))) (2 ^ ((256 * t.val + (y 1).val) / 512 + 1)) (y 0).val (256 * t.val + (y 1).val)
    / cnt (2 ^ ((256 * t.val + (y 1).val) / 512 + 1)) (y 0).val
    - real2 (A := 2048) (B := 2048) (m ((c : Thread nD τ).loc main_arg0)) (y 0).val (256 * t.val + (y 1).val) : ℝ) : EReal)
  rw [show (256 * t.val + (y 1).val) / 512 = t.val / 2 by omega]
  rfl

end Cert.PoolFwdIdeal.Gen

namespace Cert.PoolFwdRefIdeal.Read

open PoolFwdRefIdeal PoolFwdRefIdeal.Gen Idealize.ShloMosaic Idealize.ShloMosaic.TcCoe Idealize.ShloMosaic.StableHlo Windows Finite GateMath

theorem real_eq {V : ℕ → ℕ → ℝ} {a b a' b' : ℕ} (ha : a = a') (hb : b = b') : ((V a b : ℝ) : EReal) = ((V a' b' : ℝ) : EReal) := by rw [ha, hb]

/-- The mixer at row `t` of group `g`. -/
abbrev pool (V : ℕ → ℕ → ℝ) (w t k : ℕ) : ℝ := back V w t k / cnt w t - V t k

variable {x : FVec Ideal S2048x2048 .f32} (hx : ∀ i, x i = ((EReal.toReal (x i) : ℝ) : EReal))

include hx in
theorem base0 (i : S2048x512.Idx) : val_main_v2 (F := Ideal) x i = (((real2 (A := 2048) (B := 2048) x) (i 0).val (i 1).val : ℝ) : EReal) := by
  have h0 : (i 0).val < 2048 := (i 0).isLt
  have h1 : (i 1).val < 512 := (i 1).isLt
  simp only [val_main_v2_apply, val_main_v1_apply, val_main_v0_apply, real2_spec hx]
  refine real_eq ?_ ?_
  · simp <;> omega
  · simp <;> omega

include hx in
theorem again0 (i : S2048x512.Idx) : val_main_v18 (F := Ideal) x i = (((real2 (A := 2048) (B := 2048) x) (i 0).val (i 1).val : ℝ) : EReal) := by
  have h0 : (i 0).val < 2048 := (i 0).isLt
  have h1 : (i 1).val < 512 := (i 1).isLt
  simp only [val_main_v18_apply, val_main_v17_apply, val_main_v0_apply, real2_spec hx]
  refine real_eq ?_ ?_
  · simp <;> omega
  · simp <;> omega

theorem count0 (i : S2048x512.Idx) : val_main_v15 (F := Ideal) i = ((cnt 2 (i 0).val : ℝ) : EReal) := by
  have h0 : (i 0).val < 2048 := (i 0).isLt
  simp only [val_main_v14_apply, val_main_v15_apply, val_main_v12_apply, val_main_v11_apply, val_main_v10_apply, val_main_v9_apply, val_main_v8_apply, val_main_v7_apply]
  show FloatOps.sitofp (F := Ideal) FTy.f32 (IntOp.minsi (IntOp.addi (BitVec.ofNat 32 1) (BitVec.ofNat 32 (i 0).val)) (BitVec.ofNat 32 2)) = _
  rw [WordCmp.addi_ofNat, Windows.count _ _ (by omega) (by omega), Nat.add_comm 1]
  rfl

include hx in
theorem run0 (j : S2048x512.Idx) : val_main_v3 (F := Ideal) x j
    = ((∑ k ∈ Finset.range ((j 0).val + 1), (real2 (A := 2048) (B := 2048) x) k (j 1).val : ℝ) : EReal) := by
  unfold val_main_v3
  exact prefix' _ (fun t k => (real2 (A := 2048) (B := 2048) x) t k) (base0 hx) _ (fun _ => bits_zero) _ _ j

include hx in
theorem shifted0 (j : S2048x512.Idx) : val_main_v6 (F := Ideal) x j
    = (((if (j 0).val < 2 then 0 else ∑ k ∈ Finset.range ((j 0).val - 2 + 1), (real2 (A := 2048) (B := 2048) x) k (j 1).val) : ℝ) : EReal) := by
  have h0 : (j 0).val < 2048 := (j 0).isLt
  have h1 : (j 1).val < 512 := (j 1).isLt
  unfold val_main_v6
  refine (pair_rows 2 2046 (by omega) _ _ _ j).trans ?_
  by_cases h : (j 0).val < 2
  · rw [dif_pos h, if_pos h, val_main_v4_apply]
    exact bits_zero
  · rw [dif_neg h, if_neg h, val_main_v5_apply, run0 hx]
    rfl

include hx in
theorem pool0 (i : S2048x512.Idx) : val_main_v19 (F := Ideal) x i = ((pool (real2 (A := 2048) (B := 2048) x) 2 (i 0).val (i 1).val : ℝ) : EReal) := by
  simp only [val_main_v19_apply, val_main_v16_apply, val_main_v13_apply, run0 hx, shifted0 hx, count0, again0 hx, Ideal.subf_def, Ideal.hostDivf_def, ← EReal.coe_sub]
  rw [div_cnt _ 2 _ (by omega), ← EReal.coe_sub, prefix_sub (fun k => (real2 (A := 2048) (B := 2048) x) k (i 1).val)]
  rfl

include hx in
theorem base1 (i : S2048x512.Idx) : val_main_v21 (F := Ideal) x i = (((real2 (A := 2048) (B := 2048) x) (i 0).val (512 + (i 1).val) : ℝ) : EReal) := by
  have h0 : (i 0).val < 2048 := (i 0).isLt
  have h1 : (i 1).val < 512 := (i 1).isLt
  simp only [val_main_v21_apply, val_main_v20_apply, val_main_v0_apply, real2_spec hx]
  refine real_eq ?_ ?_
  · simp <;> omega
  · simp <;> omega

include hx in
theorem again1 (i : S2048x512.Idx) : val_main_v37 (F := Ideal) x i = (((real2 (A := 2048) (B := 2048) x) (i 0).val (512 + (i 1).val) : ℝ) : EReal) := by
  have h0 : (i 0).val < 2048 := (i 0).isLt
  have h1 : (i 1).val < 512 := (i 1).isLt
  simp only [val_main_v37_apply, val_main_v36_apply, val_main_v0_apply, real2_spec hx]
  refine real_eq ?_ ?_
  · simp <;> omega
  · simp <;> omega

theorem count1 (i : S2048x512.Idx) : val_main_v34 (F := Ideal) i = ((cnt 4 (i 0).val : ℝ) : EReal) := by
  have h0 : (i 0).val < 2048 := (i 0).isLt
  simp only [val_main_v33_apply, val_main_v34_apply, val_main_v31_apply, val_main_v30_apply, val_main_v29_apply, val_main_v28_apply, val_main_v27_apply, val_main_v26_apply]
  show FloatOps.sitofp (F := Ideal) FTy.f32 (IntOp.minsi (IntOp.addi (BitVec.ofNat 32 1) (BitVec.ofNat 32 (i 0).val)) (BitVec.ofNat 32 4)) = _
  rw [WordCmp.addi_ofNat, Windows.count _ _ (by omega) (by omega), Nat.add_comm 1]
  rfl

include hx in
theorem run1 (j : S2048x512.Idx) : val_main_v22 (F := Ideal) x j
    = ((∑ k ∈ Finset.range ((j 0).val + 1), (real2 (A := 2048) (B := 2048) x) k (512 + (j 1).val) : ℝ) : EReal) := by
  unfold val_main_v22
  exact prefix' _ (fun t k => (real2 (A := 2048) (B := 2048) x) t (512 + k)) (base1 hx) _ (fun _ => bits_zero) _ _ j

include hx in
theorem shifted1 (j : S2048x512.Idx) : val_main_v25 (F := Ideal) x j
    = (((if (j 0).val < 4 then 0 else ∑ k ∈ Finset.range ((j 0).val - 4 + 1), (real2 (A := 2048) (B := 2048) x) k (512 + (j 1).val)) : ℝ) : EReal) := by
  have h0 : (j 0).val < 2048 := (j 0).isLt
  have h1 : (j 1).val < 512 := (j 1).isLt
  unfold val_main_v25
  refine (pair_rows 4 2044 (by omega) _ _ _ j).trans ?_
  by_cases h : (j 0).val < 4
  · rw [dif_pos h, if_pos h, val_main_v23_apply]
    exact bits_zero
  · rw [dif_neg h, if_neg h, val_main_v24_apply, run1 hx]
    rfl

include hx in
theorem pool1 (i : S2048x512.Idx) : val_main_v38 (F := Ideal) x i = ((pool (real2 (A := 2048) (B := 2048) x) 4 (i 0).val (512 + (i 1).val) : ℝ) : EReal) := by
  simp only [val_main_v38_apply, val_main_v35_apply, val_main_v32_apply, run1 hx, shifted1 hx, count1, again1 hx, Ideal.subf_def, Ideal.hostDivf_def, ← EReal.coe_sub]
  rw [div_cnt _ 4 _ (by omega), ← EReal.coe_sub, prefix_sub (fun k => (real2 (A := 2048) (B := 2048) x) k (512 + (i 1).val))]
  rfl

include hx in
theorem base2 (i : S2048x512.Idx) : val_main_v40 (F := Ideal) x i = (((real2 (A := 2048) (B := 2048) x) (i 0).val (1024 + (i 1).val) : ℝ) : EReal) := by
  have h0 : (i 0).val < 2048 := (i 0).isLt
  have h1 : (i 1).val < 512 := (i 1).isLt
  simp only [val_main_v40_apply, val_main_v39_apply, val_main_v0_apply, real2_spec hx]
  refine real_eq ?_ ?_
  · simp <;> omega
  · simp <;> omega

include hx in
theorem again2 (i : S2048x512.Idx) : val_main_v56 (F := Ideal) x i = (((real2 (A := 2048) (B := 2048) x) (i 0).val (1024 + (i 1).val) : ℝ) : EReal) := by
  have h0 : (i 0).val < 2048 := (i 0).isLt
  have h1 : (i 1).val < 512 := (i 1).isLt
  simp only [val_main_v56_apply, val_main_v55_apply, val_main_v0_apply, real2_spec hx]
  refine real_eq ?_ ?_
  · simp <;> omega
  · simp <;> omega

theorem count2 (i : S2048x512.Idx) : val_main_v53 (F := Ideal) i = ((cnt 8 (i 0).val : ℝ) : EReal) := by
  have h0 : (i 0).val < 2048 := (i 0).isLt
  simp only [val_main_v52_apply, val_main_v53_apply, val_main_v50_apply, val_main_v49_apply, val_main_v48_apply, val_main_v47_apply, val_main_v46_apply, val_main_v45_apply]
  show FloatOps.sitofp (F := Ideal) FTy.f32 (IntOp.minsi (IntOp.addi (BitVec.ofNat 32 1) (BitVec.ofNat 32 (i 0).val)) (BitVec.ofNat 32 8)) = _
  rw [WordCmp.addi_ofNat, Windows.count _ _ (by omega) (by omega), Nat.add_comm 1]
  rfl

include hx in
theorem run2 (j : S2048x512.Idx) : val_main_v41 (F := Ideal) x j
    = ((∑ k ∈ Finset.range ((j 0).val + 1), (real2 (A := 2048) (B := 2048) x) k (1024 + (j 1).val) : ℝ) : EReal) := by
  unfold val_main_v41
  exact prefix' _ (fun t k => (real2 (A := 2048) (B := 2048) x) t (1024 + k)) (base2 hx) _ (fun _ => bits_zero) _ _ j

include hx in
theorem shifted2 (j : S2048x512.Idx) : val_main_v44 (F := Ideal) x j
    = (((if (j 0).val < 8 then 0 else ∑ k ∈ Finset.range ((j 0).val - 8 + 1), (real2 (A := 2048) (B := 2048) x) k (1024 + (j 1).val)) : ℝ) : EReal) := by
  have h0 : (j 0).val < 2048 := (j 0).isLt
  have h1 : (j 1).val < 512 := (j 1).isLt
  unfold val_main_v44
  refine (pair_rows 8 2040 (by omega) _ _ _ j).trans ?_
  by_cases h : (j 0).val < 8
  · rw [dif_pos h, if_pos h, val_main_v42_apply]
    exact bits_zero
  · rw [dif_neg h, if_neg h, val_main_v43_apply, run2 hx]
    rfl

include hx in
theorem pool2 (i : S2048x512.Idx) : val_main_v57 (F := Ideal) x i = ((pool (real2 (A := 2048) (B := 2048) x) 8 (i 0).val (1024 + (i 1).val) : ℝ) : EReal) := by
  simp only [val_main_v57_apply, val_main_v54_apply, val_main_v51_apply, run2 hx, shifted2 hx, count2, again2 hx, Ideal.subf_def, Ideal.hostDivf_def, ← EReal.coe_sub]
  rw [div_cnt _ 8 _ (by omega), ← EReal.coe_sub, prefix_sub (fun k => (real2 (A := 2048) (B := 2048) x) k (1024 + (i 1).val))]
  rfl

include hx in
theorem base3 (i : S2048x512.Idx) : val_main_v59 (F := Ideal) x i = (((real2 (A := 2048) (B := 2048) x) (i 0).val (1536 + (i 1).val) : ℝ) : EReal) := by
  have h0 : (i 0).val < 2048 := (i 0).isLt
  have h1 : (i 1).val < 512 := (i 1).isLt
  simp only [val_main_v59_apply, val_main_v58_apply, val_main_v0_apply, real2_spec hx]
  refine real_eq ?_ ?_
  · simp <;> omega
  · simp <;> omega

include hx in
theorem again3 (i : S2048x512.Idx) : val_main_v75 (F := Ideal) x i = (((real2 (A := 2048) (B := 2048) x) (i 0).val (1536 + (i 1).val) : ℝ) : EReal) := by
  have h0 : (i 0).val < 2048 := (i 0).isLt
  have h1 : (i 1).val < 512 := (i 1).isLt
  simp only [val_main_v75_apply, val_main_v74_apply, val_main_v0_apply, real2_spec hx]
  refine real_eq ?_ ?_
  · simp <;> omega
  · simp <;> omega

theorem count3 (i : S2048x512.Idx) : val_main_v72 (F := Ideal) i = ((cnt 16 (i 0).val : ℝ) : EReal) := by
  have h0 : (i 0).val < 2048 := (i 0).isLt
  simp only [val_main_v71_apply, val_main_v72_apply, val_main_v69_apply, val_main_v68_apply, val_main_v67_apply, val_main_v66_apply, val_main_v65_apply, val_main_v64_apply]
  show FloatOps.sitofp (F := Ideal) FTy.f32 (IntOp.minsi (IntOp.addi (BitVec.ofNat 32 1) (BitVec.ofNat 32 (i 0).val)) (BitVec.ofNat 32 16)) = _
  rw [WordCmp.addi_ofNat, Windows.count _ _ (by omega) (by omega), Nat.add_comm 1]
  rfl

include hx in
theorem run3 (j : S2048x512.Idx) : val_main_v60 (F := Ideal) x j
    = ((∑ k ∈ Finset.range ((j 0).val + 1), (real2 (A := 2048) (B := 2048) x) k (1536 + (j 1).val) : ℝ) : EReal) := by
  unfold val_main_v60
  exact prefix' _ (fun t k => (real2 (A := 2048) (B := 2048) x) t (1536 + k)) (base3 hx) _ (fun _ => bits_zero) _ _ j

include hx in
theorem shifted3 (j : S2048x512.Idx) : val_main_v63 (F := Ideal) x j
    = (((if (j 0).val < 16 then 0 else ∑ k ∈ Finset.range ((j 0).val - 16 + 1), (real2 (A := 2048) (B := 2048) x) k (1536 + (j 1).val)) : ℝ) : EReal) := by
  have h0 : (j 0).val < 2048 := (j 0).isLt
  have h1 : (j 1).val < 512 := (j 1).isLt
  unfold val_main_v63
  refine (pair_rows 16 2032 (by omega) _ _ _ j).trans ?_
  by_cases h : (j 0).val < 16
  · rw [dif_pos h, if_pos h, val_main_v61_apply]
    exact bits_zero
  · rw [dif_neg h, if_neg h, val_main_v62_apply, run3 hx]
    rfl

include hx in
theorem pool3 (i : S2048x512.Idx) : val_main_v76 (F := Ideal) x i = ((pool (real2 (A := 2048) (B := 2048) x) 16 (i 0).val (1536 + (i 1).val) : ℝ) : EReal) := by
  simp only [val_main_v76_apply, val_main_v73_apply, val_main_v70_apply, run3 hx, shifted3 hx, count3, again3 hx, Ideal.subf_def, Ideal.hostDivf_def, ← EReal.coe_sub]
  rw [div_cnt _ 16 _ (by omega), ← EReal.coe_sub, prefix_sub (fun k => (real2 (A := 2048) (B := 2048) x) k (1536 + (i 1).val))]
  rfl

include hx in
theorem grp0 (i : S2048x1x512.Idx) : val_main_v77 (F := Ideal) x i = ((pool (real2 (A := 2048) (B := 2048) x) 2 (i 0).val (i 2).val : ℝ) : EReal) := by
  simp only [val_main_v77_apply, pool0 hx]

include hx in
theorem grp1 (i : S2048x1x512.Idx) : val_main_v78 (F := Ideal) x i = ((pool (real2 (A := 2048) (B := 2048) x) 4 (i 0).val (512 + (i 2).val) : ℝ) : EReal) := by
  simp only [val_main_v78_apply, pool1 hx]

include hx in
theorem grp2 (i : S2048x1x512.Idx) : val_main_v79 (F := Ideal) x i = ((pool (real2 (A := 2048) (B := 2048) x) 8 (i 0).val (1024 + (i 2).val) : ℝ) : EReal) := by
  simp only [val_main_v79_apply, pool2 hx]

include hx in
theorem grp3 (i : S2048x1x512.Idx) : val_main_v80 (F := Ideal) x i = ((pool (real2 (A := 2048) (B := 2048) x) 16 (i 0).val (1536 + (i 2).val) : ℝ) : EReal) := by
  simp only [val_main_v80_apply, pool3 hx]

include hx in
theorem total (i : S2048x4x512.Idx) : val_main_v81 (F := Ideal) x i
    = ((pool (real2 (A := 2048) (B := 2048) x) (2 ^ ((i 1).val + 1)) (i 0).val (512 * (i 1).val + (i 2).val) : ℝ) : EReal) := by
  have h1 : (i 1).val < 4 := (i 1).isLt
  have e : ∀ w w' a a' k k' : ℕ, w = w' → a = a' → k = k' → ((pool (real2 (A := 2048) (B := 2048) x) w a k : ℝ) : EReal) = ((pool (real2 (A := 2048) (B := 2048) x) w' a' k' : ℝ) : EReal) := by
    intro w w' a a' k k' hw ha hk
    rw [hw, ha, hk]
  unfold val_main_v81
  pointwise
  by_cases c0 : (i 1).val < 1
  · have hg : (i 1).val = 0 := by omega
    refine (dif_pos c0).trans ((grp0 hx _).trans (e _ _ _ _ _ _ (by rw [hg]; rfl) rfl ?_))
    show (i 2).val = 512 * (i 1).val + (i 2).val
    omega
  refine (dif_neg c0).trans ?_
  by_cases c1 : (i 1).val - 1 < 1
  · have hg : (i 1).val = 1 := by omega
    refine (dif_pos c1).trans ((grp1 hx _).trans (e _ _ _ _ _ _ (by rw [hg]; rfl) rfl ?_))
    show 512 + (i 2).val = 512 * (i 1).val + (i 2).val
    omega
  refine (dif_neg c1).trans ?_
  by_cases c2 : (i 1).val - 1 - 1 < 1
  · have hg : (i 1).val = 2 := by omega
    refine (dif_pos c2).trans ((grp2 hx _).trans (e _ _ _ _ _ _ (by rw [hg]; rfl) rfl ?_))
    show 1024 + (i 2).val = 512 * (i 1).val + (i 2).val
    omega
  refine (dif_neg c2).trans ?_
  have hg : (i 1).val = 3 := by omega
  refine (grp3 hx _).trans (e _ _ _ _ _ _ (by rw [hg]; rfl) rfl ?_)
  show 1536 + (i 2).val = 512 * (i 1).val + (i 2).val
  omega

include hx in
theorem value (i : S2048x2048.Idx) : val_main_v83 (F := Ideal) x i = PoolFwdIdeal.Gen.G x i := by
  have h0 : (i 0).val < 2048 := (i 0).isLt
  have h1 : (i 1).val < 2048 := (i 1).isLt
  have e : ∀ a a' g g' k k' : ℕ, a = a' → g = g' → k = k' →
      ((pool (real2 (A := 2048) (B := 2048) x) (2 ^ (g + 1)) a k : ℝ) : EReal) = ((pool (real2 (A := 2048) (B := 2048) x) (2 ^ (g' + 1)) a' k' : ℝ) : EReal) := by
    intro a a' g g' k k' ha hg hk
    rw [ha, hg, hk]
  simp only [val_main_v83_apply, val_main_v82_apply, total hx]
  refine e _ _ _ _ _ _ ?_ ?_ ?_
  · simp <;> omega
  · simp <;> omega
  · simp <;> omega

end Cert.PoolFwdRefIdeal.Read

namespace Cert.PoolFwdRun

open Idealize.ShloMosaic Idealize.ShloMosaic.TcCoe Finite

attribute [local instance] Pre_pool_finite.Gen.facts

instance : Subsingleton Pre_pool_finite.S_.Idx := ⟨fun a b => funext fun k => k.elim0⟩

theorem pre_real {x : FVec Ideal Pre_pool_finite.S2048x2048 .f32} (h : Pre_pool_finite.fn (F := Ideal) x = fun _ => 1#1) :
    ∀ i, x i = ((EReal.toReal (x i) : ℝ) : EReal) := by
  have e := congrFun h (fun k => k.elim0)
  unfold Pre_pool_finite.fn at e
  exact real_of_all x _ (fun _ => rfl) _ _ _ _ e

theorem algebraic : @Cert.algebraic_PoolFwdIdeal_PoolFwdRefIdeal_pre_pool_finite PoolFwdIdeal.Gen.facts PoolFwdRefIdeal.Gen.facts Pre_pool_finite.Gen.facts := by
  intro m g m' g' hp hag
  refine ⟨fun c => fun i : PoolFwdIdeal.S2048x2048.Idx => PoolFwdIdeal.Gen.G (m ((c.tc : Thread _ _).loc PoolFwdIdeal.main_arg0)) i, ?_, ?_⟩
  · refine (θ_run _ _ _).mono (fun r hr c => ?_) (PoolFwdIdeal.Value.run_blocks m g)
    obtain ⟨a0, ha⟩ := hr c
    exact ⟨a0.trans (PoolFwdIdeal.Gen.arr m c (pre_real (hp c))), ha⟩
  · refine (θ_run _ _ _).mono (fun r hr c => ?_) (PoolFwdRefIdeal.Value.run m' g')
    have e0 := hag c
    obtain ⟨a0, ha⟩ := hr c
    refine ⟨a0.trans ?_, ha⟩
    rw [PoolFwdRefIdeal.Read.val_main_v83_eq, e0]
    exact funext fun i => PoolFwdRefIdeal.Read.value (pre_real (hp c)) i

end Cert.PoolFwdRun

end
-- ==== Proof.PoolBwdRun.lean ====
/- The pooling mixer's gradient: what the kernel computes and what the reference computes are the same. -/
module

public import proofs.«01_k».proof.Defs
public import proofs.«01_k».proof.Proof.Gen.PoolBwd.Frame
public import proofs.«01_k».proof.Proof.Gen.PoolBwdIdeal.Frame
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.Gen.Pre_pool_finite
public import proofs.«01_k».proof.Proof.Finite
public import proofs.«01_k».proof.Proof.Windows
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.PoolBwdIdeal.Gen

open PoolBwdIdeal Windows Finite

variable (V : ℕ → ℕ → ℝ) (i : grid0.Coords) (v : Vec Ideal S2048x256 .f32)
  (hv : ∀ y : S2048x256.Idx, v y = ((V (y 0).val (y 1).val : ℝ) : EReal))

include hv in
theorem share_at (z : S2048x256.Idx) :
    Ideal.div (v z) (FloatOps.sitofp (F := Ideal) FTy.f32 (IntOp.minsi (IntOp.addi (BitVec.ofNat 32 (z 0).val) 1#32)
      (Scalar.select (Scalar.cmpi CmpIPredicate.eq (BitVec.ofNat 32 (i 0).val) 0#32) (2#32)
        (Scalar.select (Scalar.cmpi CmpIPredicate.eq (BitVec.ofNat 32 (i 0).val) 1#32) (4#32)
          (Scalar.select (Scalar.cmpi CmpIPredicate.eq (BitVec.ofNat 32 (i 0).val) 2#32) 8#32 16#32)))))
      = ((share V (2 ^ ((i 0).val + 1)) (z 0).val (z 1).val : ℝ) : EReal) := by
  have h0 : (z 0).val < 2048 := (z 0).isLt
  have hg : (i 0).val < 4 := (i 0).isLt
  have hp : 2 ^ ((i 0).val + 1) ≤ 2 ^ 4 := Nat.pow_le_pow_right (by omega) (by omega)
  rw [width _ hg, WordCmp.addi_ofNat, Windows.count _ _ (by omega) (by omega), hv]
  refine (div_cnt _ (2 ^ ((i 0).val + 1)) _ (by positivity)).trans ?_
  rw [share, if_pos h0]

include hv in
theorem pay2 (y : S2048x256.Idx) :
    k0_pay2 i v y = ((∑ n ∈ Finset.range 2, share V (2 ^ ((i 0).val + 1)) ((y 0).val + n) (y 1).val : ℝ) : EReal) := by
  have h0 : (y 0).val < 2048 := (y 0).isLt
  pointwise [k0_pay2]
  rw [share_at V i v hv y, below _ 2047 (by omega) (by omega)]
  refine step1 V _ _ _ _ ?_
  split
  · refine (share_at V i v hv _).trans ?_
    show ((share V _ (((y 0).val + 2048 - 2047) % 2048) (y 1).val : ℝ) : EReal) = _
    rw [show ((y 0).val + 2048 - 2047) % 2048 = (y 0).val + 1 by omega]
  · rw [share_past _ _ _ _ (by omega), EReal.coe_zero]

include hv in
theorem pay3 (y : S2048x256.Idx) :
    k0_pay3 i v y = ((∑ n ∈ Finset.range 4, share V (2 ^ ((i 0).val + 1)) ((y 0).val + n) (y 1).val : ℝ) : EReal) := by
  have h0 : (y 0).val < 2048 := (y 0).isLt
  pointwise [k0_pay3]
  rw [pay2 V i v hv y, below _ 2046 (by omega) (by omega)]
  refine step V _ 2 _ _ _ ?_
  split
  · refine (pay2 V i v hv _).trans ?_
    show ((∑ n ∈ Finset.range 2, share V _ (((y 0).val + 2048 - 2046) % 2048 + n) (y 1).val : ℝ) : EReal) = _
    rw [show ((y 0).val + 2048 - 2046) % 2048 = (y 0).val + 2 by omega]
  · rw [share_past' _ _ _ _ _ (by omega), EReal.coe_zero]

include hv in
theorem pay4 (y : S2048x256.Idx) :
    k0_pay4 i v y = ((∑ n ∈ Finset.range 8, share V (2 ^ ((i 0).val + 1)) ((y 0).val + n) (y 1).val : ℝ) : EReal) := by
  have h0 : (y 0).val < 2048 := (y 0).isLt
  pointwise [k0_pay4]
  rw [pay3 V i v hv y, below _ 2044 (by omega) (by omega)]
  refine step V _ 4 _ _ _ ?_
  split
  · refine (pay3 V i v hv _).trans ?_
    show ((∑ n ∈ Finset.range 4, share V _ (((y 0).val + 2048 - 2044) % 2048 + n) (y 1).val : ℝ) : EReal) = _
    rw [show ((y 0).val + 2048 - 2044) % 2048 = (y 0).val + 4 by omega]
  · rw [share_past' _ _ _ _ _ (by omega), EReal.coe_zero]

theorem pick (g : ℕ) (hg : g < 4) (a : ℕ → ℝ) :
    Scalar.select (α := EReal) (Scalar.cmpi CmpIPredicate.eq (BitVec.ofNat 32 g) 0#32) ((a 2 : ℝ) : EReal)
      (Scalar.select (α := EReal) (Scalar.cmpi CmpIPredicate.eq (BitVec.ofNat 32 g) 1#32) ((a 4 : ℝ) : EReal)
        (Scalar.select (α := EReal) (Scalar.cmpi CmpIPredicate.eq (BitVec.ofNat 32 g) 2#32) ((a 8 : ℝ) : EReal) ((a 16 : ℝ) : EReal)))
      = ((a (2 ^ (g + 1)) : ℝ) : EReal) := by
  interval_cases g <;> rfl

include hv in
theorem pay1 (y : S2048x256.Idx) :
    k0_pay1 (BitVec.ofNat 32 (i 0).val) v (k0_pay2 i v) (k0_pay3 i v) (k0_pay4 i v) k0_pay5 2040#32 y
      = ((∑ n ∈ Finset.range (2 ^ ((i 0).val + 1)), share V (2 ^ ((i 0).val + 1)) ((y 0).val + n) (y 1).val - V (y 0).val (y 1).val : ℝ) : EReal) := by
  have h0 : (y 0).val < 2048 := (y 0).isLt
  have hg : (i 0).val < 4 := (i 0).isLt
  pointwise [k0_pay1, k0_pay5]
  have e : ∀ X : EReal, X = ((∑ n ∈ Finset.range 8, share V (2 ^ ((i 0).val + 1)) ((y 0).val + 8 + n) (y 1).val : ℝ) : EReal) →
      ((∑ n ∈ Finset.range 8, share V (2 ^ ((i 0).val + 1)) ((y 0).val + n) (y 1).val : ℝ) : EReal) + X
        = ((∑ n ∈ Finset.range 16, share V (2 ^ ((i 0).val + 1)) ((y 0).val + n) (y 1).val : ℝ) : EReal) := fun X hX =>
    step V _ 8 _ _ _ hX
  rw [pay2 V i v hv y, pay3 V i v hv y, pay4 V i v hv y, below _ 2040 (by omega) (by omega), e _ ?_, hv,
    pick _ hg fun w => ∑ n ∈ Finset.range w, share V (2 ^ ((i 0).val + 1)) ((y 0).val + n) (y 1).val, ← EReal.coe_sub]
  split
  · refine (pay4 V i v hv _).trans ?_
    show ((∑ n ∈ Finset.range 8, share V _ (((y 0).val + 2048 - 2040) % 2048 + n) (y 1).val : ℝ) : EReal) = _
    rw [show ((y 0).val + 2048 - 2040) % 2048 = (y 0).val + 8 by omega]
  · rw [share_past' _ _ _ _ _ (by omega), EReal.coe_zero]

theorem idx : ∀ t : Fin cfg0.N, win0_0.index t = ![0, t.val] ∧ win0_1.index t = ![0, t.val] ∧ (grid0.coords t 0).val = t.val / 2 :=
  (by decide +kernel : ∀ t : Fin grid0.N, _)

/-- The gradient at a place: the shares of the rows whose windows hold it, less its own cotangent. -/
def G (x : FVec Ideal S2048x2048 .f32) (i : S2048x2048.Idx) : EReal :=
  ((∑ n ∈ Finset.range (2 ^ ((i 1).val / 512 + 1)), share (real2 (A := 2048) (B := 2048) x) (2 ^ ((i 1).val / 512 + 1)) ((i 0).val + n) (i 1).val
    - real2 (A := 2048) (B := 2048) x (i 0).val (i 1).val : ℝ) : EReal)

variable (m : (ℓ : Loc nD τ sig) → Buf (Elt Ideal) ℓ) (c : Dev nD)

theorem blk0 (hm : ∀ i : S2048x2048.Idx, m ((c : Thread nD τ).loc main_arg0) i = ((EReal.toReal (m ((c : Thread nD τ).loc main_arg0) i) : ℝ) : EReal))
    (t : Fin cfg0.N) (i : S2048x256.Idx) : iblk m c 0 t i
      = ((real2 (A := 2048) (B := 2048) (m ((c : Thread nD τ).loc main_arg0)) (i 0).val (256 * t.val + (i 1).val) : ℝ) : EReal) := by
  have ht : t.val < 8 := t.isLt
  have h1 : (i 1).val < 256 := (i 1).isLt
  have e : iblk m c 0 t i = m ((c : Thread nD τ).loc main_arg0) (ix2 (i 0 : Fin 2048) (⟨256 * t.val + (i 1).val, by omega⟩ : Fin 2048)) := by
    blk_point [iblk, V, idx t]
  rw [e, real2_spec hm]
  rfl

theorem arr (hm : ∀ i : S2048x2048.Idx, m ((c : Thread nD τ).loc main_arg0) i = ((EReal.toReal (m ((c : Thread nD τ).loc main_arg0) i) : ℝ) : EReal)) :
    (dats m 0 c).arrAt 1 cfg0.N = fun i : S2048x2048.Idx => G (m ((c : Thread nD τ).loc main_arg0)) i := by
  refine (dats m 0 c).arrAt_eq_of_covers 1 _ (by decide +kernel) fun t hf y => ?_
  have h0 : (y 0).val < 2048 := (y 0).isLt
  have h1 : (y 1).val < 256 := (y 1).isLt
  have ht : t.val < 8 := t.isLt
  blk_simp
  rw [after0_1]
  have e : ∀ W : S2048x2048.Idx → EReal, W ((win0_1.blk t).view.emb y)
      = W (ix2 (⟨(y 0).val, h0⟩ : Fin 2048) (⟨256 * t.val + (y 1).val, by omega⟩ : Fin 2048)) := fun W => by
    blk_ext [idx t]
  rw [e (G _)]
  unfold out0_1
  rw [View.canon_unit_zero (by decide), View.ld_unit_zero (by decide)]
  refine (pay1 (fun n k => real2 (A := 2048) (B := 2048) (m ((c : Thread nD τ).loc main_arg0)) n (256 * t.val + k)) (grid0.coords t) (iblk m c 0 t)
    (blk0 m c hm t) y).trans ?_
  rw [(idx t).2.2]
  unfold G
  show _ = ((∑ n ∈ Finset.range (2 ^ ((256 * t.val + (y 1).val) / 512 + 1)), share (real2 (A := 2048) (B := 2048) (m ((c : Thread nD τ).loc main_arg0)))
    (2 ^ ((256 * t.val + (y 1).val) / 512 + 1)) ((y 0).val + n) (256 * t.val + (y 1).val)
    - real2 (A := 2048) (B := 2048) (m ((c : Thread nD τ).loc main_arg0)) (y 0).val (256 * t.val + (y 1).val) : ℝ) : EReal)
  rw [show (256 * t.val + (y 1).val) / 512 = t.val / 2 by omega]
  rfl

end Cert.PoolBwdIdeal.Gen

namespace Cert.PoolRefIdeal.Read

open PoolRefIdeal PoolRefIdeal.Gen Idealize.ShloMosaic Idealize.ShloMosaic.TcCoe Idealize.ShloMosaic.StableHlo Windows Finite GateMath

/-- The shares of the rows whose windows hold row `t`. -/
abbrev win (V : ℕ → ℕ → ℝ) (w t k : ℕ) : ℝ := ∑ n ∈ Finset.range w, share V w (t + n) k

theorem real_eq {V : ℕ → ℕ → ℝ} {a b a' b' : ℕ} (ha : a = a') (hb : b = b') : ((V a b : ℝ) : EReal) = ((V a' b' : ℝ) : EReal) := by rw [ha, hb]

variable {x : FVec Ideal S2048x2048 .f32} (hx : ∀ i, x i = ((EReal.toReal (x i) : ℝ) : EReal))

include hx in
theorem base3 (i : S2048x512.Idx) : val_main_v96 (F := Ideal) x i = (((real2 (A := 2048) (B := 2048) x) (i 0).val (1536 + (i 1).val) : ℝ) : EReal) := by
  have h0 : (i 0).val < 2048 := (i 0).isLt
  have h1 : (i 1).val < 512 := (i 1).isLt
  simp only [val_main_v96_apply, val_main_v95_apply, val_main_v88_apply, real2_spec hx]
  refine real_eq ?_ ?_
  · simp <;> omega
  · simp <;> omega

theorem count3 (i : S2048x512.Idx) : val_main_v100 (F := Ideal) i = ((cnt 16 (i 0).val : ℝ) : EReal) := by
  have h0 : (i 0).val < 2048 := (i 0).isLt
  simp only [val_main_v100_apply, val_main_v76_apply, val_main_v74_apply, val_main_v73_apply, val_main_v72_apply, val_main_v71_apply, val_main_v70_apply, val_main_v69_apply]
  show FloatOps.sitofp (F := Ideal) FTy.f32 (IntOp.minsi (IntOp.addi (BitVec.ofNat 32 1) (BitVec.ofNat 32 (i 0).val)) (BitVec.ofNat 32 16)) = _
  rw [WordCmp.addi_ofNat, Windows.count _ _ (by omega) (by omega), Nat.add_comm 1]
  rfl

include hx in
theorem share3 (i : S2048x512.Idx) : val_main_v101 (F := Ideal) x i = ((share (real2 (A := 2048) (B := 2048) x) 16 (i 0).val (1536 + (i 1).val) : ℝ) : EReal) := by
  have h0 : (i 0).val < 2048 := (i 0).isLt
  simp only [val_main_v101_apply, base3 hx, count3, Ideal.hostDivf_def]
  rw [div_cnt _ 16 _ (by omega), share, if_pos h0]

include hx in
theorem next3 (i : S2048x512.Idx) : val_main_v105 (F := Ideal) x i = ((-share (real2 (A := 2048) (B := 2048) x) 16 ((i 0).val + 16) (1536 + (i 1).val) : ℝ) : EReal) := by
  have h1 : (i 1).val < 512 := (i 1).isLt
  unfold val_main_v105
  refine (pad_rows 2032 16 rfl _ (fun t k => -share (real2 (A := 2048) (B := 2048) x) 16 (t + 16) (1536 + k)) (fun y => ?_) _ (fun _ => bits_zero) _ _ i).trans ?_
  · have hy0 : (y 0).val < 2032 := (y 0).isLt
    have hy1 : (y 1).val < 512 := (y 1).isLt
    simp only [val_main_v104_apply, val_main_v102_apply, share3 hx]
    refine (EReal.coe_neg _).symm.trans (real_eq (V := fun a b => -share (real2 (A := 2048) (B := 2048) x) 16 a b) ?_ ?_)
    · simp <;> omega
    · simp <;> omega
  · by_cases h : (i 0).val < 2032
    · rw [if_pos h]
    · rw [if_neg h, share_past _ _ _ _ (by omega), neg_zero]

include hx in
theorem sum3 (j : S2048x512.Idx) : val_main_v107 (F := Ideal) x j = ((win (real2 (A := 2048) (B := 2048) x) 16 (j 0).val (1536 + (j 1).val) : ℝ) : EReal) := by
  unfold val_main_v107
  refine (suffix _ (fun t k => share (real2 (A := 2048) (B := 2048) x) 16 t (1536 + k) + -share (real2 (A := 2048) (B := 2048) x) 16 (t + 16) (1536 + k)) (fun i => ?_) (fun t e ht => ?_)
    _ (fun _ => bits_zero) _ _ j).trans ?_
  · simp only [val_main_v106_apply, share3 hx, next3 hx, Ideal.addf_def, ← EReal.coe_add]
  · rw [share_past _ _ _ _ ht, share_past _ _ _ _ (by omega), neg_zero, add_zero]
  · rw [tele (fun t => share (real2 (A := 2048) (B := 2048) x) 16 t (1536 + (j 1).val)) 16 2048 (j 0).val fun t ht => share_past _ _ _ _ ht]

include hx in
theorem own3 (i : S2048x4x512.Idx) : val_main_v99 (F := Ideal) x i = (((if (i 1).val = 3 then -(real2 (A := 2048) (B := 2048) x) (i 0).val (1536 + (i 2).val) else 0) : ℝ) : EReal) := by
  unfold val_main_v99
  refine pad_mid 3 0 _ (fun t k => -(real2 (A := 2048) (B := 2048) x) t (1536 + k)) (fun y => ?_) _ (fun _ => bits_zero) _ _ i
  simp only [val_main_v98_apply, val_main_v97_apply, base3 hx]
  exact (EReal.coe_neg _).symm

include hx in
theorem all3 (i : S2048x4x512.Idx) : val_main_v109 (F := Ideal) x i = (((if (i 1).val = 3 then win (real2 (A := 2048) (B := 2048) x) 16 (i 0).val (1536 + (i 2).val) else 0) : ℝ) : EReal) := by
  unfold val_main_v109
  refine pad_mid 3 0 _ (fun t k => win (real2 (A := 2048) (B := 2048) x) 16 t (1536 + k)) (fun y => ?_) _ (fun _ => bits_zero) _ _ i
  simp only [val_main_v108_apply, sum3 hx]

include hx in
theorem base2 (i : S2048x512.Idx) : val_main_v94 (F := Ideal) x i = (((real2 (A := 2048) (B := 2048) x) (i 0).val (1024 + (i 1).val) : ℝ) : EReal) := by
  have h0 : (i 0).val < 2048 := (i 0).isLt
  have h1 : (i 1).val < 512 := (i 1).isLt
  simp only [val_main_v94_apply, val_main_v93_apply, val_main_v88_apply, real2_spec hx]
  refine real_eq ?_ ?_
  · simp <;> omega
  · simp <;> omega

theorem count2 (i : S2048x512.Idx) : val_main_v115 (F := Ideal) i = ((cnt 8 (i 0).val : ℝ) : EReal) := by
  have h0 : (i 0).val < 2048 := (i 0).isLt
  simp only [val_main_v115_apply, val_main_v56_apply, val_main_v54_apply, val_main_v53_apply, val_main_v52_apply, val_main_v51_apply, val_main_v50_apply, val_main_v49_apply]
  show FloatOps.sitofp (F := Ideal) FTy.f32 (IntOp.minsi (IntOp.addi (BitVec.ofNat 32 1) (BitVec.ofNat 32 (i 0).val)) (BitVec.ofNat 32 8)) = _
  rw [WordCmp.addi_ofNat, Windows.count _ _ (by omega) (by omega), Nat.add_comm 1]
  rfl

include hx in
theorem share2 (i : S2048x512.Idx) : val_main_v116 (F := Ideal) x i = ((share (real2 (A := 2048) (B := 2048) x) 8 (i 0).val (1024 + (i 1).val) : ℝ) : EReal) := by
  have h0 : (i 0).val < 2048 := (i 0).isLt
  simp only [val_main_v116_apply, base2 hx, count2, Ideal.hostDivf_def]
  rw [div_cnt _ 8 _ (by omega), share, if_pos h0]

include hx in
theorem next2 (i : S2048x512.Idx) : val_main_v120 (F := Ideal) x i = ((-share (real2 (A := 2048) (B := 2048) x) 8 ((i 0).val + 8) (1024 + (i 1).val) : ℝ) : EReal) := by
  have h1 : (i 1).val < 512 := (i 1).isLt
  unfold val_main_v120
  refine (pad_rows 2040 8 rfl _ (fun t k => -share (real2 (A := 2048) (B := 2048) x) 8 (t + 8) (1024 + k)) (fun y => ?_) _ (fun _ => bits_zero) _ _ i).trans ?_
  · have hy0 : (y 0).val < 2040 := (y 0).isLt
    have hy1 : (y 1).val < 512 := (y 1).isLt
    simp only [val_main_v119_apply, val_main_v117_apply, share2 hx]
    refine (EReal.coe_neg _).symm.trans (real_eq (V := fun a b => -share (real2 (A := 2048) (B := 2048) x) 8 a b) ?_ ?_)
    · simp <;> omega
    · simp <;> omega
  · by_cases h : (i 0).val < 2040
    · rw [if_pos h]
    · rw [if_neg h, share_past _ _ _ _ (by omega), neg_zero]

include hx in
theorem sum2 (j : S2048x512.Idx) : val_main_v122 (F := Ideal) x j = ((win (real2 (A := 2048) (B := 2048) x) 8 (j 0).val (1024 + (j 1).val) : ℝ) : EReal) := by
  unfold val_main_v122
  refine (suffix _ (fun t k => share (real2 (A := 2048) (B := 2048) x) 8 t (1024 + k) + -share (real2 (A := 2048) (B := 2048) x) 8 (t + 8) (1024 + k)) (fun i => ?_) (fun t e ht => ?_)
    _ (fun _ => bits_zero) _ _ j).trans ?_
  · simp only [val_main_v121_apply, share2 hx, next2 hx, Ideal.addf_def, ← EReal.coe_add]
  · rw [share_past _ _ _ _ ht, share_past _ _ _ _ (by omega), neg_zero, add_zero]
  · rw [tele (fun t => share (real2 (A := 2048) (B := 2048) x) 8 t (1024 + (j 1).val)) 8 2048 (j 0).val fun t ht => share_past _ _ _ _ ht]

include hx in
theorem own2 (i : S2048x4x512.Idx) : val_main_v113 (F := Ideal) x i = (((if (i 1).val = 2 then -(real2 (A := 2048) (B := 2048) x) (i 0).val (1024 + (i 2).val) else 0) : ℝ) : EReal) := by
  unfold val_main_v113
  refine pad_mid 2 1 _ (fun t k => -(real2 (A := 2048) (B := 2048) x) t (1024 + k)) (fun y => ?_) _ (fun _ => bits_zero) _ _ i
  simp only [val_main_v112_apply, val_main_v111_apply, base2 hx]
  exact (EReal.coe_neg _).symm

include hx in
theorem all2 (i : S2048x4x512.Idx) : val_main_v124 (F := Ideal) x i = (((if (i 1).val = 2 then win (real2 (A := 2048) (B := 2048) x) 8 (i 0).val (1024 + (i 2).val) else 0) : ℝ) : EReal) := by
  unfold val_main_v124
  refine pad_mid 2 1 _ (fun t k => win (real2 (A := 2048) (B := 2048) x) 8 t (1024 + k)) (fun y => ?_) _ (fun _ => bits_zero) _ _ i
  simp only [val_main_v123_apply, sum2 hx]

include hx in
theorem base1 (i : S2048x512.Idx) : val_main_v92 (F := Ideal) x i = (((real2 (A := 2048) (B := 2048) x) (i 0).val (512 + (i 1).val) : ℝ) : EReal) := by
  have h0 : (i 0).val < 2048 := (i 0).isLt
  have h1 : (i 1).val < 512 := (i 1).isLt
  simp only [val_main_v92_apply, val_main_v91_apply, val_main_v88_apply, real2_spec hx]
  refine real_eq ?_ ?_
  · simp <;> omega
  · simp <;> omega

theorem count1 (i : S2048x512.Idx) : val_main_v130 (F := Ideal) i = ((cnt 4 (i 0).val : ℝ) : EReal) := by
  have h0 : (i 0).val < 2048 := (i 0).isLt
  simp only [val_main_v130_apply, val_main_v36_apply, val_main_v34_apply, val_main_v33_apply, val_main_v32_apply, val_main_v31_apply, val_main_v30_apply, val_main_v29_apply]
  show FloatOps.sitofp (F := Ideal) FTy.f32 (IntOp.minsi (IntOp.addi (BitVec.ofNat 32 1) (BitVec.ofNat 32 (i 0).val)) (BitVec.ofNat 32 4)) = _
  rw [WordCmp.addi_ofNat, Windows.count _ _ (by omega) (by omega), Nat.add_comm 1]
  rfl

include hx in
theorem share1 (i : S2048x512.Idx) : val_main_v131 (F := Ideal) x i = ((share (real2 (A := 2048) (B := 2048) x) 4 (i 0).val (512 + (i 1).val) : ℝ) : EReal) := by
  have h0 : (i 0).val < 2048 := (i 0).isLt
  simp only [val_main_v131_apply, base1 hx, count1, Ideal.hostDivf_def]
  rw [div_cnt _ 4 _ (by omega), share, if_pos h0]

include hx in
theorem next1 (i : S2048x512.Idx) : val_main_v135 (F := Ideal) x i = ((-share (real2 (A := 2048) (B := 2048) x) 4 ((i 0).val + 4) (512 + (i 1).val) : ℝ) : EReal) := by
  have h1 : (i 1).val < 512 := (i 1).isLt
  unfold val_main_v135
  refine (pad_rows 2044 4 rfl _ (fun t k => -share (real2 (A := 2048) (B := 2048) x) 4 (t + 4) (512 + k)) (fun y => ?_) _ (fun _ => bits_zero) _ _ i).trans ?_
  · have hy0 : (y 0).val < 2044 := (y 0).isLt
    have hy1 : (y 1).val < 512 := (y 1).isLt
    simp only [val_main_v134_apply, val_main_v132_apply, share1 hx]
    refine (EReal.coe_neg _).symm.trans (real_eq (V := fun a b => -share (real2 (A := 2048) (B := 2048) x) 4 a b) ?_ ?_)
    · simp <;> omega
    · simp <;> omega
  · by_cases h : (i 0).val < 2044
    · rw [if_pos h]
    · rw [if_neg h, share_past _ _ _ _ (by omega), neg_zero]

include hx in
theorem sum1 (j : S2048x512.Idx) : val_main_v137 (F := Ideal) x j = ((win (real2 (A := 2048) (B := 2048) x) 4 (j 0).val (512 + (j 1).val) : ℝ) : EReal) := by
  unfold val_main_v137
  refine (suffix _ (fun t k => share (real2 (A := 2048) (B := 2048) x) 4 t (512 + k) + -share (real2 (A := 2048) (B := 2048) x) 4 (t + 4) (512 + k)) (fun i => ?_) (fun t e ht => ?_)
    _ (fun _ => bits_zero) _ _ j).trans ?_
  · simp only [val_main_v136_apply, share1 hx, next1 hx, Ideal.addf_def, ← EReal.coe_add]
  · rw [share_past _ _ _ _ ht, share_past _ _ _ _ (by omega), neg_zero, add_zero]
  · rw [tele (fun t => share (real2 (A := 2048) (B := 2048) x) 4 t (512 + (j 1).val)) 4 2048 (j 0).val fun t ht => share_past _ _ _ _ ht]

include hx in
theorem own1 (i : S2048x4x512.Idx) : val_main_v128 (F := Ideal) x i = (((if (i 1).val = 1 then -(real2 (A := 2048) (B := 2048) x) (i 0).val (512 + (i 2).val) else 0) : ℝ) : EReal) := by
  unfold val_main_v128
  refine pad_mid 1 2 _ (fun t k => -(real2 (A := 2048) (B := 2048) x) t (512 + k)) (fun y => ?_) _ (fun _ => bits_zero) _ _ i
  simp only [val_main_v127_apply, val_main_v126_apply, base1 hx]
  exact (EReal.coe_neg _).symm

include hx in
theorem all1 (i : S2048x4x512.Idx) : val_main_v139 (F := Ideal) x i = (((if (i 1).val = 1 then win (real2 (A := 2048) (B := 2048) x) 4 (i 0).val (512 + (i 2).val) else 0) : ℝ) : EReal) := by
  unfold val_main_v139
  refine pad_mid 1 2 _ (fun t k => win (real2 (A := 2048) (B := 2048) x) 4 t (512 + k)) (fun y => ?_) _ (fun _ => bits_zero) _ _ i
  simp only [val_main_v138_apply, sum1 hx]

include hx in
theorem base0 (i : S2048x512.Idx) : val_main_v90 (F := Ideal) x i = (((real2 (A := 2048) (B := 2048) x) (i 0).val (i 1).val : ℝ) : EReal) := by
  have h0 : (i 0).val < 2048 := (i 0).isLt
  have h1 : (i 1).val < 512 := (i 1).isLt
  simp only [val_main_v90_apply, val_main_v89_apply, val_main_v88_apply, real2_spec hx]
  refine real_eq ?_ ?_
  · simp <;> omega
  · simp <;> omega

theorem count0 (i : S2048x512.Idx) : val_main_v145 (F := Ideal) i = ((cnt 2 (i 0).val : ℝ) : EReal) := by
  have h0 : (i 0).val < 2048 := (i 0).isLt
  simp only [val_main_v145_apply, val_main_v16_apply, val_main_v14_apply, val_main_v13_apply, val_main_v12_apply, val_main_v11_apply, val_main_v10_apply, val_main_v9_apply]
  show FloatOps.sitofp (F := Ideal) FTy.f32 (IntOp.minsi (IntOp.addi (BitVec.ofNat 32 1) (BitVec.ofNat 32 (i 0).val)) (BitVec.ofNat 32 2)) = _
  rw [WordCmp.addi_ofNat, Windows.count _ _ (by omega) (by omega), Nat.add_comm 1]
  rfl

include hx in
theorem share0 (i : S2048x512.Idx) : val_main_v146 (F := Ideal) x i = ((share (real2 (A := 2048) (B := 2048) x) 2 (i 0).val (i 1).val : ℝ) : EReal) := by
  have h0 : (i 0).val < 2048 := (i 0).isLt
  simp only [val_main_v146_apply, base0 hx, count0, Ideal.hostDivf_def]
  rw [div_cnt _ 2 _ (by omega), share, if_pos h0]

include hx in
theorem next0 (i : S2048x512.Idx) : val_main_v150 (F := Ideal) x i = ((-share (real2 (A := 2048) (B := 2048) x) 2 ((i 0).val + 2) (i 1).val : ℝ) : EReal) := by
  have h1 : (i 1).val < 512 := (i 1).isLt
  unfold val_main_v150
  refine (pad_rows 2046 2 rfl _ (fun t k => -share (real2 (A := 2048) (B := 2048) x) 2 (t + 2) k) (fun y => ?_) _ (fun _ => bits_zero) _ _ i).trans ?_
  · have hy0 : (y 0).val < 2046 := (y 0).isLt
    have hy1 : (y 1).val < 512 := (y 1).isLt
    simp only [val_main_v149_apply, val_main_v147_apply, share0 hx]
    refine (EReal.coe_neg _).symm.trans (real_eq (V := fun a b => -share (real2 (A := 2048) (B := 2048) x) 2 a b) ?_ ?_)
    · simp <;> omega
    · simp <;> omega
  · by_cases h : (i 0).val < 2046
    · rw [if_pos h]
    · rw [if_neg h, share_past _ _ _ _ (by omega), neg_zero]

include hx in
theorem sum0 (j : S2048x512.Idx) : val_main_v152 (F := Ideal) x j = ((win (real2 (A := 2048) (B := 2048) x) 2 (j 0).val (j 1).val : ℝ) : EReal) := by
  unfold val_main_v152
  refine (suffix _ (fun t k => share (real2 (A := 2048) (B := 2048) x) 2 t k + -share (real2 (A := 2048) (B := 2048) x) 2 (t + 2) k) (fun i => ?_) (fun t e ht => ?_)
    _ (fun _ => bits_zero) _ _ j).trans ?_
  · simp only [val_main_v151_apply, share0 hx, next0 hx, Ideal.addf_def, ← EReal.coe_add]
  · rw [share_past _ _ _ _ ht, share_past _ _ _ _ (by omega), neg_zero, add_zero]
  · rw [tele (fun t => share (real2 (A := 2048) (B := 2048) x) 2 t (j 1).val) 2 2048 (j 0).val fun t ht => share_past _ _ _ _ ht]

include hx in
theorem own0 (i : S2048x4x512.Idx) : val_main_v143 (F := Ideal) x i = (((if (i 1).val = 0 then -(real2 (A := 2048) (B := 2048) x) (i 0).val (i 2).val else 0) : ℝ) : EReal) := by
  unfold val_main_v143
  refine pad_mid 0 3 _ (fun t k => -(real2 (A := 2048) (B := 2048) x) t k) (fun y => ?_) _ (fun _ => bits_zero) _ _ i
  simp only [val_main_v142_apply, val_main_v141_apply, base0 hx]
  exact (EReal.coe_neg _).symm

include hx in
theorem all0 (i : S2048x4x512.Idx) : val_main_v154 (F := Ideal) x i = (((if (i 1).val = 0 then win (real2 (A := 2048) (B := 2048) x) 2 (i 0).val (i 2).val else 0) : ℝ) : EReal) := by
  unfold val_main_v154
  refine pad_mid 0 3 _ (fun t k => win (real2 (A := 2048) (B := 2048) x) 2 t k) (fun y => ?_) _ (fun _ => bits_zero) _ _ i
  simp only [val_main_v153_apply, sum0 hx]

include hx in
theorem total (i : S2048x4x512.Idx) : val_main_v155 (F := Ideal) x i
    = ((win (real2 (A := 2048) (B := 2048) x) (2 ^ ((i 1).val + 1)) (i 0).val (512 * (i 1).val + (i 2).val) - (real2 (A := 2048) (B := 2048) x) (i 0).val (512 * (i 1).val + (i 2).val) : ℝ) : EReal) := by
  have h1 : (i 1).val < 4 := (i 1).isLt
  simp only [val_main_v155_apply, val_main_v144_apply, val_main_v140_apply, val_main_v129_apply, val_main_v125_apply, val_main_v114_apply, val_main_v110_apply, own0 hx, all0 hx, own1 hx, all1 hx, own2 hx, all2 hx, own3 hx, all3 hx, Ideal.addf_def, ← EReal.coe_add]
  generalize (i 1).val = g at h1
  congr 1
  interval_cases g <;> simp <;> ring

include hx in
theorem value (i : S2048x2048.Idx) : val_main_v157 (F := Ideal) x i = PoolBwdIdeal.Gen.G x i := by
  have h0 : (i 0).val < 2048 := (i 0).isLt
  have h1 : (i 1).val < 2048 := (i 1).isLt
  have e : ∀ a a' g g' k k' : ℕ, a = a' → g = g' → k = k' →
      ((win (real2 (A := 2048) (B := 2048) x) (2 ^ (g + 1)) a k - (real2 (A := 2048) (B := 2048) x) a k : ℝ) : EReal) = ((win (real2 (A := 2048) (B := 2048) x) (2 ^ (g' + 1)) a' k' - (real2 (A := 2048) (B := 2048) x) a' k' : ℝ) : EReal) := by
    intro a a' g g' k k' ha hg hk
    rw [ha, hg, hk]
  simp only [val_main_v157_apply, val_main_v156_apply, total hx]
  refine e _ _ _ _ _ _ ?_ ?_ ?_
  · simp <;> omega
  · simp <;> omega
  · simp <;> omega

end Cert.PoolRefIdeal.Read

namespace Cert.PoolBwdRun

open Idealize.ShloMosaic Idealize.ShloMosaic.TcCoe Finite

attribute [local instance] Pre_pool_finite.Gen.facts

instance : Subsingleton Pre_pool_finite.S_.Idx := ⟨fun a b => funext fun k => k.elim0⟩

theorem pre_real {x : FVec Ideal Pre_pool_finite.S2048x2048 .f32} (h : Pre_pool_finite.fn (F := Ideal) x = fun _ => 1#1) :
    ∀ i, x i = ((EReal.toReal (x i) : ℝ) : EReal) := by
  have e := congrFun h (fun k => k.elim0)
  unfold Pre_pool_finite.fn at e
  exact real_of_all x _ (fun _ => rfl) _ _ _ _ e

theorem algebraic : @Cert.algebraic_PoolBwdIdeal_PoolRefIdeal_pre_pool_finite PoolBwdIdeal.Gen.facts PoolRefIdeal.Gen.facts Pre_pool_finite.Gen.facts := by
  intro m g m' g' hp hag
  refine ⟨fun c => fun i : PoolBwdIdeal.S2048x2048.Idx => PoolBwdIdeal.Gen.G (m ((c.tc : Thread _ _).loc PoolBwdIdeal.main_arg0)) i, ?_, ?_⟩
  · refine (θ_run _ _ _).mono (fun r hr c => ?_) (PoolBwdIdeal.Value.run_blocks m g)
    obtain ⟨a0, ha⟩ := hr c
    exact ⟨a0.trans (PoolBwdIdeal.Gen.arr m c (pre_real (hp c))), ha⟩
  · refine (θ_run _ _ _).mono (fun r hr c => ?_) (PoolRefIdeal.Value.run m' g')
    have e0 := hag c
    obtain ⟨a0, ha⟩ := hr c
    refine ⟨a0.trans ?_, ha⟩
    rw [PoolRefIdeal.Read.val_main_v157_eq]
    exact (congrArg (PoolRefIdeal.Read.val_main_v157 (F := Ideal)) e0).trans (funext fun i => PoolRefIdeal.Read.value (pre_real (hp c)) i)

end Cert.PoolBwdRun

end
-- ==== Proof.DownDwRun.lean ====
/- The weight gradient of the MLP's second product: kernel and reference end with the same array. -/
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.DownDwIdeal.Gen

open DownDwIdeal

/-- The squared positive part of the hidden layer's input. -/
def sq (p : S2048x8192.Idx → EReal) (i : S2048x8192.Idx) : EReal := max (p i) 0 * max (p i) 0

/-- The sum over the sequence of the squared positive part of the hidden layer's input times the cotangent. -/
def G (dy : S2048x2048.Idx → EReal) (p : S2048x8192.Idx → EReal) (i : S4x1x2048x2048.Idx) : EReal :=
  ∑ s : Fin 2048, sq p (ix2 s (⟨2048 * (i 0).val + (i 2).val, by have : (i 0).val < 4 := (i 0).isLt; have : (i 2).val < 2048 := (i 2).isLt; omega⟩ : Fin 8192))
    * dy (ix2 s (⟨(i 3).val, (i 3).isLt⟩ : Fin 2048))

theorem pay (x0 : Vec Ideal S2048x1024 .bf16) (x1 : Vec Ideal S2048x2048 .bf16) (y : S1x1x1024x2048.Idx) :
    k0_pay1 x0 x1 y = ∑ s : Fin 2048, x0 (ix2 s (⟨(y 2).val, (y 2).isLt⟩ : Fin 1024)) * x1 (ix2 s (⟨(y 3).val, (y 3).isLt⟩ : Fin 2048)) := by
  have h0 : (y 0).val < 1 := (y 0).isLt
  have h1 : (y 1).val < 1 := (y 1).isLt
  pointwise [k0_pay1]

theorem idx : ∀ t : Fin cfg0.N, win0_0.index t = ![0, t.val] ∧ win0_1.index t = ![0, 0] ∧ win0_2.index t = ![t.val / 2, 0, t.val % 2, 0] :=
  (by decide +kernel : ∀ t : Fin grid0.N, _)

variable (m : (ℓ : Loc nD τ sig) → Buf (Elt Ideal) ℓ) (c : Dev nD)

theorem blk0 (t : Fin cfg0.N) (i : S2048x1024.Idx) : iblk m c 0 t i = sq (m ((c : Thread nD τ).loc main_arg1))
    (ix2 (⟨(i 0).val, (i 0).isLt⟩ : Fin 2048) (⟨1024 * t.val + (i 1).val, by have : (i 1).val < 1024 := (i 1).isLt; have : t.val < 8 := t.isLt; omega⟩ : Fin 8192)) := by
  unfold iblk
  entry_read
  generalize hW : truncf (F := Ideal) FTy.bf16 _ _ = W
  have h : View.read (Elt Ideal) ((cfg0.win 0).blk t).view W i = W (ix2 (⟨(i 0).val, (i 0).isLt⟩ : Fin 2048)
      (⟨1024 * t.val + (i 1).val, by have : (i 1).val < 1024 := (i 1).isLt; have : t.val < 8 := t.isLt; omega⟩ : Fin 8192)) := by
    show W _ = W _
    blk_ext [idx t]
  rw [h, ← hW]
  pointwise [sq]

theorem blk1 (t : Fin cfg0.N) (i : S2048x2048.Idx) : iblk m c 1 t i = m ((c : Thread nD τ).loc main_arg0) i := by
  blk_point [iblk, V, idx t]

theorem arr : (dats m 0 c).arrAt 2 cfg0.N = fun i : S4x1x2048x2048.Idx =>
    G (m ((c : Thread nD τ).loc main_arg0)) (m ((c : Thread nD τ).loc main_arg1)) i := by
  refine (dats m 0 c).arrAt_eq_of_covers 2 _ (by decide +kernel) fun t hf y => ?_
  have h0 : (y 0).val < 1 := (y 0).isLt
  have h1 : (y 1).val < 1 := (y 1).isLt
  have h2 : (y 2).val < 1024 := (y 2).isLt
  have h3 : (y 3).val < 2048 := (y 3).isLt
  have ht : t.val < 8 := t.isLt
  blk_simp
  rw [after0_2]
  have e : ∀ W : S4x1x2048x2048.Idx → EReal, W ((win0_2.blk t).view.emb y) = W (ix4 (⟨t.val / 2, by omega⟩ : Fin 4) (0 : Fin 1)
      (⟨1024 * (t.val % 2) + (y 2).val, by omega⟩ : Fin 2048) (⟨(y 3).val, h3⟩ : Fin 2048)) := fun W => by
    blk_ext [idx t]
  rw [e (G _ _)]
  unfold out0_2
  rw [View.canon_unit_zero (by decide), View.ld_unit_zero (by decide), View.ld_unit_zero (by decide)]
  refine (pay _ _ y).trans ?_
  simp only [blk0, blk1, G]
  refine Finset.sum_congr rfl fun s _ => ?_
  have e2 : (⟨2048 * (t.val / 2) + (1024 * (t.val % 2) + (y 2).val), by omega⟩ : Fin 8192) = ⟨1024 * t.val + (y 2).val, by omega⟩ := Fin.ext (by
    show 2048 * (t.val / 2) + (1024 * (t.val % 2) + (y 2).val) = 1024 * t.val + (y 2).val
    omega)
  exact congr_arg (fun j : Fin 8192 => sq _ (ix2 s j) * _) e2.symm

end Cert.DownDwIdeal.Gen

namespace Cert.DownDwRefIdeal.Read

open DownDwRefIdeal DownDwRefIdeal.Gen Idealize.ShloMosaic Idealize.ShloMosaic.TcCoe Idealize.ShloMosaic.StableHlo

theorem value (x0 : S2048x2048.Idx → EReal) (x1 : S2048x8192.Idx → EReal) (i : S4x1x2048x2048.Idx) :
    val_main_v8 (F := Ideal) x0 x1 i = DownDwIdeal.Gen.G x0 x1 i := by
  have h0 : (i 0).val < 4 := (i 0).isLt
  have h1 : (i 1).val < 1 := (i 1).isLt
  have h2 : (i 2).val < 2048 := (i 2).isLt
  have h3 : (i 3).val < 2048 := (i 3).isLt
  rw [val_main_v8_apply, val_main_v7_apply, val_main_v6_apply, val_main_v5_apply]
  unfold DownDwIdeal.Gen.G
  refine Finset.sum_congr rfl fun s _ => (mul_comm _ _).trans (congr_arg₂ (· * ·) ?_ ?_)
  · rw [val_main_v2_apply, val_main_v1_apply, val_main_call0_v0_apply, val_main_call0_cst_apply]
    have e : ridx_main_v5 (idx_main_v6 (idx_main_v7 i)) s = ix2 s (⟨2048 * (i 0).val + (i 2).val, by omega⟩ : Fin 8192) := funext fun a => Fin.ext (by
      match a with
      | ⟨0, _⟩ => rfl
      | ⟨1, _⟩ => simp <;> omega)
    rw [e]
    simp [DownDwIdeal.Gen.sq]
  · rw [val_main_v4_apply]
    show x0 _ = x0 _
    exact congr_arg x0 (funext fun a => Fin.ext (by
      match a with
      | ⟨0, _⟩ => rfl
      | ⟨1, _⟩ => simp <;> omega))

end Cert.DownDwRefIdeal.Read

namespace Cert.DownDwRun

open Idealize.ShloMosaic Idealize.ShloMosaic.TcCoe

theorem algebraic : @Cert.algebraic_DownDwIdeal_DownDwRefIdeal DownDwIdeal.Gen.facts DownDwRefIdeal.Gen.facts := by
  intro m g m' g' _ hag
  refine ⟨fun c => fun i : DownDwIdeal.S4x1x2048x2048.Idx => DownDwIdeal.Gen.G (m ((c.tc : Thread _ _).loc DownDwIdeal.main_arg0))
    (m ((c.tc : Thread _ _).loc DownDwIdeal.main_arg1)) i, ?_, ?_⟩
  · refine (θ_run _ _ _).mono (fun r hr c => ?_) (DownDwIdeal.Value.run_blocks m g)
    exact ⟨(hr c).1.trans (DownDwIdeal.Gen.arr m c), (hr c).2⟩
  · refine (θ_run _ _ _).mono (fun r hr c => ?_) (DownDwRefIdeal.Value.run m' g')
    obtain ⟨e0, e1⟩ := hag c
    refine ⟨(hr c).1.trans ?_, (hr c).2⟩
    rw [DownDwRefIdeal.Read.val_main_v8_eq, e0, e1]
    exact funext fun i => DownDwRefIdeal.Read.value _ _ i

end Cert.DownDwRun

end
-- ==== Proof.DownDxRun.lean ====
/- The gradient of the hidden layer through the MLP's second product: kernel and reference end with the same array. -/
module

public import proofs.«01_k».proof.Defs
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pointwise
public import Idealize.ShloMosaic.Lib.Pipeline.ValueKit
public import Idealize.ShloMosaic.Lib.Quiescent

@[expose] public section

set_option maxRecDepth 16384

open Idealize.ShloMosaic Idealize.ShloMosaic.TcCoe Idealize.SL.Sem

noncomputable section

namespace Cert.DownDxIdeal.Gen

open DownDxIdeal

/-- The product with the transposed weight, times twice the positive part of the hidden layer's input. -/
def G (dy : S2048x2048.Idx → EReal) (w : S4x1x2048x2048.Idx → EReal) (p : S2048x8192.Idx → EReal) (i : S2048x8192.Idx) : EReal :=
  (∑ k : Fin 2048, dy (ix2 (⟨(i 0).val, (i 0).isLt⟩ : Fin 2048) k)
      * w (ix4 (⟨(i 1).val / 2048, by have : (i 1).val < 8192 := (i 1).isLt; omega⟩ : Fin 4) (0 : Fin 1) (⟨(i 1).val % 2048, by omega⟩ : Fin 2048) k))
    * (2 * max (p i) 0)

theorem pay (x0 : Vec Ideal S2048x2048 .bf16) (x1 : Vec Ideal S1x1x512x2048 .bf16) (x2 : Vec Ideal S2048x512 .bf16) (y : S2048x512.Idx) :
    k0_pay1 (F := Ideal) x0 x1 x2 y
      = (∑ k : Fin 2048, x0 (ix2 (y 0) k) * x1 (ix4 (0 : Fin 1) (0 : Fin 1) (y 1) k)) * (2 * x2 y) := by
  pointwise [k0_pay1]
  rw [show Ideal.ofBits FTy.bf16 16384#16 = (2 : EReal) by
    simp [Ideal.ofBits, Ideal.ieee]
    norm_num
    rw [← EReal.coe_mul]
    norm_num
    rfl]

theorem idx : ∀ t : Fin cfg0.N, win0_0.index t = ![0, 0] ∧ win0_1.index t = ![t.val / 4, 0, t.val % 4, 0] ∧ win0_2.index t = ![0, t.val]
    ∧ win0_3.index t = ![0, t.val] :=
  (by decide +kernel : ∀ t : Fin grid0.N, _)

variable (m : (ℓ : Loc nD τ sig) → Buf (Elt Ideal) ℓ) (c : Dev nD)

theorem blk0 (t : Fin cfg0.N) (i : S2048x2048.Idx) : iblk m c 0 t i = m ((c : Thread nD τ).loc main_arg0) i := by
  blk_point [iblk, V, idx t]

theorem blk1 (t : Fin cfg0.N) (i : S1x1x512x2048.Idx) : iblk m c 1 t i = m ((c : Thread nD τ).loc main_arg1)
    (ix4 (⟨t.val / 4, by have : t.val < 16 := t.isLt; omega⟩ : Fin 4) (0 : Fin 1)
      (⟨512 * (t.val % 4) + (i 2).val, by have : (i 2).val < 512 := (i 2).isLt; omega⟩ : Fin 2048) (⟨(i 3).val, (i 3).isLt⟩ : Fin 2048)) := by
  have h0 : (i 0).val < 1 := (i 0).isLt
  have h1 : (i 1).val < 1 := (i 1).isLt
  blk_point [iblk, V, idx t]

theorem blk2 (t : Fin cfg0.N) (i : S2048x512.Idx) : iblk m c 2 t i = (max ((m ((c : Thread nD τ).loc main_arg2) : S2048x8192.Idx → EReal)
    (ix2 (⟨(i 0).val, (i 0).isLt⟩ : Fin 2048) (⟨512 * t.val + (i 1).val, by have : (i 1).val < 512 := (i 1).isLt; have : t.val < 16 := t.isLt; omega⟩ : Fin 8192))) 0 : EReal) := by
  unfold iblk
  entry_read
  generalize hW : truncf (F := Ideal) FTy.bf16 _ _ = W
  have h : View.read (Elt Ideal) ((cfg0.win 2).blk t).view W i = W (ix2 (⟨(i 0).val, (i 0).isLt⟩ : Fin 2048)
      (⟨512 * t.val + (i 1).val, by have : (i 1).val < 512 := (i 1).isLt; have : t.val < 16 := t.isLt; omega⟩ : Fin 8192)) := by
    show W _ = W _
    blk_ext [idx t]
  rw [h, ← hW]
  pointwise

theorem arr : (dats m 0 c).arrAt 3 cfg0.N = fun i : S2048x8192.Idx =>
    G (m ((c : Thread nD τ).loc main_arg0)) (m ((c : Thread nD τ).loc main_arg1)) (m ((c : Thread nD τ).loc main_arg2)) i := by
  refine (dats m 0 c).arrAt_eq_of_covers 3 _ (by decide +kernel) fun t hf y => ?_
  have h0 : (y 0).val < 2048 := (y 0).isLt
  have h1 : (y 1).val < 512 := (y 1).isLt
  have ht : t.val < 16 := t.isLt
  blk_simp
  rw [after0_3]
  have e : ∀ W : S2048x8192.Idx → EReal, W ((win0_3.blk t).view.emb y) = W (ix2 (⟨(y 0).val, h0⟩ : Fin 2048) (⟨512 * t.val + (y 1).val, by omega⟩ : Fin 8192)) := fun W => by
    blk_ext [idx t]
  rw [e (G _ _ _)]
  unfold out0_3
  rw [View.canon_unit_zero (by decide), View.ld_unit_zero (by decide), View.ld_unit_zero (by decide), View.ld_unit_zero (by decide)]
  refine (pay _ _ _ y).trans ?_
  simp only [blk0, blk1, blk2, G]
  refine congr_arg (· * _) (Finset.sum_congr rfl fun k _ => ?_)
  refine congr_arg₂ (· * ·) rfl (congr_arg _ ?_)
  refine congr_arg₂ (fun a b => ix4 a (0 : Fin 1) b k) (Fin.ext ?_) (Fin.ext ?_)
  · show t.val / 4 = (512 * t.val + (y 1).val) / 2048
    omega
  · show 512 * (t.val % 4) + (y 1).val = (512 * t.val + (y 1).val) % 2048
    omega

end Cert.DownDxIdeal.Gen

namespace Cert.DownDxRefIdeal.Read

open DownDxRefIdeal DownDxRefIdeal.Gen Idealize.ShloMosaic Idealize.ShloMosaic.TcCoe Idealize.ShloMosaic.StableHlo

theorem value (x0 : S2048x2048.Idx → EReal) (x1 : S4x1x2048x2048.Idx → EReal) (x2 : S2048x8192.Idx → EReal) (i : S2048x8192.Idx) :
    val_main_v16 (F := Ideal) x0 x1 x2 i = DownDxIdeal.Gen.G x0 x1 x2 i := by
  have hw : ∀ k : Fin 2048, val_main_v7 (F := Ideal) x1 (ridx_main_v10 i k)
      = x1 (ix4 (⟨(i 1).val / 2048, by have : (i 1).val < 8192 := (i 1).isLt; omega⟩ : Fin 4) (0 : Fin 1) (⟨(i 1).val % 2048, Nat.mod_lt _ (by norm_num)⟩ : Fin 2048) k) := fun k => by
    have hk : k.val < 2048 := k.isLt
    have h1 : (i 1).val < 8192 := (i 1).isLt
    rw [val_main_v7_apply, val_main_v6_apply, val_main_v5_apply]
    show x1 _ = x1 _
    refine congr_arg x1 (funext fun a => Fin.ext ?_)
    match a with
    | ⟨0, _⟩ => simp <;> omega
    | ⟨1, _⟩ => rfl
    | ⟨2, _⟩ => simp <;> omega
    | ⟨3, _⟩ => simp <;> omega
  have hd : val_main_v10 (F := Ideal) x0 x1 i = ∑ k : Fin 2048, x0 (ix2 (⟨(i 0).val, (i 0).isLt⟩ : Fin 2048) k) *
      x1 (ix4 (⟨(i 1).val / 2048, by have : (i 1).val < 8192 := (i 1).isLt; omega⟩ : Fin 4) (0 : Fin 1) (⟨(i 1).val % 2048, Nat.mod_lt _ (by norm_num)⟩ : Fin 2048) k) := by
    rw [val_main_v10_apply]
    refine Finset.sum_congr rfl fun k _ => congr_arg₂ (· * ·) ?_ (hw k)
    rw [val_main_v9_apply]
    show x0 _ = x0 _
    exact congr_arg x0 (funext fun a => by match a with | ⟨0, _⟩ => rfl | ⟨1, _⟩ => rfl)
  rw [val_main_v16_apply, val_main_v15_apply, val_main_v13_apply, val_main_v11_apply, val_main_v12_apply, hd, val_main_v0_apply, val_main_v2_apply,
    val_main_v14_apply, val_main_v1_apply, val_main_call0_v0_apply, val_main_cst_1_apply, val_main_cst_apply, val_main_call0_cst_apply]
  unfold DownDxIdeal.Gen.G
  generalize (∑ k : Fin 2048, x0 (ix2 (⟨(i 0).val, (i 0).isLt⟩ : Fin 2048) k) *
      x1 (ix4 (⟨(i 1).val / 2048, by have : (i 1).val < 8192 := (i 1).isLt; omega⟩ : Fin 4) (0 : Fin 1) (⟨(i 1).val % 2048, Nat.mod_lt _ (by norm_num)⟩ : Fin 2048) k)) = s
  generalize x2 i = p
  simp [Scalar.select]
  by_cases h : 0 < p
  · rw [if_pos (by show Ideal.cmp .ogt p 0 = 1#1; simp [Ideal.cmp, h]), max_eq_left h.le, show (2 : EReal) = 1 + 1 from one_add_one_eq_two.symm,
      EReal.right_distrib_of_nonneg zero_le_one zero_le_one, one_mul, EReal.left_distrib_of_nonneg h.le h.le, mul_comm p s]
  · rw [if_neg (by show ¬ Ideal.cmp .ogt p 0 = 1#1; simp [Ideal.cmp, h]), max_eq_right (not_lt.mp h)]
    simp

end Cert.DownDxRefIdeal.Read

namespace Cert.DownDxRun

open Idealize.ShloMosaic Idealize.ShloMosaic.TcCoe

theorem algebraic : @Cert.algebraic_DownDxIdeal_DownDxRefIdeal DownDxIdeal.Gen.facts DownDxRefIdeal.Gen.facts := by
  intro m g m' g' _ hag
  refine ⟨fun c => fun i : DownDxIdeal.S2048x8192.Idx => DownDxIdeal.Gen.G (m ((c.tc : Thread _ _).loc DownDxIdeal.main_arg0))
    (m ((c.tc : Thread _ _).loc DownDxIdeal.main_arg1)) (m ((c.tc : Thread _ _).loc DownDxIdeal.main_arg2)) i, ?_, ?_⟩
  · refine (θ_run _ _ _).mono (fun r hr c => ?_) (DownDxIdeal.Value.run_blocks m g)
    exact ⟨(hr c).1.trans (DownDxIdeal.Gen.arr m c), (hr c).2⟩
  · refine (θ_run _ _ _).mono (fun r hr c => ?_) (DownDxRefIdeal.Value.run m' g')
    obtain ⟨e0, e1, e2⟩ := hag c
    refine ⟨(hr c).1.trans ?_, (hr c).2⟩
    rw [DownDxRefIdeal.Read.val_main_v16_eq, e0, e1, e2]
    exact funext fun i => DownDxRefIdeal.Read.value _ _ _ i

end Cert.DownDxRun

end
-- ==== Proof.lean ====
/- The certificate: the frames, the idealizations and the values, put together. -/
module

public import proofs.«01_k».proof.Defs
public import proofs.«01_k».proof.Proof.Gen.GateBwd.Frame
public import proofs.«01_k».proof.Proof.Gen.GateBwdIdeal.Frame
public import proofs.«01_k».proof.Proof.Gen.PoolBwd.Frame
public import proofs.«01_k».proof.Proof.Gen.PoolBwdIdeal.Frame
public import proofs.«01_k».proof.Proof.Frames
public import proofs.«01_k».proof.Proof.GateRun
public import proofs.«01_k».proof.Proof.UpDwRun
public import proofs.«01_k».proof.Proof.UpDxRun
public import proofs.«01_k».proof.Proof.Down1Run
public import proofs.«01_k».proof.Proof.Down0Run
public import proofs.«01_k».proof.Proof.GrpRun
public import proofs.«01_k».proof.Proof.BInRun
public import proofs.«01_k».proof.Proof.MixOutRun
public import proofs.«01_k».proof.Proof.AInRun
public import proofs.«01_k».proof.Proof.UpRun
public import proofs.«01_k».proof.Proof.ScaleBwdRun
public import proofs.«01_k».proof.Proof.GrpDwRun
public import proofs.«01_k».proof.Proof.GrpDxRun
public import proofs.«01_k».proof.Proof.AInDwRun
public import proofs.«01_k».proof.Proof.AInDxRun
public import proofs.«01_k».proof.Proof.MmBwdRun
public import proofs.«01_k».proof.Proof.RmsFwdRun
public import proofs.«01_k».proof.Proof.AdamInRun
public import proofs.«01_k».proof.Proof.AdamMlpRun
public import proofs.«01_k».proof.Proof.AdamMlp1Run
public import proofs.«01_k».proof.Proof.AdamPackRun
public import proofs.«01_k».proof.Proof.SumUnpackRun
public import proofs.«01_k».proof.Proof.AdamGrpRun
public import proofs.«01_k».proof.Proof.AdamOutRun
public import proofs.«01_k».proof.Proof.GateFwdRun
public import proofs.«01_k».proof.Proof.RmsBwdRun
public import proofs.«01_k».proof.Proof.DownLossRun
public import proofs.«01_k».proof.Proof.PoolFwdRun
public import proofs.«01_k».proof.Proof.PoolBwdRun
public import proofs.«01_k».proof.Proof.DownDwRun
public import proofs.«01_k».proof.Proof.DownDxRun

@[expose] public section

noncomputable section

namespace Cert.Proof

open Idealize.ShloMosaic Idealize.SL.Sem

theorem claim : Cert.Claim :=
  ⟨Cert.GateBwd.Gen.facts, Cert.GateBwdIdeal.Gen.facts, Cert.GateRefIdeal.Gen.facts, Cert.PoolBwd.Gen.facts, Cert.PoolBwdIdeal.Gen.facts,
    Cert.PoolRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.MmBwd.Gen.facts, Cert.MmBwdIdeal.Gen.facts, Cert.MmBwdRefIdeal.Gen.facts,
    Cert.AInDx.Gen.facts, Cert.AInDxIdeal.Gen.facts, Cert.AInDxRefIdeal.Gen.facts,
    Cert.AInDw.Gen.facts, Cert.AInDwIdeal.Gen.facts, Cert.AInDwRefIdeal.Gen.facts,
    Cert.GrpDx.Gen.facts, Cert.GrpDxIdeal.Gen.facts, Cert.GrpDxRefIdeal.Gen.facts,
    Cert.GrpDw.Gen.facts, Cert.GrpDwIdeal.Gen.facts, Cert.GrpDwRefIdeal.Gen.facts,
    Cert.ScaleBwd.Gen.facts, Cert.ScaleBwdIdeal.Gen.facts, Cert.ScaleBwdRefIdeal.Gen.facts,
    Cert.Up.Gen.facts, Cert.UpIdeal.Gen.facts, Cert.UpRefIdeal.Gen.facts,
    Cert.Down0.Gen.facts, Cert.Down0Ideal.Gen.facts, Cert.Down0RefIdeal.Gen.facts,
    Cert.Down1.Gen.facts, Cert.Down1Ideal.Gen.facts, Cert.Down1RefIdeal.Gen.facts,
    Cert.AIn.Gen.facts, Cert.AInIdeal.Gen.facts, Cert.AInRefIdeal.Gen.facts,
    Cert.MixOut.Gen.facts, Cert.MixOutIdeal.Gen.facts, Cert.MixOutRefIdeal.Gen.facts,
    Cert.BIn.Gen.facts, Cert.BInIdeal.Gen.facts, Cert.BInRefIdeal.Gen.facts,
    Cert.Grp.Gen.facts, Cert.GrpIdeal.Gen.facts, Cert.GrpRefIdeal.Gen.facts,
    Cert.RmsFwd.Gen.facts, Cert.RmsFwdIdeal.Gen.facts, Cert.RmsFwdRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamGrp.Gen.facts, Cert.AdamGrpIdeal.Gen.facts, Cert.AdamGrpRefIdeal.Gen.facts,
    Cert.AdamMlp.Gen.facts, Cert.AdamMlpIdeal.Gen.facts, Cert.AdamMlpRefIdeal.Gen.facts,
    Cert.AdamMlp1.Gen.facts, Cert.AdamMlp1Ideal.Gen.facts, Cert.AdamMlp1RefIdeal.Gen.facts,
    Cert.AdamPack.Gen.facts, Cert.AdamPackIdeal.Gen.facts, Cert.AdamPackRefIdeal.Gen.facts,
    Cert.SumUnpack.Gen.facts, Cert.SumUnpackIdeal.Gen.facts, Cert.SumUnpackRefIdeal.Gen.facts,
    Cert.GateFwd.Gen.facts, Cert.GateFwdIdeal.Gen.facts, Cert.GateFwdRefIdeal.Gen.facts,
    Cert.RmsBwd.Gen.facts, Cert.RmsBwdIdeal.Gen.facts, Cert.RmsBwdRefIdeal.Gen.facts,
    Cert.DownLoss.Gen.facts, Cert.DownLossIdeal.Gen.facts, Cert.DownLossRefIdeal.Gen.facts,
    Cert.PoolFwd.Gen.facts, Cert.PoolFwdIdeal.Gen.facts, Cert.PoolFwdRefIdeal.Gen.facts,
    Cert.Pre_gate_finite.Gen.facts, Cert.Pre_pool_finite.Gen.facts, Cert.Pre_norm_finite.Gen.facts, Cert.Pre_loss_finite.Gen.facts,
    fun m ρ _ => Cert.GateBwd.Gen.frame m ρ,
    fun m ρ _ => Cert.GateBwdIdeal.Gen.frame m ρ,
    fun m ρ _ => Cert.GateBwdIdeal.Gen.frame m ρ,
    Cert.Frames.gateRef,
    fun m ρ _ => Cert.Frames.gateRef m ρ trivial,
    fun m ρ _ => Cert.PoolBwd.Gen.frame m ρ,
    fun m ρ _ => Cert.PoolBwdIdeal.Gen.frame m ρ,
    fun m ρ _ => Cert.PoolBwdIdeal.Gen.frame m ρ,
    Cert.Frames.poolRef,
    fun m ρ _ => Cert.Frames.poolRef m ρ trivial,
    fun m ρ _ => Cert.DownDx.Gen.frame m ρ, fun m ρ _ => Cert.DownDxIdeal.Gen.frame m ρ, Cert.Frames.downDxRef,
    fun m ρ _ => Cert.DownDw.Gen.frame m ρ, fun m ρ _ => Cert.DownDwIdeal.Gen.frame m ρ, Cert.Frames.downDwRef,
    fun m ρ _ => Cert.UpDx.Gen.frame m ρ, fun m ρ _ => Cert.UpDxIdeal.Gen.frame m ρ, Cert.Frames.upDxRef,
    fun m ρ _ => Cert.UpDw.Gen.frame m ρ, fun m ρ _ => Cert.UpDwIdeal.Gen.frame m ρ, Cert.Frames.upDwRef,
    fun m ρ _ => Cert.MmBwd.Gen.frame m ρ, fun m ρ _ => Cert.MmBwdIdeal.Gen.frame m ρ, Cert.Frames.mmBwdRef,
    fun m ρ _ => Cert.AInDx.Gen.frame m ρ, fun m ρ _ => Cert.AInDxIdeal.Gen.frame m ρ, Cert.Frames.aInDxRef,
    fun m ρ _ => Cert.AInDw.Gen.frame m ρ, fun m ρ _ => Cert.AInDwIdeal.Gen.frame m ρ, Cert.Frames.aInDwRef,
    fun m ρ _ => Cert.GrpDx.Gen.frame m ρ, fun m ρ _ => Cert.GrpDxIdeal.Gen.frame m ρ, Cert.Frames.grpDxRef,
    fun m ρ _ => Cert.GrpDw.Gen.frame m ρ, fun m ρ _ => Cert.GrpDwIdeal.Gen.frame m ρ, Cert.Frames.grpDwRef,
    fun m ρ _ => Cert.ScaleBwd.Gen.frame m ρ, fun m ρ _ => Cert.ScaleBwdIdeal.Gen.frame m ρ, Cert.Frames.scaleBwdRef,
    fun m ρ _ => Cert.Up.Gen.frame m ρ, fun m ρ _ => Cert.UpIdeal.Gen.frame m ρ, Cert.Frames.upRef,
    fun m ρ _ => Cert.Down0.Gen.frame m ρ, fun m ρ _ => Cert.Down0Ideal.Gen.frame m ρ, Cert.Frames.down0Ref,
    fun m ρ _ => Cert.Down1.Gen.frame m ρ, fun m ρ _ => Cert.Down1Ideal.Gen.frame m ρ, Cert.Frames.down1Ref,
    fun m ρ _ => Cert.AIn.Gen.frame m ρ, fun m ρ _ => Cert.AInIdeal.Gen.frame m ρ, Cert.Frames.aInRef,
    fun m ρ _ => Cert.MixOut.Gen.frame m ρ, fun m ρ _ => Cert.MixOutIdeal.Gen.frame m ρ, Cert.Frames.mixOutRef,
    fun m ρ _ => Cert.BIn.Gen.frame m ρ, fun m ρ _ => Cert.BInIdeal.Gen.frame m ρ, Cert.Frames.bInRef,
    fun m ρ _ => Cert.Grp.Gen.frame m ρ, fun m ρ _ => Cert.GrpIdeal.Gen.frame m ρ, Cert.Frames.grpRef,
    fun m ρ _ => Cert.RmsFwd.Gen.frame m ρ, fun m ρ _ => Cert.RmsFwdIdeal.Gen.frame m ρ, Cert.Frames.rmsFwdRef,
    fun m ρ _ => Cert.AdamIn.Gen.frame m ρ, fun m ρ _ => Cert.AdamInIdeal.Gen.frame m ρ, Cert.Frames.adamInRef,
    fun m ρ _ => Cert.AdamOut.Gen.frame m ρ, fun m ρ _ => Cert.AdamOutIdeal.Gen.frame m ρ, Cert.Frames.adamOutRef,
    fun m ρ _ => Cert.AdamGrp.Gen.frame m ρ, fun m ρ _ => Cert.AdamGrpIdeal.Gen.frame m ρ, Cert.Frames.adamGrpRef,
    fun m ρ _ => Cert.AdamMlp.Gen.frame m ρ, fun m ρ _ => Cert.AdamMlpIdeal.Gen.frame m ρ, Cert.Frames.adamMlpRef,
    fun m ρ _ => Cert.AdamMlp1.Gen.frame m ρ, fun m ρ _ => Cert.AdamMlp1Ideal.Gen.frame m ρ, Cert.Frames.adamMlp1Ref,
    fun m ρ _ => Cert.AdamPack.Gen.frame m ρ, fun m ρ _ => Cert.AdamPackIdeal.Gen.frame m ρ, Cert.Frames.adamPackRef,
    fun m ρ _ => Cert.SumUnpack.Gen.frame m ρ, fun m ρ _ => Cert.SumUnpackIdeal.Gen.frame m ρ, Cert.Frames.sumPackRef,
    fun m ρ _ => Cert.GateFwd.Gen.frame m ρ, fun m ρ _ => Cert.GateFwdIdeal.Gen.frame m ρ, Cert.Frames.gateFwdRef,
    fun m ρ _ => Cert.RmsBwd.Gen.frame m ρ, fun m ρ _ => Cert.RmsBwdIdeal.Gen.frame m ρ, fun m ρ _ => Cert.RmsBwdIdeal.Gen.frame m ρ,
    Cert.Frames.rmsBwdRef, fun m ρ _ => Cert.Frames.rmsBwdRef m ρ trivial,
    fun m ρ _ => Cert.DownLoss.Gen.frame m ρ, fun m ρ _ => Cert.DownLossIdeal.Gen.frame m ρ, fun m ρ _ => Cert.DownLossIdeal.Gen.frame m ρ,
    Cert.Frames.downLossRef, fun m ρ _ => Cert.Frames.downLossRef m ρ trivial,
    fun m ρ _ => Cert.PoolFwd.Gen.frame m ρ, fun m ρ _ => Cert.PoolFwdIdeal.Gen.frame m ρ, fun m ρ _ => Cert.PoolFwdIdeal.Gen.frame m ρ,
    Cert.Frames.poolFwdRef, fun m ρ _ => Cert.Frames.poolFwdRef m ρ trivial,
    ⟨IdealRules.named_const.statement Cert.GateBwdIdeal.κ "sqrt_half" .f32 0x3F3504F3#32 (((Real.sqrt 2)⁻¹ : ℝ) : EReal) rfl,
      IdealRules.named_const.statement Cert.GateBwdIdeal.κ "inv_sqrt_two_pi" .f32 0x3ECC422A#32 (((Real.sqrt (2 * Real.pi))⁻¹ : ℝ) : EReal) rfl⟩,
    Cert.GateRun.algebraic,
    trivial, Cert.PoolBwdRun.algebraic,
    trivial, Cert.DownDxRun.algebraic,
    trivial, Cert.DownDwRun.algebraic,
    trivial, Cert.UpDxRun.algebraic,
    trivial, Cert.UpDwRun.algebraic,
    trivial, Cert.MmBwdRun.algebraic,
    trivial, Cert.AInDxRun.algebraic,
    trivial, Cert.AInDwRun.algebraic,
    trivial, Cert.GrpDxRun.algebraic,
    trivial, Cert.GrpDwRun.algebraic,
    trivial, Cert.ScaleBwdRun.algebraic,
    trivial, Cert.UpRun.algebraic,
    trivial, Cert.Down0Run.algebraic,
    trivial, Cert.Down1Run.algebraic,
    trivial, Cert.AInRun.algebraic,
    trivial, Cert.MixOutRun.algebraic,
    trivial, Cert.BInRun.algebraic,
    trivial, Cert.GrpRun.algebraic,
    trivial, Cert.RmsFwdRun.algebraic,
    trivial, Cert.AdamInRun.algebraic,
    trivial, Cert.AdamOutRun.algebraic,
    trivial, Cert.AdamGrpRun.algebraic,
    trivial, Cert.AdamMlpRun.algebraic,
    trivial, Cert.AdamMlp1Run.algebraic,
    trivial, Cert.AdamPackRun.algebraic,
    trivial, Cert.SumUnpackRun.algebraic,
    IdealRules.named_const.statement Cert.GateFwdIdeal.κ "sqrt_half" .f32 0x3F3504F3#32 (((Real.sqrt 2)⁻¹ : ℝ) : EReal) rfl, Cert.GateFwdRun.algebraic,
    trivial, Cert.RmsBwdRun.algebraic,
    trivial, Cert.DownLossRun.algebraic,
    trivial, Cert.PoolFwdRun.algebraic⟩

end Cert.Proof

end
